-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S64x256 : Shape := ⟨2, ![64, 256]⟩
abbrev S100000x128 : Shape := ⟨2, ![100000, 128]⟩
abbrev S128x384 : Shape := ⟨2, ![128, 384]⟩
abbrev S2x384 : Shape := ⟨2, ![2, 384]⟩
abbrev S128x100000 : Shape := ⟨2, ![128, 100000]⟩
abbrev S100000 : Shape := ⟨1, ![100000]⟩
abbrev S_ : Shape := ⟨0, ![]⟩

class Facts : Prop where
  bcast_S_S64x256 : S_.BroadcastsInDim S64x256 (![] : Fin 0 → Fin S64x256.rank)
  reducesTo_S64x256_S_d0_1 : S64x256.ReducesTo [0, 1] S_
  h_S_ : 0 < S_.numel

variable [Facts]

def fn {F : FTy → Type} [FloatOps F] (main_arg0 : IVec S64x256 32) (main_arg1 : IVec S64x256 32) (main_arg2 : FVec F S100000x128 .f32) (main_arg3 : FVec F S128x384 .f32) (main_arg4 : FVec F S128x384 .f32) (main_arg5 : FVec F S2x384 .f32) (main_arg6 : FVec F S128x384 .f32) (main_arg7 : FVec F S128x384 .f32) (main_arg8 : FVec F S2x384 .f32) (main_arg9 : FVec F S128x384 .f32) (main_arg10 : FVec F S128x384 .f32) (main_arg11 : FVec F S2x384 .f32) (main_arg12 : FVec F S128x384 .f32) (main_arg13 : FVec F S128x384 .f32) (main_arg14 : FVec F S2x384 .f32) (main_arg15 : FVec F S128x100000 .f32) (main_arg16 : FVec F S100000 .f32) : IVec S_ 1 :=
  let main_c : IVec S_ 32 := constantI S_ 32 0#32
  let main_v0 : IVec S64x256 32 := broadcastInDim S64x256 ![] bcast_S_S64x256 main_c
  let main_v1 : IVec S64x256 1 := cmpi .sge main_arg0 main_v0
  let main_c_0 : IVec S_ 32 := constantI S_ 32 100000#32
  let main_v2 : IVec S64x256 32 := broadcastInDim S64x256 ![] bcast_S_S64x256 main_c_0
  let main_v3 : IVec S64x256 1 := cmpi .slt main_arg0 main_v2
  let main_v4 : IVec S64x256 1 := andi main_v1 main_v3
  let main_c_1 : IVec S_ 1 := constantI S_ 1 1#1
  let main_v5 : IVec S_ 1 := (fun x v => Host.reduce IntOp.andi x v reducesTo_S64x256_S_d0_1 h_S_) main_v4 main_c_1
  let main_c_2 : IVec S_ 32 := constantI S_ 32 0#32
  let main_v6 : IVec S64x256 32 := broadcastInDim S64x256 ![] bcast_S_S64x256 main_c_2
  let main_v7 : IVec S64x256 1 := cmpi .sge main_arg1 main_v6
  let main_c_3 : IVec S_ 32 := constantI S_ 32 100000#32
  let main_v8 : IVec S64x256 32 := broadcastInDim S64x256 ![] bcast_S_S64x256 main_c_3
  let main_v9 : IVec S64x256 1 := cmpi .slt main_arg1 main_v8
  let main_v10 : IVec S64x256 1 := andi main_v7 main_v9
  let main_c_4 : IVec S_ 1 := constantI S_ 1 1#1
  let main_v11 : IVec S_ 1 := (fun x v => Host.reduce IntOp.andi x v reducesTo_S64x256_S_d0_1 h_S_) main_v10 main_c_4
  let main_v12 : IVec S_ 1 := andi main_v5 main_v11
  main_v12
-- ==== Kernel.lean ====
abbrev S64x256 : Shape := ⟨2, ![64, 256]⟩
abbrev S100000x128 : Shape := ⟨2, ![100000, 128]⟩
abbrev S128x384 : Shape := ⟨2, ![128, 384]⟩
abbrev S2x384 : Shape := ⟨2, ![2, 384]⟩
abbrev S128x100000 : Shape := ⟨2, ![128, 100000]⟩
abbrev S100000 : Shape := ⟨1, ![100000]⟩
abbrev S256x64 : Shape := ⟨2, ![256, 64]⟩
abbrev S512x64 : Shape := ⟨2, ![512, 64]⟩
abbrev S32768x128 : Shape := ⟨2, ![32768, 128]⟩
abbrev S16x64 : Shape := ⟨2, ![16, 64]⟩
abbrev S2x64x128 : Shape := ⟨3, ![2, 64, 128]⟩
abbrev S_ : Shape := ⟨0, ![]⟩
abbrev S1x64x128 : Shape := ⟨3, ![1, 64, 128]⟩
abbrev S64x128 : Shape := ⟨2, ![64, 128]⟩
abbrev S1x64 : Shape := ⟨2, ![1, 64]⟩
abbrev S64 : Shape := ⟨1, ![64]⟩
abbrev S16384x128 : Shape := ⟨2, ![16384, 128]⟩
abbrev S128x1696 : Shape := ⟨2, ![128, 1696]⟩
abbrev S128x4096 : Shape := ⟨2, ![128, 4096]⟩
abbrev S1x100000 : Shape := ⟨2, ![1, 100000]⟩
abbrev S64x100000 : Shape := ⟨2, ![64, 100000]⟩
abbrev S1x4096 : Shape := ⟨2, ![1, 4096]⟩
abbrev S64x4096 : Shape := ⟨2, ![64, 4096]⟩
abbrev S14x128x4096 : Shape := ⟨3, ![14, 128, 4096]⟩
abbrev S14 : Shape := ⟨1, ![14]⟩
abbrev S4x256x512 : Shape := ⟨3, ![4, 256, 512]⟩
abbrev S4x512 : Shape := ⟨2, ![4, 512]⟩
abbrev S1 : Shape := ⟨1, ![1]⟩
abbrev S1x128x4096 : Shape := ⟨3, ![1, 128, 4096]⟩
abbrev S128x128 : Shape := ⟨2, ![128, 128]⟩
abbrev S1x128x384 : Shape := ⟨3, ![1, 128, 384]⟩
abbrev S1x128x128 : Shape := ⟨3, ![1, 128, 128]⟩
abbrev S128x256 : Shape := ⟨2, ![128, 256]⟩
abbrev S1x128x256 : Shape := ⟨3, ![1, 128, 256]⟩
abbrev S1x256 : Shape := ⟨2, ![1, 256]⟩
abbrev S256 : Shape := ⟨1, ![256]⟩
abbrev S1x128 : Shape := ⟨2, ![1, 128]⟩
abbrev S128 : Shape := ⟨1, ![128]⟩
abbrev S1x256x512 : Shape := ⟨3, ![1, 256, 512]⟩
abbrev S256x512 : Shape := ⟨2, ![256, 512]⟩
abbrev S64x512 : Shape := ⟨2, ![64, 512]⟩
abbrev S1x512 : Shape := ⟨2, ![1, 512]⟩
abbrev S512 : Shape := ⟨1, ![512]⟩

abbrev nBuf : Table → Nat
  | .hbm => 29
  | .local .tc .vmem => 24
  | .local .scVector .vmem => 2
  | _ => 0

abbrev bufTy : (tb : Table) → Fin (nBuf tb) → BufTy
  | .hbm, ⟨0, _⟩ => ⟨S64x256, .i32⟩
  | .hbm, ⟨1, _⟩ => ⟨S64x256, .i32⟩
  | .hbm, ⟨2, _⟩ => ⟨S100000x128, .f32⟩
  | .hbm, ⟨3, _⟩ => ⟨S128x384, .f32⟩
  | .hbm, ⟨4, _⟩ => ⟨S128x384, .f32⟩
  | .hbm, ⟨5, _⟩ => ⟨S2x384, .f32⟩
  | .hbm, ⟨6, _⟩ => ⟨S128x384, .f32⟩
  | .hbm, ⟨7, _⟩ => ⟨S128x384, .f32⟩
  | .hbm, ⟨8, _⟩ => ⟨S2x384, .f32⟩
  | .hbm, ⟨9, _⟩ => ⟨S128x384, .f32⟩
  | .hbm, ⟨10, _⟩ => ⟨S128x384, .f32⟩
  | .hbm, ⟨11, _⟩ => ⟨S2x384, .f32⟩
  | .hbm, ⟨12, _⟩ => ⟨S128x384, .f32⟩
  | .hbm, ⟨13, _⟩ => ⟨S128x384, .f32⟩
  | .hbm, ⟨14, _⟩ => ⟨S2x384, .f32⟩
  | .hbm, ⟨15, _⟩ => ⟨S128x100000, .f32⟩
  | .hbm, ⟨16, _⟩ => ⟨S100000, .f32⟩
  | .hbm, ⟨17, _⟩ => ⟨S256x64, .i32⟩
  | .hbm, ⟨18, _⟩ => ⟨S256x64, .i32⟩
  | .hbm, ⟨19, _⟩ => ⟨S512x64, .i32⟩
  | .hbm, ⟨20, _⟩ => ⟨S32768x128, .f32⟩
  | .hbm, ⟨21, _⟩ => ⟨S16384x128, .f32⟩
  | .hbm, ⟨22, _⟩ => ⟨S16384x128, .f32⟩
  | .hbm, ⟨23, _⟩ => ⟨S128x1696, .f32⟩
  | .hbm, ⟨24, _⟩ => ⟨S_, .i32⟩
  | .hbm, ⟨25, _⟩ => ⟨S_, .f32⟩
  | .hbm, ⟨26, _⟩ => ⟨S128x4096, .f32⟩
  | .hbm, ⟨27, _⟩ => ⟨S1x100000, .f32⟩
  | .hbm, ⟨28, _⟩ => ⟨S64x100000, .f32⟩
  | .local .tc .vmem, ⟨0, _⟩ => ⟨S16384x128, .f32⟩
  | .local .tc .vmem, ⟨1, _⟩ => ⟨S16384x128, .f32⟩
  | .local .tc .vmem, ⟨2, _⟩ => ⟨S128x384, .f32⟩
  | .local .tc .vmem, ⟨3, _⟩ => ⟨S128x384, .f32⟩
  | .local .tc .vmem, ⟨4, _⟩ => ⟨S2x384, .f32⟩
  | .local .tc .vmem, ⟨5, _⟩ => ⟨S128x384, .f32⟩
  | .local .tc .vmem, ⟨6, _⟩ => ⟨S128x384, .f32⟩
  | .local .tc .vmem, ⟨7, _⟩ => ⟨S2x384, .f32⟩
  | .local .tc .vmem, ⟨8, _⟩ => ⟨S128x384, .f32⟩
  | .local .tc .vmem, ⟨9, _⟩ => ⟨S128x384, .f32⟩
  | .local .tc .vmem, ⟨10, _⟩ => ⟨S2x384, .f32⟩
  | .local .tc .vmem, ⟨11, _⟩ => ⟨S128x384, .f32⟩
  | .local .tc .vmem, ⟨12, _⟩ => ⟨S128x384, .f32⟩
  | .local .tc .vmem, ⟨13, _⟩ => ⟨S2x384, .f32⟩
  | .local .tc .vmem, ⟨14, _⟩ => ⟨S128x4096, .f32⟩
  | .local .tc .vmem, ⟨15, _⟩ => ⟨S1x4096, .f32⟩
  | .local .tc .vmem, ⟨16, _⟩ => ⟨S1x4096, .f32⟩
  | .local .tc .vmem, ⟨17, _⟩ => ⟨S64x4096, .f32⟩
  | .local .tc .vmem, ⟨18, _⟩ => ⟨S64x4096, .f32⟩
  | .local .tc .vmem, ⟨19, _⟩ => ⟨S16384x128, .bf16⟩
  | .local .tc .vmem, ⟨20, _⟩ => ⟨S64x128, .f32⟩
  | .local .tc .vmem, ⟨21, _⟩ => ⟨S14x128x4096, .f32⟩
  | .local .tc .vmem, ⟨22, _⟩ => ⟨S4x256x512, .bf16⟩
  | .local .tc .vmem, ⟨23, _⟩ => ⟨S4x512, .f32⟩
  | .local .scVector .vmem, ⟨0, _⟩ => ⟨S16x64, .i32⟩
  | .local .scVector .vmem, ⟨1, _⟩ => ⟨S2x64x128, .f32⟩
  | _, _ => ⟨S64x256, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 52 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTables nBuf rfl bufTy 4 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c : Ref sig .tc := ⟨.hbm, 24, rfl⟩
abbrev main_call0_v0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v2_scv : Ref sig .scVector := ⟨.hbm, 19, rfl⟩
abbrev main_arg2_scv : Ref sig .scVector := ⟨.hbm, 2, rfl⟩
abbrev main_v3_scv : Ref sig .scVector := ⟨.hbm, 20, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_stg8_0 : Ref sig .tc := ⟨.vmem, 8, rfl⟩
abbrev cc1_stg9_0 : Ref sig .tc := ⟨.vmem, 9, rfl⟩
abbrev cc1_stg10_0 : Ref sig .tc := ⟨.vmem, 10, rfl⟩
abbrev cc1_stg11_0 : Ref sig .tc := ⟨.vmem, 11, rfl⟩
abbrev cc1_stg12_0 : Ref sig .tc := ⟨.vmem, 12, rfl⟩
abbrev cc1_stg13_0 : Ref sig .tc := ⟨.vmem, 13, rfl⟩
abbrev cc1_stg14_0 : Ref sig .tc := ⟨.vmem, 14, rfl⟩
abbrev cc1_stg15_0 : Ref sig .tc := ⟨.vmem, 15, rfl⟩
abbrev cc1_stg15_1 : Ref sig .tc := ⟨.vmem, 16, rfl⟩
abbrev cc1_stg16_0 : Ref sig .tc := ⟨.vmem, 17, rfl⟩
abbrev cc1_stg16_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc1_scratch4 : Ref sig .tc := ⟨.vmem, 22, rfl⟩
abbrev cc1_scratch5 : Ref sig .tc := ⟨.vmem, 23, rfl⟩
abbrev cc0_scratch0 : Ref sig .scVector := ⟨.vmem, 0, rfl⟩
abbrev cc0_scratch1 : Ref sig .scVector := ⟨.vmem, 1, rfl⟩
abbrev cc1_sem0_0 : DmaSem sig := 19
abbrev cc1_sem1_0 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem10_0 : DmaSem sig := 29
abbrev cc1_sem11_0 : DmaSem sig := 30
abbrev cc1_sem12_0 : DmaSem sig := 31
abbrev cc1_sem13_0 : DmaSem sig := 32
abbrev cc1_sem14_0 : DmaSem sig := 33
abbrev cc1_sem15_0 : DmaSem sig := 34
abbrev cc1_sem15_1 : DmaSem sig := 35
abbrev cc1_sem16_0 : DmaSem sig := 36
abbrev cc1_sem16_1 : DmaSem sig := 37
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_0 : BitVec 32 := 16#32
  let v2 : BitVec 32 := Scalar.muli v1 c16_i32_0
  let c0_i32_256_r0 : BitVec 32 := 0#32
  ![v2.toNat, 0]
def k0_off2 (i : grid0.Coords) (c0_i32_20 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_0 : BitVec 32 := 16#32
  let v2 : BitVec 32 := Scalar.muli v1 c16_i32_0
  let v18 : BitVec 32 := Scalar.addi v2 c0_i32_20
  let c64_i32 : BitVec 32 := 64#32
  let v19 : BitVec 32 := Scalar.muli v18 c64_i32
  let c0_i32_258_r1 : BitVec 32 := 0#32
  ![v19.toNat, 0]
abbrev grid1 : Pipeline.Grid := ⟨1, ![25], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k1_t1_loop : Scf.Loop 32 :=
  let c0_i32_200 : BitVec 32 := 0#32
  let c32_i32 : BitVec 32 := 32#32
  let v244 : BitVec 32 := Scalar.addi c0_i32_200 c32_i32
  let c1_i32_201 : BitVec 32 := 1#32
  ⟨c0_i32_200, v244, c1_i32_201⟩
def k1_off1 (k1_t1 : Fin k1_t1_loop.trips) (c0_i32_218 : BitVec 32) : Fin 2 → Nat :=
  let c0_i32_200 : BitVec 32 := 0#32
  let c1_i32_201 : BitVec 32 := 1#32
  let arg25 : BitVec 32 := Scf.iv c0_i32_200 c1_i32_201 k1_t1
  let c8_i32_217 : BitVec 32 := 8#32
  let v255 : BitVec 32 := Scalar.muli arg25 c8_i32_217
  let v256 : BitVec 32 := Scalar.addi v255 c0_i32_218
  let c64_i32 : BitVec 32 := 64#32
  let v257 : BitVec 32 := Scalar.muli v256 c64_i32
  let v258 : Index := Scalar.indexCast v257
  let c0_219 : Index := 0#32
  ![v258.toNat, 0]
@[reducible] def k1_t2_loop : Scf.Loop 32 :=
  let c0_i32_203 : BitVec 32 := 0#32
  let c32_i32_204 : BitVec 32 := 32#32
  let v246 : BitVec 32 := Scalar.addi c0_i32_203 c32_i32_204
  let c1_i32_205 : BitVec 32 := 1#32
  ⟨c0_i32_203, v246, c1_i32_205⟩
def k1_off2 (k1_t2 : Fin k1_t2_loop.trips) (c0_i32_218 : BitVec 32) : Fin 2 → Nat :=
  let c0_i32_203 : BitVec 32 := 0#32
  let c1_i32_205 : BitVec 32 := 1#32
  let arg25 : BitVec 32 := Scf.iv c0_i32_203 c1_i32_205 k1_t2
  let c8_i32_217 : BitVec 32 := 8#32
  let v255 : BitVec 32 := Scalar.muli arg25 c8_i32_217
  let v256 : BitVec 32 := Scalar.addi v255 c0_i32_218
  let c64_i32 : BitVec 32 := 64#32
  let v257 : BitVec 32 := Scalar.muli v256 c64_i32
  let v258 : Index := Scalar.indexCast v257
  let c0_219 : Index := 0#32
  ![v258.toNat, 0]
@[reducible] def k1_t3_loop : Scf.Loop 32 :=
  let c0_i32_207 : BitVec 32 := 0#32
  let c32_i32_208 : BitVec 32 := 32#32
  let v248 : BitVec 32 := Scalar.addi c0_i32_207 c32_i32_208
  let c1_i32_209 : BitVec 32 := 1#32
  ⟨c0_i32_207, v248, c1_i32_209⟩
def k1_off3 (k1_t3 : Fin k1_t3_loop.trips) (c0_i32_218 : BitVec 32) : Fin 2 → Nat :=
  let c0_i32_207 : BitVec 32 := 0#32
  let c1_i32_209 : BitVec 32 := 1#32
  let arg25 : BitVec 32 := Scf.iv c0_i32_207 c1_i32_209 k1_t3
  let c8_i32_217 : BitVec 32 := 8#32
  let v255 : BitVec 32 := Scalar.muli arg25 c8_i32_217
  let v256 : BitVec 32 := Scalar.addi v255 c0_i32_218
  let c64_i32 : BitVec 32 := 64#32
  let v257 : BitVec 32 := Scalar.muli v256 c64_i32
  let v258 : Index := Scalar.indexCast v257
  let c0_219 : Index := 0#32
  ![v258.toNat, 0]
@[reducible] def k1_t4_loop : Scf.Loop 32 :=
  let c0_i32_211 : BitVec 32 := 0#32
  let c32_i32_212 : BitVec 32 := 32#32
  let v250 : BitVec 32 := Scalar.addi c0_i32_211 c32_i32_212
  let c1_i32_213 : BitVec 32 := 1#32
  ⟨c0_i32_211, v250, c1_i32_213⟩
def k1_off4 (k1_t4 : Fin k1_t4_loop.trips) (c0_i32_218 : BitVec 32) : Fin 2 → Nat :=
  let c0_i32_211 : BitVec 32 := 0#32
  let c1_i32_213 : BitVec 32 := 1#32
  let arg25 : BitVec 32 := Scf.iv c0_i32_211 c1_i32_213 k1_t4
  let c8_i32_217 : BitVec 32 := 8#32
  let v255 : BitVec 32 := Scalar.muli arg25 c8_i32_217
  let v256 : BitVec 32 := Scalar.addi v255 c0_i32_218
  let c64_i32 : BitVec 32 := 64#32
  let v257 : BitVec 32 := Scalar.muli v256 c64_i32
  let v258 : Index := Scalar.indexCast v257
  let c0_219 : Index := 0#32
  ![v258.toNat, 0]
def k1_cond2 (i : grid1.Coords) : BitVec 1 :=
  let arg0 : BitVec 32 := BitVec.ofNat 32 (i 0).val
  let c1_i32 : BitVec 32 := 1#32
  let v3 : BitVec 1 := Scalar.cmpi .sge arg0 c1_i32
  let c14_i32 : BitVec 32 := 14#32
  let v4 : BitVec 32 := Scalar.addi arg0 c14_i32
  let c1_i32_1 : BitVec 32 := 1#32
  let v5 : BitVec 32 := Scalar.subi v4 c1_i32_1
  let c24_i32 : BitVec 32 := 24#32
  let v6 : BitVec 1 := Scalar.cmpi .slt v5 c24_i32
  let v7 : BitVec 1 := Scalar.andi v3 v6
  let v8 : BitVec 32 := Scalar.extui v7
  let c0_i32_2 : BitVec 32 := 0#32
  let v9 : BitVec 1 := Scalar.cmpi .ne v8 c0_i32_2
  v9

def k1_off5 (i : grid1.Coords) : Fin 1 → Nat :=
  let arg0 : BitVec 32 := BitVec.ofNat 32 (i 0).val
  let c1_i32_7 : BitVec 32 := 1#32
  let v16 : BitVec 32 := Scalar.subi arg0 c1_i32_7
  let c14_i32_8 : BitVec 32 := 14#32
  let v17 : BitVec 32 := Scalar.remsi v16 c14_i32_8
  ![v17.toNat]
def k1_off6 (i : grid1.Coords) : Fin 3 → Nat :=
  let arg0 : BitVec 32 := BitVec.ofNat 32 (i 0).val
  let c1_i32_7 : BitVec 32 := 1#32
  let v16 : BitVec 32 := Scalar.subi arg0 c1_i32_7
  let c14_i32_8 : BitVec 32 := 14#32
  let v17 : BitVec 32 := Scalar.remsi v16 c14_i32_8
  let c0_i32_11 : BitVec 32 := 0#32
  let c0_i32_12 : BitVec 32 := 0#32
  ![v17.toNat, 0, 0]
def k1_off7 (i : grid1.Coords) : Fin 2 → Nat :=
  let c0_i32_13 : BitVec 32 := 0#32
  let arg0 : BitVec 32 := BitVec.ofNat 32 (i 0).val
  let c14_i32_9 : BitVec 32 := 14#32
  let v18 : BitVec 32 := Scalar.addi arg0 c14_i32_9
  let c1_i32_10 : BitVec 32 := 1#32
  let v19 : BitVec 32 := Scalar.subi v18 c1_i32_10
  let c4096_i32 : BitVec 32 := 4096#32
  let v20 : BitVec 32 := Scalar.muli v19 c4096_i32
  ![0, v20.toNat]
def k1_cond3 (i : grid1.Coords) : BitVec 1 :=
  let arg0 : BitVec 32 := BitVec.ofNat 32 (i 0).val
  let c24_i32_3 : BitVec 32 := 24#32
  let v10 : BitVec 1 := Scalar.cmpi .slt arg0 c24_i32_3
  let v11 : BitVec 32 := Scalar.extui v10
  let c0_i32_4 : BitVec 32 := 0#32
  let v12 : BitVec 1 := Scalar.cmpi .ne v11 c0_i32_4
  v12

def k1_off8 (i : grid1.Coords) : Fin 1 → Nat :=
  let arg0 : BitVec 32 := BitVec.ofNat 32 (i 0).val
  let c14_i32_7 : BitVec 32 := 14#32
  let v16 : BitVec 32 := Scalar.remsi arg0 c14_i32_7
  ![v16.toNat]
def k1_off9 (i : grid1.Coords) : Fin 3 → Nat :=
  let arg0 : BitVec 32 := BitVec.ofNat 32 (i 0).val
  let c14_i32_7 : BitVec 32 := 14#32
  let v16 : BitVec 32 := Scalar.remsi arg0 c14_i32_7
  let c0_i32_8 : BitVec 32 := 0#32
  let c0_i32_9 : BitVec 32 := 0#32
  ![v16.toNat, 0, 0]
def k1_off10 (i : grid1.Coords) : Fin 2 → Nat :=
  let c0_i32_10 : BitVec 32 := 0#32
  let arg0 : BitVec 32 := BitVec.ofNat 32 (i 0).val
  let c4096_i32 : BitVec 32 := 4096#32
  let v17 : BitVec 32 := Scalar.muli arg0 c4096_i32
  ![0, v17.toNat]
def k1_off11 (i : grid1.Coords) : Fin 3 → Nat :=
  let arg0 : BitVec 32 := BitVec.ofNat 32 (i 0).val
  let c14_i32_7 : BitVec 32 := 14#32
  let v16 : BitVec 32 := Scalar.remsi arg0 c14_i32_7
  let v24 : Index := Scalar.indexCast v16
  let c0_12 : Index := 0#32
  let c0_13 : Index := 0#32
  ![v24.toNat, 0, 0]
def k1_cond4 (i : grid1.Coords) : BitVec 1 :=
  let arg0 : BitVec 32 := BitVec.ofNat 32 (i 0).val
  let c24_i32_5 : BitVec 32 := 24#32
  let v13 : BitVec 1 := Scalar.cmpi .eq arg0 c24_i32_5
  let v14 : BitVec 32 := Scalar.extui v13
  let c0_i32_6 : BitVec 32 := 0#32
  let v15 : BitVec 1 := Scalar.cmpi .ne v14 c0_i32_6
  v15

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_17 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S16384x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S16384x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x384 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2x384 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x384 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x384 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S2x384 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x384 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128x384 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S2x384 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S128x4096 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S1x4096 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S64x4096 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x256 : Shape := ⟨2, ![64, 256]⟩
abbrev S100000x128 : Shape := ⟨2, ![100000, 128]⟩
abbrev S128x384 : Shape := ⟨2, ![128, 384]⟩
abbrev S2x384 : Shape := ⟨2, ![2, 384]⟩
abbrev S128x100000 : Shape := ⟨2, ![128, 100000]⟩
abbrev S100000 : Shape := ⟨1, ![100000]⟩
abbrev S_ : Shape := ⟨0, ![]⟩
abbrev S64x256x1 : Shape := ⟨3, ![64, 256, 1]⟩
abbrev S1 : Shape := ⟨1, ![1]⟩
abbrev S1x1x1 : Shape := ⟨3, ![1, 1, 1]⟩
abbrev S64x256x128 : Shape := ⟨3, ![64, 256, 128]⟩
abbrev S64x128 : Shape := ⟨2, ![64, 128]⟩
abbrev S64x256x384 : Shape := ⟨3, ![64, 256, 384]⟩
abbrev S1x384 : Shape := ⟨2, ![1, 384]⟩
abbrev S384 : Shape := ⟨1, ![384]⟩
abbrev S1x1x384 : Shape := ⟨3, ![1, 1, 384]⟩
abbrev S256x64x384 : Shape := ⟨3, ![256, 64, 384]⟩
abbrev S256x64x128 : Shape := ⟨3, ![256, 64, 128]⟩
abbrev S1x64x384 : Shape := ⟨3, ![1, 64, 384]⟩
abbrev S64x384 : Shape := ⟨2, ![64, 384]⟩
abbrev S1x64x128 : Shape := ⟨3, ![1, 64, 128]⟩
abbrev S64x1x128 : Shape := ⟨3, ![64, 1, 128]⟩
abbrev S64x100000 : Shape := ⟨2, ![64, 100000]⟩
abbrev S1x100000 : Shape := ⟨2, ![1, 100000]⟩

abbrev nBuf : Space → Nat
  | .hbm => 343
  | .vmem => 0
  | .smem => 0
  | _ => 0

abbrev hbmTy0_0 (i : Nat) : BufTy := match i % 128 with
  | 0 => ⟨S64x256, .i32⟩
  | 1 => ⟨S64x256, .i32⟩
  | 2 => ⟨S100000x128, .f32⟩
  | 3 => ⟨S128x384, .f32⟩
  | 4 => ⟨S128x384, .f32⟩
  | 5 => ⟨S2x384, .f32⟩
  | 6 => ⟨S128x384, .f32⟩
  | 7 => ⟨S128x384, .f32⟩
  | 8 => ⟨S2x384, .f32⟩
  | 9 => ⟨S128x384, .f32⟩
  | 10 => ⟨S128x384, .f32⟩
  | 11 => ⟨S2x384, .f32⟩
  | 12 => ⟨S128x384, .f32⟩
  | 13 => ⟨S128x384, .f32⟩
  | 14 => ⟨S2x384, .f32⟩
  | 15 => ⟨S128x100000, .f32⟩
  | 16 => ⟨S100000, .f32⟩
  | 17 => ⟨S_, .i32⟩
  | 18 => ⟨S64x256, .i32⟩
  | 19 => ⟨S64x256, .i1⟩
  | 20 => ⟨S_, .i32⟩
  | 21 => ⟨S64x256, .i32⟩
  | 22 => ⟨S64x256, .i32⟩
  | 23 => ⟨S64x256, .i32⟩
  | 24 => ⟨S64x256x1, .i32⟩
  | 25 => ⟨S1, .i32⟩
  | 26 => ⟨S_, .i32⟩
  | 27 => ⟨S64x256x1, .i32⟩
  | 28 => ⟨S64x256x1, .i1⟩
  | 29 => ⟨S1x1x1, .i32⟩
  | 30 => ⟨S64x256x1, .i32⟩
  | 31 => ⟨S64x256x1, .i1⟩
  | 32 => ⟨S64x256x1, .i1⟩
  | 33 => ⟨S_, .i1⟩
  | 34 => ⟨S64x256, .i1⟩
  | 35 => ⟨S64x256x128, .f32⟩
  | 36 => ⟨S64x256x128, .i1⟩
  | 37 => ⟨S_, .f32⟩
  | 38 => ⟨S64x256x128, .f32⟩
  | 39 => ⟨S64x256x128, .f32⟩
  | 40 => ⟨S_, .i32⟩
  | 41 => ⟨S64x256, .i32⟩
  | 42 => ⟨S64x256, .i1⟩
  | 43 => ⟨S_, .i32⟩
  | 44 => ⟨S64x256, .i32⟩
  | 45 => ⟨S64x256, .i32⟩
  | 46 => ⟨S64x256, .i32⟩
  | 47 => ⟨S64x256x1, .i32⟩
  | 48 => ⟨S1, .i32⟩
  | 49 => ⟨S_, .i32⟩
  | 50 => ⟨S64x256x1, .i32⟩
  | 51 => ⟨S64x256x1, .i1⟩
  | 52 => ⟨S1x1x1, .i32⟩
  | 53 => ⟨S64x256x1, .i32⟩
  | 54 => ⟨S64x256x1, .i1⟩
  | 55 => ⟨S64x256x1, .i1⟩
  | 56 => ⟨S_, .i1⟩
  | 57 => ⟨S64x256, .i1⟩
  | 58 => ⟨S64x256x128, .f32⟩
  | 59 => ⟨S64x256x128, .i1⟩
  | 60 => ⟨S_, .f32⟩
  | 61 => ⟨S64x256x128, .f32⟩
  | 62 => ⟨S64x256x128, .f32⟩
  | 63 => ⟨S_, .f32⟩
  | 64 => ⟨S64x128, .f32⟩
  | 65 => ⟨S64x256x384, .f32⟩
  | 66 => ⟨S1x384, .f32⟩
  | 67 => ⟨S384, .f32⟩
  | 68 => ⟨S1x1x384, .f32⟩
  | 69 => ⟨S64x256x384, .f32⟩
  | 70 => ⟨S64x256x384, .f32⟩
  | 71 => ⟨S256x64x384, .f32⟩
  | 72 => ⟨S_, .f32⟩
  | 73 => ⟨S256x64x128, .f32⟩
  | 74 => ⟨S_, .i32⟩
  | 75 => ⟨S256x64x384, .f32⟩
  | 76 => ⟨S128x384, .f32⟩
  | 77 => ⟨S2x384, .f32⟩
  | 78 => ⟨S_, .i32⟩
  | 79 => ⟨S64x128, .f32⟩
  | 80 => ⟨S256x64x128, .f32⟩
  | 81 => ⟨S_, .i32⟩
  | 82 => ⟨S_, .i1⟩
  | 83 => ⟨S_, .i32⟩
  | 84 => ⟨S_, .i32⟩
  | 85 => ⟨S1x64x384, .f32⟩
  | 86 => ⟨S64x384, .f32⟩
  | 87 => ⟨S64x384, .f32⟩
  | 88 => ⟨S1x384, .f32⟩
  | 89 => ⟨S384, .f32⟩
  | 90 => ⟨S1x384, .f32⟩
  | 91 => ⟨S64x384, .f32⟩
  | 92 => ⟨S64x384, .f32⟩
  | 93 => ⟨S64x128, .f32⟩
  | 94 => ⟨S64x128, .f32⟩
  | 95 => ⟨S64x128, .f32⟩
  | 96 => ⟨S64x128, .f32⟩
  | 97 => ⟨S64x128, .f32⟩
  | 98 => ⟨S_, .f32⟩
  | 99 => ⟨S64x128, .f32⟩
  | 100 => ⟨S64x128, .f32⟩
  | 101 => ⟨S_, .f32⟩
  | 102 => ⟨S64x128, .f32⟩
  | 103 => ⟨S64x128, .f32⟩
  | 104 => ⟨S64x128, .f32⟩
  | 105 => ⟨S64x128, .f32⟩
  | 106 => ⟨S64x128, .f32⟩
  | 107 => ⟨S64x128, .f32⟩
  | 108 => ⟨S64x128, .f32⟩
  | 109 => ⟨S_, .f32⟩
  | 110 => ⟨S64x128, .f32⟩
  | 111 => ⟨S64x128, .f32⟩
  | 112 => ⟨S_, .f32⟩
  | 113 => ⟨S64x128, .f32⟩
  | 114 => ⟨S64x128, .f32⟩
  | 115 => ⟨S64x128, .f32⟩
  | 116 => ⟨S64x128, .f32⟩
  | 117 => ⟨S64x128, .f32⟩
  | 118 => ⟨S64x128, .f32⟩
  | 119 => ⟨S64x128, .f32⟩
  | 120 => ⟨S64x128, .f32⟩
  | 121 => ⟨S_, .f32⟩
  | 122 => ⟨S64x128, .f32⟩
  | 123 => ⟨S64x128, .f32⟩
  | 124 => ⟨S64x128, .f32⟩
  | 125 => ⟨S64x128, .f32⟩
  | 126 => ⟨S1x64x128, .f32⟩
  | 127 => ⟨S_, .i32⟩
  | _ => ⟨S64x256, .i32⟩

abbrev hbmTy0_1 (i : Nat) : BufTy := match i % 128 with
  | 0 => ⟨S_, .i32⟩
  | 1 => ⟨S256x64x128, .f32⟩
  | 2 => ⟨S_, .i32⟩
  | 3 => ⟨S_, .i32⟩
  | 4 => ⟨S64x256x128, .f32⟩
  | 5 => ⟨S64x256x384, .f32⟩
  | 6 => ⟨S1x384, .f32⟩
  | 7 => ⟨S384, .f32⟩
  | 8 => ⟨S1x1x384, .f32⟩
  | 9 => ⟨S64x256x384, .f32⟩
  | 10 => ⟨S64x256x384, .f32⟩
  | 11 => ⟨S256x64x384, .f32⟩
  | 12 => ⟨S_, .f32⟩
  | 13 => ⟨S256x64x128, .f32⟩
  | 14 => ⟨S_, .i32⟩
  | 15 => ⟨S256x64x384, .f32⟩
  | 16 => ⟨S128x384, .f32⟩
  | 17 => ⟨S2x384, .f32⟩
  | 18 => ⟨S_, .i32⟩
  | 19 => ⟨S64x128, .f32⟩
  | 20 => ⟨S256x64x128, .f32⟩
  | 21 => ⟨S_, .i32⟩
  | 22 => ⟨S_, .i1⟩
  | 23 => ⟨S_, .i32⟩
  | 24 => ⟨S_, .i32⟩
  | 25 => ⟨S1x64x384, .f32⟩
  | 26 => ⟨S64x384, .f32⟩
  | 27 => ⟨S64x384, .f32⟩
  | 28 => ⟨S1x384, .f32⟩
  | 29 => ⟨S384, .f32⟩
  | 30 => ⟨S1x384, .f32⟩
  | 31 => ⟨S64x384, .f32⟩
  | 32 => ⟨S64x384, .f32⟩
  | 33 => ⟨S64x128, .f32⟩
  | 34 => ⟨S64x128, .f32⟩
  | 35 => ⟨S64x128, .f32⟩
  | 36 => ⟨S64x128, .f32⟩
  | 37 => ⟨S64x128, .f32⟩
  | 38 => ⟨S_, .f32⟩
  | 39 => ⟨S64x128, .f32⟩
  | 40 => ⟨S64x128, .f32⟩
  | 41 => ⟨S_, .f32⟩
  | 42 => ⟨S64x128, .f32⟩
  | 43 => ⟨S64x128, .f32⟩
  | 44 => ⟨S64x128, .f32⟩
  | 45 => ⟨S64x128, .f32⟩
  | 46 => ⟨S64x128, .f32⟩
  | 47 => ⟨S64x128, .f32⟩
  | 48 => ⟨S64x128, .f32⟩
  | 49 => ⟨S_, .f32⟩
  | 50 => ⟨S64x128, .f32⟩
  | 51 => ⟨S64x128, .f32⟩
  | 52 => ⟨S_, .f32⟩
  | 53 => ⟨S64x128, .f32⟩
  | 54 => ⟨S64x128, .f32⟩
  | 55 => ⟨S64x128, .f32⟩
  | 56 => ⟨S64x128, .f32⟩
  | 57 => ⟨S64x128, .f32⟩
  | 58 => ⟨S64x128, .f32⟩
  | 59 => ⟨S64x128, .f32⟩
  | 60 => ⟨S64x128, .f32⟩
  | 61 => ⟨S_, .f32⟩
  | 62 => ⟨S64x128, .f32⟩
  | 63 => ⟨S64x128, .f32⟩
  | 64 => ⟨S64x128, .f32⟩
  | 65 => ⟨S64x128, .f32⟩
  | 66 => ⟨S1x64x128, .f32⟩
  | 67 => ⟨S_, .i32⟩
  | 68 => ⟨S_, .i32⟩
  | 69 => ⟨S256x64x128, .f32⟩
  | 70 => ⟨S_, .i32⟩
  | 71 => ⟨S_, .i32⟩
  | 72 => ⟨S64x256x128, .f32⟩
  | 73 => ⟨S64x256x384, .f32⟩
  | 74 => ⟨S1x384, .f32⟩
  | 75 => ⟨S384, .f32⟩
  | 76 => ⟨S1x1x384, .f32⟩
  | 77 => ⟨S64x256x384, .f32⟩
  | 78 => ⟨S64x256x384, .f32⟩
  | 79 => ⟨S256x64x384, .f32⟩
  | 80 => ⟨S_, .f32⟩
  | 81 => ⟨S256x64x128, .f32⟩
  | 82 => ⟨S_, .i32⟩
  | 83 => ⟨S256x64x384, .f32⟩
  | 84 => ⟨S128x384, .f32⟩
  | 85 => ⟨S2x384, .f32⟩
  | 86 => ⟨S_, .i32⟩
  | 87 => ⟨S64x128, .f32⟩
  | 88 => ⟨S256x64x128, .f32⟩
  | 89 => ⟨S_, .i32⟩
  | 90 => ⟨S_, .i1⟩
  | 91 => ⟨S_, .i32⟩
  | 92 => ⟨S_, .i32⟩
  | 93 => ⟨S1x64x384, .f32⟩
  | 94 => ⟨S64x384, .f32⟩
  | 95 => ⟨S64x384, .f32⟩
  | 96 => ⟨S1x384, .f32⟩
  | 97 => ⟨S384, .f32⟩
  | 98 => ⟨S1x384, .f32⟩
  | 99 => ⟨S64x384, .f32⟩
  | 100 => ⟨S64x384, .f32⟩
  | 101 => ⟨S64x128, .f32⟩
  | 102 => ⟨S64x128, .f32⟩
  | 103 => ⟨S64x128, .f32⟩
  | 104 => ⟨S64x128, .f32⟩
  | 105 => ⟨S64x128, .f32⟩
  | 106 => ⟨S_, .f32⟩
  | 107 => ⟨S64x128, .f32⟩
  | 108 => ⟨S64x128, .f32⟩
  | 109 => ⟨S_, .f32⟩
  | 110 => ⟨S64x128, .f32⟩
  | 111 => ⟨S64x128, .f32⟩
  | 112 => ⟨S64x128, .f32⟩
  | 113 => ⟨S64x128, .f32⟩
  | 114 => ⟨S64x128, .f32⟩
  | 115 => ⟨S64x128, .f32⟩
  | 116 => ⟨S64x128, .f32⟩
  | 117 => ⟨S_, .f32⟩
  | 118 => ⟨S64x128, .f32⟩
  | 119 => ⟨S64x128, .f32⟩
  | 120 => ⟨S_, .f32⟩
  | 121 => ⟨S64x128, .f32⟩
  | 122 => ⟨S64x128, .f32⟩
  | 123 => ⟨S64x128, .f32⟩
  | 124 => ⟨S64x128, .f32⟩
  | 125 => ⟨S64x128, .f32⟩
  | 126 => ⟨S64x128, .f32⟩
  | 127 => ⟨S64x128, .f32⟩
  | _ => ⟨S64x256, .i32⟩

abbrev hbmTy0_2 (i : Nat) : BufTy := match i % 128 with
  | 0 => ⟨S64x128, .f32⟩
  | 1 => ⟨S_, .f32⟩
  | 2 => ⟨S64x128, .f32⟩
  | 3 => ⟨S64x128, .f32⟩
  | 4 => ⟨S64x128, .f32⟩
  | 5 => ⟨S64x128, .f32⟩
  | 6 => ⟨S1x64x128, .f32⟩
  | 7 => ⟨S_, .i32⟩
  | 8 => ⟨S_, .i32⟩
  | 9 => ⟨S256x64x128, .f32⟩
  | 10 => ⟨S_, .i32⟩
  | 11 => ⟨S_, .i32⟩
  | 12 => ⟨S64x256x128, .f32⟩
  | 13 => ⟨S64x256x384, .f32⟩
  | 14 => ⟨S1x384, .f32⟩
  | 15 => ⟨S384, .f32⟩
  | 16 => ⟨S1x1x384, .f32⟩
  | 17 => ⟨S64x256x384, .f32⟩
  | 18 => ⟨S64x256x384, .f32⟩
  | 19 => ⟨S256x64x384, .f32⟩
  | 20 => ⟨S_, .f32⟩
  | 21 => ⟨S256x64x128, .f32⟩
  | 22 => ⟨S_, .i32⟩
  | 23 => ⟨S256x64x384, .f32⟩
  | 24 => ⟨S128x384, .f32⟩
  | 25 => ⟨S2x384, .f32⟩
  | 26 => ⟨S_, .i32⟩
  | 27 => ⟨S64x128, .f32⟩
  | 28 => ⟨S256x64x128, .f32⟩
  | 29 => ⟨S_, .i32⟩
  | 30 => ⟨S_, .i1⟩
  | 31 => ⟨S_, .i32⟩
  | 32 => ⟨S_, .i32⟩
  | 33 => ⟨S1x64x384, .f32⟩
  | 34 => ⟨S64x384, .f32⟩
  | 35 => ⟨S64x384, .f32⟩
  | 36 => ⟨S1x384, .f32⟩
  | 37 => ⟨S384, .f32⟩
  | 38 => ⟨S1x384, .f32⟩
  | 39 => ⟨S64x384, .f32⟩
  | 40 => ⟨S64x384, .f32⟩
  | 41 => ⟨S64x128, .f32⟩
  | 42 => ⟨S64x128, .f32⟩
  | 43 => ⟨S64x128, .f32⟩
  | 44 => ⟨S64x128, .f32⟩
  | 45 => ⟨S64x128, .f32⟩
  | 46 => ⟨S_, .f32⟩
  | 47 => ⟨S64x128, .f32⟩
  | 48 => ⟨S64x128, .f32⟩
  | 49 => ⟨S_, .f32⟩
  | 50 => ⟨S64x128, .f32⟩
  | 51 => ⟨S64x128, .f32⟩
  | 52 => ⟨S64x128, .f32⟩
  | 53 => ⟨S64x128, .f32⟩
  | 54 => ⟨S64x128, .f32⟩
  | 55 => ⟨S64x128, .f32⟩
  | 56 => ⟨S64x128, .f32⟩
  | 57 => ⟨S_, .f32⟩
  | 58 => ⟨S64x128, .f32⟩
  | 59 => ⟨S64x128, .f32⟩
  | 60 => ⟨S_, .f32⟩
  | 61 => ⟨S64x128, .f32⟩
  | 62 => ⟨S64x128, .f32⟩
  | 63 => ⟨S64x128, .f32⟩
  | 64 => ⟨S64x128, .f32⟩
  | 65 => ⟨S64x128, .f32⟩
  | 66 => ⟨S64x128, .f32⟩
  | 67 => ⟨S64x128, .f32⟩
  | 68 => ⟨S64x128, .f32⟩
  | 69 => ⟨S_, .f32⟩
  | 70 => ⟨S64x128, .f32⟩
  | 71 => ⟨S64x128, .f32⟩
  | 72 => ⟨S64x128, .f32⟩
  | 73 => ⟨S64x128, .f32⟩
  | 74 => ⟨S1x64x128, .f32⟩
  | 75 => ⟨S_, .i32⟩
  | 76 => ⟨S_, .i32⟩
  | 77 => ⟨S256x64x128, .f32⟩
  | 78 => ⟨S_, .i32⟩
  | 79 => ⟨S_, .i32⟩
  | 80 => ⟨S64x256x128, .f32⟩
  | 81 => ⟨S64x1x128, .f32⟩
  | 82 => ⟨S64x128, .f32⟩
  | 83 => ⟨S64x100000, .f32⟩
  | 84 => ⟨S1x100000, .f32⟩
  | 85 => ⟨S64x100000, .f32⟩
  | 86 => ⟨S64x100000, .f32⟩
  | _ => ⟨S64x256, .i32⟩

abbrev hbmTy (i : Nat) : BufTy := match i / 128 with
  | 0 => hbmTy0_0 i
  | 1 => hbmTy0_1 i
  | 2 => hbmTy0_2 i
  | _ => ⟨S64x256, .i32⟩

abbrev bufTy : (tb : Table) → Fin (tcTables nBuf tb) → BufTy
  | .hbm, ⟨i, _⟩ => hbmTy i
  | _, _ => ⟨S64x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v0 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v1 : Ref sig .tc := ⟨.hbm, 62, rfl⟩
abbrev main_cst : Ref sig .tc := ⟨.hbm, 63, rfl⟩
abbrev main_v2 : Ref sig .tc := ⟨.hbm, 64, rfl⟩
abbrev main_v3 : Ref sig .tc := ⟨.hbm, 65, rfl⟩
abbrev main_v4 : Ref sig .tc := ⟨.hbm, 66, rfl⟩
abbrev main_v5 : Ref sig .tc := ⟨.hbm, 67, rfl⟩
abbrev main_v6 : Ref sig .tc := ⟨.hbm, 68, rfl⟩
abbrev main_v7 : Ref sig .tc := ⟨.hbm, 69, rfl⟩
abbrev main_v8 : Ref sig .tc := ⟨.hbm, 70, rfl⟩
abbrev main_v9 : Ref sig .tc := ⟨.hbm, 71, rfl⟩
abbrev main_cst_0 : Ref sig .tc := ⟨.hbm, 72, rfl⟩
abbrev main_v10 : Ref sig .tc := ⟨.hbm, 73, rfl⟩
abbrev main_c : Ref sig .tc := ⟨.hbm, 74, rfl⟩
abbrev main_v11_0 : Ref sig .tc := ⟨.hbm, 75, rfl⟩
abbrev main_v11_1 : Ref sig .tc := ⟨.hbm, 76, rfl⟩
abbrev main_v11_2 : Ref sig .tc := ⟨.hbm, 77, rfl⟩
abbrev main_v11_3 : Ref sig .tc := ⟨.hbm, 78, rfl⟩
abbrev main_v11_4 : Ref sig .tc := ⟨.hbm, 79, rfl⟩
abbrev main_v11_5 : Ref sig .tc := ⟨.hbm, 80, rfl⟩
abbrev main_while0c_c_12 : Ref sig .tc := ⟨.hbm, 81, rfl⟩
abbrev main_while0c_v49 : Ref sig .tc := ⟨.hbm, 82, rfl⟩
abbrev main_while0b_call2_c : Ref sig .tc := ⟨.hbm, 83, rfl⟩
abbrev main_while0b_call2_c_0 : Ref sig .tc := ⟨.hbm, 84, rfl⟩
abbrev main_while0b_call2_v0 : Ref sig .tc := ⟨.hbm, 85, rfl⟩
abbrev main_while0b_v49 : Ref sig .tc := ⟨.hbm, 86, rfl⟩
abbrev main_while0b_v50 : Ref sig .tc := ⟨.hbm, 87, rfl⟩
abbrev main_while0b_v51 : Ref sig .tc := ⟨.hbm, 88, rfl⟩
abbrev main_while0b_v52 : Ref sig .tc := ⟨.hbm, 89, rfl⟩
abbrev main_while0b_v53 : Ref sig .tc := ⟨.hbm, 90, rfl⟩
abbrev main_while0b_v54 : Ref sig .tc := ⟨.hbm, 91, rfl⟩
abbrev main_while0b_v55 : Ref sig .tc := ⟨.hbm, 92, rfl⟩
abbrev main_while0b_v56 : Ref sig .tc := ⟨.hbm, 93, rfl⟩
abbrev main_while0b_v57 : Ref sig .tc := ⟨.hbm, 94, rfl⟩
abbrev main_while0b_v58 : Ref sig .tc := ⟨.hbm, 95, rfl⟩
abbrev main_while0b_v59 : Ref sig .tc := ⟨.hbm, 96, rfl⟩
abbrev main_while0b_v60 : Ref sig .tc := ⟨.hbm, 97, rfl⟩
abbrev main_while0b_cst_12 : Ref sig .tc := ⟨.hbm, 98, rfl⟩
abbrev main_while0b_v61 : Ref sig .tc := ⟨.hbm, 99, rfl⟩
abbrev main_while0b_v62 : Ref sig .tc := ⟨.hbm, 100, rfl⟩
abbrev main_while0b_cst_13 : Ref sig .tc := ⟨.hbm, 101, rfl⟩
abbrev main_while0b_v63 : Ref sig .tc := ⟨.hbm, 102, rfl⟩
abbrev main_while0b_v64 : Ref sig .tc := ⟨.hbm, 103, rfl⟩
abbrev main_while0b_v65 : Ref sig .tc := ⟨.hbm, 104, rfl⟩
abbrev main_while0b_v66 : Ref sig .tc := ⟨.hbm, 105, rfl⟩
abbrev main_while0b_v67 : Ref sig .tc := ⟨.hbm, 106, rfl⟩
abbrev main_while0b_v68 : Ref sig .tc := ⟨.hbm, 107, rfl⟩
abbrev main_while0b_v69 : Ref sig .tc := ⟨.hbm, 108, rfl⟩
abbrev main_while0b_cst_14 : Ref sig .tc := ⟨.hbm, 109, rfl⟩
abbrev main_while0b_v70 : Ref sig .tc := ⟨.hbm, 110, rfl⟩
abbrev main_while0b_v71 : Ref sig .tc := ⟨.hbm, 111, rfl⟩
abbrev main_while0b_cst_15 : Ref sig .tc := ⟨.hbm, 112, rfl⟩
abbrev main_while0b_v72 : Ref sig .tc := ⟨.hbm, 113, rfl⟩
abbrev main_while0b_v73 : Ref sig .tc := ⟨.hbm, 114, rfl⟩
abbrev main_while0b_v74 : Ref sig .tc := ⟨.hbm, 115, rfl⟩
abbrev main_while0b_v75 : Ref sig .tc := ⟨.hbm, 116, rfl⟩
abbrev main_while0b_v76 : Ref sig .tc := ⟨.hbm, 117, rfl⟩
abbrev main_while0b_v77 : Ref sig .tc := ⟨.hbm, 118, rfl⟩
abbrev main_while0b_v78 : Ref sig .tc := ⟨.hbm, 119, rfl⟩
abbrev main_while0b_v79 : Ref sig .tc := ⟨.hbm, 120, rfl⟩
abbrev main_while0b_cst_16 : Ref sig .tc := ⟨.hbm, 121, rfl⟩
abbrev main_while0b_v80 : Ref sig .tc := ⟨.hbm, 122, rfl⟩
abbrev main_while0b_v81 : Ref sig .tc := ⟨.hbm, 123, rfl⟩
abbrev main_while0b_v82 : Ref sig .tc := ⟨.hbm, 124, rfl⟩
abbrev main_while0b_v83 : Ref sig .tc := ⟨.hbm, 125, rfl⟩
abbrev main_while0b_call3_v0 : Ref sig .tc := ⟨.hbm, 126, rfl⟩
abbrev main_while0b_call3_c : Ref sig .tc := ⟨.hbm, 127, rfl⟩
abbrev main_while0b_call3_c_0 : Ref sig .tc := ⟨.hbm, 128, rfl⟩
abbrev main_while0b_v84 : Ref sig .tc := ⟨.hbm, 129, rfl⟩
abbrev main_while0b_c_17 : Ref sig .tc := ⟨.hbm, 130, rfl⟩
abbrev main_while0b_v85 : Ref sig .tc := ⟨.hbm, 131, rfl⟩
abbrev main_v12 : Ref sig .tc := ⟨.hbm, 132, rfl⟩
abbrev main_v13 : Ref sig .tc := ⟨.hbm, 133, rfl⟩
abbrev main_v14 : Ref sig .tc := ⟨.hbm, 134, rfl⟩
abbrev main_v15 : Ref sig .tc := ⟨.hbm, 135, rfl⟩
abbrev main_v16 : Ref sig .tc := ⟨.hbm, 136, rfl⟩
abbrev main_v17 : Ref sig .tc := ⟨.hbm, 137, rfl⟩
abbrev main_v18 : Ref sig .tc := ⟨.hbm, 138, rfl⟩
abbrev main_v19 : Ref sig .tc := ⟨.hbm, 139, rfl⟩
abbrev main_cst_1 : Ref sig .tc := ⟨.hbm, 140, rfl⟩
abbrev main_v20 : Ref sig .tc := ⟨.hbm, 141, rfl⟩
abbrev main_c_2 : Ref sig .tc := ⟨.hbm, 142, rfl⟩
abbrev main_v21_0 : Ref sig .tc := ⟨.hbm, 143, rfl⟩
abbrev main_v21_1 : Ref sig .tc := ⟨.hbm, 144, rfl⟩
abbrev main_v21_2 : Ref sig .tc := ⟨.hbm, 145, rfl⟩
abbrev main_v21_3 : Ref sig .tc := ⟨.hbm, 146, rfl⟩
abbrev main_v21_4 : Ref sig .tc := ⟨.hbm, 147, rfl⟩
abbrev main_v21_5 : Ref sig .tc := ⟨.hbm, 148, rfl⟩
abbrev main_while1c_c_12 : Ref sig .tc := ⟨.hbm, 149, rfl⟩
abbrev main_while1c_v49 : Ref sig .tc := ⟨.hbm, 150, rfl⟩
abbrev main_while1b_call4_c : Ref sig .tc := ⟨.hbm, 151, rfl⟩
abbrev main_while1b_call4_c_0 : Ref sig .tc := ⟨.hbm, 152, rfl⟩
abbrev main_while1b_call4_v0 : Ref sig .tc := ⟨.hbm, 153, rfl⟩
abbrev main_while1b_v49 : Ref sig .tc := ⟨.hbm, 154, rfl⟩
abbrev main_while1b_v50 : Ref sig .tc := ⟨.hbm, 155, rfl⟩
abbrev main_while1b_v51 : Ref sig .tc := ⟨.hbm, 156, rfl⟩
abbrev main_while1b_v52 : Ref sig .tc := ⟨.hbm, 157, rfl⟩
abbrev main_while1b_v53 : Ref sig .tc := ⟨.hbm, 158, rfl⟩
abbrev main_while1b_v54 : Ref sig .tc := ⟨.hbm, 159, rfl⟩
abbrev main_while1b_v55 : Ref sig .tc := ⟨.hbm, 160, rfl⟩
abbrev main_while1b_v56 : Ref sig .tc := ⟨.hbm, 161, rfl⟩
abbrev main_while1b_v57 : Ref sig .tc := ⟨.hbm, 162, rfl⟩
abbrev main_while1b_v58 : Ref sig .tc := ⟨.hbm, 163, rfl⟩
abbrev main_while1b_v59 : Ref sig .tc := ⟨.hbm, 164, rfl⟩
abbrev main_while1b_v60 : Ref sig .tc := ⟨.hbm, 165, rfl⟩
abbrev main_while1b_cst_12 : Ref sig .tc := ⟨.hbm, 166, rfl⟩
abbrev main_while1b_v61 : Ref sig .tc := ⟨.hbm, 167, rfl⟩
abbrev main_while1b_v62 : Ref sig .tc := ⟨.hbm, 168, rfl⟩
abbrev main_while1b_cst_13 : Ref sig .tc := ⟨.hbm, 169, rfl⟩
abbrev main_while1b_v63 : Ref sig .tc := ⟨.hbm, 170, rfl⟩
abbrev main_while1b_v64 : Ref sig .tc := ⟨.hbm, 171, rfl⟩
abbrev main_while1b_v65 : Ref sig .tc := ⟨.hbm, 172, rfl⟩
abbrev main_while1b_v66 : Ref sig .tc := ⟨.hbm, 173, rfl⟩
abbrev main_while1b_v67 : Ref sig .tc := ⟨.hbm, 174, rfl⟩
abbrev main_while1b_v68 : Ref sig .tc := ⟨.hbm, 175, rfl⟩
abbrev main_while1b_v69 : Ref sig .tc := ⟨.hbm, 176, rfl⟩
abbrev main_while1b_cst_14 : Ref sig .tc := ⟨.hbm, 177, rfl⟩
abbrev main_while1b_v70 : Ref sig .tc := ⟨.hbm, 178, rfl⟩
abbrev main_while1b_v71 : Ref sig .tc := ⟨.hbm, 179, rfl⟩
abbrev main_while1b_cst_15 : Ref sig .tc := ⟨.hbm, 180, rfl⟩
abbrev main_while1b_v72 : Ref sig .tc := ⟨.hbm, 181, rfl⟩
abbrev main_while1b_v73 : Ref sig .tc := ⟨.hbm, 182, rfl⟩
abbrev main_while1b_v74 : Ref sig .tc := ⟨.hbm, 183, rfl⟩
abbrev main_while1b_v75 : Ref sig .tc := ⟨.hbm, 184, rfl⟩
abbrev main_while1b_v76 : Ref sig .tc := ⟨.hbm, 185, rfl⟩
abbrev main_while1b_v77 : Ref sig .tc := ⟨.hbm, 186, rfl⟩
abbrev main_while1b_v78 : Ref sig .tc := ⟨.hbm, 187, rfl⟩
abbrev main_while1b_v79 : Ref sig .tc := ⟨.hbm, 188, rfl⟩
abbrev main_while1b_cst_16 : Ref sig .tc := ⟨.hbm, 189, rfl⟩
abbrev main_while1b_v80 : Ref sig .tc := ⟨.hbm, 190, rfl⟩
abbrev main_while1b_v81 : Ref sig .tc := ⟨.hbm, 191, rfl⟩
abbrev main_while1b_v82 : Ref sig .tc := ⟨.hbm, 192, rfl⟩
abbrev main_while1b_v83 : Ref sig .tc := ⟨.hbm, 193, rfl⟩
abbrev main_while1b_call5_v0 : Ref sig .tc := ⟨.hbm, 194, rfl⟩
abbrev main_while1b_call5_c : Ref sig .tc := ⟨.hbm, 195, rfl⟩
abbrev main_while1b_call5_c_0 : Ref sig .tc := ⟨.hbm, 196, rfl⟩
abbrev main_while1b_v84 : Ref sig .tc := ⟨.hbm, 197, rfl⟩
abbrev main_while1b_c_17 : Ref sig .tc := ⟨.hbm, 198, rfl⟩
abbrev main_while1b_v85 : Ref sig .tc := ⟨.hbm, 199, rfl⟩
abbrev main_v22 : Ref sig .tc := ⟨.hbm, 200, rfl⟩
abbrev main_v23 : Ref sig .tc := ⟨.hbm, 201, rfl⟩
abbrev main_v24 : Ref sig .tc := ⟨.hbm, 202, rfl⟩
abbrev main_v25 : Ref sig .tc := ⟨.hbm, 203, rfl⟩
abbrev main_v26 : Ref sig .tc := ⟨.hbm, 204, rfl⟩
abbrev main_v27 : Ref sig .tc := ⟨.hbm, 205, rfl⟩
abbrev main_v28 : Ref sig .tc := ⟨.hbm, 206, rfl⟩
abbrev main_v29 : Ref sig .tc := ⟨.hbm, 207, rfl⟩
abbrev main_cst_3 : Ref sig .tc := ⟨.hbm, 208, rfl⟩
abbrev main_v30 : Ref sig .tc := ⟨.hbm, 209, rfl⟩
abbrev main_c_4 : Ref sig .tc := ⟨.hbm, 210, rfl⟩
abbrev main_v31_0 : Ref sig .tc := ⟨.hbm, 211, rfl⟩
abbrev main_v31_1 : Ref sig .tc := ⟨.hbm, 212, rfl⟩
abbrev main_v31_2 : Ref sig .tc := ⟨.hbm, 213, rfl⟩
abbrev main_v31_3 : Ref sig .tc := ⟨.hbm, 214, rfl⟩
abbrev main_v31_4 : Ref sig .tc := ⟨.hbm, 215, rfl⟩
abbrev main_v31_5 : Ref sig .tc := ⟨.hbm, 216, rfl⟩
abbrev main_while2c_c_12 : Ref sig .tc := ⟨.hbm, 217, rfl⟩
abbrev main_while2c_v49 : Ref sig .tc := ⟨.hbm, 218, rfl⟩
abbrev main_while2b_call6_c : Ref sig .tc := ⟨.hbm, 219, rfl⟩
abbrev main_while2b_call6_c_0 : Ref sig .tc := ⟨.hbm, 220, rfl⟩
abbrev main_while2b_call6_v0 : Ref sig .tc := ⟨.hbm, 221, rfl⟩
abbrev main_while2b_v49 : Ref sig .tc := ⟨.hbm, 222, rfl⟩
abbrev main_while2b_v50 : Ref sig .tc := ⟨.hbm, 223, rfl⟩
abbrev main_while2b_v51 : Ref sig .tc := ⟨.hbm, 224, rfl⟩
abbrev main_while2b_v52 : Ref sig .tc := ⟨.hbm, 225, rfl⟩
abbrev main_while2b_v53 : Ref sig .tc := ⟨.hbm, 226, rfl⟩
abbrev main_while2b_v54 : Ref sig .tc := ⟨.hbm, 227, rfl⟩
abbrev main_while2b_v55 : Ref sig .tc := ⟨.hbm, 228, rfl⟩
abbrev main_while2b_v56 : Ref sig .tc := ⟨.hbm, 229, rfl⟩
abbrev main_while2b_v57 : Ref sig .tc := ⟨.hbm, 230, rfl⟩
abbrev main_while2b_v58 : Ref sig .tc := ⟨.hbm, 231, rfl⟩
abbrev main_while2b_v59 : Ref sig .tc := ⟨.hbm, 232, rfl⟩
abbrev main_while2b_v60 : Ref sig .tc := ⟨.hbm, 233, rfl⟩
abbrev main_while2b_cst_12 : Ref sig .tc := ⟨.hbm, 234, rfl⟩
abbrev main_while2b_v61 : Ref sig .tc := ⟨.hbm, 235, rfl⟩
abbrev main_while2b_v62 : Ref sig .tc := ⟨.hbm, 236, rfl⟩
abbrev main_while2b_cst_13 : Ref sig .tc := ⟨.hbm, 237, rfl⟩
abbrev main_while2b_v63 : Ref sig .tc := ⟨.hbm, 238, rfl⟩
abbrev main_while2b_v64 : Ref sig .tc := ⟨.hbm, 239, rfl⟩
abbrev main_while2b_v65 : Ref sig .tc := ⟨.hbm, 240, rfl⟩
abbrev main_while2b_v66 : Ref sig .tc := ⟨.hbm, 241, rfl⟩
abbrev main_while2b_v67 : Ref sig .tc := ⟨.hbm, 242, rfl⟩
abbrev main_while2b_v68 : Ref sig .tc := ⟨.hbm, 243, rfl⟩
abbrev main_while2b_v69 : Ref sig .tc := ⟨.hbm, 244, rfl⟩
abbrev main_while2b_cst_14 : Ref sig .tc := ⟨.hbm, 245, rfl⟩
abbrev main_while2b_v70 : Ref sig .tc := ⟨.hbm, 246, rfl⟩
abbrev main_while2b_v71 : Ref sig .tc := ⟨.hbm, 247, rfl⟩
abbrev main_while2b_cst_15 : Ref sig .tc := ⟨.hbm, 248, rfl⟩
abbrev main_while2b_v72 : Ref sig .tc := ⟨.hbm, 249, rfl⟩
abbrev main_while2b_v73 : Ref sig .tc := ⟨.hbm, 250, rfl⟩
abbrev main_while2b_v74 : Ref sig .tc := ⟨.hbm, 251, rfl⟩
abbrev main_while2b_v75 : Ref sig .tc := ⟨.hbm, 252, rfl⟩
abbrev main_while2b_v76 : Ref sig .tc := ⟨.hbm, 253, rfl⟩
abbrev main_while2b_v77 : Ref sig .tc := ⟨.hbm, 254, rfl⟩
abbrev main_while2b_v78 : Ref sig .tc := ⟨.hbm, 255, rfl⟩
abbrev main_while2b_v79 : Ref sig .tc := ⟨.hbm, 256, rfl⟩
abbrev main_while2b_cst_16 : Ref sig .tc := ⟨.hbm, 257, rfl⟩
abbrev main_while2b_v80 : Ref sig .tc := ⟨.hbm, 258, rfl⟩
abbrev main_while2b_v81 : Ref sig .tc := ⟨.hbm, 259, rfl⟩
abbrev main_while2b_v82 : Ref sig .tc := ⟨.hbm, 260, rfl⟩
abbrev main_while2b_v83 : Ref sig .tc := ⟨.hbm, 261, rfl⟩
abbrev main_while2b_call7_v0 : Ref sig .tc := ⟨.hbm, 262, rfl⟩
abbrev main_while2b_call7_c : Ref sig .tc := ⟨.hbm, 263, rfl⟩
abbrev main_while2b_call7_c_0 : Ref sig .tc := ⟨.hbm, 264, rfl⟩
abbrev main_while2b_v84 : Ref sig .tc := ⟨.hbm, 265, rfl⟩
abbrev main_while2b_c_17 : Ref sig .tc := ⟨.hbm, 266, rfl⟩
abbrev main_while2b_v85 : Ref sig .tc := ⟨.hbm, 267, rfl⟩
abbrev main_v32 : Ref sig .tc := ⟨.hbm, 268, rfl⟩
abbrev main_v33 : Ref sig .tc := ⟨.hbm, 269, rfl⟩
abbrev main_v34 : Ref sig .tc := ⟨.hbm, 270, rfl⟩
abbrev main_v35 : Ref sig .tc := ⟨.hbm, 271, rfl⟩
abbrev main_v36 : Ref sig .tc := ⟨.hbm, 272, rfl⟩
abbrev main_v37 : Ref sig .tc := ⟨.hbm, 273, rfl⟩
abbrev main_v38 : Ref sig .tc := ⟨.hbm, 274, rfl⟩
abbrev main_v39 : Ref sig .tc := ⟨.hbm, 275, rfl⟩
abbrev main_cst_5 : Ref sig .tc := ⟨.hbm, 276, rfl⟩
abbrev main_v40 : Ref sig .tc := ⟨.hbm, 277, rfl⟩
abbrev main_c_6 : Ref sig .tc := ⟨.hbm, 278, rfl⟩
abbrev main_v41_0 : Ref sig .tc := ⟨.hbm, 279, rfl⟩
abbrev main_v41_1 : Ref sig .tc := ⟨.hbm, 280, rfl⟩
abbrev main_v41_2 : Ref sig .tc := ⟨.hbm, 281, rfl⟩
abbrev main_v41_3 : Ref sig .tc := ⟨.hbm, 282, rfl⟩
abbrev main_v41_4 : Ref sig .tc := ⟨.hbm, 283, rfl⟩
abbrev main_v41_5 : Ref sig .tc := ⟨.hbm, 284, rfl⟩
abbrev main_while3c_c_12 : Ref sig .tc := ⟨.hbm, 285, rfl⟩
abbrev main_while3c_v49 : Ref sig .tc := ⟨.hbm, 286, rfl⟩
abbrev main_while3b_call8_c : Ref sig .tc := ⟨.hbm, 287, rfl⟩
abbrev main_while3b_call8_c_0 : Ref sig .tc := ⟨.hbm, 288, rfl⟩
abbrev main_while3b_call8_v0 : Ref sig .tc := ⟨.hbm, 289, rfl⟩
abbrev main_while3b_v49 : Ref sig .tc := ⟨.hbm, 290, rfl⟩
abbrev main_while3b_v50 : Ref sig .tc := ⟨.hbm, 291, rfl⟩
abbrev main_while3b_v51 : Ref sig .tc := ⟨.hbm, 292, rfl⟩
abbrev main_while3b_v52 : Ref sig .tc := ⟨.hbm, 293, rfl⟩
abbrev main_while3b_v53 : Ref sig .tc := ⟨.hbm, 294, rfl⟩
abbrev main_while3b_v54 : Ref sig .tc := ⟨.hbm, 295, rfl⟩
abbrev main_while3b_v55 : Ref sig .tc := ⟨.hbm, 296, rfl⟩
abbrev main_while3b_v56 : Ref sig .tc := ⟨.hbm, 297, rfl⟩
abbrev main_while3b_v57 : Ref sig .tc := ⟨.hbm, 298, rfl⟩
abbrev main_while3b_v58 : Ref sig .tc := ⟨.hbm, 299, rfl⟩
abbrev main_while3b_v59 : Ref sig .tc := ⟨.hbm, 300, rfl⟩
abbrev main_while3b_v60 : Ref sig .tc := ⟨.hbm, 301, rfl⟩
abbrev main_while3b_cst_12 : Ref sig .tc := ⟨.hbm, 302, rfl⟩
abbrev main_while3b_v61 : Ref sig .tc := ⟨.hbm, 303, rfl⟩
abbrev main_while3b_v62 : Ref sig .tc := ⟨.hbm, 304, rfl⟩
abbrev main_while3b_cst_13 : Ref sig .tc := ⟨.hbm, 305, rfl⟩
abbrev main_while3b_v63 : Ref sig .tc := ⟨.hbm, 306, rfl⟩
abbrev main_while3b_v64 : Ref sig .tc := ⟨.hbm, 307, rfl⟩
abbrev main_while3b_v65 : Ref sig .tc := ⟨.hbm, 308, rfl⟩
abbrev main_while3b_v66 : Ref sig .tc := ⟨.hbm, 309, rfl⟩
abbrev main_while3b_v67 : Ref sig .tc := ⟨.hbm, 310, rfl⟩
abbrev main_while3b_v68 : Ref sig .tc := ⟨.hbm, 311, rfl⟩
abbrev main_while3b_v69 : Ref sig .tc := ⟨.hbm, 312, rfl⟩
abbrev main_while3b_cst_14 : Ref sig .tc := ⟨.hbm, 313, rfl⟩
abbrev main_while3b_v70 : Ref sig .tc := ⟨.hbm, 314, rfl⟩
abbrev main_while3b_v71 : Ref sig .tc := ⟨.hbm, 315, rfl⟩
abbrev main_while3b_cst_15 : Ref sig .tc := ⟨.hbm, 316, rfl⟩
abbrev main_while3b_v72 : Ref sig .tc := ⟨.hbm, 317, rfl⟩
abbrev main_while3b_v73 : Ref sig .tc := ⟨.hbm, 318, rfl⟩
abbrev main_while3b_v74 : Ref sig .tc := ⟨.hbm, 319, rfl⟩
abbrev main_while3b_v75 : Ref sig .tc := ⟨.hbm, 320, rfl⟩
abbrev main_while3b_v76 : Ref sig .tc := ⟨.hbm, 321, rfl⟩
abbrev main_while3b_v77 : Ref sig .tc := ⟨.hbm, 322, rfl⟩
abbrev main_while3b_v78 : Ref sig .tc := ⟨.hbm, 323, rfl⟩
abbrev main_while3b_v79 : Ref sig .tc := ⟨.hbm, 324, rfl⟩
abbrev main_while3b_cst_16 : Ref sig .tc := ⟨.hbm, 325, rfl⟩
abbrev main_while3b_v80 : Ref sig .tc := ⟨.hbm, 326, rfl⟩
abbrev main_while3b_v81 : Ref sig .tc := ⟨.hbm, 327, rfl⟩
abbrev main_while3b_v82 : Ref sig .tc := ⟨.hbm, 328, rfl⟩
abbrev main_while3b_v83 : Ref sig .tc := ⟨.hbm, 329, rfl⟩
abbrev main_while3b_call9_v0 : Ref sig .tc := ⟨.hbm, 330, rfl⟩
abbrev main_while3b_call9_c : Ref sig .tc := ⟨.hbm, 331, rfl⟩
abbrev main_while3b_call9_c_0 : Ref sig .tc := ⟨.hbm, 332, rfl⟩
abbrev main_while3b_v84 : Ref sig .tc := ⟨.hbm, 333, rfl⟩
abbrev main_while3b_c_17 : Ref sig .tc := ⟨.hbm, 334, rfl⟩
abbrev main_while3b_v85 : Ref sig .tc := ⟨.hbm, 335, rfl⟩
abbrev main_v42 : Ref sig .tc := ⟨.hbm, 336, rfl⟩
abbrev main_v43 : Ref sig .tc := ⟨.hbm, 337, rfl⟩
abbrev main_v44 : Ref sig .tc := ⟨.hbm, 338, rfl⟩
abbrev main_v45 : Ref sig .tc := ⟨.hbm, 339, rfl⟩
abbrev main_v46 : Ref sig .tc := ⟨.hbm, 340, rfl⟩
abbrev main_v47 : Ref sig .tc := ⟨.hbm, 341, rfl⟩
abbrev main_v48 : Ref sig .tc := ⟨.hbm, 342, rfl⟩

abbrev nD : Nat := 1
abbrev τ : Topo := Topo.v7x

variable {F : FTy → Type} [FloatOps F]

abbrev main_while0_count : Scf.Loop 32 := ⟨0#32, 256#32, 1#32⟩

abbrev main_while1_count : Scf.Loop 32 := ⟨0#32, 256#32, 1#32⟩

abbrev main_while2_count : Scf.Loop 32 := ⟨0#32, 256#32, 1#32⟩

abbrev main_while3_count : Scf.Loop 32 := ⟨0#32, 256#32, 1#32⟩
-- ==== Proof.Tile.lean ====
/-
  The rows the tiles fetch, one task proved at a symbolic core and subcore.

  A task copies its sixteen rows of the token table into its own memory, and for each of them fetches the sixty-four
  rows of the embedding table that the tokens name, two fetches in flight at a time, and copies them out to its block
  of the result. What is proved is that the block ends holding exactly those rows.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.Kernel
public import proofs.«01_k».proof.Proof.Gen.Kernel.Skeleton

@[expose] public section

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost algebra: the handshakes, the pipeline's cells, the transfers' counters -/

abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL

/-! ## The buffers -/

abbrev tLoc (d : Dev nD) : Loc nD τ sig := (SparseCore.T d).loc main_v2
abbrev eLoc (d : Dev nD) : Loc nD τ sig := (SparseCore.T d).loc main_arg2
abbrev oLoc (d : Dev nD) : Loc nD τ sig := (SparseCore.T d).loc main_v3

local notation "tV" => (Memref.whole Cert.Kernel.main_v2_scv : Memref Cert.Kernel.sig Kind.scVector Space.hbm Cert.Kernel.S512x64 EltTy.i32)
local notation "eV" => (Memref.whole Cert.Kernel.main_arg2_scv : Memref Cert.Kernel.sig Kind.scVector Space.hbm Cert.Kernel.S100000x128 EltTy.f32)
local notation "oV" => (Memref.whole Cert.Kernel.main_v3_scv : Memref Cert.Kernel.sig Kind.scVector Space.hbm Cert.Kernel.S32768x128 EltTy.f32)
local notation "sV" => (Memref.whole Cert.Kernel.cc0_scratch0 : Memref Cert.Kernel.sig Kind.scVector Space.vmem Cert.Kernel.S16x64 EltTy.i32)
local notation "rV" => (Memref.whole Cert.Kernel.cc0_scratch1 : Memref Cert.Kernel.sig Kind.scVector Space.vmem Cert.Kernel.S2x64x128 EltTy.f32)

theorem tdiv : 32 ∣ S512x64.size 0 := ⟨16, rfl⟩
theorem odiv : 512 ∣ S32768x128.size 0 := ⟨64, rfl⟩
abbrev tblk (i : Fin 32) : Rect S512x64 := Rect.part (s := S512x64) (a₀ := 0) tdiv i
abbrev oblk (i : Fin 512) : Rect S32768x128 := Rect.part (s := S32768x128) (a₀ := 0) odiv i
abbrev tSet (i : Fin 32) : Finset S512x64.Idx := ((tV).view.slice (tblk i)).set
abbrev oSet (i : Fin 512) : Finset S32768x128.Idx := ((oV).view.slice (oblk i)).set

/-! ## Shares of the embedding table: the full share halved five times -/

/-- Part `i` of share `q` after `n` halvings. -/
def part : ℕ → PosShare TreeShare → ℕ → PosShare TreeShare
  | 0, q, _ => q
  | n + 1, q, i => if i < 2 ^ n then part n q.left i else part n q.right (i - 2 ^ n)

/-- The two halves of the parts after `n + 1` halvings. -/
def halves (n : ℕ) : Fin (2 ^ n) ⊕ Fin (2 ^ n) ≃ Fin (2 ^ (n + 1)) := finSumFinEquiv.trans (finCongr (by rw [pow_succ]; omega))

theorem part_low (n : ℕ) (q : PosShare TreeShare) (i : Fin (2 ^ n)) : part (n + 1) q (halves n (.inl i)).val = part n q.left i.val := by
  have e : (halves n (.inl i)).val = i.val := by simp [halves]
  rw [e]; exact if_pos i.isLt

theorem part_high (n : ℕ) (q : PosShare TreeShare) (i : Fin (2 ^ n)) : part (n + 1) q (halves n (.inr i)).val = part n q.right i.val := by
  have e : (halves n (.inr i)).val = 2 ^ n + i.val := by simp [halves]; omega
  rw [e]; refine (if_neg (by omega)).trans ?_
  rw [Nat.add_sub_cancel_left]

/-- A buffer held at a share is held at that share's parts. -/
theorem pointsTo_parts {ℓ : Loc nD τ sig} (I : Finset (Idx ℓ)) (f : Buf (Elt F) ℓ) (n : ℕ) :
    ∀ q : PosShare TreeShare, (ℓ ↦[I]{q} f : sProp 𝕄) = bigSep Finset.univ fun i : Fin (2 ^ n) => ℓ ↦[I]{part n q i.val} f := by
  induction n with
  | zero => exact fun q => (bigSep_univ_of_subsingleton (0 : Fin 1) (Φ := fun i : Fin (2 ^ 0) => (ℓ ↦[I]{part 0 q i.val} f : sProp 𝕄))).symm
  | succ n ih =>
    intro q
    have hq := pointsTo_share (Ix := HIx 1) (Name := ℕ) (U := UU) (Lvl := ℕ) (Val := Elt F) (ℓ := ℓ) (I := I) (f := f) (PosShare.mem_left_op_right q)
    rw [BI.Entails.antisymm hq.1 hq.2, ih q.left, ih q.right,
      bigSep_univ_equiv (halves n) (fun i : Fin (2 ^ (n + 1)) => (ℓ ↦[I]{part (n + 1) q i.val} f : sProp 𝕄)), bigSep_univ_sum]
    simp only [part_low, part_high]
    rfl

/-- Task `w`'s share of the embedding table. -/
abbrev eq (w : Fin 32) : PosShare TreeShare := part 5 fullShare w.val

/-! ## What a task is handed and hands back -/

/-- The rows the tokens of `t` name: row `n` of the result is row `t[n / 64, n % 64]` of the table `g`. -/
def rowsOf (t : S512x64.Idx → BitVec 32) (g : S100000x128.Idx → Elt F .f32) : S32768x128.Idx → Elt F .f32 := fun x =>
  g (fun | 0 => ⟨(t (fun | 0 => ⟨(x 0).val / 64, by have : (x 0).val < 32768 := (x 0).isLt; show _ < 512; omega⟩
                         | 1 => ⟨(x 0).val % 64, Nat.mod_lt _ (by decide)⟩)).toNat % 100000, Nat.mod_lt _ (by decide)⟩
         | 1 => ⟨(x 1).val, (x 1).isLt⟩)

/-- Every token names a row of the table. -/
def InTable (t : S512x64.Idx → BitVec 32) : Prop := ∀ j, (t j).toNat < 100000

variable (t : (d : Dev nD) → Buf (Elt F) (tLoc d)) (g : (d : Dev nD) → Buf (Elt F) (eLoc d))

/-- Task `(c, s)` as one number. -/
def wid (c : Fin 2) (s : Fin 16) : Fin 32 := ⟨16 * c.val + s.val, by omega⟩
/-- Its block `r` as one number. -/
def bid (c : Fin 2) (s : Fin 16) (r : Fin 16) : Fin 512 := ⟨256 * c.val + 16 * s.val + r.val, by omega⟩

abbrev tBlkPts (d : Dev nD) (w : Fin 32) : sProp 𝕄 := tLoc d ↦[tSet w]{fullShare} t d
abbrev eShPts (d : Dev nD) (w : Fin 32) : sProp 𝕄 := eLoc d ↦{eq w} g d
abbrev oBlkPts (d : Dev nD) (b : Fin 512) (f : Buf (Elt F) (oLoc d)) : sProp 𝕄 := oLoc d ↦[oSet b]{fullShare} f

/-! ## The task -/

section Task

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

/-- The task's rows of the token table, and block `r` of its rows of the result, as the task addresses them. -/
abbrev tK (L : grid0.Coords) : Memref sig .scVector .hbm S16x64 .i32 := (tV).slice (Rect.unit (s := S512x64) (k0_off1 L) S16x64.size (k0_off1_inb L)) (fun _ => rfl)
abbrev oK (L : grid0.Coords) (r : Fin 16) : Memref sig .scVector .hbm S64x128 .f32 := (oV).slice (Rect.unit (s := S32768x128) (k0_off2 L (BitVec.ofNat 32 r.val)) S64x128.size (k0_off2_inb L r)) (fun _ => rfl)

theorem tK_rect : Rect.unit (s := S512x64) (k0_off1 L) S16x64.size (k0_off1_inb L) = tblk (wid (cL L) (jL L)) := by
  unfold tblk Rect.part Rect.block
  congr 1 <;> funext a
  · rw [k0_off1_eq]
    match a with
    | 0 => simp [Shape.partIx, Shape.partSize, wid]; omega
    | 1 => simp [Shape.partIx, Shape.partSize]
  · match a with
    | 0 => simp [Shape.partSize]
    | 1 => simp [Shape.partSize]

theorem oK_rect (r : Fin 16) : Rect.unit (s := S32768x128) (k0_off2 L (BitVec.ofNat 32 r.val)) S64x128.size (k0_off2_inb L r) = oblk (bid (cL L) (jL L) r) := by
  unfold oblk Rect.part Rect.block
  congr 1 <;> funext a
  · rw [k0_off2_eq]
    match a with
    | 0 => simp [Shape.partIx, Shape.partSize, bid]; omega
    | 1 => simp [Shape.partIx, Shape.partSize]
  · match a with
    | 0 => simp [Shape.partSize]
    | 1 => simp [Shape.partSize]

theorem set_tK : (tK L).view.set = tSet (wid (cL L) (jL L)) := by
  show ((tV).view.slice (Rect.unit (s := S512x64) (k0_off1 L) S16x64.size (k0_off1_inb L))).set = ((tV).view.slice (tblk (wid (cL L) (jL L)))).set
  exact tK_rect L ▸ rfl
theorem set_oK (r : Fin 16) : (oK L r).view.set = oSet (bid (cL L) (jL L) r) := by
  show ((oV).view.slice (Rect.unit (s := S32768x128) (k0_off2 L (BitVec.ofNat 32 r.val)) S64x128.size (k0_off2_inb L r))).set = ((oV).view.slice (oblk (bid (cL L) (jL L) r))).set
  exact oK_rect L r ▸ rfl

theorem pts_tK (f : Buf (Elt F) (tLoc d)) :
    ((tK L).view.loc (V d (cV L) (jV L)) ↦[(tK L).view.set]{fullShare} f : sProp 𝕄) = tLoc d ↦[tSet (wid (cL L) (jL L))]{fullShare} f := by
  rw [set_tK]
theorem pts_oK (r : Fin 16) (f : Buf (Elt F) (oLoc d)) :
    ((oK L r).view.loc (V d (cV L) (jV L)) ↦[(oK L r).view.set]{fullShare} f : sProp 𝕄) = oBlkPts d (bid (cL L) (jL L) r) f := by
  rw [set_oK]
theorem pts_eV (q : PosShare TreeShare) (f : Buf (Elt F) (eLoc d)) :
    ((eV).view.loc (V d (cV L) (jV L)) ↦{q} f : sProp 𝕄) = eLoc d ↦{q} f := rfl

/-! ### The task's own memory and semaphores -/

theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev cell (d : Dev nD) (c : Fin τ.nSC) (i : Fin τ.nSub) (x : DmaSem sig) : GSem nD τ sig := (V d c i, .dma x)

/-- The nineteen semaphores a task uses. -/
abbrev sems : Fin 19 → DmaSem sig := ![cc0_scratch2.sem, cc0_scratch3.sem, cc0_scoped0.sem, cc0_scoped1.sem, cc0_scoped2.sem, cc0_scoped3.sem, cc0_scoped4.sem, cc0_scoped5.sem, cc0_scoped6.sem, cc0_scoped7.sem, cc0_scoped8.sem, cc0_scoped9.sem, cc0_scoped10.sem, cc0_scoped11.sem, cc0_scoped12.sem, cc0_scoped13.sem, cc0_scoped14.sem, cc0_scoped15.sem, cc0_scoped16.sem]

theorem sems_inj : Function.Injective sems := by decide
theorem sems_scoped : ∀ k, (SemLoc.dma (sems k) : SemLoc sig).isScoped .scVector = true := by decide

/-- The task's semaphores: those nineteen and the others. -/
theorem ownSems0_V :
    (ownSems0 (V d (cV L) (jV L)) : sProp 𝕄)
      = iprop((bigSep Finset.univ fun k : Fin 19 => semVal (cell d (cV L) (jV L) (sems k)) 0)
          ∗ bigSep (ownCells (V d (cV L) (jV L)) \ Finset.univ.image fun k : Fin 19 => cell d (cV L) (jV L) (sems k)) fun x => semVal x 0) := by
  have hsub : (Finset.univ.image fun k : Fin 19 => cell d (cV L) (jV L) (sems k)) ⊆ ownCells (V d (cV L) (jV L)) := by
    intro x hx
    obtain ⟨k, -, rfl⟩ := Finset.mem_image.mp hx
    exact mem_ownCells.mpr ⟨rfl, sems_scoped k⟩
  have hinj : Function.Injective fun k : Fin 19 => cell d (cV L) (jV L) (sems k) := fun k k' e => by
    apply sems_inj
    have := congrArg Prod.snd e
    simpa [cell] using this
  unfold SparseCore.Cfg.ownSems0
  rw [SparseCore.bigSep_sdiff_split' hsub, SparseCore.bigSep_image_of_injOn hinj.injOn]

/-- The task's two buffers and its others. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- Nineteen conjuncts in a row. -/
theorem chain19 (Φ : Fin 19 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18) :=
  bigSep_eq_bigSepL_of_eq [0, 1, 2, 3, 4, 5, 6, 7, 8, 9, 10, 11, 12, 13, 14, 15, 16, 17, 18] (by decide) (by decide) Φ

/-- Sixteen conjuncts in a row. -/
theorem chain16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_eq_bigSepL_of_eq [0, 1, 2, 3, 4, 5, 6, 7, 8, 9, 10, 11, 12, 13, 14, 15] (by decide) (by decide) Φ

/-- Row `j` of the task's own token rows, as a fetch reads it. -/
abbrev lK (j : Fin 16) (h : ∀ a, (![j.val, 0] : Fin 2 → Nat) a + S1x64.size a ≤ S16x64.size a) : Memref sig .scVector .vmem S64 .i32 :=
  ((sV).slice (Rect.unit (s := S16x64) ![j.val, 0] S1x64.size h) (fun _ => rfl)).squeeze S64 squeezes_S1x64_S64

/-- The table as a fetch names it: all of its rows. -/
abbrev eK : Memref sig .scVector .hbm S100000x128 .f32 := (eV).slice (Rect.unit (s := S100000x128) ![0, 0] S100000x128.size inb_S100000x128_S100000x128_0_0) (fun _ => rfl)

theorem eK_emb (j : S100000x128.Idx) : (eK).view.emb j = j :=
  funext fun a => Fin.ext (by
    rw [show ((eK).view.emb j a : Nat) = (![0, 0] : Fin 2 → Nat) a + 1 * (j a).val from rfl]
    fin_cases a <;> simp)

theorem set_eK : (eK).view.set = Finset.univ :=
  Finset.eq_univ_iff_forall.2 fun j => Finset.mem_map.2 ⟨j, Finset.mem_univ _, eK_emb j⟩

theorem pts_eK (q : PosShare TreeShare) (f : Buf (Elt F) (eLoc d)) :
    ((eK).view.loc (V d (cV L) (jV L)) ↦[(eK).view.set]{q} f : sProp 𝕄) = eLoc d ↦{q} f := by
  rw [set_eK]

/-- A share of the table is two halves, one for each fetch under way. -/
theorem halve_eK (q : PosShare TreeShare) (f : Buf (Elt F) (eLoc d)) :
    (eLoc d ↦{q} f : sProp 𝕄) = iprop(((eK).view.loc (V d (cV L) (jV L)) ↦[(eK).view.set]{q.left} f) ∗ (eK).view.loc (V d (cV L) (jV L)) ↦[(eK).view.set]{q.right} f) := by
  rw [pts_eK, pts_eK]
  have h := pointsTo_share (Ix := HIx 1) (Name := ℕ) (U := UU) (Lvl := ℕ) (Val := Elt F) (ℓ := eLoc d) (I := Finset.univ) (f := f) (PosShare.mem_left_op_right q)
  exact Entails.antisymm h.1 h.2

/-- A list's words are in the table when all of them are. -/
theorem list_in (ts : Buf (Elt F) ((V d (cV L) (jV L)).loc cc0_scratch0)) (h : ∀ j : S16x64.Idx, (ts j).toNat < 100000) (j : Fin 16) (hj) :
    ∀ x, ((lK j hj).view.read (Elt F) ts x).toNat < S100000x128.size gathers_S100000x128_S64x128.axis := by
  intro x
  rw [show (lK j hj).view.read (Elt F) ts x = ts ((lK j hj).view.emb x) from (View.read_apply _ _).trans (cast_eq _ _)]
  exact h _

/-- Slot `b` of the two row buffers. -/
abbrev bK (b : Fin 2) (h : ∀ a, (![b.val, 0, 0] : Fin 3 → Nat) a + S1x64x128.size a ≤ S2x64x128.size a) : Memref sig .scVector .vmem S64x128 .f32 :=
  ((rV).slice (Rect.unit (s := S2x64x128) ![b.val, 0, 0] S1x64x128.size h) (fun _ => rfl)).squeeze S64x128 squeezes_S1x64x128_S64x128

abbrev bSet (b : Fin 2) : Finset S2x64x128.Idx := Finset.univ.filter fun j => (j 0).val = b.val

theorem set_bK (b : Fin 2) (h) : (bK b h).view.set = bSet b := by
  ext j
  rw [Finset.mem_filter, View.set_reshape, View.set_slice_whole, Rect.mem_set_unit]
  constructor
  · intro hj
    have h0 := hj 0
    refine ⟨Finset.mem_univ _, ?_⟩
    have h1 : b.val ≤ (j 0).val := h0.1
    have h2 : (j 0).val < b.val + 1 := h0.2
    omega
  · rintro ⟨-, hj⟩ a
    have h1 : (j 1).val < 64 := (j 1).isLt
    have h2 : (j 2).val < 128 := (j 2).isLt
    match a with
    | 0 => show b.val ≤ (j 0).val ∧ (j 0).val < b.val + 1; omega
    | 1 => show 0 ≤ (j 1).val ∧ (j 1).val < 0 + 64; omega
    | 2 => show 0 ≤ (j 2).val ∧ (j 2).val < 0 + 128; omega

theorem bSet_union : bSet 0 ∪ bSet 1 = Finset.univ := by
  ext j; have : (j 0).val < 2 := (j 0).isLt
  simp only [Finset.mem_union, Finset.mem_filter, Finset.mem_univ, true_and, iff_true]
  show (j 0).val = 0 ∨ (j 0).val = 1; omega

theorem bSet_disjoint : Disjoint (bSet 0) (bSet 1) := by
  rw [Finset.disjoint_left]; intro j h0 h1
  have e0 : (j 0).val = 0 := (Finset.mem_filter.1 h0).2
  have e1 : (j 0).val = 1 := (Finset.mem_filter.1 h1).2
  omega

/-- What was written into slot 0 is read back past a later write into slot 1, -/
theorem read_slot0 (f : Buf (Elt F) ((V d (cV L) (jV L)).loc cc0_scratch1)) (p q : S64x128.Idx → Elt F .f32) (h0 h1) :
    (bK 0 h0).view.read (Elt F) ((bK 1 h1).view.write (Elt F) ((bK 0 h0).view.write (Elt F) f p Finset.univ) q Finset.univ) = p := by
  refine (View.read_congr fun i hi => ?_).trans (View.read_write_univ f p)
  exact View.write_of_not_mem _ _ _ fun hm => Finset.disjoint_left.mp bSet_disjoint (by rw [set_bK] at hi; exact hi) (by rw [View.setOn_univ, set_bK] at hm; exact hm)

/-- and the other way around. -/
theorem read_slot1 (f : Buf (Elt F) ((V d (cV L) (jV L)).loc cc0_scratch1)) (p q : S64x128.Idx → Elt F .f32) (h0 h1) :
    (bK 1 h1).view.read (Elt F) ((bK 0 h0).view.write (Elt F) ((bK 1 h1).view.write (Elt F) f p Finset.univ) q Finset.univ) = p := by
  refine (View.read_congr fun i hi => ?_).trans (View.read_write_univ f p)
  exact View.write_of_not_mem _ _ _ fun hm => Finset.disjoint_left.mp bSet_disjoint.symm (by rw [set_bK] at hi; exact hi) (by rw [View.setOn_univ, set_bK] at hm; exact hm)

/-- Place `k` of list `j`, in the task's token rows. -/
def lrow (j : Fin 16) (k : Fin 64) : S16x64.Idx := fun | 0 => j | 1 => k

/-- The word a fetch finds at place `k` of list `j`. -/
theorem lK_word (ts : Buf (Elt F) ((V d (cV L) (jV L)).loc cc0_scratch0)) (j : Fin 16) (hj) (k : S64.Idx) :
    (lK j hj).view.read (Elt F) ts k = ts (lrow j (k 0)) := by
  rw [show (lK j hj).view.read (Elt F) ts k = ts ((lK j hj).view.emb k) from (View.read_apply _ _).trans (cast_eq _ _)]
  congr 1
  show (Rect.unit (s := S16x64) ![j.val, 0] S1x64.size hj).emb (Shape.reshapeEquiv _ k) = _
  rw [Shape.reshapeEquiv_cons_one (n := 1) (d := ![64])]
  funext a
  refine Fin.ext ?_
  match a with
  | 0 => show j.val + 1 * 0 = j.val; omega
  | 1 => show 0 + 1 * (k 0).val = (k 0).val; omega

/-- Block `r` of the rows the tokens name is what fetch `r` brings. -/
theorem gather_rows (ht : InTable (t d)) (ts : Buf (Elt F) ((V d (cV L) (jV L)).loc cc0_scratch0)) (htv : ∀ j : S16x64.Idx, ts j = t d ((tK L).view.emb j))
    (r : Fin 16) (hj) (hn) (hin) (x : S64x128.Idx) :
    SparseCore.gatherPayload gathers_S100000x128_S64x128 ((eK).view.read (Elt F) (g d)) (SparseCore.rows ((lK r hj).view.read (Elt F) ts) hn hin) x
      = rowsOf (t d) (g d) ((oK L r).view.emb x) := by
  unfold SparseCore.gatherPayload
  rw [show ∀ y, (eK).view.read (Elt F) (g d) y = g d y from fun y => ((View.read_apply _ _).trans (cast_eq _ _)).trans (congrArg (g d) (eK_emb y))]
  unfold rowsOf
  have hk : ∀ k : Fin 64, (S64.rowMajor.symm (k.cast hn.symm) 0).val = k.val := fun k => by
    have := Shape.rowMajor_val_one (d := ![64]) (S64.rowMajor.symm (k.cast hn.symm))
    rw [← this]; exact congrArg Fin.val (Equiv.apply_symm_apply S64.rowMajor _)
  have e0 : ((oK L r).view.emb x 0).val = 16384 * (L 0).val + 1024 * (L 1).val + 64 * r.val + (x 0).val := by
    show k0_off2 L (BitVec.ofNat 32 r.val) 0 + 1 * (x 0).val = _
    rw [k0_off2_eq]; simp
  have e1 : ((oK L r).view.emb x 1).val = (x 1).val := by
    show k0_off2 L (BitVec.ofNat 32 r.val) 1 + 1 * (x 1).val = _
    rw [k0_off2_eq]; simp
  have hx : (x 0).val < 64 := (x 0).isLt
  congr 1
  funext a
  refine Fin.ext ?_
  match a with
  | 0 =>
    show (((lK r hj).view.read (Elt F) ts (S64.rowMajor.symm ((x 0).cast hn.symm))).toNat) = _
    rw [lK_word, htv]
    have hlt := ht ((tK L).view.emb (lrow r (S64.rowMajor.symm ((x 0).cast hn.symm) 0)))
    rw [← Nat.mod_eq_of_lt hlt]
    show _ = (t d _).toNat % 100000
    congr 3
    funext b
    refine Fin.ext ?_
    have hk' := hk (x 0)
    match b with
    | 0 =>
      show k0_off1 L 0 + 1 * r.val = ((oK L r).view.emb x 0).val / 64
      rw [k0_off1_eq, e0]; simp; omega
    | 1 =>
      show k0_off1 L 1 + 1 * (S64.rowMajor.symm ((x 0).cast hn.symm) 0).val = ((oK L r).view.emb x 0).val % 64
      rw [hk', k0_off1_eq, e0]; simp; omega
  | 1 => show (x 1).val = _; exact e1.symm

/-- A block of the result holding what fetch `r` brought holds its rows. -/
theorem block_rows (r : Fin 16) (f₀ : Buf (Elt F) (oLoc d)) (p : S64x128.Idx → Elt F .f32) (hp : ∀ x, p x = rowsOf (t d) (g d) ((oK L r).view.emb x)) :
    ((oK L r).view.loc (V d (cV L) (jV L)) ↦[(oK L r).view.set]{fullShare} (oK L r).view.writes (Elt F) f₀ [⟨Rect.whole S64x128, p⟩] : sProp 𝕄)
      = oBlkPts d (bid (cL L) (jL L) r) (rowsOf (t d) (g d)) := by
  rw [← pts_oK]
  refine pointsTo_congr fun i hi => ?_
  obtain ⟨x, -, rfl⟩ := Finset.mem_map.1 hi
  rw [← hp]
  have h := congrFun (View.read_writes_whole (Val := Elt F) (oK L r).view f₀ p) x
  rw [← h]
  exact ((View.read_apply _ _).trans (cast_eq _ _)).symm

set_option maxHeartbeats 8000000 in
set_option maxRecDepth 65536 in
theorem tile_body (hF : (K (F := F)).Facts) (ht : InTable (t d)) (O : CellTallies nD τ sig (HIx 1)) (W : Waits sig (HIx 1)) (hO : ∀ g, O g none = 0)
    (f₀ : Buf (Elt F) (oLoc d)) [FloatOps F] :
    iprop(levAts (K (F := F)).L (K (F := F)).lev ∗ emp
        ∗ (tBlkPts t d (wid (cL L) (jL L)) ∗ eShPts g d (wid (cL L) (jL L)) ∗ bigSep Finset.univ fun r : Fin 16 => oBlkPts d (bid (cL L) (jL L) r) f₀)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_body L tV (Memref.isWhole_whole _) eV (Memref.isWhole_whole _) oV (Memref.isWhole_whole _)
            sV (Memref.isWhole_whole _) rV (Memref.isWhole_whole _) cc0_scratch2 cc0_scratch3 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16)
          fun _ => iprop((tBlkPts t d (wid (cL L) (jL L)) ∗ eShPts g d (wid (cL L) (jL L))
              ∗ bigSep Finset.univ fun r : Fin 16 => oBlkPts d (bid (cL L) (jL L) r) (rowsOf (t d) (g d)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_body_eq_skeleton]; unfold cc0__gather_body_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [k0_part9_eq_skeleton]; unfold k0_part9_skel
  simp only [k0_part10_eq_skeleton]; unfold k0_part10_skel
  simp only [k0_part11_eq_skeleton]; unfold k0_part11_skel
  simp only [k0_part12_eq_skeleton]; unfold k0_part12_skel
  simp only [k0_part13_eq_skeleton]; unfold k0_part13_skel
  simp only [k0_part14_eq_skeleton]; unfold k0_part14_skel
  simp only [k0_part15_eq_skeleton]; unfold k0_part15_skel
  rw [(K (F := F)).scopedBufs_V hF d (cV L) (jV L), SparseCore.Cfg.scopedSems0_V (Val := Elt F) d (cV L) (jV L), ownSems0_V, ownBufs_V, chain19, chain16, chain16]
  simp only [sems, Matrix.cons_val]
  iintro ⟨#Hlv, -, ⟨Ht, He, Ho0, Ho1, Ho2, Ho3, Ho4, Ho5, Ho6, Ho7, Ho8, Ho9, Ho10, Ho11, Ho12, Ho13, Ho14, Ho15⟩, ⟨⟨%fs, Hs⟩, ⟨%fr, Hr⟩, Hbufs⟩, ⟨⟨Hg0, Hg1, Hq0, Hq1, Hq2, Hq3, Hq4, Hq5, Hq6, Hq7, Hq8, Hq9, Hq10, Hq11, Hq12, Hq13, Hq14, Hq15, Hq16⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ht' := (Entails.of_eq (pts_tK (F := F) d L _).symm) $$ Ht
  ihave He2 := (Entails.of_eq (halve_eK (F := F) d L _ _)) $$ He
  icases He2 with ⟨He0, He1⟩
  ihave Hs' := (Entails.of_eq (pts_sV (F := F) d L _).symm) $$ Hs
  ihave Hr' := (Entails.of_eq (pts_rV (F := F) d L _).symm) $$ Hr
  ihave Ho0' := (Entails.of_eq (pts_oK (F := F) d L 0 _).symm) $$ Ho0
  ihave Ho1' := (Entails.of_eq (pts_oK (F := F) d L 1 _).symm) $$ Ho1
  ihave Ho2' := (Entails.of_eq (pts_oK (F := F) d L 2 _).symm) $$ Ho2
  ihave Ho3' := (Entails.of_eq (pts_oK (F := F) d L 3 _).symm) $$ Ho3
  ihave Ho4' := (Entails.of_eq (pts_oK (F := F) d L 4 _).symm) $$ Ho4
  ihave Ho5' := (Entails.of_eq (pts_oK (F := F) d L 5 _).symm) $$ Ho5
  ihave Ho6' := (Entails.of_eq (pts_oK (F := F) d L 6 _).symm) $$ Ho6
  ihave Ho7' := (Entails.of_eq (pts_oK (F := F) d L 7 _).symm) $$ Ho7
  ihave Ho8' := (Entails.of_eq (pts_oK (F := F) d L 8 _).symm) $$ Ho8
  ihave Ho9' := (Entails.of_eq (pts_oK (F := F) d L 9 _).symm) $$ Ho9
  ihave Ho10' := (Entails.of_eq (pts_oK (F := F) d L 10 _).symm) $$ Ho10
  ihave Ho11' := (Entails.of_eq (pts_oK (F := F) d L 11 _).symm) $$ Ho11
  ihave Ho12' := (Entails.of_eq (pts_oK (F := F) d L 12 _).symm) $$ Ho12
  ihave Ho13' := (Entails.of_eq (pts_oK (F := F) d L 13 _).symm) $$ Ho13
  ihave Ho14' := (Entails.of_eq (pts_oK (F := F) d L 14 _).symm) $$ Ho14
  ihave Ho15' := (Entails.of_eq (pts_oK (F := F) d L 15 _).symm) $$ Ho15
  sl_exec
  have hts : ∃ ts : Buf (Elt F) ((V d (cV L) (jV L)).loc cc0_scratch0),
      View.write (Elt F) (sV).view fs (tile_body.sl.dma0 t d L) Finset.univ = ts ∧ ∀ j : S16x64.Idx, ts j = t d ((tK L).view.emb j) :=
    ⟨_, rfl, fun j => by rw [View.write_whole_univ]; exact (View.read_apply _ _).trans (cast_eq _ _)⟩
  obtain ⟨ts, hts, htv⟩ := hts
  rw [hts]
  have hlt : ∀ j : S16x64.Idx, (ts j).toNat < 100000 := fun j => by rw [htv]; exact ht _
  have hin0 := list_in (F := F) d L ts hlt 0 inb_S16x64_S1x64_0_0
  have hin1 := list_in (F := F) d L ts hlt 1 inb_S16x64_S1x64_1_0
  have hin2 := list_in (F := F) d L ts hlt 2 inb_S16x64_S1x64_2_0
  have hin3 := list_in (F := F) d L ts hlt 3 inb_S16x64_S1x64_3_0
  have hin4 := list_in (F := F) d L ts hlt 4 inb_S16x64_S1x64_4_0
  have hin5 := list_in (F := F) d L ts hlt 5 inb_S16x64_S1x64_5_0
  have hin6 := list_in (F := F) d L ts hlt 6 inb_S16x64_S1x64_6_0
  have hin7 := list_in (F := F) d L ts hlt 7 inb_S16x64_S1x64_7_0
  have hin8 := list_in (F := F) d L ts hlt 8 inb_S16x64_S1x64_8_0
  have hin9 := list_in (F := F) d L ts hlt 9 inb_S16x64_S1x64_9_0
  have hin10 := list_in (F := F) d L ts hlt 10 inb_S16x64_S1x64_10_0
  have hin11 := list_in (F := F) d L ts hlt 11 inb_S16x64_S1x64_11_0
  have hin12 := list_in (F := F) d L ts hlt 12 inb_S16x64_S1x64_12_0
  have hin13 := list_in (F := F) d L ts hlt 13 inb_S16x64_S1x64_13_0
  have hin14 := list_in (F := F) d L ts hlt 14 inb_S16x64_S1x64_14_0
  have hin15 := list_in (F := F) d L ts hlt 15 inb_S16x64_S1x64_15_0
  sl_exec
  have hp0 : ∀ x, tile_body.sl.dma0_1 g d L fr ts hin0 hin1 x = rowsOf (t d) (g d) ((oK L 0).view.emb x) := fun x =>
    (congrFun (read_slot0 (F := F) d L _ _ _ _ _) x).trans (gather_rows t g d L ht ts htv 0 _ _ _ x)
  have hp1 : ∀ x, tile_body.sl.dma0_2 g d L fr ts hin0 hin1 hin2 x = rowsOf (t d) (g d) ((oK L 1).view.emb x) := fun x =>
    (congrFun (read_slot1 (F := F) d L _ _ _ _ _) x).trans (gather_rows t g d L ht ts htv 1 _ _ _ x)
  have hp2 : ∀ x, tile_body.sl.dma0_3 g d L fr ts hin0 hin1 hin2 hin3 x = rowsOf (t d) (g d) ((oK L 2).view.emb x) := fun x =>
    (congrFun (read_slot0 (F := F) d L _ _ _ _ _) x).trans (gather_rows t g d L ht ts htv 2 _ _ _ x)
  have hp3 : ∀ x, tile_body.sl.dma0_4 g d L fr ts hin0 hin1 hin2 hin3 hin4 x = rowsOf (t d) (g d) ((oK L 3).view.emb x) := fun x =>
    (congrFun (read_slot1 (F := F) d L _ _ _ _ _) x).trans (gather_rows t g d L ht ts htv 3 _ _ _ x)
  have hp4 : ∀ x, tile_body.sl.dma0_5 g d L fr ts hin0 hin1 hin2 hin3 hin4 hin5 x = rowsOf (t d) (g d) ((oK L 4).view.emb x) := fun x =>
    (congrFun (read_slot0 (F := F) d L _ _ _ _ _) x).trans (gather_rows t g d L ht ts htv 4 _ _ _ x)
  have hp5 : ∀ x, tile_body.sl.dma0_6 g d L fr ts hin0 hin1 hin2 hin3 hin4 hin5 hin6 x = rowsOf (t d) (g d) ((oK L 5).view.emb x) := fun x =>
    (congrFun (read_slot1 (F := F) d L _ _ _ _ _) x).trans (gather_rows t g d L ht ts htv 5 _ _ _ x)
  have hp6 : ∀ x, tile_body.sl.dma0_7 g d L fr ts hin0 hin1 hin2 hin3 hin4 hin5 hin6 hin7 x = rowsOf (t d) (g d) ((oK L 6).view.emb x) := fun x =>
    (congrFun (read_slot0 (F := F) d L _ _ _ _ _) x).trans (gather_rows t g d L ht ts htv 6 _ _ _ x)
  have hp7 : ∀ x, tile_body.sl.dma0_8 g d L fr ts hin0 hin1 hin2 hin3 hin4 hin5 hin6 hin7 hin8 x = rowsOf (t d) (g d) ((oK L 7).view.emb x) := fun x =>
    (congrFun (read_slot1 (F := F) d L _ _ _ _ _) x).trans (gather_rows t g d L ht ts htv 7 _ _ _ x)
  have hp8 : ∀ x, tile_body.sl.dma0_9 g d L fr ts hin0 hin1 hin2 hin3 hin4 hin5 hin6 hin7 hin8 hin9 x = rowsOf (t d) (g d) ((oK L 8).view.emb x) := fun x =>
    (congrFun (read_slot0 (F := F) d L _ _ _ _ _) x).trans (gather_rows t g d L ht ts htv 8 _ _ _ x)
  have hp9 : ∀ x, tile_body.sl.dma0_10 g d L fr ts hin0 hin1 hin2 hin3 hin4 hin5 hin6 hin7 hin8 hin9 hin10 x = rowsOf (t d) (g d) ((oK L 9).view.emb x) := fun x =>
    (congrFun (read_slot1 (F := F) d L _ _ _ _ _) x).trans (gather_rows t g d L ht ts htv 9 _ _ _ x)
  have hp10 : ∀ x, tile_body.sl.dma0_11 g d L fr ts hin0 hin1 hin2 hin3 hin4 hin5 hin6 hin7 hin8 hin9 hin10 hin11 x = rowsOf (t d) (g d) ((oK L 10).view.emb x) := fun x =>
    (congrFun (read_slot0 (F := F) d L _ _ _ _ _) x).trans (gather_rows t g d L ht ts htv 10 _ _ _ x)
  have hp11 : ∀ x, tile_body.sl.dma0_12 g d L fr ts hin0 hin1 hin2 hin3 hin4 hin5 hin6 hin7 hin8 hin9 hin10 hin11 hin12 x = rowsOf (t d) (g d) ((oK L 11).view.emb x) := fun x =>
    (congrFun (read_slot1 (F := F) d L _ _ _ _ _) x).trans (gather_rows t g d L ht ts htv 11 _ _ _ x)
  have hp12 : ∀ x, tile_body.sl.dma0_13 g d L fr ts hin0 hin1 hin2 hin3 hin4 hin5 hin6 hin7 hin8 hin9 hin10 hin11 hin12 hin13 x = rowsOf (t d) (g d) ((oK L 12).view.emb x) := fun x =>
    (congrFun (read_slot0 (F := F) d L _ _ _ _ _) x).trans (gather_rows t g d L ht ts htv 12 _ _ _ x)
  have hp13 : ∀ x, tile_body.sl.dma0_14 g d L fr ts hin0 hin1 hin2 hin3 hin4 hin5 hin6 hin7 hin8 hin9 hin10 hin11 hin12 hin13 hin14 x = rowsOf (t d) (g d) ((oK L 13).view.emb x) := fun x =>
    (congrFun (read_slot1 (F := F) d L _ _ _ _ _) x).trans (gather_rows t g d L ht ts htv 13 _ _ _ x)
  have hp14 : ∀ x, tile_body.sl.dma0_15 g d L fr ts hin0 hin1 hin2 hin3 hin4 hin5 hin6 hin7 hin8 hin9 hin10 hin11 hin12 hin13 hin14 hin15 x = rowsOf (t d) (g d) ((oK L 14).view.emb x) := fun x =>
    (congrFun (read_slot0 (F := F) d L _ _ _ _ _) x).trans (gather_rows t g d L ht ts htv 14 _ _ _ x)
  have hp15 : ∀ x, tile_body.sl.dma0_16 g d L fr ts hin0 hin1 hin2 hin3 hin4 hin5 hin6 hin7 hin8 hin9 hin10 hin11 hin12 hin13 hin14 hin15 x = rowsOf (t d) (g d) ((oK L 15).view.emb x) := fun x =>
    (congrFun (View.read_write_univ (v := (bK 1 inb_S2x64x128_S1x64x128_1_0_0).view) _ _) x).trans (gather_rows t g d L ht ts htv 15 _ _ _ x)
  ihave Hz0 := (Entails.of_eq (block_rows t g d L 0 f₀ _ hp0)) $$ Ho0'
  ihave Hz1 := (Entails.of_eq (block_rows t g d L 1 f₀ _ hp1)) $$ Ho1'
  ihave Hz2 := (Entails.of_eq (block_rows t g d L 2 f₀ _ hp2)) $$ Ho2'
  ihave Hz3 := (Entails.of_eq (block_rows t g d L 3 f₀ _ hp3)) $$ Ho3'
  ihave Hz4 := (Entails.of_eq (block_rows t g d L 4 f₀ _ hp4)) $$ Ho4'
  ihave Hz5 := (Entails.of_eq (block_rows t g d L 5 f₀ _ hp5)) $$ Ho5'
  ihave Hz6 := (Entails.of_eq (block_rows t g d L 6 f₀ _ hp6)) $$ Ho6'
  ihave Hz7 := (Entails.of_eq (block_rows t g d L 7 f₀ _ hp7)) $$ Ho7'
  ihave Hz8 := (Entails.of_eq (block_rows t g d L 8 f₀ _ hp8)) $$ Ho8'
  ihave Hz9 := (Entails.of_eq (block_rows t g d L 9 f₀ _ hp9)) $$ Ho9'
  ihave Hz10 := (Entails.of_eq (block_rows t g d L 10 f₀ _ hp10)) $$ Ho10'
  ihave Hz11 := (Entails.of_eq (block_rows t g d L 11 f₀ _ hp11)) $$ Ho11'
  ihave Hz12 := (Entails.of_eq (block_rows t g d L 12 f₀ _ hp12)) $$ Ho12'
  ihave Hz13 := (Entails.of_eq (block_rows t g d L 13 f₀ _ hp13)) $$ Ho13'
  ihave Hz14 := (Entails.of_eq (block_rows t g d L 14 f₀ _ hp14)) $$ Ho14'
  ihave Hz15 := (Entails.of_eq (block_rows t g d L 15 f₀ _ hp15)) $$ Ho15'
  ihave He := (Entails.of_eq (halve_eK (F := F) d L (eq (wid (cL L) (jL L))) (g d)).symm) $$ [He0 He1]
  · isplitl [He0]; · iexact He0
    iexact He1
  sl_step
  isplitl [Ht' He Hz0 Hz1 Hz2 Hz3 Hz4 Hz5 Hz6 Hz7 Hz8 Hz9 Hz10 Hz11 Hz12 Hz13 Hz14 Hz15]
  · isplitl [Ht']; · iapply (Entails.of_eq (pts_tK (F := F) d L _)); iexact Ht'
    isplitl [He]; · iexact He
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    isplitl [Hz14]; · iexact Hz14
    iexact Hz15
  isplitl [Hs' Hr' Hbufs]
  · isplitl [Hs']; · iexists _; iexact Hs'
    isplitl [Hr']; · iexists _; iexact Hr'
    iexact Hbufs
  isplitl [Hg0 Hg1 Hq0 Hq1 Hq2 Hq3 Hq4 Hq5 Hq6 Hq7 Hq8 Hq9 Hq10 Hq11 Hq12 Hq13 Hq14 Hq15 Hq16 Hsems]
  · isplitl [Hg0 Hg1 Hq0 Hq1 Hq2 Hq3 Hq4 Hq5 Hq6 Hq7 Hq8 Hq9 Hq10 Hq11 Hq12 Hq13 Hq14 Hq15 Hq16]
    · isplitl [Hg0]; · iexact Hg0
      isplitl [Hg1]; · iexact Hg1
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      iexact Hq16
    iexact Hsems
  iexists _; isplitr
  swap; · iexact HO
  ipureintro; intro p hp
  repeat (rcases Finset.mem_insert.mp hp with hp | hp; · exact .inr (hp ▸ rfl))
  exact .inl hp

end Task

end Cert.Kernel.Tile

end
-- ==== Proof.Launch.lean ====
/-
  The call on the SparseCores: what its start hands each core and its end takes back, how a core deals that to its
  sixteen tasks, and each task's obligation.

  Throughout, `t` is the token table the call reads, `g` the embedding table and `f₀` what the result array held.
-/
module

public import proofs.«01_k».proof.Proof.Tile
public import Idealize.ShloMosaic.Lib.Pipeline.Frame
public import Idealize.ShloMosaic.Lib.Pipeline.Value

@[expose] public section

noncomputable section

namespace Cert.Kernel.Launch

open Cert.Kernel Cert.Kernel.Gen Cert.Kernel.Tile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (t : (d : Dev nD) → Buf (Elt F) (tLoc d)) (g : (d : Dev nD) → Buf (Elt F) (eLoc d)) (f₀ : (d : Dev nD) → Buf (Elt F) (oLoc d))

/-! ## What passes between the threads -/

/-- A task's share: its rows of the token table, its share of the embedding table, its sixteen blocks of the result. -/
abbrev share (d : Dev nD) (c : Fin 2) (i : Fin 16) (f : Buf (Elt F) (oLoc d)) : sProp 𝕄 :=
  iprop(tBlkPts t d (wid c i) ∗ eShPts g d (wid c i) ∗ bigSep Finset.univ fun r : Fin 16 => oBlkPts d (bid c i r) f)

/-- A core's: its tasks'. -/
abbrev coreShare (d : Dev nD) (c : Fin 2) (f : Buf (Elt F) (oLoc d)) : sProp 𝕄 :=
  bigSep Finset.univ fun i : Fin 16 => share t g d c i f

def P : (K (F := F)).Pay (nD := nD) (Val := Elt F) (Name := ℕ) (U := UU) where
  st := fun q d c => match q with | 0 => coreShare t g d (Fin.cast nCore_zero c) (f₀ d)
  dn := fun q d c => match q with | 0 => coreShare t g d (Fin.cast nCore_zero c) (rowsOf (t d) (g d))
  go := fun q d c i => match q with | 0 => share t g d (Fin.cast nCore_zero c) (Fin.cast nSub_zero i) (f₀ d)
  td := fun q d c i => match q with | 0 => share t g d (Fin.cast nCore_zero c) (Fin.cast nSub_zero i) (rowsOf (t d) (g d))
  x := fun _ _ => iprop(emp)

instance P_storable : (P (F := F) t g f₀).IsStorable where
  st q d c := match q with
    | 0 => (inferInstance : BI.Storable (upEmb : UEmb _ 𝕄) (coreShare t g d (Fin.cast nCore_zero c) (f₀ d)))
  dn q d c := match q with
    | 0 => (inferInstance : BI.Storable (upEmb : UEmb _ 𝕄) (coreShare t g d (Fin.cast nCore_zero c) (rowsOf (t d) (g d))))
  go q d c i := match q with
    | 0 => (inferInstance : BI.Storable (upEmb : UEmb _ 𝕄) (share t g d (Fin.cast nCore_zero c) (Fin.cast nSub_zero i) (f₀ d)))
  td q d c i := match q with
    | 0 => (inferInstance : BI.Storable (upEmb : UEmb _ 𝕄) (share t g d (Fin.cast nCore_zero c) (Fin.cast nSub_zero i) (rowsOf (t d) (g d))))

/-! ## A task's obligation -/

def at2 (c : Fin (grid0.bound 0)) (s : Fin (grid0.bound 1)) : grid0.Coords :=
  fun | 0 => c | 1 => s | ⟨_ + 2, h⟩ => absurd h (Nat.not_lt.2 (Nat.le_add_left _ _))

theorem task_eq [FloatOps F] (c : Fin τ.nSC) (s : Fin τ.nSub) :
    defs₀ (F := F) (.scVector c s) 0 ()
      = SparseCore.onTile hcore0 hsub0 (fun c s => cc0__gather_body (at2 c s)
          (Memref.whole main_v2_scv) (Memref.isWhole_whole _) (Memref.whole main_arg2_scv) (Memref.isWhole_whole _) (Memref.whole main_v3_scv) (Memref.isWhole_whole _)
          (Memref.whole cc0_scratch0) (Memref.isWhole_whole _) (Memref.whole cc0_scratch1) (Memref.isWhole_whole _) cc0_scratch2 cc0_scratch3
          cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16) ⟨⟩ c s := rfl

theorem weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  isplitl [HA]; · iexact HA
  isplitl [HB]; · iexact HB
  isplitl [HC]; · iexact HC
  iexists W'; isplitr
  · ipureintro; exact fun p hp => (hW p hp).imp_right .inl
  · iexact HO

set_option maxRecDepth 16384 in
theorem tileObl [FloatOps F] (hF : (K (F := F)).Facts) (ht : ∀ d, InTable (t d)) : (K (F := F)).TileObl (D (F := F)) 𝒱 (P t g f₀) v₀ 0 := by
  intro d c i O W hO _ _
  simp only [show (P t g f₀).ox = fun _ _ => 0 from rfl, add_zero]
  have hb : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [task_eq]; simp only [SparseCore.onTile, hb, and_self, ↓reduceDIte]
  exact (tile_body t g d (at2 ⟨_, hb.1⟩ ⟨_, hb.2⟩) hF (ht d) O W hO (f₀ d)).trans (wp_mono frame _ _ fun _ => weaken)

/-! ## A core deals its share to its tasks -/

theorem over_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem over_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P t g f₀) 0 := by
  intro d c
  show coreShare t g d (Fin.cast nCore_zero c) (f₀ d) ⊢ |={Set.univ}=> iprop(
      (bigSep Finset.univ fun i : Fin ((K (F := F)).nSub 0) => share t g d (Fin.cast nCore_zero c) (Fin.cast nSub_zero i) (f₀ d))
      ∗ ((bigSep Finset.univ fun i : Fin ((K (F := F)).nSub 0) => share t g d (Fin.cast nCore_zero c) (Fin.cast nSub_zero i) (rowsOf (t d) (g d)))
          -∗ coreShare t g d (Fin.cast nCore_zero c) (rowsOf (t d) (g d))))
  rw [over_tasks (F := F) (fun i => share t g d (Fin.cast nCore_zero c) i (f₀ d)), over_tasks (F := F) (fun i => share t g d (Fin.cast nCore_zero c) i (rowsOf (t d) (g d)))]
  iintro H; imodintro
  isplitl [H]; · iexact H
  iintro H; iexact H

/-! ## The whole arrays are the cores' shares -/

theorem tSet_eq (i : Fin 32) : tSet i = (tblk i).set := by
  show ((View.whole (main_v2_scv : Ref sig .scVector)).slice (tblk i)).set = _
  rw [View.set_slice]; exact Finset.map_refl
theorem oSet_eq (i : Fin 512) : oSet i = (oblk i).set := by
  show ((View.whole (main_v3_scv : Ref sig .scVector)).slice (oblk i)).set = _
  rw [View.set_slice]; exact Finset.map_refl

theorem tPts_blocks (d : Dev nD) (f : Buf (Elt F) (tLoc d)) :
    (tLoc d ↦{fullShare} f : sProp 𝕄) = bigSep Finset.univ fun i : Fin 32 => tLoc d ↦[tSet i]{fullShare} f := by
  rw [← pointsTo_biUnion Finset.univ (ℓ := tLoc d) tSet (fun i _ j _ h => by rw [tSet_eq, tSet_eq]; exact Rect.part_disjoint tdiv h),
    (Finset.biUnion_congr rfl fun i _ => tSet_eq i).trans (Rect.biUnion_part tdiv)]
theorem oPts_blocks (d : Dev nD) (f : Buf (Elt F) (oLoc d)) :
    (oLoc d ↦{fullShare} f : sProp 𝕄) = bigSep Finset.univ fun i : Fin 512 => oBlkPts d i f := by
  rw [← pointsTo_biUnion Finset.univ (ℓ := oLoc d) oSet (fun i _ j _ h => by rw [oSet_eq, oSet_eq]; exact Rect.part_disjoint odiv h),
    (Finset.biUnion_congr rfl fun i _ => oSet_eq i).trans (Rect.biUnion_part odiv)]

theorem by_task (Φ : Fin 32 → sProp 𝕄) :
    bigSep Finset.univ Φ = bigSep Finset.univ fun c : Fin 2 => bigSep Finset.univ fun i : Fin 16 => Φ (wid c i) := by
  rw [BI.bigSep_univ_equiv (finProdFinEquiv : Fin 2 × Fin 16 ≃ Fin 32) Φ, BI.bigSep_univ_prod]
  refine bigSep_congr fun c _ => bigSep_congr fun i _ => congrArg Φ (Fin.ext ?_)
  show i.val + 16 * c.val = 16 * c.val + i.val
  exact Nat.add_comm _ _

theorem by_block (Φ : Fin 512 → sProp 𝕄) :
    bigSep Finset.univ Φ = bigSep Finset.univ fun c : Fin 2 => bigSep Finset.univ fun i : Fin 16 => bigSep Finset.univ fun r : Fin 16 => Φ (bid c i r) := by
  rw [BI.bigSep_univ_equiv (finProdFinEquiv : Fin 2 × Fin 256 ≃ Fin 512) Φ, BI.bigSep_univ_prod]
  refine bigSep_congr fun c _ => ?_
  rw [BI.bigSep_univ_equiv (finProdFinEquiv : Fin 16 × Fin 16 ≃ Fin 256), BI.bigSep_univ_prod]
  refine bigSep_congr fun i _ => bigSep_congr fun r _ => congrArg Φ (Fin.ext ?_)
  show r.val + 16 * i.val + 256 * c.val = 256 * c.val + 16 * i.val + r.val
  omega

/-- The three arrays, whole, are what the cores are handed. -/
theorem cores_eq (d : Dev nD) (f : Buf (Elt F) (oLoc d)) :
    (bigSep Finset.univ fun c : Fin 2 => coreShare t g d c f)
      = (iprop((tLoc d ↦{fullShare} t d) ∗ (eLoc d ↦{fullShare} g d) ∗ (oLoc d ↦{fullShare} f)) : sProp 𝕄) := by
  rw [tPts_blocks, oPts_blocks, (pointsTo_parts Finset.univ (g d) 5 fullShare).trans (by_task (fun i : Fin 32 => eShPts g d i)),
    by_task (fun i => tLoc d ↦[tSet i]{fullShare} t d), by_block (fun i => oBlkPts d i f)]
  simp only [bigSep_sep']

theorem st_eq (d : Dev nD) : (bigSep Finset.univ fun c : Fin ((K (F := F)).nCore 0) => (P t g f₀).st 0 d c)
    = (iprop((tLoc d ↦{fullShare} t d) ∗ (eLoc d ↦{fullShare} g d) ∗ (oLoc d ↦{fullShare} f₀ d)) : sProp 𝕄) :=
  (over_cores (F := F) (fun c => coreShare t g d c (f₀ d))).trans (cores_eq t g d (f₀ d))
theorem dn_eq (d : Dev nD) : (bigSep Finset.univ fun c : Fin ((K (F := F)).nCore 0) => (P t g f₀).dn 0 d c)
    = (iprop((tLoc d ↦{fullShare} t d) ∗ (eLoc d ↦{fullShare} g d) ∗ (oLoc d ↦{fullShare} rowsOf (t d) (g d))) : sProp 𝕄) :=
  (over_cores (F := F) (fun c => coreShare t g d c (rowsOf (t d) (g d)))).trans (cores_eq t g d (rowsOf (t d) (g d)))

/-! ## The tokens the two arguments hold, as the call reads them -/

/-- The token table: the two token arrays transposed, one above the other. -/
def tokens (a b : S64x256.Idx → BitVec 32) : S512x64.Idx → BitVec 32 :=
  concatenate S512x64 0 [⟨S256x64, transpose S256x64 [1, 0] a transposes_S64x256_S256x64_1_0⟩, ⟨S256x64, transpose S256x64 [1, 0] b transposes_S64x256_S256x64_1_0⟩]
    concatenates_S256x64_S256x64_S512x64_d0

def at64 (i : Fin 64) (j : Fin 256) : S64x256.Idx := fun | 0 => i | 1 => j

/-- Row `r` of the table holds column `r` of the first array, or column `r - 256` of the second. -/
theorem tokens_apply (a b : S64x256.Idx → BitVec 32) (x : S512x64.Idx) :
    tokens a b x = if h : (x 0).val < 256 then a (at64 (x 1) ⟨(x 0).val, h⟩)
      else b (at64 (x 1) ⟨(x 0).val - 256, by have : (x 0).val < 512 := (x 0).isLt; omega⟩) := by
  unfold tokens
  have hx : (x 0).val < 512 := (x 0).isLt
  split
  · next h =>
    rw [concatenate_pair_apply_left (t := S512x64) (s₁ := S256x64) (s₂ := S256x64) 0 _ _ concatenates_S256x64_S256x64_S512x64_d0 x rfl
      (fun | 0 => ⟨(x 0).val, h⟩ | 1 => ⟨(x 1).val, (x 1).isLt⟩) (fun | 0 => rfl | 1 => rfl)]
    exact congrArg a (funext fun | 0 => rfl | 1 => rfl)
  · next h =>
    rw [concatenate_pair_apply_right (t := S512x64) (s₁ := S256x64) (s₂ := S256x64) 0 _ _ concatenates_S256x64_S256x64_S512x64_d0 x rfl rfl
      (fun | 0 => ⟨(x 0).val - 256, by show _ < 256; omega⟩ | 1 => ⟨(x 1).val, (x 1).isLt⟩) (fun | 0 => fun h => absurd rfl h | 1 => fun _ => rfl)
      (by show (x 0).val - 256 + 256 = (x 0).val; omega)]
    exact congrArg b (funext fun | 0 => rfl | 1 => rfl)

theorem tokens_inTable {a b : S64x256.Idx → BitVec 32} (ha : ∀ j, (a j).toNat < 100000) (hb : ∀ j, (b j).toNat < 100000) : InTable (tokens a b) := by
  intro x
  rw [tokens_apply]
  split
  · exact ha _
  · exact hb _

end Cert.Kernel.Launch

end
-- ==== Proof.Steps.lean ====
module

public import proofs.«01_k».proof.Proof.Gen.Kernel.Skeleton
public import Idealize.ShloMosaic.Lib.WritesUnit
public import Idealize.ShloMosaic.Lib.ValueIdxCore
public import Mathlib.Tactic.NormNum

@[expose] public section
/-! # One turn of a recurrent layer

The kernel's layers all turn the same cell; what differs from turn to turn is only where its text breaks the computation into stretches.  Every way it is broken is put together again here. -/

set_option maxRecDepth 4096

noncomputable section
namespace Cert.Kernel.Steps
open Cert.Kernel Cert.Kernel.Gen
open Idealize.ShloMosaic Idealize.ShloMosaic.TcCoe
open Idealize.ShloMosaic.ValueIdx (ix2 ix3)

variable {F : FTy → Type} [FloatOps F]

/-- One turn: the state after the block `x` of the layer's input, from the state `h`, with the layer's stacked weights `w` and biases `b`. -/
def cell (w : Vec F S1x256x512 .bf16) (b : Vec F S1x512 .f32) (x : FVec F S64x128 .bf16) (h : FVec F S64x128 .f32) : FVec F S64x128 .f32 :=
  k1_pay50 h x w b

/-- A block of `f32` rows as the cell takes it. -/
def seen (x : Vec F S64x128 .f32) : FVec F S64x128 .bf16 :=
  truncf .bf16 (shapeCast S64x128 x shapeCasts_S64x128_S64x128) bitsLt_bf16_f32

/-- A state as it is stored for the next layer. -/
def kept (h : FVec F S64x128 .f32) : FVec F S64x128 .bf16 :=
  shapeCast S64x128 (truncf .bf16 h bitsLt_bf16_f32) shapeCasts_S64x128_S64x128

/-- The half the gates are scaled by. -/
abbrev half : F .f32 := Scalar.ofBits .f32 0x3F000000#32

variable (h : FVec F S64x128 .f32) (x : Vec F S64x128 .f32) (y y' : Vec F S64x128 .bf16) (w w' : Vec F S1x256x512 .bf16) (b b' : Vec F S1x512 .f32)
variable (p q r s t : FVec F S64x128 .f32) (g : FVec F S64x512 .f32) (j : FVec F S64x256 .bf16) (cst : F .f32)

/-! ## Layer 1 -/

theorem l1s0 : k1_pay13 h x w b = cell w b (seen x) (h) := rfl
theorem l1s1 : k1_pay20 (k1_pay17 h x w b) (k1_pay18 h x w b) (k1_pay19 h x w b) = cell w b (seen x) (h) := rfl
theorem l1s2 : k1_pay27 (k1_pay20 p q r) (k1_pay23 p q r x w b) (k1_pay24 p q r x w b) (k1_pay25 p q r x w b) (k1_pay26 p q r x w b) = cell w b (seen x) (k1_pay20 p q r) := rfl
theorem l1s3 : k1_pay32 (k1_pay27 p q r s t) (k1_pay29 p q r s t x w b) (k1_pay30 p q r s t x w b) (k1_pay31 p q r s t x w b) half = cell w b (seen x) (k1_pay27 p q r s t) := rfl
theorem l1s4 : k1_pay37 (k1_pay32 p g q r cst) (k1_pay34 p g q r cst x w b) (k1_pay35 p g q r cst x w b) (k1_pay36 p g q r cst x w b) = cell w b (seen x) (k1_pay32 p g q r cst) := rfl
theorem l1s5 : k1_pay42 (k1_pay37 p g q r) (k1_pay39 p g q r x w b) (k1_pay40 p g q r x w b) (k1_pay41 p g q r x w b) = cell w b (seen x) (k1_pay37 p g q r) := rfl
theorem l1s6 : k1_pay46 (k1_pay42 p g q r) (k1_pay44 p g q r x w b) (k1_pay45 p g q r x w b) = cell w b (seen x) (k1_pay42 p g q r) := rfl
theorem l1s7 : k1_pay4 (k1_pay46 p g q) (k1_pay48 p g q x w b) (k1_pay49 p g q x w b) = cell w b (seen x) (k1_pay46 p g q) := rfl
theorem l1k0 : k1_pay15 (k1_pay14 h x w b) = kept (k1_pay13 h x w b) := rfl
theorem l1k1 : k1_pay21 p q r = kept (k1_pay20 p q r) := rfl
theorem l1k2 : k1_pay28 p q r s t = kept (k1_pay27 p q r s t) := rfl
theorem l1k3 : k1_pay33 p g q r cst = kept (k1_pay32 p g q r cst) := rfl
theorem l1k4 : k1_pay38 p g q r = kept (k1_pay37 p g q r) := rfl
theorem l1k5 : k1_pay43 p g q r = kept (k1_pay42 p g q r) := rfl
theorem l1k6 : k1_pay47 p g q = kept (k1_pay46 p g q) := rfl
theorem l1k7 : k1_pay5 p g q = kept (k1_pay4 p g q) := rfl

/-! ## Layer 3 -/

theorem l3s0 : k1_pay70 h x w b = cell w b (seen x) (h) := rfl
theorem l3s1 : k1_pay77 (k1_pay74 h x w b) (k1_pay75 h x w b) (k1_pay76 h x w b) = cell w b (seen x) (h) := rfl
theorem l3s2 : k1_pay84 (k1_pay77 p q r) (k1_pay80 p q r x w b) (k1_pay81 p q r x w b) (k1_pay82 p q r x w b) (k1_pay83 p q r x w b) = cell w b (seen x) (k1_pay77 p q r) := rfl
theorem l3s3 : k1_pay89 (k1_pay84 p q r s t) (k1_pay86 p q r s t x w b) (k1_pay87 p q r s t x w b) (k1_pay88 p q r s t x w b) half = cell w b (seen x) (k1_pay84 p q r s t) := rfl
theorem l3s4 : k1_pay94 (k1_pay89 p g q r cst) (k1_pay91 p g q r cst x w b) (k1_pay92 p g q r cst x w b) (k1_pay93 p g q r cst x w b) = cell w b (seen x) (k1_pay89 p g q r cst) := rfl
theorem l3s5 : k1_pay99 (k1_pay94 p g q r) (k1_pay96 p g q r x w b) (k1_pay97 p g q r x w b) (k1_pay98 p g q r x w b) = cell w b (seen x) (k1_pay94 p g q r) := rfl
theorem l3s6 : k1_pay103 (k1_pay99 p g q r) (k1_pay101 p g q r x w b) (k1_pay102 p g q r x w b) = cell w b (seen x) (k1_pay99 p g q r) := rfl
theorem l3s7 : k1_pay7 (k1_pay103 p g q) (k1_pay105 p g q x w b) (k1_pay106 p g q x w b) = cell w b (seen x) (k1_pay103 p g q) := rfl
theorem l3k0 : k1_pay72 (k1_pay71 h x w b) = kept (k1_pay70 h x w b) := rfl
theorem l3k1 : k1_pay78 p q r = kept (k1_pay77 p q r) := rfl
theorem l3k2 : k1_pay85 p q r s t = kept (k1_pay84 p q r s t) := rfl
theorem l3k3 : k1_pay90 p g q r cst = kept (k1_pay89 p g q r cst) := rfl
theorem l3k4 : k1_pay95 p g q r = kept (k1_pay94 p g q r) := rfl
theorem l3k5 : k1_pay100 p g q r = kept (k1_pay99 p g q r) := rfl
theorem l3k6 : k1_pay104 p g q = kept (k1_pay103 p g q) := rfl
theorem l3k7 : k1_pay8 p g q = kept (k1_pay7 p g q) := rfl

/-! ## Layer 2 -/

theorem l2s0 : k1_pay50 h y w b = cell w b y (h) := rfl
theorem l2s1 : k1_pay51 h y w b = cell w b y (h) := rfl
theorem l2s2 : k1_pay53 (k1_pay51 h y w b) (k1_pay52 h y w b y') w' b' = cell w' b' y' (k1_pay51 h y w b) := rfl
theorem l2s3 : k1_pay55 (k1_pay53 p j w b) (k1_pay54 p j w b y w') b' = cell w' b' y (k1_pay53 p j w b) := rfl
theorem l2s4 : k1_pay58 (k1_pay55 p g b) (k1_pay56 p g b y w b') (k1_pay57 p g b y w b') half = cell w b' y (k1_pay55 p g b) := rfl
theorem l2s5 : k1_pay61 (k1_pay58 p g q cst) (k1_pay59 p g q cst y w b) (k1_pay60 p g q cst y w b) half = cell w b y (k1_pay58 p g q cst) := rfl
theorem l2s6 : k1_pay65 (k1_pay61 p g q cst) (k1_pay62 p g q cst y w b) (k1_pay63 p g q cst y w b) (k1_pay64 p g q cst y w b) = cell w b y (k1_pay61 p g q cst) := rfl
theorem l2s7 : k1_pay6 (k1_pay65 p g q r) (k1_pay66 p g q r y w b) (k1_pay67 p g q r y w b) (k1_pay68 p g q r y w b) (k1_pay69 p g q r y w b) = cell w b y (k1_pay65 p g q r) := rfl

/-! ## Layer 4 -/

theorem l4s0 : k1_pay107 h y w b = cell w b y (h) := rfl
theorem l4s1 : k1_pay108 h y w b = cell w b y (h) := rfl
theorem l4s2 : k1_pay110 (k1_pay108 h y w b) (k1_pay109 h y w b y') w' b' = cell w' b' y' (k1_pay108 h y w b) := rfl
theorem l4s3 : k1_pay112 (k1_pay110 p j w b) (k1_pay111 p j w b y w') b' = cell w' b' y (k1_pay110 p j w b) := rfl
theorem l4s4 : k1_pay115 (k1_pay112 p g b) (k1_pay113 p g b y w b') (k1_pay114 p g b y w b') half = cell w b' y (k1_pay112 p g b) := rfl
theorem l4s5 : k1_pay118 (k1_pay115 p g q cst) (k1_pay116 p g q cst y w b) (k1_pay117 p g q cst y w b) half = cell w b y (k1_pay115 p g q cst) := rfl
theorem l4s6 : k1_pay122 (k1_pay118 p g q cst) (k1_pay119 p g q cst y w b) (k1_pay120 p g q cst y w b) (k1_pay121 p g q cst y w b) = cell w b y (k1_pay118 p g q cst) := rfl
theorem l4s7 : k1_pay9 (k1_pay122 p g q r) (k1_pay123 p g q r y w b) (k1_pay124 p g q r y w b) (k1_pay125 p g q r y w b) (k1_pay126 p g q r y w b) = cell w b y (k1_pay122 p g q r) := rfl

/-! ## The turns of a layer -/

/-- The state after `n` turns over the blocks `x`, from the state `h`. -/
def turns (w : Vec F S1x256x512 .bf16) (b : Vec F S1x512 .f32) (x : ℕ → FVec F S64x128 .bf16) (h : FVec F S64x128 .f32) : ℕ → FVec F S64x128 .f32
  | 0 => h
  | n + 1 => cell w b (x n) (turns w b x h n)

/-- One turn more, from anything equal to what the turn takes. -/
theorem turns_succ_of {w w' : Vec F S1x256x512 .bf16} {b b' : Vec F S1x512 .f32} {x : ℕ → FVec F S64x128 .bf16} {x' : FVec F S64x128 .bf16} {h h' : FVec F S64x128 .f32} {n : ℕ}
    (hw : w' = w) (hb : b' = b) (hx : x' = x n) (hh : h' = turns w b x h n) : cell w' b' x' h' = turns w b x h (n + 1) := by
  subst hw hb hx hh; rfl

/-- Rows `64 t …` of a tall array: block `t` of a layer's input. -/
def block {α : Type} (X : S16384x128.Idx → α) (t : ℕ) : S64x128.Idx → α :=
  fun i => X (ix2 (⟨(64 * t + (i 0).val) % 16384, Nat.mod_lt _ (by decide)⟩ : Fin 16384) (⟨(i 1).val, (i 1).isLt⟩ : Fin 128))

/-- The tall array whose block `t` is the state after `t + 1` turns, as stored. -/
def states (u : ℕ → FVec F S64x128 .f32) : S16384x128.Idx → F .bf16 :=
  fun y => kept (u ((y 0).val / 64 + 1)) (ix2 (⟨(y 0).val % 64, Nat.mod_lt _ (by decide)⟩ : Fin 64) (⟨(y 1).val, (y 1).isLt⟩ : Fin 128))

/-- Layer `l`'s matrix among the four stacked ones. -/
def layerW {α : Type} (W : S4x256x512.Idx → α) (l : Fin 4) : S1x256x512.Idx → α :=
  fun i => W (ix3 l (⟨(i 1).val, (i 1).isLt⟩ : Fin 256) (⟨(i 2).val, (i 2).isLt⟩ : Fin 512))

/-- Layer `l`'s biases among the four stacked rows. -/
def layerB {α : Type} (B : S4x512.Idx → α) (l : Fin 4) : S1x512.Idx → α :=
  fun i => B (ix2 l (⟨(i 1).val, (i 1).isLt⟩ : Fin 512))

section Reads
variable {sig' : RefSig} {κ : Kind} {sp : Space} {Val : EltTy → Type} {e : EltTy}

/-- Loading the 64 rows from row `64 t` on reads block `t`. -/
theorem read_block (v : View sig' κ sp S16384x128 e) (f : v.ty.Contents Val) {off : Fin 2 → ℕ} (inb : ∀ a, off a + S64x128.size a ≤ S16384x128.size a)
    (t : ℕ) (ht : t < 256) (h : off = ![64 * t, 0]) :
    v.readAt Val (Rect.unit (s := S16384x128) off S64x128.size inb).toLoadRect f = block (v.read Val f) t := by
  subst h
  funext i
  refine (View.readAt_apply _ f i).trans (congrArg (v.read Val f) (funext fun a => Fin.ext ?_))
  have h0 : (i 0).val < 64 := (i 0).isLt
  fin_cases a
  · show 64 * t + 1 * (i 0).val = (64 * t + (i 0).val) % 16384
    omega
  · show 0 + 1 * (i 1).val = (i 1).val
    omega

/-- Loading layer `l`'s slab reads its matrix. -/
theorem read_layerW (v : View sig' κ sp S4x256x512 e) (f : v.ty.Contents Val) {off : Fin 3 → ℕ} (inb : ∀ a, off a + S1x256x512.size a ≤ S4x256x512.size a)
    (l : Fin 4) (h : off = ![l.val, 0, 0]) :
    v.readAt Val (Rect.unit (s := S4x256x512) off S1x256x512.size inb).toLoadRect f = layerW (v.read Val f) l := by
  subst h
  funext i
  refine (View.readAt_apply _ f i).trans (congrArg (v.read Val f) (funext fun a => Fin.ext ?_))
  have h0 : (i 0).val < 1 := (i 0).isLt
  fin_cases a
  · show l.val + 1 * (i 0).val = l.val
    omega
  · show 0 + 1 * (i 1).val = (i 1).val
    omega
  · show 0 + 1 * (i 2).val = (i 2).val
    omega

/-- Loading layer `l`'s row reads its biases. -/
theorem read_layerB (v : View sig' κ sp S4x512 e) (f : v.ty.Contents Val) {off : Fin 2 → ℕ} (inb : ∀ a, off a + S1x512.size a ≤ S4x512.size a)
    (l : Fin 4) (h : off = ![l.val, 0]) :
    v.readAt Val (Rect.unit (s := S4x512) off S1x512.size inb).toLoadRect f = layerB (v.read Val f) l := by
  subst h
  funext i
  refine (View.readAt_apply _ f i).trans (congrArg (v.read Val f) (funext fun a => Fin.ext ?_))
  have h0 : (i 0).val < 1 := (i 0).isLt
  fin_cases a
  · show l.val + 1 * (i 0).val = l.val
    omega
  · show 0 + 1 * (i 1).val = (i 1).val
    omega

end Reads

section Stores
variable {sig' : RefSig} {κ : Kind} {sp : Space}

/-- Storing block `t` of the states on top of blocks `0 … t-1` makes blocks `0 … t` theirs. -/
theorem stored_succ (v : View sig' κ sp S16384x128 .bf16) (f : v.ty.Contents (Elt F)) (L : List (View.Piece (Elt F) S16384x128 .bf16)) (u : ℕ → FVec F S64x128 .f32)
    {off : Fin 2 → ℕ} {inb : ∀ a, off a + S64x128.size a ≤ S16384x128.size a} {P : FVec F S64x128 .bf16} (t : ℕ) (h : off = ![64 * t, 0]) (hP : P = kept (u (t + 1)))
    (hL : ∀ y : S16384x128.Idx, (y 0).val < 64 * t → v.read (Elt F) (v.writes (Elt F) f L) y = states u y) :
    ∀ y : S16384x128.Idx, (y 0).val < 64 * (t + 1) → v.read (Elt F) (v.writes (Elt F) f (⟨Rect.unit (s := S16384x128) off S64x128.size inb, P⟩ :: L)) y = states u y := by
  intro y hy
  by_cases hlt : (y 0).val < 64 * t
  · rw [← hL y hlt]
    exact View.read_writes_cons_rows_of_not_mem (d := S16384x128.size) v f inb P L y (o := 64 * t) (W := 64) h rfl (Or.inl hlt)
  · have e : (y 0).val / 64 = t := by omega
    refine (View.read_writes_cons_rows_of_mem (d := S16384x128.size) v f inb P L y (o := 64 * t)
      (ix2 (⟨(y 0).val % 64, Nat.mod_lt _ (by decide)⟩ : Fin 64) (⟨(y 1).val, (y 1).isLt⟩ : Fin 128)) h ?_ rfl).trans ?_
    · show (y 0).val = 64 * t + (y 0).val % 64
      omega
    · rw [hP]
      unfold states
      rw [e]

end Stores

/-- Block `t` of the states is the state after `t + 1` turns, as stored. -/
theorem block_states (u : ℕ → FVec F S64x128 .f32) (t : ℕ) (ht : t < 256) : block (states u) t = kept (u (t + 1)) := by
  funext i
  have h0 : (i 0).val < 64 := (i 0).isLt
  have e : (64 * t + (i 0).val) % 16384 = 64 * t + (i 0).val := by omega
  show kept (u ((64 * t + (i 0).val) % 16384 / 64 + 1)) _ = _
  have e1 : (64 * t + (i 0).val) % 16384 / 64 = t := by omega
  rw [e1]
  refine congrArg _ (funext fun a => Fin.ext ?_)
  fin_cases a
  · show (64 * t + (i 0).val) % 16384 % 64 = (i 0).val
    omega
  · rfl

end Cert.Kernel.Steps
-- ==== Proof.Layers.lean ====
module

public import proofs.«01_k».proof.Proof.Gen.Kernel.Loops
public import proofs.«01_k».proof.Proof.Steps

@[expose] public section
/-! # The recurrent layers

Each of the four layers walks its 256 time steps eight at a time.  Here one trip of eight steps is run at the algebra of the whole program and its result is read as eight turns of the one cell of `Steps`; from that every loop gets its invariant: the state carried before trip `k` is the state after `8 k` turns, and the rows a layer has stored are the states it went through. -/

set_option maxRecDepth 8192
set_option maxHeartbeats 4000000

noncomputable section
namespace Cert.Kernel.Layers
open Cert.Kernel Cert.Kernel.Gen Cert.Kernel.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix Name U Lvl : Type} [DecidableEq Ix] [DecidableEq Name] [URA U] [Preorder Lvl]

/-! ## Layer 1 -/

variable (𝒱 : Variants) (c : Dev nD) (bd : Option 𝒱.V) (i : grid1.Coords) (arg1 : Memref sig .tc .vmem S16384x128 .f32) (harg1 : arg1.IsWhole) (arg2 : Memref sig .tc .vmem S16384x128 .f32) (harg2 : arg2.IsWhole) (arg3 : Memref sig .tc .vmem S128x384 .f32) (harg3 : arg3.IsWhole) (arg4 : Memref sig .tc .vmem S128x384 .f32) (harg4 : arg4.IsWhole) (arg5 : Memref sig .tc .vmem S2x384 .f32) (harg5 : arg5.IsWhole) (arg6 : Memref sig .tc .vmem S128x384 .f32) (harg6 : arg6.IsWhole) (arg7 : Memref sig .tc .vmem S128x384 .f32) (harg7 : arg7.IsWhole) (arg8 : Memref sig .tc .vmem S2x384 .f32) (harg8 : arg8.IsWhole) (arg9 : Memref sig .tc .vmem S128x384 .f32) (harg9 : arg9.IsWhole) (arg10 : Memref sig .tc .vmem S128x384 .f32) (harg10 : arg10.IsWhole) (arg11 : Memref sig .tc .vmem S2x384 .f32) (harg11 : arg11.IsWhole) (arg12 : Memref sig .tc .vmem S128x384 .f32) (harg12 : arg12.IsWhole) (arg13 : Memref sig .tc .vmem S128x384 .f32) (harg13 : arg13.IsWhole) (arg14 : Memref sig .tc .vmem S2x384 .f32) (harg14 : arg14.IsWhole) (arg15 : Memref sig .tc .hbm S128x100000 .f32) (harg15 : arg15.IsWhole) (arg16 : Memref sig .tc .vmem S128x4096 .f32) (harg16 : arg16.IsWhole) (arg17 : Memref sig .tc .vmem S1x4096 .f32) (harg17 : arg17.IsWhole) (arg18 : Memref sig .tc .vmem S64x4096 .f32) (harg18 : arg18.IsWhole) (arg19 : Memref sig .tc .vmem S16384x128 .bf16) (harg19 : arg19.IsWhole) (arg20 : Memref sig .tc .vmem S64x128 .f32) (harg20 : arg20.IsWhole) (arg21 : Memref sig .tc .vmem S14x128x4096 .f32) (harg21 : arg21.IsWhole) (arg22 : DmaSems sig S14) (arg23 : Memref sig .tc .vmem S4x256x512 .bf16) (harg23 : arg23.IsWhole) (arg24 : Memref sig .tc .vmem S4x512 .f32) (harg24 : arg24.IsWhole)

/-- One trip of layer 1's loop, run: what it yields and the pieces it stores are what the run finds. -/
@[irreducible] def trip1 (k1_h1 : k1_cond1 i = 1#1) (Xx : BufTy.Contents (Elt F) arg1.view.ty) (Xw : BufTy.Contents (Elt F) arg23.view.ty) (Xb : BufTy.Contents (Elt F) arg24.view.ty) (k : Fin k1_t1_loop.trips) :
    Σ' (R : FVec F S64x128 .f32 → FVec F S64x128 .f32), { L : FVec F S64x128 .f32 → List (View.Piece (Elt F) S16384x128 .bf16) // ∀ (E : Set Name) (acc : FVec F S64x128 .f32) (f : BufTy.Contents (Elt F) arg19.view.ty),
      (iprop((arg1.view.loc (c : Thread nD τ) ↦[arg1.view.set]{fullShare} Xx) ∗ (arg23.view.loc (c : Thread nD τ) ↦[arg23.view.set]{fullShare} Xw) ∗ (arg24.view.loc (c : Thread nD τ) ↦[arg24.view.set]{fullShare} Xb) ∗ (arg19.view.loc (c : Thread nD τ) ↦[arg19.view.set]{fullShare} f)) : sProp (MT nD τ sig Ix (Elt F) Name U Lvl))
      ⊢ wp Idealize.ShloMosaic.frame (wpE (defs₀ (F := F)) 𝒱 (c : Thread nD τ) bd) E (k1_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 k1_h1 k acc)
          (fun yld => iprop(⌜yld = R acc⌝ ∗ (arg1.view.loc (c : Thread nD τ) ↦[arg1.view.set]{fullShare} Xx) ∗ (arg23.view.loc (c : Thread nD τ) ↦[arg23.view.set]{fullShare} Xw) ∗ (arg24.view.loc (c : Thread nD τ) ↦[arg24.view.set]{fullShare} Xb) ∗ (arg19.view.loc (c : Thread nD τ) ↦[arg19.view.set]{fullShare} arg19.view.writes (Elt F) f (L acc)))) } := by
  have hk : k.val < 32 := Nat.lt_of_lt_of_le k.isLt k1_t1_abs.2.1
  refine ⟨?_, ?_, fun E acc f => ?run⟩
  case run =>
    unfold k1_t1_body
    iintro ⟨H1, H23, H24, H19⟩
    sl_exec
    sl_step
    sl_close

/-- The states layer 1 goes through, from `init`. -/
abbrev run1 (arg1 : Memref sig .tc .vmem S16384x128 .f32) (arg23 : Memref sig .tc .vmem S4x256x512 .bf16) (arg24 : Memref sig .tc .vmem S4x512 .f32) (Xx : BufTy.Contents (Elt F) arg1.view.ty) (Xw : BufTy.Contents (Elt F) arg23.view.ty) (Xb : BufTy.Contents (Elt F) arg24.view.ty) (init : FVec F S64x128 .f32) : ℕ → FVec F S64x128 .f32 :=
  turns (layerW (arg23.view.read (Elt F) Xw) 0) (layerB (arg24.view.read (Elt F) Xb) 0) (fun t => seen (block (arg1.view.read (Elt F) Xx) t)) init

theorem off1 (k : Fin k1_t1_loop.trips) (r : Fin 8) : k1_off1 k (BitVec.ofNat 32 r.val) = ![64 * (8 * k.val + r.val), 0] :=
  (k1_off1_eq k r).trans (by rw [show 512 * k.val + 64 * r.val = 64 * (8 * k.val + r.val) by omega])

/-- A trip of layer 1 is eight turns, and it stores the eight states. -/
theorem trip1_val (k1_h1 : k1_cond1 i = 1#1) (Xx : BufTy.Contents (Elt F) arg1.view.ty) (Xw : BufTy.Contents (Elt F) arg23.view.ty) (Xb : BufTy.Contents (Elt F) arg24.view.ty) (k : Fin k1_t1_loop.trips) (init acc : FVec F S64x128 .f32) (hacc : acc = run1 arg1 arg23 arg24 Xx Xw Xb init (8 * k.val)) :
    (trip1 (Ix := Ix) (Name := Name) (U := U) (Lvl := Lvl) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 k1_h1 Xx Xw Xb k).1 acc = run1 arg1 arg23 arg24 Xx Xw Xb init (8 * (k.val + 1))
    ∧ ∀ f : BufTy.Contents (Elt F) arg19.view.ty, (∀ y : S16384x128.Idx, (y 0).val < 64 * (8 * k.val) → arg19.view.read (Elt F) f y = states (run1 arg1 arg23 arg24 Xx Xw Xb init) y) →
      ∀ y : S16384x128.Idx, (y 0).val < 64 * (8 * (k.val + 1)) → arg19.view.read (Elt F) (arg19.view.writes (Elt F) f ((trip1 (Ix := Ix) (Name := Name) (U := U) (Lvl := Lvl) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 k1_h1 Xx Xw Xb k).2.1 acc)) y = states (run1 arg1 arg23 arg24 Xx Xw Xb init) y := by
  have hk : k.val < 32 := Nat.lt_of_lt_of_le k.isLt k1_t1_abs.2.1
  have e0 : trip1.sl.r i arg1 arg23 arg24 k1_h1 Xx Xw Xb k acc = run1 arg1 arg23 arg24 Xx Xw Xb init (8 * k.val + 0 + 1) :=
    Eq.trans (l1s0 ..) (turns_succ_of (n := 8 * k.val + 0) (read_layerW arg23.view Xw _ 0 rfl) (read_layerB arg24.view Xb _ 0 rfl) (congrArg seen (read_block arg1.view Xx _ (8 * k.val + 0) (by omega) (off1 k 0))) hacc)
  have e1 : trip1.sl.r_5 i arg1 arg23 arg24 k1_h1 Xx Xw Xb k acc = run1 arg1 arg23 arg24 Xx Xw Xb init (8 * k.val + 1 + 1) :=
    Eq.trans (l1s1 ..) (turns_succ_of (n := 8 * k.val + 1) (read_layerW arg23.view Xw _ 0 rfl) (read_layerB arg24.view Xb _ 0 rfl) (congrArg seen (read_block arg1.view Xx _ (8 * k.val + 1) (by omega) (off1 k 1))) e0)
  have e2 : trip1.sl.r_10 i arg1 arg23 arg24 k1_h1 Xx Xw Xb k acc = run1 arg1 arg23 arg24 Xx Xw Xb init (8 * k.val + 2 + 1) :=
    Eq.trans (l1s2 ..) (turns_succ_of (n := 8 * k.val + 2) (read_layerW arg23.view Xw _ 0 rfl) (read_layerB arg24.view Xb _ 0 rfl) (congrArg seen (read_block arg1.view Xx _ (8 * k.val + 2) (by omega) (off1 k 2))) e1)
  have e3 : trip1.sl.r_14 i arg1 arg23 arg24 k1_h1 Xx Xw Xb k acc = run1 arg1 arg23 arg24 Xx Xw Xb init (8 * k.val + 3 + 1) :=
    Eq.trans (l1s3 ..) (turns_succ_of (n := 8 * k.val + 3) (read_layerW arg23.view Xw _ 0 rfl) (read_layerB arg24.view Xb _ 0 rfl) (congrArg seen (read_block arg1.view Xx _ (8 * k.val + 3) (by omega) (off1 k 3))) e2)
  have e4 : trip1.sl.r_18 i arg1 arg23 arg24 k1_h1 Xx Xw Xb k acc = run1 arg1 arg23 arg24 Xx Xw Xb init (8 * k.val + 4 + 1) :=
    Eq.trans (l1s4 ..) (turns_succ_of (n := 8 * k.val + 4) (read_layerW arg23.view Xw _ 0 rfl) (read_layerB arg24.view Xb _ 0 rfl) (congrArg seen (read_block arg1.view Xx _ (8 * k.val + 4) (by omega) (off1 k 4))) e3)
  have e5 : trip1.sl.r_22 i arg1 arg23 arg24 k1_h1 Xx Xw Xb k acc = run1 arg1 arg23 arg24 Xx Xw Xb init (8 * k.val + 5 + 1) :=
    Eq.trans (l1s5 ..) (turns_succ_of (n := 8 * k.val + 5) (read_layerW arg23.view Xw _ 0 rfl) (read_layerB arg24.view Xb _ 0 rfl) (congrArg seen (read_block arg1.view Xx _ (8 * k.val + 5) (by omega) (off1 k 5))) e4)
  have e6 : trip1.sl.r_25 i arg1 arg23 arg24 k1_h1 Xx Xw Xb k acc = run1 arg1 arg23 arg24 Xx Xw Xb init (8 * k.val + 6 + 1) :=
    Eq.trans (l1s6 ..) (turns_succ_of (n := 8 * k.val + 6) (read_layerW arg23.view Xw _ 0 rfl) (read_layerB arg24.view Xb _ 0 rfl) (congrArg seen (read_block arg1.view Xx _ (8 * k.val + 6) (by omega) (off1 k 6))) e5)
  have e7 : (trip1 (Ix := Ix) (Name := Name) (U := U) (Lvl := Lvl) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 k1_h1 Xx Xw Xb k).1 acc = run1 arg1 arg23 arg24 Xx Xw Xb init (8 * k.val + 7 + 1) := by
    unfold trip1
    exact Eq.trans (l1s7 ..) (turns_succ_of (n := 8 * k.val + 7) (read_layerW arg23.view Xw _ 0 rfl) (read_layerB arg24.view Xb _ 0 rfl) (congrArg seen (read_block arg1.view Xx _ (8 * k.val + 7) (by omega) (off1 k 7))) e6)
  refine ⟨e7, fun f h => ?_⟩
  have e7' := e7
  unfold trip1 at e7' ⊢
  dsimp only at e7' ⊢
  exact (stored_succ _ f _ _ (8 * k.val + 7) (off1 k 7) (Eq.trans (l1k7 ..) (congrArg kept e7')) (stored_succ _ f _ _ (8 * k.val + 6) (off1 k 6) (Eq.trans (l1k6 ..) (congrArg kept e6)) (stored_succ _ f _ _ (8 * k.val + 5) (off1 k 5) (Eq.trans (l1k5 ..) (congrArg kept e5)) (stored_succ _ f _ _ (8 * k.val + 4) (off1 k 4) (Eq.trans (l1k4 ..) (congrArg kept e4)) (stored_succ _ f _ _ (8 * k.val + 3) (off1 k 3) (Eq.trans (l1k3 ..) (congrArg kept e3)) (stored_succ _ f _ _ (8 * k.val + 2) (off1 k 2) (Eq.trans (l1k2 ..) (congrArg kept e2)) (stored_succ _ f _ _ (8 * k.val + 1) (off1 k 1) (Eq.trans (l1k1 ..) (congrArg kept e1)) (stored_succ _ f _ _ (8 * k.val + 0) (off1 k 0) (Eq.trans (l1k0 ..) (congrArg kept e0)) h))))))))

/-- Before trip `k` of layer 1: the state carried is the one after `8 k` turns, and the rows below `512 k` are the states so far. -/
abbrev inv1 (c : Dev nD) (arg1 : Memref sig .tc .vmem S16384x128 .f32) (arg19 : Memref sig .tc .vmem S16384x128 .bf16) (arg23 : Memref sig .tc .vmem S4x256x512 .bf16) (arg24 : Memref sig .tc .vmem S4x512 .f32) (Xx : BufTy.Contents (Elt F) arg1.view.ty) (Xw : BufTy.Contents (Elt F) arg23.view.ty) (Xb : BufTy.Contents (Elt F) arg24.view.ty) (init : FVec F S64x128 .f32) (k : ℕ) (acc : FVec F S64x128 .f32) : sProp (MT nD τ sig Ix (Elt F) Name U Lvl) :=
  iprop((arg1.view.loc (c : Thread nD τ) ↦[arg1.view.set]{fullShare} Xx) ∗ (arg23.view.loc (c : Thread nD τ) ↦[arg23.view.set]{fullShare} Xw) ∗ (arg24.view.loc (c : Thread nD τ) ↦[arg24.view.set]{fullShare} Xb) ∗ (∃ f, (arg19.view.loc (c : Thread nD τ) ↦[arg19.view.set]{fullShare} f) ∗ ⌜∀ y : S16384x128.Idx, (y 0).val < 64 * (8 * k) → arg19.view.read (Elt F) f y = states (run1 arg1 arg23 arg24 Xx Xw Xb init) y⌝) ∗ ⌜acc = run1 arg1 arg23 arg24 Xx Xw Xb init (8 * k)⌝)

set_option warn.classDefReducibility false in
/-- Layer 1's loop by its invariant. -/
@[sl_loop] def loop1 (𝒱 : Variants) (c : Dev nD) (bd : Option 𝒱.V) (E : Set Name) (i : grid1.Coords) (arg1 : Memref sig .tc .vmem S16384x128 .f32) (harg1 : arg1.IsWhole) (arg2 : Memref sig .tc .vmem S16384x128 .f32) (harg2 : arg2.IsWhole) (arg3 : Memref sig .tc .vmem S128x384 .f32) (harg3 : arg3.IsWhole) (arg4 : Memref sig .tc .vmem S128x384 .f32) (harg4 : arg4.IsWhole) (arg5 : Memref sig .tc .vmem S2x384 .f32) (harg5 : arg5.IsWhole) (arg6 : Memref sig .tc .vmem S128x384 .f32) (harg6 : arg6.IsWhole) (arg7 : Memref sig .tc .vmem S128x384 .f32) (harg7 : arg7.IsWhole) (arg8 : Memref sig .tc .vmem S2x384 .f32) (harg8 : arg8.IsWhole) (arg9 : Memref sig .tc .vmem S128x384 .f32) (harg9 : arg9.IsWhole) (arg10 : Memref sig .tc .vmem S128x384 .f32) (harg10 : arg10.IsWhole) (arg11 : Memref sig .tc .vmem S2x384 .f32) (harg11 : arg11.IsWhole) (arg12 : Memref sig .tc .vmem S128x384 .f32) (harg12 : arg12.IsWhole) (arg13 : Memref sig .tc .vmem S128x384 .f32) (harg13 : arg13.IsWhole) (arg14 : Memref sig .tc .vmem S2x384 .f32) (harg14 : arg14.IsWhole) (arg15 : Memref sig .tc .hbm S128x100000 .f32) (harg15 : arg15.IsWhole) (arg16 : Memref sig .tc .vmem S128x4096 .f32) (harg16 : arg16.IsWhole) (arg17 : Memref sig .tc .vmem S1x4096 .f32) (harg17 : arg17.IsWhole) (arg18 : Memref sig .tc .vmem S64x4096 .f32) (harg18 : arg18.IsWhole) (arg19 : Memref sig .tc .vmem S16384x128 .bf16) (harg19 : arg19.IsWhole) (arg20 : Memref sig .tc .vmem S64x128 .f32) (harg20 : arg20.IsWhole) (arg21 : Memref sig .tc .vmem S14x128x4096 .f32) (harg21 : arg21.IsWhole) (arg22 : DmaSems sig S14) (arg23 : Memref sig .tc .vmem S4x256x512 .bf16) (harg23 : arg23.IsWhole) (arg24 : Memref sig .tc .vmem S4x512 .f32) (harg24 : arg24.IsWhole) (k1_h1 : k1_cond1 i = 1#1) (Xx : BufTy.Contents (Elt F) arg1.view.ty) (Xw : BufTy.Contents (Elt F) arg23.view.ty) (Xb : BufTy.Contents (Elt F) arg24.view.ty) (init : FVec F S64x128 .f32) :
    LoopInvTy_k1_t1 (F := F) Ix Name U Lvl 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 k1_h1 init where
  inv := inv1 (Ix := Ix) (Name := Name) (U := U) (Lvl := Lvl) c arg1 arg19 arg23 arg24 Xx Xw Xb init
  step k acc := by
    iintro ⟨Hx, Hw, Hb, ⟨%f, Hy, %hy⟩, %hacc⟩
    have hv := trip1_val (Ix := Ix) (Name := Name) (U := U) (Lvl := Lvl) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 k1_h1 Xx Xw Xb k init acc hacc
    iapply (wp_wand_r Idealize.ShloMosaic.frame (wpE (defs₀ (F := F)) 𝒱 (c : Thread nD τ) bd) E)
    isplitl [Hx Hw Hb Hy]
    · iapply ((trip1 (Ix := Ix) (Name := Name) (U := U) (Lvl := Lvl) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 k1_h1 Xx Xw Xb k).2.2 E acc f)
      isplitl [Hx]; · iexact Hx
      isplitl [Hw]; · iexact Hw
      isplitl [Hb]; · iexact Hb
      iexact Hy
    · iintro %yld ⟨%hres, Hx, Hw, Hb, Hy⟩
      isplitl [Hx]; · iexact Hx
      isplitl [Hw]; · iexact Hw
      isplitl [Hb]; · iexact Hb
      isplitl [Hy]
      · iexists _; isplitl [Hy]; · iexact Hy
        ipureintro; exact hv.2 f hy
      ipureintro; exact hres.trans hv.1

/-! ## Layer 2 -/

/-- One trip of layer 2's loop, run: what it yields are what the run finds. -/
@[irreducible] def trip2 (k1_h1 : k1_cond1 i = 1#1) (Xx : BufTy.Contents (Elt F) arg19.view.ty) (Xw : BufTy.Contents (Elt F) arg23.view.ty) (Xb : BufTy.Contents (Elt F) arg24.view.ty) (k : Fin k1_t2_loop.trips) :
    { R : FVec F S64x128 .f32 → FVec F S64x128 .f32 // ∀ (E : Set Name) (acc : FVec F S64x128 .f32),
      (iprop((arg19.view.loc (c : Thread nD τ) ↦[arg19.view.set]{fullShare} Xx) ∗ (arg23.view.loc (c : Thread nD τ) ↦[arg23.view.set]{fullShare} Xw) ∗ (arg24.view.loc (c : Thread nD τ) ↦[arg24.view.set]{fullShare} Xb)) : sProp (MT nD τ sig Ix (Elt F) Name U Lvl))
      ⊢ wp Idealize.ShloMosaic.frame (wpE (defs₀ (F := F)) 𝒱 (c : Thread nD τ) bd) E (k1_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 k1_h1 k acc)
          (fun yld => iprop(⌜yld = R acc⌝ ∗ (arg19.view.loc (c : Thread nD τ) ↦[arg19.view.set]{fullShare} Xx) ∗ (arg23.view.loc (c : Thread nD τ) ↦[arg23.view.set]{fullShare} Xw) ∗ (arg24.view.loc (c : Thread nD τ) ↦[arg24.view.set]{fullShare} Xb))) } := by
  have hk : k.val < 32 := Nat.lt_of_lt_of_le k.isLt k1_t2_abs.2.1
  refine ⟨?_, fun E acc => ?run⟩
  case run =>
    unfold k1_t2_body
    iintro ⟨H1, H23, H24⟩
    sl_exec
    sl_step
    sl_close

/-- The states layer 2 goes through, from `init`. -/
abbrev run2 (arg19 : Memref sig .tc .vmem S16384x128 .bf16) (arg23 : Memref sig .tc .vmem S4x256x512 .bf16) (arg24 : Memref sig .tc .vmem S4x512 .f32) (Xx : BufTy.Contents (Elt F) arg19.view.ty) (Xw : BufTy.Contents (Elt F) arg23.view.ty) (Xb : BufTy.Contents (Elt F) arg24.view.ty) (init : FVec F S64x128 .f32) : ℕ → FVec F S64x128 .f32 :=
  turns (layerW (arg23.view.read (Elt F) Xw) 1) (layerB (arg24.view.read (Elt F) Xb) 1) (fun t => block (arg19.view.read (Elt F) Xx) t) init

theorem off2 (k : Fin k1_t2_loop.trips) (r : Fin 8) : k1_off2 k (BitVec.ofNat 32 r.val) = ![64 * (8 * k.val + r.val), 0] :=
  (k1_off2_eq k r).trans (by rw [show 512 * k.val + 64 * r.val = 64 * (8 * k.val + r.val) by omega])

/-- A trip of layer 2 is eight turns. -/
theorem trip2_val (k1_h1 : k1_cond1 i = 1#1) (Xx : BufTy.Contents (Elt F) arg19.view.ty) (Xw : BufTy.Contents (Elt F) arg23.view.ty) (Xb : BufTy.Contents (Elt F) arg24.view.ty) (k : Fin k1_t2_loop.trips) (init acc : FVec F S64x128 .f32) (hacc : acc = run2 arg19 arg23 arg24 Xx Xw Xb init (8 * k.val)) :
    (trip2 (Ix := Ix) (Name := Name) (U := U) (Lvl := Lvl) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 k1_h1 Xx Xw Xb k).1 acc = run2 arg19 arg23 arg24 Xx Xw Xb init (8 * (k.val + 1)) := by
  have hk : k.val < 32 := Nat.lt_of_lt_of_le k.isLt k1_t2_abs.2.1
  have e0 : trip2.sl.r i arg19 arg23 arg24 k1_h1 Xx Xw Xb k acc = run2 arg19 arg23 arg24 Xx Xw Xb init (8 * k.val + 0 + 1) :=
    Eq.trans (l2s0 ..) (turns_succ_of (n := 8 * k.val + 0) (read_layerW arg23.view Xw _ 1 rfl) (read_layerB arg24.view Xb _ 1 rfl) (read_block arg19.view Xx _ (8 * k.val + 0) (by omega) (off2 k 0)) hacc)
  have e1 : trip2.sl.r_1 i arg19 arg23 arg24 k1_h1 Xx Xw Xb k acc = run2 arg19 arg23 arg24 Xx Xw Xb init (8 * k.val + 1 + 1) :=
    Eq.trans (l2s1 ..) (turns_succ_of (n := 8 * k.val + 1) (read_layerW arg23.view Xw _ 1 rfl) (read_layerB arg24.view Xb _ 1 rfl) (read_block arg19.view Xx _ (8 * k.val + 1) (by omega) (off2 k 1)) e0)
  have e2 : trip2.sl.r_3 i arg19 arg23 arg24 k1_h1 Xx Xw Xb k acc = run2 arg19 arg23 arg24 Xx Xw Xb init (8 * k.val + 2 + 1) :=
    Eq.trans (l2s2 ..) (turns_succ_of (n := 8 * k.val + 2) (read_layerW arg23.view Xw _ 1 rfl) (read_layerB arg24.view Xb _ 1 rfl) (read_block arg19.view Xx _ (8 * k.val + 2) (by omega) (off2 k 2)) e1)
  have e3 : trip2.sl.r_5 i arg19 arg23 arg24 k1_h1 Xx Xw Xb k acc = run2 arg19 arg23 arg24 Xx Xw Xb init (8 * k.val + 3 + 1) :=
    Eq.trans (l2s3 ..) (turns_succ_of (n := 8 * k.val + 3) (read_layerW arg23.view Xw _ 1 rfl) (read_layerB arg24.view Xb _ 1 rfl) (read_block arg19.view Xx _ (8 * k.val + 3) (by omega) (off2 k 3)) e2)
  have e4 : trip2.sl.r_8 i arg19 arg23 arg24 k1_h1 Xx Xw Xb k acc = run2 arg19 arg23 arg24 Xx Xw Xb init (8 * k.val + 4 + 1) :=
    Eq.trans (l2s4 ..) (turns_succ_of (n := 8 * k.val + 4) (read_layerW arg23.view Xw _ 1 rfl) (read_layerB arg24.view Xb _ 1 rfl) (read_block arg19.view Xx _ (8 * k.val + 4) (by omega) (off2 k 4)) e3)
  have e5 : trip2.sl.r_11 i arg19 arg23 arg24 k1_h1 Xx Xw Xb k acc = run2 arg19 arg23 arg24 Xx Xw Xb init (8 * k.val + 5 + 1) :=
    Eq.trans (l2s5 ..) (turns_succ_of (n := 8 * k.val + 5) (read_layerW arg23.view Xw _ 1 rfl) (read_layerB arg24.view Xb _ 1 rfl) (read_block arg19.view Xx _ (8 * k.val + 5) (by omega) (off2 k 5)) e4)
  have e6 : trip2.sl.r_15 i arg19 arg23 arg24 k1_h1 Xx Xw Xb k acc = run2 arg19 arg23 arg24 Xx Xw Xb init (8 * k.val + 6 + 1) :=
    Eq.trans (l2s6 ..) (turns_succ_of (n := 8 * k.val + 6) (read_layerW arg23.view Xw _ 1 rfl) (read_layerB arg24.view Xb _ 1 rfl) (read_block arg19.view Xx _ (8 * k.val + 6) (by omega) (off2 k 6)) e5)
  have e7 : (trip2 (Ix := Ix) (Name := Name) (U := U) (Lvl := Lvl) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 k1_h1 Xx Xw Xb k).1 acc = run2 arg19 arg23 arg24 Xx Xw Xb init (8 * k.val + 7 + 1) := by
    unfold trip2
    exact Eq.trans (l2s7 ..) (turns_succ_of (n := 8 * k.val + 7) (read_layerW arg23.view Xw _ 1 rfl) (read_layerB arg24.view Xb _ 1 rfl) (read_block arg19.view Xx _ (8 * k.val + 7) (by omega) (off2 k 7)) e6)
  exact e7

/-- Before trip `k` of layer 2: the state carried is the one after `8 k` turns. -/
abbrev inv2 (c : Dev nD) (arg19 : Memref sig .tc .vmem S16384x128 .bf16) (arg23 : Memref sig .tc .vmem S4x256x512 .bf16) (arg24 : Memref sig .tc .vmem S4x512 .f32) (Xx : BufTy.Contents (Elt F) arg19.view.ty) (Xw : BufTy.Contents (Elt F) arg23.view.ty) (Xb : BufTy.Contents (Elt F) arg24.view.ty) (init : FVec F S64x128 .f32) (k : ℕ) (acc : FVec F S64x128 .f32) : sProp (MT nD τ sig Ix (Elt F) Name U Lvl) :=
  iprop((arg19.view.loc (c : Thread nD τ) ↦[arg19.view.set]{fullShare} Xx) ∗ (arg23.view.loc (c : Thread nD τ) ↦[arg23.view.set]{fullShare} Xw) ∗ (arg24.view.loc (c : Thread nD τ) ↦[arg24.view.set]{fullShare} Xb) ∗ ⌜acc = run2 arg19 arg23 arg24 Xx Xw Xb init (8 * k)⌝)

set_option warn.classDefReducibility false in
/-- Layer 2's loop by its invariant. -/
@[sl_loop] def loop2 (𝒱 : Variants) (c : Dev nD) (bd : Option 𝒱.V) (E : Set Name) (i : grid1.Coords) (arg1 : Memref sig .tc .vmem S16384x128 .f32) (harg1 : arg1.IsWhole) (arg2 : Memref sig .tc .vmem S16384x128 .f32) (harg2 : arg2.IsWhole) (arg3 : Memref sig .tc .vmem S128x384 .f32) (harg3 : arg3.IsWhole) (arg4 : Memref sig .tc .vmem S128x384 .f32) (harg4 : arg4.IsWhole) (arg5 : Memref sig .tc .vmem S2x384 .f32) (harg5 : arg5.IsWhole) (arg6 : Memref sig .tc .vmem S128x384 .f32) (harg6 : arg6.IsWhole) (arg7 : Memref sig .tc .vmem S128x384 .f32) (harg7 : arg7.IsWhole) (arg8 : Memref sig .tc .vmem S2x384 .f32) (harg8 : arg8.IsWhole) (arg9 : Memref sig .tc .vmem S128x384 .f32) (harg9 : arg9.IsWhole) (arg10 : Memref sig .tc .vmem S128x384 .f32) (harg10 : arg10.IsWhole) (arg11 : Memref sig .tc .vmem S2x384 .f32) (harg11 : arg11.IsWhole) (arg12 : Memref sig .tc .vmem S128x384 .f32) (harg12 : arg12.IsWhole) (arg13 : Memref sig .tc .vmem S128x384 .f32) (harg13 : arg13.IsWhole) (arg14 : Memref sig .tc .vmem S2x384 .f32) (harg14 : arg14.IsWhole) (arg15 : Memref sig .tc .hbm S128x100000 .f32) (harg15 : arg15.IsWhole) (arg16 : Memref sig .tc .vmem S128x4096 .f32) (harg16 : arg16.IsWhole) (arg17 : Memref sig .tc .vmem S1x4096 .f32) (harg17 : arg17.IsWhole) (arg18 : Memref sig .tc .vmem S64x4096 .f32) (harg18 : arg18.IsWhole) (arg19 : Memref sig .tc .vmem S16384x128 .bf16) (harg19 : arg19.IsWhole) (arg20 : Memref sig .tc .vmem S64x128 .f32) (harg20 : arg20.IsWhole) (arg21 : Memref sig .tc .vmem S14x128x4096 .f32) (harg21 : arg21.IsWhole) (arg22 : DmaSems sig S14) (arg23 : Memref sig .tc .vmem S4x256x512 .bf16) (harg23 : arg23.IsWhole) (arg24 : Memref sig .tc .vmem S4x512 .f32) (harg24 : arg24.IsWhole) (k1_h1 : k1_cond1 i = 1#1) (Xx : BufTy.Contents (Elt F) arg19.view.ty) (Xw : BufTy.Contents (Elt F) arg23.view.ty) (Xb : BufTy.Contents (Elt F) arg24.view.ty) (init : FVec F S64x128 .f32) :
    LoopInvTy_k1_t2 (F := F) Ix Name U Lvl 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 k1_h1 init where
  inv := inv2 (Ix := Ix) (Name := Name) (U := U) (Lvl := Lvl) c arg19 arg23 arg24 Xx Xw Xb init
  step k acc := by
    iintro ⟨Hx, Hw, Hb, %hacc⟩
    have hv := trip2_val (Ix := Ix) (Name := Name) (U := U) (Lvl := Lvl) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 k1_h1 Xx Xw Xb k init acc hacc
    iapply (wp_wand_r Idealize.ShloMosaic.frame (wpE (defs₀ (F := F)) 𝒱 (c : Thread nD τ) bd) E)
    isplitl [Hx Hw Hb]
    · iapply ((trip2 (Ix := Ix) (Name := Name) (U := U) (Lvl := Lvl) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 k1_h1 Xx Xw Xb k).2 E acc)
      isplitl [Hx]; · iexact Hx
      isplitl [Hw]; · iexact Hw
      iexact Hb
    · iintro %yld ⟨%hres, Hx, Hw, Hb⟩
      isplitl [Hx]; · iexact Hx
      isplitl [Hw]; · iexact Hw
      isplitl [Hb]; · iexact Hb
      ipureintro; exact hres.trans hv

/-! ## Layer 3 -/

/-- One trip of layer 3's loop, run: what it yields and the pieces it stores are what the run finds. -/
@[irreducible] def trip3 (k1_h1 : k1_cond1 i = 1#1) (Xx : BufTy.Contents (Elt F) arg2.view.ty) (Xw : BufTy.Contents (Elt F) arg23.view.ty) (Xb : BufTy.Contents (Elt F) arg24.view.ty) (k : Fin k1_t3_loop.trips) :
    Σ' (R : FVec F S64x128 .f32 → FVec F S64x128 .f32), { L : FVec F S64x128 .f32 → List (View.Piece (Elt F) S16384x128 .bf16) // ∀ (E : Set Name) (acc : FVec F S64x128 .f32) (f : BufTy.Contents (Elt F) arg19.view.ty),
      (iprop((arg2.view.loc (c : Thread nD τ) ↦[arg2.view.set]{fullShare} Xx) ∗ (arg23.view.loc (c : Thread nD τ) ↦[arg23.view.set]{fullShare} Xw) ∗ (arg24.view.loc (c : Thread nD τ) ↦[arg24.view.set]{fullShare} Xb) ∗ (arg19.view.loc (c : Thread nD τ) ↦[arg19.view.set]{fullShare} f)) : sProp (MT nD τ sig Ix (Elt F) Name U Lvl))
      ⊢ wp Idealize.ShloMosaic.frame (wpE (defs₀ (F := F)) 𝒱 (c : Thread nD τ) bd) E (k1_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 k1_h1 k acc)
          (fun yld => iprop(⌜yld = R acc⌝ ∗ (arg2.view.loc (c : Thread nD τ) ↦[arg2.view.set]{fullShare} Xx) ∗ (arg23.view.loc (c : Thread nD τ) ↦[arg23.view.set]{fullShare} Xw) ∗ (arg24.view.loc (c : Thread nD τ) ↦[arg24.view.set]{fullShare} Xb) ∗ (arg19.view.loc (c : Thread nD τ) ↦[arg19.view.set]{fullShare} arg19.view.writes (Elt F) f (L acc)))) } := by
  have hk : k.val < 32 := Nat.lt_of_lt_of_le k.isLt k1_t3_abs.2.1
  refine ⟨?_, ?_, fun E acc f => ?run⟩
  case run =>
    unfold k1_t3_body
    iintro ⟨H1, H23, H24, H19⟩
    sl_exec
    sl_step
    sl_close

/-- The states layer 3 goes through, from `init`. -/
abbrev run3 (arg2 : Memref sig .tc .vmem S16384x128 .f32) (arg23 : Memref sig .tc .vmem S4x256x512 .bf16) (arg24 : Memref sig .tc .vmem S4x512 .f32) (Xx : BufTy.Contents (Elt F) arg2.view.ty) (Xw : BufTy.Contents (Elt F) arg23.view.ty) (Xb : BufTy.Contents (Elt F) arg24.view.ty) (init : FVec F S64x128 .f32) : ℕ → FVec F S64x128 .f32 :=
  turns (layerW (arg23.view.read (Elt F) Xw) 2) (layerB (arg24.view.read (Elt F) Xb) 2) (fun t => seen (block (arg2.view.read (Elt F) Xx) t)) init

theorem off3 (k : Fin k1_t3_loop.trips) (r : Fin 8) : k1_off3 k (BitVec.ofNat 32 r.val) = ![64 * (8 * k.val + r.val), 0] :=
  (k1_off3_eq k r).trans (by rw [show 512 * k.val + 64 * r.val = 64 * (8 * k.val + r.val) by omega])

/-- A trip of layer 3 is eight turns, and it stores the eight states. -/
theorem trip3_val (k1_h1 : k1_cond1 i = 1#1) (Xx : BufTy.Contents (Elt F) arg2.view.ty) (Xw : BufTy.Contents (Elt F) arg23.view.ty) (Xb : BufTy.Contents (Elt F) arg24.view.ty) (k : Fin k1_t3_loop.trips) (init acc : FVec F S64x128 .f32) (hacc : acc = run3 arg2 arg23 arg24 Xx Xw Xb init (8 * k.val)) :
    (trip3 (Ix := Ix) (Name := Name) (U := U) (Lvl := Lvl) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 k1_h1 Xx Xw Xb k).1 acc = run3 arg2 arg23 arg24 Xx Xw Xb init (8 * (k.val + 1))
    ∧ ∀ f : BufTy.Contents (Elt F) arg19.view.ty, (∀ y : S16384x128.Idx, (y 0).val < 64 * (8 * k.val) → arg19.view.read (Elt F) f y = states (run3 arg2 arg23 arg24 Xx Xw Xb init) y) →
      ∀ y : S16384x128.Idx, (y 0).val < 64 * (8 * (k.val + 1)) → arg19.view.read (Elt F) (arg19.view.writes (Elt F) f ((trip3 (Ix := Ix) (Name := Name) (U := U) (Lvl := Lvl) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 k1_h1 Xx Xw Xb k).2.1 acc)) y = states (run3 arg2 arg23 arg24 Xx Xw Xb init) y := by
  have hk : k.val < 32 := Nat.lt_of_lt_of_le k.isLt k1_t3_abs.2.1
  have e0 : trip3.sl.r i arg2 arg23 arg24 k1_h1 Xx Xw Xb k acc = run3 arg2 arg23 arg24 Xx Xw Xb init (8 * k.val + 0 + 1) :=
    Eq.trans (l3s0 ..) (turns_succ_of (n := 8 * k.val + 0) (read_layerW arg23.view Xw _ 2 rfl) (read_layerB arg24.view Xb _ 2 rfl) (congrArg seen (read_block arg2.view Xx _ (8 * k.val + 0) (by omega) (off3 k 0))) hacc)
  have e1 : trip3.sl.r_5 i arg2 arg23 arg24 k1_h1 Xx Xw Xb k acc = run3 arg2 arg23 arg24 Xx Xw Xb init (8 * k.val + 1 + 1) :=
    Eq.trans (l3s1 ..) (turns_succ_of (n := 8 * k.val + 1) (read_layerW arg23.view Xw _ 2 rfl) (read_layerB arg24.view Xb _ 2 rfl) (congrArg seen (read_block arg2.view Xx _ (8 * k.val + 1) (by omega) (off3 k 1))) e0)
  have e2 : trip3.sl.r_10 i arg2 arg23 arg24 k1_h1 Xx Xw Xb k acc = run3 arg2 arg23 arg24 Xx Xw Xb init (8 * k.val + 2 + 1) :=
    Eq.trans (l3s2 ..) (turns_succ_of (n := 8 * k.val + 2) (read_layerW arg23.view Xw _ 2 rfl) (read_layerB arg24.view Xb _ 2 rfl) (congrArg seen (read_block arg2.view Xx _ (8 * k.val + 2) (by omega) (off3 k 2))) e1)
  have e3 : trip3.sl.r_14 i arg2 arg23 arg24 k1_h1 Xx Xw Xb k acc = run3 arg2 arg23 arg24 Xx Xw Xb init (8 * k.val + 3 + 1) :=
    Eq.trans (l3s3 ..) (turns_succ_of (n := 8 * k.val + 3) (read_layerW arg23.view Xw _ 2 rfl) (read_layerB arg24.view Xb _ 2 rfl) (congrArg seen (read_block arg2.view Xx _ (8 * k.val + 3) (by omega) (off3 k 3))) e2)
  have e4 : trip3.sl.r_18 i arg2 arg23 arg24 k1_h1 Xx Xw Xb k acc = run3 arg2 arg23 arg24 Xx Xw Xb init (8 * k.val + 4 + 1) :=
    Eq.trans (l3s4 ..) (turns_succ_of (n := 8 * k.val + 4) (read_layerW arg23.view Xw _ 2 rfl) (read_layerB arg24.view Xb _ 2 rfl) (congrArg seen (read_block arg2.view Xx _ (8 * k.val + 4) (by omega) (off3 k 4))) e3)
  have e5 : trip3.sl.r_22 i arg2 arg23 arg24 k1_h1 Xx Xw Xb k acc = run3 arg2 arg23 arg24 Xx Xw Xb init (8 * k.val + 5 + 1) :=
    Eq.trans (l3s5 ..) (turns_succ_of (n := 8 * k.val + 5) (read_layerW arg23.view Xw _ 2 rfl) (read_layerB arg24.view Xb _ 2 rfl) (congrArg seen (read_block arg2.view Xx _ (8 * k.val + 5) (by omega) (off3 k 5))) e4)
  have e6 : trip3.sl.r_25 i arg2 arg23 arg24 k1_h1 Xx Xw Xb k acc = run3 arg2 arg23 arg24 Xx Xw Xb init (8 * k.val + 6 + 1) :=
    Eq.trans (l3s6 ..) (turns_succ_of (n := 8 * k.val + 6) (read_layerW arg23.view Xw _ 2 rfl) (read_layerB arg24.view Xb _ 2 rfl) (congrArg seen (read_block arg2.view Xx _ (8 * k.val + 6) (by omega) (off3 k 6))) e5)
  have e7 : (trip3 (Ix := Ix) (Name := Name) (U := U) (Lvl := Lvl) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 k1_h1 Xx Xw Xb k).1 acc = run3 arg2 arg23 arg24 Xx Xw Xb init (8 * k.val + 7 + 1) := by
    unfold trip3
    exact Eq.trans (l3s7 ..) (turns_succ_of (n := 8 * k.val + 7) (read_layerW arg23.view Xw _ 2 rfl) (read_layerB arg24.view Xb _ 2 rfl) (congrArg seen (read_block arg2.view Xx _ (8 * k.val + 7) (by omega) (off3 k 7))) e6)
  refine ⟨e7, fun f h => ?_⟩
  have e7' := e7
  unfold trip3 at e7' ⊢
  dsimp only at e7' ⊢
  exact (stored_succ _ f _ _ (8 * k.val + 7) (off3 k 7) (Eq.trans (l3k7 ..) (congrArg kept e7')) (stored_succ _ f _ _ (8 * k.val + 6) (off3 k 6) (Eq.trans (l3k6 ..) (congrArg kept e6)) (stored_succ _ f _ _ (8 * k.val + 5) (off3 k 5) (Eq.trans (l3k5 ..) (congrArg kept e5)) (stored_succ _ f _ _ (8 * k.val + 4) (off3 k 4) (Eq.trans (l3k4 ..) (congrArg kept e4)) (stored_succ _ f _ _ (8 * k.val + 3) (off3 k 3) (Eq.trans (l3k3 ..) (congrArg kept e3)) (stored_succ _ f _ _ (8 * k.val + 2) (off3 k 2) (Eq.trans (l3k2 ..) (congrArg kept e2)) (stored_succ _ f _ _ (8 * k.val + 1) (off3 k 1) (Eq.trans (l3k1 ..) (congrArg kept e1)) (stored_succ _ f _ _ (8 * k.val + 0) (off3 k 0) (Eq.trans (l3k0 ..) (congrArg kept e0)) h))))))))

/-- Before trip `k` of layer 3: the state carried is the one after `8 k` turns, and the rows below `512 k` are the states so far. -/
abbrev inv3 (c : Dev nD) (arg2 : Memref sig .tc .vmem S16384x128 .f32) (arg19 : Memref sig .tc .vmem S16384x128 .bf16) (arg23 : Memref sig .tc .vmem S4x256x512 .bf16) (arg24 : Memref sig .tc .vmem S4x512 .f32) (Xx : BufTy.Contents (Elt F) arg2.view.ty) (Xw : BufTy.Contents (Elt F) arg23.view.ty) (Xb : BufTy.Contents (Elt F) arg24.view.ty) (init : FVec F S64x128 .f32) (k : ℕ) (acc : FVec F S64x128 .f32) : sProp (MT nD τ sig Ix (Elt F) Name U Lvl) :=
  iprop((arg2.view.loc (c : Thread nD τ) ↦[arg2.view.set]{fullShare} Xx) ∗ (arg23.view.loc (c : Thread nD τ) ↦[arg23.view.set]{fullShare} Xw) ∗ (arg24.view.loc (c : Thread nD τ) ↦[arg24.view.set]{fullShare} Xb) ∗ (∃ f, (arg19.view.loc (c : Thread nD τ) ↦[arg19.view.set]{fullShare} f) ∗ ⌜∀ y : S16384x128.Idx, (y 0).val < 64 * (8 * k) → arg19.view.read (Elt F) f y = states (run3 arg2 arg23 arg24 Xx Xw Xb init) y⌝) ∗ ⌜acc = run3 arg2 arg23 arg24 Xx Xw Xb init (8 * k)⌝)

set_option warn.classDefReducibility false in
/-- Layer 3's loop by its invariant. -/
@[sl_loop] def loop3 (𝒱 : Variants) (c : Dev nD) (bd : Option 𝒱.V) (E : Set Name) (i : grid1.Coords) (arg1 : Memref sig .tc .vmem S16384x128 .f32) (harg1 : arg1.IsWhole) (arg2 : Memref sig .tc .vmem S16384x128 .f32) (harg2 : arg2.IsWhole) (arg3 : Memref sig .tc .vmem S128x384 .f32) (harg3 : arg3.IsWhole) (arg4 : Memref sig .tc .vmem S128x384 .f32) (harg4 : arg4.IsWhole) (arg5 : Memref sig .tc .vmem S2x384 .f32) (harg5 : arg5.IsWhole) (arg6 : Memref sig .tc .vmem S128x384 .f32) (harg6 : arg6.IsWhole) (arg7 : Memref sig .tc .vmem S128x384 .f32) (harg7 : arg7.IsWhole) (arg8 : Memref sig .tc .vmem S2x384 .f32) (harg8 : arg8.IsWhole) (arg9 : Memref sig .tc .vmem S128x384 .f32) (harg9 : arg9.IsWhole) (arg10 : Memref sig .tc .vmem S128x384 .f32) (harg10 : arg10.IsWhole) (arg11 : Memref sig .tc .vmem S2x384 .f32) (harg11 : arg11.IsWhole) (arg12 : Memref sig .tc .vmem S128x384 .f32) (harg12 : arg12.IsWhole) (arg13 : Memref sig .tc .vmem S128x384 .f32) (harg13 : arg13.IsWhole) (arg14 : Memref sig .tc .vmem S2x384 .f32) (harg14 : arg14.IsWhole) (arg15 : Memref sig .tc .hbm S128x100000 .f32) (harg15 : arg15.IsWhole) (arg16 : Memref sig .tc .vmem S128x4096 .f32) (harg16 : arg16.IsWhole) (arg17 : Memref sig .tc .vmem S1x4096 .f32) (harg17 : arg17.IsWhole) (arg18 : Memref sig .tc .vmem S64x4096 .f32) (harg18 : arg18.IsWhole) (arg19 : Memref sig .tc .vmem S16384x128 .bf16) (harg19 : arg19.IsWhole) (arg20 : Memref sig .tc .vmem S64x128 .f32) (harg20 : arg20.IsWhole) (arg21 : Memref sig .tc .vmem S14x128x4096 .f32) (harg21 : arg21.IsWhole) (arg22 : DmaSems sig S14) (arg23 : Memref sig .tc .vmem S4x256x512 .bf16) (harg23 : arg23.IsWhole) (arg24 : Memref sig .tc .vmem S4x512 .f32) (harg24 : arg24.IsWhole) (k1_h1 : k1_cond1 i = 1#1) (Xx : BufTy.Contents (Elt F) arg2.view.ty) (Xw : BufTy.Contents (Elt F) arg23.view.ty) (Xb : BufTy.Contents (Elt F) arg24.view.ty) (init : FVec F S64x128 .f32) :
    LoopInvTy_k1_t3 (F := F) Ix Name U Lvl 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 k1_h1 init where
  inv := inv3 (Ix := Ix) (Name := Name) (U := U) (Lvl := Lvl) c arg2 arg19 arg23 arg24 Xx Xw Xb init
  step k acc := by
    iintro ⟨Hx, Hw, Hb, ⟨%f, Hy, %hy⟩, %hacc⟩
    have hv := trip3_val (Ix := Ix) (Name := Name) (U := U) (Lvl := Lvl) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 k1_h1 Xx Xw Xb k init acc hacc
    iapply (wp_wand_r Idealize.ShloMosaic.frame (wpE (defs₀ (F := F)) 𝒱 (c : Thread nD τ) bd) E)
    isplitl [Hx Hw Hb Hy]
    · iapply ((trip3 (Ix := Ix) (Name := Name) (U := U) (Lvl := Lvl) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 k1_h1 Xx Xw Xb k).2.2 E acc f)
      isplitl [Hx]; · iexact Hx
      isplitl [Hw]; · iexact Hw
      isplitl [Hb]; · iexact Hb
      iexact Hy
    · iintro %yld ⟨%hres, Hx, Hw, Hb, Hy⟩
      isplitl [Hx]; · iexact Hx
      isplitl [Hw]; · iexact Hw
      isplitl [Hb]; · iexact Hb
      isplitl [Hy]
      · iexists _; isplitl [Hy]; · iexact Hy
        ipureintro; exact hv.2 f hy
      ipureintro; exact hres.trans hv.1

/-! ## Layer 4 -/

/-- One trip of layer 4's loop, run: what it yields are what the run finds. -/
@[irreducible] def trip4 (k1_h1 : k1_cond1 i = 1#1) (Xx : BufTy.Contents (Elt F) arg19.view.ty) (Xw : BufTy.Contents (Elt F) arg23.view.ty) (Xb : BufTy.Contents (Elt F) arg24.view.ty) (k : Fin k1_t4_loop.trips) :
    { R : FVec F S64x128 .f32 → FVec F S64x128 .f32 // ∀ (E : Set Name) (acc : FVec F S64x128 .f32),
      (iprop((arg19.view.loc (c : Thread nD τ) ↦[arg19.view.set]{fullShare} Xx) ∗ (arg23.view.loc (c : Thread nD τ) ↦[arg23.view.set]{fullShare} Xw) ∗ (arg24.view.loc (c : Thread nD τ) ↦[arg24.view.set]{fullShare} Xb)) : sProp (MT nD τ sig Ix (Elt F) Name U Lvl))
      ⊢ wp Idealize.ShloMosaic.frame (wpE (defs₀ (F := F)) 𝒱 (c : Thread nD τ) bd) E (k1_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 k1_h1 k acc)
          (fun yld => iprop(⌜yld = R acc⌝ ∗ (arg19.view.loc (c : Thread nD τ) ↦[arg19.view.set]{fullShare} Xx) ∗ (arg23.view.loc (c : Thread nD τ) ↦[arg23.view.set]{fullShare} Xw) ∗ (arg24.view.loc (c : Thread nD τ) ↦[arg24.view.set]{fullShare} Xb))) } := by
  have hk : k.val < 32 := Nat.lt_of_lt_of_le k.isLt k1_t4_abs.2.1
  refine ⟨?_, fun E acc => ?run⟩
  case run =>
    unfold k1_t4_body
    iintro ⟨H1, H23, H24⟩
    sl_exec
    sl_step
    sl_close

/-- The states layer 4 goes through, from `init`. -/
abbrev run4 (arg19 : Memref sig .tc .vmem S16384x128 .bf16) (arg23 : Memref sig .tc .vmem S4x256x512 .bf16) (arg24 : Memref sig .tc .vmem S4x512 .f32) (Xx : BufTy.Contents (Elt F) arg19.view.ty) (Xw : BufTy.Contents (Elt F) arg23.view.ty) (Xb : BufTy.Contents (Elt F) arg24.view.ty) (init : FVec F S64x128 .f32) : ℕ → FVec F S64x128 .f32 :=
  turns (layerW (arg23.view.read (Elt F) Xw) 3) (layerB (arg24.view.read (Elt F) Xb) 3) (fun t => block (arg19.view.read (Elt F) Xx) t) init

theorem off4 (k : Fin k1_t4_loop.trips) (r : Fin 8) : k1_off4 k (BitVec.ofNat 32 r.val) = ![64 * (8 * k.val + r.val), 0] :=
  (k1_off4_eq k r).trans (by rw [show 512 * k.val + 64 * r.val = 64 * (8 * k.val + r.val) by omega])

/-- A trip of layer 4 is eight turns. -/
theorem trip4_val (k1_h1 : k1_cond1 i = 1#1) (Xx : BufTy.Contents (Elt F) arg19.view.ty) (Xw : BufTy.Contents (Elt F) arg23.view.ty) (Xb : BufTy.Contents (Elt F) arg24.view.ty) (k : Fin k1_t4_loop.trips) (init acc : FVec F S64x128 .f32) (hacc : acc = run4 arg19 arg23 arg24 Xx Xw Xb init (8 * k.val)) :
    (trip4 (Ix := Ix) (Name := Name) (U := U) (Lvl := Lvl) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 k1_h1 Xx Xw Xb k).1 acc = run4 arg19 arg23 arg24 Xx Xw Xb init (8 * (k.val + 1)) := by
  have hk : k.val < 32 := Nat.lt_of_lt_of_le k.isLt k1_t4_abs.2.1
  have e0 : trip4.sl.r i arg19 arg23 arg24 k1_h1 Xx Xw Xb k acc = run4 arg19 arg23 arg24 Xx Xw Xb init (8 * k.val + 0 + 1) :=
    Eq.trans (l4s0 ..) (turns_succ_of (n := 8 * k.val + 0) (read_layerW arg23.view Xw _ 3 rfl) (read_layerB arg24.view Xb _ 3 rfl) (read_block arg19.view Xx _ (8 * k.val + 0) (by omega) (off4 k 0)) hacc)
  have e1 : trip4.sl.r_1 i arg19 arg23 arg24 k1_h1 Xx Xw Xb k acc = run4 arg19 arg23 arg24 Xx Xw Xb init (8 * k.val + 1 + 1) :=
    Eq.trans (l4s1 ..) (turns_succ_of (n := 8 * k.val + 1) (read_layerW arg23.view Xw _ 3 rfl) (read_layerB arg24.view Xb _ 3 rfl) (read_block arg19.view Xx _ (8 * k.val + 1) (by omega) (off4 k 1)) e0)
  have e2 : trip4.sl.r_3 i arg19 arg23 arg24 k1_h1 Xx Xw Xb k acc = run4 arg19 arg23 arg24 Xx Xw Xb init (8 * k.val + 2 + 1) :=
    Eq.trans (l4s2 ..) (turns_succ_of (n := 8 * k.val + 2) (read_layerW arg23.view Xw _ 3 rfl) (read_layerB arg24.view Xb _ 3 rfl) (read_block arg19.view Xx _ (8 * k.val + 2) (by omega) (off4 k 2)) e1)
  have e3 : trip4.sl.r_5 i arg19 arg23 arg24 k1_h1 Xx Xw Xb k acc = run4 arg19 arg23 arg24 Xx Xw Xb init (8 * k.val + 3 + 1) :=
    Eq.trans (l4s3 ..) (turns_succ_of (n := 8 * k.val + 3) (read_layerW arg23.view Xw _ 3 rfl) (read_layerB arg24.view Xb _ 3 rfl) (read_block arg19.view Xx _ (8 * k.val + 3) (by omega) (off4 k 3)) e2)
  have e4 : trip4.sl.r_8 i arg19 arg23 arg24 k1_h1 Xx Xw Xb k acc = run4 arg19 arg23 arg24 Xx Xw Xb init (8 * k.val + 4 + 1) :=
    Eq.trans (l4s4 ..) (turns_succ_of (n := 8 * k.val + 4) (read_layerW arg23.view Xw _ 3 rfl) (read_layerB arg24.view Xb _ 3 rfl) (read_block arg19.view Xx _ (8 * k.val + 4) (by omega) (off4 k 4)) e3)
  have e5 : trip4.sl.r_11 i arg19 arg23 arg24 k1_h1 Xx Xw Xb k acc = run4 arg19 arg23 arg24 Xx Xw Xb init (8 * k.val + 5 + 1) :=
    Eq.trans (l4s5 ..) (turns_succ_of (n := 8 * k.val + 5) (read_layerW arg23.view Xw _ 3 rfl) (read_layerB arg24.view Xb _ 3 rfl) (read_block arg19.view Xx _ (8 * k.val + 5) (by omega) (off4 k 5)) e4)
  have e6 : trip4.sl.r_15 i arg19 arg23 arg24 k1_h1 Xx Xw Xb k acc = run4 arg19 arg23 arg24 Xx Xw Xb init (8 * k.val + 6 + 1) :=
    Eq.trans (l4s6 ..) (turns_succ_of (n := 8 * k.val + 6) (read_layerW arg23.view Xw _ 3 rfl) (read_layerB arg24.view Xb _ 3 rfl) (read_block arg19.view Xx _ (8 * k.val + 6) (by omega) (off4 k 6)) e5)
  have e7 : (trip4 (Ix := Ix) (Name := Name) (U := U) (Lvl := Lvl) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 k1_h1 Xx Xw Xb k).1 acc = run4 arg19 arg23 arg24 Xx Xw Xb init (8 * k.val + 7 + 1) := by
    unfold trip4
    exact Eq.trans (l4s7 ..) (turns_succ_of (n := 8 * k.val + 7) (read_layerW arg23.view Xw _ 3 rfl) (read_layerB arg24.view Xb _ 3 rfl) (read_block arg19.view Xx _ (8 * k.val + 7) (by omega) (off4 k 7)) e6)
  exact e7

/-- Before trip `k` of layer 4: the state carried is the one after `8 k` turns. -/
abbrev inv4 (c : Dev nD) (arg19 : Memref sig .tc .vmem S16384x128 .bf16) (arg23 : Memref sig .tc .vmem S4x256x512 .bf16) (arg24 : Memref sig .tc .vmem S4x512 .f32) (Xx : BufTy.Contents (Elt F) arg19.view.ty) (Xw : BufTy.Contents (Elt F) arg23.view.ty) (Xb : BufTy.Contents (Elt F) arg24.view.ty) (init : FVec F S64x128 .f32) (k : ℕ) (acc : FVec F S64x128 .f32) : sProp (MT nD τ sig Ix (Elt F) Name U Lvl) :=
  iprop((arg19.view.loc (c : Thread nD τ) ↦[arg19.view.set]{fullShare} Xx) ∗ (arg23.view.loc (c : Thread nD τ) ↦[arg23.view.set]{fullShare} Xw) ∗ (arg24.view.loc (c : Thread nD τ) ↦[arg24.view.set]{fullShare} Xb) ∗ ⌜acc = run4 arg19 arg23 arg24 Xx Xw Xb init (8 * k)⌝)

set_option warn.classDefReducibility false in
/-- Layer 4's loop by its invariant. -/
@[sl_loop] def loop4 (𝒱 : Variants) (c : Dev nD) (bd : Option 𝒱.V) (E : Set Name) (i : grid1.Coords) (arg1 : Memref sig .tc .vmem S16384x128 .f32) (harg1 : arg1.IsWhole) (arg2 : Memref sig .tc .vmem S16384x128 .f32) (harg2 : arg2.IsWhole) (arg3 : Memref sig .tc .vmem S128x384 .f32) (harg3 : arg3.IsWhole) (arg4 : Memref sig .tc .vmem S128x384 .f32) (harg4 : arg4.IsWhole) (arg5 : Memref sig .tc .vmem S2x384 .f32) (harg5 : arg5.IsWhole) (arg6 : Memref sig .tc .vmem S128x384 .f32) (harg6 : arg6.IsWhole) (arg7 : Memref sig .tc .vmem S128x384 .f32) (harg7 : arg7.IsWhole) (arg8 : Memref sig .tc .vmem S2x384 .f32) (harg8 : arg8.IsWhole) (arg9 : Memref sig .tc .vmem S128x384 .f32) (harg9 : arg9.IsWhole) (arg10 : Memref sig .tc .vmem S128x384 .f32) (harg10 : arg10.IsWhole) (arg11 : Memref sig .tc .vmem S2x384 .f32) (harg11 : arg11.IsWhole) (arg12 : Memref sig .tc .vmem S128x384 .f32) (harg12 : arg12.IsWhole) (arg13 : Memref sig .tc .vmem S128x384 .f32) (harg13 : arg13.IsWhole) (arg14 : Memref sig .tc .vmem S2x384 .f32) (harg14 : arg14.IsWhole) (arg15 : Memref sig .tc .hbm S128x100000 .f32) (harg15 : arg15.IsWhole) (arg16 : Memref sig .tc .vmem S128x4096 .f32) (harg16 : arg16.IsWhole) (arg17 : Memref sig .tc .vmem S1x4096 .f32) (harg17 : arg17.IsWhole) (arg18 : Memref sig .tc .vmem S64x4096 .f32) (harg18 : arg18.IsWhole) (arg19 : Memref sig .tc .vmem S16384x128 .bf16) (harg19 : arg19.IsWhole) (arg20 : Memref sig .tc .vmem S64x128 .f32) (harg20 : arg20.IsWhole) (arg21 : Memref sig .tc .vmem S14x128x4096 .f32) (harg21 : arg21.IsWhole) (arg22 : DmaSems sig S14) (arg23 : Memref sig .tc .vmem S4x256x512 .bf16) (harg23 : arg23.IsWhole) (arg24 : Memref sig .tc .vmem S4x512 .f32) (harg24 : arg24.IsWhole) (k1_h1 : k1_cond1 i = 1#1) (Xx : BufTy.Contents (Elt F) arg19.view.ty) (Xw : BufTy.Contents (Elt F) arg23.view.ty) (Xb : BufTy.Contents (Elt F) arg24.view.ty) (init : FVec F S64x128 .f32) :
    LoopInvTy_k1_t4 (F := F) Ix Name U Lvl 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 k1_h1 init where
  inv := inv4 (Ix := Ix) (Name := Name) (U := U) (Lvl := Lvl) c arg19 arg23 arg24 Xx Xw Xb init
  step k acc := by
    iintro ⟨Hx, Hw, Hb, %hacc⟩
    have hv := trip4_val (Ix := Ix) (Name := Name) (U := U) (Lvl := Lvl) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 k1_h1 Xx Xw Xb k init acc hacc
    iapply (wp_wand_r Idealize.ShloMosaic.frame (wpE (defs₀ (F := F)) 𝒱 (c : Thread nD τ) bd) E)
    isplitl [Hx Hw Hb]
    · iapply ((trip4 (Ix := Ix) (Name := Name) (U := U) (Lvl := Lvl) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 k1_h1 Xx Xw Xb k).2 E acc)
      isplitl [Hx]; · iexact Hx
      isplitl [Hw]; · iexact Hw
      iexact Hb
    · iintro %yld ⟨%hres, Hx, Hw, Hb⟩
      isplitl [Hx]; · iexact Hx
      isplitl [Hw]; · iexact Hw
      isplitl [Hb]; · iexact Hb
      ipureintro; exact hres.trans hv

end Cert.Kernel.Layers
-- ==== Proof.Point.lean ====
module

public import proofs.«01_k».proof.Proof.Layers
public import Idealize.ShloMosaic.Lib.Pipeline.Value

@[expose] public section
/-! # One grid point of the dense kernel

The kernel keeps fourteen blocks of the last weight matrix on their way into fourteen slots.  Here each kind of grid point is run on what it touches: one block's transfer collected and the block applied to the final state, and at the earlier points the next block's transfer begun.
-/

set_option maxRecDepth 8192
set_option maxHeartbeats 4000000

noncomputable section
namespace Cert.Kernel.Point
open Cert.Kernel Cert.Kernel.Gen Cert.Kernel.Steps Cert.Kernel.Layers
open Idealize.ShloMosaic Idealize.ShloMosaic.TcCoe Idealize.ShloMosaic.Tactic
open Idealize.ShloMosaic.SparseCore.Cfg (HIx)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "UU" => URounds (GSem nD τ sig) ℕ × (UR sig nD τ × Counters)
local notation "𝕄" => MT nD τ sig (HIx 1) (Elt F) ℕ UU ℕ

/-- The slot at an offset, the block at an offset, the cell at an offset. -/
abbrev slotM (arg21 : Memref sig .tc .vmem S14x128x4096 .f32) (off : Fin 3 → ℕ) (h : ∀ a, off a + S1x128x4096.size a ≤ S14x128x4096.size a) : Memref sig .tc .vmem S128x4096 .f32 :=
  (arg21.slice (Rect.unit (s := S14x128x4096) off S1x128x4096.size h) (fun _ => rfl)).squeeze S128x4096 squeezes_S1x128x4096_S128x4096
abbrev blockM (arg15 : Memref sig .tc .hbm S128x100000 .f32) (off : Fin 2 → ℕ) (h : ∀ a, off a + S128x4096.size a ≤ S128x100000.size a) : Memref sig .tc .hbm S128x4096 .f32 :=
  arg15.slice (Rect.unit (s := S128x100000) off S128x4096.size h) (fun _ => rfl)
abbrev cellM (arg22 : DmaSems sig S14) (off : Fin 1 → ℕ) (h : ∀ a, off a + S1.size a ≤ S14.size a) : DmaSem sig :=
  ((arg22.slice (Rect.unit (s := S14) off S1.size h)).squeeze S_ squeezes_S1_S_).sem

/-- One block of the last layer: the state against a block of weights, and the bias. -/
def applied (h : FVec F S64x128 .f32) (w : FVec F S128x4096 .f32) (b : FVec F S1x4096 .f32) : FVec F S64x4096 .f32 :=
  addf (matmul dot_S64x128_S128x4096_S64x4096_1_0_0_1_n_n none h w (constant S64x4096 .f32 0x00000000#32)) (broadcastTo S64x4096 b broadcasts_S1x4096_S64x4096)

theorem pay11 (h : Vec F S64x128 .f32) (w : Vec F S1x128x4096 .f32) (b : Vec F S1x4096 .f32) :
    k1_pay11 h w b = applied h (shapeCast S128x4096 w shapeCasts_S1x128x4096_S128x4096) b := by
  unfold k1_pay11 applied; dsimp only; rw [shapeCast_self]

theorem pay12 (h : Vec F S64x128 .f32) (w : Vec F S128x4096 .f32) (b : Vec F S1x4096 .f32) : k1_pay12 h w b = applied h w b := by
  unfold k1_pay12 applied; dsimp only; rw [shapeCast_self, shapeCast_self]

section Whole
variable {κ : Kind} {sp : Space} {s : Shape} {e : EltTy}

/-- A load of everything reads everything. -/
theorem readAt_all (v : View sig κ sp s e) {off : Fin s.rank → ℕ} (ho : off = fun _ => 0) (inb : ∀ a, off a + s.size a ≤ s.size a) (f : BufTy.Contents (Elt F) v.ty) :
    View.readAt (Elt F) v (Rect.unit off s.size inb).toLoadRect f = v.read (Elt F) f := by
  subst ho
  funext y
  refine (View.readAt_apply _ f y).trans (congrArg (v.read (Elt F) f) (funext fun a => Fin.ext ?_))
  show 0 + 1 * (y a).val = (y a).val
  omega

/-- A store of everything is read back whole. -/
theorem read_all (v : View sig κ sp s e) {off : Fin s.rank → ℕ} (ho : off = fun _ => 0) (inb : ∀ a, off a + s.size a ≤ s.size a) (f : BufTy.Contents (Elt F) v.ty)
    (x : (Rect.unit off s.size inb).shape.Idx → Elt F e) : v.read (Elt F) (v.writes (Elt F) f [⟨Rect.unit off s.size inb, x⟩]) = x := by
  subst ho
  funext y
  exact View.read_writes_cons_unit_of_mem (v := v) (f := f) inb x [] y y rfl fun a => by show (y a).val = 0 + (y a).val; omega

end Whole

/-- The slot's block, as a load of the slot reads it. -/
theorem slot_cast (arg21 : Memref sig .tc .vmem S14x128x4096 .f32) (off : Fin 3 → ℕ) (h : ∀ a, off a + S1x128x4096.size a ≤ S14x128x4096.size a) (g : BufTy.Contents (Elt F) arg21.view.ty) :
    shapeCast S128x4096 (View.readAt (Elt F) arg21.view (Rect.unit (s := S14x128x4096) off S1x128x4096.size h).toLoadRect g) shapeCasts_S1x128x4096_S128x4096 = (slotM arg21 off h).view.read (Elt F) g := rfl

theorem zero2 : (![0, 0] : Fin 2 → ℕ) = fun _ => 0 := by funext a; fin_cases a <;> rfl

variable (c : Dev nD) (bd : Option Variants.none.V) (i : grid1.Coords) (arg1 : Memref sig .tc .vmem S16384x128 .f32) (harg1 : arg1.IsWhole) (arg2 : Memref sig .tc .vmem S16384x128 .f32) (harg2 : arg2.IsWhole) (arg3 : Memref sig .tc .vmem S128x384 .f32) (harg3 : arg3.IsWhole) (arg4 : Memref sig .tc .vmem S128x384 .f32) (harg4 : arg4.IsWhole) (arg5 : Memref sig .tc .vmem S2x384 .f32) (harg5 : arg5.IsWhole) (arg6 : Memref sig .tc .vmem S128x384 .f32) (harg6 : arg6.IsWhole) (arg7 : Memref sig .tc .vmem S128x384 .f32) (harg7 : arg7.IsWhole) (arg8 : Memref sig .tc .vmem S2x384 .f32) (harg8 : arg8.IsWhole) (arg9 : Memref sig .tc .vmem S128x384 .f32) (harg9 : arg9.IsWhole) (arg10 : Memref sig .tc .vmem S128x384 .f32) (harg10 : arg10.IsWhole) (arg11 : Memref sig .tc .vmem S2x384 .f32) (harg11 : arg11.IsWhole) (arg12 : Memref sig .tc .vmem S128x384 .f32) (harg12 : arg12.IsWhole) (arg13 : Memref sig .tc .vmem S128x384 .f32) (harg13 : arg13.IsWhole) (arg14 : Memref sig .tc .vmem S2x384 .f32) (harg14 : arg14.IsWhole) (arg15 : Memref sig .tc .hbm S128x100000 .f32) (harg15 : arg15.IsWhole) (arg16 : Memref sig .tc .vmem S128x4096 .f32) (harg16 : arg16.IsWhole) (arg17 : Memref sig .tc .vmem S1x4096 .f32) (harg17 : arg17.IsWhole) (arg18 : Memref sig .tc .vmem S64x4096 .f32) (harg18 : arg18.IsWhole) (arg19 : Memref sig .tc .vmem S16384x128 .bf16) (harg19 : arg19.IsWhole) (arg20 : Memref sig .tc .vmem S64x128 .f32) (harg20 : arg20.IsWhole) (arg21 : Memref sig .tc .vmem S14x128x4096 .f32) (harg21 : arg21.IsWhole) (arg22 : DmaSems sig S14) (arg23 : Memref sig .tc .vmem S4x256x512 .bf16) (harg23 : arg23.IsWhole) (arg24 : Memref sig .tc .vmem S4x512 .f32) (harg24 : arg24.IsWhole)

/-- A late point: the block's transfer is collected and the block applied. -/
theorem late (h1 : ¬k1_cond1 i = 1#1) (h2 : ¬k1_cond2 i = 1#1) (h3 : k1_cond3 i = 1#1) (h4 : ¬k1_cond4 i = 1#1)
    (H : BufTy.Contents (Elt F) arg20.view.ty) (Bi : BufTy.Contents (Elt F) arg17.view.ty) (O : BufTy.Contents (Elt F) arg18.view.ty) (g : BufTy.Contents (Elt F) arg21.view.ty) (Xw : BufTy.Contents (Elt F) arg15.view.ty) (W : Waits sig (HIx 1)) :
    (iprop((arg20.view.loc (c : Thread nD τ) ↦[arg20.view.set]{fullShare} H) ∗ (arg17.view.loc (c : Thread nD τ) ↦[arg17.view.set]{fullShare} Bi) ∗ (arg18.view.loc (c : Thread nD τ) ↦[arg18.view.set]{fullShare} O) ∗ Transfers.Flight (countersEmb (Val := Elt F) (U := UU)) (c : Thread nD τ) (.dma (cellM arg22 (k1_off8 i) (k1_off8_inb i h3))) (default : HIx 1) ((slotM arg21 (k1_off9 i) (k1_off9_inb i h3)).view.amount (SemLoc.dma (cellM arg22 (k1_off8 i) (k1_off8_inb i h3)))) iprop(((slotM arg21 (k1_off9 i) (k1_off9_inb i h3)).view.loc (c : Thread nD τ) ↦[(slotM arg21 (k1_off9 i) (k1_off9_inb i h3)).view.set]{fullShare} g) ∗ ((blockM arg15 (k1_off10 i) (k1_off10_inb i h3)).view.loc (c : Thread nD τ) ↦[(blockM arg15 (k1_off10 i) (k1_off10_inb i h3)).view.set]{fullShare} Xw)) ∗ owes (c : Thread nD τ) 0 W) : sProp 𝕄)
      ⊢ wp Idealize.ShloMosaic.frame (wpE (defs₀ (F := F)) Variants.none (c : Thread nD τ) bd) Set.univ (cc1__mega_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24)
          (fun _ => iprop((arg20.view.loc (c : Thread nD τ) ↦[arg20.view.set]{fullShare} H) ∗ (arg17.view.loc (c : Thread nD τ) ↦[arg17.view.set]{fullShare} Bi) ∗ (∃ O', (arg18.view.loc (c : Thread nD τ) ↦[arg18.view.set]{fullShare} O') ∗ ⌜arg18.view.read (Elt F) O' = applied (arg20.view.read (Elt F) H) ((slotM arg21 (k1_off9 i) (k1_off9_inb i h3)).view.read (Elt F) g) (arg17.view.read (Elt F) Bi)⌝) ∗ ((slotM arg21 (k1_off9 i) (k1_off9_inb i h3)).view.loc (c : Thread nD τ) ↦[(slotM arg21 (k1_off9 i) (k1_off9_inb i h3)).view.set]{fullShare} g) ∗ ((blockM arg15 (k1_off10 i) (k1_off10_inb i h3)).view.loc (c : Thread nD τ) ↦[(blockM arg15 (k1_off10 i) (k1_off10_inb i h3)).view.set]{fullShare} Xw) ∗ semVal ((c : Thread nD τ), SemLoc.dma (cellM arg22 (k1_off8 i) (k1_off8_inb i h3))) 0 ∗ ∃ W', owes (c : Thread nD τ) 0 W')) := by
  rw [cc1__mega_body_eq_skeleton]
  unfold cc1__mega_body_skel
  iintro ⟨H20, H17, H18, Hf, Howes⟩
  rw [dif_neg h1, dif_neg h2, dif_pos h3, dif_neg h4]
  sl_exec
  sl_step
  isplitl [H20]; · iexact H20
  isplitl [H17]; · iexact H17
  isplitl [H18]
  · iexists _; isplitl [H18]; · iexact H18
    ipureintro
    exact (read_all _ zero2 _ _ _).trans ((pay11 _ _ _).trans (congr (congr (congrArg applied (readAt_all _ zero2 _ _)) (slot_cast arg21 _ _ g)) (readAt_all _ zero2 _ _)))
  isplitl [Hf_dst]; · iexact Hf_dst
  isplitl [Hf_src]; · iexact Hf_src
  isplitl [Hf]; · iexact Hf
  iexists _; iexact Howes

/-- A middle point: the next block's transfer is begun, the block's own collected and the block applied. -/
theorem mid (h1 : ¬k1_cond1 i = 1#1) (h2 : k1_cond2 i = 1#1) (h3 : k1_cond3 i = 1#1) (h4 : ¬k1_cond4 i = 1#1)
    (H : BufTy.Contents (Elt F) arg20.view.ty) (Bi : BufTy.Contents (Elt F) arg17.view.ty) (O : BufTy.Contents (Elt F) arg18.view.ty) (g : BufTy.Contents (Elt F) arg21.view.ty) (Xw : BufTy.Contents (Elt F) arg15.view.ty) (W : Waits sig (HIx 1)) (g' : BufTy.Contents (Elt F) arg21.view.ty) :
    (iprop((arg20.view.loc (c : Thread nD τ) ↦[arg20.view.set]{fullShare} H) ∗ (arg17.view.loc (c : Thread nD τ) ↦[arg17.view.set]{fullShare} Bi) ∗ (arg18.view.loc (c : Thread nD τ) ↦[arg18.view.set]{fullShare} O) ∗ Transfers.Flight (countersEmb (Val := Elt F) (U := UU)) (c : Thread nD τ) (.dma (cellM arg22 (k1_off8 i) (k1_off8_inb i h3))) (default : HIx 1) ((slotM arg21 (k1_off9 i) (k1_off9_inb i h3)).view.amount (SemLoc.dma (cellM arg22 (k1_off8 i) (k1_off8_inb i h3)))) iprop(((slotM arg21 (k1_off9 i) (k1_off9_inb i h3)).view.loc (c : Thread nD τ) ↦[(slotM arg21 (k1_off9 i) (k1_off9_inb i h3)).view.set]{fullShare} g) ∗ ((blockM arg15 (k1_off10 i) (k1_off10_inb i h3)).view.loc (c : Thread nD τ) ↦[(blockM arg15 (k1_off10 i) (k1_off10_inb i h3)).view.set]{fullShare} Xw)) ∗ ((slotM arg21 (k1_off6 i) (k1_off6_inb i h2)).view.loc (c : Thread nD τ) ↦[(slotM arg21 (k1_off6 i) (k1_off6_inb i h2)).view.set]{fullShare} g') ∗ ((blockM arg15 (k1_off7 i) (k1_off7_inb i h2)).view.loc (c : Thread nD τ) ↦[(blockM arg15 (k1_off7 i) (k1_off7_inb i h2)).view.set]{fullShare} Xw) ∗ semVal ((c : Thread nD τ), SemLoc.dma (cellM arg22 (k1_off5 i) (k1_off5_inb i h2))) 0 ∗ owes (c : Thread nD τ) 0 W) : sProp 𝕄)
      ⊢ wp Idealize.ShloMosaic.frame (wpE (defs₀ (F := F)) Variants.none (c : Thread nD τ) bd) Set.univ (cc1__mega_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24)
          (fun _ => iprop((arg20.view.loc (c : Thread nD τ) ↦[arg20.view.set]{fullShare} H) ∗ (arg17.view.loc (c : Thread nD τ) ↦[arg17.view.set]{fullShare} Bi) ∗ (∃ O', (arg18.view.loc (c : Thread nD τ) ↦[arg18.view.set]{fullShare} O') ∗ ⌜arg18.view.read (Elt F) O' = applied (arg20.view.read (Elt F) H) ((slotM arg21 (k1_off9 i) (k1_off9_inb i h3)).view.read (Elt F) g) (arg17.view.read (Elt F) Bi)⌝) ∗ ((slotM arg21 (k1_off9 i) (k1_off9_inb i h3)).view.loc (c : Thread nD τ) ↦[(slotM arg21 (k1_off9 i) (k1_off9_inb i h3)).view.set]{fullShare} g) ∗ ((blockM arg15 (k1_off10 i) (k1_off10_inb i h3)).view.loc (c : Thread nD τ) ↦[(blockM arg15 (k1_off10 i) (k1_off10_inb i h3)).view.set]{fullShare} Xw) ∗ semVal ((c : Thread nD τ), SemLoc.dma (cellM arg22 (k1_off8 i) (k1_off8_inb i h3))) 0 ∗ (∃ g'', ⌜(slotM arg21 (k1_off6 i) (k1_off6_inb i h2)).view.read (Elt F) g'' = (blockM arg15 (k1_off7 i) (k1_off7_inb i h2)).view.read (Elt F) Xw⌝ ∗ Transfers.Flight (countersEmb (Val := Elt F) (U := UU)) (c : Thread nD τ) (.dma (cellM arg22 (k1_off5 i) (k1_off5_inb i h2))) (default : HIx 1) ((slotM arg21 (k1_off6 i) (k1_off6_inb i h2)).view.amount (SemLoc.dma (cellM arg22 (k1_off5 i) (k1_off5_inb i h2)))) iprop(((slotM arg21 (k1_off6 i) (k1_off6_inb i h2)).view.loc (c : Thread nD τ) ↦[(slotM arg21 (k1_off6 i) (k1_off6_inb i h2)).view.set]{fullShare} g'') ∗ ((blockM arg15 (k1_off7 i) (k1_off7_inb i h2)).view.loc (c : Thread nD τ) ↦[(blockM arg15 (k1_off7 i) (k1_off7_inb i h2)).view.set]{fullShare} Xw))) ∗ ∃ W', owes (c : Thread nD τ) 0 W')) := by
  rw [cc1__mega_body_eq_skeleton]
  unfold cc1__mega_body_skel
  iintro ⟨H20, H17, H18, Hf, Hs, Hb, Hc, Howes⟩
  rw [dif_neg h1, dif_pos h2, dif_pos h3, dif_neg h4]
  sl_exec
  sl_step
  isplitl [H20]; · iexact H20
  isplitl [H17]; · iexact H17
  isplitl [H18]
  · iexists _; isplitl [H18]; · iexact H18
    ipureintro
    exact (read_all _ zero2 _ _ _).trans ((pay11 _ _ _).trans (congr (congr (congrArg applied (readAt_all _ zero2 _ _)) (slot_cast arg21 _ _ g)) (readAt_all _ zero2 _ _)))
  isplitl [Hf_dst]; · iexact Hf_dst
  isplitl [Hf_src]; · iexact Hf_src
  isplitl [Hf]; · iexact Hf
  isplitl [Hc]
  · iexists _; isplitr; swap; · iexact Hc
    ipureintro
    exact View.read_writes_whole _ _ _
  iexists _; iexact Howes

/-- The tail point: the last, padded block is applied. -/
theorem tail (h1 : ¬k1_cond1 i = 1#1) (h2 : ¬k1_cond2 i = 1#1) (h3 : ¬k1_cond3 i = 1#1) (h4 : k1_cond4 i = 1#1)
    (H : BufTy.Contents (Elt F) arg20.view.ty) (Bi : BufTy.Contents (Elt F) arg17.view.ty) (O : BufTy.Contents (Elt F) arg18.view.ty) (Xt : BufTy.Contents (Elt F) arg16.view.ty) :
    (iprop((arg20.view.loc (c : Thread nD τ) ↦[arg20.view.set]{fullShare} H) ∗ (arg17.view.loc (c : Thread nD τ) ↦[arg17.view.set]{fullShare} Bi) ∗ (arg18.view.loc (c : Thread nD τ) ↦[arg18.view.set]{fullShare} O) ∗ (arg16.view.loc (c : Thread nD τ) ↦[arg16.view.set]{fullShare} Xt)) : sProp 𝕄)
      ⊢ wp Idealize.ShloMosaic.frame (wpE (defs₀ (F := F)) Variants.none (c : Thread nD τ) bd) Set.univ (cc1__mega_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24)
          (fun _ => iprop((arg20.view.loc (c : Thread nD τ) ↦[arg20.view.set]{fullShare} H) ∗ (arg17.view.loc (c : Thread nD τ) ↦[arg17.view.set]{fullShare} Bi) ∗ (∃ O', (arg18.view.loc (c : Thread nD τ) ↦[arg18.view.set]{fullShare} O') ∗ ⌜arg18.view.read (Elt F) O' = applied (arg20.view.read (Elt F) H) (arg16.view.read (Elt F) Xt) (arg17.view.read (Elt F) Bi)⌝) ∗ (arg16.view.loc (c : Thread nD τ) ↦[arg16.view.set]{fullShare} Xt))) := by
  rw [cc1__mega_body_eq_skeleton]
  unfold cc1__mega_body_skel
  iintro ⟨H20, H17, H18, H16⟩
  rw [dif_neg h1, dif_neg h2, dif_neg h3, dif_pos h4]
  sl_exec
  sl_step
  isplitl [H20]; · iexact H20
  isplitl [H17]; · iexact H17
  isplitl [H18]
  · iexists _; isplitl [H18]; · iexact H18
    ipureintro
    exact (read_all _ zero2 _ _ _).trans ((pay12 _ _ _).trans (congr (congr (congrArg applied (readAt_all _ zero2 _ _)) (readAt_all _ zero2 _ _)) (readAt_all _ zero2 _ _)))
  iexact H16

end Cert.Kernel.Point
-- ==== Proof.Parts.lean ====
module

public import proofs.«01_k».proof.Proof.Point
public import Idealize.ShloMosaic.Lib.Pipeline.Value

@[expose] public section
/-! # The parts of the first grid point

The first point begins fourteen transfers and lays the four layers' weights and biases side by side.  Each printed part is run on what it touches.
-/

set_option maxRecDepth 8192
set_option maxHeartbeats 4000000

noncomputable section
namespace Cert.Kernel.Parts
open Cert.Kernel Cert.Kernel.Gen Cert.Kernel.Steps Cert.Kernel.Layers Cert.Kernel.Point
open Idealize.ShloMosaic Idealize.ShloMosaic.TcCoe Idealize.ShloMosaic.Tactic
open Idealize.ShloMosaic.SparseCore.Cfg (HIx)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "UU" => URounds (GSem nD τ sig) ℕ × (UR sig nD τ × Counters)
local notation "𝕄" => MT nD τ sig (HIx 1) (Elt F) ℕ UU ℕ

theorem inS (k : ℕ) (h : k < 14) : ∀ a, (![k, 0, 0] : Fin 3 → ℕ) a + S1x128x4096.size a ≤ S14x128x4096.size a := by
  intro a; fin_cases a
  · show k + 1 ≤ 14; omega
  · show 0 + 128 ≤ 128; omega
  · show 0 + 4096 ≤ 4096; omega
theorem inB (k : ℕ) (h : k ≤ 95904) : ∀ a, (![0, k] : Fin 2 → ℕ) a + S128x4096.size a ≤ S128x100000.size a := by
  intro a; fin_cases a
  · show 0 + 128 ≤ 128; omega
  · show k + 4096 ≤ 100000; omega
theorem inC (k : ℕ) (h : k < 14) : ∀ a, (![k] : Fin 1 → ℕ) a + S1.size a ≤ S14.size a := by
  intro a; fin_cases a
  show k + 1 ≤ 14; omega

/-- A block of the weights on its way into a slot: what lands is the block. -/
def flyAt (arg15 : Memref sig .tc .hbm S128x100000 .f32) (arg21 : Memref sig .tc .vmem S14x128x4096 .f32) (arg22 : DmaSems sig S14) (c : Dev nD) (Xw : BufTy.Contents (Elt F) arg15.view.ty)
    (so : Fin 3 → ℕ) (hs : ∀ a, so a + S1x128x4096.size a ≤ S14x128x4096.size a) (bo : Fin 2 → ℕ) (hb : ∀ a, bo a + S128x4096.size a ≤ S128x100000.size a) (co : Fin 1 → ℕ) (hc : ∀ a, co a + S1.size a ≤ S14.size a) : sProp 𝕄 :=
  iprop(∃ g, ⌜(slotM arg21 so hs).view.read (Elt F) g = (blockM arg15 bo hb).view.read (Elt F) Xw⌝ ∗ Transfers.Flight (countersEmb (Val := Elt F) (U := UU)) (c : Thread nD τ) (.dma (cellM arg22 (co) (hc))) (default : HIx 1) ((slotM arg21 (so) (hs)).view.amount (SemLoc.dma (cellM arg22 (co) (hc)))) iprop(((slotM arg21 (so) (hs)).view.loc (c : Thread nD τ) ↦[(slotM arg21 (so) (hs)).view.set]{fullShare} g) ∗ ((blockM arg15 (bo) (hb)).view.loc (c : Thread nD τ) ↦[(blockM arg15 (bo) (hb)).view.set]{fullShare} Xw)))

/-- A slot at rest: held at whatever it holds, its cell at zero. -/
def parkAt (arg21 : Memref sig .tc .vmem S14x128x4096 .f32) (arg22 : DmaSems sig S14) (c : Dev nD)
    (so : Fin 3 → ℕ) (hs : ∀ a, so a + S1x128x4096.size a ≤ S14x128x4096.size a) (co : Fin 1 → ℕ) (hc : ∀ a, co a + S1.size a ≤ S14.size a) : sProp 𝕄 :=
  iprop(∃ g, ((slotM arg21 (so) (hs)).view.loc (c : Thread nD τ) ↦[(slotM arg21 (so) (hs)).view.set]{fullShare} g) ∗ semVal ((c : Thread nD τ), SemLoc.dma (cellM arg22 (co) (hc))) 0)

/-- A block of the weights at home. -/
def homeAt (arg15 : Memref sig .tc .hbm S128x100000 .f32) (c : Dev nD) (Xw : BufTy.Contents (Elt F) arg15.view.ty) (bo : Fin 2 → ℕ) (hb : ∀ a, bo a + S128x4096.size a ≤ S128x100000.size a) : sProp 𝕄 :=
  ((blockM arg15 (bo) (hb)).view.loc (c : Thread nD τ) ↦[(blockM arg15 (bo) (hb)).view.set]{fullShare} Xw)

/-! ## The weights side by side -/

theorem inW (l r k m n : ℕ) (hl : l < 4) (hr : r + m ≤ 256) (hk : k + n ≤ 512) : ∀ a, (![l, r, k] : Fin 3 → ℕ) a + (⟨3, ![1, m, n]⟩ : Shape).size a ≤ S4x256x512.size a := by
  intro a; fin_cases a
  · show l + 1 ≤ 4; omega
  · show r + m ≤ 256; exact hr
  · show k + n ≤ 512; exact hk
theorem inV (l k n : ℕ) (hl : l < 4) (hk : k + n ≤ 512) : ∀ a, (![l, k] : Fin 2 → ℕ) a + (⟨2, ![1, n]⟩ : Shape).size a ≤ S4x512.size a := by
  intro a; fin_cases a
  · show l + 1 ≤ 4; omega
  · show k + n ≤ 512; exact hk

/-- Layer `l`'s five pieces, newest first. -/
def wL (l : ℕ) (hl : l < 4) (aK aR : Memref sig .tc .vmem S128x384 .f32) (K : BufTy.Contents (Elt F) aK.view.ty) (R : BufTy.Contents (Elt F) aR.view.ty) : List (View.Piece (Elt F) S4x256x512 .bf16) :=
  [⟨Rect.unit (s := S4x256x512) ![l, 128, 384] S1x128x128.size (inW l 128 384 128 128 hl (by decide) (by decide)), k1_pay132 (View.readAt (Elt F) aR.view (Rect.unit (s := S128x384) ![0, 256] S128x128.size inb_S128x384_S128x128_0_256).toLoadRect R)⟩,
   ⟨Rect.unit (s := S4x256x512) ![l, 128, 256] S1x128x128.size (inW l 128 256 128 128 hl (by decide) (by decide)), k1_pay131 k1_pay127⟩,
   ⟨Rect.unit (s := S4x256x512) ![l, 128, 0] S1x128x256.size (inW l 128 0 128 256 hl (by decide) (by decide)), k1_pay130 (View.readAt (Elt F) aR.view (Rect.unit (s := S128x384) ![0, 0] S128x256.size inb_S128x384_S128x256_0_0).toLoadRect R)⟩,
   ⟨Rect.unit (s := S4x256x512) ![l, 0, 384] S1x128x128.size (inW l 0 384 128 128 hl (by decide) (by decide)), k1_pay129 k1_pay127⟩,
   ⟨Rect.unit (s := S4x256x512) ![l, 0, 0] S1x128x384.size (inW l 0 0 128 384 hl (by decide) (by decide)), k1_pay128 (View.readAt (Elt F) aK.view (Rect.unit (s := S128x384) ![0, 0] S128x384.size inb_S128x384_S128x384_0_0).toLoadRect K)⟩]

variable (c : Dev nD) (bd : Option Variants.none.V) (i : grid1.Coords) (arg1 : Memref sig .tc .vmem S16384x128 .f32) (harg1 : arg1.IsWhole) (arg2 : Memref sig .tc .vmem S16384x128 .f32) (harg2 : arg2.IsWhole) (arg3 : Memref sig .tc .vmem S128x384 .f32) (harg3 : arg3.IsWhole) (arg4 : Memref sig .tc .vmem S128x384 .f32) (harg4 : arg4.IsWhole) (arg5 : Memref sig .tc .vmem S2x384 .f32) (harg5 : arg5.IsWhole) (arg6 : Memref sig .tc .vmem S128x384 .f32) (harg6 : arg6.IsWhole) (arg7 : Memref sig .tc .vmem S128x384 .f32) (harg7 : arg7.IsWhole) (arg8 : Memref sig .tc .vmem S2x384 .f32) (harg8 : arg8.IsWhole) (arg9 : Memref sig .tc .vmem S128x384 .f32) (harg9 : arg9.IsWhole) (arg10 : Memref sig .tc .vmem S128x384 .f32) (harg10 : arg10.IsWhole) (arg11 : Memref sig .tc .vmem S2x384 .f32) (harg11 : arg11.IsWhole) (arg12 : Memref sig .tc .vmem S128x384 .f32) (harg12 : arg12.IsWhole) (arg13 : Memref sig .tc .vmem S128x384 .f32) (harg13 : arg13.IsWhole) (arg14 : Memref sig .tc .vmem S2x384 .f32) (harg14 : arg14.IsWhole) (arg15 : Memref sig .tc .hbm S128x100000 .f32) (harg15 : arg15.IsWhole) (arg16 : Memref sig .tc .vmem S128x4096 .f32) (harg16 : arg16.IsWhole) (arg17 : Memref sig .tc .vmem S1x4096 .f32) (harg17 : arg17.IsWhole) (arg18 : Memref sig .tc .vmem S64x4096 .f32) (harg18 : arg18.IsWhole) (arg19 : Memref sig .tc .vmem S16384x128 .bf16) (harg19 : arg19.IsWhole) (arg20 : Memref sig .tc .vmem S64x128 .f32) (harg20 : arg20.IsWhole) (arg21 : Memref sig .tc .vmem S14x128x4096 .f32) (harg21 : arg21.IsWhole) (arg22 : DmaSems sig S14) (arg23 : Memref sig .tc .vmem S4x256x512 .bf16) (harg23 : arg23.IsWhole) (arg24 : Memref sig .tc .vmem S4x512 .f32) (harg24 : arg24.IsWhole)

/-- Layer `l`'s three pieces of the biases, newest first. -/
def bL (l : ℕ) (hl : l < 4) (aB : Memref sig .tc .vmem S2x384 .f32) (B : BufTy.Contents (Elt F) aB.view.ty) : List (View.Piece (Elt F) S4x512 .f32) :=
  [⟨Rect.unit (s := S4x512) ![l, 384] S1x128.size (inV l 384 128 hl (by decide)), k1_pay136 (View.readAt (Elt F) aB.view (Rect.unit (s := S2x384) ![1, 256] S1x128.size inb_S2x384_S1x128_1_256).toLoadRect B)⟩,
   ⟨Rect.unit (s := S4x512) ![l, 256] S1x128.size (inV l 256 128 hl (by decide)), k1_pay135 (k1_pay134 (View.readAt (Elt F) aB.view (Rect.unit (s := S2x384) ![0, 256] S1x128.size inb_S2x384_S1x128_0_256).toLoadRect B))⟩,
   ⟨Rect.unit (s := S4x512) ![l, 0] S1x256.size (inV l 0 256 hl (by decide)), k1_pay133 (View.readAt (Elt F) aB.view (Rect.unit (s := S2x384) ![0, 0] S1x256.size inb_S2x384_S1x256_0_0).toLoadRect B) (View.readAt (Elt F) aB.view (Rect.unit (s := S2x384) ![1, 0] S1x256.size inb_S2x384_S1x256_1_0).toLoadRect B)⟩]

theorem part31 (Xw : BufTy.Contents (Elt F) arg15.view.ty)  :
    (iprop(parkAt arg21 arg22 c ![0, 0, 0] (inS 0 (by decide)) ![0] (inC 0 (by decide)) ∗ homeAt arg15 c Xw ![0, 0] (inB 0 (by decide)) ∗ parkAt arg21 arg22 c ![1, 0, 0] (inS 1 (by decide)) ![1] (inC 1 (by decide)) ∗ homeAt arg15 c Xw ![0, 4096] (inB 4096 (by decide)) ∗ parkAt arg21 arg22 c ![2, 0, 0] (inS 2 (by decide)) ![2] (inC 2 (by decide)) ∗ homeAt arg15 c Xw ![0, 8192] (inB 8192 (by decide)) ∗ parkAt arg21 arg22 c ![3, 0, 0] (inS 3 (by decide)) ![3] (inC 3 (by decide)) ∗ homeAt arg15 c Xw ![0, 12288] (inB 12288 (by decide)) ∗ parkAt arg21 arg22 c ![4, 0, 0] (inS 4 (by decide)) ![4] (inC 4 (by decide)) ∗ homeAt arg15 c Xw ![0, 16384] (inB 16384 (by decide))) : sProp 𝕄)
      ⊢ wp Idealize.ShloMosaic.frame (wpE (defs₀ (F := F)) Variants.none (c : Thread nD τ) bd) Set.univ (k1_part31 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 )
          (fun r => iprop(flyAt arg15 arg21 arg22 c Xw ![0, 0, 0] (inS 0 (by decide)) ![0, 0] (inB 0 (by decide)) ![0] (inC 0 (by decide)) ∗ flyAt arg15 arg21 arg22 c Xw ![1, 0, 0] (inS 1 (by decide)) ![0, 4096] (inB 4096 (by decide)) ![1] (inC 1 (by decide)) ∗ flyAt arg15 arg21 arg22 c Xw ![2, 0, 0] (inS 2 (by decide)) ![0, 8192] (inB 8192 (by decide)) ![2] (inC 2 (by decide)) ∗ flyAt arg15 arg21 arg22 c Xw ![3, 0, 0] (inS 3 (by decide)) ![0, 12288] (inB 12288 (by decide)) ![3] (inC 3 (by decide)) ∗ flyAt arg15 arg21 arg22 c Xw ![4, 0, 0] (inS 4 (by decide)) ![0, 16384] (inB 16384 (by decide)) ![4] (inC 4 (by decide)))) := by
  unfold parkAt homeAt
  iintro ⟨⟨%g0, Hs0, Hc0⟩, Hb0, ⟨%g1, Hs1, Hc1⟩, Hb1, ⟨%g2, Hs2, Hc2⟩, Hb2, ⟨%g3, Hs3, Hc3⟩, Hb3, ⟨%g4, Hs4, Hc4⟩, Hb4⟩
  rw [k1_part31_eq_skeleton]
  unfold k1_part31_skel
  sl_exec
  sl_step
  isplitl [Hc0]
  · unfold flyAt
    iexists _; isplitr; swap; · iexact Hc0
    ipureintro; exact View.read_writes_whole _ _ _
  isplitl [Hc1]
  · unfold flyAt
    iexists _; isplitr; swap; · iexact Hc1
    ipureintro; exact View.read_writes_whole _ _ _
  isplitl [Hc2]
  · unfold flyAt
    iexists _; isplitr; swap; · iexact Hc2
    ipureintro; exact View.read_writes_whole _ _ _
  isplitl [Hc3]
  · unfold flyAt
    iexists _; isplitr; swap; · iexact Hc3
    ipureintro; exact View.read_writes_whole _ _ _
  unfold flyAt
  iexists _; isplitr; swap; · iexact Hc4
  ipureintro; exact View.read_writes_whole _ _ _

theorem part32 (Xw : BufTy.Contents (Elt F) arg15.view.ty)  :
    (iprop(parkAt arg21 arg22 c ![5, 0, 0] (inS 5 (by decide)) ![5] (inC 5 (by decide)) ∗ homeAt arg15 c Xw ![0, 20480] (inB 20480 (by decide)) ∗ parkAt arg21 arg22 c ![6, 0, 0] (inS 6 (by decide)) ![6] (inC 6 (by decide)) ∗ homeAt arg15 c Xw ![0, 24576] (inB 24576 (by decide)) ∗ parkAt arg21 arg22 c ![7, 0, 0] (inS 7 (by decide)) ![7] (inC 7 (by decide)) ∗ homeAt arg15 c Xw ![0, 28672] (inB 28672 (by decide)) ∗ parkAt arg21 arg22 c ![8, 0, 0] (inS 8 (by decide)) ![8] (inC 8 (by decide)) ∗ homeAt arg15 c Xw ![0, 32768] (inB 32768 (by decide)) ∗ parkAt arg21 arg22 c ![9, 0, 0] (inS 9 (by decide)) ![9] (inC 9 (by decide)) ∗ homeAt arg15 c Xw ![0, 36864] (inB 36864 (by decide))) : sProp 𝕄)
      ⊢ wp Idealize.ShloMosaic.frame (wpE (defs₀ (F := F)) Variants.none (c : Thread nD τ) bd) Set.univ (k1_part32 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 )
          (fun r => iprop(flyAt arg15 arg21 arg22 c Xw ![5, 0, 0] (inS 5 (by decide)) ![0, 20480] (inB 20480 (by decide)) ![5] (inC 5 (by decide)) ∗ flyAt arg15 arg21 arg22 c Xw ![6, 0, 0] (inS 6 (by decide)) ![0, 24576] (inB 24576 (by decide)) ![6] (inC 6 (by decide)) ∗ flyAt arg15 arg21 arg22 c Xw ![7, 0, 0] (inS 7 (by decide)) ![0, 28672] (inB 28672 (by decide)) ![7] (inC 7 (by decide)) ∗ flyAt arg15 arg21 arg22 c Xw ![8, 0, 0] (inS 8 (by decide)) ![0, 32768] (inB 32768 (by decide)) ![8] (inC 8 (by decide)) ∗ flyAt arg15 arg21 arg22 c Xw ![9, 0, 0] (inS 9 (by decide)) ![0, 36864] (inB 36864 (by decide)) ![9] (inC 9 (by decide)))) := by
  unfold parkAt homeAt
  iintro ⟨⟨%g5, Hs5, Hc5⟩, Hb5, ⟨%g6, Hs6, Hc6⟩, Hb6, ⟨%g7, Hs7, Hc7⟩, Hb7, ⟨%g8, Hs8, Hc8⟩, Hb8, ⟨%g9, Hs9, Hc9⟩, Hb9⟩
  rw [k1_part32_eq_skeleton]
  unfold k1_part32_skel
  sl_exec
  sl_step
  isplitl [Hc5]
  · unfold flyAt
    iexists _; isplitr; swap; · iexact Hc5
    ipureintro; exact View.read_writes_whole _ _ _
  isplitl [Hc6]
  · unfold flyAt
    iexists _; isplitr; swap; · iexact Hc6
    ipureintro; exact View.read_writes_whole _ _ _
  isplitl [Hc7]
  · unfold flyAt
    iexists _; isplitr; swap; · iexact Hc7
    ipureintro; exact View.read_writes_whole _ _ _
  isplitl [Hc8]
  · unfold flyAt
    iexists _; isplitr; swap; · iexact Hc8
    ipureintro; exact View.read_writes_whole _ _ _
  unfold flyAt
  iexists _; isplitr; swap; · iexact Hc9
  ipureintro; exact View.read_writes_whole _ _ _

theorem part33 (Xw : BufTy.Contents (Elt F) arg15.view.ty) (X3 : BufTy.Contents (Elt F) arg3.view.ty) (X23 : BufTy.Contents (Elt F) arg23.view.ty) :
    (iprop(parkAt arg21 arg22 c ![10, 0, 0] (inS 10 (by decide)) ![10] (inC 10 (by decide)) ∗ homeAt arg15 c Xw ![0, 40960] (inB 40960 (by decide)) ∗ parkAt arg21 arg22 c ![11, 0, 0] (inS 11 (by decide)) ![11] (inC 11 (by decide)) ∗ homeAt arg15 c Xw ![0, 45056] (inB 45056 (by decide)) ∗ parkAt arg21 arg22 c ![12, 0, 0] (inS 12 (by decide)) ![12] (inC 12 (by decide)) ∗ homeAt arg15 c Xw ![0, 49152] (inB 49152 (by decide)) ∗ parkAt arg21 arg22 c ![13, 0, 0] (inS 13 (by decide)) ![13] (inC 13 (by decide)) ∗ homeAt arg15 c Xw ![0, 53248] (inB 53248 (by decide)) ∗ (arg3.view.loc (c : Thread nD τ) ↦[arg3.view.set]{fullShare} X3) ∗ (arg23.view.loc (c : Thread nD τ) ↦[arg23.view.set]{fullShare} X23)) : sProp 𝕄)
      ⊢ wp Idealize.ShloMosaic.frame (wpE (defs₀ (F := F)) Variants.none (c : Thread nD τ) bd) Set.univ (k1_part33 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 )
          (fun r => iprop(⌜r = ⟨k1_pay127 (F := F), k1_pay128 (View.readAt (Elt F) arg3.view (Rect.unit (s := S128x384) ![0, 0] S128x384.size inb_S128x384_S128x384_0_0).toLoadRect X3)⟩⌝ ∗ flyAt arg15 arg21 arg22 c Xw ![10, 0, 0] (inS 10 (by decide)) ![0, 40960] (inB 40960 (by decide)) ![10] (inC 10 (by decide)) ∗ flyAt arg15 arg21 arg22 c Xw ![11, 0, 0] (inS 11 (by decide)) ![0, 45056] (inB 45056 (by decide)) ![11] (inC 11 (by decide)) ∗ flyAt arg15 arg21 arg22 c Xw ![12, 0, 0] (inS 12 (by decide)) ![0, 49152] (inB 49152 (by decide)) ![12] (inC 12 (by decide)) ∗ flyAt arg15 arg21 arg22 c Xw ![13, 0, 0] (inS 13 (by decide)) ![0, 53248] (inB 53248 (by decide)) ![13] (inC 13 (by decide)) ∗ (arg3.view.loc (c : Thread nD τ) ↦[arg3.view.set]{fullShare} X3) ∗ (arg23.view.loc (c : Thread nD τ) ↦[arg23.view.set]{fullShare} X23))) := by
  unfold parkAt homeAt
  iintro ⟨⟨%g10, Hs10, Hc10⟩, Hb10, ⟨%g11, Hs11, Hc11⟩, Hb11, ⟨%g12, Hs12, Hc12⟩, Hb12, ⟨%g13, Hs13, Hc13⟩, Hb13, H3, H23⟩
  rw [k1_part33_eq_skeleton]
  unfold k1_part33_skel
  sl_exec
  sl_step
  isplitr; · ipureintro; rfl
  isplitl [Hc10]
  · unfold flyAt
    iexists _; isplitr; swap; · iexact Hc10
    ipureintro; exact View.read_writes_whole _ _ _
  isplitl [Hc11]
  · unfold flyAt
    iexists _; isplitr; swap; · iexact Hc11
    ipureintro; exact View.read_writes_whole _ _ _
  isplitl [Hc12]
  · unfold flyAt
    iexists _; isplitr; swap; · iexact Hc12
    ipureintro; exact View.read_writes_whole _ _ _
  isplitl [Hc13]
  · unfold flyAt
    iexists _; isplitr; swap; · iexact Hc13
    ipureintro; exact View.read_writes_whole _ _ _
  isplitl [H3]; · iexact H3
  iexact H23

theorem part34 (X4 : BufTy.Contents (Elt F) arg4.view.ty) (X5 : BufTy.Contents (Elt F) arg5.view.ty) (X23 : BufTy.Contents (Elt F) arg23.view.ty) (X24 : BufTy.Contents (Elt F) arg24.view.ty) (X3 : BufTy.Contents (Elt F) arg3.view.ty) :
    (iprop((arg4.view.loc (c : Thread nD τ) ↦[arg4.view.set]{fullShare} X4) ∗ (arg5.view.loc (c : Thread nD τ) ↦[arg5.view.set]{fullShare} X5) ∗ (arg23.view.loc (c : Thread nD τ) ↦[arg23.view.set]{fullShare} X23) ∗ (arg24.view.loc (c : Thread nD τ) ↦[arg24.view.set]{fullShare} X24)) : sProp 𝕄)
      ⊢ wp Idealize.ShloMosaic.frame (wpE (defs₀ (F := F)) Variants.none (c : Thread nD τ) bd) Set.univ (k1_part34 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 (k1_pay127 (F := F)) (k1_pay128 (View.readAt (Elt F) arg3.view (Rect.unit (s := S128x384) ![0, 0] S128x384.size inb_S128x384_S128x384_0_0).toLoadRect X3)))
          (fun r => iprop(⌜r = k1_pay134 (View.readAt (Elt F) arg5.view (Rect.unit (s := S2x384) ![0, 256] S1x128.size inb_S2x384_S1x128_0_256).toLoadRect X5)⌝ ∗ (arg4.view.loc (c : Thread nD τ) ↦[arg4.view.set]{fullShare} X4) ∗ (arg5.view.loc (c : Thread nD τ) ↦[arg5.view.set]{fullShare} X5) ∗ (arg23.view.loc (c : Thread nD τ) ↦[arg23.view.set]{fullShare} (arg23.view.writes (Elt F) X23 (wL 0 (by decide) arg3 arg4 X3 X4))) ∗ (arg24.view.loc (c : Thread nD τ) ↦[arg24.view.set]{fullShare} (arg24.view.writes (Elt F) X24 ((bL 0 (by decide) arg5 X5).drop 2))))) := by
  iintro ⟨H4, H5, H23, H24⟩
  rw [k1_part34_eq_skeleton]
  unfold k1_part34_skel
  sl_exec
  sl_step
  isplitr; · ipureintro; rfl
  isplitl [H4]; · iexact H4
  isplitl [H5]; · iexact H5
  isplitl [H23]; · iexact H23
  iexact H24

theorem part35 (X5 : BufTy.Contents (Elt F) arg5.view.ty) (X6 : BufTy.Contents (Elt F) arg6.view.ty) (X7 : BufTy.Contents (Elt F) arg7.view.ty) (X23 : BufTy.Contents (Elt F) arg23.view.ty) (X24 : BufTy.Contents (Elt F) arg24.view.ty)  :
    (iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg23.view.loc (c : Thread nD τ) ↦[arg23.view.set]{fullShare} X23) ∗ (arg24.view.loc (c : Thread nD τ) ↦[arg24.view.set]{fullShare} X24)) : sProp 𝕄)
      ⊢ wp Idealize.ShloMosaic.frame (wpE (defs₀ (F := F)) Variants.none (c : Thread nD τ) bd) Set.univ (k1_part35 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 (k1_pay127 (F := F)) (k1_pay134 (View.readAt (Elt F) arg5.view (Rect.unit (s := S2x384) ![0, 256] S1x128.size inb_S2x384_S1x128_0_256).toLoadRect X5)))
          (fun r => iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg23.view.loc (c : Thread nD τ) ↦[arg23.view.set]{fullShare} (arg23.view.writes (Elt F) X23 (wL 1 (by decide) arg6 arg7 X6 X7))) ∗ (arg24.view.loc (c : Thread nD τ) ↦[arg24.view.set]{fullShare} (arg24.view.writes (Elt F) X24 ((bL 0 (by decide) arg5 X5).take 2))))) := by
  iintro ⟨H5, H6, H7, H23, H24⟩
  rw [k1_part35_eq_skeleton]
  unfold k1_part35_skel
  sl_exec
  sl_step
  isplitl [H5]; · iexact H5
  isplitl [H6]; · iexact H6
  isplitl [H7]; · iexact H7
  isplitl [H23]; · iexact H23
  iexact H24

theorem part36 (X8 : BufTy.Contents (Elt F) arg8.view.ty) (X9 : BufTy.Contents (Elt F) arg9.view.ty) (X10 : BufTy.Contents (Elt F) arg10.view.ty) (X23 : BufTy.Contents (Elt F) arg23.view.ty) (X24 : BufTy.Contents (Elt F) arg24.view.ty)  :
    (iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg23.view.loc (c : Thread nD τ) ↦[arg23.view.set]{fullShare} X23) ∗ (arg24.view.loc (c : Thread nD τ) ↦[arg24.view.set]{fullShare} X24)) : sProp 𝕄)
      ⊢ wp Idealize.ShloMosaic.frame (wpE (defs₀ (F := F)) Variants.none (c : Thread nD τ) bd) Set.univ (k1_part36 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 (k1_pay127 (F := F)))
          (fun r => iprop(⌜r = ⟨k1_pay147 (View.readAt (Elt F) arg10.view (Rect.unit (s := S128x384) ![0, 0] S128x256.size inb_S128x384_S128x256_0_0).toLoadRect X10), r.2⟩⌝ ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg23.view.loc (c : Thread nD τ) ↦[arg23.view.set]{fullShare} (arg23.view.writes (Elt F) X23 ((wL 2 (by decide) arg9 arg10 X9 X10).drop 3))) ∗ (arg24.view.loc (c : Thread nD τ) ↦[arg24.view.set]{fullShare} (arg24.view.writes (Elt F) X24 (bL 1 (by decide) arg8 X8))))) := by
  iintro ⟨H8, H9, H10, H23, H24⟩
  rw [k1_part36_eq_skeleton]
  unfold k1_part36_skel
  sl_exec
  sl_step
  isplitr; · ipureintro; rfl
  isplitl [H8]; · iexact H8
  isplitl [H9]; · iexact H9
  isplitl [H10]; · iexact H10
  isplitl [H23]; · iexact H23
  iexact H24

theorem part37 (X10 : BufTy.Contents (Elt F) arg10.view.ty) (X11 : BufTy.Contents (Elt F) arg11.view.ty) (X12 : BufTy.Contents (Elt F) arg12.view.ty) (v175 : Vec F S1x128x256 .bf16) (X23 : BufTy.Contents (Elt F) arg23.view.ty) (X24 : BufTy.Contents (Elt F) arg24.view.ty) (X9 : BufTy.Contents (Elt F) arg9.view.ty) :
    (iprop((arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg23.view.loc (c : Thread nD τ) ↦[arg23.view.set]{fullShare} X23) ∗ (arg24.view.loc (c : Thread nD τ) ↦[arg24.view.set]{fullShare} X24)) : sProp 𝕄)
      ⊢ wp Idealize.ShloMosaic.frame (wpE (defs₀ (F := F)) Variants.none (c : Thread nD τ) bd) Set.univ (k1_part37 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 (k1_pay127 (F := F)) (k1_pay147 (View.readAt (Elt F) arg10.view (Rect.unit (s := S128x384) ![0, 0] S128x256.size inb_S128x384_S128x256_0_0).toLoadRect X10)) v175)
          (fun r => iprop(⌜r = k1_pay154 (View.readAt (Elt F) arg12.view (Rect.unit (s := S128x384) ![0, 0] S128x384.size inb_S128x384_S128x384_0_0).toLoadRect X12)⌝ ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg23.view.loc (c : Thread nD τ) ↦[arg23.view.set]{fullShare} (arg23.view.writes (Elt F) X23 ((wL 2 (by decide) arg9 arg10 X9 X10).take 3))) ∗ (arg24.view.loc (c : Thread nD τ) ↦[arg24.view.set]{fullShare} (arg24.view.writes (Elt F) X24 (bL 2 (by decide) arg11 X11))))) := by
  iintro ⟨H10, H11, H12, H23, H24⟩
  rw [k1_part37_eq_skeleton]
  unfold k1_part37_skel
  sl_exec
  sl_step
  isplitr; · ipureintro; rfl
  isplitl [H10]; · iexact H10
  isplitl [H11]; · iexact H11
  isplitl [H12]; · iexact H12
  isplitl [H23]; · iexact H23
  iexact H24

theorem part38 (X13 : BufTy.Contents (Elt F) arg13.view.ty) (X14 : BufTy.Contents (Elt F) arg14.view.ty) (X23 : BufTy.Contents (Elt F) arg23.view.ty) (X24 : BufTy.Contents (Elt F) arg24.view.ty) (X12 : BufTy.Contents (Elt F) arg12.view.ty) :
    (iprop((arg13.view.loc (c : Thread nD τ) ↦[arg13.view.set]{fullShare} X13) ∗ (arg14.view.loc (c : Thread nD τ) ↦[arg14.view.set]{fullShare} X14) ∗ (arg23.view.loc (c : Thread nD τ) ↦[arg23.view.set]{fullShare} X23) ∗ (arg24.view.loc (c : Thread nD τ) ↦[arg24.view.set]{fullShare} X24)) : sProp 𝕄)
      ⊢ wp Idealize.ShloMosaic.frame (wpE (defs₀ (F := F)) Variants.none (c : Thread nD τ) bd) Set.univ (k1_part38 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 (k1_pay127 (F := F)) (k1_pay154 (View.readAt (Elt F) arg12.view (Rect.unit (s := S128x384) ![0, 0] S128x384.size inb_S128x384_S128x384_0_0).toLoadRect X12)))
          (fun r => iprop((arg13.view.loc (c : Thread nD τ) ↦[arg13.view.set]{fullShare} X13) ∗ (arg14.view.loc (c : Thread nD τ) ↦[arg14.view.set]{fullShare} X14) ∗ (arg23.view.loc (c : Thread nD τ) ↦[arg23.view.set]{fullShare} (arg23.view.writes (Elt F) X23 (wL 3 (by decide) arg12 arg13 X12 X13))) ∗ (arg24.view.loc (c : Thread nD τ) ↦[arg24.view.set]{fullShare} (arg24.view.writes (Elt F) X24 ((bL 3 (by decide) arg14 X14).drop 2))))) := by
  iintro ⟨H13, H14, H23, H24⟩
  rw [k1_part38_eq_skeleton]
  unfold k1_part38_skel
  sl_exec
  sl_step
  isplitl [H13]; · iexact H13
  isplitl [H14]; · iexact H14
  isplitl [H23]; · iexact H23
  iexact H24

end Cert.Kernel.Parts
-- ==== Proof.Weights.lean ====
module

public import proofs.«01_k».proof.Proof.Parts
public import Idealize.ShloMosaic.Lib.Pipeline.Value

@[expose] public section
/-! # The weights and biases, as the layers read them

What the first point lays side by side is read back layer by layer: the input weights over the recurrent ones, a square of zeros in each, and the biases summed where both are added.
-/

set_option maxRecDepth 8192
set_option maxHeartbeats 4000000

noncomputable section
namespace Cert.Kernel.Weights
open Cert.Kernel Cert.Kernel.Gen Cert.Kernel.Steps Cert.Kernel.Layers Cert.Kernel.Point Cert.Kernel.Parts
open Idealize.ShloMosaic.ValueIdx (ix2 ix3)
open Idealize.ShloMosaic Idealize.ShloMosaic.TcCoe Idealize.ShloMosaic.Tactic
open Idealize.ShloMosaic.SparseCore.Cfg (HIx)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "UU" => URounds (GSem nD τ sig) ℕ × (UR sig nD τ × Counters)
local notation "𝕄" => MT nD τ sig (HIx 1) (Elt F) ℕ UU ℕ

/-- Layer's matrix: input weights and zeros over recurrent weights with the zeros in between. -/
def wcat (K R : FVec F S128x384 .f32) : S1x256x512.Idx → F .bf16 := fun j =>
  if h1 : (j 1).val < 128 then
    if h2 : (j 2).val < 384 then truncf .bf16 K bitsLt_bf16_f32 (ix2 (⟨(j 1).val, h1⟩ : Fin 128) (⟨(j 2).val, h2⟩ : Fin 384)) else Scalar.ofBits .bf16 0x0000#16
  else
    if h2 : (j 2).val < 256 then truncf .bf16 R bitsLt_bf16_f32 (ix2 (⟨(j 1).val - 128, by have := (j 1).isLt; change (j 1).val < 256 at this; omega⟩ : Fin 128) (⟨(j 2).val, by omega⟩ : Fin 384))
    else if h3 : (j 2).val < 384 then Scalar.ofBits .bf16 0x0000#16
    else truncf .bf16 R bitsLt_bf16_f32 (ix2 (⟨(j 1).val - 128, by have := (j 1).isLt; change (j 1).val < 256 at this; omega⟩ : Fin 128) (⟨(j 2).val - 128, by have := (j 2).isLt; change (j 2).val < 512 at this; omega⟩ : Fin 384))

/-- Layer's biases: summed for the two gates, apart for the candidate. -/
def bcat (B : FVec F S2x384 .f32) : S1x512.Idx → F .f32 := fun j =>
  if h1 : (j 1).val < 256 then FloatOps.addf (B (ix2 (0 : Fin 2) (⟨(j 1).val, by omega⟩ : Fin 384))) (B (ix2 (1 : Fin 2) (⟨(j 1).val, by omega⟩ : Fin 384)))
  else if h2 : (j 1).val < 384 then B (ix2 (0 : Fin 2) (⟨(j 1).val, h2⟩ : Fin 384))
  else B (ix2 (1 : Fin 2) (⟨(j 1).val - 128, by have := (j 1).isLt; change (j 1).val < 512 at this; omega⟩ : Fin 384))

theorem put {m n : ℕ} (a : Memref sig .tc .vmem S128x384 .f32) (X : BufTy.Contents (Elt F) a.view.ty) (r k : ℕ) (inb : ∀ d, (![r, k] : Fin 2 → ℕ) d + (⟨2, ![m, n]⟩ : Shape).size d ≤ S128x384.size d)
    (hc : (⟨2, ![m, n]⟩ : Shape).ShapeCasts ⟨3, ![1, m, n]⟩) (x : (⟨3, ![1, m, n]⟩ : Shape).Idx) (p : Fin 128) (q : Fin 384) (hp : p.val = r + (x 1).val) (hq : q.val = k + (x 2).val) :
    shapeCast ⟨3, ![1, m, n]⟩ (truncf .bf16 (View.readAt (Elt F) a.view (Rect.unit (s := S128x384) ![r, k] (⟨2, ![m, n]⟩ : Shape).size inb).toLoadRect X : FVec F ⟨2, ![m, n]⟩ .f32) bitsLt_bf16_f32) hc x
      = truncf .bf16 (a.view.read (Elt F) X : FVec F S128x384 .f32) bitsLt_bf16_f32 (ix2 p q) := by
  refine (shapeCast_addUnit_apply ![m, n] _ hc x).trans ?_
  refine congrArg (fun z : F .f32 => (FloatOps.truncf .bf16 bitsLt_bf16_f32 z)) ?_
  refine (View.readAt_apply _ X _).trans (congrArg (a.view.read (Elt F) X) (funext fun d => Fin.ext ?_))
  fin_cases d
  · show r + 1 * (x 1).val = p.val
    omega
  · show k + 1 * (x 2).val = q.val
    omega

theorem putv (a : Memref sig .tc .vmem S2x384 .f32) (X : BufTy.Contents (Elt F) a.view.ty) {n : ℕ} (r k : ℕ) (inb : ∀ d, (![r, k] : Fin 2 → ℕ) d + (⟨2, ![1, n]⟩ : Shape).size d ≤ S2x384.size d)
    (x : (⟨2, ![1, n]⟩ : Shape).Idx) (p : Fin 2) (q : Fin 384) (hp : p.val = r) (hq : q.val = k + (x 1).val) :
    View.readAt (Elt F) a.view (Rect.unit (s := S2x384) ![r, k] (⟨2, ![1, n]⟩ : Shape).size inb).toLoadRect X x = a.view.read (Elt F) X (ix2 p q) := by
  refine (View.readAt_apply _ X _).trans (congrArg (a.view.read (Elt F) X) (funext fun d => Fin.ext ?_))
  have h0 : (x 0).val < 1 := (x 0).isLt
  fin_cases d
  · show r + 1 * (x 0).val = p.val
    omega
  · show k + 1 * (x 1).val = q.val
    omega

section Laid
variable (v : View sig .tc .vmem S4x256x512 .bf16) (f : BufTy.Contents (Elt F) v.ty)

/-- A layer's pieces do not touch another layer. -/
theorem skipW (l : ℕ) (hl : l < 4) (aK aR : Memref sig .tc .vmem S128x384 .f32) (K : BufTy.Contents (Elt F) aK.view.ty) (R : BufTy.Contents (Elt F) aR.view.ty) (L : List (View.Piece (Elt F) S4x256x512 .bf16)) (m : Fin 4) (hm : m.val ≠ l) :
    layerW (v.read (Elt F) (v.writes (Elt F) f (wL l hl aK aR K R ++ L))) m = layerW (v.read (Elt F) (v.writes (Elt F) f L)) m := by
  funext j
  unfold layerW wL
  have hx : ∀ n : ℕ, n = 1 → (m.val < l ∨ l + n ≤ m.val) := fun n hn => by omega
  refine (View.read_writes_cons_unit_of_not_mem _ _ _ _ _ _ rfl 0 (hx _ rfl)).trans ?_
  refine (View.read_writes_cons_unit_of_not_mem _ _ _ _ _ _ rfl 0 (hx _ rfl)).trans ?_
  refine (View.read_writes_cons_unit_of_not_mem _ _ _ _ _ _ rfl 0 (hx _ rfl)).trans ?_
  refine (View.read_writes_cons_unit_of_not_mem _ _ _ _ _ _ rfl 0 (hx _ rfl)).trans ?_
  exact View.read_writes_cons_unit_of_not_mem _ _ _ _ _ _ rfl 0 (hx _ rfl)

/-- A layer's pieces are its matrix. -/
theorem hitW (l : Fin 4) (hl : l.val < 4) (aK aR : Memref sig .tc .vmem S128x384 .f32) (K : BufTy.Contents (Elt F) aK.view.ty) (R : BufTy.Contents (Elt F) aR.view.ty) (L : List (View.Piece (Elt F) S4x256x512 .bf16)) :
    layerW (v.read (Elt F) (v.writes (Elt F) f (wL l.val hl aK aR K R ++ L))) l = wcat (aK.view.read (Elt F) K) (aR.view.read (Elt F) R) := by
  funext j
  have b1 : (j 1).val < 256 := (j 1).isLt
  have b2 : (j 2).val < 512 := (j 2).isLt
  unfold layerW wL wcat
  have miss1 : ∀ {n k w : ℕ}, n = 128 → (j 1).val < 128 → ((j 1).val < n ∨ n + k ≤ (j 1).val) := fun hn h => by omega
  by_cases h1 : (j 1).val < 128
  · rw [dif_pos h1]
    refine (View.read_writes_cons_unit_of_not_mem _ _ _ _ _ _ rfl 1 (Or.inl h1)).trans ?_
    refine (View.read_writes_cons_unit_of_not_mem _ _ _ _ _ _ rfl 1 (Or.inl h1)).trans ?_
    refine (View.read_writes_cons_unit_of_not_mem _ _ _ _ _ _ rfl 1 (Or.inl h1)).trans ?_
    by_cases h2 : (j 2).val < 384
    · rw [dif_pos h2]
      refine (View.read_writes_cons_unit_of_not_mem _ _ _ _ _ _ rfl 2 (Or.inl h2)).trans ?_
      refine (View.read_writes_cons_unit_of_mem _ _ _ _ _ _ (ix3 (0 : Fin 1) (⟨(j 1).val, h1⟩ : Fin 128) (⟨(j 2).val, h2⟩ : Fin 384)) rfl (fun a => ?_)).trans ?_
      · fin_cases a
        · show l.val = l.val + 0
          omega
        · show (j 1).val = 0 + (j 1).val
          omega
        · show (j 2).val = 0 + (j 2).val
          omega
      · exact put aK K 0 0 _ _ _ _ _ (by show (j 1).val = 0 + (j 1).val; omega) (by show (j 2).val = 0 + (j 2).val; omega)
    · rw [dif_neg h2]
      refine (View.read_writes_cons_unit_of_mem _ _ _ _ _ _ (ix3 (0 : Fin 1) (⟨(j 1).val, h1⟩ : Fin 128) (⟨(j 2).val - 384, by omega⟩ : Fin 128)) rfl (fun a => ?_)).trans ?_
      · fin_cases a
        · show l.val = l.val + 0
          omega
        · show (j 1).val = 0 + (j 1).val
          omega
        · show (j 2).val = 384 + ((j 2).val - 384)
          omega
      · rfl
  · rw [dif_neg h1]
    by_cases h2 : (j 2).val < 256
    · rw [dif_pos h2]
      refine (View.read_writes_cons_unit_of_not_mem _ _ _ _ _ _ rfl 2 (Or.inl (show (j 2).val < 384 by omega))).trans ?_
      refine (View.read_writes_cons_unit_of_not_mem _ _ _ _ _ _ rfl 2 (Or.inl h2)).trans ?_
      refine (View.read_writes_cons_unit_of_mem _ _ _ _ _ _ (ix3 (0 : Fin 1) (⟨(j 1).val - 128, by omega⟩ : Fin 128) (⟨(j 2).val, h2⟩ : Fin 256)) rfl (fun a => ?_)).trans ?_
      · fin_cases a
        · show l.val = l.val + 0
          omega
        · show (j 1).val = 128 + ((j 1).val - 128)
          omega
        · show (j 2).val = 0 + (j 2).val
          omega
      · exact put aR R 0 0 _ _ _ _ _ (by show (j 1).val - 128 = 0 + ((j 1).val - 128); omega) (by show (j 2).val = 0 + (j 2).val; omega)
    · rw [dif_neg h2]
      by_cases h3 : (j 2).val < 384
      · rw [dif_pos h3]
        refine (View.read_writes_cons_unit_of_not_mem _ _ _ _ _ _ rfl 2 (Or.inl h3)).trans ?_
        refine (View.read_writes_cons_unit_of_mem _ _ _ _ _ _ (ix3 (0 : Fin 1) (⟨(j 1).val - 128, by omega⟩ : Fin 128) (⟨(j 2).val - 256, by omega⟩ : Fin 128)) rfl (fun a => ?_)).trans ?_
        · fin_cases a
          · show l.val = l.val + 0
            omega
          · show (j 1).val = 128 + ((j 1).val - 128)
            omega
          · show (j 2).val = 256 + ((j 2).val - 256)
            omega
        · rfl
      · rw [dif_neg h3]
        refine (View.read_writes_cons_unit_of_mem _ _ _ _ _ _ (ix3 (0 : Fin 1) (⟨(j 1).val - 128, by omega⟩ : Fin 128) (⟨(j 2).val - 384, by omega⟩ : Fin 128)) rfl (fun a => ?_)).trans ?_
        · fin_cases a
          · show l.val = l.val + 0
            omega
          · show (j 1).val = 128 + ((j 1).val - 128)
            omega
          · show (j 2).val = 384 + ((j 2).val - 384)
            omega
        · exact put aR R 0 256 _ _ _ _ _ (by show (j 1).val - 128 = 0 + ((j 1).val - 128); omega) (by show (j 2).val - 128 = 256 + ((j 2).val - 384); omega)

end Laid

section LaidB
variable (v : View sig .tc .vmem S4x512 .f32) (f : BufTy.Contents (Elt F) v.ty)

theorem skipB (l : ℕ) (hl : l < 4) (aB : Memref sig .tc .vmem S2x384 .f32) (B : BufTy.Contents (Elt F) aB.view.ty) (L : List (View.Piece (Elt F) S4x512 .f32)) (m : Fin 4) (hm : m.val ≠ l) :
    layerB (v.read (Elt F) (v.writes (Elt F) f (bL l hl aB B ++ L))) m = layerB (v.read (Elt F) (v.writes (Elt F) f L)) m := by
  funext j
  unfold layerB bL
  have hx : ∀ n : ℕ, n = 1 → (m.val < l ∨ l + n ≤ m.val) := fun n hn => by omega
  refine (View.read_writes_cons_unit_of_not_mem _ _ _ _ _ _ rfl 0 (hx _ rfl)).trans ?_
  refine (View.read_writes_cons_unit_of_not_mem _ _ _ _ _ _ rfl 0 (hx _ rfl)).trans ?_
  exact View.read_writes_cons_unit_of_not_mem _ _ _ _ _ _ rfl 0 (hx _ rfl)

theorem hitB (l : Fin 4) (hl : l.val < 4) (aB : Memref sig .tc .vmem S2x384 .f32) (B : BufTy.Contents (Elt F) aB.view.ty) (L : List (View.Piece (Elt F) S4x512 .f32)) :
    layerB (v.read (Elt F) (v.writes (Elt F) f (bL l.val hl aB B ++ L))) l = bcat (aB.view.read (Elt F) B) := by
  funext j
  have b1 : (j 1).val < 512 := (j 1).isLt
  unfold layerB bL bcat
  by_cases h1 : (j 1).val < 256
  · rw [dif_pos h1]
    refine (View.read_writes_cons_unit_of_not_mem _ _ _ _ _ _ rfl 1 (Or.inl (show (j 1).val < 384 by omega))).trans ?_
    refine (View.read_writes_cons_unit_of_not_mem _ _ _ _ _ _ rfl 1 (Or.inl h1)).trans ?_
    refine (View.read_writes_cons_unit_of_mem _ _ _ _ _ _ (ix2 (0 : Fin 1) (⟨(j 1).val, h1⟩ : Fin 256)) rfl (fun a => ?_)).trans ?_
    · fin_cases a
      · show l.val = l.val + 0
        omega
      · show (j 1).val = 0 + (j 1).val
        omega
    · unfold k1_pay133
      dsimp only
      refine (shapeCast_addUnit_apply ![256] _ _ _).trans ?_
      refine congr (congrArg FloatOps.addf ?_) ?_
      · refine (shapeCast_dropUnit_apply ![256] _ _ _).trans ?_
        exact putv aB B 0 0 _ _ _ _ rfl (by show (j 1).val = 0 + (j 1).val; omega)
      · refine (shapeCast_dropUnit_apply ![256] _ _ _).trans ?_
        exact putv aB B 1 0 _ _ _ _ rfl (by show (j 1).val = 0 + (j 1).val; omega)
  · rw [dif_neg h1]
    by_cases h2 : (j 1).val < 384
    · rw [dif_pos h2]
      refine (View.read_writes_cons_unit_of_not_mem _ _ _ _ _ _ rfl 1 (Or.inl h2)).trans ?_
      refine (View.read_writes_cons_unit_of_mem _ _ _ _ _ _ (ix2 (0 : Fin 1) (⟨(j 1).val - 256, by omega⟩ : Fin 128)) rfl (fun a => ?_)).trans ?_
      · fin_cases a
        · show l.val = l.val + 0
          omega
        · show (j 1).val = 256 + ((j 1).val - 256)
          omega
      · unfold k1_pay135 k1_pay134
        dsimp only
        rw [shapeCast_shapeCast]
        exact putv aB B 0 256 _ _ _ _ rfl (by show (j 1).val = 256 + ((j 1).val - 256); omega)
    · rw [dif_neg h2]
      refine (View.read_writes_cons_unit_of_mem _ _ _ _ _ _ (ix2 (0 : Fin 1) (⟨(j 1).val - 384, by omega⟩ : Fin 128)) rfl (fun a => ?_)).trans ?_
      · fin_cases a
        · show l.val = l.val + 0
          omega
        · show (j 1).val = 384 + ((j 1).val - 384)
          omega
      · unfold k1_pay136
        dsimp only
        rw [shapeCast_shapeCast]
        exact putv aB B 1 256 _ _ _ _ rfl (by show (j 1).val - 128 = 256 + ((j 1).val - 384); omega)

end LaidB

/-! ## The final state -/

/-- The states of a layer that reads rows, and of one that reads the states of the layer before. -/
def first (x : FVec F S16384x128 .f32) (K R : FVec F S128x384 .f32) (B : FVec F S2x384 .f32) (init : FVec F S64x128 .f32) : ℕ → FVec F S64x128 .f32 :=
  turns (wcat K R) (bcat B) (fun t => seen (block x t)) init
def second (u : ℕ → FVec F S64x128 .f32) (K R : FVec F S128x384 .f32) (B : FVec F S2x384 .f32) : ℕ → FVec F S64x128 .f32 :=
  turns (wcat K R) (bcat B) (fun t => block (states u) t) (u 256)

/-- The state after all four layers. -/
def hidden (x1 x2 : FVec F S16384x128 .f32) (K1 R1 : FVec F S128x384 .f32) (B1 : FVec F S2x384 .f32) (K2 R2 : FVec F S128x384 .f32) (B2 : FVec F S2x384 .f32)
    (K3 R3 : FVec F S128x384 .f32) (B3 : FVec F S2x384 .f32) (K4 R4 : FVec F S128x384 .f32) (B4 : FVec F S2x384 .f32) : FVec F S64x128 .f32 :=
  second (first x2 K3 R3 B3 (second (first x1 K1 R1 B1 k1_pay3) K2 R2 B2 256)) K4 R4 B4 256

end Cert.Kernel.Weights
-- ==== Proof.Boot.lean ====
module

public import proofs.«01_k».proof.Proof.Weights
public import Idealize.ShloMosaic.Lib.Pipeline.Value

@[expose] public section
/-! # The first grid point

Transfers begun, weights laid, four layers run, the first block collected and applied.
-/

set_option maxRecDepth 8192
set_option maxHeartbeats 4000000

noncomputable section
namespace Cert.Kernel.Boot
open Cert.Kernel Cert.Kernel.Gen Cert.Kernel.Steps Cert.Kernel.Layers Cert.Kernel.Point Cert.Kernel.Parts Cert.Kernel.Weights
open Idealize.ShloMosaic.ValueIdx (ix2 ix3)
open Idealize.ShloMosaic Idealize.ShloMosaic.TcCoe Idealize.ShloMosaic.Tactic
open Idealize.ShloMosaic.SparseCore.Cfg (HIx)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "UU" => URounds (GSem nD τ sig) ℕ × (UR sig nD τ × Counters)
local notation "𝕄" => MT nD τ sig (HIx 1) (Elt F) ℕ UU ℕ

theorem zero_of : ∀ i : grid1.Coords, k1_cond1 i = 1#1 → (i 0).val = 0 := by decide +kernel

/-- A transfer under way, at offsets given otherwise. -/
theorem fly_move (arg15 : Memref sig .tc .hbm S128x100000 .f32) (arg21 : Memref sig .tc .vmem S14x128x4096 .f32) (arg22 : DmaSems sig S14) (c : Dev nD) (Xw : BufTy.Contents (Elt F) arg15.view.ty)
    {so so' : Fin 3 → ℕ} {hs : ∀ a, so a + S1x128x4096.size a ≤ S14x128x4096.size a} (es : so = so') (hs' : ∀ a, so' a + S1x128x4096.size a ≤ S14x128x4096.size a)
    {bo bo' : Fin 2 → ℕ} {hb : ∀ a, bo a + S128x4096.size a ≤ S128x100000.size a} (eb : bo = bo') (hb' : ∀ a, bo' a + S128x4096.size a ≤ S128x100000.size a)
    {co co' : Fin 1 → ℕ} {hc : ∀ a, co a + S1.size a ≤ S14.size a} (ec : co = co') (hc' : ∀ a, co' a + S1.size a ≤ S14.size a) :
    (flyAt arg15 arg21 arg22 c Xw so hs bo hb co hc : sProp 𝕄) ⊢ flyAt arg15 arg21 arg22 c Xw so' hs' bo' hb' co' hc' := by
  subst es; subst eb; subst ec; exact .rfl

/-- A slot at rest, at offsets given otherwise. -/
theorem park_move (arg21 : Memref sig .tc .vmem S14x128x4096 .f32) (arg22 : DmaSems sig S14) (c : Dev nD)
    {so so' : Fin 3 → ℕ} {hs : ∀ a, so a + S1x128x4096.size a ≤ S14x128x4096.size a} (es : so = so') (hs' : ∀ a, so' a + S1x128x4096.size a ≤ S14x128x4096.size a)
    {co co' : Fin 1 → ℕ} {hc : ∀ a, co a + S1.size a ≤ S14.size a} (ec : co = co') (hc' : ∀ a, co' a + S1.size a ≤ S14.size a) :
    (parkAt (F := F) arg21 arg22 c so hs co hc : sProp 𝕄) ⊢ parkAt arg21 arg22 c so' hs' co' hc' := by
  subst es; subst ec; exact .rfl

/-- A block at home, at an offset given otherwise. -/
theorem home_move (arg15 : Memref sig .tc .hbm S128x100000 .f32) (c : Dev nD) (Xw : BufTy.Contents (Elt F) arg15.view.ty)
    {bo bo' : Fin 2 → ℕ} {hb : ∀ a, bo a + S128x4096.size a ≤ S128x100000.size a} (eb : bo = bo') (hb' : ∀ a, bo' a + S128x4096.size a ≤ S128x100000.size a) :
    (homeAt arg15 c Xw bo hb : sProp 𝕄) ⊢ homeAt arg15 c Xw bo' hb' := by
  subst eb; exact .rfl

/-- Contents under a name. -/
theorem named {sp : Space} {s : Shape} {e : EltTy} (c : Dev nD) (M : Memref sig .tc sp s e) (f : BufTy.Contents (Elt F) M.view.ty) :
    (iprop(M.view.loc (c : Thread nD τ) ↦[M.view.set]{fullShare} f) : sProp 𝕄) ⊢ iprop(∃ g, ⌜g = f⌝ ∗ (M.view.loc (c : Thread nD τ) ↦[M.view.set]{fullShare} g)) := by
  iintro H
  iexists f
  isplitr
  · ipureintro; rfl
  · iexact H

/-- The four layers' matrices, read where they were laid. -/
theorem laidW (arg23 : Memref sig .tc .vmem S4x256x512 .bf16) (X23 : BufTy.Contents (Elt F) arg23.view.ty) (arg3 : Memref sig .tc .vmem S128x384 .f32) (arg4 : Memref sig .tc .vmem S128x384 .f32) (arg6 : Memref sig .tc .vmem S128x384 .f32) (arg7 : Memref sig .tc .vmem S128x384 .f32) (arg9 : Memref sig .tc .vmem S128x384 .f32) (arg10 : Memref sig .tc .vmem S128x384 .f32) (arg12 : Memref sig .tc .vmem S128x384 .f32) (arg13 : Memref sig .tc .vmem S128x384 .f32) (X3 : BufTy.Contents (Elt F) arg3.view.ty) (X4 : BufTy.Contents (Elt F) arg4.view.ty) (X6 : BufTy.Contents (Elt F) arg6.view.ty) (X7 : BufTy.Contents (Elt F) arg7.view.ty) (X9 : BufTy.Contents (Elt F) arg9.view.ty) (X10 : BufTy.Contents (Elt F) arg10.view.ty) (X12 : BufTy.Contents (Elt F) arg12.view.ty) (X13 : BufTy.Contents (Elt F) arg13.view.ty)
    (Zw : BufTy.Contents (Elt F) arg23.view.ty) (hZ : Zw = arg23.view.writes (Elt F) X23 (wL 3 (by decide) arg12 arg13 X12 X13 ++ (wL 2 (by decide) arg9 arg10 X9 X10 ++ (wL 1 (by decide) arg6 arg7 X6 X7 ++ (wL 0 (by decide) arg3 arg4 X3 X4 ++ []))))) :
    layerW (arg23.view.read (Elt F) Zw) 0 = wcat (arg3.view.read (Elt F) X3) (arg4.view.read (Elt F) X4) ∧ layerW (arg23.view.read (Elt F) Zw) 1 = wcat (arg6.view.read (Elt F) X6) (arg7.view.read (Elt F) X7) ∧ layerW (arg23.view.read (Elt F) Zw) 2 = wcat (arg9.view.read (Elt F) X9) (arg10.view.read (Elt F) X10) ∧ layerW (arg23.view.read (Elt F) Zw) 3 = wcat (arg12.view.read (Elt F) X12) (arg13.view.read (Elt F) X13) := by
  subst hZ
  refine ⟨?_, ?_, ?_, ?_⟩
  · rw [skipW _ _ 3 _ _ _ _ _ _ 0 (by decide), skipW _ _ 2 _ _ _ _ _ _ 0 (by decide), skipW _ _ 1 _ _ _ _ _ _ 0 (by decide)]
    exact hitW _ _ 0 _ _ _ _ _ _
  · rw [skipW _ _ 3 _ _ _ _ _ _ 1 (by decide), skipW _ _ 2 _ _ _ _ _ _ 1 (by decide)]
    exact hitW _ _ 1 _ _ _ _ _ _
  · rw [skipW _ _ 3 _ _ _ _ _ _ 2 (by decide)]
    exact hitW _ _ 2 _ _ _ _ _ _
  · exact hitW _ _ 3 _ _ _ _ _ _

/-- The four layers' offsets, read where they were laid. -/
theorem laidB (arg24 : Memref sig .tc .vmem S4x512 .f32) (X24 : BufTy.Contents (Elt F) arg24.view.ty) (arg5 : Memref sig .tc .vmem S2x384 .f32) (arg8 : Memref sig .tc .vmem S2x384 .f32) (arg11 : Memref sig .tc .vmem S2x384 .f32) (arg14 : Memref sig .tc .vmem S2x384 .f32) (X5 : BufTy.Contents (Elt F) arg5.view.ty) (X8 : BufTy.Contents (Elt F) arg8.view.ty) (X11 : BufTy.Contents (Elt F) arg11.view.ty) (X14 : BufTy.Contents (Elt F) arg14.view.ty)
    (Zb : BufTy.Contents (Elt F) arg24.view.ty) (hZ : Zb = arg24.view.writes (Elt F) X24 (bL 3 (by decide) arg14 X14 ++ (bL 2 (by decide) arg11 X11 ++ (bL 1 (by decide) arg8 X8 ++ (bL 0 (by decide) arg5 X5 ++ []))))) :
    layerB (arg24.view.read (Elt F) Zb) 0 = bcat (arg5.view.read (Elt F) X5) ∧ layerB (arg24.view.read (Elt F) Zb) 1 = bcat (arg8.view.read (Elt F) X8) ∧ layerB (arg24.view.read (Elt F) Zb) 2 = bcat (arg11.view.read (Elt F) X11) ∧ layerB (arg24.view.read (Elt F) Zb) 3 = bcat (arg14.view.read (Elt F) X14) := by
  subst hZ
  refine ⟨?_, ?_, ?_, ?_⟩
  · rw [skipB _ _ 3 _ _ _ _ 0 (by decide), skipB _ _ 2 _ _ _ _ 0 (by decide), skipB _ _ 1 _ _ _ _ 0 (by decide)]
    exact hitB _ _ 0 _ _ _ _
  · rw [skipB _ _ 3 _ _ _ _ 1 (by decide), skipB _ _ 2 _ _ _ _ 1 (by decide)]
    exact hitB _ _ 1 _ _ _ _
  · rw [skipB _ _ 3 _ _ _ _ 2 (by decide)]
    exact hitB _ _ 2 _ _ _ _
  · exact hitB _ _ 3 _ _ _ _

theorem turns1 : 8 * Scf.trips k1_t1_loop.lb k1_t1_loop.ub k1_t1_loop.st = 256 := by decide +kernel
theorem turns2 : 8 * Scf.trips k1_t2_loop.lb k1_t2_loop.ub k1_t2_loop.st = 256 := by decide +kernel
theorem turns3 : 8 * Scf.trips k1_t3_loop.lb k1_t3_loop.ub k1_t3_loop.st = 256 := by decide +kernel
theorem turns4 : 8 * Scf.trips k1_t4_loop.lb k1_t4_loop.ub k1_t4_loop.st = 256 := by decide +kernel
theorem rows1 : 64 * (8 * Scf.trips k1_t1_loop.lb k1_t1_loop.ub k1_t1_loop.st) = 16384 := by decide +kernel
theorem rows3 : 64 * (8 * Scf.trips k1_t3_loop.lb k1_t3_loop.ub k1_t3_loop.st) = 16384 := by decide +kernel

theorem pay10 (v : FVec F S64x128 .f32) : k1_pay10 v = v := shapeCast_self v _

/-- A block's entries, at an offset given otherwise. -/
theorem block_move (arg15 : Memref sig .tc .hbm S128x100000 .f32) {bo bo' : Fin 2 → ℕ} (e : bo = bo') (hb : ∀ a, bo a + S128x4096.size a ≤ S128x100000.size a) (hb' : ∀ a, bo' a + S128x4096.size a ≤ S128x100000.size a)
    (Xw : BufTy.Contents (Elt F) arg15.view.ty) : (blockM arg15 bo hb).view.read (Elt F) Xw = (blockM arg15 bo' hb').view.read (Elt F) Xw := by
  subst e; rfl

/-- What the four layers give, from what they find. -/
theorem chained (arg1 : Memref sig .tc .vmem S16384x128 .f32) (arg2 : Memref sig .tc .vmem S16384x128 .f32) (arg3 : Memref sig .tc .vmem S128x384 .f32) (arg4 : Memref sig .tc .vmem S128x384 .f32) (arg6 : Memref sig .tc .vmem S128x384 .f32) (arg7 : Memref sig .tc .vmem S128x384 .f32) (arg9 : Memref sig .tc .vmem S128x384 .f32) (arg10 : Memref sig .tc .vmem S128x384 .f32) (arg12 : Memref sig .tc .vmem S128x384 .f32) (arg13 : Memref sig .tc .vmem S128x384 .f32) (arg5 : Memref sig .tc .vmem S2x384 .f32) (arg8 : Memref sig .tc .vmem S2x384 .f32) (arg11 : Memref sig .tc .vmem S2x384 .f32) (arg14 : Memref sig .tc .vmem S2x384 .f32) (arg19 : Memref sig .tc .vmem S16384x128 .bf16) (arg23 : Memref sig .tc .vmem S4x256x512 .bf16) (arg24 : Memref sig .tc .vmem S4x512 .f32)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (Zw : BufTy.Contents (Elt F) arg23.view.ty) (Zb : BufTy.Contents (Elt F) arg24.view.ty) (f0 f1 : BufTy.Contents (Elt F) arg19.view.ty) (n1 n2 n3 n4 : ℕ) (e1 : n1 = 256) (e2 : n2 = 256) (e3 : n3 = 256) (e4 : n4 = 256)
    (hw : layerW (arg23.view.read (Elt F) Zw) 0 = wcat (arg3.view.read (Elt F) X3) (arg4.view.read (Elt F) X4) ∧ layerW (arg23.view.read (Elt F) Zw) 1 = wcat (arg6.view.read (Elt F) X6) (arg7.view.read (Elt F) X7) ∧ layerW (arg23.view.read (Elt F) Zw) 2 = wcat (arg9.view.read (Elt F) X9) (arg10.view.read (Elt F) X10) ∧ layerW (arg23.view.read (Elt F) Zw) 3 = wcat (arg12.view.read (Elt F) X12) (arg13.view.read (Elt F) X13))
    (hf0 : ∀ y : S16384x128.Idx, (y 0).val < 16384 → arg19.view.read (Elt F) f0 y = states (run1 arg1 arg23 arg24 X1 Zw Zb k1_pay3) y)
    (hf1 : ∀ y : S16384x128.Idx, (y 0).val < 16384 → arg19.view.read (Elt F) f1 y = states (run3 arg2 arg23 arg24 X2 Zw Zb (run2 arg19 arg23 arg24 f0 Zw Zb (run1 arg1 arg23 arg24 X1 Zw Zb k1_pay3 n1) n2)) y)
    (hb : layerB (arg24.view.read (Elt F) Zb) 0 = bcat (arg5.view.read (Elt F) X5) ∧ layerB (arg24.view.read (Elt F) Zb) 1 = bcat (arg8.view.read (Elt F) X8) ∧ layerB (arg24.view.read (Elt F) Zb) 2 = bcat (arg11.view.read (Elt F) X11) ∧ layerB (arg24.view.read (Elt F) Zb) 3 = bcat (arg14.view.read (Elt F) X14)) :
    run4 arg19 arg23 arg24 f1 Zw Zb (run3 arg2 arg23 arg24 X2 Zw Zb (run2 arg19 arg23 arg24 f0 Zw Zb (run1 arg1 arg23 arg24 X1 Zw Zb k1_pay3 n1) n2) n3) n4
      = (hidden (arg1.view.read (Elt F) X1) (arg2.view.read (Elt F) X2) (arg3.view.read (Elt F) X3) (arg4.view.read (Elt F) X4) (arg5.view.read (Elt F) X5) (arg6.view.read (Elt F) X6) (arg7.view.read (Elt F) X7) (arg8.view.read (Elt F) X8) (arg9.view.read (Elt F) X9) (arg10.view.read (Elt F) X10) (arg11.view.read (Elt F) X11) (arg12.view.read (Elt F) X12) (arg13.view.read (Elt F) X13) (arg14.view.read (Elt F) X14)) := by
  subst e1; subst e2; subst e3; subst e4
  have g0 := funext fun y : S16384x128.Idx => hf0 y (y 0).isLt
  have g1 := funext fun y : S16384x128.Idx => hf1 y (y 0).isLt
  obtain ⟨w0, w1, w2, w3⟩ := hw
  obtain ⟨b0, b1, b2, b3⟩ := hb
  unfold run4
  rw [g1]
  unfold run3 run2
  rw [g0]
  unfold run1
  rw [w0, w1, w2, w3, b0, b1, b2, b3]
  rfl

/-- The first point. -/
theorem boot (c : Dev nD) (bd : Option Variants.none.V) (i : grid1.Coords) (arg1 : Memref sig .tc .vmem S16384x128 .f32) (harg1 : arg1.IsWhole) (arg2 : Memref sig .tc .vmem S16384x128 .f32) (harg2 : arg2.IsWhole) (arg3 : Memref sig .tc .vmem S128x384 .f32) (harg3 : arg3.IsWhole) (arg4 : Memref sig .tc .vmem S128x384 .f32) (harg4 : arg4.IsWhole) (arg5 : Memref sig .tc .vmem S2x384 .f32) (harg5 : arg5.IsWhole) (arg6 : Memref sig .tc .vmem S128x384 .f32) (harg6 : arg6.IsWhole) (arg7 : Memref sig .tc .vmem S128x384 .f32) (harg7 : arg7.IsWhole) (arg8 : Memref sig .tc .vmem S2x384 .f32) (harg8 : arg8.IsWhole) (arg9 : Memref sig .tc .vmem S128x384 .f32) (harg9 : arg9.IsWhole) (arg10 : Memref sig .tc .vmem S128x384 .f32) (harg10 : arg10.IsWhole) (arg11 : Memref sig .tc .vmem S2x384 .f32) (harg11 : arg11.IsWhole) (arg12 : Memref sig .tc .vmem S128x384 .f32) (harg12 : arg12.IsWhole) (arg13 : Memref sig .tc .vmem S128x384 .f32) (harg13 : arg13.IsWhole) (arg14 : Memref sig .tc .vmem S2x384 .f32) (harg14 : arg14.IsWhole) (arg15 : Memref sig .tc .hbm S128x100000 .f32) (harg15 : arg15.IsWhole) (arg16 : Memref sig .tc .vmem S128x4096 .f32) (harg16 : arg16.IsWhole) (arg17 : Memref sig .tc .vmem S1x4096 .f32) (harg17 : arg17.IsWhole) (arg18 : Memref sig .tc .vmem S64x4096 .f32) (harg18 : arg18.IsWhole) (arg19 : Memref sig .tc .vmem S16384x128 .bf16) (harg19 : arg19.IsWhole) (arg20 : Memref sig .tc .vmem S64x128 .f32) (harg20 : arg20.IsWhole) (arg21 : Memref sig .tc .vmem S14x128x4096 .f32) (harg21 : arg21.IsWhole) (arg22 : DmaSems sig S14) (arg23 : Memref sig .tc .vmem S4x256x512 .bf16) (harg23 : arg23.IsWhole) (arg24 : Memref sig .tc .vmem S4x512 .f32) (harg24 : arg24.IsWhole) (h1 : k1_cond1 i = 1#1) (h2 : ¬k1_cond2 i = 1#1) (h3 : k1_cond3 i = 1#1) (h4 : ¬k1_cond4 i = 1#1)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (Bi : BufTy.Contents (Elt F) arg17.view.ty) (O : BufTy.Contents (Elt F) arg18.view.ty) (X19 : BufTy.Contents (Elt F) arg19.view.ty) (X20 : BufTy.Contents (Elt F) arg20.view.ty) (X23 : BufTy.Contents (Elt F) arg23.view.ty) (X24 : BufTy.Contents (Elt F) arg24.view.ty) (Xw : BufTy.Contents (Elt F) arg15.view.ty) (W : Waits sig (HIx 1)) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg17.view.loc (c : Thread nD τ) ↦[arg17.view.set]{fullShare} Bi) ∗ (arg18.view.loc (c : Thread nD τ) ↦[arg18.view.set]{fullShare} O) ∗ (arg19.view.loc (c : Thread nD τ) ↦[arg19.view.set]{fullShare} X19) ∗ (arg20.view.loc (c : Thread nD τ) ↦[arg20.view.set]{fullShare} X20) ∗ (arg23.view.loc (c : Thread nD τ) ↦[arg23.view.set]{fullShare} X23) ∗ (arg24.view.loc (c : Thread nD τ) ↦[arg24.view.set]{fullShare} X24) ∗ parkAt arg21 arg22 c ![0, 0, 0] (inS 0 (by decide)) ![0] (inC 0 (by decide)) ∗ parkAt arg21 arg22 c ![1, 0, 0] (inS 1 (by decide)) ![1] (inC 1 (by decide)) ∗ parkAt arg21 arg22 c ![2, 0, 0] (inS 2 (by decide)) ![2] (inC 2 (by decide)) ∗ parkAt arg21 arg22 c ![3, 0, 0] (inS 3 (by decide)) ![3] (inC 3 (by decide)) ∗ parkAt arg21 arg22 c ![4, 0, 0] (inS 4 (by decide)) ![4] (inC 4 (by decide)) ∗ parkAt arg21 arg22 c ![5, 0, 0] (inS 5 (by decide)) ![5] (inC 5 (by decide)) ∗ parkAt arg21 arg22 c ![6, 0, 0] (inS 6 (by decide)) ![6] (inC 6 (by decide)) ∗ parkAt arg21 arg22 c ![7, 0, 0] (inS 7 (by decide)) ![7] (inC 7 (by decide)) ∗ parkAt arg21 arg22 c ![8, 0, 0] (inS 8 (by decide)) ![8] (inC 8 (by decide)) ∗ parkAt arg21 arg22 c ![9, 0, 0] (inS 9 (by decide)) ![9] (inC 9 (by decide)) ∗ parkAt arg21 arg22 c ![10, 0, 0] (inS 10 (by decide)) ![10] (inC 10 (by decide)) ∗ parkAt arg21 arg22 c ![11, 0, 0] (inS 11 (by decide)) ![11] (inC 11 (by decide)) ∗ parkAt arg21 arg22 c ![12, 0, 0] (inS 12 (by decide)) ![12] (inC 12 (by decide)) ∗ parkAt arg21 arg22 c ![13, 0, 0] (inS 13 (by decide)) ![13] (inC 13 (by decide)) ∗ homeAt arg15 c Xw ![0, 0] (inB 0 (by decide)) ∗ homeAt arg15 c Xw ![0, 4096] (inB 4096 (by decide)) ∗ homeAt arg15 c Xw ![0, 8192] (inB 8192 (by decide)) ∗ homeAt arg15 c Xw ![0, 12288] (inB 12288 (by decide)) ∗ homeAt arg15 c Xw ![0, 16384] (inB 16384 (by decide)) ∗ homeAt arg15 c Xw ![0, 20480] (inB 20480 (by decide)) ∗ homeAt arg15 c Xw ![0, 24576] (inB 24576 (by decide)) ∗ homeAt arg15 c Xw ![0, 28672] (inB 28672 (by decide)) ∗ homeAt arg15 c Xw ![0, 32768] (inB 32768 (by decide)) ∗ homeAt arg15 c Xw ![0, 36864] (inB 36864 (by decide)) ∗ homeAt arg15 c Xw ![0, 40960] (inB 40960 (by decide)) ∗ homeAt arg15 c Xw ![0, 45056] (inB 45056 (by decide)) ∗ homeAt arg15 c Xw ![0, 49152] (inB 49152 (by decide)) ∗ homeAt arg15 c Xw ![0, 53248] (inB 53248 (by decide)) ∗ owes (c : Thread nD τ) 0 W) : sProp 𝕄)
      ⊢ wp Idealize.ShloMosaic.frame (wpE (defs₀ (F := F)) Variants.none (c : Thread nD τ) bd) Set.univ (cc1__mega_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24)
          (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg17.view.loc (c : Thread nD τ) ↦[arg17.view.set]{fullShare} Bi) ∗ (∃ O', (arg18.view.loc (c : Thread nD τ) ↦[arg18.view.set]{fullShare} O') ∗ ⌜arg18.view.read (Elt F) O' = applied (hidden (arg1.view.read (Elt F) X1) (arg2.view.read (Elt F) X2) (arg3.view.read (Elt F) X3) (arg4.view.read (Elt F) X4) (arg5.view.read (Elt F) X5) (arg6.view.read (Elt F) X6) (arg7.view.read (Elt F) X7) (arg8.view.read (Elt F) X8) (arg9.view.read (Elt F) X9) (arg10.view.read (Elt F) X10) (arg11.view.read (Elt F) X11) (arg12.view.read (Elt F) X12) (arg13.view.read (Elt F) X13) (arg14.view.read (Elt F) X14)) ((blockM arg15 (![0, 0]) (inB 0 (by decide))).view.read (Elt F) Xw) (arg17.view.read (Elt F) Bi)⌝) ∗ (∃ f, (arg19.view.loc (c : Thread nD τ) ↦[arg19.view.set]{fullShare} f)) ∗ (∃ f, (arg20.view.loc (c : Thread nD τ) ↦[arg20.view.set]{fullShare} f) ∗ ⌜arg20.view.read (Elt F) f = (hidden (arg1.view.read (Elt F) X1) (arg2.view.read (Elt F) X2) (arg3.view.read (Elt F) X3) (arg4.view.read (Elt F) X4) (arg5.view.read (Elt F) X5) (arg6.view.read (Elt F) X6) (arg7.view.read (Elt F) X7) (arg8.view.read (Elt F) X8) (arg9.view.read (Elt F) X9) (arg10.view.read (Elt F) X10) (arg11.view.read (Elt F) X11) (arg12.view.read (Elt F) X12) (arg13.view.read (Elt F) X13) (arg14.view.read (Elt F) X14))⌝) ∗ (∃ f, (arg23.view.loc (c : Thread nD τ) ↦[arg23.view.set]{fullShare} f)) ∗ (∃ f, (arg24.view.loc (c : Thread nD τ) ↦[arg24.view.set]{fullShare} f)) ∗ parkAt arg21 arg22 c ![0, 0, 0] (inS 0 (by decide)) ![0] (inC 0 (by decide)) ∗ homeAt arg15 c Xw ![0, 0] (inB 0 (by decide)) ∗ flyAt arg15 arg21 arg22 c Xw ![1, 0, 0] (inS 1 (by decide)) ![0, 4096] (inB 4096 (by decide)) ![1] (inC 1 (by decide)) ∗ flyAt arg15 arg21 arg22 c Xw ![2, 0, 0] (inS 2 (by decide)) ![0, 8192] (inB 8192 (by decide)) ![2] (inC 2 (by decide)) ∗ flyAt arg15 arg21 arg22 c Xw ![3, 0, 0] (inS 3 (by decide)) ![0, 12288] (inB 12288 (by decide)) ![3] (inC 3 (by decide)) ∗ flyAt arg15 arg21 arg22 c Xw ![4, 0, 0] (inS 4 (by decide)) ![0, 16384] (inB 16384 (by decide)) ![4] (inC 4 (by decide)) ∗ flyAt arg15 arg21 arg22 c Xw ![5, 0, 0] (inS 5 (by decide)) ![0, 20480] (inB 20480 (by decide)) ![5] (inC 5 (by decide)) ∗ flyAt arg15 arg21 arg22 c Xw ![6, 0, 0] (inS 6 (by decide)) ![0, 24576] (inB 24576 (by decide)) ![6] (inC 6 (by decide)) ∗ flyAt arg15 arg21 arg22 c Xw ![7, 0, 0] (inS 7 (by decide)) ![0, 28672] (inB 28672 (by decide)) ![7] (inC 7 (by decide)) ∗ flyAt arg15 arg21 arg22 c Xw ![8, 0, 0] (inS 8 (by decide)) ![0, 32768] (inB 32768 (by decide)) ![8] (inC 8 (by decide)) ∗ flyAt arg15 arg21 arg22 c Xw ![9, 0, 0] (inS 9 (by decide)) ![0, 36864] (inB 36864 (by decide)) ![9] (inC 9 (by decide)) ∗ flyAt arg15 arg21 arg22 c Xw ![10, 0, 0] (inS 10 (by decide)) ![0, 40960] (inB 40960 (by decide)) ![10] (inC 10 (by decide)) ∗ flyAt arg15 arg21 arg22 c Xw ![11, 0, 0] (inS 11 (by decide)) ![0, 45056] (inB 45056 (by decide)) ![11] (inC 11 (by decide)) ∗ flyAt arg15 arg21 arg22 c Xw ![12, 0, 0] (inS 12 (by decide)) ![0, 49152] (inB 49152 (by decide)) ![12] (inC 12 (by decide)) ∗ flyAt arg15 arg21 arg22 c Xw ![13, 0, 0] (inS 13 (by decide)) ![0, 53248] (inB 53248 (by decide)) ![13] (inC 13 (by decide)) ∗ ∃ W', owes (c : Thread nD τ) 0 W')) := by
  rw [cc1__mega_body_eq_skeleton]
  unfold cc1__mega_body_skel
  iintro ⟨H1, H2, H3, H4, H5, H6, H7, H8, H9, H10, H11, H12, H13, H14, H17, H18, H19, H20, H23, H24, Hp0, Hp1, Hp2, Hp3, Hp4, Hp5, Hp6, Hp7, Hp8, Hp9, Hp10, Hp11, Hp12, Hp13, Hb0, Hb1, Hb2, Hb3, Hb4, Hb5, Hb6, Hb7, Hb8, Hb9, Hb10, Hb11, Hb12, Hb13, Howes⟩
  rw [dif_pos h1, dif_neg h2, dif_pos h3, dif_neg h4]
  rw [wp_bind]
  try beta_reduce
  try rw [wp_bind]
  iapply (wp_wand_r Idealize.ShloMosaic.frame (wpE (defs₀ (F := F)) Variants.none (c : Thread nD τ) bd) Set.univ)
  isplitl [Hp0 Hb0 Hp1 Hb1 Hp2 Hb2 Hp3 Hb3 Hp4 Hb4]
  · iapply (part31 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 Xw )
    isplitl [Hp0]; · iexact Hp0
    isplitl [Hb0]; · iexact Hb0
    isplitl [Hp1]; · iexact Hp1
    isplitl [Hb1]; · iexact Hb1
    isplitl [Hp2]; · iexact Hp2
    isplitl [Hb2]; · iexact Hb2
    isplitl [Hp3]; · iexact Hp3
    isplitl [Hb3]; · iexact Hb3
    isplitl [Hp4]; · iexact Hp4
    iexact Hb4
  iintro %r31 ⟨Hf0, Hf1, Hf2, Hf3, Hf4⟩
  try beta_reduce
  try rw [wp_bind]
  iapply (wp_wand_r Idealize.ShloMosaic.frame (wpE (defs₀ (F := F)) Variants.none (c : Thread nD τ) bd) Set.univ)
  isplitl [Hp5 Hb5 Hp6 Hb6 Hp7 Hb7 Hp8 Hb8 Hp9 Hb9]
  · iapply (part32 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 Xw )
    isplitl [Hp5]; · iexact Hp5
    isplitl [Hb5]; · iexact Hb5
    isplitl [Hp6]; · iexact Hp6
    isplitl [Hb6]; · iexact Hb6
    isplitl [Hp7]; · iexact Hp7
    isplitl [Hb7]; · iexact Hb7
    isplitl [Hp8]; · iexact Hp8
    isplitl [Hb8]; · iexact Hb8
    isplitl [Hp9]; · iexact Hp9
    iexact Hb9
  iintro %r32 ⟨Hf5, Hf6, Hf7, Hf8, Hf9⟩
  try beta_reduce
  try rw [wp_bind]
  iapply (wp_wand_r Idealize.ShloMosaic.frame (wpE (defs₀ (F := F)) Variants.none (c : Thread nD τ) bd) Set.univ)
  isplitl [Hp10 Hb10 Hp11 Hb11 Hp12 Hb12 Hp13 Hb13 H3 H23]
  · iapply (part33 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 Xw X3 X23)
    isplitl [Hp10]; · iexact Hp10
    isplitl [Hb10]; · iexact Hb10
    isplitl [Hp11]; · iexact Hp11
    isplitl [Hb11]; · iexact Hb11
    isplitl [Hp12]; · iexact Hp12
    isplitl [Hb12]; · iexact Hb12
    isplitl [Hp13]; · iexact Hp13
    isplitl [Hb13]; · iexact Hb13
    isplitl [H3]; · iexact H3
    iexact H23
  iintro %r33 ⟨%e33, Hf10, Hf11, Hf12, Hf13, H3, H23⟩
  subst e33; try dsimp only
  try beta_reduce
  try rw [wp_bind]
  iapply (wp_wand_r Idealize.ShloMosaic.frame (wpE (defs₀ (F := F)) Variants.none (c : Thread nD τ) bd) Set.univ)
  isplitl [H4 H5 H23 H24]
  · iapply (part34 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 X4 X5 _ _ X3)
    isplitl [H4]; · iexact H4
    isplitl [H5]; · iexact H5
    isplitl [H23]; · iexact H23
    iexact H24
  iintro %r34 ⟨%e34, H4, H5, H23, H24⟩
  subst e34; try dsimp only
  try beta_reduce
  try rw [wp_bind]
  iapply (wp_wand_r Idealize.ShloMosaic.frame (wpE (defs₀ (F := F)) Variants.none (c : Thread nD τ) bd) Set.univ)
  isplitl [H5 H6 H7 H23 H24]
  · iapply (part35 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 X5 X6 X7 _ _)
    isplitl [H5]; · iexact H5
    isplitl [H6]; · iexact H6
    isplitl [H7]; · iexact H7
    isplitl [H23]; · iexact H23
    iexact H24
  iintro %r35 ⟨H5, H6, H7, H23, H24⟩
  try beta_reduce
  try rw [wp_bind]
  iapply (wp_wand_r Idealize.ShloMosaic.frame (wpE (defs₀ (F := F)) Variants.none (c : Thread nD τ) bd) Set.univ)
  isplitl [H8 H9 H10 H23 H24]
  · iapply (part36 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 X8 X9 X10 _ _)
    isplitl [H8]; · iexact H8
    isplitl [H9]; · iexact H9
    isplitl [H10]; · iexact H10
    isplitl [H23]; · iexact H23
    iexact H24
  iintro %r36 ⟨%e36, H8, H9, H10, H23, H24⟩
  obtain ⟨r36a, r36b⟩ := r36; injection e36 with e36a; subst e36a; try dsimp only
  try beta_reduce
  try rw [wp_bind]
  iapply (wp_wand_r Idealize.ShloMosaic.frame (wpE (defs₀ (F := F)) Variants.none (c : Thread nD τ) bd) Set.univ)
  isplitl [H10 H11 H12 H23 H24]
  · iapply (part37 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 X10 X11 X12 _ _ _ X9)
    isplitl [H10]; · iexact H10
    isplitl [H11]; · iexact H11
    isplitl [H12]; · iexact H12
    isplitl [H23]; · iexact H23
    iexact H24
  iintro %r37 ⟨%e37, H10, H11, H12, H23, H24⟩
  subst e37; try dsimp only
  try beta_reduce
  try rw [wp_bind]
  iapply (wp_wand_r Idealize.ShloMosaic.frame (wpE (defs₀ (F := F)) Variants.none (c : Thread nD τ) bd) Set.univ)
  isplitl [H13 H14 H23 H24]
  · iapply (part38 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 X13 X14 _ _ X12)
    isplitl [H13]; · iexact H13
    isplitl [H14]; · iexact H14
    isplitl [H23]; · iexact H23
    iexact H24
  iintro %r38 ⟨H13, H14, H23, H24⟩
  have h0 := zero_of i h1
  have e8 : k1_off8 i = ![0] := by rw [k1_off8_eq, h0]
  have e9 : k1_off9 i = ![0, 0, 0] := by rw [k1_off9_eq, h0]
  have e10 : k1_off10 i = ![0, 0] := by rw [k1_off10_eq, h0]
  ihave Hf0' := (fly_move arg15 arg21 arg22 c Xw e9.symm (k1_off9_inb i h3) e10.symm (k1_off10_inb i h3) e8.symm (k1_off8_inb i h3)) $$ Hf0
  unfold flyAt
  icases Hf0' with ⟨%g0, %hg0, Hf0⟩
  ihave H23' := (named c arg23 _) $$ H23
  icases H23' with ⟨%Zw, %hZw, H23⟩
  ihave H24' := (named c arg24 _) $$ H24
  icases H24' with ⟨%Zb, %hZb, H24⟩
  sl_exec
  sl_step
  have hW := laidW arg23 X23 arg3 arg4 arg6 arg7 arg9 arg10 arg12 arg13 X3 X4 X6 X7 X9 X10 X12 X13 Zw (hZw.trans rfl)
  have hC := chained arg1 arg2 arg3 arg4 arg6 arg7 arg9 arg10 arg12 arg13 arg5 arg8 arg11 arg14 arg19 arg23 arg24 X1 X2 X3 X4 X5 X6 X7 X8 X9 X10 X11 X12 X13 X14 Zw _ fL0 fL1 _ _ _ _ turns1 turns2 turns3 turns4 hW
    (fun y hy => hL4 y (lt_of_lt_of_eq hy rows1.symm)) (fun y hy => hL14 y (lt_of_lt_of_eq hy rows3.symm))
    (laidB arg24 X24 arg5 arg8 arg11 arg14 X5 X8 X11 X14 _ (by rw [hZb]; rfl))
  have h20 : ∀ Z, arg20.view.read (Elt F) (arg20.view.writes (Elt F) Z (boot.sl.H20_1 c arg1 arg2 arg14 arg19 arg23 arg24 X1 X2 X14 Zw Zb fL0 fL1)) = (hidden (arg1.view.read (Elt F) X1) (arg2.view.read (Elt F) X2) (arg3.view.read (Elt F) X3) (arg4.view.read (Elt F) X4) (arg5.view.read (Elt F) X5) (arg6.view.read (Elt F) X6) (arg7.view.read (Elt F) X7) (arg8.view.read (Elt F) X8) (arg9.view.read (Elt F) X9) (arg10.view.read (Elt F) X10) (arg11.view.read (Elt F) X11) (arg12.view.read (Elt F) X12) (arg13.view.read (Elt F) X13) (arg14.view.read (Elt F) X14)) := fun Z =>
    (read_all _ zero2 _ _ _).trans ((pay10 _).trans hC)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H17]; · iexact H17
  isplitl [H18]
  · iexists _; isplitl [H18]; · iexact H18
    ipureintro
    exact (read_all _ zero2 _ _ _).trans ((pay11 _ _ _).trans (congr (congr (congrArg applied ((readAt_all _ zero2 _ _).trans (h20 _))) ((slot_cast arg21 _ _ g0).trans (hg0.trans (block_move arg15 e10 _ _ Xw)))) (readAt_all _ zero2 _ _)))
  isplitl [H19]; · iexists _; iexact H19
  isplitl [H20]
  · iexists _; isplitl [H20]; · iexact H20
    ipureintro; exact h20 _
  isplitl [H23]; · iexists _; iexact H23
  isplitl [H24]; · iexists _; iexact H24
  isplitl [Hf0_dst Hf0]
  · iapply (park_move arg21 arg22 c e9 (inS 0 (by decide)) e8 (inC 0 (by decide)))
    unfold parkAt
    iexists _
    isplitl [Hf0_dst]; · iexact Hf0_dst
    iexact Hf0
  isplitl [Hf0_src]
  · iapply (home_move arg15 c Xw e10 (inB 0 (by decide)))
    unfold homeAt
    iexact Hf0_src
  isplitl [Hf1]; · iexact Hf1
  isplitl [Hf2]; · iexact Hf2
  isplitl [Hf3]; · iexact Hf3
  isplitl [Hf4]; · iexact Hf4
  isplitl [Hf5]; · iexact Hf5
  isplitl [Hf6]; · iexact Hf6
  isplitl [Hf7]; · iexact Hf7
  isplitl [Hf8]; · iexact Hf8
  isplitl [Hf9]; · iexact Hf9
  isplitl [Hf10]; · iexact Hf10
  isplitl [Hf11]; · iexact Hf11
  isplitl [Hf12]; · iexact Hf12
  isplitl [Hf13]; · iexact Hf13
  iexists _; iexact Howes

end Cert.Kernel.Boot
-- ==== Proof.Ring.lean ====
module

public import proofs.«01_k».proof.Proof.Boot
public import Idealize.ShloMosaic.Lib.Pipeline.Value

@[expose] public section
/-! # The fourteen slots and the twenty-four blocks

Before a grid point each block of the output weights is at home or on its way into a slot, and each slot is at rest or awaits a block.  A step of the grid moves one block and one slot.
-/

set_option maxRecDepth 8192
set_option maxHeartbeats 4000000

noncomputable section
namespace Cert.Kernel.Ring
open Cert.Kernel Cert.Kernel.Gen Cert.Kernel.Steps Cert.Kernel.Layers Cert.Kernel.Point Cert.Kernel.Parts Cert.Kernel.Boot
open Idealize.ShloMosaic Idealize.ShloMosaic.TcCoe Idealize.ShloMosaic.Tactic
open Idealize.ShloMosaic.SparseCore.Cfg (HIx)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "UU" => URounds (GSem nD τ sig) ℕ × (UR sig nD τ × Counters)
local notation "𝕄" => MT nD τ sig (HIx 1) (Elt F) ℕ UU ℕ

abbrev wA : Memref sig .tc .hbm S128x100000 .f32 := Memref.whole main_arg15
abbrev wS : Memref sig .tc .vmem S14x128x4096 .f32 := Memref.whole cc1_scratch2

/-- Block `k` under way. -/
def blkF (c : Dev nD) (Xw : BufTy.Contents (Elt F) wA.view.ty) (k : Fin 24) : sProp 𝕄 :=
  flyAt wA wS cc1_scratch3 c Xw ![k.val % 14, 0, 0] (inS _ (Nat.mod_lt _ (by decide))) ![0, 4096 * k.val] (inB _ (by have := k.isLt; omega)) ![k.val % 14] (inC _ (Nat.mod_lt _ (by decide)))
/-- Block `k` at home. -/
def blkH (c : Dev nD) (Xw : BufTy.Contents (Elt F) wA.view.ty) (k : Fin 24) : sProp 𝕄 :=
  homeAt wA c Xw ![0, 4096 * k.val] (inB _ (by have := k.isLt; omega))
/-- Slot `s` at rest. -/
def slt (c : Dev nD) (s : Fin 14) : sProp 𝕄 :=
  parkAt (F := F) wS cc1_scratch3 c ![s.val, 0, 0] (inS _ s.isLt) ![s.val] (inC _ s.isLt)

abbrev going (p k : ℕ) : Prop := 0 < p ∧ p ≤ k ∧ k < p + 13
abbrev busy (p : ℕ) (s : Fin 14) : Prop := 0 < p ∧ ∃ k : Fin 24, p ≤ k.val ∧ k.val < p + 13 ∧ k.val % 14 = s.val

def blkAt (c : Dev nD) (Xw : BufTy.Contents (Elt F) wA.view.ty) (p : ℕ) (k : Fin 24) : sProp 𝕄 := if going p k.val then blkF c Xw k else blkH c Xw k
def sltAt (c : Dev nD) (p : ℕ) (s : Fin 14) : sProp 𝕄 := if busy p s then BI.emp else slt (F := F) c s
/-- The blocks before point `p`, -/
def blocks (c : Dev nD) (Xw : BufTy.Contents (Elt F) wA.view.ty) (p : ℕ) : sProp 𝕄 := bigSep Finset.univ (blkAt c Xw p)
/-- and the slots. -/
def slots (c : Dev nD) (p : ℕ) : sProp 𝕄 := bigSep Finset.univ (sltAt (F := F) c p)

/-- A family changed at one index. -/
theorem one_changed {n : ℕ} (f g : Fin n → sProp 𝕄) (a : Fin n) (h : ∀ k, k ≠ a → f k = g k) :
    ∃ R, bigSep Finset.univ f = iprop(f a ∗ R) ∧ bigSep Finset.univ g = iprop(g a ∗ R) := by
  refine ⟨bigSep (Finset.univ.erase a) f, bigSep_erase (Finset.mem_univ a), ?_⟩
  rw [bigSep_erase (Finset.mem_univ a), bigSep_congr (s := Finset.univ.erase a) fun k hk => h k (Finset.ne_of_mem_erase hk)]
  rfl
/-- A family changed at two. -/
theorem two_changed {n : ℕ} (f g : Fin n → sProp 𝕄) (a b : Fin n) (hab : b ≠ a) (h : ∀ k, k ≠ a → k ≠ b → f k = g k) :
    ∃ R, bigSep Finset.univ f = iprop(f a ∗ f b ∗ R) ∧ bigSep Finset.univ g = iprop(g a ∗ g b ∗ R) := by
  have hb : b ∈ Finset.univ.erase a := Finset.mem_erase.mpr ⟨hab, Finset.mem_univ b⟩
  refine ⟨bigSep ((Finset.univ.erase a).erase b) f, ?_, ?_⟩
  · rw [bigSep_erase (Finset.mem_univ a), bigSep_erase hb]; rfl
  · rw [bigSep_erase (Finset.mem_univ a), bigSep_erase hb, bigSep_congr (s := (Finset.univ.erase a).erase b) fun k hk =>
      h k (Finset.ne_of_mem_erase (Finset.mem_of_mem_erase hk)) (Finset.ne_of_mem_erase hk)]
    rfl

theorem busy_same : ∀ (p : Fin 24) (s : Fin 14), 0 < p.val → s.val ≠ (p.val + 13) % 14 → s.val ≠ p.val % 14 → (busy p.val s ↔ busy (p.val + 1) s) := by decide +kernel
theorem busy_here : ∀ (p : Fin 24), 0 < p.val → busy p.val (⟨p.val % 14, Nat.mod_lt _ (by decide)⟩ : Fin 14) := by decide +kernel
theorem free_next : ∀ (p : Fin 24), 0 < p.val → ¬busy (p.val + 1) (⟨p.val % 14, Nat.mod_lt _ (by decide)⟩ : Fin 14) := by decide +kernel
theorem free_here : ∀ (p : Fin 24), 0 < p.val → ¬busy p.val (⟨(p.val + 13) % 14, Nat.mod_lt _ (by decide)⟩ : Fin 14) := by decide +kernel
theorem busy_next : ∀ (p : Fin 24), 0 < p.val → p.val < 11 → busy (p.val + 1) (⟨(p.val + 13) % 14, Nat.mod_lt _ (by decide)⟩ : Fin 14) := by decide +kernel
theorem busy_late : ∀ (p : Fin 24) (s : Fin 14), 11 ≤ p.val → s.val ≠ p.val % 14 → (busy p.val s ↔ busy (p.val + 1) s) := by decide +kernel
theorem free_end : ∀ (s : Fin 14), ¬busy 24 s := by decide +kernel
theorem free_start : ∀ (s : Fin 14), ¬busy 0 s := by decide +kernel

/-- A middle step's blocks. -/
theorem blocks_mid (c : Dev nD) (Xw : BufTy.Contents (Elt F) wA.view.ty) (p : ℕ) (h0 : 0 < p) (h1 : p < 11) :
    ∃ R : sProp 𝕄, blocks c Xw p = iprop(blkF c Xw ⟨p, by omega⟩ ∗ blkH c Xw ⟨p + 13, by omega⟩ ∗ R)
      ∧ blocks c Xw (p + 1) = iprop(blkH c Xw ⟨p, by omega⟩ ∗ blkF c Xw ⟨p + 13, by omega⟩ ∗ R) := by
  obtain ⟨R, e1, e2⟩ := two_changed (blkAt c Xw p) (blkAt c Xw (p + 1)) (⟨p, by omega⟩ : Fin 24) (⟨p + 13, by omega⟩ : Fin 24)
    (fun h => by have := congrArg Fin.val h; simp only at this; omega) (fun k ka kb => by
      have ka' : k.val ≠ p := fun h => ka (Fin.ext h)
      have kb' : k.val ≠ p + 13 := fun h => kb (Fin.ext h)
      unfold blkAt
      by_cases hg : going p k.val
      · rw [if_pos hg, if_pos (show going (p + 1) k.val by unfold going at hg ⊢; omega)]
      · rw [if_neg hg, if_neg (show ¬going (p + 1) k.val by unfold going at hg ⊢; omega)])
  refine ⟨R, e1.trans ?_, e2.trans ?_⟩
  · unfold blkAt
    rw [if_pos (show going p p by unfold going; omega), if_neg (show ¬going p (p + 13) by unfold going; omega)]
  · unfold blkAt
    rw [if_neg (show ¬going (p + 1) p by unfold going; omega), if_pos (show going (p + 1) (p + 13) by unfold going; omega)]

/-- A late step's blocks. -/
theorem blocks_late (c : Dev nD) (Xw : BufTy.Contents (Elt F) wA.view.ty) (p : ℕ) (h0 : 11 ≤ p) (h1 : p < 24) :
    ∃ R : sProp 𝕄, blocks c Xw p = iprop(blkF c Xw ⟨p, by omega⟩ ∗ R) ∧ blocks c Xw (p + 1) = iprop(blkH c Xw ⟨p, by omega⟩ ∗ R) := by
  obtain ⟨R, e1, e2⟩ := one_changed (blkAt c Xw p) (blkAt c Xw (p + 1)) (⟨p, by omega⟩ : Fin 24) (fun k ka => by
      have ka' : k.val ≠ p := fun h => ka (Fin.ext h)
      have kl := k.isLt
      unfold blkAt
      by_cases hg : going p k.val
      · rw [if_pos hg, if_pos (show going (p + 1) k.val by unfold going at hg ⊢; omega)]
      · rw [if_neg hg, if_neg (show ¬going (p + 1) k.val by unfold going at hg ⊢; omega)])
  refine ⟨R, e1.trans ?_, e2.trans ?_⟩
  · unfold blkAt
    rw [if_pos (show going p p by unfold going; omega)]
  · unfold blkAt
    rw [if_neg (show ¬going (p + 1) p by unfold going; omega)]

/-- A middle step's slots. -/
theorem slots_mid (c : Dev nD) (p : ℕ) (h0 : 0 < p) (h1 : p < 11) :
    ∃ R : sProp 𝕄, slots c p = iprop(slt (F := F) c ⟨(p + 13) % 14, Nat.mod_lt _ (by decide)⟩ ∗ R)
      ∧ slots c (p + 1) = iprop(slt (F := F) c ⟨p % 14, Nat.mod_lt _ (by decide)⟩ ∗ R) := by
  obtain ⟨R, e1, e2⟩ := two_changed (sltAt (F := F) c p) (sltAt c (p + 1)) (⟨(p + 13) % 14, Nat.mod_lt _ (by decide)⟩ : Fin 14) (⟨p % 14, Nat.mod_lt _ (by decide)⟩ : Fin 14)
    (fun h => by have := congrArg Fin.val h; simp only at this; omega) (fun k ka kb => by
      have hb := busy_same ⟨p, by omega⟩ k h0 (fun h => ka (Fin.ext h)) (fun h => kb (Fin.ext h))
      unfold sltAt
      by_cases hg : busy p k
      · rw [if_pos hg, if_pos (hb.1 hg)]
      · rw [if_neg hg, if_neg fun h => hg (hb.2 h)])
  refine ⟨R, e1.trans ?_, e2.trans ?_⟩
  · unfold sltAt
    rw [if_neg (free_here ⟨p, by omega⟩ h0), if_pos (busy_here ⟨p, by omega⟩ h0)]
    exact congrArg _ (emp_sep_eq _)
  · unfold sltAt
    rw [if_pos (busy_next ⟨p, by omega⟩ h0 h1), if_neg (free_next ⟨p, by omega⟩ h0)]
    exact emp_sep_eq _

/-- A late step's slots. -/
theorem slots_late (c : Dev nD) (p : ℕ) (h0 : 11 ≤ p) (h1 : p < 24) :
    ∃ R : sProp 𝕄, slots (F := F) c p = R ∧ slots c (p + 1) = iprop(slt (F := F) c ⟨p % 14, Nat.mod_lt _ (by decide)⟩ ∗ R) := by
  obtain ⟨R, e1, e2⟩ := one_changed (sltAt (F := F) c p) (sltAt c (p + 1)) (⟨p % 14, Nat.mod_lt _ (by decide)⟩ : Fin 14) (fun k kb => by
      have hb := busy_late ⟨p, by omega⟩ k h0 (fun h => kb (Fin.ext h))
      unfold sltAt
      by_cases hg : busy p k
      · rw [if_pos hg, if_pos (hb.1 hg)]
      · rw [if_neg hg, if_neg fun h => hg (hb.2 h)])
  refine ⟨R, e1.trans ?_, e2.trans ?_⟩
  · unfold sltAt
    rw [if_pos (busy_here ⟨p, by omega⟩ (show 0 < p by omega))]
    exact emp_sep_eq _
  · unfold sltAt
    rw [if_neg (free_next ⟨p, by omega⟩ (show 0 < p by omega))]

/-- At the first point everything is at home. -/
theorem blocks_start (c : Dev nD) (Xw : BufTy.Contents (Elt F) wA.view.ty) : (blocks c Xw 0 : sProp 𝕄) = iprop(homeAt wA c Xw ![0, 0] (inB 0 (by decide)) ∗ homeAt wA c Xw ![0, 4096] (inB 4096 (by decide)) ∗ homeAt wA c Xw ![0, 8192] (inB 8192 (by decide)) ∗ homeAt wA c Xw ![0, 12288] (inB 12288 (by decide)) ∗ homeAt wA c Xw ![0, 16384] (inB 16384 (by decide)) ∗ homeAt wA c Xw ![0, 20480] (inB 20480 (by decide)) ∗ homeAt wA c Xw ![0, 24576] (inB 24576 (by decide)) ∗ homeAt wA c Xw ![0, 28672] (inB 28672 (by decide)) ∗ homeAt wA c Xw ![0, 32768] (inB 32768 (by decide)) ∗ homeAt wA c Xw ![0, 36864] (inB 36864 (by decide)) ∗ homeAt wA c Xw ![0, 40960] (inB 40960 (by decide)) ∗ homeAt wA c Xw ![0, 45056] (inB 45056 (by decide)) ∗ homeAt wA c Xw ![0, 49152] (inB 49152 (by decide)) ∗ homeAt wA c Xw ![0, 53248] (inB 53248 (by decide)) ∗ homeAt wA c Xw ![0, 57344] (inB 57344 (by decide)) ∗ homeAt wA c Xw ![0, 61440] (inB 61440 (by decide)) ∗ homeAt wA c Xw ![0, 65536] (inB 65536 (by decide)) ∗ homeAt wA c Xw ![0, 69632] (inB 69632 (by decide)) ∗ homeAt wA c Xw ![0, 73728] (inB 73728 (by decide)) ∗ homeAt wA c Xw ![0, 77824] (inB 77824 (by decide)) ∗ homeAt wA c Xw ![0, 81920] (inB 81920 (by decide)) ∗ homeAt wA c Xw ![0, 86016] (inB 86016 (by decide)) ∗ homeAt wA c Xw ![0, 90112] (inB 90112 (by decide)) ∗ homeAt wA c Xw ![0, 94208] (inB 94208 (by decide))) := by
  unfold blocks
  rw [bigSep_univ_eq_bigSepL [(0 : Fin 24), (1 : Fin 24), (2 : Fin 24), (3 : Fin 24), (4 : Fin 24), (5 : Fin 24), (6 : Fin 24), (7 : Fin 24), (8 : Fin 24), (9 : Fin 24), (10 : Fin 24), (11 : Fin 24), (12 : Fin 24), (13 : Fin 24), (14 : Fin 24), (15 : Fin 24), (16 : Fin 24), (17 : Fin 24), (18 : Fin 24), (19 : Fin 24), (20 : Fin 24), (21 : Fin 24), (22 : Fin 24), (23 : Fin 24)] (by decide) (by decide)]
  rfl
theorem blocks_first (c : Dev nD) (Xw : BufTy.Contents (Elt F) wA.view.ty) : (blocks c Xw 1 : sProp 𝕄) = iprop(homeAt wA c Xw ![0, 0] (inB 0 (by decide)) ∗ flyAt wA wS cc1_scratch3 c Xw ![1, 0, 0] (inS 1 (by decide)) ![0, 4096] (inB 4096 (by decide)) ![1] (inC 1 (by decide)) ∗ flyAt wA wS cc1_scratch3 c Xw ![2, 0, 0] (inS 2 (by decide)) ![0, 8192] (inB 8192 (by decide)) ![2] (inC 2 (by decide)) ∗ flyAt wA wS cc1_scratch3 c Xw ![3, 0, 0] (inS 3 (by decide)) ![0, 12288] (inB 12288 (by decide)) ![3] (inC 3 (by decide)) ∗ flyAt wA wS cc1_scratch3 c Xw ![4, 0, 0] (inS 4 (by decide)) ![0, 16384] (inB 16384 (by decide)) ![4] (inC 4 (by decide)) ∗ flyAt wA wS cc1_scratch3 c Xw ![5, 0, 0] (inS 5 (by decide)) ![0, 20480] (inB 20480 (by decide)) ![5] (inC 5 (by decide)) ∗ flyAt wA wS cc1_scratch3 c Xw ![6, 0, 0] (inS 6 (by decide)) ![0, 24576] (inB 24576 (by decide)) ![6] (inC 6 (by decide)) ∗ flyAt wA wS cc1_scratch3 c Xw ![7, 0, 0] (inS 7 (by decide)) ![0, 28672] (inB 28672 (by decide)) ![7] (inC 7 (by decide)) ∗ flyAt wA wS cc1_scratch3 c Xw ![8, 0, 0] (inS 8 (by decide)) ![0, 32768] (inB 32768 (by decide)) ![8] (inC 8 (by decide)) ∗ flyAt wA wS cc1_scratch3 c Xw ![9, 0, 0] (inS 9 (by decide)) ![0, 36864] (inB 36864 (by decide)) ![9] (inC 9 (by decide)) ∗ flyAt wA wS cc1_scratch3 c Xw ![10, 0, 0] (inS 10 (by decide)) ![0, 40960] (inB 40960 (by decide)) ![10] (inC 10 (by decide)) ∗ flyAt wA wS cc1_scratch3 c Xw ![11, 0, 0] (inS 11 (by decide)) ![0, 45056] (inB 45056 (by decide)) ![11] (inC 11 (by decide)) ∗ flyAt wA wS cc1_scratch3 c Xw ![12, 0, 0] (inS 12 (by decide)) ![0, 49152] (inB 49152 (by decide)) ![12] (inC 12 (by decide)) ∗ flyAt wA wS cc1_scratch3 c Xw ![13, 0, 0] (inS 13 (by decide)) ![0, 53248] (inB 53248 (by decide)) ![13] (inC 13 (by decide)) ∗ homeAt wA c Xw ![0, 57344] (inB 57344 (by decide)) ∗ homeAt wA c Xw ![0, 61440] (inB 61440 (by decide)) ∗ homeAt wA c Xw ![0, 65536] (inB 65536 (by decide)) ∗ homeAt wA c Xw ![0, 69632] (inB 69632 (by decide)) ∗ homeAt wA c Xw ![0, 73728] (inB 73728 (by decide)) ∗ homeAt wA c Xw ![0, 77824] (inB 77824 (by decide)) ∗ homeAt wA c Xw ![0, 81920] (inB 81920 (by decide)) ∗ homeAt wA c Xw ![0, 86016] (inB 86016 (by decide)) ∗ homeAt wA c Xw ![0, 90112] (inB 90112 (by decide)) ∗ homeAt wA c Xw ![0, 94208] (inB 94208 (by decide))) := by
  unfold blocks
  rw [bigSep_univ_eq_bigSepL [(0 : Fin 24), (1 : Fin 24), (2 : Fin 24), (3 : Fin 24), (4 : Fin 24), (5 : Fin 24), (6 : Fin 24), (7 : Fin 24), (8 : Fin 24), (9 : Fin 24), (10 : Fin 24), (11 : Fin 24), (12 : Fin 24), (13 : Fin 24), (14 : Fin 24), (15 : Fin 24), (16 : Fin 24), (17 : Fin 24), (18 : Fin 24), (19 : Fin 24), (20 : Fin 24), (21 : Fin 24), (22 : Fin 24), (23 : Fin 24)] (by decide) (by decide)]
  rfl
theorem blocks_end (c : Dev nD) (Xw : BufTy.Contents (Elt F) wA.view.ty) : (blocks c Xw 24 : sProp 𝕄) = bigSep Finset.univ (blkH c Xw) := by
  unfold blocks
  exact bigSep_congr fun k _ => by unfold blkAt; exact if_neg fun h => by have := k.isLt; unfold going at h; omega
theorem blocks_none (c : Dev nD) (Xw : BufTy.Contents (Elt F) wA.view.ty) : (blocks c Xw 0 : sProp 𝕄) = bigSep Finset.univ (blkH c Xw) := by
  unfold blocks
  exact bigSep_congr fun k _ => by unfold blkAt; exact if_neg fun h => by unfold going at h; omega
theorem slots_start (c : Dev nD) : (slots (F := F) c 0 : sProp 𝕄) = iprop(parkAt (F := F) wS cc1_scratch3 c ![0, 0, 0] (inS 0 (by decide)) ![0] (inC 0 (by decide)) ∗ parkAt (F := F) wS cc1_scratch3 c ![1, 0, 0] (inS 1 (by decide)) ![1] (inC 1 (by decide)) ∗ parkAt (F := F) wS cc1_scratch3 c ![2, 0, 0] (inS 2 (by decide)) ![2] (inC 2 (by decide)) ∗ parkAt (F := F) wS cc1_scratch3 c ![3, 0, 0] (inS 3 (by decide)) ![3] (inC 3 (by decide)) ∗ parkAt (F := F) wS cc1_scratch3 c ![4, 0, 0] (inS 4 (by decide)) ![4] (inC 4 (by decide)) ∗ parkAt (F := F) wS cc1_scratch3 c ![5, 0, 0] (inS 5 (by decide)) ![5] (inC 5 (by decide)) ∗ parkAt (F := F) wS cc1_scratch3 c ![6, 0, 0] (inS 6 (by decide)) ![6] (inC 6 (by decide)) ∗ parkAt (F := F) wS cc1_scratch3 c ![7, 0, 0] (inS 7 (by decide)) ![7] (inC 7 (by decide)) ∗ parkAt (F := F) wS cc1_scratch3 c ![8, 0, 0] (inS 8 (by decide)) ![8] (inC 8 (by decide)) ∗ parkAt (F := F) wS cc1_scratch3 c ![9, 0, 0] (inS 9 (by decide)) ![9] (inC 9 (by decide)) ∗ parkAt (F := F) wS cc1_scratch3 c ![10, 0, 0] (inS 10 (by decide)) ![10] (inC 10 (by decide)) ∗ parkAt (F := F) wS cc1_scratch3 c ![11, 0, 0] (inS 11 (by decide)) ![11] (inC 11 (by decide)) ∗ parkAt (F := F) wS cc1_scratch3 c ![12, 0, 0] (inS 12 (by decide)) ![12] (inC 12 (by decide)) ∗ parkAt (F := F) wS cc1_scratch3 c ![13, 0, 0] (inS 13 (by decide)) ![13] (inC 13 (by decide))) := by
  unfold slots
  rw [bigSep_univ_eq_bigSepL [(0 : Fin 14), (1 : Fin 14), (2 : Fin 14), (3 : Fin 14), (4 : Fin 14), (5 : Fin 14), (6 : Fin 14), (7 : Fin 14), (8 : Fin 14), (9 : Fin 14), (10 : Fin 14), (11 : Fin 14), (12 : Fin 14), (13 : Fin 14)] (by decide) (by decide)]
  rfl
theorem slots_first (c : Dev nD) : (slots (F := F) c 1 : sProp 𝕄) = parkAt (F := F) wS cc1_scratch3 c ![0, 0, 0] (inS 0 (by decide)) ![0] (inC 0 (by decide)) := by
  unfold slots
  rw [bigSep_univ_at _ (0 : Fin 14), bigSep_congr (s := Finset.univ.erase (0 : Fin 14)) (Ψ := fun _ => BI.emp) fun k hk => by
    have h : ∀ k : Fin 14, k ≠ 0 → busy 1 k := by decide +kernel
    exact if_pos (h k (Finset.ne_of_mem_erase hk)), bigSep_emp_const]
  exact (sep_emp_eq _).trans (if_neg (by decide +kernel))
theorem slots_end (c : Dev nD) : (slots (F := F) c 24 : sProp 𝕄) = bigSep Finset.univ (slt (F := F) c) := by
  unfold slots
  exact bigSep_congr fun s _ => if_neg (free_end s)
theorem slots_none (c : Dev nD) : (slots (F := F) c 0 : sProp 𝕄) = bigSep Finset.univ (slt (F := F) c) := by
  unfold slots
  exact bigSep_congr fun s _ => if_neg (free_start s)

end Cert.Kernel.Ring
-- ==== Proof.Hold.lean ====
module

public import proofs.«01_k».proof.Proof.Ring
public import Idealize.ShloMosaic.Lib.Pipeline.Value
public import Idealize.ShloMosaic.Lib.Ring

@[expose] public section
/-! # An array as its blocks, a ring as its slots -/

set_option maxRecDepth 8192
set_option maxHeartbeats 4000000

noncomputable section
namespace Cert.Kernel.Hold
open Cert.Kernel Cert.Kernel.Gen Cert.Kernel.Steps Cert.Kernel.Layers Cert.Kernel.Point Cert.Kernel.Parts Cert.Kernel.Boot Cert.Kernel.Ring
open Idealize.ShloMosaic Idealize.ShloMosaic.TcCoe Idealize.ShloMosaic.Tactic
open Idealize.ShloMosaic.SparseCore.Cfg (HIx)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "UU" => URounds (GSem nD τ sig) ℕ × (UR sig nD τ × Counters)
local notation "𝕄" => MT nD τ sig (HIx 1) (Elt F) ℕ UU ℕ

set_option backward.isDefEq.respectTransparency.types false
theorem inK (k : Fin 24) : 4096 * k.val ≤ 95904 := by have := k.isLt; omega
/-- Block `k`'s elements. -/
abbrev bSet (k : Fin 24) : Finset S128x100000.Idx := (blockM wA ![0, 4096 * k.val] (inB _ (inK k))).view.set
/-- Slot `s`'s. -/
abbrev sSet (s : Fin 14) : Finset S14x128x4096.Idx := (slotM wS ![s.val, 0, 0] (inS _ s.isLt)).view.set

theorem mem_bSet (k : Fin 24) (j : S128x100000.Idx) : Iff (j ∈ bSet k) (4096 * k.val ≤ (j 1).val ∧ (j 1).val < 4096 * k.val + 4096) := by
  have e : bSet k = ((View.whole main_arg15).slice (Rect.unit (s := S128x100000) ![0, 4096 * k.val] S128x4096.size (inB _ (inK k)))).set := rfl
  rw [e]
  rw [View.set_slice_whole, Rect.mem_set_unit]
  have h0 : (j 0).val < 128 := (j 0).isLt
  refine ⟨fun h => h 1, fun h a => ?_⟩
  match a with
  | ⟨0, _⟩ => exact ⟨Nat.zero_le _, by show (j 0).val < 0 + 128; omega⟩
  | ⟨1, _⟩ => exact h

theorem mem_sSet (s : Fin 14) (j : S14x128x4096.Idx) : Iff (j ∈ sSet s) ((j 0).val = s.val) := by
  have e : sSet s = ((View.whole cc1_scratch2).slice (Rect.unit (s := S14x128x4096) ![s.val, 0, 0] S1x128x4096.size (inS _ s.isLt))).set := Memref.set_view_squeeze _ _
  rw [e]
  rw [View.set_slice_whole, Rect.mem_set_unit]
  have h1 : (j 1).val < 128 := (j 1).isLt
  have h2 : (j 2).val < 4096 := (j 2).isLt
  refine ⟨fun h => ?_, fun h a => ?_⟩
  · have h' : s.val ≤ (j 0).val ∧ (j 0).val < s.val + 1 := h 0
    omega
  · match a with
    | ⟨0, _⟩ => exact show s.val ≤ (j 0).val ∧ (j 0).val < s.val + 1 by omega
    | ⟨1, _⟩ => exact ⟨Nat.zero_le _, show (j 1).val < 0 + 128 by omega⟩
    | ⟨2, _⟩ => exact ⟨Nat.zero_le _, show (j 2).val < 0 + 4096 by omega⟩

theorem bSet_disj (b b' : Fin 24) (h : b ≠ b') : Disjoint (bSet b) (bSet b') := by
  rw [Finset.disjoint_left]
  intro j hj hj'
  rw [mem_bSet] at hj hj'
  exact h (Fin.ext (by omega))
theorem sSet_disj (b b' : Fin 14) (h : b ≠ b') : Disjoint (sSet b) (sSet b') := by
  rw [Finset.disjoint_left]
  intro j hj hj'
  rw [mem_sSet] at hj hj'
  exact h (Fin.ext (by omega))
theorem sSet_cover : Finset.univ.biUnion sSet = Finset.univ := by
  ext j
  simp only [Finset.mem_biUnion, Finset.mem_univ, true_and, iff_true]
  exact ⟨(⟨((j : S14x128x4096.Idx) 0).val, ((j : S14x128x4096.Idx) 0).isLt⟩ : Fin 14), (mem_sSet _ j).2 rfl⟩

/-- What of the array no block holds. -/
def spare (c : Dev nD) (Xw : BufTy.Contents (Elt F) wA.view.ty) : sProp 𝕄 :=
  (c : Thread nD τ).loc main_arg15 ↦[Finset.univ \ Finset.univ.biUnion bSet]{fullShare} Xw

/-- The array is its blocks and what no block holds. -/
theorem array_blocks (c : Dev nD) (Xw : BufTy.Contents (Elt F) wA.view.ty) :
    (((c : Thread nD τ).loc main_arg15 ↦{fullShare} Xw) : sProp 𝕄) ⊣⊢ iprop(bigSep Finset.univ (blkH c Xw) ∗ spare c Xw) := by
  have e : ((c : Thread nD τ).loc main_arg15 ↦[Finset.univ.biUnion bSet]{fullShare} Xw : sProp 𝕄) = bigSep Finset.univ (blkH c Xw) :=
    Idealize.ShloMosaic.Ring.pointsTo_sub_blocks (ℓ := (c : Thread nD τ).loc main_arg15) bSet bSet_disj _ rfl Xw
  unfold spare
  rw [← e]
  exact pointsTo_split_subset (Finset.subset_univ _)

/-- The ring's semaphores. -/
abbrev osem (s : Fin 14) : SemLoc sig := .dma (cellM cc1_scratch3 ![s.val] (inC _ s.isLt))

theorem slots_open (c : Dev nD) : (iprop((∃ f : Buf (Elt F) ((c : Thread nD τ).loc cc1_scratch2), (c : Thread nD τ).loc cc1_scratch2 ↦{fullShare} f) ∗ Pipeline.ownSems0 osem c) : sProp 𝕄)
    ⊢ bigSep Finset.univ (slt (F := F) c) := by
  have h : (iprop(∃ f : Buf (Elt F) ((c : Thread nD τ).loc cc1_scratch2), (c : Thread nD τ).loc cc1_scratch2 ↦{fullShare} f) : sProp 𝕄)
      ⊢ bigSep Finset.univ fun s => iprop(∃ f : Buf (Elt F) ((c : Thread nD τ).loc cc1_scratch2), (c : Thread nD τ).loc cc1_scratch2 ↦[sSet s]{fullShare} f) := by
    iintro ⟨%f, H⟩
    have e := Idealize.ShloMosaic.Ring.pointsTo_blocks (Ix := HIx 1) (Name := ℕ) (U := UU) (Lvl := ℕ) (ℓ := (c : Thread nD τ).loc cc1_scratch2) (q := fullShare) sSet sSet_disj sSet_cover f
    have h' : (((c : Thread nD τ).loc cc1_scratch2 ↦{fullShare} f) : sProp 𝕄) ⊢ bigSep Finset.univ fun s => iprop(∃ f : Buf (Elt F) ((c : Thread nD τ).loc cc1_scratch2), (c : Thread nD τ).loc cc1_scratch2 ↦[sSet s]{fullShare} f) := by
      rw [e]
      exact BI.bigSep_mono fun s _ => show _ ⊢ iprop(∃ f : Buf (Elt F) ((c : Thread nD τ).loc cc1_scratch2), (c : Thread nD τ).loc cc1_scratch2 ↦[sSet s]{fullShare} f) from by iintro H; iexists f; iexact H
    iapply h'; iexact H
  refine (sep_mono h .rfl).trans ?_
  unfold Pipeline.ownSems0
  refine (Entails.of_eq (bigSep_sep' _ _ _).symm).trans (BI.bigSep_mono fun s _ => ?_)
  show iprop((∃ f : Buf (Elt F) ((c : Thread nD τ).loc cc1_scratch2), (c : Thread nD τ).loc cc1_scratch2 ↦[sSet s]{fullShare} f) ∗ semVal ((c : Thread nD τ), osem s) 0) ⊢ slt (F := F) c s
  unfold slt parkAt
  iintro ⟨⟨%g, H⟩, Hs⟩
  iexists g
  isplitl [H]; · iexact H
  iexact Hs

theorem slots_shut (c : Dev nD) : (bigSep Finset.univ (slt (F := F) c) : sProp 𝕄)
    ⊢ iprop((∃ f : Buf (Elt F) ((c : Thread nD τ).loc cc1_scratch2), (c : Thread nD τ).loc cc1_scratch2 ↦{fullShare} f) ∗ Pipeline.ownSems0 osem c) := by
  have h : (bigSep Finset.univ (slt (F := F) c) : sProp 𝕄) ⊢ bigSep Finset.univ fun s =>
      iprop((∃ f : Buf (Elt F) ((c : Thread nD τ).loc cc1_scratch2), (c : Thread nD τ).loc cc1_scratch2 ↦[sSet s]{fullShare} f) ∗ semVal ((c : Thread nD τ), osem s) 0) :=
    BI.bigSep_mono fun s _ => by
      show slt (F := F) c s ⊢ iprop((∃ f : Buf (Elt F) ((c : Thread nD τ).loc cc1_scratch2), (c : Thread nD τ).loc cc1_scratch2 ↦[sSet s]{fullShare} f) ∗ semVal ((c : Thread nD τ), osem s) 0)
      unfold slt parkAt
      iintro ⟨%g, H, Hs⟩
      isplitl [H]; · iexists g; iexact H
      iexact Hs
  refine h.trans ?_
  rw [bigSep_sep']
  refine sep_mono ?_ .rfl
  have f₀ : Buf (Elt F) ((c : Thread nD τ).loc cc1_scratch2) := fun _ => Scalar.ofBits .f32 0#32
  exact Idealize.ShloMosaic.Ring.pointsTo_blocks_join_exists (Ix := HIx 1) (Name := ℕ) (U := UU) (Lvl := ℕ) (ℓ := (c : Thread nD τ).loc cc1_scratch2) (q := fullShare) sSet sSet_disj sSet_cover f₀

theorem osem_facts : Pipeline.OwnSemFacts spec1 osem := by decide +kernel

end Cert.Kernel.Hold
-- ==== Proof.Walk.lean ====
module

public import proofs.«01_k».proof.Proof.Hold
public import Idealize.ShloMosaic.Lib.Pipeline.Value

@[expose] public section
/-! # One point of the grid, from the state before it to the state after -/

set_option maxRecDepth 8192
set_option maxHeartbeats 4000000

noncomputable section
namespace Cert.Kernel.Walk
open Cert.Kernel Cert.Kernel.Gen Cert.Kernel.Steps Cert.Kernel.Layers Cert.Kernel.Point Cert.Kernel.Parts Cert.Kernel.Boot Cert.Kernel.Weights Cert.Kernel.Ring Cert.Kernel.Hold
open Idealize.ShloMosaic Idealize.ShloMosaic.TcCoe Idealize.ShloMosaic.Tactic
open Idealize.ShloMosaic.SparseCore.Cfg (HIx)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "UU" => URounds (GSem nD τ sig) ℕ × (UR sig nD τ × Counters)
local notation "𝕄" => MT nD τ sig (HIx 1) (Elt F) ℕ UU ℕ

abbrev wY : Memref sig .tc .vmem S16384x128 .bf16 := Memref.whole cc1_scratch0
abbrev wH : Memref sig .tc .vmem S64x128 .f32 := Memref.whole cc1_scratch1
abbrev wG : Memref sig .tc .vmem S4x256x512 .bf16 := Memref.whole cc1_scratch4
abbrev wB : Memref sig .tc .vmem S4x512 .f32 := Memref.whole cc1_scratch5

theorem inP24 {p : ℕ} (h : p < 24) : 4096 * p ≤ 95904 := by omega
theorem inP11 {p : ℕ} (h : p < 11) : 4096 * p ≤ 95904 := by omega
theorem inP13 {p : ℕ} (h : p < 11) : 4096 * (p + 13) ≤ 95904 := by omega
theorem fly_open (arg15 : Memref sig .tc .hbm S128x100000 .f32) (arg21 : Memref sig .tc .vmem S14x128x4096 .f32) (arg22 : DmaSems sig S14) (c : Dev nD) (Xw : BufTy.Contents (Elt F) arg15.view.ty)
    (so : Fin 3 → ℕ) (hs : ∀ a, so a + S1x128x4096.size a ≤ S14x128x4096.size a) (bo : Fin 2 → ℕ) (hb : ∀ a, bo a + S128x4096.size a ≤ S128x100000.size a) (co : Fin 1 → ℕ) (hc : ∀ a, co a + S1.size a ≤ S14.size a) : (flyAt arg15 arg21 arg22 c Xw so hs bo hb co hc : sProp 𝕄) ⊢ iprop(∃ g, ⌜(slotM arg21 so hs).view.read (Elt F) g = (blockM arg15 bo hb).view.read (Elt F) Xw⌝ ∗ Transfers.Flight (countersEmb (Val := Elt F) (U := UU)) (c : Thread nD τ) (.dma (cellM arg22 (co) (hc))) (default : HIx 1) ((slotM arg21 (so) (hs)).view.amount (SemLoc.dma (cellM arg22 (co) (hc)))) iprop(((slotM arg21 (so) (hs)).view.loc (c : Thread nD τ) ↦[(slotM arg21 (so) (hs)).view.set]{fullShare} g) ∗ ((blockM arg15 (bo) (hb)).view.loc (c : Thread nD τ) ↦[(blockM arg15 (bo) (hb)).view.set]{fullShare} Xw))) := by unfold flyAt; exact .rfl
theorem park_open (arg21 : Memref sig .tc .vmem S14x128x4096 .f32) (arg22 : DmaSems sig S14) (c : Dev nD)
    (so : Fin 3 → ℕ) (hs : ∀ a, so a + S1x128x4096.size a ≤ S14x128x4096.size a) (co : Fin 1 → ℕ) (hc : ∀ a, co a + S1.size a ≤ S14.size a) : (parkAt (F := F) arg21 arg22 c so hs co hc : sProp 𝕄) ⊢ iprop(∃ g, ((slotM arg21 (so) (hs)).view.loc (c : Thread nD τ) ↦[(slotM arg21 (so) (hs)).view.set]{fullShare} g) ∗ semVal ((c : Thread nD τ), SemLoc.dma (cellM arg22 (co) (hc))) 0) := by unfold parkAt; exact .rfl
theorem home_open (arg15 : Memref sig .tc .hbm S128x100000 .f32) (c : Dev nD) (Xw : BufTy.Contents (Elt F) arg15.view.ty) (bo : Fin 2 → ℕ) (hb : ∀ a, bo a + S128x4096.size a ≤ S128x100000.size a) : (homeAt arg15 c Xw bo hb : sProp 𝕄) ⊢ ((blockM arg15 (bo) (hb)).view.loc (c : Thread nD τ) ↦[(blockM arg15 (bo) (hb)).view.set]{fullShare} Xw) := by unfold homeAt; exact .rfl

/-- The buffers no later point reads. -/
def rest (c : Dev nD) : sProp 𝕄 := iprop((∃ f, (wY.view.loc (c : Thread nD τ) ↦[wY.view.set]{fullShare} f)) ∗ (∃ f, (wG.view.loc (c : Thread nD τ) ↦[wG.view.set]{fullShare} f)) ∗ (∃ f, (wB.view.loc (c : Thread nD τ) ↦[wB.view.set]{fullShare} f)))
/-- The state before the first point. -/
def fresh (c : Dev nD) (Xw : BufTy.Contents (Elt F) wA.view.ty) : sProp 𝕄 := iprop(blocks c Xw 0 ∗ slots (F := F) c 0 ∗ (∃ f, (wH.view.loc (c : Thread nD τ) ↦[wH.view.set]{fullShare} f)) ∗ rest c)
/-- The state before point `p`, later. -/
def state (c : Dev nD) (Xw : BufTy.Contents (Elt F) wA.view.ty) (hid : S64x128.Idx → Elt F .f32) (p : ℕ) : sProp 𝕄 :=
  iprop(blocks c Xw p ∗ slots (F := F) c p ∗ (∃ f, (wH.view.loc (c : Thread nD τ) ↦[wH.view.set]{fullShare} f) ∗ ⌜wH.view.read (Elt F) f = hid⌝) ∗ rest c)

theorem when0 : ∀ i : grid1.Coords, (i 0).val = 0 → k1_cond1 i = 1#1 ∧ ¬k1_cond2 i = 1#1 ∧ k1_cond3 i = 1#1 ∧ ¬k1_cond4 i = 1#1 := by decide +kernel
theorem when1 : ∀ i : grid1.Coords, 0 < (i 0).val → (i 0).val < 11 → ¬k1_cond1 i = 1#1 ∧ k1_cond2 i = 1#1 ∧ k1_cond3 i = 1#1 ∧ ¬k1_cond4 i = 1#1 := by decide +kernel
theorem when2 : ∀ i : grid1.Coords, 11 ≤ (i 0).val → (i 0).val < 24 → ¬k1_cond1 i = 1#1 ∧ ¬k1_cond2 i = 1#1 ∧ k1_cond3 i = 1#1 ∧ ¬k1_cond4 i = 1#1 := by decide +kernel
theorem when3 : ∀ i : grid1.Coords, (i 0).val = 24 → ¬k1_cond1 i = 1#1 ∧ ¬k1_cond2 i = 1#1 ∧ ¬k1_cond3 i = 1#1 ∧ k1_cond4 i = 1#1 := by decide +kernel
theorem off5 : ∀ i : grid1.Coords, k1_cond2 i = 1#1 → k1_off5 i = ![((i 0).val + 13) % 14] := by decide +kernel
theorem off6 : ∀ i : grid1.Coords, k1_cond2 i = 1#1 → k1_off6 i = ![((i 0).val + 13) % 14, 0, 0] := by decide +kernel

/-- A point whose block is awaited and whose slot before it is filled again, at any buffers. -/
theorem turn (c : Dev nD) (bd : Option Variants.none.V) (i : grid1.Coords) (arg1 : Memref sig .tc .vmem S16384x128 .f32) (harg1 : arg1.IsWhole) (arg2 : Memref sig .tc .vmem S16384x128 .f32) (harg2 : arg2.IsWhole) (arg3 : Memref sig .tc .vmem S128x384 .f32) (harg3 : arg3.IsWhole) (arg4 : Memref sig .tc .vmem S128x384 .f32) (harg4 : arg4.IsWhole) (arg5 : Memref sig .tc .vmem S2x384 .f32) (harg5 : arg5.IsWhole) (arg6 : Memref sig .tc .vmem S128x384 .f32) (harg6 : arg6.IsWhole) (arg7 : Memref sig .tc .vmem S128x384 .f32) (harg7 : arg7.IsWhole) (arg8 : Memref sig .tc .vmem S2x384 .f32) (harg8 : arg8.IsWhole) (arg9 : Memref sig .tc .vmem S128x384 .f32) (harg9 : arg9.IsWhole) (arg10 : Memref sig .tc .vmem S128x384 .f32) (harg10 : arg10.IsWhole) (arg11 : Memref sig .tc .vmem S2x384 .f32) (harg11 : arg11.IsWhole) (arg12 : Memref sig .tc .vmem S128x384 .f32) (harg12 : arg12.IsWhole) (arg13 : Memref sig .tc .vmem S128x384 .f32) (harg13 : arg13.IsWhole) (arg14 : Memref sig .tc .vmem S2x384 .f32) (harg14 : arg14.IsWhole) (arg15 : Memref sig .tc .hbm S128x100000 .f32) (harg15 : arg15.IsWhole) (arg16 : Memref sig .tc .vmem S128x4096 .f32) (harg16 : arg16.IsWhole) (arg17 : Memref sig .tc .vmem S1x4096 .f32) (harg17 : arg17.IsWhole) (arg18 : Memref sig .tc .vmem S64x4096 .f32) (harg18 : arg18.IsWhole) (arg19 : Memref sig .tc .vmem S16384x128 .bf16) (harg19 : arg19.IsWhole) (arg20 : Memref sig .tc .vmem S64x128 .f32) (harg20 : arg20.IsWhole) (arg21 : Memref sig .tc .vmem S14x128x4096 .f32) (harg21 : arg21.IsWhole) (arg23 : Memref sig .tc .vmem S4x256x512 .bf16) (harg23 : arg23.IsWhole) (arg24 : Memref sig .tc .vmem S4x512 .f32) (harg24 : arg24.IsWhole) (arg22 : DmaSems sig S14) (Xw : BufTy.Contents (Elt F) arg15.view.ty) (hid : S64x128.Idx → Elt F .f32)
    (H : BufTy.Contents (Elt F) arg20.view.ty) (hH : arg20.view.read (Elt F) H = hid) (Bi : BufTy.Contents (Elt F) arg17.view.ty) (O : BufTy.Contents (Elt F) arg18.view.ty) (W : Waits sig (HIx 1)) (h0 : 0 < (i 0).val) (h1 : (i 0).val < 11)
    (s1 s1' : Fin 3 → ℕ) (b1 b1' : Fin 2 → ℕ) (q1 q1' : Fin 1 → ℕ) (es : s1 = ![(i 0).val % 14, 0, 0]) (es' : s1' = ![((i 0).val + 13) % 14, 0, 0]) (eb : b1 = ![0, 4096 * (i 0).val]) (eb' : b1' = ![0, 4096 * (i 0).val + 53248])
    (eq : q1 = ![(i 0).val % 14]) (eq' : q1' = ![((i 0).val + 13) % 14]) (hs : ∀ a, s1 a + S1x128x4096.size a ≤ S14x128x4096.size a) (hs' : ∀ a, s1' a + S1x128x4096.size a ≤ S14x128x4096.size a)
    (hb : ∀ a, b1 a + S128x4096.size a ≤ S128x100000.size a) (hb' : ∀ a, b1' a + S128x4096.size a ≤ S128x100000.size a) (hq : ∀ a, q1 a + S1.size a ≤ S14.size a) (hq' : ∀ a, q1' a + S1.size a ≤ S14.size a) :
    (iprop((arg20.view.loc (c : Thread nD τ) ↦[arg20.view.set]{fullShare} H) ∗ (arg17.view.loc (c : Thread nD τ) ↦[arg17.view.set]{fullShare} Bi) ∗ (arg18.view.loc (c : Thread nD τ) ↦[arg18.view.set]{fullShare} O) ∗ flyAt arg15 arg21 arg22 c Xw s1 hs b1 hb q1 hq ∗ parkAt (F := F) arg21 arg22 c s1' hs' q1' hq' ∗ homeAt arg15 c Xw b1' hb' ∗ owes (c : Thread nD τ) 0 W) : sProp 𝕄)
      ⊢ wp Idealize.ShloMosaic.frame (wpE (defs₀ (F := F)) Variants.none (c : Thread nD τ) bd) Set.univ (cc1__mega_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24)
        (fun _ => iprop((arg20.view.loc (c : Thread nD τ) ↦[arg20.view.set]{fullShare} H) ∗ (arg17.view.loc (c : Thread nD τ) ↦[arg17.view.set]{fullShare} Bi) ∗ (∃ O', (arg18.view.loc (c : Thread nD τ) ↦[arg18.view.set]{fullShare} O') ∗ ⌜arg18.view.read (Elt F) O' = applied hid ((blockM arg15 b1 hb).view.read (Elt F) Xw) (arg17.view.read (Elt F) Bi)⌝) ∗ parkAt (F := F) arg21 arg22 c s1 hs q1 hq ∗ homeAt arg15 c Xw b1 hb ∗ flyAt arg15 arg21 arg22 c Xw s1' hs' b1' hb' q1' hq' ∗ ∃ W', owes (c : Thread nD τ) 0 W')) := by
  obtain ⟨c1, c2, c3, c4⟩ := when1 i h0 h1
  obtain rfl := es.trans (k1_off9_eq i).symm
  obtain rfl := eb.trans (k1_off10_eq i).symm
  obtain rfl := eq.trans (k1_off8_eq i).symm
  obtain rfl := es'.trans (off6 i c2).symm
  obtain rfl := eb'.trans (k1_off7_eq i).symm
  obtain rfl := eq'.trans (off5 i c2).symm
  iintro ⟨HH, H17, H18, Hf, Hp, Hh, Ho⟩
  ihave Hf' := (fly_open _ _ _ _ _ _ _ _ _ _ _) $$ Hf
  ihave Hp' := (park_open _ _ _ _ _ _ _) $$ Hp
  ihave Hh' := (home_open _ _ _ _ _) $$ Hh
  icases Hf' with ⟨%g, %hg, Hf'⟩
  icases Hp' with ⟨%g', Hp', Hs'⟩
  iapply (wp_wand_r Idealize.ShloMosaic.frame (wpE (defs₀ (F := F)) Variants.none (c : Thread nD τ) bd) Set.univ)
  isplitl [HH H17 H18 Hf' Hp' Hh' Hs' Ho]
  · iapply (mid c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 c1 c2 c3 c4 H Bi O g Xw W g')
    isplitl [HH]; · iexact HH
    isplitl [H17]; · iexact H17
    isplitl [H18]; · iexact H18
    isplitl [Hf']; · iexact Hf'
    isplitl [Hp']; · iexact Hp'
    isplitl [Hh']; · iexact Hh'
    isplitl [Hs']; · iexact Hs'
    iexact Ho
  iintro %r ⟨HH, H17, ⟨%O', H18, %hO⟩, Hsl, Hbl, Hse, ⟨%g2, %hg2, Hfl⟩, Ho⟩
  isplitl [HH]; · iexact HH
  isplitl [H17]; · iexact H17
  isplitl [H18]
  · iexists O'
    isplitl [H18]; · iexact H18
    ipureintro
    rw [hO, hH, hg]
  isplitl [Hsl Hse]
  · unfold parkAt; iexists g
    isplitl [Hsl]; · iexact Hsl
    iexact Hse
  isplitl [Hbl]; · unfold homeAt; iexact Hbl
  isplitl [Hfl]
  · unfold flyAt; iexists g2
    isplitr; · ipureintro; exact hg2
    iexact Hfl
  iexact Ho

/-- A point whose block is awaited, nothing left to fill, at any buffers. -/
theorem wait (c : Dev nD) (bd : Option Variants.none.V) (i : grid1.Coords) (arg1 : Memref sig .tc .vmem S16384x128 .f32) (harg1 : arg1.IsWhole) (arg2 : Memref sig .tc .vmem S16384x128 .f32) (harg2 : arg2.IsWhole) (arg3 : Memref sig .tc .vmem S128x384 .f32) (harg3 : arg3.IsWhole) (arg4 : Memref sig .tc .vmem S128x384 .f32) (harg4 : arg4.IsWhole) (arg5 : Memref sig .tc .vmem S2x384 .f32) (harg5 : arg5.IsWhole) (arg6 : Memref sig .tc .vmem S128x384 .f32) (harg6 : arg6.IsWhole) (arg7 : Memref sig .tc .vmem S128x384 .f32) (harg7 : arg7.IsWhole) (arg8 : Memref sig .tc .vmem S2x384 .f32) (harg8 : arg8.IsWhole) (arg9 : Memref sig .tc .vmem S128x384 .f32) (harg9 : arg9.IsWhole) (arg10 : Memref sig .tc .vmem S128x384 .f32) (harg10 : arg10.IsWhole) (arg11 : Memref sig .tc .vmem S2x384 .f32) (harg11 : arg11.IsWhole) (arg12 : Memref sig .tc .vmem S128x384 .f32) (harg12 : arg12.IsWhole) (arg13 : Memref sig .tc .vmem S128x384 .f32) (harg13 : arg13.IsWhole) (arg14 : Memref sig .tc .vmem S2x384 .f32) (harg14 : arg14.IsWhole) (arg15 : Memref sig .tc .hbm S128x100000 .f32) (harg15 : arg15.IsWhole) (arg16 : Memref sig .tc .vmem S128x4096 .f32) (harg16 : arg16.IsWhole) (arg17 : Memref sig .tc .vmem S1x4096 .f32) (harg17 : arg17.IsWhole) (arg18 : Memref sig .tc .vmem S64x4096 .f32) (harg18 : arg18.IsWhole) (arg19 : Memref sig .tc .vmem S16384x128 .bf16) (harg19 : arg19.IsWhole) (arg20 : Memref sig .tc .vmem S64x128 .f32) (harg20 : arg20.IsWhole) (arg21 : Memref sig .tc .vmem S14x128x4096 .f32) (harg21 : arg21.IsWhole) (arg23 : Memref sig .tc .vmem S4x256x512 .bf16) (harg23 : arg23.IsWhole) (arg24 : Memref sig .tc .vmem S4x512 .f32) (harg24 : arg24.IsWhole) (arg22 : DmaSems sig S14) (Xw : BufTy.Contents (Elt F) arg15.view.ty) (hid : S64x128.Idx → Elt F .f32)
    (H : BufTy.Contents (Elt F) arg20.view.ty) (hH : arg20.view.read (Elt F) H = hid) (Bi : BufTy.Contents (Elt F) arg17.view.ty) (O : BufTy.Contents (Elt F) arg18.view.ty) (W : Waits sig (HIx 1)) (h0 : 11 ≤ (i 0).val) (h1 : (i 0).val < 24)
    (s1 : Fin 3 → ℕ) (b1 : Fin 2 → ℕ) (q1 : Fin 1 → ℕ) (es : s1 = ![(i 0).val % 14, 0, 0]) (eb : b1 = ![0, 4096 * (i 0).val])
    (eq : q1 = ![(i 0).val % 14]) (hs : ∀ a, s1 a + S1x128x4096.size a ≤ S14x128x4096.size a)
    (hb : ∀ a, b1 a + S128x4096.size a ≤ S128x100000.size a) (hq : ∀ a, q1 a + S1.size a ≤ S14.size a) :
    (iprop((arg20.view.loc (c : Thread nD τ) ↦[arg20.view.set]{fullShare} H) ∗ (arg17.view.loc (c : Thread nD τ) ↦[arg17.view.set]{fullShare} Bi) ∗ (arg18.view.loc (c : Thread nD τ) ↦[arg18.view.set]{fullShare} O) ∗ flyAt arg15 arg21 arg22 c Xw s1 hs b1 hb q1 hq ∗ owes (c : Thread nD τ) 0 W) : sProp 𝕄)
      ⊢ wp Idealize.ShloMosaic.frame (wpE (defs₀ (F := F)) Variants.none (c : Thread nD τ) bd) Set.univ (cc1__mega_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24)
        (fun _ => iprop((arg20.view.loc (c : Thread nD τ) ↦[arg20.view.set]{fullShare} H) ∗ (arg17.view.loc (c : Thread nD τ) ↦[arg17.view.set]{fullShare} Bi) ∗ (∃ O', (arg18.view.loc (c : Thread nD τ) ↦[arg18.view.set]{fullShare} O') ∗ ⌜arg18.view.read (Elt F) O' = applied hid ((blockM arg15 b1 hb).view.read (Elt F) Xw) (arg17.view.read (Elt F) Bi)⌝) ∗ parkAt (F := F) arg21 arg22 c s1 hs q1 hq ∗ homeAt arg15 c Xw b1 hb ∗ ∃ W', owes (c : Thread nD τ) 0 W')) := by
  obtain ⟨c1, c2, c3, c4⟩ := when2 i h0 h1
  obtain rfl := es.trans (k1_off9_eq i).symm
  obtain rfl := eb.trans (k1_off10_eq i).symm
  obtain rfl := eq.trans (k1_off8_eq i).symm
  iintro ⟨HH, H17, H18, Hf, Ho⟩
  ihave Hf' := (fly_open _ _ _ _ _ _ _ _ _ _ _) $$ Hf
  icases Hf' with ⟨%g, %hg, Hf'⟩
  iapply (wp_wand_r Idealize.ShloMosaic.frame (wpE (defs₀ (F := F)) Variants.none (c : Thread nD τ) bd) Set.univ)
  isplitl [HH H17 H18 Hf' Ho]
  · iapply (late c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 harg23 arg24 harg24 c1 c2 c3 c4 H Bi O g Xw W)
    isplitl [HH]; · iexact HH
    isplitl [H17]; · iexact H17
    isplitl [H18]; · iexact H18
    isplitl [Hf']; · iexact Hf'
    iexact Ho
  iintro %r ⟨HH, H17, ⟨%O', H18, %hO⟩, Hsl, Hbl, Hse, Ho⟩
  isplitl [HH]; · iexact HH
  isplitl [H17]; · iexact H17
  isplitl [H18]
  · iexists O'
    isplitl [H18]; · iexact H18
    ipureintro
    rw [hO, hH, hg]
  isplitl [Hsl Hse]
  · unfold parkAt; iexists g
    isplitl [Hsl]; · iexact Hsl
    iexact Hse
  isplitl [Hbl]; · unfold homeAt; iexact Hbl
  iexact Ho

theorem inK' {p : ℕ} (h : p < 24) : 4096 * p ≤ 95904 := by omega
/-- Block `p` of the weights. -/
def col (Xw : BufTy.Contents (Elt F) wA.view.ty) (p : ℕ) (h : p < 24) : S128x4096.Idx → Elt F .f32 := (blockM wA ![0, 4096 * p] (inB _ (inK' h))).view.read (Elt F) Xw

/-- A point whose block is awaited and whose slot before it is filled again. -/
theorem step_mid (c : Dev nD) (bd : Option Variants.none.V) (i : grid1.Coords) (arg1 : Memref sig .tc .vmem S16384x128 .f32) (harg1 : arg1.IsWhole) (arg2 : Memref sig .tc .vmem S16384x128 .f32) (harg2 : arg2.IsWhole) (arg3 : Memref sig .tc .vmem S128x384 .f32) (harg3 : arg3.IsWhole) (arg4 : Memref sig .tc .vmem S128x384 .f32) (harg4 : arg4.IsWhole) (arg5 : Memref sig .tc .vmem S2x384 .f32) (harg5 : arg5.IsWhole) (arg6 : Memref sig .tc .vmem S128x384 .f32) (harg6 : arg6.IsWhole) (arg7 : Memref sig .tc .vmem S128x384 .f32) (harg7 : arg7.IsWhole) (arg8 : Memref sig .tc .vmem S2x384 .f32) (harg8 : arg8.IsWhole) (arg9 : Memref sig .tc .vmem S128x384 .f32) (harg9 : arg9.IsWhole) (arg10 : Memref sig .tc .vmem S128x384 .f32) (harg10 : arg10.IsWhole) (arg11 : Memref sig .tc .vmem S2x384 .f32) (harg11 : arg11.IsWhole) (arg12 : Memref sig .tc .vmem S128x384 .f32) (harg12 : arg12.IsWhole) (arg13 : Memref sig .tc .vmem S128x384 .f32) (harg13 : arg13.IsWhole) (arg14 : Memref sig .tc .vmem S2x384 .f32) (harg14 : arg14.IsWhole) (arg16 : Memref sig .tc .vmem S128x4096 .f32) (harg16 : arg16.IsWhole) (arg17 : Memref sig .tc .vmem S1x4096 .f32) (harg17 : arg17.IsWhole) (arg18 : Memref sig .tc .vmem S64x4096 .f32) (harg18 : arg18.IsWhole) (Xw : BufTy.Contents (Elt F) wA.view.ty) (hid : S64x128.Idx → Elt F .f32)
    (Bi : BufTy.Contents (Elt F) arg17.view.ty) (O : BufTy.Contents (Elt F) arg18.view.ty) (W : Waits sig (HIx 1)) (p : ℕ) (h0 : 0 < p) (h1 : p < 11) (h24 : p < 24) (hi : (i 0).val = p) :
    (iprop(state c Xw hid p ∗ (arg17.view.loc (c : Thread nD τ) ↦[arg17.view.set]{fullShare} Bi) ∗ (arg18.view.loc (c : Thread nD τ) ↦[arg18.view.set]{fullShare} O) ∗ owes (c : Thread nD τ) 0 W) : sProp 𝕄)
      ⊢ wp Idealize.ShloMosaic.frame (wpE (defs₀ (F := F)) Variants.none (c : Thread nD τ) bd) Set.univ (cc1__mega_body (F := F) i arg1 harg1 arg2 harg2 arg3 harg3 arg4 harg4 arg5 harg5 arg6 harg6 arg7 harg7 arg8 harg8 arg9 harg9 arg10 harg10 arg11 harg11 arg12 harg12 arg13 harg13 arg14 harg14 wA (Memref.isWhole_whole _) arg16 harg16 arg17 harg17 arg18 harg18 wY (Memref.isWhole_whole _) wH (Memref.isWhole_whole _) wS (Memref.isWhole_whole _) cc1_scratch3 wG (Memref.isWhole_whole _) wB (Memref.isWhole_whole _))
        (fun _ => iprop(state c Xw hid (p + 1) ∗ (arg17.view.loc (c : Thread nD τ) ↦[arg17.view.set]{fullShare} Bi) ∗ (∃ O', (arg18.view.loc (c : Thread nD τ) ↦[arg18.view.set]{fullShare} O') ∗ ⌜arg18.view.read (Elt F) O' = applied hid (col Xw p h24) (arg17.view.read (Elt F) Bi)⌝) ∗ ∃ W', owes (c : Thread nD τ) 0 W')) := by
  subst hi
  obtain ⟨R, e1, e2⟩ := blocks_mid (F := F) c Xw (i 0).val h0 h1
  obtain ⟨R', s1, s2⟩ := slots_mid (F := F) c (i 0).val h0 h1
  unfold state
  rw [e1, e2, s1, s2]
  unfold blkF blkH slt col
  iintro ⟨⟨⟨Hf, Hh, HR⟩, ⟨Hp, HR'⟩, ⟨%f, HH, %hf⟩, Hr⟩, H17, H18, Ho⟩
  iapply (wp_wand_r Idealize.ShloMosaic.frame (wpE (defs₀ (F := F)) Variants.none (c : Thread nD τ) bd) Set.univ)
  isplitl [HH H17 H18 Hf Hp Hh Ho]
  · iapply (turn c bd i arg1 harg1 arg2 harg2 arg3 harg3 arg4 harg4 arg5 harg5 arg6 harg6 arg7 harg7 arg8 harg8 arg9 harg9 arg10 harg10 arg11 harg11 arg12 harg12 arg13 harg13 arg14 harg14 wA (Memref.isWhole_whole _) arg16 harg16 arg17 harg17 arg18 harg18 wY (Memref.isWhole_whole _) wH (Memref.isWhole_whole _) wS (Memref.isWhole_whole _) wG (Memref.isWhole_whole _) wB (Memref.isWhole_whole _) cc1_scratch3 Xw hid f hf Bi O W h0 h1 _ _ _ _ _ _ rfl rfl rfl (show ![0, 4096 * ((i 0).val + 13)] = ![0, 4096 * (i 0).val + 53248] by rw [Nat.mul_add]) rfl rfl _ _ _ _ _ _)
    isplitl [HH]; · iexact HH
    isplitl [H17]; · iexact H17
    isplitl [H18]; · iexact H18
    isplitl [Hf]; · iexact Hf
    isplitl [Hp]; · iexact Hp
    isplitl [Hh]; · iexact Hh
    iexact Ho
  iintro %r ⟨HH, H17, HO, Hsl, Hbl, Hfl, Ho⟩
  isplitl [HR HR' HH Hr Hsl Hbl Hfl]
  · isplitl [HR Hbl Hfl]
    · isplitl [Hbl]; · iexact Hbl
      isplitl [Hfl]; · iexact Hfl
      iexact HR
    isplitl [HR' Hsl]
    · isplitl [Hsl]; · iexact Hsl
      iexact HR'
    isplitl [HH]
    · iexists f
      isplitl [HH]; · iexact HH
      ipureintro; exact hf
    iexact Hr
  isplitl [H17]; · iexact H17
  isplitl [HO]; · iexact HO
  iexact Ho

/-- A point whose block is awaited, nothing left to fill. -/
theorem step_late (c : Dev nD) (bd : Option Variants.none.V) (i : grid1.Coords) (arg1 : Memref sig .tc .vmem S16384x128 .f32) (harg1 : arg1.IsWhole) (arg2 : Memref sig .tc .vmem S16384x128 .f32) (harg2 : arg2.IsWhole) (arg3 : Memref sig .tc .vmem S128x384 .f32) (harg3 : arg3.IsWhole) (arg4 : Memref sig .tc .vmem S128x384 .f32) (harg4 : arg4.IsWhole) (arg5 : Memref sig .tc .vmem S2x384 .f32) (harg5 : arg5.IsWhole) (arg6 : Memref sig .tc .vmem S128x384 .f32) (harg6 : arg6.IsWhole) (arg7 : Memref sig .tc .vmem S128x384 .f32) (harg7 : arg7.IsWhole) (arg8 : Memref sig .tc .vmem S2x384 .f32) (harg8 : arg8.IsWhole) (arg9 : Memref sig .tc .vmem S128x384 .f32) (harg9 : arg9.IsWhole) (arg10 : Memref sig .tc .vmem S128x384 .f32) (harg10 : arg10.IsWhole) (arg11 : Memref sig .tc .vmem S2x384 .f32) (harg11 : arg11.IsWhole) (arg12 : Memref sig .tc .vmem S128x384 .f32) (harg12 : arg12.IsWhole) (arg13 : Memref sig .tc .vmem S128x384 .f32) (harg13 : arg13.IsWhole) (arg14 : Memref sig .tc .vmem S2x384 .f32) (harg14 : arg14.IsWhole) (arg16 : Memref sig .tc .vmem S128x4096 .f32) (harg16 : arg16.IsWhole) (arg17 : Memref sig .tc .vmem S1x4096 .f32) (harg17 : arg17.IsWhole) (arg18 : Memref sig .tc .vmem S64x4096 .f32) (harg18 : arg18.IsWhole) (Xw : BufTy.Contents (Elt F) wA.view.ty) (hid : S64x128.Idx → Elt F .f32)
    (Bi : BufTy.Contents (Elt F) arg17.view.ty) (O : BufTy.Contents (Elt F) arg18.view.ty) (W : Waits sig (HIx 1)) (p : ℕ) (h0 : 11 ≤ p) (h1 : p < 24) (hi : (i 0).val = p) :
    (iprop(state c Xw hid p ∗ (arg17.view.loc (c : Thread nD τ) ↦[arg17.view.set]{fullShare} Bi) ∗ (arg18.view.loc (c : Thread nD τ) ↦[arg18.view.set]{fullShare} O) ∗ owes (c : Thread nD τ) 0 W) : sProp 𝕄)
      ⊢ wp Idealize.ShloMosaic.frame (wpE (defs₀ (F := F)) Variants.none (c : Thread nD τ) bd) Set.univ (cc1__mega_body (F := F) i arg1 harg1 arg2 harg2 arg3 harg3 arg4 harg4 arg5 harg5 arg6 harg6 arg7 harg7 arg8 harg8 arg9 harg9 arg10 harg10 arg11 harg11 arg12 harg12 arg13 harg13 arg14 harg14 wA (Memref.isWhole_whole _) arg16 harg16 arg17 harg17 arg18 harg18 wY (Memref.isWhole_whole _) wH (Memref.isWhole_whole _) wS (Memref.isWhole_whole _) cc1_scratch3 wG (Memref.isWhole_whole _) wB (Memref.isWhole_whole _))
        (fun _ => iprop(state c Xw hid (p + 1) ∗ (arg17.view.loc (c : Thread nD τ) ↦[arg17.view.set]{fullShare} Bi) ∗ (∃ O', (arg18.view.loc (c : Thread nD τ) ↦[arg18.view.set]{fullShare} O') ∗ ⌜arg18.view.read (Elt F) O' = applied hid (col Xw p h1) (arg17.view.read (Elt F) Bi)⌝) ∗ ∃ W', owes (c : Thread nD τ) 0 W')) := by
  subst hi
  obtain ⟨R, e1, e2⟩ := blocks_late (F := F) c Xw (i 0).val h0 h1
  obtain ⟨R', s1, s2⟩ := slots_late (F := F) c (i 0).val h0 h1
  unfold state
  rw [e1, e2, s1, s2]
  unfold blkF blkH slt col
  iintro ⟨⟨⟨Hf, HR⟩, HR', ⟨%f, HH, %hf⟩, Hr⟩, H17, H18, Ho⟩
  iapply (wp_wand_r Idealize.ShloMosaic.frame (wpE (defs₀ (F := F)) Variants.none (c : Thread nD τ) bd) Set.univ)
  isplitl [HH H17 H18 Hf Ho]
  · iapply (wait c bd i arg1 harg1 arg2 harg2 arg3 harg3 arg4 harg4 arg5 harg5 arg6 harg6 arg7 harg7 arg8 harg8 arg9 harg9 arg10 harg10 arg11 harg11 arg12 harg12 arg13 harg13 arg14 harg14 wA (Memref.isWhole_whole _) arg16 harg16 arg17 harg17 arg18 harg18 wY (Memref.isWhole_whole _) wH (Memref.isWhole_whole _) wS (Memref.isWhole_whole _) wG (Memref.isWhole_whole _) wB (Memref.isWhole_whole _) cc1_scratch3 Xw hid f hf Bi O W h0 h1 _ _ _ rfl rfl rfl _ _ _)
    isplitl [HH]; · iexact HH
    isplitl [H17]; · iexact H17
    isplitl [H18]; · iexact H18
    isplitl [Hf]; · iexact Hf
    iexact Ho
  iintro %r ⟨HH, H17, HO, Hsl, Hbl, Ho⟩
  isplitl [HR HR' HH Hr Hsl Hbl]
  · isplitl [HR Hbl]
    · isplitl [Hbl]; · iexact Hbl
      iexact HR
    isplitl [HR' Hsl]
    · isplitl [Hsl]; · iexact Hsl
      iexact HR'
    isplitl [HH]
    · iexists f
      isplitl [HH]; · iexact HH
      ipureintro; exact hf
    iexact Hr
  isplitl [H17]; · iexact H17
  isplitl [HO]; · iexact HO
  iexact Ho

/-- The last point: the block past the whole ones. -/
theorem step_tail (c : Dev nD) (bd : Option Variants.none.V) (i : grid1.Coords) (arg1 : Memref sig .tc .vmem S16384x128 .f32) (harg1 : arg1.IsWhole) (arg2 : Memref sig .tc .vmem S16384x128 .f32) (harg2 : arg2.IsWhole) (arg3 : Memref sig .tc .vmem S128x384 .f32) (harg3 : arg3.IsWhole) (arg4 : Memref sig .tc .vmem S128x384 .f32) (harg4 : arg4.IsWhole) (arg5 : Memref sig .tc .vmem S2x384 .f32) (harg5 : arg5.IsWhole) (arg6 : Memref sig .tc .vmem S128x384 .f32) (harg6 : arg6.IsWhole) (arg7 : Memref sig .tc .vmem S128x384 .f32) (harg7 : arg7.IsWhole) (arg8 : Memref sig .tc .vmem S2x384 .f32) (harg8 : arg8.IsWhole) (arg9 : Memref sig .tc .vmem S128x384 .f32) (harg9 : arg9.IsWhole) (arg10 : Memref sig .tc .vmem S128x384 .f32) (harg10 : arg10.IsWhole) (arg11 : Memref sig .tc .vmem S2x384 .f32) (harg11 : arg11.IsWhole) (arg12 : Memref sig .tc .vmem S128x384 .f32) (harg12 : arg12.IsWhole) (arg13 : Memref sig .tc .vmem S128x384 .f32) (harg13 : arg13.IsWhole) (arg14 : Memref sig .tc .vmem S2x384 .f32) (harg14 : arg14.IsWhole) (arg16 : Memref sig .tc .vmem S128x4096 .f32) (harg16 : arg16.IsWhole) (arg17 : Memref sig .tc .vmem S1x4096 .f32) (harg17 : arg17.IsWhole) (arg18 : Memref sig .tc .vmem S64x4096 .f32) (harg18 : arg18.IsWhole) (Xw : BufTy.Contents (Elt F) wA.view.ty) (hid : S64x128.Idx → Elt F .f32)
    (Xt : BufTy.Contents (Elt F) arg16.view.ty) (Bi : BufTy.Contents (Elt F) arg17.view.ty) (O : BufTy.Contents (Elt F) arg18.view.ty) (hi : (i 0).val = 24) :
    (iprop(state c Xw hid 24 ∗ (arg16.view.loc (c : Thread nD τ) ↦[arg16.view.set]{fullShare} Xt) ∗ (arg17.view.loc (c : Thread nD τ) ↦[arg17.view.set]{fullShare} Bi) ∗ (arg18.view.loc (c : Thread nD τ) ↦[arg18.view.set]{fullShare} O)) : sProp 𝕄)
      ⊢ wp Idealize.ShloMosaic.frame (wpE (defs₀ (F := F)) Variants.none (c : Thread nD τ) bd) Set.univ (cc1__mega_body (F := F) i arg1 harg1 arg2 harg2 arg3 harg3 arg4 harg4 arg5 harg5 arg6 harg6 arg7 harg7 arg8 harg8 arg9 harg9 arg10 harg10 arg11 harg11 arg12 harg12 arg13 harg13 arg14 harg14 wA (Memref.isWhole_whole _) arg16 harg16 arg17 harg17 arg18 harg18 wY (Memref.isWhole_whole _) wH (Memref.isWhole_whole _) wS (Memref.isWhole_whole _) cc1_scratch3 wG (Memref.isWhole_whole _) wB (Memref.isWhole_whole _))
        (fun _ => iprop(state c Xw hid 24 ∗ (arg16.view.loc (c : Thread nD τ) ↦[arg16.view.set]{fullShare} Xt) ∗ (arg17.view.loc (c : Thread nD τ) ↦[arg17.view.set]{fullShare} Bi) ∗ (∃ O', (arg18.view.loc (c : Thread nD τ) ↦[arg18.view.set]{fullShare} O') ∗ ⌜arg18.view.read (Elt F) O' = applied hid (arg16.view.read (Elt F) Xt) (arg17.view.read (Elt F) Bi)⌝))) := by
  obtain ⟨c1, c2, c3, c4⟩ := when3 i hi
  unfold state
  iintro ⟨⟨HR, HR', ⟨%f, HH, %hf⟩, Hr⟩, H16, H17, H18⟩
  iapply (wp_wand_r Idealize.ShloMosaic.frame (wpE (defs₀ (F := F)) Variants.none (c : Thread nD τ) bd) Set.univ)
  isplitl [HH H17 H18 H16]
  · iapply (tail c bd i arg1 harg1 arg2 harg2 arg3 harg3 arg4 harg4 arg5 harg5 arg6 harg6 arg7 harg7 arg8 harg8 arg9 harg9 arg10 harg10 arg11 harg11 arg12 harg12 arg13 harg13 arg14 harg14 wA (Memref.isWhole_whole _) arg16 harg16 arg17 harg17 arg18 harg18 wY (Memref.isWhole_whole _) wH (Memref.isWhole_whole _) wS (Memref.isWhole_whole _) cc1_scratch3 wG (Memref.isWhole_whole _) wB (Memref.isWhole_whole _) c1 c2 c3 c4 f Bi O Xt)
    isplitl [HH]; · iexact HH
    isplitl [H17]; · iexact H17
    isplitl [H18]; · iexact H18
    iexact H16
  iintro %r ⟨HH, H17, ⟨%O', H18, %hO⟩, H16⟩
  isplitl [HR HR' HH Hr]
  · isplitl [HR]; · iexact HR
    isplitl [HR']; · iexact HR'
    isplitl [HH]
    · iexists f
      isplitl [HH]; · iexact HH
      ipureintro; exact hf
    iexact Hr
  isplitl [H16]; · iexact H16
  isplitl [H17]; · iexact H17
  iexists O'
  isplitl [H18]; · iexact H18
  ipureintro
  rw [hO, hf]

/-- The first point: the ring is filled, the layers are run, the first block awaited. -/
theorem step_boot (c : Dev nD) (bd : Option Variants.none.V) (i : grid1.Coords) (arg1 : Memref sig .tc .vmem S16384x128 .f32) (harg1 : arg1.IsWhole) (arg2 : Memref sig .tc .vmem S16384x128 .f32) (harg2 : arg2.IsWhole) (arg3 : Memref sig .tc .vmem S128x384 .f32) (harg3 : arg3.IsWhole) (arg4 : Memref sig .tc .vmem S128x384 .f32) (harg4 : arg4.IsWhole) (arg5 : Memref sig .tc .vmem S2x384 .f32) (harg5 : arg5.IsWhole) (arg6 : Memref sig .tc .vmem S128x384 .f32) (harg6 : arg6.IsWhole) (arg7 : Memref sig .tc .vmem S128x384 .f32) (harg7 : arg7.IsWhole) (arg8 : Memref sig .tc .vmem S2x384 .f32) (harg8 : arg8.IsWhole) (arg9 : Memref sig .tc .vmem S128x384 .f32) (harg9 : arg9.IsWhole) (arg10 : Memref sig .tc .vmem S128x384 .f32) (harg10 : arg10.IsWhole) (arg11 : Memref sig .tc .vmem S2x384 .f32) (harg11 : arg11.IsWhole) (arg12 : Memref sig .tc .vmem S128x384 .f32) (harg12 : arg12.IsWhole) (arg13 : Memref sig .tc .vmem S128x384 .f32) (harg13 : arg13.IsWhole) (arg14 : Memref sig .tc .vmem S2x384 .f32) (harg14 : arg14.IsWhole) (arg16 : Memref sig .tc .vmem S128x4096 .f32) (harg16 : arg16.IsWhole) (arg17 : Memref sig .tc .vmem S1x4096 .f32) (harg17 : arg17.IsWhole) (arg18 : Memref sig .tc .vmem S64x4096 .f32) (harg18 : arg18.IsWhole) (Xw : BufTy.Contents (Elt F) wA.view.ty)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty)
    (Bi : BufTy.Contents (Elt F) arg17.view.ty) (O : BufTy.Contents (Elt F) arg18.view.ty) (W : Waits sig (HIx 1)) (hi : (i 0).val = 0) :
    (iprop(fresh c Xw ∗ ((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14)) ∗ (arg17.view.loc (c : Thread nD τ) ↦[arg17.view.set]{fullShare} Bi) ∗ (arg18.view.loc (c : Thread nD τ) ↦[arg18.view.set]{fullShare} O) ∗ owes (c : Thread nD τ) 0 W) : sProp 𝕄)
      ⊢ wp Idealize.ShloMosaic.frame (wpE (defs₀ (F := F)) Variants.none (c : Thread nD τ) bd) Set.univ (cc1__mega_body (F := F) i arg1 harg1 arg2 harg2 arg3 harg3 arg4 harg4 arg5 harg5 arg6 harg6 arg7 harg7 arg8 harg8 arg9 harg9 arg10 harg10 arg11 harg11 arg12 harg12 arg13 harg13 arg14 harg14 wA (Memref.isWhole_whole _) arg16 harg16 arg17 harg17 arg18 harg18 wY (Memref.isWhole_whole _) wH (Memref.isWhole_whole _) wS (Memref.isWhole_whole _) cc1_scratch3 wG (Memref.isWhole_whole _) wB (Memref.isWhole_whole _))
        (fun _ => iprop(state c Xw (hidden (arg1.view.read (Elt F) X1) (arg2.view.read (Elt F) X2) (arg3.view.read (Elt F) X3) (arg4.view.read (Elt F) X4) (arg5.view.read (Elt F) X5) (arg6.view.read (Elt F) X6) (arg7.view.read (Elt F) X7) (arg8.view.read (Elt F) X8) (arg9.view.read (Elt F) X9) (arg10.view.read (Elt F) X10) (arg11.view.read (Elt F) X11) (arg12.view.read (Elt F) X12) (arg13.view.read (Elt F) X13) (arg14.view.read (Elt F) X14)) 1 ∗ ((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14)) ∗ (arg17.view.loc (c : Thread nD τ) ↦[arg17.view.set]{fullShare} Bi) ∗ (∃ O', (arg18.view.loc (c : Thread nD τ) ↦[arg18.view.set]{fullShare} O') ∗ ⌜arg18.view.read (Elt F) O' = applied (hidden (arg1.view.read (Elt F) X1) (arg2.view.read (Elt F) X2) (arg3.view.read (Elt F) X3) (arg4.view.read (Elt F) X4) (arg5.view.read (Elt F) X5) (arg6.view.read (Elt F) X6) (arg7.view.read (Elt F) X7) (arg8.view.read (Elt F) X8) (arg9.view.read (Elt F) X9) (arg10.view.read (Elt F) X10) (arg11.view.read (Elt F) X11) (arg12.view.read (Elt F) X12) (arg13.view.read (Elt F) X13) (arg14.view.read (Elt F) X14)) ((blockM wA ![0, 0] (inB 0 (Nat.zero_le _))).view.read (Elt F) Xw) (arg17.view.read (Elt F) Bi)⌝) ∗ ∃ W', owes (c : Thread nD τ) 0 W')) := by
  obtain ⟨c1, c2, c3, c4⟩ := when0 i hi
  unfold fresh state rest
  rw [blocks_start, slots_start, blocks_first, slots_first]
  iintro ⟨⟨⟨Hb0, Hb1, Hb2, Hb3, Hb4, Hb5, Hb6, Hb7, Hb8, Hb9, Hb10, Hb11, Hb12, Hb13, Hb14, Hb15, Hb16, Hb17, Hb18, Hb19, Hb20, Hb21, Hb22, Hb23⟩, ⟨Hp0, Hp1, Hp2, Hp3, Hp4, Hp5, Hp6, Hp7, Hp8, Hp9, Hp10, Hp11, Hp12, Hp13⟩, ⟨%f20, H20⟩, ⟨⟨%f19, H19⟩, ⟨%f23, H23⟩, ⟨%f24, H24⟩⟩⟩, ⟨H1, H2, H3, H4, H5, H6, H7, H8, H9, H10, H11, H12, H13, H14⟩, H17, H18, Ho⟩
  iapply (wp_wand_r Idealize.ShloMosaic.frame (wpE (defs₀ (F := F)) Variants.none (c : Thread nD τ) bd) Set.univ)
  isplitl [H1 H2 H3 H4 H5 H6 H7 H8 H9 H10 H11 H12 H13 H14 H17 H18 H19 H20 H23 H24 Hp0 Hp1 Hp2 Hp3 Hp4 Hp5 Hp6 Hp7 Hp8 Hp9 Hp10 Hp11 Hp12 Hp13 Hb0 Hb1 Hb2 Hb3 Hb4 Hb5 Hb6 Hb7 Hb8 Hb9 Hb10 Hb11 Hb12 Hb13 Ho]
  · iapply (boot c bd i arg1 harg1 arg2 harg2 arg3 harg3 arg4 harg4 arg5 harg5 arg6 harg6 arg7 harg7 arg8 harg8 arg9 harg9 arg10 harg10 arg11 harg11 arg12 harg12 arg13 harg13 arg14 harg14 wA (Memref.isWhole_whole _) arg16 harg16 arg17 harg17 arg18 harg18 wY (Memref.isWhole_whole _) wH (Memref.isWhole_whole _) wS (Memref.isWhole_whole _) cc1_scratch3 wG (Memref.isWhole_whole _) wB (Memref.isWhole_whole _) c1 c2 c3 c4 X1 X2 X3 X4 X5 X6 X7 X8 X9 X10 X11 X12 X13 X14 Bi O f19 f20 f23 f24 Xw W)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H17]; · iexact H17
    isplitl [H18]; · iexact H18
    isplitl [H19]; · iexact H19
    isplitl [H20]; · iexact H20
    isplitl [H23]; · iexact H23
    isplitl [H24]; · iexact H24
    isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    isplitl [Hp7]; · iexact Hp7
    isplitl [Hp8]; · iexact Hp8
    isplitl [Hp9]; · iexact Hp9
    isplitl [Hp10]; · iexact Hp10
    isplitl [Hp11]; · iexact Hp11
    isplitl [Hp12]; · iexact Hp12
    isplitl [Hp13]; · iexact Hp13
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hb9]; · iexact Hb9
    isplitl [Hb10]; · iexact Hb10
    isplitl [Hb11]; · iexact Hb11
    isplitl [Hb12]; · iexact Hb12
    isplitl [Hb13]; · iexact Hb13
    iexact Ho
  iintro %r ⟨H1, H2, H3, H4, H5, H6, H7, H8, H9, H10, H11, H12, H13, H14, H17, HO, H19, H20, H23, H24, Hp0, Hb0, Hf1, Hf2, Hf3, Hf4, Hf5, Hf6, Hf7, Hf8, Hf9, Hf10, Hf11, Hf12, Hf13, Ho⟩
  isplitl [H19 H20 H23 H24 Hp0 Hf1 Hf2 Hf3 Hf4 Hf5 Hf6 Hf7 Hf8 Hf9 Hf10 Hf11 Hf12 Hf13 Hb0 Hb14 Hb15 Hb16 Hb17 Hb18 Hb19 Hb20 Hb21 Hb22 Hb23]
  · isplitl [Hb0 Hf1 Hf2 Hf3 Hf4 Hf5 Hf6 Hf7 Hf8 Hf9 Hf10 Hf11 Hf12 Hf13 Hb14 Hb15 Hb16 Hb17 Hb18 Hb19 Hb20 Hb21 Hb22 Hb23]
    · isplitl [Hb0]; · iexact Hb0
      isplitl [Hf1]; · iexact Hf1
      isplitl [Hf2]; · iexact Hf2
      isplitl [Hf3]; · iexact Hf3
      isplitl [Hf4]; · iexact Hf4
      isplitl [Hf5]; · iexact Hf5
      isplitl [Hf6]; · iexact Hf6
      isplitl [Hf7]; · iexact Hf7
      isplitl [Hf8]; · iexact Hf8
      isplitl [Hf9]; · iexact Hf9
      isplitl [Hf10]; · iexact Hf10
      isplitl [Hf11]; · iexact Hf11
      isplitl [Hf12]; · iexact Hf12
      isplitl [Hf13]; · iexact Hf13
      isplitl [Hb14]; · iexact Hb14
      isplitl [Hb15]; · iexact Hb15
      isplitl [Hb16]; · iexact Hb16
      isplitl [Hb17]; · iexact Hb17
      isplitl [Hb18]; · iexact Hb18
      isplitl [Hb19]; · iexact Hb19
      isplitl [Hb20]; · iexact Hb20
      isplitl [Hb21]; · iexact Hb21
      isplitl [Hb22]; · iexact Hb22
      iexact Hb23
    isplitl [Hp0]; · iexact Hp0
    isplitl [H20]; · iexact H20
    isplitl [H19]; · iexact H19
    isplitl [H23]; · iexact H23
    iexact H24
  isplitl [H1 H2 H3 H4 H5 H6 H7 H8 H9 H10 H11 H12 H13 H14]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [H17]; · iexact H17
  isplitl [HO]; · iexact HO
  iexact Ho

/-- The state before point `p`. -/
def before (c : Dev nD) (Xw : BufTy.Contents (Elt F) wA.view.ty) (hid : S64x128.Idx → Elt F .f32) (p : ℕ) : sProp 𝕄 := if p = 0 then fresh c Xw else state c Xw hid (min p 24)
/-- The weights of point `p`. -/
def columns (Xw : BufTy.Contents (Elt F) wA.view.ty) (Xt : S128x4096.Idx → Elt F .f32) (p : ℕ) : S128x4096.Idx → Elt F .f32 :=
  if h : p < 24 then col Xw p h else Xt

/-- One point. -/
theorem step (c : Dev nD) (bd : Option Variants.none.V) (i : grid1.Coords) (arg1 : Memref sig .tc .vmem S16384x128 .f32) (harg1 : arg1.IsWhole) (arg2 : Memref sig .tc .vmem S16384x128 .f32) (harg2 : arg2.IsWhole) (arg3 : Memref sig .tc .vmem S128x384 .f32) (harg3 : arg3.IsWhole) (arg4 : Memref sig .tc .vmem S128x384 .f32) (harg4 : arg4.IsWhole) (arg5 : Memref sig .tc .vmem S2x384 .f32) (harg5 : arg5.IsWhole) (arg6 : Memref sig .tc .vmem S128x384 .f32) (harg6 : arg6.IsWhole) (arg7 : Memref sig .tc .vmem S128x384 .f32) (harg7 : arg7.IsWhole) (arg8 : Memref sig .tc .vmem S2x384 .f32) (harg8 : arg8.IsWhole) (arg9 : Memref sig .tc .vmem S128x384 .f32) (harg9 : arg9.IsWhole) (arg10 : Memref sig .tc .vmem S128x384 .f32) (harg10 : arg10.IsWhole) (arg11 : Memref sig .tc .vmem S2x384 .f32) (harg11 : arg11.IsWhole) (arg12 : Memref sig .tc .vmem S128x384 .f32) (harg12 : arg12.IsWhole) (arg13 : Memref sig .tc .vmem S128x384 .f32) (harg13 : arg13.IsWhole) (arg14 : Memref sig .tc .vmem S2x384 .f32) (harg14 : arg14.IsWhole) (arg16 : Memref sig .tc .vmem S128x4096 .f32) (harg16 : arg16.IsWhole) (arg17 : Memref sig .tc .vmem S1x4096 .f32) (harg17 : arg17.IsWhole) (arg18 : Memref sig .tc .vmem S64x4096 .f32) (harg18 : arg18.IsWhole) (Xw : BufTy.Contents (Elt F) wA.view.ty)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X16 : BufTy.Contents (Elt F) arg16.view.ty)
    (Bi : BufTy.Contents (Elt F) arg17.view.ty) (O : BufTy.Contents (Elt F) arg18.view.ty) (hid : S64x128.Idx → Elt F .f32) (hh : (hidden (arg1.view.read (Elt F) X1) (arg2.view.read (Elt F) X2) (arg3.view.read (Elt F) X3) (arg4.view.read (Elt F) X4) (arg5.view.read (Elt F) X5) (arg6.view.read (Elt F) X6) (arg7.view.read (Elt F) X7) (arg8.view.read (Elt F) X8) (arg9.view.read (Elt F) X9) (arg10.view.read (Elt F) X10) (arg11.view.read (Elt F) X11) (arg12.view.read (Elt F) X12) (arg13.view.read (Elt F) X13) (arg14.view.read (Elt F) X14)) = hid) (p : ℕ) (hp : p < 25) (hi : (i 0).val = p) :
    (iprop(before c Xw hid p ∗ ((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14)) ∗ (arg16.view.loc (c : Thread nD τ) ↦[arg16.view.set]{fullShare} X16) ∗ (arg17.view.loc (c : Thread nD τ) ↦[arg17.view.set]{fullShare} Bi) ∗ (arg18.view.loc (c : Thread nD τ) ↦[arg18.view.set]{fullShare} O) ∗ ∃ W, owes (c : Thread nD τ) 0 W) : sProp 𝕄)
      ⊢ wp Idealize.ShloMosaic.frame (wpE (defs₀ (F := F)) Variants.none (c : Thread nD τ) bd) Set.univ (cc1__mega_body (F := F) i arg1 harg1 arg2 harg2 arg3 harg3 arg4 harg4 arg5 harg5 arg6 harg6 arg7 harg7 arg8 harg8 arg9 harg9 arg10 harg10 arg11 harg11 arg12 harg12 arg13 harg13 arg14 harg14 wA (Memref.isWhole_whole _) arg16 harg16 arg17 harg17 arg18 harg18 wY (Memref.isWhole_whole _) wH (Memref.isWhole_whole _) wS (Memref.isWhole_whole _) cc1_scratch3 wG (Memref.isWhole_whole _) wB (Memref.isWhole_whole _))
        (fun _ => iprop(before c Xw hid (p + 1) ∗ ((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14)) ∗ (arg16.view.loc (c : Thread nD τ) ↦[arg16.view.set]{fullShare} X16) ∗ (arg17.view.loc (c : Thread nD τ) ↦[arg17.view.set]{fullShare} Bi) ∗ (∃ O', (arg18.view.loc (c : Thread nD τ) ↦[arg18.view.set]{fullShare} O') ∗ ⌜arg18.view.read (Elt F) O' = applied hid (columns Xw (arg16.view.read (Elt F) X16) p) (arg17.view.read (Elt F) Bi)⌝) ∗ ∃ W', owes (c : Thread nD τ) 0 W')) := by
  unfold before
  rw [if_neg (show ¬p + 1 = 0 by omega)]
  rcases Nat.eq_zero_or_pos p with rfl | h0
  · subst hh
    rw [if_pos rfl, show min (0 + 1) 24 = 1 from rfl, show columns Xw (arg16.view.read (Elt F) X16) 0 = (blockM wA ![0, 0] (inB 0 (Nat.zero_le _))).view.read (Elt F) Xw from dif_pos (by decide)]
    iintro ⟨Hst, Hs, H16, H17, H18, ⟨%W, Ho⟩⟩
    iapply (wp_wand_r Idealize.ShloMosaic.frame (wpE (defs₀ (F := F)) Variants.none (c : Thread nD τ) bd) Set.univ)
    isplitl [Hst Hs H17 H18 Ho]
    · iapply (step_boot c bd i arg1 harg1 arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 Xw X1 X2 X3 X4 X5 X6 X7 X8 X9 X10 X11 X12 X13 X14 Bi O W hi)
      isplitl [Hst]; · iexact Hst
      isplitl [Hs]; · iexact Hs
      isplitl [H17]; · iexact H17
      isplitl [H18]; · iexact H18
      iexact Ho
    iintro %r ⟨Hst, Hs, H17, HO, Ho⟩
    isplitl [Hst]; · iexact Hst
    isplitl [Hs]; · iexact Hs
    isplitl [H16]; · iexact H16
    isplitl [H17]; · iexact H17
    isplitl [HO]; · iexact HO
    iexact Ho
  rw [if_neg (show ¬p = 0 by omega)]
  by_cases h24 : p = 24
  · subst h24
    rw [show min (24 + 1) 24 = 24 from rfl, show min 24 24 = 24 from rfl, show columns Xw (arg16.view.read (Elt F) X16) 24 = arg16.view.read (Elt F) X16 from dif_neg (by decide)]
    iintro ⟨Hst, Hs, H16, H17, H18, Ho⟩
    iapply (wp_wand_r Idealize.ShloMosaic.frame (wpE (defs₀ (F := F)) Variants.none (c : Thread nD τ) bd) Set.univ)
    isplitl [Hst H16 H17 H18]
    · iapply (step_tail c bd i arg1 harg1 arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 Xw hid X16 Bi O hi)
      isplitl [Hst]; · iexact Hst
      isplitl [H16]; · iexact H16
      isplitl [H17]; · iexact H17
      iexact H18
    iintro %r ⟨Hst, H16, H17, HO⟩
    isplitl [Hst]; · iexact Hst
    isplitl [Hs]; · iexact Hs
    isplitl [H16]; · iexact H16
    isplitl [H17]; · iexact H17
    isplitl [HO]; · iexact HO
    iexact Ho
  rw [show min (p + 1) 24 = p + 1 by omega, show min p 24 = p by omega, show columns Xw (arg16.view.read (Elt F) X16) p = col Xw p (by omega) from dif_pos (by omega)]
  rcases Nat.lt_or_ge p 11 with h11 | h11
  · iintro ⟨Hst, Hs, H16, H17, H18, ⟨%W, Ho⟩⟩
    iapply (wp_wand_r Idealize.ShloMosaic.frame (wpE (defs₀ (F := F)) Variants.none (c : Thread nD τ) bd) Set.univ)
    isplitl [Hst H17 H18 Ho]
    · iapply (step_mid c bd i arg1 harg1 arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 Xw hid Bi O W p h0 h11 (by omega) hi)
      isplitl [Hst]; · iexact Hst
      isplitl [H17]; · iexact H17
      isplitl [H18]; · iexact H18
      iexact Ho
    iintro %r ⟨Hst, H17, HO, Ho⟩
    isplitl [Hst]; · iexact Hst
    isplitl [Hs]; · iexact Hs
    isplitl [H16]; · iexact H16
    isplitl [H17]; · iexact H17
    isplitl [HO]; · iexact HO
    iexact Ho
  · iintro ⟨Hst, Hs, H16, H17, H18, ⟨%W, Ho⟩⟩
    iapply (wp_wand_r Idealize.ShloMosaic.frame (wpE (defs₀ (F := F)) Variants.none (c : Thread nD τ) bd) Set.univ)
    isplitl [Hst H17 H18 Ho]
    · iapply (step_late c bd i arg1 harg1 arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 Xw hid Bi O W p h11 (by omega) hi)
      isplitl [Hst]; · iexact Hst
      isplitl [H17]; · iexact H17
      isplitl [H18]; · iexact H18
      iexact Ho
    iintro %r ⟨Hst, H17, HO, Ho⟩
    isplitl [Hst]; · iexact Hst
    isplitl [Hs]; · iexact Hs
    isplitl [H16]; · iexact H16
    isplitl [H17]; · iexact H17
    isplitl [HO]; · iexact HO
    iexact Ho

/-- Before the first point: the weights at home, the ring at rest, the scratch buffers at anything. -/
theorem before_open (c : Dev nD) (Xw : BufTy.Contents (Elt F) wA.view.ty) (hid : S64x128.Idx → Elt F .f32) :
    (iprop(bigSep Finset.univ (blkH c Xw) ∗ bigSep Finset.univ (slt (F := F) c) ∗ (∃ f, (wH.view.loc (c : Thread nD τ) ↦[wH.view.set]{fullShare} f)) ∗ rest c) : sProp 𝕄) ⊢ before c Xw hid 0 := by
  unfold before; rw [if_pos rfl]; unfold fresh; rw [blocks_none, slots_none]
/-- After the last: the same. -/
theorem before_shut (c : Dev nD) (Xw : BufTy.Contents (Elt F) wA.view.ty) (hid : S64x128.Idx → Elt F .f32) :
    before c Xw hid 25 ⊢ (iprop(bigSep Finset.univ (blkH c Xw) ∗ bigSep Finset.univ (slt (F := F) c) ∗ (∃ f, (wH.view.loc (c : Thread nD τ) ↦[wH.view.set]{fullShare} f)) ∗ rest c) : sProp 𝕄) := by
  unfold before; rw [if_neg (by decide)]; unfold state; rw [show min 25 24 = 24 from rfl, blocks_end, slots_end]
  iintro ⟨H1, H2, ⟨%f, H3, -⟩, H4⟩
  isplitl [H1]; · iexact H1
  isplitl [H2]; · iexact H2
  isplitl [H3]; · iexists f; iexact H3
  iexact H4

end Cert.Kernel.Walk
-- ==== Proof.Region.lean ====
module

public import proofs.«01_k».proof.Proof.Walk
public import proofs.«01_k».proof.Proof.Gen.Kernel.Points
public import proofs.«01_k».proof.Proof.Gen.Kernel.Launch
public import Idealize.ShloMosaic.Lib.Pipeline.Value
public import Idealize.ShloMosaic.Lib.Pipeline.Value

@[expose] public section
/-! # The grid of the last call -/

set_option maxRecDepth 8192
set_option maxHeartbeats 4000000

noncomputable section
namespace Cert.Kernel.Region
open Cert.Kernel Cert.Kernel.Gen Cert.Kernel.Steps Cert.Kernel.Layers Cert.Kernel.Point Cert.Kernel.Parts Cert.Kernel.Boot Cert.Kernel.Weights Cert.Kernel.Ring Cert.Kernel.Hold Cert.Kernel.Walk
open Idealize.ShloMosaic.ValueIdx (ix2)
open Idealize.ShloMosaic.Pipeline (Dat Cfg Window BodyObligationLoose)
open Idealize.ShloMosaic Idealize.ShloMosaic.TcCoe Idealize.ShloMosaic.Tactic
open Idealize.ShloMosaic.SparseCore.Cfg (HIx)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "UU" => URounds (GSem nD τ sig) ℕ × (UR sig nD τ × Counters)
local notation "𝕄" => MT nD τ sig (HIx 1) (Elt F) ℕ UU ℕ

variable (V : (c : Dev nD) → (b : Ref sig .tc) → Buf (Elt F) ((c : Thread nD τ).loc b))

/-- The first point. -/
abbrev p0 : Fin cfg1.N := ⟨0, by decide⟩

/-- Operand 0 as it is staged. -/
def stg0 (c : Dev nD) : S16384x128.Idx → Elt F .f32 := ((cfg1.win 0).blk p0).view.read (Elt F) (V c main_v4)
/-- Operand 1 as it is staged. -/
def stg1 (c : Dev nD) : S16384x128.Idx → Elt F .f32 := ((cfg1.win 1).blk p0).view.read (Elt F) (V c main_v5)
/-- Operand 2 as it is staged. -/
def stg2 (c : Dev nD) : S128x384.Idx → Elt F .f32 := ((cfg1.win 2).blk p0).view.read (Elt F) (V c main_arg3)
/-- Operand 3 as it is staged. -/
def stg3 (c : Dev nD) : S128x384.Idx → Elt F .f32 := ((cfg1.win 3).blk p0).view.read (Elt F) (V c main_arg4)
/-- Operand 4 as it is staged. -/
def stg4 (c : Dev nD) : S2x384.Idx → Elt F .f32 := ((cfg1.win 4).blk p0).view.read (Elt F) (V c main_arg5)
/-- Operand 5 as it is staged. -/
def stg5 (c : Dev nD) : S128x384.Idx → Elt F .f32 := ((cfg1.win 5).blk p0).view.read (Elt F) (V c main_arg6)
/-- Operand 6 as it is staged. -/
def stg6 (c : Dev nD) : S128x384.Idx → Elt F .f32 := ((cfg1.win 6).blk p0).view.read (Elt F) (V c main_arg7)
/-- Operand 7 as it is staged. -/
def stg7 (c : Dev nD) : S2x384.Idx → Elt F .f32 := ((cfg1.win 7).blk p0).view.read (Elt F) (V c main_arg8)
/-- Operand 8 as it is staged. -/
def stg8 (c : Dev nD) : S128x384.Idx → Elt F .f32 := ((cfg1.win 8).blk p0).view.read (Elt F) (V c main_arg9)
/-- Operand 9 as it is staged. -/
def stg9 (c : Dev nD) : S128x384.Idx → Elt F .f32 := ((cfg1.win 9).blk p0).view.read (Elt F) (V c main_arg10)
/-- Operand 10 as it is staged. -/
def stg10 (c : Dev nD) : S2x384.Idx → Elt F .f32 := ((cfg1.win 10).blk p0).view.read (Elt F) (V c main_arg11)
/-- Operand 11 as it is staged. -/
def stg11 (c : Dev nD) : S128x384.Idx → Elt F .f32 := ((cfg1.win 11).blk p0).view.read (Elt F) (V c main_arg12)
/-- Operand 12 as it is staged. -/
def stg12 (c : Dev nD) : S128x384.Idx → Elt F .f32 := ((cfg1.win 12).blk p0).view.read (Elt F) (V c main_arg13)
/-- Operand 13 as it is staged. -/
def stg13 (c : Dev nD) : S2x384.Idx → Elt F .f32 := ((cfg1.win 13).blk p0).view.read (Elt F) (V c main_arg14)
/-- Operand 14 as it is staged. -/
def stg14 (c : Dev nD) : S128x4096.Idx → Elt F .f32 := ((cfg1.win 14).blk p0).view.read (Elt F) (V c main_v7)

/-- The state after the four layers. -/
def hid (c : Dev nD) : S64x128.Idx → Elt F .f32 := hidden (stg0 V c) (stg1 V c) (stg2 V c) (stg3 V c) (stg4 V c) (stg5 V c) (stg6 V c) (stg7 V c) (stg8 V c) (stg9 V c) (stg10 V c) (stg11 V c) (stg12 V c) (stg13 V c)
/-- The bias at point `t`, its part inside the array, -/
def bias (c : Dev nD) (t : Fin cfg1.N) : (win1_15.xblock (grid1.coords t)).Idx → Elt F .f32 := (win1_15.blk t).view.read (Elt F) (V c main_v8)
/-- filled out. -/
def bias8 (c : Dev nD) (t : Fin cfg1.N) : S1x4096.Idx → Elt F .f32 := win1_15.fill (grid1.coords t) (fun _ => Scalar.ofBits .f32 0#32) (bias V c t)
/-- The columns point `t` writes. -/
def outv (c : Dev nD) (t : Fin cfg1.N) : S64x4096.Idx → Elt F .f32 := applied (hid V c) (columns (V c main_arg15) (stg14 V c) t.val) (bias8 V c t)

/-- The grid's proof data. -/
def dat (c : Dev nD) : Dat τ (Elt F) (HIx 1) ℕ UU ℕ cfg1 c where
  A w := V c (Pipeline.arrRef spec1 w)
  after w t := match w with
    | ⟨0, _⟩ => stg0 V c
    | ⟨1, _⟩ => stg1 V c
    | ⟨2, _⟩ => stg2 V c
    | ⟨3, _⟩ => stg3 V c
    | ⟨4, _⟩ => stg4 V c
    | ⟨5, _⟩ => stg5 V c
    | ⟨6, _⟩ => stg6 V c
    | ⟨7, _⟩ => stg7 V c
    | ⟨8, _⟩ => stg8 V c
    | ⟨9, _⟩ => stg9 V c
    | ⟨10, _⟩ => stg10 V c
    | ⟨11, _⟩ => stg11 V c
    | ⟨12, _⟩ => stg12 V c
    | ⟨13, _⟩ => stg13 V c
    | ⟨14, _⟩ => stg14 V c
    | ⟨15, _⟩ => bias8 V c t
    | ⟨16, _⟩ => outv V c t
    | ⟨_ + 17, h⟩ => absurd h (Nat.not_lt.2 (Nat.le_add_left _ _))
  Φ t := iprop(before c (V c main_arg15) (hid V c) t.val ∗ spare c (V c main_arg15))
  q _ := fullShare
  owed _ := 0

theorem before_0 (c : Dev nD) (t : Fin cfg1.N) (d) : (dat V c).before 0 t d = stg0 V c := by
  have hN : t.val < 25 := t.isLt
  unfold Dat.before
  by_cases h0 : t.val = 0
  · obtain rfl : t = p0 := Fin.ext h0
    exact (if_pos ((fetch1_0 _).2 rfl)).trans rfl
  · refine (if_neg fun h => h0 (by have := (fetch1_0 _).1 h; omega)).trans ((if_neg h0).trans ((if_neg (by rw [show (cfg1.win 0).flush _ = false from rfl]; exact Bool.false_ne_true)).trans rfl))
theorem before_1 (c : Dev nD) (t : Fin cfg1.N) (d) : (dat V c).before 1 t d = stg1 V c := by
  have hN : t.val < 25 := t.isLt
  unfold Dat.before
  by_cases h0 : t.val = 0
  · obtain rfl : t = p0 := Fin.ext h0
    exact (if_pos ((fetch1_1 _).2 rfl)).trans rfl
  · refine (if_neg fun h => h0 (by have := (fetch1_1 _).1 h; omega)).trans ((if_neg h0).trans ((if_neg (by rw [show (cfg1.win 1).flush _ = false from rfl]; exact Bool.false_ne_true)).trans rfl))
theorem before_2 (c : Dev nD) (t : Fin cfg1.N) (d) : (dat V c).before 2 t d = stg2 V c := by
  have hN : t.val < 25 := t.isLt
  unfold Dat.before
  by_cases h0 : t.val = 0
  · obtain rfl : t = p0 := Fin.ext h0
    exact (if_pos ((fetch1_2 _).2 rfl)).trans rfl
  · refine (if_neg fun h => h0 (by have := (fetch1_2 _).1 h; omega)).trans ((if_neg h0).trans ((if_neg (by rw [show (cfg1.win 2).flush _ = false from rfl]; exact Bool.false_ne_true)).trans rfl))
theorem before_3 (c : Dev nD) (t : Fin cfg1.N) (d) : (dat V c).before 3 t d = stg3 V c := by
  have hN : t.val < 25 := t.isLt
  unfold Dat.before
  by_cases h0 : t.val = 0
  · obtain rfl : t = p0 := Fin.ext h0
    exact (if_pos ((fetch1_3 _).2 rfl)).trans rfl
  · refine (if_neg fun h => h0 (by have := (fetch1_3 _).1 h; omega)).trans ((if_neg h0).trans ((if_neg (by rw [show (cfg1.win 3).flush _ = false from rfl]; exact Bool.false_ne_true)).trans rfl))
theorem before_4 (c : Dev nD) (t : Fin cfg1.N) (d) : (dat V c).before 4 t d = stg4 V c := by
  have hN : t.val < 25 := t.isLt
  unfold Dat.before
  by_cases h0 : t.val = 0
  · obtain rfl : t = p0 := Fin.ext h0
    exact (if_pos ((fetch1_4 _).2 rfl)).trans rfl
  · refine (if_neg fun h => h0 (by have := (fetch1_4 _).1 h; omega)).trans ((if_neg h0).trans ((if_neg (by rw [show (cfg1.win 4).flush _ = false from rfl]; exact Bool.false_ne_true)).trans rfl))
theorem before_5 (c : Dev nD) (t : Fin cfg1.N) (d) : (dat V c).before 5 t d = stg5 V c := by
  have hN : t.val < 25 := t.isLt
  unfold Dat.before
  by_cases h0 : t.val = 0
  · obtain rfl : t = p0 := Fin.ext h0
    exact (if_pos ((fetch1_5 _).2 rfl)).trans rfl
  · refine (if_neg fun h => h0 (by have := (fetch1_5 _).1 h; omega)).trans ((if_neg h0).trans ((if_neg (by rw [show (cfg1.win 5).flush _ = false from rfl]; exact Bool.false_ne_true)).trans rfl))
theorem before_6 (c : Dev nD) (t : Fin cfg1.N) (d) : (dat V c).before 6 t d = stg6 V c := by
  have hN : t.val < 25 := t.isLt
  unfold Dat.before
  by_cases h0 : t.val = 0
  · obtain rfl : t = p0 := Fin.ext h0
    exact (if_pos ((fetch1_6 _).2 rfl)).trans rfl
  · refine (if_neg fun h => h0 (by have := (fetch1_6 _).1 h; omega)).trans ((if_neg h0).trans ((if_neg (by rw [show (cfg1.win 6).flush _ = false from rfl]; exact Bool.false_ne_true)).trans rfl))
theorem before_7 (c : Dev nD) (t : Fin cfg1.N) (d) : (dat V c).before 7 t d = stg7 V c := by
  have hN : t.val < 25 := t.isLt
  unfold Dat.before
  by_cases h0 : t.val = 0
  · obtain rfl : t = p0 := Fin.ext h0
    exact (if_pos ((fetch1_7 _).2 rfl)).trans rfl
  · refine (if_neg fun h => h0 (by have := (fetch1_7 _).1 h; omega)).trans ((if_neg h0).trans ((if_neg (by rw [show (cfg1.win 7).flush _ = false from rfl]; exact Bool.false_ne_true)).trans rfl))
theorem before_8 (c : Dev nD) (t : Fin cfg1.N) (d) : (dat V c).before 8 t d = stg8 V c := by
  have hN : t.val < 25 := t.isLt
  unfold Dat.before
  by_cases h0 : t.val = 0
  · obtain rfl : t = p0 := Fin.ext h0
    exact (if_pos ((fetch1_8 _).2 rfl)).trans rfl
  · refine (if_neg fun h => h0 (by have := (fetch1_8 _).1 h; omega)).trans ((if_neg h0).trans ((if_neg (by rw [show (cfg1.win 8).flush _ = false from rfl]; exact Bool.false_ne_true)).trans rfl))
theorem before_9 (c : Dev nD) (t : Fin cfg1.N) (d) : (dat V c).before 9 t d = stg9 V c := by
  have hN : t.val < 25 := t.isLt
  unfold Dat.before
  by_cases h0 : t.val = 0
  · obtain rfl : t = p0 := Fin.ext h0
    exact (if_pos ((fetch1_9 _).2 rfl)).trans rfl
  · refine (if_neg fun h => h0 (by have := (fetch1_9 _).1 h; omega)).trans ((if_neg h0).trans ((if_neg (by rw [show (cfg1.win 9).flush _ = false from rfl]; exact Bool.false_ne_true)).trans rfl))
theorem before_10 (c : Dev nD) (t : Fin cfg1.N) (d) : (dat V c).before 10 t d = stg10 V c := by
  have hN : t.val < 25 := t.isLt
  unfold Dat.before
  by_cases h0 : t.val = 0
  · obtain rfl : t = p0 := Fin.ext h0
    exact (if_pos ((fetch1_10 _).2 rfl)).trans rfl
  · refine (if_neg fun h => h0 (by have := (fetch1_10 _).1 h; omega)).trans ((if_neg h0).trans ((if_neg (by rw [show (cfg1.win 10).flush _ = false from rfl]; exact Bool.false_ne_true)).trans rfl))
theorem before_11 (c : Dev nD) (t : Fin cfg1.N) (d) : (dat V c).before 11 t d = stg11 V c := by
  have hN : t.val < 25 := t.isLt
  unfold Dat.before
  by_cases h0 : t.val = 0
  · obtain rfl : t = p0 := Fin.ext h0
    exact (if_pos ((fetch1_11 _).2 rfl)).trans rfl
  · refine (if_neg fun h => h0 (by have := (fetch1_11 _).1 h; omega)).trans ((if_neg h0).trans ((if_neg (by rw [show (cfg1.win 11).flush _ = false from rfl]; exact Bool.false_ne_true)).trans rfl))
theorem before_12 (c : Dev nD) (t : Fin cfg1.N) (d) : (dat V c).before 12 t d = stg12 V c := by
  have hN : t.val < 25 := t.isLt
  unfold Dat.before
  by_cases h0 : t.val = 0
  · obtain rfl : t = p0 := Fin.ext h0
    exact (if_pos ((fetch1_12 _).2 rfl)).trans rfl
  · refine (if_neg fun h => h0 (by have := (fetch1_12 _).1 h; omega)).trans ((if_neg h0).trans ((if_neg (by rw [show (cfg1.win 12).flush _ = false from rfl]; exact Bool.false_ne_true)).trans rfl))
theorem before_13 (c : Dev nD) (t : Fin cfg1.N) (d) : (dat V c).before 13 t d = stg13 V c := by
  have hN : t.val < 25 := t.isLt
  unfold Dat.before
  by_cases h0 : t.val = 0
  · obtain rfl : t = p0 := Fin.ext h0
    exact (if_pos ((fetch1_13 _).2 rfl)).trans rfl
  · refine (if_neg fun h => h0 (by have := (fetch1_13 _).1 h; omega)).trans ((if_neg h0).trans ((if_neg (by rw [show (cfg1.win 13).flush _ = false from rfl]; exact Bool.false_ne_true)).trans rfl))
theorem before_14 (c : Dev nD) (t : Fin cfg1.N) (d) : (dat V c).before 14 t d = stg14 V c := by
  have hN : t.val < 25 := t.isLt
  unfold Dat.before
  by_cases h0 : t.val = 0
  · obtain rfl : t = p0 := Fin.ext h0
    exact (if_pos ((fetch1_14 _).2 rfl)).trans rfl
  · refine (if_neg fun h => h0 (by have := (fetch1_14 _).1 h; omega)).trans ((if_neg h0).trans ((if_neg (by rw [show (cfg1.win 14).flush _ = false from rfl]; exact Bool.false_ne_true)).trans rfl))
theorem before_15 (c : Dev nD) (t : Fin cfg1.N) (d) : (dat V c).before 15 t d = win1_15.fill (grid1.coords t) d (bias V c t) := by
  have hN : t.val < 25 := t.isLt
  unfold Dat.before
  exact (if_pos ((fetch1_15 t))).trans rfl

/-- Of the bias an element of the result reads one element. -/
theorem applied_at (h : S64x128.Idx → Elt F .f32) (w : S128x4096.Idx → Elt F .f32) (b b' : S1x4096.Idx → Elt F .f32) (j : S64x4096.Idx)
    (e : ∀ p : S1x4096.Idx, (p 1).val = (j 1).val → b p = b' p) : applied h w b j = applied h w b' j := by
  unfold applied
  show FloatOps.addf _ (broadcastTo S64x4096 b broadcasts_S1x4096_S64x4096 j) = FloatOps.addf _ (broadcastTo S64x4096 b' broadcasts_S1x4096_S64x4096 j)
  congr 1
  rw [broadcastTo_apply b _ j (ix2 0 (j 1)) (fun a => by fin_cases a <;> rfl), broadcastTo_apply b' _ j (ix2 0 (j 1)) (fun a => by fin_cases a <;> rfl)]
  exact e _ rfl

theorem widths : ∀ t : Fin cfg1.N, win1_15.xsize (grid1.coords t) 0 = 1 ∧ win1_15.xsize (grid1.coords t) 1 = win1_16.xsize (grid1.coords t) 1 := by decide +kernel
theorem busy16 : ∀ t : Fin cfg1.N, idle1 16 (grid1.coords t) = false := by decide +kernel
theorem coord_val : ∀ t : Fin cfg1.N, (grid1.coords t 0).val = t.val := by decide +kernel

/-- Inside the array the columns are those of the bias as staged. -/
theorem out_cut (c : Dev nD) (t : Fin cfg1.N) (d : S1x4096.Idx → Elt F .f32) :
    win1_16.cut (grid1.coords t) (applied (hid V c) (columns (V c main_arg15) (stg14 V c) t.val) (win1_15.fill (grid1.coords t) d (bias V c t))) = win1_16.cut (grid1.coords t) (outv V c t) := by
  funext j
  unfold outv bias8
  refine applied_at _ _ _ _ (win1_16.xinj (grid1.coords t) j) fun p hp => ?_
  have hm : win1_15.moved (grid1.coords t) p = true := (win1_15.moved_iff _ p).mpr fun a => by
    obtain ⟨w0, w1⟩ := widths t
    match a with
    | ⟨0, _⟩ => show (p 0).val < win1_15.xsize (grid1.coords t) 0; rw [w0]; exact (p 0).isLt
    | ⟨1, _⟩ => show (p 1).val < win1_15.xsize (grid1.coords t) 1; rw [w1, hp]; exact (j 1).isLt
  unfold Window.fill
  rw [dif_pos hm, dif_pos hm]

theorem hid_of (c : Dev nD) {x0 : S16384x128.Idx → Elt F .f32} {x1 : S16384x128.Idx → Elt F .f32} {x2 : S128x384.Idx → Elt F .f32} {x3 : S128x384.Idx → Elt F .f32} {x4 : S2x384.Idx → Elt F .f32} {x5 : S128x384.Idx → Elt F .f32} {x6 : S128x384.Idx → Elt F .f32} {x7 : S2x384.Idx → Elt F .f32} {x8 : S128x384.Idx → Elt F .f32} {x9 : S128x384.Idx → Elt F .f32} {x10 : S2x384.Idx → Elt F .f32} {x11 : S128x384.Idx → Elt F .f32} {x12 : S128x384.Idx → Elt F .f32} {x13 : S2x384.Idx → Elt F .f32} (e0 : x0 = stg0 V c) (e1 : x1 = stg1 V c) (e2 : x2 = stg2 V c) (e3 : x3 = stg3 V c) (e4 : x4 = stg4 V c) (e5 : x5 = stg5 V c) (e6 : x6 = stg6 V c) (e7 : x7 = stg7 V c) (e8 : x8 = stg8 V c) (e9 : x9 = stg9 V c) (e10 : x10 = stg10 V c) (e11 : x11 = stg11 V c) (e12 : x12 = stg12 V c) (e13 : x13 = stg13 V c) :
    hidden x0 x1 x2 x3 x4 x5 x6 x7 x8 x9 x10 x11 x12 x13 = hid V c := by
  subst e0; subst e1; subst e2; subst e3; subst e4; subst e5; subst e6; subst e7; subst e8; subst e9; subst e10; subst e11; subst e12; subst e13; rfl

theorem row (t : Fin cfg1.N) : defs₀ (F := F) .tc cfg1.body (cfg1.bodyArgs t (cfg1.slots t)) = bodyAt1 t := by
  rfl

theorem body_obligation (c : Dev nD) : BodyObligationLoose (dat V c) (defs₀ (F := F)) Variants.none (default : HIx 1) Set.univ := fun t => by
  rw [bigSep_W1, bigSep_W1]
  simp only
  rw [row, show idle1 16 (grid1.coords t) = false from busy16 t]
  dsimp only
  rw [show (dat V c).Φ t.castSucc = iprop(before c (V c main_arg15) (hid V c) t.val ∗ spare c (V c main_arg15)) from rfl, show (dat V c).Φ t.succ = iprop(before c (V c main_arg15) (hid V c) (t.val + 1) ∗ spare c (V c main_arg15)) from rfl]
  unfold owns
  iintro ⟨⟨HΦ, Hsp⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d11, %f11, %h11, H11⟩, ⟨%d12, %f12, %h12, H12⟩, ⟨%d13, %f13, %h13, H13⟩, ⟨%d14, %f14, %h14, H14⟩, ⟨%d15, %f15, %h15, H15⟩, ⟨%d16, %f16, %h16, H16⟩⟩
  rw [before_0] at h0
  rw [before_1] at h1
  rw [before_2] at h2
  rw [before_3] at h3
  rw [before_4] at h4
  rw [before_5] at h5
  rw [before_6] at h6
  rw [before_7] at h7
  rw [before_8] at h8
  rw [before_9] at h9
  rw [before_10] at h10
  rw [before_11] at h11
  rw [before_12] at h12
  rw [before_13] at h13
  rw [before_14] at h14
  rw [before_15] at h15
  iapply (wp_wand_r Idealize.ShloMosaic.frame (wpE (defs₀ (F := F)) Variants.none (c : Thread nD τ) none) Set.univ)
  isplitl [HΦ Ho H0 H1 H2 H3 H4 H5 H6 H7 H8 H9 H10 H11 H12 H13 H14 H15 H16]
  · iapply (step c none (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (win1_14.stage (cfg1.slots t 14)) (hstage1_14 ((cfg1.slots t 14).cast nbuf1_14)) (win1_15.stage (cfg1.slots t 15)) (hstage1_15 ((cfg1.slots t 15).cast nbuf1_15)) (win1_16.stage (cfg1.slots t 16)) (hstage1_16 ((cfg1.slots t 16).cast nbuf1_16)) (V c main_arg15) f0 f1 f2 f3 f4 f5 f6 f7 f8 f9 f10 f11 f12 f13 f14 f15 f16 (hid V c) (hid_of V c h0 h1 h2 h3 h4 h5 h6 h7 h8 h9 h10 h11 h12 h13) t.val t.isLt (coord_val t))
    isplitl [HΦ]; · iexact HΦ
    isplitl [H0 H1 H2 H3 H4 H5 H6 H7 H8 H9 H10 H11 H12 H13]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    isplitl [H14]; · iexact H14
    isplitl [H15]; · iexact H15
    isplitl [H16]; · iexact H16
    unfold Pipeline.Dat.owesAt Pipeline.owesWithin
    icases Ho with ⟨%W, -, Ho⟩; iexists W; iexact Ho
  iintro %r ⟨HΦ, ⟨H0, H1, H2, H3, H4, H5, H6, H7, H8, H9, H10, H11, H12, H13⟩, H14, H15, ⟨%O', H16, %hO⟩, ⟨%W', Ho⟩⟩
  isplitl [HΦ Hsp]
  · isplitl [HΦ]; · iexact HΦ
    iexact Hsp
  isplitl [Ho]
  · unfold Pipeline.Dat.owesAt Pipeline.owesWithin
    iexists W'; isplitr; · ipureintro; exact fun _ _ => Or.inl trivial
    iexact Ho
  isplitl [H0]; · iexists f0; isplitr; swap; (· iexact H0); ipureintro; exact h0
  isplitl [H1]; · iexists f1; isplitr; swap; (· iexact H1); ipureintro; exact h1
  isplitl [H2]; · iexists f2; isplitr; swap; (· iexact H2); ipureintro; exact h2
  isplitl [H3]; · iexists f3; isplitr; swap; (· iexact H3); ipureintro; exact h3
  isplitl [H4]; · iexists f4; isplitr; swap; (· iexact H4); ipureintro; exact h4
  isplitl [H5]; · iexists f5; isplitr; swap; (· iexact H5); ipureintro; exact h5
  isplitl [H6]; · iexists f6; isplitr; swap; (· iexact H6); ipureintro; exact h6
  isplitl [H7]; · iexists f7; isplitr; swap; (· iexact H7); ipureintro; exact h7
  isplitl [H8]; · iexists f8; isplitr; swap; (· iexact H8); ipureintro; exact h8
  isplitl [H9]; · iexists f9; isplitr; swap; (· iexact H9); ipureintro; exact h9
  isplitl [H10]; · iexists f10; isplitr; swap; (· iexact H10); ipureintro; exact h10
  isplitl [H11]; · iexists f11; isplitr; swap; (· iexact H11); ipureintro; exact h11
  isplitl [H12]; · iexists f12; isplitr; swap; (· iexact H12); ipureintro; exact h12
  isplitl [H13]; · iexists f13; isplitr; swap; (· iexact H13); ipureintro; exact h13
  isplitl [H14]; · iexists f14; isplitr; swap; (· iexact H14); ipureintro; exact h14
  isplitl [H15]
  · iexists d15, f15; isplitr; swap; (· iexact H15)
    ipureintro
    refine h15.trans ?_
    show _ = win1_15.fill (grid1.coords t) d15 (win1_15.cut (grid1.coords t) (bias8 V c t))
    unfold bias8; rw [win1_15.cut_fill]
  · iexists applied (hid V c) (columns (V c main_arg15) (stg14 V c) t.val) (win1_15.fill (grid1.coords t) d15 (bias V c t)), O'; isplitr; swap; (· iexact H16)
    ipureintro
    refine (hO.trans (congr (congrArg (applied (hid V c)) (congrArg (fun z => columns (V c main_arg15) z t.val) h14)) h15)).trans ?_
    exact (win1_16.fill_congr_cut _ (out_cut V c t d15)).symm

end Cert.Kernel.Region
-- ==== Proof.Entry.lean ====
module

public import proofs.«01_k».proof.Proof.Region
public import Idealize.ShloMosaic.Lib.Pipeline.RegionsLoop

@[expose] public section
/-! # The last call, entered and left -/

set_option maxRecDepth 8192
set_option maxHeartbeats 4000000

noncomputable section
namespace Cert.Kernel.Entry
open Cert.Kernel Cert.Kernel.Gen Cert.Kernel.Steps Cert.Kernel.Layers Cert.Kernel.Point Cert.Kernel.Parts Cert.Kernel.Boot Cert.Kernel.Weights Cert.Kernel.Ring Cert.Kernel.Hold Cert.Kernel.Walk Cert.Kernel.Region
open Idealize.ShloMosaic.ValueIdx (ix2)
open Idealize.ShloMosaic.Pipeline (Dat Cfg Window BodyObligationLoose)
open Idealize.ShloMosaic Idealize.ShloMosaic.TcCoe Idealize.ShloMosaic.Tactic
open Idealize.ShloMosaic.SparseCore.Cfg (HIx)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "UU" => URounds (GSem nD τ sig) ℕ × (UR sig nD τ × Counters)
local notation "𝕄" => MT nD τ sig (HIx 1) (Elt F) ℕ UU ℕ

variable (V Vp : (c : Dev nD) → (b : Ref sig .tc) → Buf (Elt F) ((c : Thread nD τ).loc b))
variable (adm : (p : Fin 1) → (pcfgs (F := F) p).Adm)

/-- The calls' data: there is one call. -/
def pdats : (p : Fin 1) → (c : Dev nD) → Dat τ (Elt F) (HIx 1) ℕ UU ℕ (Pipeline.pin (pcfgs (F := F)) adm p) c
  | ⟨0, _⟩ => fun c => dat V c

/-- The buffers that are no operand of the call and no weights. -/
def others (c : Dev nD) : sProp 𝕄 :=
  iprop((((c : Thread nD τ).loc main_arg0) ↦{fullShare} V c main_arg0) ∗ (((c : Thread nD τ).loc main_arg1) ↦{fullShare} V c main_arg1) ∗ (((c : Thread nD τ).loc main_arg2) ↦{fullShare} V c main_arg2)
    ∗ (((c : Thread nD τ).loc main_arg16) ↦{fullShare} V c main_arg16) ∗ (((c : Thread nD τ).loc main_v0) ↦{fullShare} V c main_v0) ∗ (((c : Thread nD τ).loc main_v1) ↦{fullShare} V c main_v1)
    ∗ (((c : Thread nD τ).loc main_v2) ↦{fullShare} V c main_v2) ∗ (((c : Thread nD τ).loc main_v3) ↦{fullShare} V c main_v3) ∗ (((c : Thread nD τ).loc main_v6) ↦{fullShare} V c main_v6)
    ∗ (((c : Thread nD τ).loc main_c) ↦{fullShare} V c main_c) ∗ (((c : Thread nD τ).loc main_call0_v0) ↦{fullShare} V c main_call0_v0))

theorem rest_open (c : Dev nD) : (Pipeline.unscopedRest (Ix := HIx 1) (Name := ℕ) (U := UU) (Lvl := ℕ) spec1 c (V c) : sProp 𝕄)
    ⊢ iprop((((c : Thread nD τ).loc main_arg15) ↦{fullShare} V c main_arg15) ∗ others V c) := by
  rw [unscopedRest1_eq]; unfold others
  iintro ⟨H0, H1, H2, HW, H⟩
  isplitl [HW]; · iexact HW
  isplitl [H0]; · iexact H0
  isplitl [H1]; · iexact H1
  isplitl [H2]; · iexact H2
  iexact H

theorem rest_shut (c : Dev nD) : (iprop((((c : Thread nD τ).loc main_arg15) ↦{fullShare} V c main_arg15) ∗ others V c) : sProp 𝕄)
    ⊢ Pipeline.unscopedRest (Ix := HIx 1) (Name := ℕ) (U := UU) (Lvl := ℕ) spec1 c (V c) := by
  rw [unscopedRest1_eq]; unfold others
  iintro ⟨HW, H0, H1, H2, H⟩
  isplitl [H0]; · iexact H0
  isplitl [H1]; · iexact H1
  isplitl [H2]; · iexact H2
  isplitl [HW]; · iexact HW
  iexact H

/-- The invariant at a point. -/
def inv (c : Dev nD) (p : ℕ) : sProp 𝕄 := iprop(before c (V c main_arg15) (hid V c) p ∗ spare c (V c main_arg15))

theorem enter (c : Dev nD) :
    (iprop(((((c : Thread nD τ).loc main_arg15) ↦{fullShare} V c main_arg15) ∗ Pipeline.ownSems0 osem c)
      ∗ Pipeline.scopedRest (Ix := HIx 1) (Name := ℕ) (U := UU) (Lvl := ℕ) (Val := Elt F) spec1 c) : sProp 𝕄) ⊢ inv V c 0 := by
  have hr : (iprop((∃ f : Buf (Elt F) ((c : Thread nD τ).loc cc1_scratch0), ((c : Thread nD τ).loc cc1_scratch0) ↦{fullShare} f)
      ∗ (∃ f : Buf (Elt F) ((c : Thread nD τ).loc cc1_scratch1), ((c : Thread nD τ).loc cc1_scratch1) ↦{fullShare} f)
      ∗ (∃ f : Buf (Elt F) ((c : Thread nD τ).loc cc1_scratch4), ((c : Thread nD τ).loc cc1_scratch4) ↦{fullShare} f)
      ∗ (∃ f : Buf (Elt F) ((c : Thread nD τ).loc cc1_scratch5), ((c : Thread nD τ).loc cc1_scratch5) ↦{fullShare} f)) : sProp 𝕄)
      ⊢ iprop((∃ f, (wH.view.loc (c : Thread nD τ) ↦[wH.view.set]{fullShare} f)) ∗ rest c) := by
    unfold rest
    rw [show wH.view.set = Finset.univ from View.set_whole _, show wY.view.set = Finset.univ from View.set_whole _, show wG.view.set = Finset.univ from View.set_whole _, show wB.view.set = Finset.univ from View.set_whole _]
    iintro ⟨H0, H1, H4, H5⟩
    isplitl [H1]; · iexact H1
    isplitl [H0]; · iexact H0
    isplitl [H4]; · iexact H4
    iexact H5
  rw [scopedRest1_eq]
  unfold inv
  iintro ⟨⟨HW, Hs⟩, H0, H1, H2, H4, H5⟩
  ihave Hb := (array_blocks c (V c main_arg15)).1 $$ HW
  icases Hb with ⟨Hb, Hsp⟩
  ihave Hsl := (slots_open c) $$ [H2 Hs]
  · isplitl [H2]; · iexact H2
    iexact Hs
  ihave Hr := hr $$ [H0 H1 H4 H5]
  · isplitl [H0]; · iexact H0
    isplitl [H1]; · iexact H1
    isplitl [H4]; · iexact H4
    iexact H5
  icases Hr with ⟨Hh, Hr⟩
  isplitr [Hsp]
  · iapply (before_open c (V c main_arg15) (hid V c))
    isplitl [Hb]; · iexact Hb
    isplitl [Hsl]; · iexact Hsl
    isplitl [Hh]; · iexact Hh
    iexact Hr
  iexact Hsp

theorem leave (c : Dev nD) :
    inv V c 25 ⊢ (iprop((((c : Thread nD τ).loc main_arg15) ↦{fullShare} V c main_arg15) ∗ Pipeline.ownSems0 osem c
      ∗ Pipeline.scopedRest (Ix := HIx 1) (Name := ℕ) (U := UU) (Lvl := ℕ) (Val := Elt F) spec1 c) : sProp 𝕄) := by
  have hr : (iprop((∃ f, (wH.view.loc (c : Thread nD τ) ↦[wH.view.set]{fullShare} f)) ∗ rest c) : sProp 𝕄)
      ⊢ (iprop((∃ f : Buf (Elt F) ((c : Thread nD τ).loc cc1_scratch0), ((c : Thread nD τ).loc cc1_scratch0) ↦{fullShare} f)
      ∗ (∃ f : Buf (Elt F) ((c : Thread nD τ).loc cc1_scratch1), ((c : Thread nD τ).loc cc1_scratch1) ↦{fullShare} f)
      ∗ (∃ f : Buf (Elt F) ((c : Thread nD τ).loc cc1_scratch4), ((c : Thread nD τ).loc cc1_scratch4) ↦{fullShare} f)
      ∗ (∃ f : Buf (Elt F) ((c : Thread nD τ).loc cc1_scratch5), ((c : Thread nD τ).loc cc1_scratch5) ↦{fullShare} f)) : sProp 𝕄) := by
    unfold rest
    rw [show wH.view.set = Finset.univ from View.set_whole _, show wY.view.set = Finset.univ from View.set_whole _, show wG.view.set = Finset.univ from View.set_whole _, show wB.view.set = Finset.univ from View.set_whole _]
    iintro ⟨H1, H0, H4, H5⟩
    isplitl [H0]; · iexact H0
    isplitl [H1]; · iexact H1
    isplitl [H4]; · iexact H4
    iexact H5
  rw [scopedRest1_eq]
  unfold inv
  iintro ⟨Hbf, Hsp⟩
  ihave H := (before_shut c (V c main_arg15) (hid V c)) $$ Hbf
  icases H with ⟨Hb, Hsl, Hh, Hr⟩
  ihave Hsl := (slots_shut c) $$ Hsl
  icases Hsl with ⟨H2, Hs⟩
  ihave Hr := hr $$ [Hh Hr]
  · isplitl [Hh]; · iexact Hh
    iexact Hr
  icases Hr with ⟨H0, H1, H4, H5⟩
  isplitl [Hb Hsp]
  · iapply (array_blocks c (V c main_arg15)).2
    isplitl [Hb]; · iexact Hb
    iexact Hsp
  isplitl [Hs]; · iexact Hs
  isplitl [H0]; · iexact H0
  isplitl [H1]; · iexact H1
  isplitl [H2]; · iexact H2
  isplitl [H4]; · iexact H4
  iexact H5

set_option backward.isDefEq.respectTransparency.types false in
/-- The call between two states of the program's buffers that differ in its result alone. -/
def reg (L : GSem nD τ sig → Finset (HIx 1)) (lv : GSem nD τ sig → HIx 1 → ℕ) (hVp_out : ∀ c, Vp c main_v9 = (dat V c).arrAt 16 cfg1.N) (hVp_ne : ∀ c (b : Ref sig .tc), b ≠ main_v9 → Vp c b = V c b) :
    Pipeline.RegionSeg (pcfgs (F := F)) adm (pdats V adm) (default : HIx 1) (defs₀ (F := F)) Variants.none L lv 0 where
  win := launch1.win.to₀
  block_pos := launch1.block_pos
  stage_whole := launch1.stage_whole
  K := Fin 14
  osem := osem
  ho := osem_facts
  hbody c := body_obligation V c
  hwaits := Pipeline.hwaits_of_owed_zero _ _ _ _ L lv 0 fun _ _ => rfl
  pre c := iprop(unscopedBufs c (V c) ∗ ∃ W, owes (c : Thread nD τ) (0 : CellTallies nD τ sig (HIx 1)) W)
  post c := iprop(unscopedBufs c (Vp c) ∗ ∃ W, owes (c : Thread nD τ) (0 : CellTallies nD τ sig (HIx 1)) W)
  X c := iprop((((c : Thread nD τ).loc main_arg15) ↦{fullShare} V c main_arg15) ∗ Pipeline.ownSems0 osem c)
  Y c := iprop(((c : Thread nD τ).loc main_arg15) ↦{fullShare} V c main_arg15)
  Z c := others V c
  hentry c := by
    have hsplit := Pipeline.arrays_of_unscopedBufs (p := 0) (pcfgs (F := F)) adm (pdats V adm) launch1.win launch1.arr_whole c
      ((pdats V adm 0 c).share_full fun _ => rfl) (V c) fun _ => rfl
    iintro ⟨⟨Hub, HO⟩, Hos, -⟩
    ihave H := hsplit $$ Hub
    icases H with ⟨Ha, Hrest⟩
    ihave Hr := (rest_open V c) $$ Hrest
    icases Hr with ⟨HW, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HW Hos]; · isplitl [HW] <;> iassumption
    iexact Hrest
  hin c := by
    rw [show (pdats V adm 0 c).Φ 0 = inv V c 0 from rfl]
    iintro ⟨HX, -, Hr⟩
    iapply (enter V c)
    isplitl [HX]; · iexact HX
    iexact Hr
  hout c := by
    rw [show (pdats V adm 0 c).Φ (Fin.last _) = inv V c 25 from rfl]
    exact leave V c
  hexit c := by
    have hjoin := Pipeline.unscopedBufs_of_arrays (p := 0) (pcfgs (F := F)) adm (Ix := HIx 1) (Name := ℕ) (U := UU) (Lvl := ℕ) launch1.win launch1.arr_whole c
      (pdats V adm) ((pdats V adm 0 c).share_full fun _ => rfl) (V c) (Vp c) ((pdats V adm 0 c).arrAt · cfg1.N)
      (fun w => by
        by_cases hw : w = 16
        · subst hw; exact (hVp_out c).symm
        · have hin : ∀ w : Fin 17, w ≠ 16 → Pipeline.arrRef spec1 w ≠ main_v9 := by decide
          have hfl : ∀ w : Fin 17, w ≠ 16 → (cfg1.win w).isOut = false := by decide
          exact ((pdats V adm 0 c).arrAt_in w (hfl w hw) _).trans (hVp_ne c _ (hin w hw)).symm)
      (fun b hb => hVp_ne c b fun h => hb (h ▸ Finset.mem_image.mpr ⟨16, Finset.mem_univ _, rfl⟩))
    iintro ⟨Ha, HO, HY, HZ⟩
    imodintro
    isplitl [Ha HY HZ]
    · iapply hjoin; isplitl [Ha]; · iexact Ha
      iapply (rest_shut V c); isplitl [HY] <;> iassumption
    unfold Pipeline.Dat.owesAt Pipeline.owesWithin
    icases HO with ⟨%W, -, HO⟩; iexists W; iexact HO

/-! ## The result -/

theorem point_of (i : S64x100000.Idx) : (i 1).val / 4096 < cfg1.N := by
  have h := (i 1).isLt
  have h2 : (i 1).val < 100000 := h
  show (i 1).val / 4096 < 25
  omega

/-- What the call leaves in its result: column `j` is column `j mod 4096` of the point `j / 4096`. -/
def final (c : Dev nD) : Buf (Elt F) ((c : Thread nD τ).loc main_v9) := fun i : S64x100000.Idx =>
  outv V c ⟨(i 1).val / 4096, point_of i⟩ (ix2 (i 0) (⟨(i 1).val % 4096, Nat.mod_lt _ (by decide)⟩ : Fin 4096))

theorem place16 : ∀ t : Fin cfg1.N, win1_16.index t 0 * win1_16.size 0 = 0 ∧ win1_16.index t 1 * win1_16.size 1 = t.val * 4096
    ∧ win1_16.xsize (grid1.coords t) 0 = 64 ∧ win1_16.xsize (grid1.coords t) 1 = min 4096 (100000 - t.val * 4096) := by decide +kernel

theorem mem_blk16 (t : Fin cfg1.N) (i : S64x100000.Idx) :
    Iff (i ∈ (win1_16.blk t).view.setOn Finset.univ) ((i 1).val / 4096 = t.val) := by
  rw [View.setOn_univ]
  show Iff (i ∈ ((View.whole main_v9).slice (win1_16.rect t)).set) _
  rw [View.set_slice_whole, Rect.mem_set_unit]
  obtain ⟨e0, e1, x0, x1⟩ := place16 t
  have h0 : (i 0).val < 64 := (i 0).isLt
  have h1 : (i 1).val < 100000 := (i 1).isLt
  constructor
  · intro h
    have h := h 1
    change win1_16.index t 1 * win1_16.size 1 ≤ (i 1).val ∧ (i 1).val < win1_16.index t 1 * win1_16.size 1 + win1_16.xsize (grid1.coords t) 1 at h
    rw [e1, x1] at h; omega
  · intro h a
    match a with
    | ⟨0, _⟩ =>
      change win1_16.index t 0 * win1_16.size 0 ≤ (i 0).val ∧ (i 0).val < win1_16.index t 0 * win1_16.size 0 + win1_16.xsize (grid1.coords t) 0
      rw [e0, x0]; omega
    | ⟨1, _⟩ =>
      change win1_16.index t 1 * win1_16.size 1 ≤ (i 1).val ∧ (i 1).val < win1_16.index t 1 * win1_16.size 1 + win1_16.xsize (grid1.coords t) 1
      rw [e1, x1]; omega

theorem cut16 (c : Dev nD) (t : Fin cfg1.N) : win1_16.cut (grid1.coords t) (outv V c t) = (win1_16.blk t).view.read (Elt F) (final V c) := by
  funext j
  obtain ⟨e0, e1, x0, x1⟩ := place16 t
  have h1 : (j 1).val < win1_16.xsize (grid1.coords t) 1 := (j 1).isLt
  have h0 : (j 0).val < win1_16.xsize (grid1.coords t) 0 := (j 0).isLt
  have ht : t.val < 25 := t.isLt
  show outv V c t (win1_16.xinj (grid1.coords t) j) = final V c ((win1_16.blk t).view.emb j)
  have q0 : (((win1_16.blk t).view.emb j : S64x100000.Idx) 0).val = (j 0).val := by
    show win1_16.index t 0 * win1_16.size 0 + 1 * (j 0).val = _
    rw [e0]; omega
  have q1 : (((win1_16.blk t).view.emb j : S64x100000.Idx) 1).val = t.val * 4096 + (j 1).val := by
    show win1_16.index t 1 * win1_16.size 1 + 1 * (j 1).val = _
    rw [e1]; omega
  rw [x1] at h1
  unfold final
  have p1 : (t.val * 4096 + (j 1).val) / 4096 = t.val := by omega
  have p2 : (t.val * 4096 + (j 1).val) % 4096 = (j 1).val := by omega
  have et : (⟨(((win1_16.blk t).view.emb j : S64x100000.Idx) 1).val / 4096, point_of _⟩ : Fin cfg1.N) = t := Fin.ext (by show (((win1_16.blk t).view.emb j : S64x100000.Idx) 1).val / 4096 = t.val; rw [q1, p1])
  rw [et]
  congr 1
  funext a
  match a with
  | ⟨0, _⟩ => exact Fin.ext q0.symm
  | ⟨1, _⟩ => exact Fin.ext (by show (j 1).val = _ % 4096; rw [q1, p2])

/-- One write-back. -/
theorem turn16 (c : Dev nD) (t : Fin cfg1.N) (i : S64x100000.Idx) :
    ((dat V c).arrAt 16 (t.val + 1) : Buf (Elt F) ((c : Thread nD τ).loc main_v9)) i
      = if (i 1).val / 4096 = t.val then final V c i else ((dat V c).arrAt 16 t.val : Buf (Elt F) ((c : Thread nD τ).loc main_v9)) i := by
  have hs := (dat V c).arrAt_succ (16 : Fin 17) t
  rw [if_pos (flush1_16 _)] at hs
  rw [hs, show (dat V c).flushed 16 t = win1_16.cut (grid1.coords t) (outv V c t) from rfl, cut16]
  have e := View.write_read_eq_piecewise (Val := Elt F) (v := (win1_16.blk t).view) ((dat V c).arrAt 16 t.val) (final V c) Finset.univ
  refine (congrFun e i).trans ?_
  have hm := mem_blk16 t i
  by_cases h : (i 1).val / 4096 = t.val
  · rw [if_pos h]; exact Finset.piecewise_eq_of_mem _ _ _ (hm.mpr h)
  · rw [if_neg h]; exact Finset.piecewise_eq_of_notMem _ _ _ (fun h' => h (hm.mp h'))

theorem upto (c : Dev nD) (i : S64x100000.Idx) : ∀ n : ℕ, n ≤ 25 → (i 1).val / 4096 < n → ((dat V c).arrAt 16 n : Buf (Elt F) ((c : Thread nD τ).loc main_v9)) i = final V c i := by
  intro n
  induction n with
  | zero => intro _ h; exact absurd h (Nat.not_lt_zero _)
  | succ n ih =>
    intro hn h
    refine (turn16 V c ⟨n, hn⟩ i).trans ?_
    by_cases h' : (i 1).val / 4096 = n
    · exact if_pos h'
    · exact (if_neg h').trans (ih (by omega) (by omega))

theorem final_eq (c : Dev nD) : (dat V c).arrAt 16 cfg1.N = final V c :=
  funext fun i => upto V c i 25 le_rfl (point_of i)

end Cert.Kernel.Entry
-- ==== Proof.Main.lean ====
module

public import proofs.«01_k».proof.Proof.Launch
public import proofs.«01_k».proof.Proof.Entry

@[expose] public section
/-!
  The program's run: the host makes the token table, the call on the SparseCores fetches the rows, the host cuts them
  and the weights' last columns, and the last call makes the result.
-/

set_option maxRecDepth 8192
set_option maxHeartbeats 4000000

noncomputable section

namespace Cert.Kernel.Main

open Cert.Kernel Cert.Kernel.Gen Cert.Kernel.Tile Cert.Kernel.Launch

open Idealize.ShloMosaic
open Idealize.ShloMosaic.SparseCore (S V T)
open Idealize.ShloMosaic.SparseCore.Cfg (HIx Pay)
open Idealize.ShloMosaic.StableHlo
open Idealize.ShloMosaic.Pipeline (ucRefs unscopedBufs_held)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-- The token table the host makes on device `d`, and the embedding table there. -/
def tok (d : Dev nD) : Buf (Elt F) (tLoc d) := tokens (m ((d.tc : Thread nD τ).loc main_arg0)) (m ((d.tc : Thread nD τ).loc main_arg1))
abbrev emb (d : Dev nD) : Buf (Elt F) (eLoc d) := m (eLoc d)
abbrev out (d : Dev nD) : Buf (Elt F) (oLoc d) := m (oLoc d)

abbrev P₁ := P (F := F) (tok m) (emb m) (out m)

/-! ## The ghost state -/

/-- No table is fetched ahead of the last call. -/
def adm : (p : Fin 1) → (pcfgs (F := F) p).Adm := fun p => (cfgs p).toPCfg_adm

/-- The last call's transfers in the ghost state. -/
def EP : Emb (UR sig nD τ) (MT nD τ sig (HIx 1) (Elt F) ℕ UU ℕ) := (Emb.inl : Emb (UR sig nD τ) (UR sig nD τ × Counters)).trans embR

instance EP_lands : (EP (F := F)).LandsIn (upEmb : UEmb _ 𝕄) := by unfold EP embR; infer_instance

abbrev inj₁ : Function.Injective (Pipeline.cellOf (nD := nD) (τ := τ) (Pipeline.pin (pcfgs (F := F)) adm)) := cellOf_inj

def u₀ : UU := (initOf (K (F := F)).hsCells (K (F := F)).hsToks,
  (initOf (Pipeline.cells (Pipeline.pin (pcfgs (F := F)) adm) inj₁) (Pipeline.launchToks (Pipeline.pin (pcfgs (F := F)) adm) inj₁), 1))

/-- What the last call is dealt on device `d`. -/
def deal (d : Dev nD) : sProp 𝕄 := iprop(Pipeline.cellsGhost (Pipeline.pin (pcfgs (F := F)) adm) EP 0 d ∗ Pipeline.toksInit (Pipeline.pin (pcfgs (F := F)) adm) EP 0 d)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => deal d)
        ∗ bigSep Finset.univ fun thr : Thread nD τ => bigSep Finset.univ fun q : Fin 1 => (P₁ m).x q thr) := by
  have hf := Pipeline.fund_ghost (Pipeline.pin (pcfgs (F := F)) adm) (EP (F := F)) inj₁
  have hs : (BI.own ((embR : Emb (UR sig nD τ × Counters) 𝕄) (initOf (Pipeline.cells (Pipeline.pin (pcfgs (F := F)) adm) inj₁) (Pipeline.launchToks (Pipeline.pin (pcfgs (F := F)) adm) inj₁), 1)) : sProp 𝕄)
      ⊢ BI.own (EP (F := F) (initOf (Pipeline.cells (Pipeline.pin (pcfgs (F := F)) adm) inj₁) (Pipeline.launchToks (Pipeline.pin (pcfgs (F := F)) adm) inj₁))) :=
    (own_pair_emb (embR : Emb (UR sig nD τ × Counters) 𝕄) (initOf (Pipeline.cells (Pipeline.pin (pcfgs (F := F)) adm) inj₁) (Pipeline.launchToks (Pipeline.pin (pcfgs (F := F)) adm) inj₁)) (1 : Counters)).trans sep_elim_left
  unfold u₀
  iintro Hu
  ihave H := (ownU_pair (initOf (K (F := F)).hsCells (K (F := F)).hsToks) ((initOf (Pipeline.cells (Pipeline.pin (pcfgs (F := F)) adm) inj₁) (Pipeline.launchToks (Pipeline.pin (pcfgs (F := F)) adm) inj₁), 1) : UR sig nD τ × Counters)) $$ Hu
  icases H with ⟨HH, HR⟩
  ihave HP := hs $$ HR
  imod hf $$ HP with ⟨Hg, Ht⟩
  imodintro
  isplitl [HH]; · iexact HH
  isplitl [Hg Ht]
  · unfold deal
    rw [bigSep_sep']
    isplitl [Hg]
    · iapply (Entails.of_eq (bigSep_congr fun (d : Dev nD) _ => bigSep_univ_of_subsingleton (Φ := fun p : Fin 1 => Pipeline.cellsGhost (Pipeline.pin (pcfgs (F := F)) adm) EP p d) (0 : Fin 1))) $$ Hg
    · iapply (Entails.of_eq (bigSep_congr fun (d : Dev nD) _ => bigSep_univ_of_subsingleton (Φ := fun p : Fin 1 => Pipeline.toksInit (Pipeline.pin (pcfgs (F := F)) adm) EP p d) (0 : Fin 1))) $$ Ht
  rw [show (bigSep Finset.univ fun thr : Thread nD τ => bigSep Finset.univ fun q : Fin 1 => (P₁ m).x q thr) = bigSep Finset.univ fun _ => iprop(emp) from
    bigSep_congr fun _ _ => bigSep_univ_of_subsingleton (0 : Fin 1), emps]
  iempintro

/-! ## The host's operations -/

/-- What device `d`'s buffers hold at the launch, and once the host has made the table. -/
abbrev V₀ (d : Dev nD) : Valuation τ sig (Elt F) := fun b => m (d, b)

abbrev op0 : HloOp τ sig (Elt F) := StableHlo.unary main_arg0 main_v0 ((transpose S256x64 [1, 0] · transposes_S64x256_S256x64_1_0) : (⟨S64x256, .i32⟩ : BufTy).Contents (Elt F) → (⟨S256x64, .i32⟩ : BufTy).Contents (Elt F))
abbrev op1 : HloOp τ sig (Elt F) := StableHlo.unary main_arg1 main_v1 ((transpose S256x64 [1, 0] · transposes_S64x256_S256x64_1_0) : (⟨S64x256, .i32⟩ : BufTy).Contents (Elt F) → (⟨S256x64, .i32⟩ : BufTy).Contents (Elt F))
abbrev op2 : HloOp τ sig (Elt F) := StableHlo.binary main_v0 main_v1 main_v2 ((fun a b => concatenate S512x64 0 [⟨S256x64, a⟩, ⟨S256x64, b⟩] concatenates_S256x64_S256x64_S512x64_d0) : (⟨S256x64, .i32⟩ : BufTy).Contents (Elt F) → (⟨S256x64, .i32⟩ : BufTy).Contents (Elt F) → (⟨S512x64, .i32⟩ : BufTy).Contents (Elt F))
abbrev op3 : HloOp τ sig (Elt F) := StableHlo.unary main_v3 main_v4 ((extractStridedSlice S16384x128 ![0, 0] · slices_S32768x128_S16384x128_0_0) : (⟨S32768x128, .f32⟩ : BufTy).Contents (Elt F) → (⟨S16384x128, .f32⟩ : BufTy).Contents (Elt F))
abbrev op4 : HloOp τ sig (Elt F) := StableHlo.unary main_v3 main_v5 ((extractStridedSlice S16384x128 ![16384, 0] · slices_S32768x128_S16384x128_16384_0) : (⟨S32768x128, .f32⟩ : BufTy).Contents (Elt F) → (⟨S16384x128, .f32⟩ : BufTy).Contents (Elt F))
abbrev op5 : HloOp τ sig (Elt F) := StableHlo.unary main_arg15 main_v6 ((extractStridedSlice S128x1696 ![0, 98304] · slices_S128x100000_S128x1696_0_98304) : (⟨S128x100000, .f32⟩ : BufTy).Contents (Elt F) → (⟨S128x1696, .f32⟩ : BufTy).Contents (Elt F))
abbrev op6 : HloOp τ sig (Elt F) := StableHlo.nullary main_c (constantI S_ 32 0#32)
abbrev op7 : HloOp τ sig (Elt F) := StableHlo.TRef.unary (.of main_c : StableHlo.TRef sig ⟨S_, .i32⟩) (.of main_call0_v0 : StableHlo.TRef sig ⟨S_, .f32⟩) (sitofp .f32)
abbrev op8 : HloOp τ sig (Elt F) := StableHlo.TRef.binary (.of main_v6 : StableHlo.TRef sig ⟨S128x1696, .f32⟩) (.of main_call0_v0 : StableHlo.TRef sig ⟨S_, .f32⟩) (.of main_v7 : StableHlo.TRef sig ⟨S128x4096, .f32⟩) (fun x v => pad S128x4096 ![0, 0] ![0, 2400] ![0, 0] x v pads_S128x1696_S128x4096_000_024000 h_S_)
abbrev op9 : HloOp τ sig (Elt F) := StableHlo.reshape main_arg16 main_v8 (rfl : (.f32 : EltTy) = .f32) shapeCasts_S100000_S1x100000

abbrev early : List (HloOp τ sig (Elt F)) := [op0, op1, op2]
abbrev late : List (HloOp τ sig (Elt F)) := [op3, op4, op5, op6, op7, op8, op9]

abbrev V₁ (d : Dev nD) : Valuation τ sig (Elt F) := after early (V₀ m d)

abbrev bT : DevRef τ sig := Proc.devRef .tc main_v2
abbrev bE : DevRef τ sig := Proc.devRef .tc main_arg2
abbrev bO : DevRef τ sig := Proc.devRef .tc main_v3

/-- After the call on the SparseCores; -/
def V₂ (d : Dev nD) : Valuation τ sig (Elt F) := Function.update (V₁ m d) bO (rowsOf (tok m d) (emb m d))
/-- once the host has cut the rows and the weights; -/
abbrev V₃ (d : Dev nD) : Valuation τ sig (Elt F) := after late (V₂ m d)
abbrev W₃ (c : Dev nD) (b : Ref sig .tc) : Buf (Elt F) ((c.tc : Thread nD τ).loc b) := V₃ m c (Proc.devRef .tc b)
/-- and at the end. -/
def V₄ (d : Dev nD) : Valuation τ sig (Elt F) := Function.update (V₃ m d) (Proc.devRef .tc main_v9) (Entry.final (W₃ m) d)

theorem early_sub : ∀ op ∈ early (F := F), op.bufs ⊆ ucRefs τ sig := by
  intro op h
  simp only [List.mem_cons, List.not_mem_nil, or_false] at h
  rcases h with rfl | rfl | rfl
  · exact show ({Proc.devRef .tc main_arg0, Proc.devRef .tc main_v0} : Finset (DevRef τ sig)) ⊆ ucRefs τ sig by decide
  · exact show ({Proc.devRef .tc main_arg1, Proc.devRef .tc main_v1} : Finset (DevRef τ sig)) ⊆ ucRefs τ sig by decide
  · exact show ({Proc.devRef .tc main_v0, Proc.devRef .tc main_v1, Proc.devRef .tc main_v2} : Finset (DevRef τ sig)) ⊆ ucRefs τ sig by decide

theorem late_sub : ∀ op ∈ late (F := F), op.bufs ⊆ ucRefs τ sig := by
  intro op h
  simp only [List.mem_cons, List.not_mem_nil, or_false] at h
  rcases h with rfl | rfl | rfl | rfl | rfl | rfl | rfl
  · exact show ({Proc.devRef .tc main_v3, Proc.devRef .tc main_v4} : Finset (DevRef τ sig)) ⊆ ucRefs τ sig by decide
  · exact show ({Proc.devRef .tc main_v3, Proc.devRef .tc main_v5} : Finset (DevRef τ sig)) ⊆ ucRefs τ sig by decide
  · exact show ({Proc.devRef .tc main_arg15, Proc.devRef .tc main_v6} : Finset (DevRef τ sig)) ⊆ ucRefs τ sig by decide
  · exact show ({Proc.devRef .tc main_c} : Finset (DevRef τ sig)) ⊆ ucRefs τ sig by decide
  · exact show ({Proc.devRef .tc main_c, Proc.devRef .tc main_call0_v0} : Finset (DevRef τ sig)) ⊆ ucRefs τ sig by decide
  · exact show ({Proc.devRef .tc main_v6, Proc.devRef .tc main_call0_v0, Proc.devRef .tc main_v7} : Finset (DevRef τ sig)) ⊆ ucRefs τ sig by decide
  · exact show ({Proc.devRef .tc main_arg16, Proc.devRef .tc main_v8} : Finset (DevRef τ sig)) ⊆ ucRefs τ sig by decide

theorem early_fresh : ∀ op ∈ early (F := F), op.fresh = ∅ := by
  intro op h
  simp only [List.mem_cons, List.not_mem_nil, or_false] at h
  rcases h with rfl | rfl | rfl <;> rfl

theorem late_fresh : ∀ op ∈ late (F := F), op.fresh = ∅ := by
  intro op h
  simp only [List.mem_cons, List.not_mem_nil, or_false] at h
  rcases h with rfl | rfl | rfl | rfl | rfl | rfl | rfl <;> rfl

theorem V₁_T (d : Dev nD) : V₁ m d bT = tok m d := by
  have h : after [op0, op1, op2] (V₀ m d) bT = tok m d := by after_results_simp; rfl
  exact h
theorem V₁_E (d : Dev nD) : V₁ m d bE = emb m d := by
  have h : after [op0, op1, op2] (V₀ m d) bE = emb m d := by after_results_simp
  exact h
theorem V₁_O (d : Dev nD) : V₁ m d bO = out m d := by
  have h : after [op0, op1, op2] (V₀ m d) bO = out m d := by after_results_simp
  exact h

/-- The call's three arrays out of the device's buffers. -/
abbrev three : Finset (DevRef τ sig) := {bT, bE, bO}
theorem three_sub : three ⊆ ucRefs τ sig := by decide

theorem held_three (d : Dev nD) (V : Valuation τ sig (Elt F)) :
    (held (d.tc : Thread nD τ) three V : sProp 𝕄) = iprop((tLoc d ↦{fullShare} V bT) ∗ (eLoc d ↦{fullShare} V bE) ∗ (oLoc d ↦{fullShare} V bO)) := by
  unfold held three
  rw [SparseCore.bigSep_insert' (by decide), SparseCore.bigSep_insert' (by decide), bigSep_singleton]

theorem V₂_T (d : Dev nD) : V₂ m d bT = tok m d := (Function.update_of_ne (by decide) _ _).trans (V₁_T m d)
theorem V₂_E (d : Dev nD) : V₂ m d bE = emb m d := (Function.update_of_ne (by decide) _ _).trans (V₁_E m d)
theorem V₂_O (d : Dev nD) : V₂ m d bO = rowsOf (tok m d) (emb m d) := Function.update_self _ _ _

theorem held_call (d : Dev nD) : (iprop(((tLoc d ↦{fullShare} tok m d) ∗ (eLoc d ↦{fullShare} emb m d) ∗ (oLoc d ↦{fullShare} rowsOf (tok m d) (emb m d)))
    ∗ held (d.tc : Thread nD τ) (ucRefs τ sig \ three) (V₁ m d)) : sProp 𝕄) ⊢ held (d.tc : Thread nD τ) (ucRefs τ sig) (V₂ m d) := by
  rw [held_sub_split (d.tc : Thread nD τ) three_sub (V₂ m d), held_three, V₂_T, V₂_E, V₂_O,
    held_congr (d.tc : Thread nD τ) (V := V₂ m d) (V' := V₁ m d) (S := ucRefs τ sig \ three) fun b hb => Function.update_of_ne (by rintro rfl; exact absurd hb (by decide)) _ _]

/-! ## The thread's state around the last call -/

theorem open₁ (d : Dev nD) : (K (F := F)).tcSt EH d 1
    ⊢ (iprop((∃ W, owes (d.tc : Thread nD τ) (0 : CellTallies nD τ sig (HIx 1)) W)
      ∗ ((∃ W, owes (d.tc : Thread nD τ) (0 : CellTallies nD τ sig (HIx 1)) W) -∗ (K (F := F)).tcSt EH d 1)) : sProp 𝕄) := by
  unfold SparseCore.Cfg.tcSt
  rw [(K (F := F)).Otc_end d (le_refl 1)]
  iintro ⟨⟨%W, -, HO⟩, Hrest⟩
  isplitl [HO]; · iexists W; iexact HO
  iintro ⟨%W', HO⟩
  isplitl [HO]
  · iexists W'
    isplitr
    · ipureintro
      intro p _
      show (K (F := F)).lev _ p.2 ≤ 8 * 1
      cases h : p.2 with
      | none => exact Nat.zero_le _
      | some q => have := (K (F := F)).lev_some_le ((SparseCore.T d : Thread nD τ), p.1) q; have hq := q.isLt; omega
    iexact HO
  iexact Hrest

end Cert.Kernel.Main
-- ==== Proof.Close.lean ====
module

public import proofs.«01_k».proof.Proof.Main

@[expose] public section
/-! # The whole run -/

set_option maxRecDepth 8192
set_option maxHeartbeats 4000000

noncomputable section

namespace Cert.Kernel.Close

open Cert.Kernel Cert.Kernel.Gen Cert.Kernel.Tile Cert.Kernel.Launch Cert.Kernel.Main

open Idealize.ShloMosaic
open Idealize.ShloMosaic.SparseCore (S V T)
open Idealize.ShloMosaic.SparseCore.Cfg (HIx Pay)
open Idealize.ShloMosaic.StableHlo
open Idealize.ShloMosaic.Pipeline (ucRefs unscopedBufs_held)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-- The last call as a segment of the program. -/
def seg := Entry.reg (W₃ m) (fun c b => V₄ m c (Proc.devRef .tc b)) adm (K (F := F)).L (K (F := F)).lev
    (fun c => (Function.update_self _ _ _).trans (Entry.final_eq (W₃ m) c).symm)
    (fun c b hb => Function.update_of_ne (fun h => hb (Proc.devRef_injective _ h)) _ _)

set_option backward.isDefEq.respectTransparency.types false in
/-- The last call, from what the device was dealt for it. -/
theorem last [∀ e, Nonempty (Elt F e)] (d : Dev nD) (Q : PUnit → sProp 𝕄) :
    (iprop((iprop(boundary (d.tc : Thread nD τ) ∗ held (d.tc : Thread nD τ) (ucRefs τ sig) (V₄ m d) ∗ (∃ W, owes (d.tc : Thread nD τ) (0 : CellTallies nD τ sig (HIx 1)) W)) -∗ Q ⟨⟩)
      ∗ boundary (d.tc : Thread nD τ) ∗ held (d.tc : Thread nD τ) (ucRefs τ sig) (V₃ m d) ∗ (∃ W, owes (d.tc : Thread nD τ) (0 : CellTallies nD τ sig (HIx 1)) W)
      ∗ levAts (K (F := F)).L (K (F := F)).lev ∗ deal d) : sProp 𝕄)
      ⊢ wp frame (wpE ((K (F := F)).defs (D (F := F))) 𝒱 (SparseCore.T d) none) Set.univ (Prog.lift (.customCall (SparseCore.inner (Pipeline.entry 0)) ())) Q := by
  have hlift := (K (F := F)).wp_liftProg (D (F := F)) 𝒱 (SparseCore.T d : Thread nD τ) (Set.univ : Set ℕ) none (.op (.customCall (Pipeline.entry 0) ()) fun x => .ret x) Q
  refine BIBase.Entails.trans ?_ hlift
  have hreg := Pipeline.RegionSeg.wp (pcfgs (F := F)) adm (Entry.pdats (W₃ m) adm) (default : HIx 1) inj₁ (EP (F := F)) (defs₀ (F := F)) Variants.none (K (F := F)).L (K (F := F)).lev
    (seg m) d none (fun _ h => absurd h (Option.not_mem_none _)) (fun x => .ret x) Q
  refine BIBase.Entails.trans ?_ hreg
  unfold deal
  rw [show (seg m).pre d = iprop(unscopedBufs d (W₃ m d) ∗ ∃ W, owes (d.tc : Thread nD τ) (0 : CellTallies nD τ sig (HIx 1)) W) from rfl,
    show (seg m).post d = iprop(unscopedBufs d (fun b => V₄ m d (Proc.devRef .tc b)) ∗ ∃ W, owes (d.tc : Thread nD τ) (0 : CellTallies nD τ sig (HIx 1)) W) from rfl,
    show (unscopedBufs d (W₃ m d) : sProp 𝕄) = held (d.tc : Thread nD τ) (ucRefs τ sig) (V₃ m d) from unscopedBufs_held (Ix := HIx 1) (Name := ℕ) (U := UU) (Lvl := ℕ) d (V₃ m d),
    show (unscopedBufs d (fun b => V₄ m d (Proc.devRef .tc b)) : sProp 𝕄) = held (d.tc : Thread nD τ) (ucRefs τ sig) (V₄ m d) from unscopedBufs_held (Ix := HIx 1) (Name := ℕ) (U := UU) (Lvl := ℕ) d (V₄ m d)]
  iintro ⟨HQ, Hb, Hh, HO, #Hl, Hg, Ht⟩
  isplitl [HQ]
  · iintro ⟨Hb, Hh, HO⟩
    rw [wp_ret]; imodintro
    iapply HQ
    isplitl [Hb]; · iexact Hb
    isplitl [Hh]; · iexact Hh
    iexact HO
  isplitl [Hb]; · iexact Hb
  isplitl [Hh HO]
  · isplitl [Hh]; · iexact Hh
    iexact HO
  isplitr; · iexact Hl
  isplitl [Hg]; · iexact Hg
  iexact Ht

abbrev FIN (d : Dev nD) : sProp 𝕄 := held (d.tc : Thread nD τ) (ucRefs τ sig) (V₄ m d)

set_option backward.isDefEq.respectTransparency.types false in
theorem hmain [∀ e, Nonempty (Elt F e)] (κ : GSem nD τ sig → ℕ) (d : Dev nD) :
    iprop((K (F := F)).ctx EH (P₁ m) κ ∗ (K (F := F)).tcSt EH d 0 ∗ (K (F := F)).tcRes m ρ d ∗ deal d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (d.tc : Thread nD τ) (ucRefs τ sig) (V₀ m d) from
    unscopedBufs_held (Ix := HIx 1) (Name := ℕ) (U := UU) (Lvl := ℕ) d (V₀ m d)]
  simp only [main, fn_pad.body, wp_bind, wp_pure]
  iintro ⟨#Hctx, Hst, ⟨Hb, Hh, Hts, -⟩, Hd⟩
  iapply (wp_hlo_within 𝒱 (d.tc : Thread nD τ) none Set.univ (op := op0) (early_sub op0 (by simp)) (V := V₀ m d)) $$ [Hb Hh]
  · isplitl [Hb] <;> iassumption
  iintro ⟨Hb, Hh⟩
  rw [wp_ret]; imodintro
  iapply (wp_hlo_within 𝒱 (d.tc : Thread nD τ) none Set.univ (op := op1) (early_sub op1 (by simp)) (V := op0.result (V₀ m d))) $$ [Hb Hh]
  · isplitl [Hb] <;> iassumption
  iintro ⟨Hb, Hh⟩
  rw [wp_ret]; imodintro
  iapply (wp_hlo_within 𝒱 (d.tc : Thread nD τ) none Set.univ (op := op2) (early_sub op2 (by simp)) (V := op1.result (op0.result (V₀ m d)))) $$ [Hb Hh]
  · isplitl [Hb] <;> iassumption
  iintro ⟨Hb, Hh⟩
  rw [wp_ret]; imodintro
  ihave Hh := (Entails.of_eq (show (held (d.tc : Thread nD τ) (ucRefs τ sig) (op2.result (op1.result (op0.result (V₀ m d)))) : sProp 𝕄) = held (d.tc : Thread nD τ) (ucRefs τ sig) (V₁ m d) from rfl)) $$ Hh
  ihave Hh' := (Entails.of_eq (held_sub_split (d.tc : Thread nD τ) three_sub (V₁ m d))) $$ Hh
  icases Hh' with ⟨H3, Hr⟩
  ihave H3' := (Entails.of_eq ((held_three d (V₁ m d)).trans (by rw [V₁_T, V₁_E, V₁_O]))) $$ H3
  iapply ((K (F := F)).wp_run (D (F := F)) 𝒱 (EH := EH) (P := P₁ m) κ d 0) $$ [Hst H3' Hr Hd Hb Hts]
  isplitr; · iexact Hctx
  isplitl [Hst]; · iexact Hst
  isplitl [H3']
  · rw [st_eq]; iexact H3'
  iintro ⟨Hst, Hdn⟩
  ihave Hdn' := (Entails.of_eq (dn_eq (tok m) (emb m) (out m) d)) $$ Hdn
  ihave Hh := (held_call m d) $$ [Hdn' Hr]
  · isplitl [Hdn'] <;> iassumption
  iapply (wp_hlo_within 𝒱 (d.tc : Thread nD τ) none Set.univ (op := op3) (late_sub op3 (by simp)) (V := V₂ m d)) $$ [Hb Hh]
  · isplitl [Hb] <;> iassumption
  iintro ⟨Hb, Hh⟩
  rw [wp_ret]; imodintro
  iapply (wp_hlo_within 𝒱 (d.tc : Thread nD τ) none Set.univ (op := op4) (late_sub op4 (by simp)) (V := op3.result (V₂ m d))) $$ [Hb Hh]
  · isplitl [Hb] <;> iassumption
  iintro ⟨Hb, Hh⟩
  rw [wp_ret]; imodintro
  iapply (wp_hlo_within 𝒱 (d.tc : Thread nD τ) none Set.univ (op := op5) (late_sub op5 (by simp)) (V := op4.result (op3.result (V₂ m d)))) $$ [Hb Hh]
  · isplitl [Hb] <;> iassumption
  iintro ⟨Hb, Hh⟩
  rw [wp_ret]; imodintro
  iapply (wp_hlo_within 𝒱 (d.tc : Thread nD τ) none Set.univ (op := op6) (late_sub op6 (by simp)) (V := op5.result (op4.result (op3.result (V₂ m d))))) $$ [Hb Hh]
  · isplitl [Hb] <;> iassumption
  iintro ⟨Hb, Hh⟩
  rw [wp_ret]; imodintro
  iapply (wp_hlo_within 𝒱 (d.tc : Thread nD τ) none Set.univ (op := op7) (late_sub op7 (by simp)) (V := op6.result (op5.result (op4.result (op3.result (V₂ m d)))))) $$ [Hb Hh]
  · isplitl [Hb] <;> iassumption
  iintro ⟨Hb, Hh⟩
  rw [wp_ret]; imodintro
  iapply (wp_hlo_within 𝒱 (d.tc : Thread nD τ) none Set.univ (op := op8) (late_sub op8 (by simp)) (V := op7.result (op6.result (op5.result (op4.result (op3.result (V₂ m d))))))) $$ [Hb Hh]
  · isplitl [Hb] <;> iassumption
  iintro ⟨Hb, Hh⟩
  rw [wp_ret]; imodintro; imodintro
  iapply (wp_hlo_within 𝒱 (d.tc : Thread nD τ) none Set.univ (op := op9) (late_sub op9 (by simp)) (V := op8.result (op7.result (op6.result (op5.result (op4.result (op3.result (V₂ m d)))))))) $$ [Hb Hh]
  · isplitl [Hb] <;> iassumption
  iintro ⟨Hb, Hh⟩
  rw [wp_ret]; imodintro
  ihave Hh := (Entails.of_eq (show (held (d.tc : Thread nD τ) (ucRefs τ sig) (op9.result (op8.result (op7.result (op6.result (op5.result (op4.result (op3.result (V₂ m d)))))))) : sProp 𝕄) = held (d.tc : Thread nD τ) (ucRefs τ sig) (V₃ m d) from rfl)) $$ Hh
  ihave Hst := (Entails.of_eq (show ((K (F := F)).tcSt EH d ((0 : Fin 1).val + 1) : sProp 𝕄) = (K (F := F)).tcSt EH d 1 from rfl)) $$ Hst
  ihave Hst' := (open₁ d) $$ Hst
  icases Hst' with ⟨HO, Hst⟩
  ihave Hl := (SparseCore.Cfg.ctx_levAts (K := K (F := F)) (EH := EH) (P := P₁ m) κ) $$ Hctx
  iapply (last m d)
  isplitl [Hst Hts]
  · iintro ⟨Hb, Hh, HO⟩
    imodintro
    isplitl [Hst HO]; · iapply Hst; iexact HO
    isplitl [Hh]; · iexact Hh
    isplitl [Hb] <;> iassumption
  isplitl [Hb]; · iexact Hb
  isplitl [Hh]; · iexact Hh
  isplitl [HO]; · iexact HO
  isplitl [Hl]; · iexact Hl
  iexact Hd

def fq (d : Dev nD) (s' : Phys nD τ sig (Elt F)) : Prop := ∀ b ∈ ucRefs τ sig, s'.mem.mem (d, b) = V₄ m d b

theorem hfin (d : Dev nD) (s' : Phys nD τ sig (Elt F)) : iprop(FIN m d ∗ SI s') ⊢ (⌜fq m d s'⌝ : sProp 𝕄) := by
  have h := pointsTo_read_all (Ix := HIx 1) (Name := ℕ) (U := UU) (Lvl := ℕ) (ucRefs τ sig) (fun b => ((d, b) : Loc nD τ sig)) (V₄ m d) s'
  refine (show iprop(FIN m d ∗ SI s') ⊢ _ from h).trans ?_
  iintro ⟨%h, -⟩
  ipureintro; exact h

def QC : PUnit × MemSt nD τ sig (Elt F) → Prop := fun r => (∀ d : Dev nD, ∀ b ∈ ucRefs τ sig, r.2.mem (d, b) = V₄ m d b) ∧ r.2.sem = fun _ => 0

theorem run [∀ e, Nonempty (Elt F e)] (ht : ∀ d, InTable (tok m d)) :
    θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P₁ m) (A := ∅) facts v₀
    (fun q hq => match q with | 0 => nomatch hq)
    (fun q _ => match q with | 0 => tileObl (tok m) (emb m) (out m) facts ht)
    (fun q _ => match q with | 0 => SparseCore.Cfg.VecSplit.of_plain (vecSplit (tok m) (emb m) (out m)))
    m ρ main (fun d => deal d) (FIN m) (u₀ (F := F)) (sep_elim_left.trans (hu₀ m)) (hmain m ρ) (fq m) (hfin m) (QC m) (fun _ h hz => ⟨h, hz⟩)

end Cert.Kernel.Close
-- ==== Proof.Ends.lean ====
module

public import proofs.«01_k».proof.Proof.Close

@[expose] public section
/-! # What the run leaves in the arguments -/

set_option maxRecDepth 8192
set_option maxHeartbeats 4000000

noncomputable section

namespace Cert.Kernel.Ends

open Cert.Kernel Cert.Kernel.Gen Cert.Kernel.Tile Cert.Kernel.Launch Cert.Kernel.Main
open Idealize.ShloMosaic Idealize.ShloMosaic.TcCoe Idealize.ShloMosaic.StableHlo
open Idealize.ShloMosaic.Pipeline (ucRefs)

variable {F : FTy → Type} [FloatOps F] (m : (ℓ : Loc nD τ sig) → Buf (Elt F) ℓ) (d : Dev nD)

/-! ## No operation writes an argument -/

theorem late_0 : V₃ m d (Proc.devRef .tc main_arg0) = m ((d.tc : Thread nD τ).loc main_arg0) := by
  have h : after [op3, op4, op5, op6, op7, op8, op9] (V₂ m d) (Proc.devRef .tc main_arg0) = V₂ m d (Proc.devRef .tc main_arg0) := by after_results_simp
  have g : after [op0, op1, op2] (V₀ m d) (Proc.devRef .tc main_arg0) = V₀ m d (Proc.devRef .tc main_arg0) := by after_results_simp
  exact h.trans ((Function.update_of_ne (by decide) _ _).trans g)
theorem end_0 : V₄ m d (Proc.devRef .tc main_arg0) = m ((d.tc : Thread nD τ).loc main_arg0) := (Function.update_of_ne (by decide) _ _).trans (late_0 m d)

theorem late_1 : V₃ m d (Proc.devRef .tc main_arg1) = m ((d.tc : Thread nD τ).loc main_arg1) := by
  have h : after [op3, op4, op5, op6, op7, op8, op9] (V₂ m d) (Proc.devRef .tc main_arg1) = V₂ m d (Proc.devRef .tc main_arg1) := by after_results_simp
  have g : after [op0, op1, op2] (V₀ m d) (Proc.devRef .tc main_arg1) = V₀ m d (Proc.devRef .tc main_arg1) := by after_results_simp
  exact h.trans ((Function.update_of_ne (by decide) _ _).trans g)
theorem end_1 : V₄ m d (Proc.devRef .tc main_arg1) = m ((d.tc : Thread nD τ).loc main_arg1) := (Function.update_of_ne (by decide) _ _).trans (late_1 m d)

theorem late_2 : V₃ m d (Proc.devRef .tc main_arg2) = m ((d.tc : Thread nD τ).loc main_arg2) := by
  have h : after [op3, op4, op5, op6, op7, op8, op9] (V₂ m d) (Proc.devRef .tc main_arg2) = V₂ m d (Proc.devRef .tc main_arg2) := by after_results_simp
  have g : after [op0, op1, op2] (V₀ m d) (Proc.devRef .tc main_arg2) = V₀ m d (Proc.devRef .tc main_arg2) := by after_results_simp
  exact h.trans ((Function.update_of_ne (by decide) _ _).trans g)
theorem end_2 : V₄ m d (Proc.devRef .tc main_arg2) = m ((d.tc : Thread nD τ).loc main_arg2) := (Function.update_of_ne (by decide) _ _).trans (late_2 m d)

theorem late_3 : V₃ m d (Proc.devRef .tc main_arg3) = m ((d.tc : Thread nD τ).loc main_arg3) := by
  have h : after [op3, op4, op5, op6, op7, op8, op9] (V₂ m d) (Proc.devRef .tc main_arg3) = V₂ m d (Proc.devRef .tc main_arg3) := by after_results_simp
  have g : after [op0, op1, op2] (V₀ m d) (Proc.devRef .tc main_arg3) = V₀ m d (Proc.devRef .tc main_arg3) := by after_results_simp
  exact h.trans ((Function.update_of_ne (by decide) _ _).trans g)
theorem end_3 : V₄ m d (Proc.devRef .tc main_arg3) = m ((d.tc : Thread nD τ).loc main_arg3) := (Function.update_of_ne (by decide) _ _).trans (late_3 m d)

theorem late_4 : V₃ m d (Proc.devRef .tc main_arg4) = m ((d.tc : Thread nD τ).loc main_arg4) := by
  have h : after [op3, op4, op5, op6, op7, op8, op9] (V₂ m d) (Proc.devRef .tc main_arg4) = V₂ m d (Proc.devRef .tc main_arg4) := by after_results_simp
  have g : after [op0, op1, op2] (V₀ m d) (Proc.devRef .tc main_arg4) = V₀ m d (Proc.devRef .tc main_arg4) := by after_results_simp
  exact h.trans ((Function.update_of_ne (by decide) _ _).trans g)
theorem end_4 : V₄ m d (Proc.devRef .tc main_arg4) = m ((d.tc : Thread nD τ).loc main_arg4) := (Function.update_of_ne (by decide) _ _).trans (late_4 m d)

theorem late_5 : V₃ m d (Proc.devRef .tc main_arg5) = m ((d.tc : Thread nD τ).loc main_arg5) := by
  have h : after [op3, op4, op5, op6, op7, op8, op9] (V₂ m d) (Proc.devRef .tc main_arg5) = V₂ m d (Proc.devRef .tc main_arg5) := by after_results_simp
  have g : after [op0, op1, op2] (V₀ m d) (Proc.devRef .tc main_arg5) = V₀ m d (Proc.devRef .tc main_arg5) := by after_results_simp
  exact h.trans ((Function.update_of_ne (by decide) _ _).trans g)
theorem end_5 : V₄ m d (Proc.devRef .tc main_arg5) = m ((d.tc : Thread nD τ).loc main_arg5) := (Function.update_of_ne (by decide) _ _).trans (late_5 m d)

theorem late_6 : V₃ m d (Proc.devRef .tc main_arg6) = m ((d.tc : Thread nD τ).loc main_arg6) := by
  have h : after [op3, op4, op5, op6, op7, op8, op9] (V₂ m d) (Proc.devRef .tc main_arg6) = V₂ m d (Proc.devRef .tc main_arg6) := by after_results_simp
  have g : after [op0, op1, op2] (V₀ m d) (Proc.devRef .tc main_arg6) = V₀ m d (Proc.devRef .tc main_arg6) := by after_results_simp
  exact h.trans ((Function.update_of_ne (by decide) _ _).trans g)
theorem end_6 : V₄ m d (Proc.devRef .tc main_arg6) = m ((d.tc : Thread nD τ).loc main_arg6) := (Function.update_of_ne (by decide) _ _).trans (late_6 m d)

theorem late_7 : V₃ m d (Proc.devRef .tc main_arg7) = m ((d.tc : Thread nD τ).loc main_arg7) := by
  have h : after [op3, op4, op5, op6, op7, op8, op9] (V₂ m d) (Proc.devRef .tc main_arg7) = V₂ m d (Proc.devRef .tc main_arg7) := by after_results_simp
  have g : after [op0, op1, op2] (V₀ m d) (Proc.devRef .tc main_arg7) = V₀ m d (Proc.devRef .tc main_arg7) := by after_results_simp
  exact h.trans ((Function.update_of_ne (by decide) _ _).trans g)
theorem end_7 : V₄ m d (Proc.devRef .tc main_arg7) = m ((d.tc : Thread nD τ).loc main_arg7) := (Function.update_of_ne (by decide) _ _).trans (late_7 m d)

theorem late_8 : V₃ m d (Proc.devRef .tc main_arg8) = m ((d.tc : Thread nD τ).loc main_arg8) := by
  have h : after [op3, op4, op5, op6, op7, op8, op9] (V₂ m d) (Proc.devRef .tc main_arg8) = V₂ m d (Proc.devRef .tc main_arg8) := by after_results_simp
  have g : after [op0, op1, op2] (V₀ m d) (Proc.devRef .tc main_arg8) = V₀ m d (Proc.devRef .tc main_arg8) := by after_results_simp
  exact h.trans ((Function.update_of_ne (by decide) _ _).trans g)
theorem end_8 : V₄ m d (Proc.devRef .tc main_arg8) = m ((d.tc : Thread nD τ).loc main_arg8) := (Function.update_of_ne (by decide) _ _).trans (late_8 m d)

theorem late_9 : V₃ m d (Proc.devRef .tc main_arg9) = m ((d.tc : Thread nD τ).loc main_arg9) := by
  have h : after [op3, op4, op5, op6, op7, op8, op9] (V₂ m d) (Proc.devRef .tc main_arg9) = V₂ m d (Proc.devRef .tc main_arg9) := by after_results_simp
  have g : after [op0, op1, op2] (V₀ m d) (Proc.devRef .tc main_arg9) = V₀ m d (Proc.devRef .tc main_arg9) := by after_results_simp
  exact h.trans ((Function.update_of_ne (by decide) _ _).trans g)
theorem end_9 : V₄ m d (Proc.devRef .tc main_arg9) = m ((d.tc : Thread nD τ).loc main_arg9) := (Function.update_of_ne (by decide) _ _).trans (late_9 m d)

theorem late_10 : V₃ m d (Proc.devRef .tc main_arg10) = m ((d.tc : Thread nD τ).loc main_arg10) := by
  have h : after [op3, op4, op5, op6, op7, op8, op9] (V₂ m d) (Proc.devRef .tc main_arg10) = V₂ m d (Proc.devRef .tc main_arg10) := by after_results_simp
  have g : after [op0, op1, op2] (V₀ m d) (Proc.devRef .tc main_arg10) = V₀ m d (Proc.devRef .tc main_arg10) := by after_results_simp
  exact h.trans ((Function.update_of_ne (by decide) _ _).trans g)
theorem end_10 : V₄ m d (Proc.devRef .tc main_arg10) = m ((d.tc : Thread nD τ).loc main_arg10) := (Function.update_of_ne (by decide) _ _).trans (late_10 m d)

theorem late_11 : V₃ m d (Proc.devRef .tc main_arg11) = m ((d.tc : Thread nD τ).loc main_arg11) := by
  have h : after [op3, op4, op5, op6, op7, op8, op9] (V₂ m d) (Proc.devRef .tc main_arg11) = V₂ m d (Proc.devRef .tc main_arg11) := by after_results_simp
  have g : after [op0, op1, op2] (V₀ m d) (Proc.devRef .tc main_arg11) = V₀ m d (Proc.devRef .tc main_arg11) := by after_results_simp
  exact h.trans ((Function.update_of_ne (by decide) _ _).trans g)
theorem end_11 : V₄ m d (Proc.devRef .tc main_arg11) = m ((d.tc : Thread nD τ).loc main_arg11) := (Function.update_of_ne (by decide) _ _).trans (late_11 m d)

theorem late_12 : V₃ m d (Proc.devRef .tc main_arg12) = m ((d.tc : Thread nD τ).loc main_arg12) := by
  have h : after [op3, op4, op5, op6, op7, op8, op9] (V₂ m d) (Proc.devRef .tc main_arg12) = V₂ m d (Proc.devRef .tc main_arg12) := by after_results_simp
  have g : after [op0, op1, op2] (V₀ m d) (Proc.devRef .tc main_arg12) = V₀ m d (Proc.devRef .tc main_arg12) := by after_results_simp
  exact h.trans ((Function.update_of_ne (by decide) _ _).trans g)
theorem end_12 : V₄ m d (Proc.devRef .tc main_arg12) = m ((d.tc : Thread nD τ).loc main_arg12) := (Function.update_of_ne (by decide) _ _).trans (late_12 m d)

theorem late_13 : V₃ m d (Proc.devRef .tc main_arg13) = m ((d.tc : Thread nD τ).loc main_arg13) := by
  have h : after [op3, op4, op5, op6, op7, op8, op9] (V₂ m d) (Proc.devRef .tc main_arg13) = V₂ m d (Proc.devRef .tc main_arg13) := by after_results_simp
  have g : after [op0, op1, op2] (V₀ m d) (Proc.devRef .tc main_arg13) = V₀ m d (Proc.devRef .tc main_arg13) := by after_results_simp
  exact h.trans ((Function.update_of_ne (by decide) _ _).trans g)
theorem end_13 : V₄ m d (Proc.devRef .tc main_arg13) = m ((d.tc : Thread nD τ).loc main_arg13) := (Function.update_of_ne (by decide) _ _).trans (late_13 m d)

theorem late_14 : V₃ m d (Proc.devRef .tc main_arg14) = m ((d.tc : Thread nD τ).loc main_arg14) := by
  have h : after [op3, op4, op5, op6, op7, op8, op9] (V₂ m d) (Proc.devRef .tc main_arg14) = V₂ m d (Proc.devRef .tc main_arg14) := by after_results_simp
  have g : after [op0, op1, op2] (V₀ m d) (Proc.devRef .tc main_arg14) = V₀ m d (Proc.devRef .tc main_arg14) := by after_results_simp
  exact h.trans ((Function.update_of_ne (by decide) _ _).trans g)
theorem end_14 : V₄ m d (Proc.devRef .tc main_arg14) = m ((d.tc : Thread nD τ).loc main_arg14) := (Function.update_of_ne (by decide) _ _).trans (late_14 m d)

theorem late_15 : V₃ m d (Proc.devRef .tc main_arg15) = m ((d.tc : Thread nD τ).loc main_arg15) := by
  have h : after [op3, op4, op5, op6, op7, op8, op9] (V₂ m d) (Proc.devRef .tc main_arg15) = V₂ m d (Proc.devRef .tc main_arg15) := by after_results_simp
  have g : after [op0, op1, op2] (V₀ m d) (Proc.devRef .tc main_arg15) = V₀ m d (Proc.devRef .tc main_arg15) := by after_results_simp
  exact h.trans ((Function.update_of_ne (by decide) _ _).trans g)
theorem end_15 : V₄ m d (Proc.devRef .tc main_arg15) = m ((d.tc : Thread nD τ).loc main_arg15) := (Function.update_of_ne (by decide) _ _).trans (late_15 m d)

theorem late_16 : V₃ m d (Proc.devRef .tc main_arg16) = m ((d.tc : Thread nD τ).loc main_arg16) := by
  have h : after [op3, op4, op5, op6, op7, op8, op9] (V₂ m d) (Proc.devRef .tc main_arg16) = V₂ m d (Proc.devRef .tc main_arg16) := by after_results_simp
  have g : after [op0, op1, op2] (V₀ m d) (Proc.devRef .tc main_arg16) = V₀ m d (Proc.devRef .tc main_arg16) := by after_results_simp
  exact h.trans ((Function.update_of_ne (by decide) _ _).trans g)
theorem end_16 : V₄ m d (Proc.devRef .tc main_arg16) = m ((d.tc : Thread nD τ).loc main_arg16) := (Function.update_of_ne (by decide) _ _).trans (late_16 m d)

theorem result : V₄ m d (Proc.devRef .tc main_v9) = Entry.final (W₃ m) d := Function.update_self _ _ _

end Cert.Kernel.Ends

end
-- ==== Proof.Same.lean ====
module

public import proofs.«01_k».proof.Proof.Close
public import proofs.«01_k».proof.Proof.Gen.KernelIdeal

@[expose] public section
/-! # The idealization's run

The idealization is the same text as the kernel, so what the kernel is proved to do at any floats it does too. -/

set_option maxRecDepth 100000
set_option maxHeartbeats 4000000
set_option smartUnfolding false

noncomputable section

namespace Cert.Same

open Idealize.ShloMosaic Idealize.SL.Sem

variable {F : FTy → Type} [FloatOps F]

/-- Both programs call the same bodies. -/
theorem defs_same : Cert.KernelIdeal.defs (F := F) = Cert.Kernel.defs (F := F) := rfl

/-- Both programs run the same threads. -/
theorem threads_same : Cert.KernelIdeal.threads (F := F) = Cert.Kernel.threads (F := F) := rfl

/-- The idealization's run, from the kernel's. -/
theorem run [∀ e, Nonempty (Elt F e)] (m : (ℓ : Loc Cert.Kernel.nD Cert.Kernel.τ Cert.Kernel.sig) → Buf (Elt F) ℓ) (ρ : Dev Cert.Kernel.nD → PrngReg)
    (ht : ∀ d, Cert.Kernel.Tile.InTable (Cert.Kernel.Main.tok m d)) :
    θ_run (Cert.KernelIdeal.defs (F := F)) (Cert.KernelIdeal.threads (F := F)) ⟨m, fun _ => 0, ρ⟩ (Cert.Kernel.Close.QC m) :=
  Cert.Kernel.Close.run m ρ ht

end Cert.Same

end
-- ==== Proof.Gates.lean ====
/-
  The gate functions on the extended reals: the two spellings of the logistic agree, and two spellings of a blend of real values agree.
-/
module

public import Idealize.ShloMosaic.Lib.IdealHost
public import Mathlib.Analysis.SpecialFunctions.Trigonometric.DerivHyp

@[expose] public section

noncomputable section

namespace Cert.Gates

open Idealize.ShloMosaic

/-- The half the kernel scales by. -/
theorem half_eq : Ideal.ofBits .f32 0x3F000000#32 = ((1 / 2 : ℝ) : EReal) := by
  simp [Ideal.ofBits, Ideal.ieee, -EReal.coe_mul]; norm_num

/-- The logistic of a real number, in both spellings. -/
theorem logistic_real (v : ℝ) : 1 / 2 * Real.tanh (1 / 2 * v) + 1 / 2 = 1 / (1 + Real.exp (-v)) := by
  have hp : 0 < Real.exp (1 / 2 * v) := Real.exp_pos _
  have e2 : Real.exp (-v) = (Real.exp (1 / 2 * v))⁻¹ * (Real.exp (1 / 2 * v))⁻¹ := by
    rw [← Real.exp_neg, ← Real.exp_add]; congr 1; ring
  rw [Real.tanh_eq_sinh_div_cosh, Real.sinh_eq, Real.cosh_eq, e2, Real.exp_neg]
  generalize Real.exp (1 / 2 * v) = a at hp
  have h1 : a + a⁻¹ ≠ 0 := by positivity
  have h2 : 1 + a⁻¹ * a⁻¹ ≠ 0 := by positivity
  field_simp
  ring

/-- The logistic as a quotient. -/
def logi (v : EReal) : EReal := Ideal.div 1 (1 + Ideal.exp (-v))

theorem logi_coe (v : ℝ) : logi v = ((1 / (1 + Real.exp (-v)) : ℝ) : EReal) := by
  have hp : (1 + Real.exp (-v) : ℝ) ≠ 0 := by positivity
  unfold logi
  rw [show (1 : EReal) + Ideal.exp (-(v : EReal)) = ((1 + Real.exp (-v) : ℝ) : EReal) from rfl, Ideal.div_coe hp, one_mul]

theorem logi_top : logi ⊤ = 1 := by
  unfold logi
  rw [show (1 : EReal) + Ideal.exp (-⊤) = ((1 : ℝ) : EReal) from by rw [EReal.neg_top]; exact add_zero _, Ideal.div_coe one_ne_zero, one_mul]
  norm_num

theorem logi_bot : logi ⊥ = 0 := by
  unfold logi
  rw [EReal.neg_bot, show Ideal.exp ⊤ = ⊤ from rfl, show (1 : EReal) + ⊤ = ⊤ from EReal.coe_add_top 1]
  unfold Ideal.div
  rw [if_neg EReal.top_ne_zero, EReal.inv_top, mul_zero]

/-- The kernel's spelling, by the hyperbolic tangent, is the quotient at every extended real. -/
theorem by_tanh (v : EReal) : Ideal.ofBits .f32 0x3F000000#32 * Ideal.tanh (Ideal.ofBits .f32 0x3F000000#32 * v) + Ideal.ofBits .f32 0x3F000000#32 = logi v := by
  rw [half_eq]
  induction v using EReal.rec with
  | bot =>
    rw [EReal.coe_mul_bot_of_pos (by norm_num), logi_bot, show Ideal.tanh ⊥ = (((-1 : ℝ)) : EReal) from rfl, ← EReal.coe_mul, ← EReal.coe_add]
    norm_num
  | top =>
    rw [EReal.coe_mul_top_of_pos (by norm_num), logi_top, show Ideal.tanh ⊤ = ((1 : ℝ) : EReal) from rfl, ← EReal.coe_mul, ← EReal.coe_add]
    norm_num
  | coe r =>
    rw [← EReal.coe_mul, show Ideal.tanh ((1 / 2 * r : ℝ) : EReal) = ((Real.tanh (1 / 2 * r) : ℝ) : EReal) from rfl, ← EReal.coe_mul, ← EReal.coe_add, logistic_real, logi_coe]

/-- A gate is a real number, -/
theorem logi_real (v : EReal) : ∃ r : ℝ, logi v = r := by
  induction v using EReal.rec with
  | bot => exact ⟨0, logi_bot⟩
  | top => exact ⟨1, logi_top⟩
  | coe r => exact ⟨_, logi_coe r⟩

/-- and so is a candidate. -/
theorem tanh_real (v : EReal) : ∃ r : ℝ, Ideal.tanh v = r := by
  induction v using EReal.rec with
  | bot => exact ⟨-1, rfl⟩
  | top => exact ⟨1, rfl⟩
  | coe r => exact ⟨_, rfl⟩

/-- The next entry of a state: gates `z` and `r` from their sums, the candidate from its two halves. -/
def blend (z r a b h : EReal) : EReal := logi z * h + (1 - logi z) * Ideal.tanh (a + logi r * b)

theorem blend_real (z r a b : EReal) (h : ℝ) : ∃ x : ℝ, blend z r a b h = x := by
  obtain ⟨p, hp⟩ := logi_real z
  obtain ⟨q, hq⟩ := tanh_real (a + logi r * b)
  unfold blend
  rw [hp, hq]
  exact ⟨p * h + (1 - p) * q, rfl⟩

/-- The kernel's blend: the candidate and a gated difference. -/
theorem blend_eq (z r a b : EReal) (h : ℝ) :
    Ideal.tanh (a + logi r * b) + logi z * (h - Ideal.tanh (a + logi r * b)) = blend z r a b h := by
  obtain ⟨p, hp⟩ := logi_real z
  obtain ⟨q, hq⟩ := tanh_real (a + logi r * b)
  unfold blend
  rw [hp, hq]
  show ((q + p * (h - q) : ℝ) : EReal) = ((p * h + (1 - p) * q : ℝ) : EReal)
  congr 1; ring

end Cert.Gates

end
-- ==== Proof.Cells.lean ====
module

public import proofs.«01_k».proof.Proof.Gates
public import proofs.«01_k».proof.Proof.Weights
public import Idealize.ShloMosaic.Lib.MatmulPlain
public import Idealize.ShloMosaic.Lib.IdealHost

@[expose] public section
/-! # One entry of the kernel's next state, on the extended reals: a blend of the same sums the reference forms.
-/

set_option maxRecDepth 8192

noncomputable section

namespace Cert.Kernel.Cells

open Idealize.ShloMosaic Idealize.ShloMosaic.TcCoe Cert.Kernel Cert.Kernel.Gen Cert.Kernel.Steps Cert.Kernel.Weights
open Idealize.ShloMosaic.ValueIdx (ix2 ix3)
open Cert.Gates
open scoped BigOperators

abbrev Xs : Type := (⟨2, ![64, 128]⟩ : Shape).Idx → EReal
abbrev Ks : Type := (⟨2, ![128, 384]⟩ : Shape).Idx → EReal
abbrev Bs : Type := (⟨2, ![2, 384]⟩ : Shape).Idx → EReal

/-- A row against a column, and the column's bias: row 0 of the biases for the input, row 1 for the state. -/
def lin (p : Fin 2) (x : Xs) (K : Ks) (B : Bs) (r : Fin 64) (j : Fin 384) : EReal := (∑ k : Fin 128, x (ix2 r k) * K (ix2 k j)) + B (ix2 p j)

variable (K R : FVec Ideal S128x384 .f32) (B : FVec Ideal S2x384 .f32) (x : FVec Ideal S64x128 .bf16) (h : FVec Ideal S64x128 .f32)

/-- The four gate sums of a row. -/
def sums : FVec Ideal S64x512 .f32 :=
  addf (matmul dot_S64x256_S256x512_S64x512_1_0_0_1_n_n none
      (concatenate S64x256 1 [⟨S64x128, x⟩, ⟨S64x128, truncf .bf16 h bitsLt_bf16_f32⟩] concatenates_S64x128_S64x128_S64x256_d1)
      (shapeCast S256x512 (wcat K R) shapeCasts_S1x256x512_S256x512) (constant S64x512 .f32 0x00000000#32))
    (broadcastTo S64x512 (shapeCast S1x512 (shapeCast S512 (bcat B) shapeCasts_S1x512_S512) shapeCasts_S512_S1x512) broadcasts_S1x512_S64x512)

theorem cell_sums : cell (wcat K R) (bcat B) x h = fun i =>
    let z := extractStridedSlice S64x128 ![0, 0] (sums K R B x h) slices_S64x512_o0_0_S64x128 i
    let r := extractStridedSlice S64x128 ![0, 128] (sums K R B x h) slices_S64x512_o0_128_S64x128 i
    let a := extractStridedSlice S64x128 ![0, 256] (sums K R B x h) slices_S64x512_o0_256_S64x128 i
    let b := extractStridedSlice S64x128 ![0, 384] (sums K R B x h) slices_S64x512_o0_384_S64x128 i
    Ideal.tanh (a + (Ideal.ofBits .f32 0x3F000000#32 * Ideal.tanh (Ideal.ofBits .f32 0x3F000000#32 * r) + Ideal.ofBits .f32 0x3F000000#32) * b)
      + (Ideal.ofBits .f32 0x3F000000#32 * Ideal.tanh (Ideal.ofBits .f32 0x3F000000#32 * z) + Ideal.ofBits .f32 0x3F000000#32)
        * (h i - Ideal.tanh (a + (Ideal.ofBits .f32 0x3F000000#32 * Ideal.tanh (Ideal.ofBits .f32 0x3F000000#32 * r) + Ideal.ofBits .f32 0x3F000000#32) * b)) := by
  rfl

theorem bias_apply (r : Fin 64) (j : Fin 512) :
    broadcastTo S64x512 (shapeCast S1x512 (shapeCast S512 (bcat B) shapeCasts_S1x512_S512) shapeCasts_S512_S1x512) broadcasts_S1x512_S64x512 (ix2 r j) = bcat B (ix2 (0 : Fin 1) j) := by
  refine (broadcastTo_apply _ _ _ (ix2 (0 : Fin 1) j) (fun a => by fin_cases a <;> rfl)).trans ?_
  refine (shapeCast_addUnit_apply ![512] _ _ _).trans ?_
  refine (shapeCast_dropUnit_apply ![512] _ _ _).trans (congrArg (bcat B) (funext fun a => ?_))
  fin_cases a <;> rfl

theorem weight_apply (k : Fin 256) (j : Fin 512) : shapeCast S256x512 (wcat K R) shapeCasts_S1x256x512_S256x512 (ix2 k j) = wcat K R (ix3 (0 : Fin 1) k j) :=
  shapeCast_dropUnit_apply ![256, 512] _ _ _

theorem cat_left (r : Fin 64) (k : Fin 128) :
    concatenate S64x256 1 [⟨S64x128, x⟩, ⟨S64x128, truncf .bf16 h bitsLt_bf16_f32⟩] concatenates_S64x128_S64x128_S64x256_d1 (ix2 r (Fin.castAdd 128 k)) = x (ix2 r k) :=
  concatenate_pair_apply_left (t := S64x256) (s₁ := S64x128) (s₂ := S64x128) 1 _ _ _ _ rfl (ix2 r k) (fun a => by fin_cases a <;> rfl)

theorem cat_right (r : Fin 64) (k : Fin 128) :
    concatenate S64x256 1 [⟨S64x128, x⟩, ⟨S64x128, truncf .bf16 h bitsLt_bf16_f32⟩] concatenates_S64x128_S64x128_S64x256_d1 (ix2 r (Fin.natAdd 128 k)) = h (ix2 r k) :=
  concatenate_pair_apply_right (t := S64x256) (s₁ := S64x128) (s₂ := S64x128) 1 _ _ _ _ rfl rfl (ix2 r k)
    (fun | 0 => fun _ => rfl | 1 => fun hne => absurd rfl hne) (by show k.val + 128 = 128 + k.val; omega)

theorem sums_apply (r : Fin 64) (j : Fin 512) : sums K R B x h (ix2 r j)
    = ((∑ k : Fin 128, x (ix2 r k) * wcat K R (ix3 (0 : Fin 1) (Fin.castAdd 128 k) j)) + ∑ k : Fin 128, h (ix2 r k) * wcat K R (ix3 (0 : Fin 1) (Fin.natAdd 128 k) j))
      + bcat B (ix2 (0 : Fin 1) j) := by
  refine congr_arg₂ (fun p q : EReal => p + q) ?_ (bias_apply B r j)
  refine (Ideal.matmul_plain_apply (M := 64) (K := 256) (N := 512) none _ _ _ r j).trans ?_
  rw [show (constant (F := Ideal) S64x512 .f32 0x00000000#32) (ix2 r j) = (0 : EReal) from Ideal.ofBits_zero_f32, zero_add, Fin.sum_univ_add (a := 128) (b := 128)]
  refine congr_arg₂ (fun p q : EReal => p + q) (Finset.sum_congr rfl fun k _ => ?_) (Finset.sum_congr rfl fun k _ => ?_)
  · rw [weight_apply, cat_left]
  · rw [weight_apply, cat_right]

/-! ## The four ranges of columns -/

theorem w_up (k : Fin 128) (j : Fin 512) (hj : j.val < 384) : wcat K R (ix3 (0 : Fin 1) (Fin.castAdd 128 k) j) = K (ix2 k (⟨j.val, hj⟩ : Fin 384)) := by
  unfold wcat
  refine (dif_pos (show k.val < 128 from k.isLt)).trans ((dif_pos (show j.val < 384 from hj)).trans ?_)
  rfl

theorem w_up_zero (k : Fin 128) (j : Fin 512) (hj : ¬ j.val < 384) : wcat K R (ix3 (0 : Fin 1) (Fin.castAdd 128 k) j) = (0 : EReal) := by
  unfold wcat
  refine (dif_pos (show k.val < 128 from k.isLt)).trans ((dif_neg (show ¬ j.val < 384 from hj)).trans ?_)
  exact Ideal.ofBits_zero_bf16

theorem w_down (k : Fin 128) (j : Fin 512) (hj : j.val < 256) : wcat K R (ix3 (0 : Fin 1) (Fin.natAdd 128 k) j) = R (ix2 k (⟨j.val, by omega⟩ : Fin 384)) := by
  unfold wcat
  refine (dif_neg (show ¬ 128 + k.val < 128 by omega)).trans ((dif_pos (show j.val < 256 from hj)).trans ?_)
  exact congrArg (fun q : Fin 128 => R (ix2 q (⟨j.val, by omega⟩ : Fin 384))) (Fin.ext (by show 128 + k.val - 128 = k.val; omega))

theorem w_down_zero (k : Fin 128) (j : Fin 512) (hj : ¬ j.val < 256) (hj' : j.val < 384) : wcat K R (ix3 (0 : Fin 1) (Fin.natAdd 128 k) j) = (0 : EReal) := by
  unfold wcat
  refine (dif_neg (show ¬ 128 + k.val < 128 by omega)).trans ((dif_neg (show ¬ j.val < 256 from hj)).trans ((dif_pos (show j.val < 384 from hj')).trans ?_))
  exact Ideal.ofBits_zero_bf16

theorem w_down_last (k : Fin 128) (j : Fin 512) (hj : ¬ j.val < 384) : wcat K R (ix3 (0 : Fin 1) (Fin.natAdd 128 k) j) = R (ix2 k (⟨j.val - 128, by omega⟩ : Fin 384)) := by
  unfold wcat
  refine (dif_neg (show ¬ 128 + k.val < 128 by omega)).trans ((dif_neg (show ¬ j.val < 256 by omega)).trans ((dif_neg (show ¬ j.val < 384 from hj)).trans ?_))
  exact congrArg (fun q : Fin 128 => R (ix2 q (⟨j.val - 128, by omega⟩ : Fin 384))) (Fin.ext (by show 128 + k.val - 128 = k.val; omega))

variable (r : Fin 64)

/-- The update and reset gates' columns: both products and both biases. -/
theorem sums_both (j : Fin 256) : sums K R B x h (ix2 r (⟨j.val, by omega⟩ : Fin 512))
    = lin 0 x K B r ⟨j.val, by omega⟩ + lin 1 h R B r ⟨j.val, by omega⟩ := by
  rw [sums_apply]
  simp only [w_up K R _ _ (show (⟨j.val, by omega⟩ : Fin 512).val < 384 from by show j.val < 384; omega), w_down K R _ _ (show (⟨j.val, by omega⟩ : Fin 512).val < 256 from j.isLt)]
  unfold bcat lin
  refine (congrArg (fun q : EReal => _ + q) (dif_pos (show j.val < 256 from j.isLt))).trans ?_
  exact add_add_add_comm _ _ _ _

/-- The candidate's input half: the recurrent rows are zeros here. -/
theorem sums_input (j : Fin 128) : sums K R B x h (ix2 r (⟨256 + j.val, by omega⟩ : Fin 512)) = lin 0 x K B r ⟨256 + j.val, by omega⟩ := by
  rw [sums_apply]
  simp only [w_up K R _ _ (show (⟨256 + j.val, by omega⟩ : Fin 512).val < 384 from by show 256 + j.val < 384; omega),
    w_down_zero K R _ _ (show ¬ (⟨256 + j.val, by omega⟩ : Fin 512).val < 256 from by show ¬ 256 + j.val < 256; omega) (show 256 + j.val < 384 by omega), mul_zero, Finset.sum_const_zero, add_zero]
  unfold bcat lin
  refine (congrArg (fun q : EReal => _ + q) ((dif_neg (show ¬ 256 + j.val < 256 by omega)).trans (dif_pos (show 256 + j.val < 384 by omega)))).trans ?_
  rfl

/-- The candidate's recurrent half: the input rows are zeros here. -/
theorem sums_recur (j : Fin 128) : sums K R B x h (ix2 r (⟨384 + j.val, by omega⟩ : Fin 512)) = lin 1 h R B r ⟨256 + j.val, by omega⟩ := by
  rw [sums_apply]
  simp only [w_up_zero K R _ _ (show ¬ (⟨384 + j.val, by omega⟩ : Fin 512).val < 384 from by show ¬ 384 + j.val < 384; omega),
    w_down_last K R _ _ (show ¬ (⟨384 + j.val, by omega⟩ : Fin 512).val < 384 from by show ¬ 384 + j.val < 384; omega), mul_zero, Finset.sum_const_zero, zero_add]
  have e : (⟨384 + j.val - 128, by omega⟩ : Fin 384) = ⟨256 + j.val, by omega⟩ := Fin.ext (by show 384 + j.val - 128 = 256 + j.val; omega)
  unfold bcat lin
  refine (congrArg (fun q : EReal => _ + q) ((dif_neg (show ¬ 384 + j.val < 256 by omega)).trans (dif_neg (show ¬ 384 + j.val < 384 by omega)))).trans ?_
  show (∑ k : Fin 128, h (ix2 r k) * R (ix2 k (⟨384 + j.val - 128, _⟩ : Fin 384))) + B (ix2 (1 : Fin 2) (⟨384 + j.val - 128, _⟩ : Fin 384)) = _
  rw [e]

/-- One entry of the next state. -/
theorem cell_apply (c : Fin 128) (hr : ∃ q : ℝ, h (ix2 r c) = q) : cell (wcat K R) (bcat B) x h (ix2 r c)
    = blend (lin 0 x K B r ⟨c.val, by omega⟩ + lin 1 h R B r ⟨c.val, by omega⟩) (lin 0 x K B r ⟨128 + c.val, by omega⟩ + lin 1 h R B r ⟨128 + c.val, by omega⟩)
        (lin 0 x K B r ⟨256 + c.val, by omega⟩) (lin 1 h R B r ⟨256 + c.val, by omega⟩) (h (ix2 r c)) := by
  have pick : ∀ (o : ℕ) (ho : o + c.val < 512) (hs : S64x512.Slices ![0, o] S64x128), extractStridedSlice S64x128 ![0, o] (sums K R B x h) hs (ix2 r c) = sums K R B x h (ix2 r (⟨o + c.val, ho⟩ : Fin 512)) := by
    intro o ho hs
    unfold extractStridedSlice
    refine congrArg (sums K R B x h) (funext fun a => Fin.ext ?_)
    fin_cases a
    · exact Nat.zero_add _
    · rfl
  obtain ⟨q, hq⟩ := hr
  rw [cell_sums]
  dsimp only
  rw [pick 0 (by omega), pick 128 (by omega), pick 256 (by omega), pick 384 (by omega), by_tanh, by_tanh, sums_input, sums_recur, hq, blend_eq]
  refine congr_arg₂ (fun s t => blend s t _ _ _) ?_ ?_
  · exact (congrArg (fun s : Fin 512 => sums K R B x h (ix2 r s)) (Fin.ext (Nat.zero_add _))).trans (sums_both K R B x h r ⟨c.val, by omega⟩)
  · exact sums_both K R B x h r ⟨128 + c.val, by omega⟩

end Cert.Kernel.Cells

end
-- ==== Proof.Lists.lean ====
/-
  The reference's run: its operations as lists, its four loops chained, and what every buffer holds at the end.
-/
module

public import proofs.«01_k».proof.Proof.Gen.ReferenceIdeal
public import Idealize.ShloMosaic.Lib.Pipeline.RegionsLoop
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Lists

open Idealize.ShloMosaic Idealize.ShloMosaic.TcCoe Cert.ReferenceIdeal Cert.ReferenceIdeal.Facts₀
open Idealize.ShloMosaic.StableHlo (Plain seq)
open Idealize.SL.Sem

variable {F : FTy → Type} [FloatOps F]

/-- Up to the first loop. -/
abbrev A0_0 : List (HloOp τ sig (Elt F)) :=
  [StableHlo.TRef.nullary (.of main_call0_c : StableHlo.TRef sig ⟨S_, .i32⟩) (constantI S_ 32 0#32),
   StableHlo.TRef.unary (.of main_call0_c : StableHlo.TRef sig ⟨S_, .i32⟩) (.of main_call0_v0 : StableHlo.TRef sig ⟨S64x256, .i32⟩) (broadcastInDim S64x256 ![] bcast_S_S64x256),
   StableHlo.TRef.binary (.of main_arg0 : StableHlo.TRef sig ⟨S64x256, .i32⟩) (.of main_call0_v0 : StableHlo.TRef sig ⟨S64x256, .i32⟩) (.of main_call0_v1 : StableHlo.TRef sig ⟨S64x256, .i1⟩) (cmpi .slt),
   StableHlo.TRef.nullary (.of main_call0_c_0 : StableHlo.TRef sig ⟨S_, .i32⟩) (constantI S_ 32 100000#32),
   StableHlo.TRef.unary (.of main_call0_c_0 : StableHlo.TRef sig ⟨S_, .i32⟩) (.of main_call0_v2 : StableHlo.TRef sig ⟨S64x256, .i32⟩) (broadcastInDim S64x256 ![] bcast_S_S64x256),
   StableHlo.TRef.binary (.of main_arg0 : StableHlo.TRef sig ⟨S64x256, .i32⟩) (.of main_call0_v2 : StableHlo.TRef sig ⟨S64x256, .i32⟩) (.of main_call0_v3 : StableHlo.TRef sig ⟨S64x256, .i32⟩) addi]
theorem A0_0_sub : (A0_0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub ..⟩
/-- Up to the first loop. -/
abbrev A0_1 : List (HloOp τ sig (Elt F)) :=
  [StableHlo.TRef.ternary (.of main_call0_v1 : StableHlo.TRef sig ⟨S64x256, .i1⟩) (.of main_call0_v3 : StableHlo.TRef sig ⟨S64x256, .i32⟩) (.of main_arg0 : StableHlo.TRef sig ⟨S64x256, .i32⟩) (.of main_call0_v4 : StableHlo.TRef sig ⟨S64x256, .i32⟩) select]
theorem A0_1_sub : (A0_1 : List (HloOp τ sig (Elt F))).Forall fun op => op.bufs ⊆ StableHlo.tcRefs τ sig :=
  StableHlo.ternary_bufs_sub ..
/-- Up to the first loop. -/
abbrev A0_2 : List (HloOp τ sig (Elt F)) :=
  [StableHlo.TRef.unary (.of main_call0_v4 : StableHlo.TRef sig ⟨S64x256, .i32⟩) (.of main_call0_v5 : StableHlo.TRef sig ⟨S64x256x1, .i32⟩) (broadcastInDim S64x256x1 ![0, 1] bcast_S64x256_S64x256x1_0_1),
   StableHlo.TRef.nullary (.of main_call0_c_1 : StableHlo.TRef sig ⟨S1, .i32⟩) (constantI S1 32 99999#32),
   StableHlo.TRef.nullary (.of main_call0_c_2 : StableHlo.TRef sig ⟨S_, .i32⟩) (constantI S_ 32 0#32),
   StableHlo.TRef.unary (.of main_call0_c_2 : StableHlo.TRef sig ⟨S_, .i32⟩) (.of main_call0_v6 : StableHlo.TRef sig ⟨S64x256x1, .i32⟩) (broadcastInDim S64x256x1 ![] bcast_S_S64x256x1),
   StableHlo.TRef.binary (.of main_call0_v5 : StableHlo.TRef sig ⟨S64x256x1, .i32⟩) (.of main_call0_v6 : StableHlo.TRef sig ⟨S64x256x1, .i32⟩) (.of main_call0_v7 : StableHlo.TRef sig ⟨S64x256x1, .i1⟩) (cmpi .sge),
   StableHlo.TRef.unary (.of main_call0_c_1 : StableHlo.TRef sig ⟨S1, .i32⟩) (.of main_call0_v8 : StableHlo.TRef sig ⟨S1x1x1, .i32⟩) (broadcastInDim S1x1x1 ![2] bcast_S1_S1x1x1_2),
   StableHlo.TRef.unary (.of main_call0_v8 : StableHlo.TRef sig ⟨S1x1x1, .i32⟩) (.of main_call0_v9 : StableHlo.TRef sig ⟨S64x256x1, .i32⟩) (broadcastInDim S64x256x1 ![0, 1, 2] bcast_S1x1x1_S64x256x1_0_1_2),
   StableHlo.TRef.binary (.of main_call0_v5 : StableHlo.TRef sig ⟨S64x256x1, .i32⟩) (.of main_call0_v9 : StableHlo.TRef sig ⟨S64x256x1, .i32⟩) (.of main_call0_v10 : StableHlo.TRef sig ⟨S64x256x1, .i1⟩) (cmpi .sle),
   StableHlo.TRef.binary (.of main_call0_v7 : StableHlo.TRef sig ⟨S64x256x1, .i1⟩) (.of main_call0_v10 : StableHlo.TRef sig ⟨S64x256x1, .i1⟩) (.of main_call0_v11 : StableHlo.TRef sig ⟨S64x256x1, .i1⟩) andi,
   StableHlo.TRef.nullary (.of main_call0_c_3 : StableHlo.TRef sig ⟨S_, .i1⟩) (constantI S_ 1 1#1),
   StableHlo.TRef.binary (.of main_call0_v11 : StableHlo.TRef sig ⟨S64x256x1, .i1⟩) (.of main_call0_c_3 : StableHlo.TRef sig ⟨S_, .i1⟩) (.of main_call0_v12 : StableHlo.TRef sig ⟨S64x256, .i1⟩) (fun x v => Host.reduce IntOp.andi x v reducesTo_S64x256x1_S64x256_d2 h_S_),
   StableHlo.TRef.binary (.of main_arg2 : StableHlo.TRef sig ⟨S100000x128, .f32⟩) (.of main_call0_v5 : StableHlo.TRef sig ⟨S64x256x1, .i32⟩) (.of main_call0_v13 : StableHlo.TRef sig ⟨S64x256x128, .f32⟩) (fun x i => Host.gather gather_S100000x128_S64x256x1_S64x256x128_2_0_n_n_0_2_1128 x i),
   StableHlo.TRef.unary (.of main_call0_v12 : StableHlo.TRef sig ⟨S64x256, .i1⟩) (.of main_call0_v14 : StableHlo.TRef sig ⟨S64x256x128, .i1⟩) (broadcastInDim S64x256x128 ![0, 1] bcast_S64x256_S64x256x128_0_1),
   StableHlo.TRef.nullary (.of main_call0_cst : StableHlo.TRef sig ⟨S_, .f32⟩) (constant S_ .f32 0x7FC00000#32),
   StableHlo.TRef.unary (.of main_call0_cst : StableHlo.TRef sig ⟨S_, .f32⟩) (.of main_call0_v15 : StableHlo.TRef sig ⟨S64x256x128, .f32⟩) (broadcastInDim S64x256x128 ![] bcast_S_S64x256x128),
   StableHlo.TRef.ternary (.of main_call0_v14 : StableHlo.TRef sig ⟨S64x256x128, .i1⟩) (.of main_call0_v13 : StableHlo.TRef sig ⟨S64x256x128, .f32⟩) (.of main_call0_v15 : StableHlo.TRef sig ⟨S64x256x128, .f32⟩) (.of main_v0 : StableHlo.TRef sig ⟨S64x256x128, .f32⟩) select]
theorem A0_2_sub : (A0_2 : List (HloOp τ sig (Elt F))).Forall fun op => op.bufs ⊆ StableHlo.tcRefs τ sig :=
  ⟨StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- Up to the first loop. -/
abbrev A0_3 : List (HloOp τ sig (Elt F)) :=
  [StableHlo.TRef.nullary (.of main_call1_c : StableHlo.TRef sig ⟨S_, .i32⟩) (constantI S_ 32 0#32),
   StableHlo.TRef.unary (.of main_call1_c : StableHlo.TRef sig ⟨S_, .i32⟩) (.of main_call1_v0 : StableHlo.TRef sig ⟨S64x256, .i32⟩) (broadcastInDim S64x256 ![] bcast_S_S64x256),
   StableHlo.TRef.binary (.of main_arg1 : StableHlo.TRef sig ⟨S64x256, .i32⟩) (.of main_call1_v0 : StableHlo.TRef sig ⟨S64x256, .i32⟩) (.of main_call1_v1 : StableHlo.TRef sig ⟨S64x256, .i1⟩) (cmpi .slt),
   StableHlo.TRef.nullary (.of main_call1_c_0 : StableHlo.TRef sig ⟨S_, .i32⟩) (constantI S_ 32 100000#32),
   StableHlo.TRef.unary (.of main_call1_c_0 : StableHlo.TRef sig ⟨S_, .i32⟩) (.of main_call1_v2 : StableHlo.TRef sig ⟨S64x256, .i32⟩) (broadcastInDim S64x256 ![] bcast_S_S64x256),
   StableHlo.TRef.binary (.of main_arg1 : StableHlo.TRef sig ⟨S64x256, .i32⟩) (.of main_call1_v2 : StableHlo.TRef sig ⟨S64x256, .i32⟩) (.of main_call1_v3 : StableHlo.TRef sig ⟨S64x256, .i32⟩) addi]
theorem A0_3_sub : (A0_3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub ..⟩
/-- Up to the first loop. -/
abbrev A0_4 : List (HloOp τ sig (Elt F)) :=
  [StableHlo.TRef.ternary (.of main_call1_v1 : StableHlo.TRef sig ⟨S64x256, .i1⟩) (.of main_call1_v3 : StableHlo.TRef sig ⟨S64x256, .i32⟩) (.of main_arg1 : StableHlo.TRef sig ⟨S64x256, .i32⟩) (.of main_call1_v4 : StableHlo.TRef sig ⟨S64x256, .i32⟩) select]
theorem A0_4_sub : (A0_4 : List (HloOp τ sig (Elt F))).Forall fun op => op.bufs ⊆ StableHlo.tcRefs τ sig :=
  StableHlo.ternary_bufs_sub ..
/-- Up to the first loop. -/
abbrev A0_5 : List (HloOp τ sig (Elt F)) :=
  [StableHlo.TRef.unary (.of main_call1_v4 : StableHlo.TRef sig ⟨S64x256, .i32⟩) (.of main_call1_v5 : StableHlo.TRef sig ⟨S64x256x1, .i32⟩) (broadcastInDim S64x256x1 ![0, 1] bcast_S64x256_S64x256x1_0_1),
   StableHlo.TRef.nullary (.of main_call1_c_1 : StableHlo.TRef sig ⟨S1, .i32⟩) (constantI S1 32 99999#32),
   StableHlo.TRef.nullary (.of main_call1_c_2 : StableHlo.TRef sig ⟨S_, .i32⟩) (constantI S_ 32 0#32),
   StableHlo.TRef.unary (.of main_call1_c_2 : StableHlo.TRef sig ⟨S_, .i32⟩) (.of main_call1_v6 : StableHlo.TRef sig ⟨S64x256x1, .i32⟩) (broadcastInDim S64x256x1 ![] bcast_S_S64x256x1),
   StableHlo.TRef.binary (.of main_call1_v5 : StableHlo.TRef sig ⟨S64x256x1, .i32⟩) (.of main_call1_v6 : StableHlo.TRef sig ⟨S64x256x1, .i32⟩) (.of main_call1_v7 : StableHlo.TRef sig ⟨S64x256x1, .i1⟩) (cmpi .sge),
   StableHlo.TRef.unary (.of main_call1_c_1 : StableHlo.TRef sig ⟨S1, .i32⟩) (.of main_call1_v8 : StableHlo.TRef sig ⟨S1x1x1, .i32⟩) (broadcastInDim S1x1x1 ![2] bcast_S1_S1x1x1_2),
   StableHlo.TRef.unary (.of main_call1_v8 : StableHlo.TRef sig ⟨S1x1x1, .i32⟩) (.of main_call1_v9 : StableHlo.TRef sig ⟨S64x256x1, .i32⟩) (broadcastInDim S64x256x1 ![0, 1, 2] bcast_S1x1x1_S64x256x1_0_1_2),
   StableHlo.TRef.binary (.of main_call1_v5 : StableHlo.TRef sig ⟨S64x256x1, .i32⟩) (.of main_call1_v9 : StableHlo.TRef sig ⟨S64x256x1, .i32⟩) (.of main_call1_v10 : StableHlo.TRef sig ⟨S64x256x1, .i1⟩) (cmpi .sle),
   StableHlo.TRef.binary (.of main_call1_v7 : StableHlo.TRef sig ⟨S64x256x1, .i1⟩) (.of main_call1_v10 : StableHlo.TRef sig ⟨S64x256x1, .i1⟩) (.of main_call1_v11 : StableHlo.TRef sig ⟨S64x256x1, .i1⟩) andi,
   StableHlo.TRef.nullary (.of main_call1_c_3 : StableHlo.TRef sig ⟨S_, .i1⟩) (constantI S_ 1 1#1),
   StableHlo.TRef.binary (.of main_call1_v11 : StableHlo.TRef sig ⟨S64x256x1, .i1⟩) (.of main_call1_c_3 : StableHlo.TRef sig ⟨S_, .i1⟩) (.of main_call1_v12 : StableHlo.TRef sig ⟨S64x256, .i1⟩) (fun x v => Host.reduce IntOp.andi x v reducesTo_S64x256x1_S64x256_d2 h_S_),
   StableHlo.TRef.binary (.of main_arg2 : StableHlo.TRef sig ⟨S100000x128, .f32⟩) (.of main_call1_v5 : StableHlo.TRef sig ⟨S64x256x1, .i32⟩) (.of main_call1_v13 : StableHlo.TRef sig ⟨S64x256x128, .f32⟩) (fun x i => Host.gather gather_S100000x128_S64x256x1_S64x256x128_2_0_n_n_0_2_1128 x i),
   StableHlo.TRef.unary (.of main_call1_v12 : StableHlo.TRef sig ⟨S64x256, .i1⟩) (.of main_call1_v14 : StableHlo.TRef sig ⟨S64x256x128, .i1⟩) (broadcastInDim S64x256x128 ![0, 1] bcast_S64x256_S64x256x128_0_1),
   StableHlo.TRef.nullary (.of main_call1_cst : StableHlo.TRef sig ⟨S_, .f32⟩) (constant S_ .f32 0x7FC00000#32),
   StableHlo.TRef.unary (.of main_call1_cst : StableHlo.TRef sig ⟨S_, .f32⟩) (.of main_call1_v15 : StableHlo.TRef sig ⟨S64x256x128, .f32⟩) (broadcastInDim S64x256x128 ![] bcast_S_S64x256x128),
   StableHlo.TRef.ternary (.of main_call1_v14 : StableHlo.TRef sig ⟨S64x256x128, .i1⟩) (.of main_call1_v13 : StableHlo.TRef sig ⟨S64x256x128, .f32⟩) (.of main_call1_v15 : StableHlo.TRef sig ⟨S64x256x128, .f32⟩) (.of main_v1 : StableHlo.TRef sig ⟨S64x256x128, .f32⟩) select]
theorem A0_5_sub : (A0_5 : List (HloOp τ sig (Elt F))).Forall fun op => op.bufs ⊆ StableHlo.tcRefs τ sig :=
  ⟨StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- Up to the first loop. -/
abbrev A0_6 : List (HloOp τ sig (Elt F)) :=
  [StableHlo.nullary main_cst (constant S_ .f32 0x00000000#32),
   StableHlo.unary main_cst main_v2 (broadcastInDim S64x128 ![] bcast_S_S64x128 : (⟨S_, .f32⟩ : BufTy).Contents (Elt F) → (⟨S64x128, .f32⟩ : BufTy).Contents (Elt F)),
   StableHlo.binary main_v0 main_arg3 main_v3 ((fun l r => Host.dotGeneral dot_S64x256x128_S128x384_S64x256x384_2_0_01_1_n_n none l r) : (⟨S64x256x128, .f32⟩ : BufTy).Contents (Elt F) → (⟨S128x384, .f32⟩ : BufTy).Contents (Elt F) → (⟨S64x256x384, .f32⟩ : BufTy).Contents (Elt F)),
   StableHlo.unary main_arg5 main_v4 ((extractStridedSlice S1x384 ![0, 0] · slices_S2x384_S1x384_0_0) : (⟨S2x384, .f32⟩ : BufTy).Contents (Elt F) → (⟨S1x384, .f32⟩ : BufTy).Contents (Elt F)),
   StableHlo.reshape main_v4 main_v5 (rfl : (.f32 : EltTy) = .f32) shapeCasts_S1x384_S384,
   StableHlo.unary main_v5 main_v6 (broadcastInDim S1x1x384 ![2] bcast_S384_S1x1x384_2 : (⟨S384, .f32⟩ : BufTy).Contents (Elt F) → (⟨S1x1x384, .f32⟩ : BufTy).Contents (Elt F)),
   StableHlo.unary main_v6 main_v7 (broadcastInDim S64x256x384 ![0, 1, 2] bcast_S1x1x384_S64x256x384_0_1_2 : (⟨S1x1x384, .f32⟩ : BufTy).Contents (Elt F) → (⟨S64x256x384, .f32⟩ : BufTy).Contents (Elt F)),
   StableHlo.binary main_v3 main_v7 main_v8 (addf : (⟨S64x256x384, .f32⟩ : BufTy).Contents (Elt F) → (⟨S64x256x384, .f32⟩ : BufTy).Contents (Elt F) → (⟨S64x256x384, .f32⟩ : BufTy).Contents (Elt F)),
   StableHlo.unary main_v8 main_v9 ((transpose S256x64x384 [1, 0, 2] · transposes_S64x256x384_S256x64x384_1_0_2) : (⟨S64x256x384, .f32⟩ : BufTy).Contents (Elt F) → (⟨S256x64x384, .f32⟩ : BufTy).Contents (Elt F)),
   StableHlo.nullary main_cst_0 (constant S_ .f32 0x00000000#32),
   StableHlo.unary main_cst_0 main_v10 (broadcastInDim S256x64x128 ![] bcast_S_S256x64x128 : (⟨S_, .f32⟩ : BufTy).Contents (Elt F) → (⟨S256x64x128, .f32⟩ : BufTy).Contents (Elt F)),
   StableHlo.nullary main_c (constantI S_ 32 0#32),
   StableHlo.unary main_v9 main_v11_0 id,
   StableHlo.unary main_arg4 main_v11_1 id,
   StableHlo.unary main_arg5 main_v11_2 id,
   StableHlo.unary main_c main_v11_3 id,
   StableHlo.unary main_v2 main_v11_4 id,
   StableHlo.unary main_v10 main_v11_5 id]
theorem A0_6_sub : (A0_6 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
abbrev A0 : List (List (HloOp τ sig (Elt F))) := [A0_0, A0_1, A0_2, A0_3, A0_4, A0_5, A0_6]
theorem A0_plain : Plain (A0 (F := F)) := .cons A0_0_sub (.cons A0_1_sub (.cons A0_2_sub (.cons A0_3_sub (.cons A0_4_sub (.cons A0_5_sub (.cons A0_6_sub (.nil)))))))
abbrev A0_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v1, main_cst, main_v2, main_v3, main_v4, main_v5, main_v6, main_v7, main_v8, main_v9, main_cst_0, main_v10, main_c, main_v11_0, main_v11_1, main_v11_2, main_v11_3, main_v11_4, main_v11_5]
theorem A0_w : (A0 (F := F)).flatten.map HloOp.writes = A0_W.map fun w => {Proc.devRef (τ := τ) .tc w} := rfl

/-- Between the first and second loops. -/
abbrev A1_0 : List (HloOp τ sig (Elt F)) :=
  [StableHlo.unary main_v11_5 main_v12 ((transpose S64x256x128 [1, 0, 2] · transposes_S256x64x128_S64x256x128_1_0_2) : (⟨S256x64x128, .f32⟩ : BufTy).Contents (Elt F) → (⟨S64x256x128, .f32⟩ : BufTy).Contents (Elt F)),
   StableHlo.binary main_v12 main_arg6 main_v13 ((fun l r => Host.dotGeneral dot_S64x256x128_S128x384_S64x256x384_2_0_01_1_n_n none l r) : (⟨S64x256x128, .f32⟩ : BufTy).Contents (Elt F) → (⟨S128x384, .f32⟩ : BufTy).Contents (Elt F) → (⟨S64x256x384, .f32⟩ : BufTy).Contents (Elt F)),
   StableHlo.unary main_arg8 main_v14 ((extractStridedSlice S1x384 ![0, 0] · slices_S2x384_S1x384_0_0) : (⟨S2x384, .f32⟩ : BufTy).Contents (Elt F) → (⟨S1x384, .f32⟩ : BufTy).Contents (Elt F)),
   StableHlo.reshape main_v14 main_v15 (rfl : (.f32 : EltTy) = .f32) shapeCasts_S1x384_S384,
   StableHlo.unary main_v15 main_v16 (broadcastInDim S1x1x384 ![2] bcast_S384_S1x1x384_2 : (⟨S384, .f32⟩ : BufTy).Contents (Elt F) → (⟨S1x1x384, .f32⟩ : BufTy).Contents (Elt F)),
   StableHlo.unary main_v16 main_v17 (broadcastInDim S64x256x384 ![0, 1, 2] bcast_S1x1x384_S64x256x384_0_1_2 : (⟨S1x1x384, .f32⟩ : BufTy).Contents (Elt F) → (⟨S64x256x384, .f32⟩ : BufTy).Contents (Elt F)),
   StableHlo.binary main_v13 main_v17 main_v18 (addf : (⟨S64x256x384, .f32⟩ : BufTy).Contents (Elt F) → (⟨S64x256x384, .f32⟩ : BufTy).Contents (Elt F) → (⟨S64x256x384, .f32⟩ : BufTy).Contents (Elt F)),
   StableHlo.unary main_v18 main_v19 ((transpose S256x64x384 [1, 0, 2] · transposes_S64x256x384_S256x64x384_1_0_2) : (⟨S64x256x384, .f32⟩ : BufTy).Contents (Elt F) → (⟨S256x64x384, .f32⟩ : BufTy).Contents (Elt F)),
   StableHlo.nullary main_cst_1 (constant S_ .f32 0x00000000#32),
   StableHlo.unary main_cst_1 main_v20 (broadcastInDim S256x64x128 ![] bcast_S_S256x64x128 : (⟨S_, .f32⟩ : BufTy).Contents (Elt F) → (⟨S256x64x128, .f32⟩ : BufTy).Contents (Elt F)),
   StableHlo.nullary main_c_2 (constantI S_ 32 0#32),
   StableHlo.unary main_v19 main_v21_0 id,
   StableHlo.unary main_arg7 main_v21_1 id,
   StableHlo.unary main_arg8 main_v21_2 id,
   StableHlo.unary main_c_2 main_v21_3 id,
   StableHlo.unary main_v11_4 main_v21_4 id,
   StableHlo.unary main_v20 main_v21_5 id]
theorem A1_0_sub : (A1_0 : List (HloOp τ sig (Elt F))).Forall fun op => op.bufs ⊆ StableHlo.tcRefs τ sig :=
  ⟨StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
abbrev A1 : List (List (HloOp τ sig (Elt F))) := [A1_0]
theorem A1_plain : Plain (A1 (F := F)) := .cons A1_0_sub (.nil)
abbrev A1_W : List (Ref sig .tc) := [main_v12, main_v13, main_v14, main_v15, main_v16, main_v17, main_v18, main_v19, main_cst_1, main_v20, main_c_2, main_v21_0, main_v21_1, main_v21_2, main_v21_3, main_v21_4, main_v21_5]
theorem A1_w : (A1 (F := F)).flatten.map HloOp.writes = A1_W.map fun w => {Proc.devRef (τ := τ) .tc w} := rfl

/-- Between the second and third loops. -/
abbrev A2_0 : List (HloOp τ sig (Elt F)) :=
  [StableHlo.unary main_v21_5 main_v22 ((transpose S64x256x128 [1, 0, 2] · transposes_S256x64x128_S64x256x128_1_0_2) : (⟨S256x64x128, .f32⟩ : BufTy).Contents (Elt F) → (⟨S64x256x128, .f32⟩ : BufTy).Contents (Elt F)),
   StableHlo.binary main_v1 main_arg9 main_v23 ((fun l r => Host.dotGeneral dot_S64x256x128_S128x384_S64x256x384_2_0_01_1_n_n none l r) : (⟨S64x256x128, .f32⟩ : BufTy).Contents (Elt F) → (⟨S128x384, .f32⟩ : BufTy).Contents (Elt F) → (⟨S64x256x384, .f32⟩ : BufTy).Contents (Elt F)),
   StableHlo.unary main_arg11 main_v24 ((extractStridedSlice S1x384 ![0, 0] · slices_S2x384_S1x384_0_0) : (⟨S2x384, .f32⟩ : BufTy).Contents (Elt F) → (⟨S1x384, .f32⟩ : BufTy).Contents (Elt F)),
   StableHlo.reshape main_v24 main_v25 (rfl : (.f32 : EltTy) = .f32) shapeCasts_S1x384_S384,
   StableHlo.unary main_v25 main_v26 (broadcastInDim S1x1x384 ![2] bcast_S384_S1x1x384_2 : (⟨S384, .f32⟩ : BufTy).Contents (Elt F) → (⟨S1x1x384, .f32⟩ : BufTy).Contents (Elt F)),
   StableHlo.unary main_v26 main_v27 (broadcastInDim S64x256x384 ![0, 1, 2] bcast_S1x1x384_S64x256x384_0_1_2 : (⟨S1x1x384, .f32⟩ : BufTy).Contents (Elt F) → (⟨S64x256x384, .f32⟩ : BufTy).Contents (Elt F)),
   StableHlo.binary main_v23 main_v27 main_v28 (addf : (⟨S64x256x384, .f32⟩ : BufTy).Contents (Elt F) → (⟨S64x256x384, .f32⟩ : BufTy).Contents (Elt F) → (⟨S64x256x384, .f32⟩ : BufTy).Contents (Elt F)),
   StableHlo.unary main_v28 main_v29 ((transpose S256x64x384 [1, 0, 2] · transposes_S64x256x384_S256x64x384_1_0_2) : (⟨S64x256x384, .f32⟩ : BufTy).Contents (Elt F) → (⟨S256x64x384, .f32⟩ : BufTy).Contents (Elt F)),
   StableHlo.nullary main_cst_3 (constant S_ .f32 0x00000000#32),
   StableHlo.unary main_cst_3 main_v30 (broadcastInDim S256x64x128 ![] bcast_S_S256x64x128 : (⟨S_, .f32⟩ : BufTy).Contents (Elt F) → (⟨S256x64x128, .f32⟩ : BufTy).Contents (Elt F)),
   StableHlo.nullary main_c_4 (constantI S_ 32 0#32),
   StableHlo.unary main_v29 main_v31_0 id,
   StableHlo.unary main_arg10 main_v31_1 id,
   StableHlo.unary main_arg11 main_v31_2 id,
   StableHlo.unary main_c_4 main_v31_3 id,
   StableHlo.unary main_v21_4 main_v31_4 id,
   StableHlo.unary main_v30 main_v31_5 id]
theorem A2_0_sub : (A2_0 : List (HloOp τ sig (Elt F))).Forall fun op => op.bufs ⊆ StableHlo.tcRefs τ sig :=
  ⟨StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
abbrev A2 : List (List (HloOp τ sig (Elt F))) := [A2_0]
theorem A2_plain : Plain (A2 (F := F)) := .cons A2_0_sub (.nil)
abbrev A2_W : List (Ref sig .tc) := [main_v22, main_v23, main_v24, main_v25, main_v26, main_v27, main_v28, main_v29, main_cst_3, main_v30, main_c_4, main_v31_0, main_v31_1, main_v31_2, main_v31_3, main_v31_4, main_v31_5]
theorem A2_w : (A2 (F := F)).flatten.map HloOp.writes = A2_W.map fun w => {Proc.devRef (τ := τ) .tc w} := rfl

/-- After the third loop, -/
abbrev A3_0 : List (HloOp τ sig (Elt F)) :=
  [StableHlo.unary main_v31_5 main_v32 ((transpose S64x256x128 [1, 0, 2] · transposes_S256x64x128_S64x256x128_1_0_2) : (⟨S256x64x128, .f32⟩ : BufTy).Contents (Elt F) → (⟨S64x256x128, .f32⟩ : BufTy).Contents (Elt F)),
   StableHlo.binary main_v32 main_arg12 main_v33 ((fun l r => Host.dotGeneral dot_S64x256x128_S128x384_S64x256x384_2_0_01_1_n_n none l r) : (⟨S64x256x128, .f32⟩ : BufTy).Contents (Elt F) → (⟨S128x384, .f32⟩ : BufTy).Contents (Elt F) → (⟨S64x256x384, .f32⟩ : BufTy).Contents (Elt F)),
   StableHlo.unary main_arg14 main_v34 ((extractStridedSlice S1x384 ![0, 0] · slices_S2x384_S1x384_0_0) : (⟨S2x384, .f32⟩ : BufTy).Contents (Elt F) → (⟨S1x384, .f32⟩ : BufTy).Contents (Elt F))]
theorem A3_0_sub : (A3_0 : List (HloOp τ sig (Elt F))).Forall fun op => op.bufs ⊆ StableHlo.tcRefs τ sig :=
  ⟨StableHlo.unary_bufs_sub .., StableHlo.binary_bufs_sub .., StableHlo.unary_bufs_sub ..⟩
abbrev A3 : List (List (HloOp τ sig (Elt F))) := [A3_0]
theorem A3_plain : Plain (A3 (F := F)) := .cons A3_0_sub (.nil)
abbrev A3_W : List (Ref sig .tc) := [main_v32, main_v33, main_v34]
theorem A3_w : (A3 (F := F)).flatten.map HloOp.writes = A3_W.map fun w => {Proc.devRef (τ := τ) .tc w} := rfl

/-- and up to the fourth. -/
abbrev A3b_0 : List (HloOp τ sig (Elt F)) :=
  [StableHlo.reshape main_v34 main_v35 (rfl : (.f32 : EltTy) = .f32) shapeCasts_S1x384_S384,
   StableHlo.unary main_v35 main_v36 (broadcastInDim S1x1x384 ![2] bcast_S384_S1x1x384_2 : (⟨S384, .f32⟩ : BufTy).Contents (Elt F) → (⟨S1x1x384, .f32⟩ : BufTy).Contents (Elt F)),
   StableHlo.unary main_v36 main_v37 (broadcastInDim S64x256x384 ![0, 1, 2] bcast_S1x1x384_S64x256x384_0_1_2 : (⟨S1x1x384, .f32⟩ : BufTy).Contents (Elt F) → (⟨S64x256x384, .f32⟩ : BufTy).Contents (Elt F)),
   StableHlo.binary main_v33 main_v37 main_v38 (addf : (⟨S64x256x384, .f32⟩ : BufTy).Contents (Elt F) → (⟨S64x256x384, .f32⟩ : BufTy).Contents (Elt F) → (⟨S64x256x384, .f32⟩ : BufTy).Contents (Elt F)),
   StableHlo.unary main_v38 main_v39 ((transpose S256x64x384 [1, 0, 2] · transposes_S64x256x384_S256x64x384_1_0_2) : (⟨S64x256x384, .f32⟩ : BufTy).Contents (Elt F) → (⟨S256x64x384, .f32⟩ : BufTy).Contents (Elt F)),
   StableHlo.nullary main_cst_5 (constant S_ .f32 0x00000000#32),
   StableHlo.unary main_cst_5 main_v40 (broadcastInDim S256x64x128 ![] bcast_S_S256x64x128 : (⟨S_, .f32⟩ : BufTy).Contents (Elt F) → (⟨S256x64x128, .f32⟩ : BufTy).Contents (Elt F)),
   StableHlo.nullary main_c_6 (constantI S_ 32 0#32),
   StableHlo.unary main_v39 main_v41_0 id,
   StableHlo.unary main_arg13 main_v41_1 id,
   StableHlo.unary main_arg14 main_v41_2 id,
   StableHlo.unary main_c_6 main_v41_3 id,
   StableHlo.unary main_v31_4 main_v41_4 id,
   StableHlo.unary main_v40 main_v41_5 id]
theorem A3b_0_sub : (A3b_0 : List (HloOp τ sig (Elt F))).Forall fun op => op.bufs ⊆ StableHlo.tcRefs τ sig :=
  ⟨StableHlo.reshape_bufs_sub .., StableHlo.unary_bufs_sub .., StableHlo.unary_bufs_sub .., StableHlo.binary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
abbrev A3b : List (List (HloOp τ sig (Elt F))) := [A3b_0]
theorem A3b_plain : Plain (A3b (F := F)) := .cons A3b_0_sub (.nil)
abbrev A3b_W : List (Ref sig .tc) := [main_v35, main_v36, main_v37, main_v38, main_v39, main_cst_5, main_v40, main_c_6, main_v41_0, main_v41_1, main_v41_2, main_v41_3, main_v41_4, main_v41_5]
theorem A3b_w : (A3b (F := F)).flatten.map HloOp.writes = A3b_W.map fun w => {Proc.devRef (τ := τ) .tc w} := rfl

/-- After the fourth loop. -/
abbrev A4_0 : List (HloOp τ sig (Elt F)) :=
  [StableHlo.unary main_v41_5 main_v42 ((transpose S64x256x128 [1, 0, 2] · transposes_S256x64x128_S64x256x128_1_0_2) : (⟨S256x64x128, .f32⟩ : BufTy).Contents (Elt F) → (⟨S64x256x128, .f32⟩ : BufTy).Contents (Elt F)),
   StableHlo.unary main_v42 main_v43 ((extractStridedSlice S64x1x128 ![0, 255, 0] · slices_S64x256x128_S64x1x128_0_255_0) : (⟨S64x256x128, .f32⟩ : BufTy).Contents (Elt F) → (⟨S64x1x128, .f32⟩ : BufTy).Contents (Elt F)),
   StableHlo.reshape main_v43 main_v44 (rfl : (.f32 : EltTy) = .f32) shapeCasts_S64x1x128_S64x128,
   StableHlo.binary main_v44 main_arg15 main_v45 ((fun l r => Host.dotGeneral dot_S64x128_S128x100000_S64x100000_1_0_0_1_n_n none l r) : (⟨S64x128, .f32⟩ : BufTy).Contents (Elt F) → (⟨S128x100000, .f32⟩ : BufTy).Contents (Elt F) → (⟨S64x100000, .f32⟩ : BufTy).Contents (Elt F)),
   StableHlo.unary main_arg16 main_v46 (broadcastInDim S1x100000 ![1] bcast_S100000_S1x100000_1 : (⟨S100000, .f32⟩ : BufTy).Contents (Elt F) → (⟨S1x100000, .f32⟩ : BufTy).Contents (Elt F)),
   StableHlo.unary main_v46 main_v47 (broadcastInDim S64x100000 ![0, 1] bcast_S1x100000_S64x100000_0_1 : (⟨S1x100000, .f32⟩ : BufTy).Contents (Elt F) → (⟨S64x100000, .f32⟩ : BufTy).Contents (Elt F)),
   StableHlo.binary main_v45 main_v47 main_v48 (addf : (⟨S64x100000, .f32⟩ : BufTy).Contents (Elt F) → (⟨S64x100000, .f32⟩ : BufTy).Contents (Elt F) → (⟨S64x100000, .f32⟩ : BufTy).Contents (Elt F))]
theorem A4_0_sub : (A4_0 : List (HloOp τ sig (Elt F))).Forall fun op => op.bufs ⊆ StableHlo.tcRefs τ sig :=
  ⟨StableHlo.unary_bufs_sub .., StableHlo.unary_bufs_sub .., StableHlo.reshape_bufs_sub .., StableHlo.binary_bufs_sub .., StableHlo.unary_bufs_sub .., StableHlo.unary_bufs_sub .., StableHlo.binary_bufs_sub ..⟩
abbrev A4 : List (List (HloOp τ sig (Elt F))) := [A4_0]
theorem A4_plain : Plain (A4 (F := F)) := .cons A4_0_sub (.nil)
abbrev A4_W : List (Ref sig .tc) := [main_v42, main_v43, main_v44, main_v45, main_v46, main_v47, main_v48]
theorem A4_w : (A4 (F := F)).flatten.map HloOp.writes = A4_W.map fun w => {Proc.devRef (τ := τ) .tc w} := rfl

/-- The condition of loop 0. -/
abbrev C0_0 : List (HloOp τ sig (Elt F)) :=
  [StableHlo.nullary main_while0c_c_12 (constantI S_ 32 256#32),
   StableHlo.binary main_v11_3 main_while0c_c_12 main_while0c_v49 (cmpi .slt : (⟨S_, .i32⟩ : BufTy).Contents (Elt F) → (⟨S_, .i32⟩ : BufTy).Contents (Elt F) → (⟨S_, .i1⟩ : BufTy).Contents (Elt F))]
theorem C0_0_sub : (C0_0 : List (HloOp τ sig (Elt F))).Forall fun op => op.bufs ⊆ StableHlo.tcRefs τ sig :=
  ⟨StableHlo.nullary_bufs_sub .., StableHlo.binary_bufs_sub ..⟩
abbrev C0 : List (List (HloOp τ sig (Elt F))) := [C0_0]
theorem C0_plain : Plain (C0 (F := F)) := .cons C0_0_sub (.nil)
abbrev C0_W : List (Ref sig .tc) := [main_while0c_c_12, main_while0c_v49]
theorem C0_w : (C0 (F := F)).flatten.map HloOp.writes = C0_W.map fun w => {Proc.devRef (τ := τ) .tc w} := rfl

/-- The body of loop 0. -/
abbrev B0_0 : List (HloOp τ sig (Elt F)) :=
  [StableHlo.TRef.nullary (.of main_while0b_call2_c : StableHlo.TRef sig ⟨S_, .i32⟩) (constantI S_ 32 0#32),
   StableHlo.TRef.nullary (.of main_while0b_call2_c_0 : StableHlo.TRef sig ⟨S_, .i32⟩) (constantI S_ 32 0#32),
   StableHlo.TRef.unaryIndexed (.of main_v11_0 : StableHlo.TRef sig ⟨S256x64x384, .f32⟩) ![(.of main_v11_3 : StableHlo.TRef sig ⟨S_, .i32⟩), (.of main_while0b_call2_c : StableHlo.TRef sig ⟨S_, .i32⟩), (.of main_while0b_call2_c_0 : StableHlo.TRef sig ⟨S_, .i32⟩)] (.of main_while0b_call2_v0 : StableHlo.TRef sig ⟨S1x64x384, .f32⟩) (fun x i => Host.dynamicSlice S1x64x384 x (fun k => (i k (Shape.Idx.first h_S_)).toInt) sliceFits_S256x64x384_S1x64x384),
   StableHlo.TRef.reshape (.of main_while0b_call2_v0 : StableHlo.TRef sig ⟨S1x64x384, .f32⟩) (.of main_while0b_v49 : StableHlo.TRef sig ⟨S64x384, .f32⟩) (rfl : (.f32 : EltTy) = .f32) shapeCasts_S1x64x384_S64x384]
theorem B0_0_sub : (B0_0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- The body of loop 0. -/
abbrev B0_1 : List (HloOp τ sig (Elt F)) :=
  [StableHlo.binary main_v11_4 main_v11_1 main_while0b_v50 ((fun l r => Host.dotGeneral dot_S64x128_S128x384_S64x384_1_0_0_1_n_n none l r) : (⟨S64x128, .f32⟩ : BufTy).Contents (Elt F) → (⟨S128x384, .f32⟩ : BufTy).Contents (Elt F) → (⟨S64x384, .f32⟩ : BufTy).Contents (Elt F)),
   StableHlo.unary main_v11_2 main_while0b_v51 ((extractStridedSlice S1x384 ![1, 0] · slices_S2x384_S1x384_1_0) : (⟨S2x384, .f32⟩ : BufTy).Contents (Elt F) → (⟨S1x384, .f32⟩ : BufTy).Contents (Elt F)),
   StableHlo.reshape main_while0b_v51 main_while0b_v52 (rfl : (.f32 : EltTy) = .f32) shapeCasts_S1x384_S384,
   StableHlo.unary main_while0b_v52 main_while0b_v53 (broadcastInDim S1x384 ![1] bcast_S384_S1x384_1 : (⟨S384, .f32⟩ : BufTy).Contents (Elt F) → (⟨S1x384, .f32⟩ : BufTy).Contents (Elt F)),
   StableHlo.unary main_while0b_v53 main_while0b_v54 (broadcastInDim S64x384 ![0, 1] bcast_S1x384_S64x384_0_1 : (⟨S1x384, .f32⟩ : BufTy).Contents (Elt F) → (⟨S64x384, .f32⟩ : BufTy).Contents (Elt F)),
   StableHlo.binary main_while0b_v50 main_while0b_v54 main_while0b_v55 (addf : (⟨S64x384, .f32⟩ : BufTy).Contents (Elt F) → (⟨S64x384, .f32⟩ : BufTy).Contents (Elt F) → (⟨S64x384, .f32⟩ : BufTy).Contents (Elt F)),
   StableHlo.unary main_while0b_v49 main_while0b_v56 ((extractStridedSlice S64x128 ![0, 0] · slices_S64x384_S64x128_0_0) : (⟨S64x384, .f32⟩ : BufTy).Contents (Elt F) → (⟨S64x128, .f32⟩ : BufTy).Contents (Elt F)),
   StableHlo.unary main_while0b_v55 main_while0b_v57 ((extractStridedSlice S64x128 ![0, 0] · slices_S64x384_S64x128_0_0) : (⟨S64x384, .f32⟩ : BufTy).Contents (Elt F) → (⟨S64x128, .f32⟩ : BufTy).Contents (Elt F)),
   StableHlo.binary main_while0b_v56 main_while0b_v57 main_while0b_v58 (addf : (⟨S64x128, .f32⟩ : BufTy).Contents (Elt F) → (⟨S64x128, .f32⟩ : BufTy).Contents (Elt F) → (⟨S64x128, .f32⟩ : BufTy).Contents (Elt F)),
   StableHlo.unary main_while0b_v58 main_while0b_v59 (Host.negf : (⟨S64x128, .f32⟩ : BufTy).Contents (Elt F) → (⟨S64x128, .f32⟩ : BufTy).Contents (Elt F)),
   StableHlo.unary main_while0b_v59 main_while0b_v60 (Host.exp : (⟨S64x128, .f32⟩ : BufTy).Contents (Elt F) → (⟨S64x128, .f32⟩ : BufTy).Contents (Elt F)),
   StableHlo.nullary main_while0b_cst_12 (constant S_ .f32 0x3F800000#32),
   StableHlo.unary main_while0b_cst_12 main_while0b_v61 (broadcastInDim S64x128 ![] bcast_S_S64x128 : (⟨S_, .f32⟩ : BufTy).Contents (Elt F) → (⟨S64x128, .f32⟩ : BufTy).Contents (Elt F)),
   StableHlo.binary main_while0b_v61 main_while0b_v60 main_while0b_v62 (addf : (⟨S64x128, .f32⟩ : BufTy).Contents (Elt F) → (⟨S64x128, .f32⟩ : BufTy).Contents (Elt F) → (⟨S64x128, .f32⟩ : BufTy).Contents (Elt F)),
   StableHlo.nullary main_while0b_cst_13 (constant S_ .f32 0x3F800000#32),
   StableHlo.unary main_while0b_cst_13 main_while0b_v63 (broadcastInDim S64x128 ![] bcast_S_S64x128 : (⟨S_, .f32⟩ : BufTy).Contents (Elt F) → (⟨S64x128, .f32⟩ : BufTy).Contents (Elt F)),
   StableHlo.binary main_while0b_v63 main_while0b_v62 main_while0b_v64 (Host.divf : (⟨S64x128, .f32⟩ : BufTy).Contents (Elt F) → (⟨S64x128, .f32⟩ : BufTy).Contents (Elt F) → (⟨S64x128, .f32⟩ : BufTy).Contents (Elt F)),
   StableHlo.unary main_while0b_v49 main_while0b_v65 ((extractStridedSlice S64x128 ![0, 128] · slices_S64x384_S64x128_0_128) : (⟨S64x384, .f32⟩ : BufTy).Contents (Elt F) → (⟨S64x128, .f32⟩ : BufTy).Contents (Elt F)),
   StableHlo.unary main_while0b_v55 main_while0b_v66 ((extractStridedSlice S64x128 ![0, 128] · slices_S64x384_S64x128_0_128) : (⟨S64x384, .f32⟩ : BufTy).Contents (Elt F) → (⟨S64x128, .f32⟩ : BufTy).Contents (Elt F)),
   StableHlo.binary main_while0b_v65 main_while0b_v66 main_while0b_v67 (addf : (⟨S64x128, .f32⟩ : BufTy).Contents (Elt F) → (⟨S64x128, .f32⟩ : BufTy).Contents (Elt F) → (⟨S64x128, .f32⟩ : BufTy).Contents (Elt F)),
   StableHlo.unary main_while0b_v67 main_while0b_v68 (Host.negf : (⟨S64x128, .f32⟩ : BufTy).Contents (Elt F) → (⟨S64x128, .f32⟩ : BufTy).Contents (Elt F)),
   StableHlo.unary main_while0b_v68 main_while0b_v69 (Host.exp : (⟨S64x128, .f32⟩ : BufTy).Contents (Elt F) → (⟨S64x128, .f32⟩ : BufTy).Contents (Elt F)),
   StableHlo.nullary main_while0b_cst_14 (constant S_ .f32 0x3F800000#32),
   StableHlo.unary main_while0b_cst_14 main_while0b_v70 (broadcastInDim S64x128 ![] bcast_S_S64x128 : (⟨S_, .f32⟩ : BufTy).Contents (Elt F) → (⟨S64x128, .f32⟩ : BufTy).Contents (Elt F)),
   StableHlo.binary main_while0b_v70 main_while0b_v69 main_while0b_v71 (addf : (⟨S64x128, .f32⟩ : BufTy).Contents (Elt F) → (⟨S64x128, .f32⟩ : BufTy).Contents (Elt F) → (⟨S64x128, .f32⟩ : BufTy).Contents (Elt F)),
   StableHlo.nullary main_while0b_cst_15 (constant S_ .f32 0x3F800000#32),
   StableHlo.unary main_while0b_cst_15 main_while0b_v72 (broadcastInDim S64x128 ![] bcast_S_S64x128 : (⟨S_, .f32⟩ : BufTy).Contents (Elt F) → (⟨S64x128, .f32⟩ : BufTy).Contents (Elt F)),
   StableHlo.binary main_while0b_v72 main_while0b_v71 main_while0b_v73 (Host.divf : (⟨S64x128, .f32⟩ : BufTy).Contents (Elt F) → (⟨S64x128, .f32⟩ : BufTy).Contents (Elt F) → (⟨S64x128, .f32⟩ : BufTy).Contents (Elt F)),
   StableHlo.unary main_while0b_v49 main_while0b_v74 ((extractStridedSlice S64x128 ![0, 256] · slices_S64x384_S64x128_0_256) : (⟨S64x384, .f32⟩ : BufTy).Contents (Elt F) → (⟨S64x128, .f32⟩ : BufTy).Contents (Elt F)),
   StableHlo.unary main_while0b_v55 main_while0b_v75 ((extractStridedSlice S64x128 ![0, 256] · slices_S64x384_S64x128_0_256) : (⟨S64x384, .f32⟩ : BufTy).Contents (Elt F) → (⟨S64x128, .f32⟩ : BufTy).Contents (Elt F)),
   StableHlo.binary main_while0b_v73 main_while0b_v75 main_while0b_v76 (mulf : (⟨S64x128, .f32⟩ : BufTy).Contents (Elt F) → (⟨S64x128, .f32⟩ : BufTy).Contents (Elt F) → (⟨S64x128, .f32⟩ : BufTy).Contents (Elt F)),
   StableHlo.binary main_while0b_v74 main_while0b_v76 main_while0b_v77 (addf : (⟨S64x128, .f32⟩ : BufTy).Contents (Elt F) → (⟨S64x128, .f32⟩ : BufTy).Contents (Elt F) → (⟨S64x128, .f32⟩ : BufTy).Contents (Elt F)),
   StableHlo.unary main_while0b_v77 main_while0b_v78 (Host.tanh : (⟨S64x128, .f32⟩ : BufTy).Contents (Elt F) → (⟨S64x128, .f32⟩ : BufTy).Contents (Elt F)),
   StableHlo.binary main_while0b_v64 main_v11_4 main_while0b_v79 (mulf : (⟨S64x128, .f32⟩ : BufTy).Contents (Elt F) → (⟨S64x128, .f32⟩ : BufTy).Contents (Elt F) → (⟨S64x128, .f32⟩ : BufTy).Contents (Elt F)),
   StableHlo.nullary main_while0b_cst_16 (constant S_ .f32 0x3F800000#32),
   StableHlo.unary main_while0b_cst_16 main_while0b_v80 (broadcastInDim S64x128 ![] bcast_S_S64x128 : (⟨S_, .f32⟩ : BufTy).Contents (Elt F) → (⟨S64x128, .f32⟩ : BufTy).Contents (Elt F)),
   StableHlo.binary main_while0b_v80 main_while0b_v64 main_while0b_v81 (subf : (⟨S64x128, .f32⟩ : BufTy).Contents (Elt F) → (⟨S64x128, .f32⟩ : BufTy).Contents (Elt F) → (⟨S64x128, .f32⟩ : BufTy).Contents (Elt F)),
   StableHlo.binary main_while0b_v81 main_while0b_v78 main_while0b_v82 (mulf : (⟨S64x128, .f32⟩ : BufTy).Contents (Elt F) → (⟨S64x128, .f32⟩ : BufTy).Contents (Elt F) → (⟨S64x128, .f32⟩ : BufTy).Contents (Elt F)),
   StableHlo.binary main_while0b_v79 main_while0b_v82 main_while0b_v83 (addf : (⟨S64x128, .f32⟩ : BufTy).Contents (Elt F) → (⟨S64x128, .f32⟩ : BufTy).Contents (Elt F) → (⟨S64x128, .f32⟩ : BufTy).Contents (Elt F))]
theorem B0_1_sub : (B0_1 : List (HloOp τ sig (Elt F))).Forall fun op => op.bufs ⊆ StableHlo.tcRefs τ sig :=
  ⟨StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩
/-- The body of loop 0. -/
abbrev B0_2 : List (HloOp τ sig (Elt F)) :=
  [StableHlo.TRef.unary (.of main_while0b_v83 : StableHlo.TRef sig ⟨S64x128, .f32⟩) (.of main_while0b_call3_v0 : StableHlo.TRef sig ⟨S1x64x128, .f32⟩) (broadcastInDim S1x64x128 ![1, 2] bcast_S64x128_S1x64x128_1_2),
   StableHlo.TRef.nullary (.of main_while0b_call3_c : StableHlo.TRef sig ⟨S_, .i32⟩) (constantI S_ 32 0#32),
   StableHlo.TRef.nullary (.of main_while0b_call3_c_0 : StableHlo.TRef sig ⟨S_, .i32⟩) (constantI S_ 32 0#32),
   StableHlo.TRef.binaryIndexed (.of main_v11_5 : StableHlo.TRef sig ⟨S256x64x128, .f32⟩) (.of main_while0b_call3_v0 : StableHlo.TRef sig ⟨S1x64x128, .f32⟩) ![(.of main_v11_3 : StableHlo.TRef sig ⟨S_, .i32⟩), (.of main_while0b_call3_c : StableHlo.TRef sig ⟨S_, .i32⟩), (.of main_while0b_call3_c_0 : StableHlo.TRef sig ⟨S_, .i32⟩)] (.of main_while0b_v84 : StableHlo.TRef sig ⟨S256x64x128, .f32⟩) (fun x u i => Host.dynamicUpdateSlice x u (fun k => (i k (Shape.Idx.first h_S_)).toInt) updateFits_S256x64x128_S1x64x128)]
theorem B0_2_sub : (B0_2 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- The body of loop 0. -/
abbrev B0_3 : List (HloOp τ sig (Elt F)) :=
  [StableHlo.nullary main_while0b_c_17 (constantI S_ 32 1#32),
   StableHlo.binary main_v11_3 main_while0b_c_17 main_while0b_v85 (addi : (⟨S_, .i32⟩ : BufTy).Contents (Elt F) → (⟨S_, .i32⟩ : BufTy).Contents (Elt F) → (⟨S_, .i32⟩ : BufTy).Contents (Elt F)),
   StableHlo.unary main_while0b_v85 main_v11_3 id,
   StableHlo.unary main_while0b_v83 main_v11_4 id,
   StableHlo.unary main_while0b_v84 main_v11_5 id]
theorem B0_3_sub : (B0_3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
abbrev B0 : List (List (HloOp τ sig (Elt F))) := [B0_0, B0_1, B0_2, B0_3]
theorem B0_plain : Plain (B0 (F := F)) := .cons B0_0_sub (.cons B0_1_sub (.cons B0_2_sub (.cons B0_3_sub (.nil))))
abbrev B0_W : List (Ref sig .tc) := [main_while0b_call2_c, main_while0b_call2_c_0, main_while0b_call2_v0, main_while0b_v49, main_while0b_v50, main_while0b_v51, main_while0b_v52, main_while0b_v53, main_while0b_v54, main_while0b_v55, main_while0b_v56, main_while0b_v57, main_while0b_v58, main_while0b_v59, main_while0b_v60, main_while0b_cst_12, main_while0b_v61, main_while0b_v62, main_while0b_cst_13, main_while0b_v63, main_while0b_v64, main_while0b_v65, main_while0b_v66, main_while0b_v67, main_while0b_v68, main_while0b_v69, main_while0b_cst_14, main_while0b_v70, main_while0b_v71, main_while0b_cst_15, main_while0b_v72, main_while0b_v73, main_while0b_v74, main_while0b_v75, main_while0b_v76, main_while0b_v77, main_while0b_v78, main_while0b_v79, main_while0b_cst_16, main_while0b_v80, main_while0b_v81, main_while0b_v82, main_while0b_v83, main_while0b_call3_v0, main_while0b_call3_c, main_while0b_call3_c_0, main_while0b_v84, main_while0b_c_17, main_while0b_v85, main_v11_3, main_v11_4, main_v11_5]
theorem B0_w : (B0 (F := F)).flatten.map HloOp.writes = B0_W.map fun w => {Proc.devRef (τ := τ) .tc w} := rfl

/-- The condition of loop 1. -/
abbrev C1_0 : List (HloOp τ sig (Elt F)) :=
  [StableHlo.nullary main_while1c_c_12 (constantI S_ 32 256#32),
   StableHlo.binary main_v21_3 main_while1c_c_12 main_while1c_v49 (cmpi .slt : (⟨S_, .i32⟩ : BufTy).Contents (Elt F) → (⟨S_, .i32⟩ : BufTy).Contents (Elt F) → (⟨S_, .i1⟩ : BufTy).Contents (Elt F))]
theorem C1_0_sub : (C1_0 : List (HloOp τ sig (Elt F))).Forall fun op => op.bufs ⊆ StableHlo.tcRefs τ sig :=
  ⟨StableHlo.nullary_bufs_sub .., StableHlo.binary_bufs_sub ..⟩
abbrev C1 : List (List (HloOp τ sig (Elt F))) := [C1_0]
theorem C1_plain : Plain (C1 (F := F)) := .cons C1_0_sub (.nil)
abbrev C1_W : List (Ref sig .tc) := [main_while1c_c_12, main_while1c_v49]
theorem C1_w : (C1 (F := F)).flatten.map HloOp.writes = C1_W.map fun w => {Proc.devRef (τ := τ) .tc w} := rfl

/-- The body of loop 1. -/
abbrev B1_0 : List (HloOp τ sig (Elt F)) :=
  [StableHlo.TRef.nullary (.of main_while1b_call4_c : StableHlo.TRef sig ⟨S_, .i32⟩) (constantI S_ 32 0#32),
   StableHlo.TRef.nullary (.of main_while1b_call4_c_0 : StableHlo.TRef sig ⟨S_, .i32⟩) (constantI S_ 32 0#32),
   StableHlo.TRef.unaryIndexed (.of main_v21_0 : StableHlo.TRef sig ⟨S256x64x384, .f32⟩) ![(.of main_v21_3 : StableHlo.TRef sig ⟨S_, .i32⟩), (.of main_while1b_call4_c : StableHlo.TRef sig ⟨S_, .i32⟩), (.of main_while1b_call4_c_0 : StableHlo.TRef sig ⟨S_, .i32⟩)] (.of main_while1b_call4_v0 : StableHlo.TRef sig ⟨S1x64x384, .f32⟩) (fun x i => Host.dynamicSlice S1x64x384 x (fun k => (i k (Shape.Idx.first h_S_)).toInt) sliceFits_S256x64x384_S1x64x384),
   StableHlo.TRef.reshape (.of main_while1b_call4_v0 : StableHlo.TRef sig ⟨S1x64x384, .f32⟩) (.of main_while1b_v49 : StableHlo.TRef sig ⟨S64x384, .f32⟩) (rfl : (.f32 : EltTy) = .f32) shapeCasts_S1x64x384_S64x384]
theorem B1_0_sub : (B1_0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- The body of loop 1. -/
abbrev B1_1 : List (HloOp τ sig (Elt F)) :=
  [StableHlo.binary main_v21_4 main_v21_1 main_while1b_v50 ((fun l r => Host.dotGeneral dot_S64x128_S128x384_S64x384_1_0_0_1_n_n none l r) : (⟨S64x128, .f32⟩ : BufTy).Contents (Elt F) → (⟨S128x384, .f32⟩ : BufTy).Contents (Elt F) → (⟨S64x384, .f32⟩ : BufTy).Contents (Elt F)),
   StableHlo.unary main_v21_2 main_while1b_v51 ((extractStridedSlice S1x384 ![1, 0] · slices_S2x384_S1x384_1_0) : (⟨S2x384, .f32⟩ : BufTy).Contents (Elt F) → (⟨S1x384, .f32⟩ : BufTy).Contents (Elt F)),
   StableHlo.reshape main_while1b_v51 main_while1b_v52 (rfl : (.f32 : EltTy) = .f32) shapeCasts_S1x384_S384,
   StableHlo.unary main_while1b_v52 main_while1b_v53 (broadcastInDim S1x384 ![1] bcast_S384_S1x384_1 : (⟨S384, .f32⟩ : BufTy).Contents (Elt F) → (⟨S1x384, .f32⟩ : BufTy).Contents (Elt F)),
   StableHlo.unary main_while1b_v53 main_while1b_v54 (broadcastInDim S64x384 ![0, 1] bcast_S1x384_S64x384_0_1 : (⟨S1x384, .f32⟩ : BufTy).Contents (Elt F) → (⟨S64x384, .f32⟩ : BufTy).Contents (Elt F)),
   StableHlo.binary main_while1b_v50 main_while1b_v54 main_while1b_v55 (addf : (⟨S64x384, .f32⟩ : BufTy).Contents (Elt F) → (⟨S64x384, .f32⟩ : BufTy).Contents (Elt F) → (⟨S64x384, .f32⟩ : BufTy).Contents (Elt F)),
   StableHlo.unary main_while1b_v49 main_while1b_v56 ((extractStridedSlice S64x128 ![0, 0] · slices_S64x384_S64x128_0_0) : (⟨S64x384, .f32⟩ : BufTy).Contents (Elt F) → (⟨S64x128, .f32⟩ : BufTy).Contents (Elt F)),
   StableHlo.unary main_while1b_v55 main_while1b_v57 ((extractStridedSlice S64x128 ![0, 0] · slices_S64x384_S64x128_0_0) : (⟨S64x384, .f32⟩ : BufTy).Contents (Elt F) → (⟨S64x128, .f32⟩ : BufTy).Contents (Elt F)),
   StableHlo.binary main_while1b_v56 main_while1b_v57 main_while1b_v58 (addf : (⟨S64x128, .f32⟩ : BufTy).Contents (Elt F) → (⟨S64x128, .f32⟩ : BufTy).Contents (Elt F) → (⟨S64x128, .f32⟩ : BufTy).Contents (Elt F)),
   StableHlo.unary main_while1b_v58 main_while1b_v59 (Host.negf : (⟨S64x128, .f32⟩ : BufTy).Contents (Elt F) → (⟨S64x128, .f32⟩ : BufTy).Contents (Elt F)),
   StableHlo.unary main_while1b_v59 main_while1b_v60 (Host.exp : (⟨S64x128, .f32⟩ : BufTy).Contents (Elt F) → (⟨S64x128, .f32⟩ : BufTy).Contents (Elt F)),
   StableHlo.nullary main_while1b_cst_12 (constant S_ .f32 0x3F800000#32),
   StableHlo.unary main_while1b_cst_12 main_while1b_v61 (broadcastInDim S64x128 ![] bcast_S_S64x128 : (⟨S_, .f32⟩ : BufTy).Contents (Elt F) → (⟨S64x128, .f32⟩ : BufTy).Contents (Elt F)),
   StableHlo.binary main_while1b_v61 main_while1b_v60 main_while1b_v62 (addf : (⟨S64x128, .f32⟩ : BufTy).Contents (Elt F) → (⟨S64x128, .f32⟩ : BufTy).Contents (Elt F) → (⟨S64x128, .f32⟩ : BufTy).Contents (Elt F)),
   StableHlo.nullary main_while1b_cst_13 (constant S_ .f32 0x3F800000#32),
   StableHlo.unary main_while1b_cst_13 main_while1b_v63 (broadcastInDim S64x128 ![] bcast_S_S64x128 : (⟨S_, .f32⟩ : BufTy).Contents (Elt F) → (⟨S64x128, .f32⟩ : BufTy).Contents (Elt F)),
   StableHlo.binary main_while1b_v63 main_while1b_v62 main_while1b_v64 (Host.divf : (⟨S64x128, .f32⟩ : BufTy).Contents (Elt F) → (⟨S64x128, .f32⟩ : BufTy).Contents (Elt F) → (⟨S64x128, .f32⟩ : BufTy).Contents (Elt F)),
   StableHlo.unary main_while1b_v49 main_while1b_v65 ((extractStridedSlice S64x128 ![0, 128] · slices_S64x384_S64x128_0_128) : (⟨S64x384, .f32⟩ : BufTy).Contents (Elt F) → (⟨S64x128, .f32⟩ : BufTy).Contents (Elt F)),
   StableHlo.unary main_while1b_v55 main_while1b_v66 ((extractStridedSlice S64x128 ![0, 128] · slices_S64x384_S64x128_0_128) : (⟨S64x384, .f32⟩ : BufTy).Contents (Elt F) → (⟨S64x128, .f32⟩ : BufTy).Contents (Elt F)),
   StableHlo.binary main_while1b_v65 main_while1b_v66 main_while1b_v67 (addf : (⟨S64x128, .f32⟩ : BufTy).Contents (Elt F) → (⟨S64x128, .f32⟩ : BufTy).Contents (Elt F) → (⟨S64x128, .f32⟩ : BufTy).Contents (Elt F)),
   StableHlo.unary main_while1b_v67 main_while1b_v68 (Host.negf : (⟨S64x128, .f32⟩ : BufTy).Contents (Elt F) → (⟨S64x128, .f32⟩ : BufTy).Contents (Elt F)),
   StableHlo.unary main_while1b_v68 main_while1b_v69 (Host.exp : (⟨S64x128, .f32⟩ : BufTy).Contents (Elt F) → (⟨S64x128, .f32⟩ : BufTy).Contents (Elt F)),
   StableHlo.nullary main_while1b_cst_14 (constant S_ .f32 0x3F800000#32),
   StableHlo.unary main_while1b_cst_14 main_while1b_v70 (broadcastInDim S64x128 ![] bcast_S_S64x128 : (⟨S_, .f32⟩ : BufTy).Contents (Elt F) → (⟨S64x128, .f32⟩ : BufTy).Contents (Elt F)),
   StableHlo.binary main_while1b_v70 main_while1b_v69 main_while1b_v71 (addf : (⟨S64x128, .f32⟩ : BufTy).Contents (Elt F) → (⟨S64x128, .f32⟩ : BufTy).Contents (Elt F) → (⟨S64x128, .f32⟩ : BufTy).Contents (Elt F)),
   StableHlo.nullary main_while1b_cst_15 (constant S_ .f32 0x3F800000#32),
   StableHlo.unary main_while1b_cst_15 main_while1b_v72 (broadcastInDim S64x128 ![] bcast_S_S64x128 : (⟨S_, .f32⟩ : BufTy).Contents (Elt F) → (⟨S64x128, .f32⟩ : BufTy).Contents (Elt F)),
   StableHlo.binary main_while1b_v72 main_while1b_v71 main_while1b_v73 (Host.divf : (⟨S64x128, .f32⟩ : BufTy).Contents (Elt F) → (⟨S64x128, .f32⟩ : BufTy).Contents (Elt F) → (⟨S64x128, .f32⟩ : BufTy).Contents (Elt F)),
   StableHlo.unary main_while1b_v49 main_while1b_v74 ((extractStridedSlice S64x128 ![0, 256] · slices_S64x384_S64x128_0_256) : (⟨S64x384, .f32⟩ : BufTy).Contents (Elt F) → (⟨S64x128, .f32⟩ : BufTy).Contents (Elt F)),
   StableHlo.unary main_while1b_v55 main_while1b_v75 ((extractStridedSlice S64x128 ![0, 256] · slices_S64x384_S64x128_0_256) : (⟨S64x384, .f32⟩ : BufTy).Contents (Elt F) → (⟨S64x128, .f32⟩ : BufTy).Contents (Elt F)),
   StableHlo.binary main_while1b_v73 main_while1b_v75 main_while1b_v76 (mulf : (⟨S64x128, .f32⟩ : BufTy).Contents (Elt F) → (⟨S64x128, .f32⟩ : BufTy).Contents (Elt F) → (⟨S64x128, .f32⟩ : BufTy).Contents (Elt F)),
   StableHlo.binary main_while1b_v74 main_while1b_v76 main_while1b_v77 (addf : (⟨S64x128, .f32⟩ : BufTy).Contents (Elt F) → (⟨S64x128, .f32⟩ : BufTy).Contents (Elt F) → (⟨S64x128, .f32⟩ : BufTy).Contents (Elt F)),
   StableHlo.unary main_while1b_v77 main_while1b_v78 (Host.tanh : (⟨S64x128, .f32⟩ : BufTy).Contents (Elt F) → (⟨S64x128, .f32⟩ : BufTy).Contents (Elt F)),
   StableHlo.binary main_while1b_v64 main_v21_4 main_while1b_v79 (mulf : (⟨S64x128, .f32⟩ : BufTy).Contents (Elt F) → (⟨S64x128, .f32⟩ : BufTy).Contents (Elt F) → (⟨S64x128, .f32⟩ : BufTy).Contents (Elt F)),
   StableHlo.nullary main_while1b_cst_16 (constant S_ .f32 0x3F800000#32),
   StableHlo.unary main_while1b_cst_16 main_while1b_v80 (broadcastInDim S64x128 ![] bcast_S_S64x128 : (⟨S_, .f32⟩ : BufTy).Contents (Elt F) → (⟨S64x128, .f32⟩ : BufTy).Contents (Elt F)),
   StableHlo.binary main_while1b_v80 main_while1b_v64 main_while1b_v81 (subf : (⟨S64x128, .f32⟩ : BufTy).Contents (Elt F) → (⟨S64x128, .f32⟩ : BufTy).Contents (Elt F) → (⟨S64x128, .f32⟩ : BufTy).Contents (Elt F)),
   StableHlo.binary main_while1b_v81 main_while1b_v78 main_while1b_v82 (mulf : (⟨S64x128, .f32⟩ : BufTy).Contents (Elt F) → (⟨S64x128, .f32⟩ : BufTy).Contents (Elt F) → (⟨S64x128, .f32⟩ : BufTy).Contents (Elt F)),
   StableHlo.binary main_while1b_v79 main_while1b_v82 main_while1b_v83 (addf : (⟨S64x128, .f32⟩ : BufTy).Contents (Elt F) → (⟨S64x128, .f32⟩ : BufTy).Contents (Elt F) → (⟨S64x128, .f32⟩ : BufTy).Contents (Elt F))]
theorem B1_1_sub : (B1_1 : List (HloOp τ sig (Elt F))).Forall fun op => op.bufs ⊆ StableHlo.tcRefs τ sig :=
  ⟨StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩
/-- The body of loop 1. -/
abbrev B1_2 : List (HloOp τ sig (Elt F)) :=
  [StableHlo.TRef.unary (.of main_while1b_v83 : StableHlo.TRef sig ⟨S64x128, .f32⟩) (.of main_while1b_call5_v0 : StableHlo.TRef sig ⟨S1x64x128, .f32⟩) (broadcastInDim S1x64x128 ![1, 2] bcast_S64x128_S1x64x128_1_2),
   StableHlo.TRef.nullary (.of main_while1b_call5_c : StableHlo.TRef sig ⟨S_, .i32⟩) (constantI S_ 32 0#32),
   StableHlo.TRef.nullary (.of main_while1b_call5_c_0 : StableHlo.TRef sig ⟨S_, .i32⟩) (constantI S_ 32 0#32),
   StableHlo.TRef.binaryIndexed (.of main_v21_5 : StableHlo.TRef sig ⟨S256x64x128, .f32⟩) (.of main_while1b_call5_v0 : StableHlo.TRef sig ⟨S1x64x128, .f32⟩) ![(.of main_v21_3 : StableHlo.TRef sig ⟨S_, .i32⟩), (.of main_while1b_call5_c : StableHlo.TRef sig ⟨S_, .i32⟩), (.of main_while1b_call5_c_0 : StableHlo.TRef sig ⟨S_, .i32⟩)] (.of main_while1b_v84 : StableHlo.TRef sig ⟨S256x64x128, .f32⟩) (fun x u i => Host.dynamicUpdateSlice x u (fun k => (i k (Shape.Idx.first h_S_)).toInt) updateFits_S256x64x128_S1x64x128)]
theorem B1_2_sub : (B1_2 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- The body of loop 1. -/
abbrev B1_3 : List (HloOp τ sig (Elt F)) :=
  [StableHlo.nullary main_while1b_c_17 (constantI S_ 32 1#32),
   StableHlo.binary main_v21_3 main_while1b_c_17 main_while1b_v85 (addi : (⟨S_, .i32⟩ : BufTy).Contents (Elt F) → (⟨S_, .i32⟩ : BufTy).Contents (Elt F) → (⟨S_, .i32⟩ : BufTy).Contents (Elt F)),
   StableHlo.unary main_while1b_v85 main_v21_3 id,
   StableHlo.unary main_while1b_v83 main_v21_4 id,
   StableHlo.unary main_while1b_v84 main_v21_5 id]
theorem B1_3_sub : (B1_3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
abbrev B1 : List (List (HloOp τ sig (Elt F))) := [B1_0, B1_1, B1_2, B1_3]
theorem B1_plain : Plain (B1 (F := F)) := .cons B1_0_sub (.cons B1_1_sub (.cons B1_2_sub (.cons B1_3_sub (.nil))))
abbrev B1_W : List (Ref sig .tc) := [main_while1b_call4_c, main_while1b_call4_c_0, main_while1b_call4_v0, main_while1b_v49, main_while1b_v50, main_while1b_v51, main_while1b_v52, main_while1b_v53, main_while1b_v54, main_while1b_v55, main_while1b_v56, main_while1b_v57, main_while1b_v58, main_while1b_v59, main_while1b_v60, main_while1b_cst_12, main_while1b_v61, main_while1b_v62, main_while1b_cst_13, main_while1b_v63, main_while1b_v64, main_while1b_v65, main_while1b_v66, main_while1b_v67, main_while1b_v68, main_while1b_v69, main_while1b_cst_14, main_while1b_v70, main_while1b_v71, main_while1b_cst_15, main_while1b_v72, main_while1b_v73, main_while1b_v74, main_while1b_v75, main_while1b_v76, main_while1b_v77, main_while1b_v78, main_while1b_v79, main_while1b_cst_16, main_while1b_v80, main_while1b_v81, main_while1b_v82, main_while1b_v83, main_while1b_call5_v0, main_while1b_call5_c, main_while1b_call5_c_0, main_while1b_v84, main_while1b_c_17, main_while1b_v85, main_v21_3, main_v21_4, main_v21_5]
theorem B1_w : (B1 (F := F)).flatten.map HloOp.writes = B1_W.map fun w => {Proc.devRef (τ := τ) .tc w} := rfl

/-- The condition of loop 2. -/
abbrev C2_0 : List (HloOp τ sig (Elt F)) :=
  [StableHlo.nullary main_while2c_c_12 (constantI S_ 32 256#32),
   StableHlo.binary main_v31_3 main_while2c_c_12 main_while2c_v49 (cmpi .slt : (⟨S_, .i32⟩ : BufTy).Contents (Elt F) → (⟨S_, .i32⟩ : BufTy).Contents (Elt F) → (⟨S_, .i1⟩ : BufTy).Contents (Elt F))]
theorem C2_0_sub : (C2_0 : List (HloOp τ sig (Elt F))).Forall fun op => op.bufs ⊆ StableHlo.tcRefs τ sig :=
  ⟨StableHlo.nullary_bufs_sub .., StableHlo.binary_bufs_sub ..⟩
abbrev C2 : List (List (HloOp τ sig (Elt F))) := [C2_0]
theorem C2_plain : Plain (C2 (F := F)) := .cons C2_0_sub (.nil)
abbrev C2_W : List (Ref sig .tc) := [main_while2c_c_12, main_while2c_v49]
theorem C2_w : (C2 (F := F)).flatten.map HloOp.writes = C2_W.map fun w => {Proc.devRef (τ := τ) .tc w} := rfl

/-- The body of loop 2. -/
abbrev B2_0 : List (HloOp τ sig (Elt F)) :=
  [StableHlo.TRef.nullary (.of main_while2b_call6_c : StableHlo.TRef sig ⟨S_, .i32⟩) (constantI S_ 32 0#32),
   StableHlo.TRef.nullary (.of main_while2b_call6_c_0 : StableHlo.TRef sig ⟨S_, .i32⟩) (constantI S_ 32 0#32),
   StableHlo.TRef.unaryIndexed (.of main_v31_0 : StableHlo.TRef sig ⟨S256x64x384, .f32⟩) ![(.of main_v31_3 : StableHlo.TRef sig ⟨S_, .i32⟩), (.of main_while2b_call6_c : StableHlo.TRef sig ⟨S_, .i32⟩), (.of main_while2b_call6_c_0 : StableHlo.TRef sig ⟨S_, .i32⟩)] (.of main_while2b_call6_v0 : StableHlo.TRef sig ⟨S1x64x384, .f32⟩) (fun x i => Host.dynamicSlice S1x64x384 x (fun k => (i k (Shape.Idx.first h_S_)).toInt) sliceFits_S256x64x384_S1x64x384),
   StableHlo.TRef.reshape (.of main_while2b_call6_v0 : StableHlo.TRef sig ⟨S1x64x384, .f32⟩) (.of main_while2b_v49 : StableHlo.TRef sig ⟨S64x384, .f32⟩) (rfl : (.f32 : EltTy) = .f32) shapeCasts_S1x64x384_S64x384]
theorem B2_0_sub : (B2_0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- The body of loop 2. -/
abbrev B2_1 : List (HloOp τ sig (Elt F)) :=
  [StableHlo.binary main_v31_4 main_v31_1 main_while2b_v50 ((fun l r => Host.dotGeneral dot_S64x128_S128x384_S64x384_1_0_0_1_n_n none l r) : (⟨S64x128, .f32⟩ : BufTy).Contents (Elt F) → (⟨S128x384, .f32⟩ : BufTy).Contents (Elt F) → (⟨S64x384, .f32⟩ : BufTy).Contents (Elt F)),
   StableHlo.unary main_v31_2 main_while2b_v51 ((extractStridedSlice S1x384 ![1, 0] · slices_S2x384_S1x384_1_0) : (⟨S2x384, .f32⟩ : BufTy).Contents (Elt F) → (⟨S1x384, .f32⟩ : BufTy).Contents (Elt F)),
   StableHlo.reshape main_while2b_v51 main_while2b_v52 (rfl : (.f32 : EltTy) = .f32) shapeCasts_S1x384_S384,
   StableHlo.unary main_while2b_v52 main_while2b_v53 (broadcastInDim S1x384 ![1] bcast_S384_S1x384_1 : (⟨S384, .f32⟩ : BufTy).Contents (Elt F) → (⟨S1x384, .f32⟩ : BufTy).Contents (Elt F)),
   StableHlo.unary main_while2b_v53 main_while2b_v54 (broadcastInDim S64x384 ![0, 1] bcast_S1x384_S64x384_0_1 : (⟨S1x384, .f32⟩ : BufTy).Contents (Elt F) → (⟨S64x384, .f32⟩ : BufTy).Contents (Elt F)),
   StableHlo.binary main_while2b_v50 main_while2b_v54 main_while2b_v55 (addf : (⟨S64x384, .f32⟩ : BufTy).Contents (Elt F) → (⟨S64x384, .f32⟩ : BufTy).Contents (Elt F) → (⟨S64x384, .f32⟩ : BufTy).Contents (Elt F)),
   StableHlo.unary main_while2b_v49 main_while2b_v56 ((extractStridedSlice S64x128 ![0, 0] · slices_S64x384_S64x128_0_0) : (⟨S64x384, .f32⟩ : BufTy).Contents (Elt F) → (⟨S64x128, .f32⟩ : BufTy).Contents (Elt F)),
   StableHlo.unary main_while2b_v55 main_while2b_v57 ((extractStridedSlice S64x128 ![0, 0] · slices_S64x384_S64x128_0_0) : (⟨S64x384, .f32⟩ : BufTy).Contents (Elt F) → (⟨S64x128, .f32⟩ : BufTy).Contents (Elt F)),
   StableHlo.binary main_while2b_v56 main_while2b_v57 main_while2b_v58 (addf : (⟨S64x128, .f32⟩ : BufTy).Contents (Elt F) → (⟨S64x128, .f32⟩ : BufTy).Contents (Elt F) → (⟨S64x128, .f32⟩ : BufTy).Contents (Elt F)),
   StableHlo.unary main_while2b_v58 main_while2b_v59 (Host.negf : (⟨S64x128, .f32⟩ : BufTy).Contents (Elt F) → (⟨S64x128, .f32⟩ : BufTy).Contents (Elt F)),
   StableHlo.unary main_while2b_v59 main_while2b_v60 (Host.exp : (⟨S64x128, .f32⟩ : BufTy).Contents (Elt F) → (⟨S64x128, .f32⟩ : BufTy).Contents (Elt F)),
   StableHlo.nullary main_while2b_cst_12 (constant S_ .f32 0x3F800000#32),
   StableHlo.unary main_while2b_cst_12 main_while2b_v61 (broadcastInDim S64x128 ![] bcast_S_S64x128 : (⟨S_, .f32⟩ : BufTy).Contents (Elt F) → (⟨S64x128, .f32⟩ : BufTy).Contents (Elt F)),
   StableHlo.binary main_while2b_v61 main_while2b_v60 main_while2b_v62 (addf : (⟨S64x128, .f32⟩ : BufTy).Contents (Elt F) → (⟨S64x128, .f32⟩ : BufTy).Contents (Elt F) → (⟨S64x128, .f32⟩ : BufTy).Contents (Elt F)),
   StableHlo.nullary main_while2b_cst_13 (constant S_ .f32 0x3F800000#32),
   StableHlo.unary main_while2b_cst_13 main_while2b_v63 (broadcastInDim S64x128 ![] bcast_S_S64x128 : (⟨S_, .f32⟩ : BufTy).Contents (Elt F) → (⟨S64x128, .f32⟩ : BufTy).Contents (Elt F)),
   StableHlo.binary main_while2b_v63 main_while2b_v62 main_while2b_v64 (Host.divf : (⟨S64x128, .f32⟩ : BufTy).Contents (Elt F) → (⟨S64x128, .f32⟩ : BufTy).Contents (Elt F) → (⟨S64x128, .f32⟩ : BufTy).Contents (Elt F)),
   StableHlo.unary main_while2b_v49 main_while2b_v65 ((extractStridedSlice S64x128 ![0, 128] · slices_S64x384_S64x128_0_128) : (⟨S64x384, .f32⟩ : BufTy).Contents (Elt F) → (⟨S64x128, .f32⟩ : BufTy).Contents (Elt F)),
   StableHlo.unary main_while2b_v55 main_while2b_v66 ((extractStridedSlice S64x128 ![0, 128] · slices_S64x384_S64x128_0_128) : (⟨S64x384, .f32⟩ : BufTy).Contents (Elt F) → (⟨S64x128, .f32⟩ : BufTy).Contents (Elt F)),
   StableHlo.binary main_while2b_v65 main_while2b_v66 main_while2b_v67 (addf : (⟨S64x128, .f32⟩ : BufTy).Contents (Elt F) → (⟨S64x128, .f32⟩ : BufTy).Contents (Elt F) → (⟨S64x128, .f32⟩ : BufTy).Contents (Elt F)),
   StableHlo.unary main_while2b_v67 main_while2b_v68 (Host.negf : (⟨S64x128, .f32⟩ : BufTy).Contents (Elt F) → (⟨S64x128, .f32⟩ : BufTy).Contents (Elt F)),
   StableHlo.unary main_while2b_v68 main_while2b_v69 (Host.exp : (⟨S64x128, .f32⟩ : BufTy).Contents (Elt F) → (⟨S64x128, .f32⟩ : BufTy).Contents (Elt F)),
   StableHlo.nullary main_while2b_cst_14 (constant S_ .f32 0x3F800000#32),
   StableHlo.unary main_while2b_cst_14 main_while2b_v70 (broadcastInDim S64x128 ![] bcast_S_S64x128 : (⟨S_, .f32⟩ : BufTy).Contents (Elt F) → (⟨S64x128, .f32⟩ : BufTy).Contents (Elt F)),
   StableHlo.binary main_while2b_v70 main_while2b_v69 main_while2b_v71 (addf : (⟨S64x128, .f32⟩ : BufTy).Contents (Elt F) → (⟨S64x128, .f32⟩ : BufTy).Contents (Elt F) → (⟨S64x128, .f32⟩ : BufTy).Contents (Elt F)),
   StableHlo.nullary main_while2b_cst_15 (constant S_ .f32 0x3F800000#32),
   StableHlo.unary main_while2b_cst_15 main_while2b_v72 (broadcastInDim S64x128 ![] bcast_S_S64x128 : (⟨S_, .f32⟩ : BufTy).Contents (Elt F) → (⟨S64x128, .f32⟩ : BufTy).Contents (Elt F)),
   StableHlo.binary main_while2b_v72 main_while2b_v71 main_while2b_v73 (Host.divf : (⟨S64x128, .f32⟩ : BufTy).Contents (Elt F) → (⟨S64x128, .f32⟩ : BufTy).Contents (Elt F) → (⟨S64x128, .f32⟩ : BufTy).Contents (Elt F)),
   StableHlo.unary main_while2b_v49 main_while2b_v74 ((extractStridedSlice S64x128 ![0, 256] · slices_S64x384_S64x128_0_256) : (⟨S64x384, .f32⟩ : BufTy).Contents (Elt F) → (⟨S64x128, .f32⟩ : BufTy).Contents (Elt F)),
   StableHlo.unary main_while2b_v55 main_while2b_v75 ((extractStridedSlice S64x128 ![0, 256] · slices_S64x384_S64x128_0_256) : (⟨S64x384, .f32⟩ : BufTy).Contents (Elt F) → (⟨S64x128, .f32⟩ : BufTy).Contents (Elt F)),
   StableHlo.binary main_while2b_v73 main_while2b_v75 main_while2b_v76 (mulf : (⟨S64x128, .f32⟩ : BufTy).Contents (Elt F) → (⟨S64x128, .f32⟩ : BufTy).Contents (Elt F) → (⟨S64x128, .f32⟩ : BufTy).Contents (Elt F)),
   StableHlo.binary main_while2b_v74 main_while2b_v76 main_while2b_v77 (addf : (⟨S64x128, .f32⟩ : BufTy).Contents (Elt F) → (⟨S64x128, .f32⟩ : BufTy).Contents (Elt F) → (⟨S64x128, .f32⟩ : BufTy).Contents (Elt F)),
   StableHlo.unary main_while2b_v77 main_while2b_v78 (Host.tanh : (⟨S64x128, .f32⟩ : BufTy).Contents (Elt F) → (⟨S64x128, .f32⟩ : BufTy).Contents (Elt F)),
   StableHlo.binary main_while2b_v64 main_v31_4 main_while2b_v79 (mulf : (⟨S64x128, .f32⟩ : BufTy).Contents (Elt F) → (⟨S64x128, .f32⟩ : BufTy).Contents (Elt F) → (⟨S64x128, .f32⟩ : BufTy).Contents (Elt F)),
   StableHlo.nullary main_while2b_cst_16 (constant S_ .f32 0x3F800000#32),
   StableHlo.unary main_while2b_cst_16 main_while2b_v80 (broadcastInDim S64x128 ![] bcast_S_S64x128 : (⟨S_, .f32⟩ : BufTy).Contents (Elt F) → (⟨S64x128, .f32⟩ : BufTy).Contents (Elt F)),
   StableHlo.binary main_while2b_v80 main_while2b_v64 main_while2b_v81 (subf : (⟨S64x128, .f32⟩ : BufTy).Contents (Elt F) → (⟨S64x128, .f32⟩ : BufTy).Contents (Elt F) → (⟨S64x128, .f32⟩ : BufTy).Contents (Elt F)),
   StableHlo.binary main_while2b_v81 main_while2b_v78 main_while2b_v82 (mulf : (⟨S64x128, .f32⟩ : BufTy).Contents (Elt F) → (⟨S64x128, .f32⟩ : BufTy).Contents (Elt F) → (⟨S64x128, .f32⟩ : BufTy).Contents (Elt F)),
   StableHlo.binary main_while2b_v79 main_while2b_v82 main_while2b_v83 (addf : (⟨S64x128, .f32⟩ : BufTy).Contents (Elt F) → (⟨S64x128, .f32⟩ : BufTy).Contents (Elt F) → (⟨S64x128, .f32⟩ : BufTy).Contents (Elt F))]
theorem B2_1_sub : (B2_1 : List (HloOp τ sig (Elt F))).Forall fun op => op.bufs ⊆ StableHlo.tcRefs τ sig :=
  ⟨StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩
/-- The body of loop 2. -/
abbrev B2_2 : List (HloOp τ sig (Elt F)) :=
  [StableHlo.TRef.unary (.of main_while2b_v83 : StableHlo.TRef sig ⟨S64x128, .f32⟩) (.of main_while2b_call7_v0 : StableHlo.TRef sig ⟨S1x64x128, .f32⟩) (broadcastInDim S1x64x128 ![1, 2] bcast_S64x128_S1x64x128_1_2),
   StableHlo.TRef.nullary (.of main_while2b_call7_c : StableHlo.TRef sig ⟨S_, .i32⟩) (constantI S_ 32 0#32),
   StableHlo.TRef.nullary (.of main_while2b_call7_c_0 : StableHlo.TRef sig ⟨S_, .i32⟩) (constantI S_ 32 0#32),
   StableHlo.TRef.binaryIndexed (.of main_v31_5 : StableHlo.TRef sig ⟨S256x64x128, .f32⟩) (.of main_while2b_call7_v0 : StableHlo.TRef sig ⟨S1x64x128, .f32⟩) ![(.of main_v31_3 : StableHlo.TRef sig ⟨S_, .i32⟩), (.of main_while2b_call7_c : StableHlo.TRef sig ⟨S_, .i32⟩), (.of main_while2b_call7_c_0 : StableHlo.TRef sig ⟨S_, .i32⟩)] (.of main_while2b_v84 : StableHlo.TRef sig ⟨S256x64x128, .f32⟩) (fun x u i => Host.dynamicUpdateSlice x u (fun k => (i k (Shape.Idx.first h_S_)).toInt) updateFits_S256x64x128_S1x64x128)]
theorem B2_2_sub : (B2_2 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- The body of loop 2. -/
abbrev B2_3 : List (HloOp τ sig (Elt F)) :=
  [StableHlo.nullary main_while2b_c_17 (constantI S_ 32 1#32),
   StableHlo.binary main_v31_3 main_while2b_c_17 main_while2b_v85 (addi : (⟨S_, .i32⟩ : BufTy).Contents (Elt F) → (⟨S_, .i32⟩ : BufTy).Contents (Elt F) → (⟨S_, .i32⟩ : BufTy).Contents (Elt F)),
   StableHlo.unary main_while2b_v85 main_v31_3 id,
   StableHlo.unary main_while2b_v83 main_v31_4 id,
   StableHlo.unary main_while2b_v84 main_v31_5 id]
theorem B2_3_sub : (B2_3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
abbrev B2 : List (List (HloOp τ sig (Elt F))) := [B2_0, B2_1, B2_2, B2_3]
theorem B2_plain : Plain (B2 (F := F)) := .cons B2_0_sub (.cons B2_1_sub (.cons B2_2_sub (.cons B2_3_sub (.nil))))
abbrev B2_W : List (Ref sig .tc) := [main_while2b_call6_c, main_while2b_call6_c_0, main_while2b_call6_v0, main_while2b_v49, main_while2b_v50, main_while2b_v51, main_while2b_v52, main_while2b_v53, main_while2b_v54, main_while2b_v55, main_while2b_v56, main_while2b_v57, main_while2b_v58, main_while2b_v59, main_while2b_v60, main_while2b_cst_12, main_while2b_v61, main_while2b_v62, main_while2b_cst_13, main_while2b_v63, main_while2b_v64, main_while2b_v65, main_while2b_v66, main_while2b_v67, main_while2b_v68, main_while2b_v69, main_while2b_cst_14, main_while2b_v70, main_while2b_v71, main_while2b_cst_15, main_while2b_v72, main_while2b_v73, main_while2b_v74, main_while2b_v75, main_while2b_v76, main_while2b_v77, main_while2b_v78, main_while2b_v79, main_while2b_cst_16, main_while2b_v80, main_while2b_v81, main_while2b_v82, main_while2b_v83, main_while2b_call7_v0, main_while2b_call7_c, main_while2b_call7_c_0, main_while2b_v84, main_while2b_c_17, main_while2b_v85, main_v31_3, main_v31_4, main_v31_5]
theorem B2_w : (B2 (F := F)).flatten.map HloOp.writes = B2_W.map fun w => {Proc.devRef (τ := τ) .tc w} := rfl

/-- The condition of loop 3. -/
abbrev C3_0 : List (HloOp τ sig (Elt F)) :=
  [StableHlo.nullary main_while3c_c_12 (constantI S_ 32 256#32),
   StableHlo.binary main_v41_3 main_while3c_c_12 main_while3c_v49 (cmpi .slt : (⟨S_, .i32⟩ : BufTy).Contents (Elt F) → (⟨S_, .i32⟩ : BufTy).Contents (Elt F) → (⟨S_, .i1⟩ : BufTy).Contents (Elt F))]
theorem C3_0_sub : (C3_0 : List (HloOp τ sig (Elt F))).Forall fun op => op.bufs ⊆ StableHlo.tcRefs τ sig :=
  ⟨StableHlo.nullary_bufs_sub .., StableHlo.binary_bufs_sub ..⟩
abbrev C3 : List (List (HloOp τ sig (Elt F))) := [C3_0]
theorem C3_plain : Plain (C3 (F := F)) := .cons C3_0_sub (.nil)
abbrev C3_W : List (Ref sig .tc) := [main_while3c_c_12, main_while3c_v49]
theorem C3_w : (C3 (F := F)).flatten.map HloOp.writes = C3_W.map fun w => {Proc.devRef (τ := τ) .tc w} := rfl

/-- The body of loop 3. -/
abbrev B3_0 : List (HloOp τ sig (Elt F)) :=
  [StableHlo.TRef.nullary (.of main_while3b_call8_c : StableHlo.TRef sig ⟨S_, .i32⟩) (constantI S_ 32 0#32),
   StableHlo.TRef.nullary (.of main_while3b_call8_c_0 : StableHlo.TRef sig ⟨S_, .i32⟩) (constantI S_ 32 0#32),
   StableHlo.TRef.unaryIndexed (.of main_v41_0 : StableHlo.TRef sig ⟨S256x64x384, .f32⟩) ![(.of main_v41_3 : StableHlo.TRef sig ⟨S_, .i32⟩), (.of main_while3b_call8_c : StableHlo.TRef sig ⟨S_, .i32⟩), (.of main_while3b_call8_c_0 : StableHlo.TRef sig ⟨S_, .i32⟩)] (.of main_while3b_call8_v0 : StableHlo.TRef sig ⟨S1x64x384, .f32⟩) (fun x i => Host.dynamicSlice S1x64x384 x (fun k => (i k (Shape.Idx.first h_S_)).toInt) sliceFits_S256x64x384_S1x64x384),
   StableHlo.TRef.reshape (.of main_while3b_call8_v0 : StableHlo.TRef sig ⟨S1x64x384, .f32⟩) (.of main_while3b_v49 : StableHlo.TRef sig ⟨S64x384, .f32⟩) (rfl : (.f32 : EltTy) = .f32) shapeCasts_S1x64x384_S64x384]
theorem B3_0_sub : (B3_0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- The body of loop 3. -/
abbrev B3_1 : List (HloOp τ sig (Elt F)) :=
  [StableHlo.binary main_v41_4 main_v41_1 main_while3b_v50 ((fun l r => Host.dotGeneral dot_S64x128_S128x384_S64x384_1_0_0_1_n_n none l r) : (⟨S64x128, .f32⟩ : BufTy).Contents (Elt F) → (⟨S128x384, .f32⟩ : BufTy).Contents (Elt F) → (⟨S64x384, .f32⟩ : BufTy).Contents (Elt F)),
   StableHlo.unary main_v41_2 main_while3b_v51 ((extractStridedSlice S1x384 ![1, 0] · slices_S2x384_S1x384_1_0) : (⟨S2x384, .f32⟩ : BufTy).Contents (Elt F) → (⟨S1x384, .f32⟩ : BufTy).Contents (Elt F)),
   StableHlo.reshape main_while3b_v51 main_while3b_v52 (rfl : (.f32 : EltTy) = .f32) shapeCasts_S1x384_S384,
   StableHlo.unary main_while3b_v52 main_while3b_v53 (broadcastInDim S1x384 ![1] bcast_S384_S1x384_1 : (⟨S384, .f32⟩ : BufTy).Contents (Elt F) → (⟨S1x384, .f32⟩ : BufTy).Contents (Elt F)),
   StableHlo.unary main_while3b_v53 main_while3b_v54 (broadcastInDim S64x384 ![0, 1] bcast_S1x384_S64x384_0_1 : (⟨S1x384, .f32⟩ : BufTy).Contents (Elt F) → (⟨S64x384, .f32⟩ : BufTy).Contents (Elt F)),
   StableHlo.binary main_while3b_v50 main_while3b_v54 main_while3b_v55 (addf : (⟨S64x384, .f32⟩ : BufTy).Contents (Elt F) → (⟨S64x384, .f32⟩ : BufTy).Contents (Elt F) → (⟨S64x384, .f32⟩ : BufTy).Contents (Elt F)),
   StableHlo.unary main_while3b_v49 main_while3b_v56 ((extractStridedSlice S64x128 ![0, 0] · slices_S64x384_S64x128_0_0) : (⟨S64x384, .f32⟩ : BufTy).Contents (Elt F) → (⟨S64x128, .f32⟩ : BufTy).Contents (Elt F)),
   StableHlo.unary main_while3b_v55 main_while3b_v57 ((extractStridedSlice S64x128 ![0, 0] · slices_S64x384_S64x128_0_0) : (⟨S64x384, .f32⟩ : BufTy).Contents (Elt F) → (⟨S64x128, .f32⟩ : BufTy).Contents (Elt F)),
   StableHlo.binary main_while3b_v56 main_while3b_v57 main_while3b_v58 (addf : (⟨S64x128, .f32⟩ : BufTy).Contents (Elt F) → (⟨S64x128, .f32⟩ : BufTy).Contents (Elt F) → (⟨S64x128, .f32⟩ : BufTy).Contents (Elt F)),
   StableHlo.unary main_while3b_v58 main_while3b_v59 (Host.negf : (⟨S64x128, .f32⟩ : BufTy).Contents (Elt F) → (⟨S64x128, .f32⟩ : BufTy).Contents (Elt F)),
   StableHlo.unary main_while3b_v59 main_while3b_v60 (Host.exp : (⟨S64x128, .f32⟩ : BufTy).Contents (Elt F) → (⟨S64x128, .f32⟩ : BufTy).Contents (Elt F)),
   StableHlo.nullary main_while3b_cst_12 (constant S_ .f32 0x3F800000#32),
   StableHlo.unary main_while3b_cst_12 main_while3b_v61 (broadcastInDim S64x128 ![] bcast_S_S64x128 : (⟨S_, .f32⟩ : BufTy).Contents (Elt F) → (⟨S64x128, .f32⟩ : BufTy).Contents (Elt F)),
   StableHlo.binary main_while3b_v61 main_while3b_v60 main_while3b_v62 (addf : (⟨S64x128, .f32⟩ : BufTy).Contents (Elt F) → (⟨S64x128, .f32⟩ : BufTy).Contents (Elt F) → (⟨S64x128, .f32⟩ : BufTy).Contents (Elt F)),
   StableHlo.nullary main_while3b_cst_13 (constant S_ .f32 0x3F800000#32),
   StableHlo.unary main_while3b_cst_13 main_while3b_v63 (broadcastInDim S64x128 ![] bcast_S_S64x128 : (⟨S_, .f32⟩ : BufTy).Contents (Elt F) → (⟨S64x128, .f32⟩ : BufTy).Contents (Elt F)),
   StableHlo.binary main_while3b_v63 main_while3b_v62 main_while3b_v64 (Host.divf : (⟨S64x128, .f32⟩ : BufTy).Contents (Elt F) → (⟨S64x128, .f32⟩ : BufTy).Contents (Elt F) → (⟨S64x128, .f32⟩ : BufTy).Contents (Elt F)),
   StableHlo.unary main_while3b_v49 main_while3b_v65 ((extractStridedSlice S64x128 ![0, 128] · slices_S64x384_S64x128_0_128) : (⟨S64x384, .f32⟩ : BufTy).Contents (Elt F) → (⟨S64x128, .f32⟩ : BufTy).Contents (Elt F)),
   StableHlo.unary main_while3b_v55 main_while3b_v66 ((extractStridedSlice S64x128 ![0, 128] · slices_S64x384_S64x128_0_128) : (⟨S64x384, .f32⟩ : BufTy).Contents (Elt F) → (⟨S64x128, .f32⟩ : BufTy).Contents (Elt F)),
   StableHlo.binary main_while3b_v65 main_while3b_v66 main_while3b_v67 (addf : (⟨S64x128, .f32⟩ : BufTy).Contents (Elt F) → (⟨S64x128, .f32⟩ : BufTy).Contents (Elt F) → (⟨S64x128, .f32⟩ : BufTy).Contents (Elt F)),
   StableHlo.unary main_while3b_v67 main_while3b_v68 (Host.negf : (⟨S64x128, .f32⟩ : BufTy).Contents (Elt F) → (⟨S64x128, .f32⟩ : BufTy).Contents (Elt F)),
   StableHlo.unary main_while3b_v68 main_while3b_v69 (Host.exp : (⟨S64x128, .f32⟩ : BufTy).Contents (Elt F) → (⟨S64x128, .f32⟩ : BufTy).Contents (Elt F)),
   StableHlo.nullary main_while3b_cst_14 (constant S_ .f32 0x3F800000#32),
   StableHlo.unary main_while3b_cst_14 main_while3b_v70 (broadcastInDim S64x128 ![] bcast_S_S64x128 : (⟨S_, .f32⟩ : BufTy).Contents (Elt F) → (⟨S64x128, .f32⟩ : BufTy).Contents (Elt F)),
   StableHlo.binary main_while3b_v70 main_while3b_v69 main_while3b_v71 (addf : (⟨S64x128, .f32⟩ : BufTy).Contents (Elt F) → (⟨S64x128, .f32⟩ : BufTy).Contents (Elt F) → (⟨S64x128, .f32⟩ : BufTy).Contents (Elt F)),
   StableHlo.nullary main_while3b_cst_15 (constant S_ .f32 0x3F800000#32),
   StableHlo.unary main_while3b_cst_15 main_while3b_v72 (broadcastInDim S64x128 ![] bcast_S_S64x128 : (⟨S_, .f32⟩ : BufTy).Contents (Elt F) → (⟨S64x128, .f32⟩ : BufTy).Contents (Elt F)),
   StableHlo.binary main_while3b_v72 main_while3b_v71 main_while3b_v73 (Host.divf : (⟨S64x128, .f32⟩ : BufTy).Contents (Elt F) → (⟨S64x128, .f32⟩ : BufTy).Contents (Elt F) → (⟨S64x128, .f32⟩ : BufTy).Contents (Elt F)),
   StableHlo.unary main_while3b_v49 main_while3b_v74 ((extractStridedSlice S64x128 ![0, 256] · slices_S64x384_S64x128_0_256) : (⟨S64x384, .f32⟩ : BufTy).Contents (Elt F) → (⟨S64x128, .f32⟩ : BufTy).Contents (Elt F)),
   StableHlo.unary main_while3b_v55 main_while3b_v75 ((extractStridedSlice S64x128 ![0, 256] · slices_S64x384_S64x128_0_256) : (⟨S64x384, .f32⟩ : BufTy).Contents (Elt F) → (⟨S64x128, .f32⟩ : BufTy).Contents (Elt F)),
   StableHlo.binary main_while3b_v73 main_while3b_v75 main_while3b_v76 (mulf : (⟨S64x128, .f32⟩ : BufTy).Contents (Elt F) → (⟨S64x128, .f32⟩ : BufTy).Contents (Elt F) → (⟨S64x128, .f32⟩ : BufTy).Contents (Elt F)),
   StableHlo.binary main_while3b_v74 main_while3b_v76 main_while3b_v77 (addf : (⟨S64x128, .f32⟩ : BufTy).Contents (Elt F) → (⟨S64x128, .f32⟩ : BufTy).Contents (Elt F) → (⟨S64x128, .f32⟩ : BufTy).Contents (Elt F)),
   StableHlo.unary main_while3b_v77 main_while3b_v78 (Host.tanh : (⟨S64x128, .f32⟩ : BufTy).Contents (Elt F) → (⟨S64x128, .f32⟩ : BufTy).Contents (Elt F)),
   StableHlo.binary main_while3b_v64 main_v41_4 main_while3b_v79 (mulf : (⟨S64x128, .f32⟩ : BufTy).Contents (Elt F) → (⟨S64x128, .f32⟩ : BufTy).Contents (Elt F) → (⟨S64x128, .f32⟩ : BufTy).Contents (Elt F)),
   StableHlo.nullary main_while3b_cst_16 (constant S_ .f32 0x3F800000#32),
   StableHlo.unary main_while3b_cst_16 main_while3b_v80 (broadcastInDim S64x128 ![] bcast_S_S64x128 : (⟨S_, .f32⟩ : BufTy).Contents (Elt F) → (⟨S64x128, .f32⟩ : BufTy).Contents (Elt F)),
   StableHlo.binary main_while3b_v80 main_while3b_v64 main_while3b_v81 (subf : (⟨S64x128, .f32⟩ : BufTy).Contents (Elt F) → (⟨S64x128, .f32⟩ : BufTy).Contents (Elt F) → (⟨S64x128, .f32⟩ : BufTy).Contents (Elt F)),
   StableHlo.binary main_while3b_v81 main_while3b_v78 main_while3b_v82 (mulf : (⟨S64x128, .f32⟩ : BufTy).Contents (Elt F) → (⟨S64x128, .f32⟩ : BufTy).Contents (Elt F) → (⟨S64x128, .f32⟩ : BufTy).Contents (Elt F)),
   StableHlo.binary main_while3b_v79 main_while3b_v82 main_while3b_v83 (addf : (⟨S64x128, .f32⟩ : BufTy).Contents (Elt F) → (⟨S64x128, .f32⟩ : BufTy).Contents (Elt F) → (⟨S64x128, .f32⟩ : BufTy).Contents (Elt F))]
theorem B3_1_sub : (B3_1 : List (HloOp τ sig (Elt F))).Forall fun op => op.bufs ⊆ StableHlo.tcRefs τ sig :=
  ⟨StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩
/-- The body of loop 3. -/
abbrev B3_2 : List (HloOp τ sig (Elt F)) :=
  [StableHlo.TRef.unary (.of main_while3b_v83 : StableHlo.TRef sig ⟨S64x128, .f32⟩) (.of main_while3b_call9_v0 : StableHlo.TRef sig ⟨S1x64x128, .f32⟩) (broadcastInDim S1x64x128 ![1, 2] bcast_S64x128_S1x64x128_1_2),
   StableHlo.TRef.nullary (.of main_while3b_call9_c : StableHlo.TRef sig ⟨S_, .i32⟩) (constantI S_ 32 0#32),
   StableHlo.TRef.nullary (.of main_while3b_call9_c_0 : StableHlo.TRef sig ⟨S_, .i32⟩) (constantI S_ 32 0#32),
   StableHlo.TRef.binaryIndexed (.of main_v41_5 : StableHlo.TRef sig ⟨S256x64x128, .f32⟩) (.of main_while3b_call9_v0 : StableHlo.TRef sig ⟨S1x64x128, .f32⟩) ![(.of main_v41_3 : StableHlo.TRef sig ⟨S_, .i32⟩), (.of main_while3b_call9_c : StableHlo.TRef sig ⟨S_, .i32⟩), (.of main_while3b_call9_c_0 : StableHlo.TRef sig ⟨S_, .i32⟩)] (.of main_while3b_v84 : StableHlo.TRef sig ⟨S256x64x128, .f32⟩) (fun x u i => Host.dynamicUpdateSlice x u (fun k => (i k (Shape.Idx.first h_S_)).toInt) updateFits_S256x64x128_S1x64x128)]
theorem B3_2_sub : (B3_2 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- The body of loop 3. -/
abbrev B3_3 : List (HloOp τ sig (Elt F)) :=
  [StableHlo.nullary main_while3b_c_17 (constantI S_ 32 1#32),
   StableHlo.binary main_v41_3 main_while3b_c_17 main_while3b_v85 (addi : (⟨S_, .i32⟩ : BufTy).Contents (Elt F) → (⟨S_, .i32⟩ : BufTy).Contents (Elt F) → (⟨S_, .i32⟩ : BufTy).Contents (Elt F)),
   StableHlo.unary main_while3b_v85 main_v41_3 id,
   StableHlo.unary main_while3b_v83 main_v41_4 id,
   StableHlo.unary main_while3b_v84 main_v41_5 id]
theorem B3_3_sub : (B3_3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
abbrev B3 : List (List (HloOp τ sig (Elt F))) := [B3_0, B3_1, B3_2, B3_3]
theorem B3_plain : Plain (B3 (F := F)) := .cons B3_0_sub (.cons B3_1_sub (.cons B3_2_sub (.cons B3_3_sub (.nil))))
abbrev B3_W : List (Ref sig .tc) := [main_while3b_call8_c, main_while3b_call8_c_0, main_while3b_call8_v0, main_while3b_v49, main_while3b_v50, main_while3b_v51, main_while3b_v52, main_while3b_v53, main_while3b_v54, main_while3b_v55, main_while3b_v56, main_while3b_v57, main_while3b_v58, main_while3b_v59, main_while3b_v60, main_while3b_cst_12, main_while3b_v61, main_while3b_v62, main_while3b_cst_13, main_while3b_v63, main_while3b_v64, main_while3b_v65, main_while3b_v66, main_while3b_v67, main_while3b_v68, main_while3b_v69, main_while3b_cst_14, main_while3b_v70, main_while3b_v71, main_while3b_cst_15, main_while3b_v72, main_while3b_v73, main_while3b_v74, main_while3b_v75, main_while3b_v76, main_while3b_v77, main_while3b_v78, main_while3b_v79, main_while3b_cst_16, main_while3b_v80, main_while3b_v81, main_while3b_v82, main_while3b_v83, main_while3b_call9_v0, main_while3b_call9_c, main_while3b_call9_c_0, main_while3b_v84, main_while3b_c_17, main_while3b_v85, main_v41_3, main_v41_4, main_v41_5]
theorem B3_w : (B3 (F := F)).flatten.map HloOp.writes = B3_W.map fun w => {Proc.devRef (τ := τ) .tc w} := rfl

theorem body0 : main_while0_body (F := F) = Pipeline.chain ((B0 (F := F)).map fun ops => (seq ops : Prog _ PUnit)) := by chain_rfl
theorem body1 : main_while1_body (F := F) = Pipeline.chain ((B1 (F := F)).map fun ops => (seq ops : Prog _ PUnit)) := by chain_rfl
theorem body2 : main_while2_body (F := F) = Pipeline.chain ((B2 (F := F)).map fun ops => (seq ops : Prog _ PUnit)) := by chain_rfl
theorem body3 : main_while3_body (F := F) = Pipeline.chain ((B3 (F := F)).map fun ops => (seq ops : Prog _ PUnit)) := by chain_rfl

theorem part0 (c : Dev nD) : main_part0 (F := F) c = Pipeline.chainK (((A0 (F := F)).map fun ops => (seq ops : Prog _ PUnit)) ++ HostLoop.enter 0 :: ((A1 (F := F)).map fun ops => (seq ops : Prog _ PUnit)) ++ HostLoop.enter 1 :: ((A2 (F := F)).map fun ops => (seq ops : Prog _ PUnit)) ++ [HostLoop.enter 2]) (seq A3_0) := by chain_rfl
theorem part1 (c : Dev nD) : main_part1 (F := F) c = Pipeline.chain (((A3b (F := F)).map fun ops => (seq ops : Prog _ PUnit)) ++ HostLoop.enter 3 :: ((A4 (F := F)).map fun ops => (seq ops : Prog _ PUnit))) := by chain_rfl

end Cert.ReferenceIdeal.Lists

end
-- ==== Proof.Range.lean ====
/-
  What the precondition says: every token of both arrays is below the vocabulary's 100000.
-/
module

public import proofs.«01_k».proof.Defs
public import proofs.«01_k».proof.Proof.Gen.Pre_in_vocab
public import Idealize.ShloMosaic.Lib.ReduceAll
public import Idealize.ShloMosaic.Lib.WordCmp
public import Idealize.ShloMosaic.Lib.StableHlo.Predicate

@[expose] public section

noncomputable section

namespace Cert.Range

open Idealize.ShloMosaic Cert.Pre_in_vocab Cert.Pre_in_vocab.Gen

variable {F : FTy → Type} [FloatOps F]

theorem word_lt {v : BitVec 32} (e : IntOp.andi (IntOp.cmpi .sge v 0#32) (IntOp.cmpi .slt v 100000#32) = 1#1) : v.toNat < 100000 := by
  rw [show (100000#32 : BitVec 32) = BitVec.ofNat 32 100000 from rfl, WordCmp.andi_sge_zero_slt_ofNat (k := 100000) (by decide)] at e
  by_contra h
  rw [decide_eq_false h] at e
  exact absurd e (by decide)

theorem all_lt {x : IVec S64x256 32}
    (e : Host.reduce IntOp.andi (andi (cmpi .sge x (broadcastInDim S64x256 ![] Facts.bcast_S_S64x256 (constantI S_ 32 0#32)))
        (cmpi .slt x (broadcastInDim S64x256 ![] Facts.bcast_S_S64x256 (constantI S_ 32 100000#32)))) (constantI S_ 1 1#1) Facts.reducesTo_S64x256_S_d0_1 Facts.h_S_ (Shape.Idx.first Facts.h_S_) = 1#1)
    (j : S64x256.Idx) : (x j).toNat < 100000 :=
  word_lt (Host.reduce_andi_all _ _ _ _ _ e j)

theorem tokens_lt {a b : IVec S64x256 32} {g : FVec F S100000x128 .f32} {k₁ r₁ k₂ r₂ k₃ r₃ k₄ r₄ : FVec F S128x384 .f32} {b₁ b₂ b₃ b₄ : FVec F S2x384 .f32}
    {w : FVec F S128x100000 .f32} {o : FVec F S100000 .f32} (h : fn (F := F) a b g k₁ r₁ b₁ k₂ r₂ b₂ k₃ r₃ b₃ k₄ r₄ b₄ w o = fun _ => 1#1) :
    (∀ j, (a j).toNat < 100000) ∧ ∀ j, (b j).toNat < 100000 := by
  have e := congrFun h (Shape.Idx.first Facts.h_S_)
  obtain ⟨ha, hb⟩ := IntOp.andi_eq_one.mp e
  exact ⟨all_lt ha, all_lt hb⟩

end Cert.Range

end
-- ==== Proof.Value.lean ====
/-
  A lookup of the reference reads the row its token names.
-/
module

public import proofs.«01_k».proof.Proof.Range
public import proofs.«01_k».proof.Proof.Gen.ReferenceIdeal
public import Idealize.ShloMosaic.Lib.ValueIdxCore

@[expose] public section

noncomputable section

namespace Cert.Lookup

open Idealize.ShloMosaic Cert.ReferenceIdeal Cert.ReferenceIdeal.Facts₀

variable {F : FTy → Type} [FloatOps F]

/-- The row number a lookup uses: a negative token counts from the end. -/
def wrapped (a : IVec S64x256 32) : IVec S64x256x1 32 :=
  broadcastInDim S64x256x1 ![0, 1] bcast_S64x256_S64x256x1_0_1
    (select (cmpi .slt a (broadcastInDim S64x256 ![] bcast_S_S64x256 (constantI S_ 32 0#32))) (addi a (broadcastInDim S64x256 ![] bcast_S_S64x256 (constantI S_ 32 100000#32))) a)

/-- Whether a row number is in the table. -/
def inside (a : IVec S64x256 32) : IVec S64x256 1 :=
  Host.reduce IntOp.andi (andi (cmpi .sge (wrapped a) (broadcastInDim S64x256x1 ![] bcast_S_S64x256x1 (constantI S_ 32 0#32)))
    (cmpi .sle (wrapped a) (broadcastInDim S64x256x1 ![0, 1, 2] bcast_S1x1x1_S64x256x1_0_1_2 (broadcastInDim S1x1x1 ![2] bcast_S1_S1x1x1_2 (constantI S1 32 99999#32)))))
    (constantI S_ 1 1#1) reducesTo_S64x256x1_S64x256_d2 h_S_

/-- A lookup as the reference prints it. -/
def looked (g : FVec F S100000x128 .f32) (a : IVec S64x256 32) : FVec F S64x256x128 .f32 :=
  select (broadcastInDim S64x256x128 ![0, 1] bcast_S64x256_S64x256x128_0_1 (inside a))
    (Host.gather gather_S100000x128_S64x256x1_S64x256x128_2_0_n_n_0_2_1128 g (wrapped a))
    (broadcastInDim S64x256x128 ![] bcast_S_S64x256x128 (constant S_ .f32 0x7FC00000#32))

/-- The lookup's dimension numbers: one row of the table per token. -/
abbrev rowDims := gather_S100000x128_S64x256x1_S64x256x128_2_0_n_n_0_2_1128

variable {a : IVec S64x256 32} (ha : ∀ j, (a j).toNat < 100000)
include ha

theorem wrapped_apply (i : S64x256x1.Idx) : wrapped a i = a (fun | 0 => ⟨(i 0).val, (i 0).isLt⟩ | 1 => ⟨(i 1).val, (i 1).isLt⟩) := by
  have e : ∀ j, select (cmpi .slt a (broadcastInDim S64x256 ![] bcast_S_S64x256 (constantI S_ 32 0#32))) (addi a (broadcastInDim S64x256 ![] bcast_S_S64x256 (constantI S_ 32 100000#32))) a j = a j := by
    intro j
    refine if_neg fun h => ?_
    have h' : IntOp.cmpi .slt (a j) 0#32 = 1#1 := h
    rw [WordCmp.cmpi_slt_zero] at h'
    have := ha j
    rw [decide_eq_false (by omega)] at h'
    exact absurd h' (by decide)
  refine (e _).trans (congrArg a (funext fun | 0 => ?_ | 1 => ?_)) <;> rfl

theorem inside_apply (j : S64x256.Idx) : inside a j = 1#1 := by
  refine Host.reduce_andi_one _ _ _ _ j rfl fun i => ?_
  have h := ha (fun | 0 => ⟨(i 0).val, (i 0).isLt⟩ | 1 => ⟨(i 1).val, (i 1).isLt⟩)
  have hw := wrapped_apply ha i
  refine IntOp.andi_eq_one.mpr ⟨?_, ?_⟩
  · show IntOp.cmpi .sge (wrapped a i) 0#32 = 1#1
    rw [hw, WordCmp.cmpi_sge_zero, decide_eq_true (by omega)]; rfl
  · show IntOp.cmpi .sle (wrapped a i) 99999#32 = 1#1
    rw [hw]
    exact (StableHlo.Predicate.sle_iff_toNat (by omega) (by decide)).mpr (by show _ ≤ 99999; omega)

theorem looked_apply (g : FVec F S100000x128 .f32) (y : S64x256x128.Idx) :
    looked g a y = g (fun | 0 => ⟨(a (fun | 0 => ⟨(y 0).val, (y 0).isLt⟩ | 1 => ⟨(y 1).val, (y 1).isLt⟩)).toNat % 100000, Nat.mod_lt _ (by decide)⟩ | 1 => ⟨(y 2).val, (y 2).isLt⟩) := by
  have hin : broadcastInDim S64x256x128 ![0, 1] bcast_S64x256_S64x256x128_0_1 (inside a) y = 1#1 := inside_apply ha _
  unfold looked select Scalar.select
  refine (if_pos hin).trans ?_
  unfold Host.gather
  refine congrArg g (funext fun c => Fin.ext ?_)
  have hk := ha (fun | 0 => ⟨(y 0).val, (y 0).isLt⟩ | 1 => ⟨(y 1).val, (y 1).isLt⟩)
  show rowDims.start y (wrapped a) c + rowDims.batchCoord y c + rowDims.offCoord y c = _
  match c with
  | ⟨0, _⟩ =>
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, _⟩ : Fin 2) ∈ rowDims.startIndexMap from List.mem_singleton.mpr rfl), wrapped_apply ha]
    refine (congrArg (fun z : S64x256.Idx => min (a z).toInt.toNat 99999)
      (show _ = ((fun | 0 => ⟨(y 0).val, (y 0).isLt⟩ | 1 => ⟨(y 1).val, (y 1).isLt⟩) : S64x256.Idx) from funext fun | 0 => rfl | 1 => rfl)).trans ?_
    show min (a _).toInt.toNat 99999 = _
    rw [StableHlo.Predicate.toInt_eq_toNat_of_lt (by omega)]
    exact (Nat.min_eq_left (Nat.le_of_lt_succ hk)).trans (Nat.mod_eq_of_lt hk).symm
  | ⟨1, _⟩ =>
    have hs : rowDims.start y (wrapped a) (1 : Fin 2) = 0 :=
      dif_neg (fun h => absurd (congrArg Fin.val (List.mem_singleton.mp h)) Nat.one_ne_zero)
    rw [GatherDims.batchCoord_eq_zero _ _ _ List.not_mem_nil]
    refine (congrArg (fun k => k + 0 + rowDims.offCoord y (1 : Fin 2)) hs).trans ?_
    simp only [Nat.add_zero, Nat.zero_add]
    rfl

end Cert.Lookup

end
-- ==== Proof.Loops.lean ====
/-
  The reference's four loops: what one trip does, what the carried values are at every trip, and what stands between the loops.
-/
module

public import proofs.«01_k».proof.Proof.Lists
public import proofs.«01_k».proof.Proof.Value
public import Idealize.ShloMosaic.Lib.StableHlo.RunClose

@[expose] public section

noncomputable section

namespace Cert.ReferenceIdeal.Loops

open Idealize.ShloMosaic Idealize.ShloMosaic.TcCoe Cert.ReferenceIdeal Cert.ReferenceIdeal.Facts₀ Cert.ReferenceIdeal.Lists
open Idealize.ShloMosaic.StableHlo

variable {F : FTy → Type} [FloatOps F]

/-! ## One trip's arithmetic -/

/-- The block of ones a gate divides into. -/
def ones : FVec F S64x128 .f32 := broadcastInDim S64x128 ![] bcast_S_S64x128 (constant S_ .f32 0x3F800000#32)

/-- The logistic function as the reference writes it. -/
def logistic (v : FVec F S64x128 .f32) : FVec F S64x128 .f32 := Host.divf ones (addf ones (Host.exp (Host.negf v)))

/-- Where one time step starts. -/
def place (i : IVec S_ 32) : Fin 3 → ℤ := fun k => ((![i, constantI S_ 32 0#32, constantI S_ 32 0#32] : Fin 3 → IVec S_ 32) k (Shape.Idx.first h_S_)).toInt

/-- One time step of the projected inputs. -/
def step (X : FVec F S256x64x384 .f32) (i : IVec S_ 32) : FVec F S64x384 .f32 :=
  shapeCast S64x384 (Host.dynamicSlice S1x64x384 X (place i) sliceFits_S256x64x384_S1x64x384) shapeCasts_S1x64x384_S64x384

/-- One time step written into the outputs. -/
def put (ys : FVec F S256x64x128 .f32) (i : IVec S_ 32) (h : FVec F S64x128 .f32) : FVec F S256x64x128 .f32 :=
  Host.dynamicUpdateSlice ys (broadcastInDim S1x64x128 ![1, 2] bcast_S64x128_S1x64x128_1_2 h) (place i) updateFits_S256x64x128_S1x64x128

/-- The state's projection and its bias. -/
def recur (R : FVec F S128x384 .f32) (B : FVec F S2x384 .f32) (h : FVec F S64x128 .f32) : FVec F S64x384 .f32 :=
  addf (Host.dotGeneral dot_S64x128_S128x384_S64x384_1_0_0_1_n_n none h R)
    (broadcastInDim S64x384 ![0, 1] bcast_S1x384_S64x384_0_1 (broadcastInDim S1x384 ![1] bcast_S384_S1x384_1
      (shapeCast S384 (extractStridedSlice S1x384 ![1, 0] B slices_S2x384_S1x384_1_0) shapeCasts_S1x384_S384)))

/-- The next state from the two projections. -/
def gru (x r : FVec F S64x384 .f32) (h : FVec F S64x128 .f32) : FVec F S64x128 .f32 :=
  addf
    (mulf (logistic (addf (extractStridedSlice S64x128 ![0, 0] x slices_S64x384_S64x128_0_0) (extractStridedSlice S64x128 ![0, 0] r slices_S64x384_S64x128_0_0))) h)
    (mulf (subf ones (logistic (addf (extractStridedSlice S64x128 ![0, 0] x slices_S64x384_S64x128_0_0) (extractStridedSlice S64x128 ![0, 0] r slices_S64x384_S64x128_0_0))))
      (Host.tanh (addf (extractStridedSlice S64x128 ![0, 256] x slices_S64x384_S64x128_0_256)
        (mulf (logistic (addf (extractStridedSlice S64x128 ![0, 128] x slices_S64x384_S64x128_0_128) (extractStridedSlice S64x128 ![0, 128] r slices_S64x384_S64x128_0_128)))
          (extractStridedSlice S64x128 ![0, 256] r slices_S64x384_S64x128_0_256)))))

/-- The counter at trip `k`. -/
def count (k : ℕ) : IVec S_ 32 := fun _ => Scf.iv 0#32 1#32 k

theorem count_succ (k : ℕ) : addi (count k) (constantI S_ 32 1#32) = count (k + 1) := by
  unfold count; rw [Scf.iv_succ]; rfl

/-- The state before trip `k`. -/
def state (X : FVec F S256x64x384 .f32) (R : FVec F S128x384 .f32) (B : FVec F S2x384 .f32) (h : FVec F S64x128 .f32) : ℕ → FVec F S64x128 .f32
  | 0 => h
  | k + 1 => gru (step X (count k)) (recur R B (state X R B h k)) (state X R B h k)

/-- The outputs before trip `k`. -/
def outs (X : FVec F S256x64x384 .f32) (R : FVec F S128x384 .f32) (B : FVec F S2x384 .f32) (h : FVec F S64x128 .f32) (ys : FVec F S256x64x128 .f32) : ℕ → FVec F S256x64x128 .f32
  | 0 => ys
  | k + 1 => put (outs X R B h ys k) (count k) (state X R B h (k + 1))

/-- A layer's projected inputs, time first. -/
def proj (x : FVec F S64x256x128 .f32) (K : FVec F S128x384 .f32) (B : FVec F S2x384 .f32) : FVec F S256x64x384 .f32 :=
  transpose S256x64x384 [1, 0, 2] (addf (Host.dotGeneral dot_S64x256x128_S128x384_S64x256x384_2_0_01_1_n_n none x K)
    (broadcastInDim S64x256x384 ![0, 1, 2] bcast_S1x1x384_S64x256x384_0_1_2 (broadcastInDim S1x1x384 ![2] bcast_S384_S1x1x384_2
      (shapeCast S384 (extractStridedSlice S1x384 ![0, 0] B slices_S2x384_S1x384_0_0) shapeCasts_S1x384_S384)))) transposes_S64x256x384_S256x64x384_1_0_2

/-- Outputs put back batch first. -/
def back (ys : FVec F S256x64x128 .f32) : FVec F S64x256x128 .f32 := transpose S64x256x128 [1, 0, 2] ys transposes_S256x64x128_S64x256x128_1_0_2

/-- Blocks of zeros: a first state, and outputs nothing is written into yet. -/
def zeros : FVec F S64x128 .f32 := broadcastInDim S64x128 ![] bcast_S_S64x128 (constant S_ .f32 0x00000000#32)
def blank : FVec F S256x64x128 .f32 := broadcastInDim S256x64x128 ![] bcast_S_S256x64x128 (constant S_ .f32 0x00000000#32)

/-- The logits from the last layer's outputs. -/
def head (ys : FVec F S256x64x128 .f32) (W : FVec F S128x100000 .f32) (b : FVec F S100000 .f32) : FVec F S64x100000 .f32 :=
  addf (Host.dotGeneral dot_S64x128_S128x100000_S64x100000_1_0_0_1_n_n none
      (shapeCast S64x128 (extractStridedSlice S64x1x128 ![0, 255, 0] (back ys) slices_S64x256x128_S64x1x128_0_255_0) shapeCasts_S64x1x128_S64x128) W)
    (broadcastInDim S64x100000 ![0, 1] bcast_S1x100000_S64x100000_0_1 (broadcastInDim S1x100000 ![1] bcast_S100000_S1x100000_1 b))

/-! ## What is not written stays -/

theorem kept {l : List (List (HloOp τ sig (Elt F)))} (W : List (Ref sig .tc)) (hW : l.flatten.map HloOp.writes = W.map fun w => {Proc.devRef (τ := τ) .tc w})
    {r : Ref sig .tc} (hr : r ∉ W) (V : Valuation τ sig (Elt F)) : afterL l V (Proc.devRef .tc r) = V (Proc.devRef .tc r) := by
  rw [afterL_eq_after_flatten]; exact after_unwritten W hW hr V

theorem trips_kept {C : List (HloOp τ sig (Elt F))} {B : List (List (HloOp τ sig (Elt F)))} (CW BW : List (Ref sig .tc))
    (hC : ([C] : List (List (HloOp τ sig (Elt F)))).flatten.map HloOp.writes = CW.map fun w => {Proc.devRef (τ := τ) .tc w})
    (hB : B.flatten.map HloOp.writes = BW.map fun w => {Proc.devRef (τ := τ) .tc w})
    {r : Ref sig .tc} (hr : r ∉ CW) (hr' : r ∉ BW) (U : Dev nD → Valuation τ sig (Elt F)) (c : Dev nD) :
    ∀ k, atTrip C B U k c (Proc.devRef .tc r) = U c (Proc.devRef .tc r)
  | 0 => rfl
  | k + 1 => by
    rw [atTrip_succ]
    exact (kept BW hB hr' _).trans ((kept CW hC hr _).trans (trips_kept CW BW hC hB hr hr' U c k))

/-! ## Loop 0 -/

theorem trip0_state (V : Valuation τ sig (Elt F)) : afterL B0 (after C0_0 V) (Proc.devRef .tc main_v11_4)
    = gru (step (V (Proc.devRef .tc main_v11_0)) (V (Proc.devRef .tc main_v11_3))) (recur (V (Proc.devRef .tc main_v11_1)) (V (Proc.devRef .tc main_v11_2)) (V (Proc.devRef .tc main_v11_4))) (V (Proc.devRef .tc main_v11_4)) := by
  simp only [afterL_cons, afterL_nil]
  after_results_simp_entrywise
  rfl

theorem trip0_outs (V : Valuation τ sig (Elt F)) : afterL B0 (after C0_0 V) (Proc.devRef .tc main_v11_5)
    = put (V (Proc.devRef .tc main_v11_5)) (V (Proc.devRef .tc main_v11_3))
      (gru (step (V (Proc.devRef .tc main_v11_0)) (V (Proc.devRef .tc main_v11_3))) (recur (V (Proc.devRef .tc main_v11_1)) (V (Proc.devRef .tc main_v11_2)) (V (Proc.devRef .tc main_v11_4))) (V (Proc.devRef .tc main_v11_4))) := by
  simp only [afterL_cons, afterL_nil]
  after_results_simp_entrywise
  rfl

theorem trip0_count (V : Valuation τ sig (Elt F)) : afterL B0 (after C0_0 V) (Proc.devRef .tc main_v11_3) = addi (V (Proc.devRef .tc main_v11_3)) (constantI S_ 32 1#32) := by
  simp only [afterL_cons, afterL_nil]
  after_results_simp_entrywise
  rfl

variable {U0 : Dev nD → Valuation τ sig (Elt F)} {c : Dev nD}

theorem kept0 {r : Ref sig .tc} (hr : r ∉ C0_W) (hr' : r ∉ B0_W) (k : ℕ) : atTrip C0_0 B0 U0 k c (Proc.devRef .tc r) = U0 c (Proc.devRef .tc r) :=
  trips_kept C0_W B0_W C0_w B0_w hr hr' U0 c k

theorem count0 (h : U0 c (Proc.devRef .tc main_v11_3) = fun _ => 0#32) : ∀ k, atTrip C0_0 B0 U0 k c (Proc.devRef .tc main_v11_3) = count k
  | 0 => by rw [atTrip_zero, h]; unfold count; rw [Scf.iv_zero]; rfl
  | k + 1 => by rw [atTrip_succ, trip0_count, count0 h k, count_succ]

theorem state0 (h : U0 c (Proc.devRef .tc main_v11_3) = fun _ => 0#32) : ∀ k, atTrip C0_0 B0 U0 k c (Proc.devRef .tc main_v11_4)
    = state (U0 c (Proc.devRef .tc main_v11_0)) (U0 c (Proc.devRef .tc main_v11_1)) (U0 c (Proc.devRef .tc main_v11_2)) (U0 c (Proc.devRef .tc main_v11_4)) k
  | 0 => rfl
  | k + 1 => by
    rw [atTrip_succ, trip0_state, state0 h k, count0 h k, kept0 (r := main_v11_0) (by decide) (by decide), kept0 (r := main_v11_1) (by decide) (by decide), kept0 (r := main_v11_2) (by decide) (by decide)]
    rfl

theorem outs0 (h : U0 c (Proc.devRef .tc main_v11_3) = fun _ => 0#32) : ∀ k, atTrip C0_0 B0 U0 k c (Proc.devRef .tc main_v11_5)
    = outs (U0 c (Proc.devRef .tc main_v11_0)) (U0 c (Proc.devRef .tc main_v11_1)) (U0 c (Proc.devRef .tc main_v11_2)) (U0 c (Proc.devRef .tc main_v11_4)) (U0 c (Proc.devRef .tc main_v11_5)) k
  | 0 => rfl
  | k + 1 => by
    rw [atTrip_succ, trip0_outs, outs0 h k, state0 h k, count0 h k, kept0 (r := main_v11_0) (by decide) (by decide), kept0 (r := main_v11_1) (by decide) (by decide), kept0 (r := main_v11_2) (by decide) (by decide)]
    rfl

/-! ## Loop 1 -/

theorem trip1_state (V : Valuation τ sig (Elt F)) : afterL B1 (after C1_0 V) (Proc.devRef .tc main_v21_4)
    = gru (step (V (Proc.devRef .tc main_v21_0)) (V (Proc.devRef .tc main_v21_3))) (recur (V (Proc.devRef .tc main_v21_1)) (V (Proc.devRef .tc main_v21_2)) (V (Proc.devRef .tc main_v21_4))) (V (Proc.devRef .tc main_v21_4)) := by
  simp only [afterL_cons, afterL_nil]
  after_results_simp_entrywise
  rfl

theorem trip1_outs (V : Valuation τ sig (Elt F)) : afterL B1 (after C1_0 V) (Proc.devRef .tc main_v21_5)
    = put (V (Proc.devRef .tc main_v21_5)) (V (Proc.devRef .tc main_v21_3))
      (gru (step (V (Proc.devRef .tc main_v21_0)) (V (Proc.devRef .tc main_v21_3))) (recur (V (Proc.devRef .tc main_v21_1)) (V (Proc.devRef .tc main_v21_2)) (V (Proc.devRef .tc main_v21_4))) (V (Proc.devRef .tc main_v21_4))) := by
  simp only [afterL_cons, afterL_nil]
  after_results_simp_entrywise
  rfl

theorem trip1_count (V : Valuation τ sig (Elt F)) : afterL B1 (after C1_0 V) (Proc.devRef .tc main_v21_3) = addi (V (Proc.devRef .tc main_v21_3)) (constantI S_ 32 1#32) := by
  simp only [afterL_cons, afterL_nil]
  after_results_simp_entrywise
  rfl

variable {U1 : Dev nD → Valuation τ sig (Elt F)} {c : Dev nD}

theorem kept1 {r : Ref sig .tc} (hr : r ∉ C1_W) (hr' : r ∉ B1_W) (k : ℕ) : atTrip C1_0 B1 U1 k c (Proc.devRef .tc r) = U1 c (Proc.devRef .tc r) :=
  trips_kept C1_W B1_W C1_w B1_w hr hr' U1 c k

theorem count1 (h : U1 c (Proc.devRef .tc main_v21_3) = fun _ => 0#32) : ∀ k, atTrip C1_0 B1 U1 k c (Proc.devRef .tc main_v21_3) = count k
  | 0 => by rw [atTrip_zero, h]; unfold count; rw [Scf.iv_zero]; rfl
  | k + 1 => by rw [atTrip_succ, trip1_count, count1 h k, count_succ]

theorem state1 (h : U1 c (Proc.devRef .tc main_v21_3) = fun _ => 0#32) : ∀ k, atTrip C1_0 B1 U1 k c (Proc.devRef .tc main_v21_4)
    = state (U1 c (Proc.devRef .tc main_v21_0)) (U1 c (Proc.devRef .tc main_v21_1)) (U1 c (Proc.devRef .tc main_v21_2)) (U1 c (Proc.devRef .tc main_v21_4)) k
  | 0 => rfl
  | k + 1 => by
    rw [atTrip_succ, trip1_state, state1 h k, count1 h k, kept1 (r := main_v21_0) (by decide) (by decide), kept1 (r := main_v21_1) (by decide) (by decide), kept1 (r := main_v21_2) (by decide) (by decide)]
    rfl

theorem outs1 (h : U1 c (Proc.devRef .tc main_v21_3) = fun _ => 0#32) : ∀ k, atTrip C1_0 B1 U1 k c (Proc.devRef .tc main_v21_5)
    = outs (U1 c (Proc.devRef .tc main_v21_0)) (U1 c (Proc.devRef .tc main_v21_1)) (U1 c (Proc.devRef .tc main_v21_2)) (U1 c (Proc.devRef .tc main_v21_4)) (U1 c (Proc.devRef .tc main_v21_5)) k
  | 0 => rfl
  | k + 1 => by
    rw [atTrip_succ, trip1_outs, outs1 h k, state1 h k, count1 h k, kept1 (r := main_v21_0) (by decide) (by decide), kept1 (r := main_v21_1) (by decide) (by decide), kept1 (r := main_v21_2) (by decide) (by decide)]
    rfl

/-! ## Loop 2 -/

theorem trip2_state (V : Valuation τ sig (Elt F)) : afterL B2 (after C2_0 V) (Proc.devRef .tc main_v31_4)
    = gru (step (V (Proc.devRef .tc main_v31_0)) (V (Proc.devRef .tc main_v31_3))) (recur (V (Proc.devRef .tc main_v31_1)) (V (Proc.devRef .tc main_v31_2)) (V (Proc.devRef .tc main_v31_4))) (V (Proc.devRef .tc main_v31_4)) := by
  simp only [afterL_cons, afterL_nil]
  after_results_simp_entrywise
  rfl

theorem trip2_outs (V : Valuation τ sig (Elt F)) : afterL B2 (after C2_0 V) (Proc.devRef .tc main_v31_5)
    = put (V (Proc.devRef .tc main_v31_5)) (V (Proc.devRef .tc main_v31_3))
      (gru (step (V (Proc.devRef .tc main_v31_0)) (V (Proc.devRef .tc main_v31_3))) (recur (V (Proc.devRef .tc main_v31_1)) (V (Proc.devRef .tc main_v31_2)) (V (Proc.devRef .tc main_v31_4))) (V (Proc.devRef .tc main_v31_4))) := by
  simp only [afterL_cons, afterL_nil]
  after_results_simp_entrywise
  rfl

theorem trip2_count (V : Valuation τ sig (Elt F)) : afterL B2 (after C2_0 V) (Proc.devRef .tc main_v31_3) = addi (V (Proc.devRef .tc main_v31_3)) (constantI S_ 32 1#32) := by
  simp only [afterL_cons, afterL_nil]
  after_results_simp_entrywise
  rfl

variable {U2 : Dev nD → Valuation τ sig (Elt F)} {c : Dev nD}

theorem kept2 {r : Ref sig .tc} (hr : r ∉ C2_W) (hr' : r ∉ B2_W) (k : ℕ) : atTrip C2_0 B2 U2 k c (Proc.devRef .tc r) = U2 c (Proc.devRef .tc r) :=
  trips_kept C2_W B2_W C2_w B2_w hr hr' U2 c k

theorem count2 (h : U2 c (Proc.devRef .tc main_v31_3) = fun _ => 0#32) : ∀ k, atTrip C2_0 B2 U2 k c (Proc.devRef .tc main_v31_3) = count k
  | 0 => by rw [atTrip_zero, h]; unfold count; rw [Scf.iv_zero]; rfl
  | k + 1 => by rw [atTrip_succ, trip2_count, count2 h k, count_succ]

theorem state2 (h : U2 c (Proc.devRef .tc main_v31_3) = fun _ => 0#32) : ∀ k, atTrip C2_0 B2 U2 k c (Proc.devRef .tc main_v31_4)
    = state (U2 c (Proc.devRef .tc main_v31_0)) (U2 c (Proc.devRef .tc main_v31_1)) (U2 c (Proc.devRef .tc main_v31_2)) (U2 c (Proc.devRef .tc main_v31_4)) k
  | 0 => rfl
  | k + 1 => by
    rw [atTrip_succ, trip2_state, state2 h k, count2 h k, kept2 (r := main_v31_0) (by decide) (by decide), kept2 (r := main_v31_1) (by decide) (by decide), kept2 (r := main_v31_2) (by decide) (by decide)]
    rfl

theorem outs2 (h : U2 c (Proc.devRef .tc main_v31_3) = fun _ => 0#32) : ∀ k, atTrip C2_0 B2 U2 k c (Proc.devRef .tc main_v31_5)
    = outs (U2 c (Proc.devRef .tc main_v31_0)) (U2 c (Proc.devRef .tc main_v31_1)) (U2 c (Proc.devRef .tc main_v31_2)) (U2 c (Proc.devRef .tc main_v31_4)) (U2 c (Proc.devRef .tc main_v31_5)) k
  | 0 => rfl
  | k + 1 => by
    rw [atTrip_succ, trip2_outs, outs2 h k, state2 h k, count2 h k, kept2 (r := main_v31_0) (by decide) (by decide), kept2 (r := main_v31_1) (by decide) (by decide), kept2 (r := main_v31_2) (by decide) (by decide)]
    rfl

/-! ## Loop 3 -/

theorem trip3_state (V : Valuation τ sig (Elt F)) : afterL B3 (after C3_0 V) (Proc.devRef .tc main_v41_4)
    = gru (step (V (Proc.devRef .tc main_v41_0)) (V (Proc.devRef .tc main_v41_3))) (recur (V (Proc.devRef .tc main_v41_1)) (V (Proc.devRef .tc main_v41_2)) (V (Proc.devRef .tc main_v41_4))) (V (Proc.devRef .tc main_v41_4)) := by
  simp only [afterL_cons, afterL_nil]
  after_results_simp_entrywise
  rfl

theorem trip3_outs (V : Valuation τ sig (Elt F)) : afterL B3 (after C3_0 V) (Proc.devRef .tc main_v41_5)
    = put (V (Proc.devRef .tc main_v41_5)) (V (Proc.devRef .tc main_v41_3))
      (gru (step (V (Proc.devRef .tc main_v41_0)) (V (Proc.devRef .tc main_v41_3))) (recur (V (Proc.devRef .tc main_v41_1)) (V (Proc.devRef .tc main_v41_2)) (V (Proc.devRef .tc main_v41_4))) (V (Proc.devRef .tc main_v41_4))) := by
  simp only [afterL_cons, afterL_nil]
  after_results_simp_entrywise
  rfl

theorem trip3_count (V : Valuation τ sig (Elt F)) : afterL B3 (after C3_0 V) (Proc.devRef .tc main_v41_3) = addi (V (Proc.devRef .tc main_v41_3)) (constantI S_ 32 1#32) := by
  simp only [afterL_cons, afterL_nil]
  after_results_simp_entrywise
  rfl

variable {U3 : Dev nD → Valuation τ sig (Elt F)} {c : Dev nD}

theorem kept3 {r : Ref sig .tc} (hr : r ∉ C3_W) (hr' : r ∉ B3_W) (k : ℕ) : atTrip C3_0 B3 U3 k c (Proc.devRef .tc r) = U3 c (Proc.devRef .tc r) :=
  trips_kept C3_W B3_W C3_w B3_w hr hr' U3 c k

theorem count3 (h : U3 c (Proc.devRef .tc main_v41_3) = fun _ => 0#32) : ∀ k, atTrip C3_0 B3 U3 k c (Proc.devRef .tc main_v41_3) = count k
  | 0 => by rw [atTrip_zero, h]; unfold count; rw [Scf.iv_zero]; rfl
  | k + 1 => by rw [atTrip_succ, trip3_count, count3 h k, count_succ]

theorem state3 (h : U3 c (Proc.devRef .tc main_v41_3) = fun _ => 0#32) : ∀ k, atTrip C3_0 B3 U3 k c (Proc.devRef .tc main_v41_4)
    = state (U3 c (Proc.devRef .tc main_v41_0)) (U3 c (Proc.devRef .tc main_v41_1)) (U3 c (Proc.devRef .tc main_v41_2)) (U3 c (Proc.devRef .tc main_v41_4)) k
  | 0 => rfl
  | k + 1 => by
    rw [atTrip_succ, trip3_state, state3 h k, count3 h k, kept3 (r := main_v41_0) (by decide) (by decide), kept3 (r := main_v41_1) (by decide) (by decide), kept3 (r := main_v41_2) (by decide) (by decide)]
    rfl

theorem outs3 (h : U3 c (Proc.devRef .tc main_v41_3) = fun _ => 0#32) : ∀ k, atTrip C3_0 B3 U3 k c (Proc.devRef .tc main_v41_5)
    = outs (U3 c (Proc.devRef .tc main_v41_0)) (U3 c (Proc.devRef .tc main_v41_1)) (U3 c (Proc.devRef .tc main_v41_2)) (U3 c (Proc.devRef .tc main_v41_4)) (U3 c (Proc.devRef .tc main_v41_5)) k
  | 0 => rfl
  | k + 1 => by
    rw [atTrip_succ, trip3_outs, outs3 h k, state3 h k, count3 h k, kept3 (r := main_v41_0) (by decide) (by decide), kept3 (r := main_v41_1) (by decide) (by decide), kept3 (r := main_v41_2) (by decide) (by decide)]
    rfl

/-! ## Between the loops -/

set_option maxRecDepth 100000 in
theorem enter0_0 (V : Valuation τ sig (Elt F)) : afterL A0 V (Proc.devRef .tc main_v11_0) = proj (Cert.Lookup.looked (V (Proc.devRef .tc main_arg2)) (V (Proc.devRef .tc main_arg0))) (V (Proc.devRef .tc main_arg3)) (V (Proc.devRef .tc main_arg5)) := by
  simp only [afterL_cons, afterL_nil]
  after_results_simp
  rfl

set_option maxRecDepth 100000 in
theorem enter0_other (V : Valuation τ sig (Elt F)) : afterL A0 V (Proc.devRef .tc main_v1) = Cert.Lookup.looked (V (Proc.devRef .tc main_arg2)) (V (Proc.devRef .tc main_arg1)) := by
  simp only [afterL_cons, afterL_nil]
  after_results_simp
  rfl

set_option maxRecDepth 100000 in
theorem enter0_4 (V : Valuation τ sig (Elt F)) : afterL A0 V (Proc.devRef .tc main_v11_4) = zeros := by
  simp only [afterL_cons, afterL_nil]
  after_results_simp
  rfl

set_option maxRecDepth 100000 in
theorem enter0_1 (V : Valuation τ sig (Elt F)) : afterL A0 V (Proc.devRef .tc main_v11_1) = (V (Proc.devRef .tc main_arg4)) := by
  simp only [afterL_cons, afterL_nil]
  after_results_simp
  rfl

set_option maxRecDepth 100000 in
theorem enter0_2 (V : Valuation τ sig (Elt F)) : afterL A0 V (Proc.devRef .tc main_v11_2) = (V (Proc.devRef .tc main_arg5)) := by
  simp only [afterL_cons, afterL_nil]
  after_results_simp
  rfl

set_option maxRecDepth 100000 in
theorem enter0_3 (V : Valuation τ sig (Elt F)) : afterL A0 V (Proc.devRef .tc main_v11_3) = fun _ => 0#32 := by
  simp only [afterL_cons, afterL_nil]
  after_results_simp
  rfl

set_option maxRecDepth 100000 in
theorem enter0_5 (V : Valuation τ sig (Elt F)) : afterL A0 V (Proc.devRef .tc main_v11_5) = blank := by
  simp only [afterL_cons, afterL_nil]
  after_results_simp
  rfl

theorem enter1_0 (V : Valuation τ sig (Elt F)) : afterL A1 V (Proc.devRef .tc main_v21_0) = proj (back (V (Proc.devRef .tc main_v11_5))) (V (Proc.devRef .tc main_arg6)) (V (Proc.devRef .tc main_arg8)) := by
  simp only [afterL_cons, afterL_nil]
  after_results_simp
  rfl

theorem enter1_4 (V : Valuation τ sig (Elt F)) : afterL A1 V (Proc.devRef .tc main_v21_4) = (V (Proc.devRef .tc main_v11_4)) := by
  simp only [afterL_cons, afterL_nil]
  after_results_simp
  rfl

theorem enter1_1 (V : Valuation τ sig (Elt F)) : afterL A1 V (Proc.devRef .tc main_v21_1) = (V (Proc.devRef .tc main_arg7)) := by
  simp only [afterL_cons, afterL_nil]
  after_results_simp
  rfl

theorem enter1_2 (V : Valuation τ sig (Elt F)) : afterL A1 V (Proc.devRef .tc main_v21_2) = (V (Proc.devRef .tc main_arg8)) := by
  simp only [afterL_cons, afterL_nil]
  after_results_simp
  rfl

theorem enter1_3 (V : Valuation τ sig (Elt F)) : afterL A1 V (Proc.devRef .tc main_v21_3) = fun _ => 0#32 := by
  simp only [afterL_cons, afterL_nil]
  after_results_simp
  rfl

theorem enter1_5 (V : Valuation τ sig (Elt F)) : afterL A1 V (Proc.devRef .tc main_v21_5) = blank := by
  simp only [afterL_cons, afterL_nil]
  after_results_simp
  rfl

theorem enter2_0 (V : Valuation τ sig (Elt F)) : afterL A2 V (Proc.devRef .tc main_v31_0) = proj (V (Proc.devRef .tc main_v1)) (V (Proc.devRef .tc main_arg9)) (V (Proc.devRef .tc main_arg11)) := by
  simp only [afterL_cons, afterL_nil]
  after_results_simp
  rfl

theorem enter2_4 (V : Valuation τ sig (Elt F)) : afterL A2 V (Proc.devRef .tc main_v31_4) = (V (Proc.devRef .tc main_v21_4)) := by
  simp only [afterL_cons, afterL_nil]
  after_results_simp
  rfl

theorem enter2_1 (V : Valuation τ sig (Elt F)) : afterL A2 V (Proc.devRef .tc main_v31_1) = (V (Proc.devRef .tc main_arg10)) := by
  simp only [afterL_cons, afterL_nil]
  after_results_simp
  rfl

theorem enter2_2 (V : Valuation τ sig (Elt F)) : afterL A2 V (Proc.devRef .tc main_v31_2) = (V (Proc.devRef .tc main_arg11)) := by
  simp only [afterL_cons, afterL_nil]
  after_results_simp
  rfl

theorem enter2_3 (V : Valuation τ sig (Elt F)) : afterL A2 V (Proc.devRef .tc main_v31_3) = fun _ => 0#32 := by
  simp only [afterL_cons, afterL_nil]
  after_results_simp
  rfl

theorem enter2_5 (V : Valuation τ sig (Elt F)) : afterL A2 V (Proc.devRef .tc main_v31_5) = blank := by
  simp only [afterL_cons, afterL_nil]
  after_results_simp
  rfl

theorem enter3_0 (V : Valuation τ sig (Elt F)) : afterL (A3 ++ A3b) V (Proc.devRef .tc main_v41_0) = proj (back (V (Proc.devRef .tc main_v31_5))) (V (Proc.devRef .tc main_arg12)) (V (Proc.devRef .tc main_arg14)) := by
  simp only [afterL_cons, afterL_nil, List.cons_append, List.nil_append]
  after_results_simp
  rfl

theorem enter3_4 (V : Valuation τ sig (Elt F)) : afterL (A3 ++ A3b) V (Proc.devRef .tc main_v41_4) = (V (Proc.devRef .tc main_v31_4)) := by
  simp only [afterL_cons, afterL_nil, List.cons_append, List.nil_append]
  after_results_simp
  rfl

theorem enter3_1 (V : Valuation τ sig (Elt F)) : afterL (A3 ++ A3b) V (Proc.devRef .tc main_v41_1) = (V (Proc.devRef .tc main_arg13)) := by
  simp only [afterL_cons, afterL_nil, List.cons_append, List.nil_append]
  after_results_simp
  rfl

theorem enter3_2 (V : Valuation τ sig (Elt F)) : afterL (A3 ++ A3b) V (Proc.devRef .tc main_v41_2) = (V (Proc.devRef .tc main_arg14)) := by
  simp only [afterL_cons, afterL_nil, List.cons_append, List.nil_append]
  after_results_simp
  rfl

theorem enter3_3 (V : Valuation τ sig (Elt F)) : afterL (A3 ++ A3b) V (Proc.devRef .tc main_v41_3) = fun _ => 0#32 := by
  simp only [afterL_cons, afterL_nil, List.cons_append, List.nil_append]
  after_results_simp
  rfl

theorem enter3_5 (V : Valuation τ sig (Elt F)) : afterL (A3 ++ A3b) V (Proc.devRef .tc main_v41_5) = blank := by
  simp only [afterL_cons, afterL_nil, List.cons_append, List.nil_append]
  after_results_simp
  rfl

theorem leave (V : Valuation τ sig (Elt F)) : afterL A4 V (Proc.devRef .tc main_v48) = head (V (Proc.devRef .tc main_v41_5)) (V (Proc.devRef .tc main_arg15)) (V (Proc.devRef .tc main_arg16)) := by
  simp only [afterL_cons, afterL_nil]
  after_results_simp
  rfl

end Cert.ReferenceIdeal.Loops

end
-- ==== Proof.Chain.lean ====
/-
  The reference's whole run: four stretches each ended by a loop, one stretch after them, and what every buffer holds at the end.
-/
module

public import proofs.«01_k».proof.Proof.Loops

@[expose] public section

noncomputable section

namespace Cert.ReferenceIdeal.Chain

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Lists Cert.ReferenceIdeal.Loops
open Idealize.ShloMosaic.StableHlo
open Idealize.ShloMosaic.Pipeline (ucRefs sub_ucRefs)

variable {F : FTy → Type} [FloatOps F]

local notation "𝕄" => MT nD τ sig Unit (Elt F) ℕ (Option PUnit) ℕ

/-- There is no kernel here, so nothing to admit and no ticket. -/
abbrev adm : (p : Fin 0) → (pcfgs (F := F) p).Adm := fun p => p.elim0
abbrev tk : Fin 0 → Pipeline.Ticket (Ix := Unit) (Name := ℕ) (U := Option PUnit) (Lvl := ℕ) (nD := nD) (τ := τ) (pcfgs (F := F)) adm := fun j => j.elim0
abbrev levels : GSem nD τ sig → Finset Unit := fun _ => ∅
abbrev level : GSem nD τ sig → Unit → ℕ := fun _ _ => 0
abbrev vars : Variants := Variants.none

/-- What rides along: the core's debts, of which it has none. -/
abbrev debts (c : Dev nD) : sProp 𝕄 := iprop(∃ W, owes (c : Thread nD τ) (0 : CellTallies nD τ sig Unit) W)

variable (m : (ℓ : Loc nD τ sig) → Buf (Elt F) ℓ)

/-! ## The contents where each loop is entered and left -/

abbrev U0 (c : Dev nD) : Valuation τ sig (Elt F) := afterL A0 (launchContents m c)
abbrev E0 (c : Dev nD) : Valuation τ sig (Elt F) := after C0_0 (atTrip C0_0 B0 (U0 m) 256 c)
abbrev U1 (c : Dev nD) : Valuation τ sig (Elt F) := afterL A1 (E0 m c)
abbrev E1 (c : Dev nD) : Valuation τ sig (Elt F) := after C1_0 (atTrip C1_0 B1 (U1 m) 256 c)
abbrev U2 (c : Dev nD) : Valuation τ sig (Elt F) := afterL A2 (E1 m c)
abbrev E2 (c : Dev nD) : Valuation τ sig (Elt F) := after C2_0 (atTrip C2_0 B2 (U2 m) 256 c)
abbrev U3 (c : Dev nD) : Valuation τ sig (Elt F) := afterL (A3 ++ A3b) (E2 m c)
abbrev E3 (c : Dev nD) : Valuation τ sig (Elt F) := after C3_0 (atTrip C3_0 B3 (U3 m) 256 c)
abbrev U4 (c : Dev nD) : Valuation τ sig (Elt F) := afterL A4 (E3 m c)

theorem tail_plain : Plain (A3 (F := F) ++ A3b) := .cons A3_0_sub A3b_plain

theorem start0 (c : Dev nD) : U0 m c (Proc.devRef .tc main_v11_3) = fun _ => 0#32 := enter0_3 _

-- a rule stated for any thread is used at the TensorCore's
set_option backward.isDefEq.respectTransparency.types false in
/-- Loop 0 is taken while fewer than 256 trips have run. -/
theorem cond0 : LoopCond (pcfgs (F := F)) defs₀ vars loops debts (main_while0_cond (F := F)) C0_0 B0 (U0 m) 256 := by
  intro k hk c bd
  have hctr := count0 (start0 m c) k
  unfold main_while0_cond
  simp only [bind_pure]
  rw [wp_bind]
  iintro ⟨Hb, Hh, HR⟩
  iapply (wp_hlo_within (Variants.lift vars) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift vars) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip C0_0 B0 (U0 m) k c) main_v11_3 HostLoop.idx0)
        (HloOp.result _ (atTrip C0_0 B0 (U0 m) k c) main_while0c_c_12 HostLoop.idx0) = 1#1) (k < 256)
    rw [nullary_result_ne _ _ _ _ (by decide), nullary_result, hctr]
    exact Scf.cmpi_slt_iv_ub_iff (lb := 0#32) (ub := 256#32) (st := 1#32) (by decide) (show k ≤ Scf.trips 0#32 256#32 1#32 from hk)
  isplitl [Hb]; · iexact Hb
  isplitl [Hh]; · rw [after_cons, after_cons, after_nil]; iexact Hh
  iexact HR

theorem start1 (c : Dev nD) : U1 m c (Proc.devRef .tc main_v21_3) = fun _ => 0#32 := enter1_3 _

-- a rule stated for any thread is used at the TensorCore's
set_option backward.isDefEq.respectTransparency.types false in
/-- Loop 1 is taken while fewer than 256 trips have run. -/
theorem cond1 : LoopCond (pcfgs (F := F)) defs₀ vars loops debts (main_while1_cond (F := F)) C1_0 B1 (U1 m) 256 := by
  intro k hk c bd
  have hctr := count1 (start1 m c) k
  unfold main_while1_cond
  simp only [bind_pure]
  rw [wp_bind]
  iintro ⟨Hb, Hh, HR⟩
  iapply (wp_hlo_within (Variants.lift vars) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift vars) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip C1_0 B1 (U1 m) k c) main_v21_3 HostLoop.idx0)
        (HloOp.result _ (atTrip C1_0 B1 (U1 m) k c) main_while1c_c_12 HostLoop.idx0) = 1#1) (k < 256)
    rw [nullary_result_ne _ _ _ _ (by decide), nullary_result, hctr]
    exact Scf.cmpi_slt_iv_ub_iff (lb := 0#32) (ub := 256#32) (st := 1#32) (by decide) (show k ≤ Scf.trips 0#32 256#32 1#32 from hk)
  isplitl [Hb]; · iexact Hb
  isplitl [Hh]; · rw [after_cons, after_cons, after_nil]; iexact Hh
  iexact HR

theorem start2 (c : Dev nD) : U2 m c (Proc.devRef .tc main_v31_3) = fun _ => 0#32 := enter2_3 _

-- a rule stated for any thread is used at the TensorCore's
set_option backward.isDefEq.respectTransparency.types false in
/-- Loop 2 is taken while fewer than 256 trips have run. -/
theorem cond2 : LoopCond (pcfgs (F := F)) defs₀ vars loops debts (main_while2_cond (F := F)) C2_0 B2 (U2 m) 256 := by
  intro k hk c bd
  have hctr := count2 (start2 m c) k
  unfold main_while2_cond
  simp only [bind_pure]
  rw [wp_bind]
  iintro ⟨Hb, Hh, HR⟩
  iapply (wp_hlo_within (Variants.lift vars) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift vars) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip C2_0 B2 (U2 m) k c) main_v31_3 HostLoop.idx0)
        (HloOp.result _ (atTrip C2_0 B2 (U2 m) k c) main_while2c_c_12 HostLoop.idx0) = 1#1) (k < 256)
    rw [nullary_result_ne _ _ _ _ (by decide), nullary_result, hctr]
    exact Scf.cmpi_slt_iv_ub_iff (lb := 0#32) (ub := 256#32) (st := 1#32) (by decide) (show k ≤ Scf.trips 0#32 256#32 1#32 from hk)
  isplitl [Hb]; · iexact Hb
  isplitl [Hh]; · rw [after_cons, after_cons, after_nil]; iexact Hh
  iexact HR

theorem start3 (c : Dev nD) : U3 m c (Proc.devRef .tc main_v41_3) = fun _ => 0#32 := enter3_3 _

-- a rule stated for any thread is used at the TensorCore's
set_option backward.isDefEq.respectTransparency.types false in
/-- Loop 3 is taken while fewer than 256 trips have run. -/
theorem cond3 : LoopCond (pcfgs (F := F)) defs₀ vars loops debts (main_while3_cond (F := F)) C3_0 B3 (U3 m) 256 := by
  intro k hk c bd
  have hctr := count3 (start3 m c) k
  unfold main_while3_cond
  simp only [bind_pure]
  rw [wp_bind]
  iintro ⟨Hb, Hh, HR⟩
  iapply (wp_hlo_within (Variants.lift vars) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift vars) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip C3_0 B3 (U3 m) k c) main_v41_3 HostLoop.idx0)
        (HloOp.result _ (atTrip C3_0 B3 (U3 m) k c) main_while3c_c_12 HostLoop.idx0) = 1#1) (k < 256)
    rw [nullary_result_ne _ _ _ _ (by decide), nullary_result, hctr]
    exact Scf.cmpi_slt_iv_ub_iff (lb := 0#32) (ub := 256#32) (st := 1#32) (by decide) (show k ≤ Scf.trips 0#32 256#32 1#32 from hk)
  isplitl [Hb]; · iexact Hb
  isplitl [Hh]; · rw [after_cons, after_cons, after_nil]; iexact Hh
  iexact HR

/-! ## The run -/

/-- The stretches and the loops, in order. -/
def parts : List (Pipeline.CSeg (pcfgs (F := F)) adm defs₀ vars levels level loops tk) :=
  segsOf _ _ _ _ _ _ _ _ debts A0 A0_plain (launchContents m)
    ++ (loopSeg _ _ _ _ _ _ _ _ 0 main_while0_cond main_while0_body rfl C0_0 B0 B0_plain body0 256 (U0 m) debts (cond0 m)
    :: segsOf _ _ _ _ _ _ _ _ debts A1 A1_plain (E0 m)
    ++ (loopSeg _ _ _ _ _ _ _ _ 1 main_while1_cond main_while1_body rfl C1_0 B1 B1_plain body1 256 (U1 m) debts (cond1 m)
    :: segsOf _ _ _ _ _ _ _ _ debts A2 A2_plain (E1 m)
    ++ (loopSeg _ _ _ _ _ _ _ _ 2 main_while2_cond main_while2_body rfl C2_0 B2 B2_plain body2 256 (U2 m) debts (cond2 m)
    :: segsOf _ _ _ _ _ _ _ _ debts (A3 ++ A3b) tail_plain (E2 m)
    ++ (loopSeg _ _ _ _ _ _ _ _ 3 main_while3_cond main_while3_body rfl C3_0 B3 B3_plain body3 256 (U3 m) debts (cond3 m)
    :: segsOf _ _ _ _ _ _ _ _ debts A4 A4_plain (E3 m)))))

theorem parts_prog : (parts m).map Pipeline.CSeg.prog
    = ((A0 (F := F)).map fun ops => (seq ops : Prog _ PUnit)) ++ (HostLoop.enter 0 :: (((A1 (F := F)).map fun ops => (seq ops : Prog _ PUnit)) ++ (HostLoop.enter 1 :: (((A2 (F := F)).map fun ops => (seq ops : Prog _ PUnit)) ++ (HostLoop.enter 2 :: (((A3 (F := F)).map fun ops => (seq ops : Prog _ PUnit)) ++ ((A3b (F := F)).map fun ops => (seq ops : Prog _ PUnit)) ++ (HostLoop.enter 3 :: ((A4 (F := F)).map fun ops => (seq ops : Prog _ PUnit))))))))) := by
  unfold parts
  simp only [List.map_append, List.map_cons, segsOf_prog]
  rfl

theorem main_parts (c : Dev nD) : main (F := F) c = Pipeline.chain ((parts m).map Pipeline.CSeg.prog) := by
  rw [parts_prog]
  exact (Pipeline.chain_of_window (part0 c) (part1 c)).trans (congrArg Pipeline.chain rfl)

theorem parts_chain : Pipeline.CSeg.Chains (fun c => iprop(held (c : Thread nD τ) (ucRefs τ sig) (launchContents m c) ∗ debts c)) (parts m)
    (fun c => iprop(iprop(held (c : Thread nD τ) (ucRefs τ sig) (U4 m c)) ∗ debts c)) := by
  unfold parts
  exact Pipeline.CSeg.Chains.append (segsOf_chains _ _ _ _ _ _ _ _ debts A0 A0_plain _) ⟨fun _ => .rfl,
    Pipeline.CSeg.Chains.append (segsOf_chains _ _ _ _ _ _ _ _ debts A1 A1_plain _) ⟨fun _ => .rfl,
    Pipeline.CSeg.Chains.append (segsOf_chains _ _ _ _ _ _ _ _ debts A2 A2_plain _) ⟨fun _ => .rfl,
    Pipeline.CSeg.Chains.append (segsOf_chains _ _ _ _ _ _ _ _ debts (A3 ++ A3b) tail_plain _) ⟨fun _ => .rfl,
    segsOf_chains _ _ _ _ _ _ _ _ debts A4 A4_plain _⟩⟩⟩⟩

/-- Every run ends, and every buffer that holds a value of the program ends at `U4`. -/
theorem run [∀ e, Nonempty (Elt F e)] (ρ : Dev nD → PrngReg) :
    θ_run (HostLoop.defs loops (Pipeline.defs (pcfgs (F := F)) defs₀)) (onTc (τ := τ) main) ⟨m, fun _ => 0, ρ⟩
      (fun r => ∀ (c : Dev nD) (b : Ref sig .tc), (Proc.devRef .tc b : DevRef τ sig).isScoped = false → r.2.mem ((c.tc : Thread nD τ).loc b) = U4 m c (Proc.devRef .tc b)) :=
  Pipeline.θ_run_regions_loop_kit (Ix := Unit) (Name := ℕ) (U := Option PUnit) (Lvl := ℕ) (J := Fin 0) (P := Fin 0) (Val := Elt F)
    (pcfgs (F := F)) adm (fun k => k.1.elim0) defs₀ vars levels level loops tk m ρ main (parts m)
    (fun c Q => by rw [main_parts m c]; exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ debts c))
    (Tₙ := fun c => iprop(held (c : Thread nD τ) (ucRefs τ sig) (U4 m c)))
    (hch := parts_chain m)
    (hinit := by
      refine Pipeline.initEach levels level fun c => ?_
      rw [show unscopedBufs c (fun b => m ((c : Thread nD τ).loc b)) = held (c : Thread nD τ) (ucRefs τ sig) (launchContents m c) from Pipeline.unscopedBufs_held c (launchContents m c)]
      iintro ⟨⟨Hbufs, -, Howes, -, -, -⟩, -⟩
      imodintro
      isplitl [Hbufs]; · iexact Hbufs
      iexists ∅; iexact Howes)
    (QY := fun c s => ∀ b ∈ ucRefs τ sig, s.mem ((c : Dev nD), b) = U4 m c b)
    (hfin := fun c s' => by
      unfold held
      iintro ⟨Hbufs, HSI⟩
      ihave Hread := (pointsTo_read_all (ucRefs τ sig) (fun b => ((c : Dev nD), b)) (fun b => U4 m c b) s') $$ [Hbufs HSI]
      · isplitl [Hbufs] <;> iassumption
      icases Hread with ⟨%h, HSI⟩
      imodintro
      isplitr; · ipureintro; exact h
      iexact HSI)
    (hQ := fun _ h c b hb => h c _ (devRef_mem_ucRefs b hb))

/-! ## What the run leaves -/

variable {m} {c : Dev nD}

/-- A buffer none of the operations writes ends as it began. -/
theorem across0 {r : Ref sig .tc} (ha : r ∉ A0_W) (hc : r ∉ C0_W) (hb : r ∉ B0_W) : E0 m c (Proc.devRef .tc r) = (launchContents m c) (Proc.devRef .tc r) :=
  (kept C0_W C0_w hc _).trans ((kept0 hc hb 256).trans (kept A0_W A0_w ha _))

theorem across1 {r : Ref sig .tc} (ha : r ∉ A1_W) (hc : r ∉ C1_W) (hb : r ∉ B1_W) : E1 m c (Proc.devRef .tc r) = (E0 m c) (Proc.devRef .tc r) :=
  (kept C1_W C1_w hc _).trans ((kept1 hc hb 256).trans (kept A1_W A1_w ha _))

theorem across2 {r : Ref sig .tc} (ha : r ∉ A2_W) (hc : r ∉ C2_W) (hb : r ∉ B2_W) : E2 m c (Proc.devRef .tc r) = (E1 m c) (Proc.devRef .tc r) :=
  (kept C2_W C2_w hc _).trans ((kept2 hc hb 256).trans (kept A2_W A2_w ha _))

theorem tail_w : (A3 (F := F) ++ A3b).flatten.map HloOp.writes = (A3_W ++ A3b_W).map fun w => {Proc.devRef (τ := τ) .tc w} := rfl
theorem across3 {r : Ref sig .tc} (ha : r ∉ (A3_W ++ A3b_W)) (hc : r ∉ C3_W) (hb : r ∉ B3_W) : E3 m c (Proc.devRef .tc r) = (E2 m c) (Proc.devRef .tc r) :=
  (kept C3_W C3_w hc _).trans ((kept3 hc hb 256).trans (kept (A3_W ++ A3b_W) tail_w ha _))

/-- What each layer leaves its successor: its last state, and all its outputs. -/
theorem last0 : E0 m c (Proc.devRef .tc main_v11_4)
    = state (U0 m c (Proc.devRef .tc main_v11_0)) (U0 m c (Proc.devRef .tc main_v11_1)) (U0 m c (Proc.devRef .tc main_v11_2)) (U0 m c (Proc.devRef .tc main_v11_4)) 256 :=
  (kept C0_W C0_w (r := main_v11_4) (by decide) _).trans (state0 (start0 m c) 256)
theorem written0 : E0 m c (Proc.devRef .tc main_v11_5)
    = outs (U0 m c (Proc.devRef .tc main_v11_0)) (U0 m c (Proc.devRef .tc main_v11_1)) (U0 m c (Proc.devRef .tc main_v11_2)) (U0 m c (Proc.devRef .tc main_v11_4)) blank 256 :=
  (kept C0_W C0_w (r := main_v11_5) (by decide) _).trans ((outs0 (start0 m c) 256).trans (by rw [show U0 m c (Proc.devRef .tc main_v11_5) = blank from enter0_5 _]))
theorem last1 : E1 m c (Proc.devRef .tc main_v21_4)
    = state (U1 m c (Proc.devRef .tc main_v21_0)) (U1 m c (Proc.devRef .tc main_v21_1)) (U1 m c (Proc.devRef .tc main_v21_2)) (U1 m c (Proc.devRef .tc main_v21_4)) 256 :=
  (kept C1_W C1_w (r := main_v21_4) (by decide) _).trans (state1 (start1 m c) 256)
theorem written1 : E1 m c (Proc.devRef .tc main_v21_5)
    = outs (U1 m c (Proc.devRef .tc main_v21_0)) (U1 m c (Proc.devRef .tc main_v21_1)) (U1 m c (Proc.devRef .tc main_v21_2)) (U1 m c (Proc.devRef .tc main_v21_4)) blank 256 :=
  (kept C1_W C1_w (r := main_v21_5) (by decide) _).trans ((outs1 (start1 m c) 256).trans (by rw [show U1 m c (Proc.devRef .tc main_v21_5) = blank from enter1_5 _]))
theorem last2 : E2 m c (Proc.devRef .tc main_v31_4)
    = state (U2 m c (Proc.devRef .tc main_v31_0)) (U2 m c (Proc.devRef .tc main_v31_1)) (U2 m c (Proc.devRef .tc main_v31_2)) (U2 m c (Proc.devRef .tc main_v31_4)) 256 :=
  (kept C2_W C2_w (r := main_v31_4) (by decide) _).trans (state2 (start2 m c) 256)
theorem written2 : E2 m c (Proc.devRef .tc main_v31_5)
    = outs (U2 m c (Proc.devRef .tc main_v31_0)) (U2 m c (Proc.devRef .tc main_v31_1)) (U2 m c (Proc.devRef .tc main_v31_2)) (U2 m c (Proc.devRef .tc main_v31_4)) blank 256 :=
  (kept C2_W C2_w (r := main_v31_5) (by decide) _).trans ((outs2 (start2 m c) 256).trans (by rw [show U2 m c (Proc.devRef .tc main_v31_5) = blank from enter2_5 _]))
theorem last3 : E3 m c (Proc.devRef .tc main_v41_4)
    = state (U3 m c (Proc.devRef .tc main_v41_0)) (U3 m c (Proc.devRef .tc main_v41_1)) (U3 m c (Proc.devRef .tc main_v41_2)) (U3 m c (Proc.devRef .tc main_v41_4)) 256 :=
  (kept C3_W C3_w (r := main_v41_4) (by decide) _).trans (state3 (start3 m c) 256)
theorem written3 : E3 m c (Proc.devRef .tc main_v41_5)
    = outs (U3 m c (Proc.devRef .tc main_v41_0)) (U3 m c (Proc.devRef .tc main_v41_1)) (U3 m c (Proc.devRef .tc main_v41_2)) (U3 m c (Proc.devRef .tc main_v41_4)) blank 256 :=
  (kept C3_W C3_w (r := main_v41_5) (by decide) _).trans ((outs3 (start3 m c) 256).trans (by rw [show U3 m c (Proc.devRef .tc main_v41_5) = blank from enter3_5 _]))

end Cert.ReferenceIdeal.Chain

end
-- ==== Proof.Layer.lean ====
module

public import proofs.«01_k».proof.Proof.Cells
public import proofs.«01_k».proof.Proof.Chain
public import Idealize.ShloMosaic.Lib.DynamicIndex
public import Idealize.ShloMosaic.Lib.StackMember
public import Idealize.ShloMosaic.Lib.Pointwise.ShapeOpsCore

@[expose] public section
/-! # The reference's layers, entry by entry, on the extended reals

One trip blends the same sums as one cell of the kernel, so the two run in step from one state.
-/

set_option maxRecDepth 8192

noncomputable section

namespace Cert.ReferenceIdeal.Layer

open Idealize.ShloMosaic hiding ix2 ix3 logistic
open Idealize.ShloMosaic.TcCoe Cert.ReferenceIdeal Cert.ReferenceIdeal.Facts₀ Cert.ReferenceIdeal.Loops
open Idealize.ShloMosaic.ValueIdx (ix2 ix3)
open Cert.Gates Cert.Kernel.Cells
open scoped BigOperators

variable (X : FVec Ideal S256x64x384 .f32) (x : FVec Ideal S64x256x128 .f32) (K R : FVec Ideal S128x384 .f32) (B : FVec Ideal S2x384 .f32) (h : FVec Ideal S64x128 .f32)

theorem one_apply (i : S64x128.Idx) : (ones : FVec Ideal S64x128 .f32) i = (1 : EReal) := Ideal.ofBits_one_f32

theorem logistic_apply (v : FVec Ideal S64x128 .f32) (i : S64x128.Idx) : logistic v i = logi (v i) := by
  show Ideal.div ((ones : FVec Ideal S64x128 .f32) i) ((ones : FVec Ideal S64x128 .f32) i + Ideal.exp (-(v i))) = _
  rw [one_apply]; rfl

theorem gru_apply (P Q : FVec Ideal S64x384 .f32) (r : Fin 64) (c : Fin 128) : gru P Q h (ix2 r c)
    = blend (P (ix2 r ⟨c.val, by omega⟩) + Q (ix2 r ⟨c.val, by omega⟩)) (P (ix2 r ⟨128 + c.val, by omega⟩) + Q (ix2 r ⟨128 + c.val, by omega⟩))
        (P (ix2 r ⟨256 + c.val, by omega⟩)) (Q (ix2 r ⟨256 + c.val, by omega⟩)) (h (ix2 r c)) := by
  have pick : ∀ (v : FVec Ideal S64x384 .f32) (o : ℕ) (ho : o + c.val < 384) (hs : S64x384.Slices ![0, o] S64x128), extractStridedSlice S64x128 ![0, o] v hs (ix2 r c) = v (ix2 r (⟨o + c.val, ho⟩ : Fin 384)) := by
    intro v o ho hs
    unfold extractStridedSlice
    refine congrArg v (funext fun a => Fin.ext ?_)
    fin_cases a
    · exact Nat.zero_add _
    · rfl
  have e0 : (⟨0 + c.val, by omega⟩ : Fin 384) = ⟨c.val, by omega⟩ := Fin.ext (Nat.zero_add _)
  unfold gru
  show (logistic (addf (extractStridedSlice S64x128 ![0, 0] P slices_S64x384_S64x128_0_0) (extractStridedSlice S64x128 ![0, 0] Q slices_S64x384_S64x128_0_0)) (ix2 r c) : EReal) * h (ix2 r c)
    + ((ones : FVec Ideal S64x128 .f32) (ix2 r c) - (logistic (addf (extractStridedSlice S64x128 ![0, 0] P slices_S64x384_S64x128_0_0) (extractStridedSlice S64x128 ![0, 0] Q slices_S64x384_S64x128_0_0)) (ix2 r c) : EReal))
      * Ideal.tanh (extractStridedSlice S64x128 ![0, 256] P slices_S64x384_S64x128_0_256 (ix2 r c)
        + (logistic (addf (extractStridedSlice S64x128 ![0, 128] P slices_S64x384_S64x128_0_128) (extractStridedSlice S64x128 ![0, 128] Q slices_S64x384_S64x128_0_128)) (ix2 r c) : EReal) * extractStridedSlice S64x128 ![0, 256] Q slices_S64x384_S64x128_0_256 (ix2 r c)) = _
  rw [one_apply, logistic_apply, logistic_apply]
  show logi (extractStridedSlice S64x128 ![0, 0] P slices_S64x384_S64x128_0_0 (ix2 r c) + extractStridedSlice S64x128 ![0, 0] Q slices_S64x384_S64x128_0_0 (ix2 r c)) * h (ix2 r c)
    + (1 - logi (extractStridedSlice S64x128 ![0, 0] P slices_S64x384_S64x128_0_0 (ix2 r c) + extractStridedSlice S64x128 ![0, 0] Q slices_S64x384_S64x128_0_0 (ix2 r c)))
      * Ideal.tanh (extractStridedSlice S64x128 ![0, 256] P slices_S64x384_S64x128_0_256 (ix2 r c)
        + logi (extractStridedSlice S64x128 ![0, 128] P slices_S64x384_S64x128_0_128 (ix2 r c) + extractStridedSlice S64x128 ![0, 128] Q slices_S64x384_S64x128_0_128 (ix2 r c))
          * extractStridedSlice S64x128 ![0, 256] Q slices_S64x384_S64x128_0_256 (ix2 r c)) = _
  rw [pick P 0 (by omega), pick Q 0 (by omega), pick P 128 (by omega), pick Q 128 (by omega), pick P 256 (by omega), pick Q 256 (by omega), e0]
  rfl

theorem bias_apply (p : Fin 2) (o : ℕ) (hp : p.val = o) (hs : S2x384.Slices ![o, 0] S1x384) (j : Fin 384) :
    shapeCast S384 (extractStridedSlice S1x384 ![o, 0] B hs) shapeCasts_S1x384_S384 (fun | 0 => j) = B (ix2 p j) := by
  refine (shapeCast_dropUnit_apply ![384] _ _ _).trans ?_
  unfold extractStridedSlice
  refine congrArg B (funext fun a => Fin.ext ?_)
  fin_cases a
  · exact hp.symm
  · exact Nat.zero_add _

theorem recur_apply (r : Fin 64) (j : Fin 384) : recur R B h (ix2 r j) = lin 1 h R B r j := by
  refine congr_arg₂ (fun p q : EReal => p + q) (StackMember.dotGeneral_plain_apply (m := 64) (k := 128) (n := 384) none h R r j) ?_
  exact bias_apply B 1 1 rfl slices_S2x384_S1x384_1_0 j

theorem place_count (k : ℕ) (hk : k < 256) (a : Fin 3) : place (Loops.count k) a = ((![k, 0, 0] : Fin 3 → ℕ) a : ℤ) := by
  unfold place Loops.count
  fin_cases a
  · show (Scf.iv 0#32 1#32 k).toInt = (k : ℤ)
    rw [Scf.toInt_iv (ub := 256#32) (by decide) (show k ≤ Scf.trips 0#32 256#32 1#32 from hk.le)]
    show 0 + (k : ℤ) * 1 = k
    omega
  · rfl
  · rfl

theorem step_apply (k : ℕ) (hk : k < 256) (r : Fin 64) (j : Fin 384) : step X (Loops.count k) (ix2 r j) = X (ix3 ⟨k, hk⟩ r j) := by
  unfold step
  refine (shapeCast_dropUnit_apply ![64, 384] _ _ _).trans ?_
  rw [Host.dynamicSlice_eq_extractStridedSlice S1x64x384 X (place (Loops.count k)) ![k, 0, 0] _ ⟨rfl, fun a => by fin_cases a <;> simp <;> omega⟩ (place_count k hk)]
  unfold extractStridedSlice
  refine congrArg X (funext fun a => Fin.ext ?_)
  fin_cases a
  · rfl
  · exact Nat.zero_add _
  · exact Nat.zero_add _

theorem proj_apply (t : Fin 256) (r : Fin 64) (j : Fin 384) : proj x K B (ix3 t r j) = lin 0 (fun i => x (ix3 (⟨(i 0).val, (i 0).isLt⟩ : Fin 64) t (⟨(i 1).val, (i 1).isLt⟩ : Fin 128))) K B r j := by
  unfold proj
  refine (transpose_apply (s := S64x256x384) (t := S256x64x384) [1, 0, 2] _ _ _ (ix3 r t j) (fun | 0 => rfl | 1 => rfl | 2 => rfl)).trans ?_
  refine congr_arg₂ (fun p q : EReal => p + q) ?_ ?_
  · show FloatOps.dotGeneral _ _ _ x K (ix3 r t j) = _
    rw [Ideal.dotGeneral_apply, ← Equiv.sum_comp (ValueIdx.contrEquiv1 dot_S64x256x128_S128x384_S64x256x384_2_0_01_1_n_n 128 rfl rfl).symm]
    refine Finset.sum_congr rfl fun k _ => ?_
    have hk := ValueIdx.contrEquiv1_symm_val dot_S64x256x128_S128x384_S64x256x384_2_0_01_1_n_n 128 rfl rfl k
    refine congr_arg₂ (fun p q : EReal => p * q) (congrArg x (funext fun a => Fin.ext ?_)) (congrArg K (funext fun a => Fin.ext ?_))
    · fin_cases a
      · rfl
      · rfl
      · exact hk
    · fin_cases a
      · exact hk
      · rfl
  · exact bias_apply B 0 0 rfl slices_S2x384_S1x384_0_0 j

theorem back_apply (ys : FVec Ideal S256x64x128 .f32) (r : Fin 64) (t : Fin 256) (k : Fin 128) : back ys (ix3 r t k) = ys (ix3 t r k) :=
  transpose_apply (s := S256x64x128) (t := S64x256x128) [1, 0, 2] _ _ _ (ix3 t r k) (fun | 0 => rfl | 1 => rfl | 2 => rfl)

theorem put_apply (ys : FVec Ideal S256x64x128 .f32) (k : ℕ) (hk : k < 256) (t : Fin 256) (r : Fin 64) (c : Fin 128) :
    put ys (Loops.count k) h (ix3 t r c) = if t.val = k then h (ix2 r c) else ys (ix3 t r c) := by
  have hc : ∀ a : Fin 3, (min (max (place (Loops.count k) a) 0) ((S256x64x128.size a - S1x64x128.size (a.cast updateFits_S256x64x128_S1x64x128.1.symm) : ℕ) : ℤ)).toNat = (![k, 0, 0] : Fin 3 → ℕ) a := by
    intro a
    rw [place_count k hk a]
    fin_cases a
    · show (min (max (k : ℤ) 0) ((255 : ℕ) : ℤ)).toNat = k; omega
    · rfl
    · rfl
  unfold put
  refine (congrFun (Host.dynamicUpdateSlice_eq_updateSlice ys _ (place (Loops.count k)) updateFits_S256x64x128_S1x64x128 ![k, 0, 0] hc ⟨rfl, fun a => by fin_cases a <;> simp <;> omega⟩) _).trans ?_
  refine (updateSlice_apply (s := S256x64x128) (u := S1x64x128) ys _ ![k, 0, 0] _ (ix3 t r c)).trans ?_
  by_cases ht : t.val = k
  · rw [if_pos ht]
    refine (dif_pos (fun a => ?_)).trans ?_
    · fin_cases a
      · show k ≤ t.val ∧ t.val < k + 1; omega
      · exact ⟨Nat.zero_le _, by show r.val < 0 + 64; omega⟩
      · exact ⟨Nat.zero_le _, by show c.val < 0 + 128; omega⟩
    · refine congrArg h (funext fun a => Fin.ext ?_)
      fin_cases a <;> rfl
  · rw [if_neg ht]
    exact dif_neg fun hin => ht (by
      have h0 := hin 0
      change k ≤ t.val ∧ t.val < k + 1 at h0
      omega)

/-! ## Whole layers -/

/-- A state whose entries are real numbers. -/
def Finite (h : FVec Ideal S64x128 .f32) : Prop := ∀ r c, ∃ q : ℝ, h (ix2 r c) = q

theorem zeros_finite : Finite (zeros : FVec Ideal S64x128 .f32) := fun _ _ => ⟨0, Ideal.ofBits_zero_f32⟩

theorem gru_finite {h : FVec Ideal S64x128 .f32} (hf : Finite h) (P Q : FVec Ideal S64x384 .f32) : Finite (gru P Q h) := fun r c => by
  obtain ⟨q, hq⟩ := hf r c
  rw [gru_apply, hq]
  exact blend_real _ _ _ _ q

theorem state_finite {h : FVec Ideal S64x128 .f32} (hf : Finite h) : ∀ n, Finite (state X R B h n)
  | 0 => hf
  | n + 1 => gru_finite (state_finite hf n) _ _

/-- After `n` trips the first `n` time steps hold the states. -/
theorem outs_apply (ys : FVec Ideal S256x64x128 .f32) (r : Fin 64) (c : Fin 128) (t : Fin 256) : ∀ n, n ≤ 256 → t.val < n →
    outs X R B h ys n (ix3 t r c) = state X R B h (t.val + 1) (ix2 r c)
  | 0, _, ht => absurd ht (Nat.not_lt_zero _)
  | n + 1, hn, ht => by
    show put (outs X R B h ys n) (Loops.count n) (state X R B h (n + 1)) (ix3 t r c) = _
    rw [put_apply _ _ n (by omega)]
    by_cases e : t.val = n
    · rw [if_pos e, e]
    · rw [if_neg e]; exact outs_apply ys r c t n (by omega) (by omega)

open Cert.Kernel.Steps in
open Cert.Kernel.Weights in
/-- The kernel's turns over blocks holding the layer's inputs are the reference's trips. -/
theorem turns_state (xs : ℕ → FVec Ideal Cert.Kernel.S64x128 .bf16) (hf : Finite h) (hx : ∀ (t : Fin 256) r k, xs t.val (ix2 r k) = x (ix3 r t k)) :
    ∀ n, n ≤ 256 → turns (wcat K R) (bcat B) xs h n = state (proj x K B) R B h n
  | 0, _ => rfl
  | n + 1, hn => by
    show cell (wcat K R) (bcat B) (xs n) (turns (wcat K R) (bcat B) xs h n) = gru (step (proj x K B) (Loops.count n)) (recur R B (state (proj x K B) R B h n)) (state (proj x K B) R B h n)
    rw [turns_state xs hf hx n (by omega)]
    funext i
    obtain ⟨r, c, rfl⟩ : ∃ (r : Fin 64) (c : Fin 128), i = ix2 r c := ⟨i 0, i 1, funext fun a => by fin_cases a <;> rfl⟩
    have hl : ∀ j, step (proj x K B) (Loops.count n) (ix2 r j) = lin 0 (xs n) K B r j := fun j => by
      rw [step_apply _ n (by omega), proj_apply]
      exact congrArg (fun s : EReal => s + B (ix2 0 j)) (Finset.sum_congr rfl fun k _ => congrArg (fun s : EReal => s * K (ix2 k j)) (hx ⟨n, by omega⟩ r k).symm)
    rw [gru_apply]
    simp only [hl, recur_apply]
    exact cell_apply K R B (xs n) _ r c (state_finite _ R B hf n r c)

end Cert.ReferenceIdeal.Layer

end
-- ==== Proof.Stack.lean ====
module

public import proofs.«01_k».proof.Proof.Layer
public import proofs.«01_k».proof.Proof.Main

@[expose] public section
/-! # The four layers and the logits, on the extended reals -/

set_option maxRecDepth 8192

noncomputable section

namespace Cert.ReferenceIdeal.Stack

open Idealize.ShloMosaic hiding ix2 ix3 logistic
open Idealize.ShloMosaic.TcCoe Cert.ReferenceIdeal Cert.ReferenceIdeal.Facts₀ Cert.ReferenceIdeal.Loops Cert.ReferenceIdeal.Layer
open Idealize.ShloMosaic.ValueIdx (ix2 ix3)
open Cert.Kernel.Steps Cert.Kernel.Weights
open scoped BigOperators

/-! ## The rows -/

section Rows

variable {a b : IVec S64x256 32} (ha : ∀ j, (a j).toNat < 100000) (hb : ∀ j, (b j).toNat < 100000) (g : FVec Ideal S100000x128 .f32)

theorem seen_self (x : FVec Ideal Cert.Kernel.S64x128 .f32) (i : S64x128.Idx) : (seen (F := Ideal) x i : EReal) = x i := by
  unfold seen
  rw [shapeCast_self]
  rfl

include ha in
/-- Block `t` of the first half of the gathered rows is what the first lookup finds at time `t`. -/
theorem rows_low (b : IVec S64x256 32) (X : FVec Ideal Cert.Kernel.S16384x128 .f32)
    (hX : ∀ (q : Fin 16384) (k : Fin 128), X (ix2 q k) = Cert.Kernel.Tile.rowsOf (F := Ideal) (Cert.Kernel.Launch.tokens a b) g (ix2 (⟨q.val, by omega⟩ : Fin 32768) k))
    (t : Fin 256) (r : Fin 64) (k : Fin 128) : (seen (F := Ideal) (block X t.val) (ix2 r k) : EReal) = Cert.Lookup.looked g a (ix3 r t k) := by
  rw [seen_self, Cert.Lookup.looked_apply ha]
  refine (hX ⟨(64 * t.val + r.val) % 16384, Nat.mod_lt _ (by decide)⟩ k).trans ?_
  have hq : (64 * t.val + r.val) % 16384 / 64 = t.val := by omega
  have hq2 : (64 * t.val + r.val) % 16384 % 64 = r.val := by omega
  unfold Cert.Kernel.Tile.rowsOf
  refine congrArg g (funext fun c => ?_)
  match c with
  | 0 =>
    refine Fin.ext (congrArg (fun v : BitVec 32 => v.toNat % 100000) ?_)
    refine (Cert.Kernel.Launch.tokens_apply a b _).trans ((dif_pos (show (64 * t.val + r.val) % 16384 / 64 < 256 by omega)).trans ?_)
    exact congrArg a (funext fun | 0 => Fin.ext hq2 | 1 => Fin.ext hq)
  | 1 => rfl

include hb in
/-- And of the second half, the second. -/
theorem rows_high (a : IVec S64x256 32) (X : FVec Ideal Cert.Kernel.S16384x128 .f32)
    (hX : ∀ (q : Fin 16384) (k : Fin 128), X (ix2 q k) = Cert.Kernel.Tile.rowsOf (F := Ideal) (Cert.Kernel.Launch.tokens a b) g (ix2 (⟨16384 + q.val, by omega⟩ : Fin 32768) k))
    (t : Fin 256) (r : Fin 64) (k : Fin 128) : (seen (F := Ideal) (block X t.val) (ix2 r k) : EReal) = Cert.Lookup.looked g b (ix3 r t k) := by
  rw [seen_self, Cert.Lookup.looked_apply hb]
  refine (hX ⟨(64 * t.val + r.val) % 16384, Nat.mod_lt _ (by decide)⟩ k).trans ?_
  have hq : (16384 + (64 * t.val + r.val) % 16384) / 64 - 256 = t.val := by omega
  have hq2 : (16384 + (64 * t.val + r.val) % 16384) % 64 = r.val := by omega
  unfold Cert.Kernel.Tile.rowsOf
  refine congrArg g (funext fun c => ?_)
  match c with
  | 0 =>
    refine Fin.ext (congrArg (fun v : BitVec 32 => v.toNat % 100000) ?_)
    refine (Cert.Kernel.Launch.tokens_apply a b _).trans ((dif_neg (show ¬ (16384 + (64 * t.val + r.val) % 16384) / 64 < 256 by omega)).trans ?_)
    exact congrArg b (funext fun | 0 => Fin.ext hq2 | 1 => Fin.ext hq)
  | 1 => rfl

end Rows

/-! ## The layers -/

section Layers

/-- A layer's last state and its outputs, as the reference computes them. -/
def lay (x : FVec Ideal S64x256x128 .f32) (K R : FVec Ideal S128x384 .f32) (B : FVec Ideal S2x384 .f32) (h : FVec Ideal S64x128 .f32) : FVec Ideal S64x128 .f32 :=
  state (proj x K B) R B h 256
def ys (x : FVec Ideal S64x256x128 .f32) (K R : FVec Ideal S128x384 .f32) (B : FVec Ideal S2x384 .f32) (h : FVec Ideal S64x128 .f32) : FVec Ideal S256x64x128 .f32 :=
  outs (proj x K B) R B h blank 256

variable (x : FVec Ideal S64x256x128 .f32) (K R : FVec Ideal S128x384 .f32) (B : FVec Ideal S2x384 .f32) {h : FVec Ideal S64x128 .f32} (hf : Finite h)
include hf

theorem lay_finite : Finite (lay x K R B h) := state_finite _ R B hf 256

theorem first_eq (X : FVec Ideal Cert.Kernel.S16384x128 .f32) (hx : ∀ (t : Fin 256) (r : Fin 64) (k : Fin 128), (seen (F := Ideal) (block X t.val) (ix2 r k) : EReal) = x (ix3 r t k)) :
    ∀ n, n ≤ 256 → first X K R B h n = state (proj x K B) R B h n :=
  turns_state x K R B h (fun t => seen (block X t)) hf hx

theorem second_eq (u : ℕ → FVec Ideal S64x128 .f32) (hu : ∀ n, n ≤ 256 → u n = state (proj x K B) R B h n) (K' R' : FVec Ideal S128x384 .f32) (B' : FVec Ideal S2x384 .f32) :
    second u K' R' B' 256 = lay (back (ys x K R B h)) K' R' B' (lay x K R B h) := by
  unfold second
  rw [hu 256 le_rfl]
  refine turns_state (back (ys x K R B h)) K' R' B' _ (fun t => block (states u) t) (lay_finite x K R B hf) (fun t r k => ?_) 256 le_rfl
  rw [back_apply]
  unfold ys
  rw [outs_apply _ R B h blank r k t 256 le_rfl t.isLt, ← hu _ t.isLt]
  have hq : (64 * t.val + r.val) % 16384 / 64 = t.val := by omega
  have hq2 : (64 * t.val + r.val) % 16384 % 64 = r.val := by omega
  show (Cert.Kernel.Steps.kept (F := Ideal) (u ((64 * t.val + r.val) % 16384 / 64 + 1)) (ix2 (⟨(64 * t.val + r.val) % 16384 % 64, _⟩ : Fin 64) (⟨k.val, _⟩ : Fin 128)) : EReal) = _
  unfold Cert.Kernel.Steps.kept
  rw [shapeCast_self]
  show u _ _ = _
  rw [hq]
  exact congrArg (u (t.val + 1)) (funext fun | 0 => Fin.ext hq2 | 1 => rfl)

end Layers

/-- The state after all four layers is the reference's. -/
theorem hidden_eq (x1 x2 : FVec Ideal S64x256x128 .f32) (X1 X2 : FVec Ideal Cert.Kernel.S16384x128 .f32) (K1 R1 K2 R2 K3 R3 K4 R4 : FVec Ideal S128x384 .f32) (B1 B2 B3 B4 : FVec Ideal S2x384 .f32)
    (h1 : ∀ (t : Fin 256) (r : Fin 64) (k : Fin 128), (seen (F := Ideal) (block X1 t.val) (ix2 r k) : EReal) = x1 (ix3 r t k))
    (h2 : ∀ (t : Fin 256) (r : Fin 64) (k : Fin 128), (seen (F := Ideal) (block X2 t.val) (ix2 r k) : EReal) = x2 (ix3 r t k)) :
    Cert.Kernel.Weights.hidden X1 X2 K1 R1 B1 K2 R2 B2 K3 R3 B3 K4 R4 B4
      = lay (back (ys x2 K3 R3 B3 (lay (back (ys x1 K1 R1 B1 zeros)) K2 R2 B2 (lay x1 K1 R1 B1 zeros)))) K4 R4 B4
          (lay x2 K3 R3 B3 (lay (back (ys x1 K1 R1 B1 zeros)) K2 R2 B2 (lay x1 K1 R1 B1 zeros))) := by
  have e1 := second_eq x1 K1 R1 B1 zeros_finite _ (first_eq x1 K1 R1 B1 zeros_finite X1 h1) K2 R2 B2
  have f2 := lay_finite (back (ys x1 K1 R1 B1 zeros)) K2 R2 B2 (lay_finite x1 K1 R1 B1 zeros_finite)
  unfold Cert.Kernel.Weights.hidden
  refine (congrArg (fun s => second (first X2 K3 R3 B3 s) K4 R4 B4 256) e1).trans ?_
  exact second_eq x2 K3 R3 B3 f2 _ (first_eq x2 K3 R3 B3 f2 X2 h2) K4 R4 B4

/-! ## The logits -/

theorem head_apply (x : FVec Ideal S64x256x128 .f32) (K R : FVec Ideal S128x384 .f32) (B : FVec Ideal S2x384 .f32) (h : FVec Ideal S64x128 .f32)
    (W : FVec Ideal S128x100000 .f32) (b : FVec Ideal S100000 .f32) (r : Fin 64) (j : Fin 100000) :
    head (ys x K R B h) W b (ix2 r j) = (∑ k : Fin 128, (lay x K R B h (ix2 r k) : EReal) * W (ix2 k j)) + b (fun | 0 => j) := by
  refine congr_arg₂ (fun p q : EReal => p + q) ?_ ?_
  · refine (StackMember.dotGeneral_plain_apply (m := 64) (k := 128) (n := 100000) none _ W r j).trans ?_
    refine Finset.sum_congr rfl fun k _ => congrArg (fun p : EReal => p * W (ix2 k j)) ?_
    refine (shapeCast_apply (s := S64x1x128) (t := S64x128) _ _ (ix2 r k) (ix3 r (0 : Fin 1) k) (by
      rw [Shape.rowMajor_val_three, Shape.rowMajor_val_two]
      show (r.val * 1 + 0) * 128 + k.val = r.val * 128 + k.val
      omega)).trans ?_
    refine Eq.trans (congrArg (back (ys x K R B h)) (funext fun a => Fin.ext ?_) : _ = back (ys x K R B h) (ix3 r (255 : Fin 256) k)) ?_
    · fin_cases a
      · exact Nat.zero_add _
      · rfl
      · exact Nat.zero_add _
    · rw [back_apply]
      exact outs_apply (proj x K B) R B h blank r k 255 256 le_rfl (by decide)
  · exact congrArg b (funext fun a => by fin_cases a; rfl)

end Cert.ReferenceIdeal.Stack

end
-- ==== Proof.Answer.lean ====
module

public import proofs.«01_k».proof.Proof.Stack

@[expose] public section
/-! # What the reference leaves -/

set_option maxRecDepth 8192
set_option maxHeartbeats 4000000

noncomputable section

namespace Cert.ReferenceIdeal.Answer

open Idealize.ShloMosaic hiding ix2 ix3 logistic
open Idealize.ShloMosaic.TcCoe Cert.ReferenceIdeal Cert.ReferenceIdeal.Facts₀ Cert.ReferenceIdeal.Loops Cert.ReferenceIdeal.Chain Cert.ReferenceIdeal.Lists
open Cert.ReferenceIdeal.Layer Cert.ReferenceIdeal.Stack
open Idealize.ShloMosaic.ValueIdx (ix2 ix3)

section Args

variable {F : FTy → Type} [FloatOps F] (m : (ℓ : Loc nD τ sig) → Buf (Elt F) ℓ) (c : Dev nD)

/-! ## The arguments stay -/

theorem first_0 : E0 m c (Proc.devRef .tc main_arg0) = m ((c.tc : Thread nD τ).loc main_arg0) := across0 (by decide) (by decide) (by decide)
theorem second_0 : E1 m c (Proc.devRef .tc main_arg0) = m ((c.tc : Thread nD τ).loc main_arg0) := (across1 (by decide) (by decide) (by decide)).trans (first_0 m c)
theorem third_0 : E2 m c (Proc.devRef .tc main_arg0) = m ((c.tc : Thread nD τ).loc main_arg0) := (across2 (by decide) (by decide) (by decide)).trans (second_0 m c)
theorem fourth_0 : E3 m c (Proc.devRef .tc main_arg0) = m ((c.tc : Thread nD τ).loc main_arg0) := (across3 (by decide) (by decide) (by decide)).trans (third_0 m c)
theorem end_0 : U4 m c (Proc.devRef .tc main_arg0) = m ((c.tc : Thread nD τ).loc main_arg0) := (kept A4_W A4_w (by decide) _).trans (fourth_0 m c)
theorem first_1 : E0 m c (Proc.devRef .tc main_arg1) = m ((c.tc : Thread nD τ).loc main_arg1) := across0 (by decide) (by decide) (by decide)
theorem second_1 : E1 m c (Proc.devRef .tc main_arg1) = m ((c.tc : Thread nD τ).loc main_arg1) := (across1 (by decide) (by decide) (by decide)).trans (first_1 m c)
theorem third_1 : E2 m c (Proc.devRef .tc main_arg1) = m ((c.tc : Thread nD τ).loc main_arg1) := (across2 (by decide) (by decide) (by decide)).trans (second_1 m c)
theorem fourth_1 : E3 m c (Proc.devRef .tc main_arg1) = m ((c.tc : Thread nD τ).loc main_arg1) := (across3 (by decide) (by decide) (by decide)).trans (third_1 m c)
theorem end_1 : U4 m c (Proc.devRef .tc main_arg1) = m ((c.tc : Thread nD τ).loc main_arg1) := (kept A4_W A4_w (by decide) _).trans (fourth_1 m c)
theorem first_2 : E0 m c (Proc.devRef .tc main_arg2) = m ((c.tc : Thread nD τ).loc main_arg2) := across0 (by decide) (by decide) (by decide)
theorem second_2 : E1 m c (Proc.devRef .tc main_arg2) = m ((c.tc : Thread nD τ).loc main_arg2) := (across1 (by decide) (by decide) (by decide)).trans (first_2 m c)
theorem third_2 : E2 m c (Proc.devRef .tc main_arg2) = m ((c.tc : Thread nD τ).loc main_arg2) := (across2 (by decide) (by decide) (by decide)).trans (second_2 m c)
theorem fourth_2 : E3 m c (Proc.devRef .tc main_arg2) = m ((c.tc : Thread nD τ).loc main_arg2) := (across3 (by decide) (by decide) (by decide)).trans (third_2 m c)
theorem end_2 : U4 m c (Proc.devRef .tc main_arg2) = m ((c.tc : Thread nD τ).loc main_arg2) := (kept A4_W A4_w (by decide) _).trans (fourth_2 m c)
theorem first_3 : E0 m c (Proc.devRef .tc main_arg3) = m ((c.tc : Thread nD τ).loc main_arg3) := across0 (by decide) (by decide) (by decide)
theorem second_3 : E1 m c (Proc.devRef .tc main_arg3) = m ((c.tc : Thread nD τ).loc main_arg3) := (across1 (by decide) (by decide) (by decide)).trans (first_3 m c)
theorem third_3 : E2 m c (Proc.devRef .tc main_arg3) = m ((c.tc : Thread nD τ).loc main_arg3) := (across2 (by decide) (by decide) (by decide)).trans (second_3 m c)
theorem fourth_3 : E3 m c (Proc.devRef .tc main_arg3) = m ((c.tc : Thread nD τ).loc main_arg3) := (across3 (by decide) (by decide) (by decide)).trans (third_3 m c)
theorem end_3 : U4 m c (Proc.devRef .tc main_arg3) = m ((c.tc : Thread nD τ).loc main_arg3) := (kept A4_W A4_w (by decide) _).trans (fourth_3 m c)
theorem first_4 : E0 m c (Proc.devRef .tc main_arg4) = m ((c.tc : Thread nD τ).loc main_arg4) := across0 (by decide) (by decide) (by decide)
theorem second_4 : E1 m c (Proc.devRef .tc main_arg4) = m ((c.tc : Thread nD τ).loc main_arg4) := (across1 (by decide) (by decide) (by decide)).trans (first_4 m c)
theorem third_4 : E2 m c (Proc.devRef .tc main_arg4) = m ((c.tc : Thread nD τ).loc main_arg4) := (across2 (by decide) (by decide) (by decide)).trans (second_4 m c)
theorem fourth_4 : E3 m c (Proc.devRef .tc main_arg4) = m ((c.tc : Thread nD τ).loc main_arg4) := (across3 (by decide) (by decide) (by decide)).trans (third_4 m c)
theorem end_4 : U4 m c (Proc.devRef .tc main_arg4) = m ((c.tc : Thread nD τ).loc main_arg4) := (kept A4_W A4_w (by decide) _).trans (fourth_4 m c)
theorem first_5 : E0 m c (Proc.devRef .tc main_arg5) = m ((c.tc : Thread nD τ).loc main_arg5) := across0 (by decide) (by decide) (by decide)
theorem second_5 : E1 m c (Proc.devRef .tc main_arg5) = m ((c.tc : Thread nD τ).loc main_arg5) := (across1 (by decide) (by decide) (by decide)).trans (first_5 m c)
theorem third_5 : E2 m c (Proc.devRef .tc main_arg5) = m ((c.tc : Thread nD τ).loc main_arg5) := (across2 (by decide) (by decide) (by decide)).trans (second_5 m c)
theorem fourth_5 : E3 m c (Proc.devRef .tc main_arg5) = m ((c.tc : Thread nD τ).loc main_arg5) := (across3 (by decide) (by decide) (by decide)).trans (third_5 m c)
theorem end_5 : U4 m c (Proc.devRef .tc main_arg5) = m ((c.tc : Thread nD τ).loc main_arg5) := (kept A4_W A4_w (by decide) _).trans (fourth_5 m c)
theorem first_6 : E0 m c (Proc.devRef .tc main_arg6) = m ((c.tc : Thread nD τ).loc main_arg6) := across0 (by decide) (by decide) (by decide)
theorem second_6 : E1 m c (Proc.devRef .tc main_arg6) = m ((c.tc : Thread nD τ).loc main_arg6) := (across1 (by decide) (by decide) (by decide)).trans (first_6 m c)
theorem third_6 : E2 m c (Proc.devRef .tc main_arg6) = m ((c.tc : Thread nD τ).loc main_arg6) := (across2 (by decide) (by decide) (by decide)).trans (second_6 m c)
theorem fourth_6 : E3 m c (Proc.devRef .tc main_arg6) = m ((c.tc : Thread nD τ).loc main_arg6) := (across3 (by decide) (by decide) (by decide)).trans (third_6 m c)
theorem end_6 : U4 m c (Proc.devRef .tc main_arg6) = m ((c.tc : Thread nD τ).loc main_arg6) := (kept A4_W A4_w (by decide) _).trans (fourth_6 m c)
theorem first_7 : E0 m c (Proc.devRef .tc main_arg7) = m ((c.tc : Thread nD τ).loc main_arg7) := across0 (by decide) (by decide) (by decide)
theorem second_7 : E1 m c (Proc.devRef .tc main_arg7) = m ((c.tc : Thread nD τ).loc main_arg7) := (across1 (by decide) (by decide) (by decide)).trans (first_7 m c)
theorem third_7 : E2 m c (Proc.devRef .tc main_arg7) = m ((c.tc : Thread nD τ).loc main_arg7) := (across2 (by decide) (by decide) (by decide)).trans (second_7 m c)
theorem fourth_7 : E3 m c (Proc.devRef .tc main_arg7) = m ((c.tc : Thread nD τ).loc main_arg7) := (across3 (by decide) (by decide) (by decide)).trans (third_7 m c)
theorem end_7 : U4 m c (Proc.devRef .tc main_arg7) = m ((c.tc : Thread nD τ).loc main_arg7) := (kept A4_W A4_w (by decide) _).trans (fourth_7 m c)
theorem first_8 : E0 m c (Proc.devRef .tc main_arg8) = m ((c.tc : Thread nD τ).loc main_arg8) := across0 (by decide) (by decide) (by decide)
theorem second_8 : E1 m c (Proc.devRef .tc main_arg8) = m ((c.tc : Thread nD τ).loc main_arg8) := (across1 (by decide) (by decide) (by decide)).trans (first_8 m c)
theorem third_8 : E2 m c (Proc.devRef .tc main_arg8) = m ((c.tc : Thread nD τ).loc main_arg8) := (across2 (by decide) (by decide) (by decide)).trans (second_8 m c)
theorem fourth_8 : E3 m c (Proc.devRef .tc main_arg8) = m ((c.tc : Thread nD τ).loc main_arg8) := (across3 (by decide) (by decide) (by decide)).trans (third_8 m c)
theorem end_8 : U4 m c (Proc.devRef .tc main_arg8) = m ((c.tc : Thread nD τ).loc main_arg8) := (kept A4_W A4_w (by decide) _).trans (fourth_8 m c)
theorem first_9 : E0 m c (Proc.devRef .tc main_arg9) = m ((c.tc : Thread nD τ).loc main_arg9) := across0 (by decide) (by decide) (by decide)
theorem second_9 : E1 m c (Proc.devRef .tc main_arg9) = m ((c.tc : Thread nD τ).loc main_arg9) := (across1 (by decide) (by decide) (by decide)).trans (first_9 m c)
theorem third_9 : E2 m c (Proc.devRef .tc main_arg9) = m ((c.tc : Thread nD τ).loc main_arg9) := (across2 (by decide) (by decide) (by decide)).trans (second_9 m c)
theorem fourth_9 : E3 m c (Proc.devRef .tc main_arg9) = m ((c.tc : Thread nD τ).loc main_arg9) := (across3 (by decide) (by decide) (by decide)).trans (third_9 m c)
theorem end_9 : U4 m c (Proc.devRef .tc main_arg9) = m ((c.tc : Thread nD τ).loc main_arg9) := (kept A4_W A4_w (by decide) _).trans (fourth_9 m c)
theorem first_10 : E0 m c (Proc.devRef .tc main_arg10) = m ((c.tc : Thread nD τ).loc main_arg10) := across0 (by decide) (by decide) (by decide)
theorem second_10 : E1 m c (Proc.devRef .tc main_arg10) = m ((c.tc : Thread nD τ).loc main_arg10) := (across1 (by decide) (by decide) (by decide)).trans (first_10 m c)
theorem third_10 : E2 m c (Proc.devRef .tc main_arg10) = m ((c.tc : Thread nD τ).loc main_arg10) := (across2 (by decide) (by decide) (by decide)).trans (second_10 m c)
theorem fourth_10 : E3 m c (Proc.devRef .tc main_arg10) = m ((c.tc : Thread nD τ).loc main_arg10) := (across3 (by decide) (by decide) (by decide)).trans (third_10 m c)
theorem end_10 : U4 m c (Proc.devRef .tc main_arg10) = m ((c.tc : Thread nD τ).loc main_arg10) := (kept A4_W A4_w (by decide) _).trans (fourth_10 m c)
theorem first_11 : E0 m c (Proc.devRef .tc main_arg11) = m ((c.tc : Thread nD τ).loc main_arg11) := across0 (by decide) (by decide) (by decide)
theorem second_11 : E1 m c (Proc.devRef .tc main_arg11) = m ((c.tc : Thread nD τ).loc main_arg11) := (across1 (by decide) (by decide) (by decide)).trans (first_11 m c)
theorem third_11 : E2 m c (Proc.devRef .tc main_arg11) = m ((c.tc : Thread nD τ).loc main_arg11) := (across2 (by decide) (by decide) (by decide)).trans (second_11 m c)
theorem fourth_11 : E3 m c (Proc.devRef .tc main_arg11) = m ((c.tc : Thread nD τ).loc main_arg11) := (across3 (by decide) (by decide) (by decide)).trans (third_11 m c)
theorem end_11 : U4 m c (Proc.devRef .tc main_arg11) = m ((c.tc : Thread nD τ).loc main_arg11) := (kept A4_W A4_w (by decide) _).trans (fourth_11 m c)
theorem first_12 : E0 m c (Proc.devRef .tc main_arg12) = m ((c.tc : Thread nD τ).loc main_arg12) := across0 (by decide) (by decide) (by decide)
theorem second_12 : E1 m c (Proc.devRef .tc main_arg12) = m ((c.tc : Thread nD τ).loc main_arg12) := (across1 (by decide) (by decide) (by decide)).trans (first_12 m c)
theorem third_12 : E2 m c (Proc.devRef .tc main_arg12) = m ((c.tc : Thread nD τ).loc main_arg12) := (across2 (by decide) (by decide) (by decide)).trans (second_12 m c)
theorem fourth_12 : E3 m c (Proc.devRef .tc main_arg12) = m ((c.tc : Thread nD τ).loc main_arg12) := (across3 (by decide) (by decide) (by decide)).trans (third_12 m c)
theorem end_12 : U4 m c (Proc.devRef .tc main_arg12) = m ((c.tc : Thread nD τ).loc main_arg12) := (kept A4_W A4_w (by decide) _).trans (fourth_12 m c)
theorem first_13 : E0 m c (Proc.devRef .tc main_arg13) = m ((c.tc : Thread nD τ).loc main_arg13) := across0 (by decide) (by decide) (by decide)
theorem second_13 : E1 m c (Proc.devRef .tc main_arg13) = m ((c.tc : Thread nD τ).loc main_arg13) := (across1 (by decide) (by decide) (by decide)).trans (first_13 m c)
theorem third_13 : E2 m c (Proc.devRef .tc main_arg13) = m ((c.tc : Thread nD τ).loc main_arg13) := (across2 (by decide) (by decide) (by decide)).trans (second_13 m c)
theorem fourth_13 : E3 m c (Proc.devRef .tc main_arg13) = m ((c.tc : Thread nD τ).loc main_arg13) := (across3 (by decide) (by decide) (by decide)).trans (third_13 m c)
theorem end_13 : U4 m c (Proc.devRef .tc main_arg13) = m ((c.tc : Thread nD τ).loc main_arg13) := (kept A4_W A4_w (by decide) _).trans (fourth_13 m c)
theorem first_14 : E0 m c (Proc.devRef .tc main_arg14) = m ((c.tc : Thread nD τ).loc main_arg14) := across0 (by decide) (by decide) (by decide)
theorem second_14 : E1 m c (Proc.devRef .tc main_arg14) = m ((c.tc : Thread nD τ).loc main_arg14) := (across1 (by decide) (by decide) (by decide)).trans (first_14 m c)
theorem third_14 : E2 m c (Proc.devRef .tc main_arg14) = m ((c.tc : Thread nD τ).loc main_arg14) := (across2 (by decide) (by decide) (by decide)).trans (second_14 m c)
theorem fourth_14 : E3 m c (Proc.devRef .tc main_arg14) = m ((c.tc : Thread nD τ).loc main_arg14) := (across3 (by decide) (by decide) (by decide)).trans (third_14 m c)
theorem end_14 : U4 m c (Proc.devRef .tc main_arg14) = m ((c.tc : Thread nD τ).loc main_arg14) := (kept A4_W A4_w (by decide) _).trans (fourth_14 m c)
theorem first_15 : E0 m c (Proc.devRef .tc main_arg15) = m ((c.tc : Thread nD τ).loc main_arg15) := across0 (by decide) (by decide) (by decide)
theorem second_15 : E1 m c (Proc.devRef .tc main_arg15) = m ((c.tc : Thread nD τ).loc main_arg15) := (across1 (by decide) (by decide) (by decide)).trans (first_15 m c)
theorem third_15 : E2 m c (Proc.devRef .tc main_arg15) = m ((c.tc : Thread nD τ).loc main_arg15) := (across2 (by decide) (by decide) (by decide)).trans (second_15 m c)
theorem fourth_15 : E3 m c (Proc.devRef .tc main_arg15) = m ((c.tc : Thread nD τ).loc main_arg15) := (across3 (by decide) (by decide) (by decide)).trans (third_15 m c)
theorem end_15 : U4 m c (Proc.devRef .tc main_arg15) = m ((c.tc : Thread nD τ).loc main_arg15) := (kept A4_W A4_w (by decide) _).trans (fourth_15 m c)
theorem first_16 : E0 m c (Proc.devRef .tc main_arg16) = m ((c.tc : Thread nD τ).loc main_arg16) := across0 (by decide) (by decide) (by decide)
theorem second_16 : E1 m c (Proc.devRef .tc main_arg16) = m ((c.tc : Thread nD τ).loc main_arg16) := (across1 (by decide) (by decide) (by decide)).trans (first_16 m c)
theorem third_16 : E2 m c (Proc.devRef .tc main_arg16) = m ((c.tc : Thread nD τ).loc main_arg16) := (across2 (by decide) (by decide) (by decide)).trans (second_16 m c)
theorem fourth_16 : E3 m c (Proc.devRef .tc main_arg16) = m ((c.tc : Thread nD τ).loc main_arg16) := (across3 (by decide) (by decide) (by decide)).trans (third_16 m c)
theorem end_16 : U4 m c (Proc.devRef .tc main_arg16) = m ((c.tc : Thread nD τ).loc main_arg16) := (kept A4_W A4_w (by decide) _).trans (fourth_16 m c)

end Args

variable (m : (ℓ : Loc nD τ sig) → Buf (Elt Ideal) ℓ) (c : Dev nD)

/-- An argument's contents at the launch. -/
abbrev A (r : Ref sig .tc) : Buf (Elt Ideal) ((c.tc : Thread nD τ).loc r) := m ((c.tc : Thread nD τ).loc r)

/-! ## The layers -/

abbrev x1 : FVec Ideal S64x256x128 .f32 := Cert.Lookup.looked (A m c main_arg2) (A m c main_arg0)
abbrev x2 : FVec Ideal S64x256x128 .f32 := Cert.Lookup.looked (A m c main_arg2) (A m c main_arg1)
abbrev h1 : FVec Ideal S64x128 .f32 := lay (x1 m c) (A m c main_arg3) (A m c main_arg4) (A m c main_arg5) zeros
abbrev y1 : FVec Ideal S256x64x128 .f32 := ys (x1 m c) (A m c main_arg3) (A m c main_arg4) (A m c main_arg5) zeros
abbrev h2 : FVec Ideal S64x128 .f32 := lay (back (y1 m c)) (A m c main_arg6) (A m c main_arg7) (A m c main_arg8) (h1 m c)
abbrev h3 : FVec Ideal S64x128 .f32 := lay (x2 m c) (A m c main_arg9) (A m c main_arg10) (A m c main_arg11) (h2 m c)
abbrev y3 : FVec Ideal S256x64x128 .f32 := ys (x2 m c) (A m c main_arg9) (A m c main_arg10) (A m c main_arg11) (h2 m c)
abbrev h4 : FVec Ideal S64x128 .f32 := lay (back (y3 m c)) (A m c main_arg12) (A m c main_arg13) (A m c main_arg14) (h3 m c)
abbrev y4 : FVec Ideal S256x64x128 .f32 := ys (back (y3 m c)) (A m c main_arg12) (A m c main_arg13) (A m c main_arg14) (h3 m c)

/-- One layer's equation from those of what it takes. -/
theorem state_congr {X X' : FVec Ideal S256x64x384 .f32} {R R' : FVec Ideal S128x384 .f32} {B B' : FVec Ideal S2x384 .f32} {h h' : FVec Ideal S64x128 .f32}
    (hX : X = X') (hR : R = R') (hB : B = B') (hh : h = h') : state X R B h 256 = state X' R' B' h' 256 := by rw [hX, hR, hB, hh]
theorem outs_congr {X X' : FVec Ideal S256x64x384 .f32} {R R' : FVec Ideal S128x384 .f32} {B B' : FVec Ideal S2x384 .f32} {h h' : FVec Ideal S64x128 .f32}
    (hX : X = X') (hR : R = R') (hB : B = B') (hh : h = h') : outs X R B h blank 256 = outs X' R' B' h' blank 256 := by rw [hX, hR, hB, hh]
theorem proj_congr {x x' : FVec Ideal S64x256x128 .f32} {K K' : FVec Ideal S128x384 .f32} {B B' : FVec Ideal S2x384 .f32}
    (hx : x = x') (hK : K = K') (hB : B = B') : proj x K B = proj x' K' B' := by rw [hx, hK, hB]
theorem back_congr {y y' : FVec Ideal S256x64x128 .f32} (h : y = y') : back y = back y' := by rw [h]
theorem head_congr {y y' : FVec Ideal S256x64x128 .f32} {W W' : FVec Ideal S128x100000 .f32} {b b' : FVec Ideal S100000 .f32}
    (hy : y = y') (hW : W = W') (hb : b = b') : head y W b = head y' W' b' := by rw [hy, hW, hb]

theorem other0 : E0 m c (Proc.devRef .tc main_v1) = x2 m c :=
  (kept C0_W C0_w (r := main_v1) (by decide) _).trans ((kept0 (r := main_v1) (by decide) (by decide) 256).trans (enter0_other _))
theorem other1 : E1 m c (Proc.devRef .tc main_v1) = x2 m c := (across1 (by decide) (by decide) (by decide)).trans (other0 m c)

theorem state_0 : E0 m c (Proc.devRef .tc main_v11_4) = h1 m c :=
  (last0).trans (state_congr (enter0_0 _) (enter0_1 _) (enter0_2 _) (enter0_4 _))
theorem outs_0 : E0 m c (Proc.devRef .tc main_v11_5) = y1 m c :=
  (written0).trans (outs_congr (enter0_0 _) (enter0_1 _) (enter0_2 _) (enter0_4 _))

theorem in_1 : U1 m c (Proc.devRef .tc main_v21_0) = proj (back (y1 m c)) (A m c main_arg6) (A m c main_arg8) :=
  (enter1_0 _).trans (proj_congr (back_congr (outs_0 m c)) (first_6 m c) (first_8 m c))
theorem state_1 : E1 m c (Proc.devRef .tc main_v21_4) = h2 m c :=
  (last1).trans (state_congr (in_1 m c) ((enter1_1 _).trans (first_7 m c)) ((enter1_2 _).trans (first_8 m c)) ((enter1_4 _).trans (state_0 m c)))
theorem in_2 : U2 m c (Proc.devRef .tc main_v31_0) = proj (x2 m c) (A m c main_arg9) (A m c main_arg11) :=
  (enter2_0 _).trans (proj_congr (other1 m c) (second_9 m c) (second_11 m c))
theorem state_2 : E2 m c (Proc.devRef .tc main_v31_4) = h3 m c :=
  (last2).trans (state_congr (in_2 m c) ((enter2_1 _).trans (second_10 m c)) ((enter2_2 _).trans (second_11 m c)) ((enter2_4 _).trans (state_1 m c)))
theorem outs_2 : E2 m c (Proc.devRef .tc main_v31_5) = y3 m c :=
  (written2).trans (outs_congr (in_2 m c) ((enter2_1 _).trans (second_10 m c)) ((enter2_2 _).trans (second_11 m c)) ((enter2_4 _).trans (state_1 m c)))
theorem in_3 : U3 m c (Proc.devRef .tc main_v41_0) = proj (back (y3 m c)) (A m c main_arg12) (A m c main_arg14) :=
  (enter3_0 _).trans (proj_congr (back_congr (outs_2 m c)) (third_12 m c) (third_14 m c))
theorem state_3 : E3 m c (Proc.devRef .tc main_v41_4) = h4 m c :=
  (last3).trans (state_congr (in_3 m c) ((enter3_1 _).trans (third_13 m c)) ((enter3_2 _).trans (third_14 m c)) ((enter3_4 _).trans (state_2 m c)))
theorem outs_3 : E3 m c (Proc.devRef .tc main_v41_5) = y4 m c :=
  (written3).trans (outs_congr (in_3 m c) ((enter3_1 _).trans (third_13 m c)) ((enter3_2 _).trans (third_14 m c)) ((enter3_4 _).trans (state_2 m c)))

/-- The logits the reference leaves. -/
theorem logits : U4 m c (Proc.devRef .tc main_v48) = head (y4 m c) (A m c main_arg15) (A m c main_arg16) :=
  (leave _).trans (head_congr (outs_3 m c) (fourth_15 m c) (fourth_16 m c))

end Cert.ReferenceIdeal.Answer

end
-- ==== Proof.Result.lean ====
module

public import proofs.«01_k».proof.Proof.Ends
public import proofs.«01_k».proof.Proof.Answer
public import Idealize.ShloMosaic.Lib.MatmulPlain
public import Idealize.ShloMosaic.Lib.Pointwise.ShapeOpsCore

@[expose] public section
/-! # The kernel's logits are the reference's -/

set_option maxRecDepth 8192
set_option maxHeartbeats 4000000

noncomputable section

namespace Cert.Kernel.Result

open Cert.Kernel Cert.Kernel.Gen Cert.Kernel.Tile Cert.Kernel.Launch Cert.Kernel.Main Cert.Kernel.Point Cert.Kernel.Region Cert.Kernel.Ring Cert.Kernel.Walk
open Idealize.ShloMosaic hiding ix2 ix3
open Idealize.ShloMosaic.TcCoe Idealize.ShloMosaic.StableHlo
open Idealize.ShloMosaic.Pipeline (Window)
open Idealize.ShloMosaic.ValueIdx (ix2 ix3)
open scoped BigOperators

section Reads

variable {F : FTy → Type} [FloatOps F]

/-! ## A window that is the whole array -/
theorem origin_0 : ∀ a, win1_0.index p0 a * win1_0.size a = 0 := by decide +kernel
theorem whole_0 (V : (c : Dev nD) → (b : Ref sig .tc) → Buf (Elt F) ((c : Thread nD τ).loc b)) (c : Dev nD) : stg0 V c = V c main_v4 := by
  funext i
  refine congrArg (V c main_v4) (funext fun a => Fin.ext ?_)
  match a with
  | ⟨0, _⟩ => show win1_0.index p0 0 * win1_0.size 0 + 1 * (i 0).val = (i 0).val; rw [origin_0 0]; omega
  | ⟨1, _⟩ => show win1_0.index p0 1 * win1_0.size 1 + 1 * (i 1).val = (i 1).val; rw [origin_0 1]; omega

theorem origin_1 : ∀ a, win1_1.index p0 a * win1_1.size a = 0 := by decide +kernel
theorem whole_1 (V : (c : Dev nD) → (b : Ref sig .tc) → Buf (Elt F) ((c : Thread nD τ).loc b)) (c : Dev nD) : stg1 V c = V c main_v5 := by
  funext i
  refine congrArg (V c main_v5) (funext fun a => Fin.ext ?_)
  match a with
  | ⟨0, _⟩ => show win1_1.index p0 0 * win1_1.size 0 + 1 * (i 0).val = (i 0).val; rw [origin_1 0]; omega
  | ⟨1, _⟩ => show win1_1.index p0 1 * win1_1.size 1 + 1 * (i 1).val = (i 1).val; rw [origin_1 1]; omega

theorem origin_2 : ∀ a, win1_2.index p0 a * win1_2.size a = 0 := by decide +kernel
theorem whole_2 (V : (c : Dev nD) → (b : Ref sig .tc) → Buf (Elt F) ((c : Thread nD τ).loc b)) (c : Dev nD) : stg2 V c = V c main_arg3 := by
  funext i
  refine congrArg (V c main_arg3) (funext fun a => Fin.ext ?_)
  match a with
  | ⟨0, _⟩ => show win1_2.index p0 0 * win1_2.size 0 + 1 * (i 0).val = (i 0).val; rw [origin_2 0]; omega
  | ⟨1, _⟩ => show win1_2.index p0 1 * win1_2.size 1 + 1 * (i 1).val = (i 1).val; rw [origin_2 1]; omega

theorem origin_3 : ∀ a, win1_3.index p0 a * win1_3.size a = 0 := by decide +kernel
theorem whole_3 (V : (c : Dev nD) → (b : Ref sig .tc) → Buf (Elt F) ((c : Thread nD τ).loc b)) (c : Dev nD) : stg3 V c = V c main_arg4 := by
  funext i
  refine congrArg (V c main_arg4) (funext fun a => Fin.ext ?_)
  match a with
  | ⟨0, _⟩ => show win1_3.index p0 0 * win1_3.size 0 + 1 * (i 0).val = (i 0).val; rw [origin_3 0]; omega
  | ⟨1, _⟩ => show win1_3.index p0 1 * win1_3.size 1 + 1 * (i 1).val = (i 1).val; rw [origin_3 1]; omega

theorem origin_4 : ∀ a, win1_4.index p0 a * win1_4.size a = 0 := by decide +kernel
theorem whole_4 (V : (c : Dev nD) → (b : Ref sig .tc) → Buf (Elt F) ((c : Thread nD τ).loc b)) (c : Dev nD) : stg4 V c = V c main_arg5 := by
  funext i
  refine congrArg (V c main_arg5) (funext fun a => Fin.ext ?_)
  match a with
  | ⟨0, _⟩ => show win1_4.index p0 0 * win1_4.size 0 + 1 * (i 0).val = (i 0).val; rw [origin_4 0]; omega
  | ⟨1, _⟩ => show win1_4.index p0 1 * win1_4.size 1 + 1 * (i 1).val = (i 1).val; rw [origin_4 1]; omega

theorem origin_5 : ∀ a, win1_5.index p0 a * win1_5.size a = 0 := by decide +kernel
theorem whole_5 (V : (c : Dev nD) → (b : Ref sig .tc) → Buf (Elt F) ((c : Thread nD τ).loc b)) (c : Dev nD) : stg5 V c = V c main_arg6 := by
  funext i
  refine congrArg (V c main_arg6) (funext fun a => Fin.ext ?_)
  match a with
  | ⟨0, _⟩ => show win1_5.index p0 0 * win1_5.size 0 + 1 * (i 0).val = (i 0).val; rw [origin_5 0]; omega
  | ⟨1, _⟩ => show win1_5.index p0 1 * win1_5.size 1 + 1 * (i 1).val = (i 1).val; rw [origin_5 1]; omega

theorem origin_6 : ∀ a, win1_6.index p0 a * win1_6.size a = 0 := by decide +kernel
theorem whole_6 (V : (c : Dev nD) → (b : Ref sig .tc) → Buf (Elt F) ((c : Thread nD τ).loc b)) (c : Dev nD) : stg6 V c = V c main_arg7 := by
  funext i
  refine congrArg (V c main_arg7) (funext fun a => Fin.ext ?_)
  match a with
  | ⟨0, _⟩ => show win1_6.index p0 0 * win1_6.size 0 + 1 * (i 0).val = (i 0).val; rw [origin_6 0]; omega
  | ⟨1, _⟩ => show win1_6.index p0 1 * win1_6.size 1 + 1 * (i 1).val = (i 1).val; rw [origin_6 1]; omega

theorem origin_7 : ∀ a, win1_7.index p0 a * win1_7.size a = 0 := by decide +kernel
theorem whole_7 (V : (c : Dev nD) → (b : Ref sig .tc) → Buf (Elt F) ((c : Thread nD τ).loc b)) (c : Dev nD) : stg7 V c = V c main_arg8 := by
  funext i
  refine congrArg (V c main_arg8) (funext fun a => Fin.ext ?_)
  match a with
  | ⟨0, _⟩ => show win1_7.index p0 0 * win1_7.size 0 + 1 * (i 0).val = (i 0).val; rw [origin_7 0]; omega
  | ⟨1, _⟩ => show win1_7.index p0 1 * win1_7.size 1 + 1 * (i 1).val = (i 1).val; rw [origin_7 1]; omega

theorem origin_8 : ∀ a, win1_8.index p0 a * win1_8.size a = 0 := by decide +kernel
theorem whole_8 (V : (c : Dev nD) → (b : Ref sig .tc) → Buf (Elt F) ((c : Thread nD τ).loc b)) (c : Dev nD) : stg8 V c = V c main_arg9 := by
  funext i
  refine congrArg (V c main_arg9) (funext fun a => Fin.ext ?_)
  match a with
  | ⟨0, _⟩ => show win1_8.index p0 0 * win1_8.size 0 + 1 * (i 0).val = (i 0).val; rw [origin_8 0]; omega
  | ⟨1, _⟩ => show win1_8.index p0 1 * win1_8.size 1 + 1 * (i 1).val = (i 1).val; rw [origin_8 1]; omega

theorem origin_9 : ∀ a, win1_9.index p0 a * win1_9.size a = 0 := by decide +kernel
theorem whole_9 (V : (c : Dev nD) → (b : Ref sig .tc) → Buf (Elt F) ((c : Thread nD τ).loc b)) (c : Dev nD) : stg9 V c = V c main_arg10 := by
  funext i
  refine congrArg (V c main_arg10) (funext fun a => Fin.ext ?_)
  match a with
  | ⟨0, _⟩ => show win1_9.index p0 0 * win1_9.size 0 + 1 * (i 0).val = (i 0).val; rw [origin_9 0]; omega
  | ⟨1, _⟩ => show win1_9.index p0 1 * win1_9.size 1 + 1 * (i 1).val = (i 1).val; rw [origin_9 1]; omega

theorem origin_10 : ∀ a, win1_10.index p0 a * win1_10.size a = 0 := by decide +kernel
theorem whole_10 (V : (c : Dev nD) → (b : Ref sig .tc) → Buf (Elt F) ((c : Thread nD τ).loc b)) (c : Dev nD) : stg10 V c = V c main_arg11 := by
  funext i
  refine congrArg (V c main_arg11) (funext fun a => Fin.ext ?_)
  match a with
  | ⟨0, _⟩ => show win1_10.index p0 0 * win1_10.size 0 + 1 * (i 0).val = (i 0).val; rw [origin_10 0]; omega
  | ⟨1, _⟩ => show win1_10.index p0 1 * win1_10.size 1 + 1 * (i 1).val = (i 1).val; rw [origin_10 1]; omega

theorem origin_11 : ∀ a, win1_11.index p0 a * win1_11.size a = 0 := by decide +kernel
theorem whole_11 (V : (c : Dev nD) → (b : Ref sig .tc) → Buf (Elt F) ((c : Thread nD τ).loc b)) (c : Dev nD) : stg11 V c = V c main_arg12 := by
  funext i
  refine congrArg (V c main_arg12) (funext fun a => Fin.ext ?_)
  match a with
  | ⟨0, _⟩ => show win1_11.index p0 0 * win1_11.size 0 + 1 * (i 0).val = (i 0).val; rw [origin_11 0]; omega
  | ⟨1, _⟩ => show win1_11.index p0 1 * win1_11.size 1 + 1 * (i 1).val = (i 1).val; rw [origin_11 1]; omega

theorem origin_12 : ∀ a, win1_12.index p0 a * win1_12.size a = 0 := by decide +kernel
theorem whole_12 (V : (c : Dev nD) → (b : Ref sig .tc) → Buf (Elt F) ((c : Thread nD τ).loc b)) (c : Dev nD) : stg12 V c = V c main_arg13 := by
  funext i
  refine congrArg (V c main_arg13) (funext fun a => Fin.ext ?_)
  match a with
  | ⟨0, _⟩ => show win1_12.index p0 0 * win1_12.size 0 + 1 * (i 0).val = (i 0).val; rw [origin_12 0]; omega
  | ⟨1, _⟩ => show win1_12.index p0 1 * win1_12.size 1 + 1 * (i 1).val = (i 1).val; rw [origin_12 1]; omega

theorem origin_13 : ∀ a, win1_13.index p0 a * win1_13.size a = 0 := by decide +kernel
theorem whole_13 (V : (c : Dev nD) → (b : Ref sig .tc) → Buf (Elt F) ((c : Thread nD τ).loc b)) (c : Dev nD) : stg13 V c = V c main_arg14 := by
  funext i
  refine congrArg (V c main_arg14) (funext fun a => Fin.ext ?_)
  match a with
  | ⟨0, _⟩ => show win1_13.index p0 0 * win1_13.size 0 + 1 * (i 0).val = (i 0).val; rw [origin_13 0]; omega
  | ⟨1, _⟩ => show win1_13.index p0 1 * win1_13.size 1 + 1 * (i 1).val = (i 1).val; rw [origin_13 1]; omega

theorem origin_14 : ∀ a, win1_14.index p0 a * win1_14.size a = 0 := by decide +kernel
theorem whole_14 (V : (c : Dev nD) → (b : Ref sig .tc) → Buf (Elt F) ((c : Thread nD τ).loc b)) (c : Dev nD) : stg14 V c = V c main_v7 := by
  funext i
  refine congrArg (V c main_v7) (funext fun a => Fin.ext ?_)
  match a with
  | ⟨0, _⟩ => show win1_14.index p0 0 * win1_14.size 0 + 1 * (i 0).val = (i 0).val; rw [origin_14 0]; omega
  | ⟨1, _⟩ => show win1_14.index p0 1 * win1_14.size 1 + 1 * (i 1).val = (i 1).val; rw [origin_14 1]; omega

/-! ## What the host cut -/

variable (m : (ℓ : Loc nD τ sig) → Buf (Elt F) ℓ) (d : Dev nD)

theorem cut_low : V₃ m d (Proc.devRef .tc main_v4) = extractStridedSlice S16384x128 ![0, 0] (rowsOf (tok m d) (emb m d)) slices_S32768x128_S16384x128_0_0 := by
  have h : after [op3, op4, op5, op6, op7, op8, op9] (V₂ m d) (Proc.devRef .tc main_v4) = extractStridedSlice S16384x128 ![0, 0] (V₂ m d bO) slices_S32768x128_S16384x128_0_0 := by
    after_results_simp
  exact h.trans (congrArg (fun x => extractStridedSlice S16384x128 ![0, 0] x slices_S32768x128_S16384x128_0_0) (V₂_O m d))

theorem cut_high : V₃ m d (Proc.devRef .tc main_v5) = extractStridedSlice S16384x128 ![16384, 0] (rowsOf (tok m d) (emb m d)) slices_S32768x128_S16384x128_16384_0 := by
  have h : after [op3, op4, op5, op6, op7, op8, op9] (V₂ m d) (Proc.devRef .tc main_v5) = extractStridedSlice S16384x128 ![16384, 0] (V₂ m d bO) slices_S32768x128_S16384x128_16384_0 := by
    after_results_simp
  exact h.trans (congrArg (fun x => extractStridedSlice S16384x128 ![16384, 0] x slices_S32768x128_S16384x128_16384_0) (V₂_O m d))

theorem keeps_15 : V₂ m d (Proc.devRef .tc main_arg15) = m ((d.tc : Thread nD τ).loc main_arg15) := by
  have g : after [op0, op1, op2] (V₀ m d) (Proc.devRef .tc main_arg15) = V₀ m d (Proc.devRef .tc main_arg15) := by after_results_simp
  exact (Function.update_of_ne (by decide) _ _).trans g
theorem keeps_16 : V₂ m d (Proc.devRef .tc main_arg16) = m ((d.tc : Thread nD τ).loc main_arg16) := by
  have g : after [op0, op1, op2] (V₀ m d) (Proc.devRef .tc main_arg16) = V₀ m d (Proc.devRef .tc main_arg16) := by after_results_simp
  exact (Function.update_of_ne (by decide) _ _).trans g

/-- The last columns of the weights stand in the padded block. -/
theorem cut_tail (k : Fin 128) (q : Fin 4096) (hq : q.val < 1696) :
    (V₃ m d (Proc.devRef .tc main_v7) : S128x4096.Idx → Elt F .f32) (ix2 k q) = (m ((d.tc : Thread nD τ).loc main_arg15) : S128x100000.Idx → Elt F .f32) (ix2 k (⟨98304 + q.val, by omega⟩ : Fin 100000)) := by
  have h : after [op3, op4, op5, op6, op7, op8, op9] (V₂ m d) (Proc.devRef .tc main_v7)
      = pad S128x4096 ![0, 0] ![0, 2400] ![0, 0] (extractStridedSlice S128x1696 ![0, 98304] (V₂ m d (Proc.devRef .tc main_arg15)) slices_S128x100000_S128x1696_0_98304)
          (sitofp .f32 (constantI S_ 32 0#32)) pads_S128x1696_S128x4096_000_024000 h_S_ := by
    after_results_simp
    rfl
  refine (congrFun h (ix2 k q)).trans ?_
  rw [keeps_15 m d]
  refine (pad_apply (s := S128x1696) (t := S128x4096) ![0, 0] ![0, 2400] ![0, 0] _ _ _ _ (ix2 k q)).trans ((dif_pos (fun a => ?_)).trans ?_)
  · fin_cases a
    · exact ⟨Nat.zero_le _, Nat.mod_one _, by show (k.val - 0) / 1 < 128; have := k.isLt; omega⟩
    · exact ⟨Nat.zero_le _, Nat.mod_one _, by show (q.val - 0) / 1 < 1696; omega⟩
  · refine congrArg (m ((d.tc : Thread nD τ).loc main_arg15) : S128x100000.Idx → Elt F .f32) (funext fun a => Fin.ext ?_)
    match a with
    | ⟨0, _⟩ => show 0 + (k.val - 0) / 1 = k.val; omega
    | ⟨1, _⟩ => show 98304 + (q.val - 0) / 1 = 98304 + q.val; omega

/-- The index of element `j` of the bias. -/
def at1 (j : Fin 100000) : S100000.Idx := fun | 0 => j

/-- The bias as one row. -/
theorem cut_bias (j : Fin 100000) :
    (V₃ m d (Proc.devRef .tc main_v8) : S1x100000.Idx → Elt F .f32) (ix2 (0 : Fin 1) j) = (m ((d.tc : Thread nD τ).loc main_arg16) : S100000.Idx → Elt F .f32) (at1 j) := by
  have h : after [op3, op4, op5, op6, op7, op8, op9] (V₂ m d) (Proc.devRef .tc main_v8) = shapeCast S1x100000 (V₂ m d (Proc.devRef .tc main_arg16)) shapeCasts_S100000_S1x100000 := by
    after_results_simp
    rfl
  refine (congrFun h (ix2 (0 : Fin 1) j)).trans ?_
  rw [keeps_16 m d]
  exact shapeCast_apply (s := S100000) (t := S1x100000) (m ((d.tc : Thread nD τ).loc main_arg16) : S100000.Idx → Elt F .f32) shapeCasts_S100000_S1x100000 (ix2 (0 : Fin 1) j) (at1 j) (by
    rw [Shape.rowMajor_val_one, Shape.rowMajor_val_two]
    show j.val = 0 * 100000 + j.val
    omega)

/-! ## The blocks of the last product -/

/-- Column `j` of the weights, out of the block it lies in. -/
theorem column (k : Fin 128) (j : Fin 100000) :
    columns (W₃ m d main_arg15) (stg14 (W₃ m) d) (j.val / 4096) (ix2 k (⟨j.val % 4096, Nat.mod_lt _ (by decide)⟩ : Fin 4096))
      = (m ((d.tc : Thread nD τ).loc main_arg15) : S128x100000.Idx → Elt F .f32) (ix2 k j) := by
  have hj := j.isLt
  unfold columns
  by_cases h : j.val / 4096 < 24
  · rw [dif_pos h]
    refine Eq.trans ?_ (congrFun (Ends.late_15 m d) (ix2 k j))
    refine congrArg (V₃ m d (Proc.devRef .tc main_arg15) : S128x100000.Idx → Elt F .f32) (funext fun a => Fin.ext ?_)
    match a with
    | ⟨0, _⟩ => show 0 + 1 * k.val = k.val; omega
    | ⟨1, _⟩ => show 4096 * (j.val / 4096) + 1 * (j.val % 4096) = j.val; omega
  · rw [dif_neg h, whole_14]
    refine (cut_tail m d k ⟨j.val % 4096, Nat.mod_lt _ (by decide)⟩ (by show j.val % 4096 < 1696; omega)).trans ?_
    refine congrArg (m ((d.tc : Thread nD τ).loc main_arg15) : S128x100000.Idx → Elt F .f32) (funext fun a => Fin.ext ?_)
    match a with
    | ⟨0, _⟩ => rfl
    | ⟨1, _⟩ => show 98304 + j.val % 4096 = j.val; omega

theorem place15 : ∀ t : Fin cfg1.N, win1_15.index t 0 * win1_15.size 0 = 0 ∧ win1_15.index t 1 * win1_15.size 1 = t.val * 4096
    ∧ win1_15.xsize (grid1.coords t) 0 = 1 ∧ win1_15.xsize (grid1.coords t) 1 = min 4096 (100000 - t.val * 4096) := by decide +kernel

/-- And of the bias. -/
theorem bias_at (j : Fin 100000) (t : Fin cfg1.N) (ht : t.val = j.val / 4096) :
    bias8 (W₃ m) d t (ix2 (0 : Fin 1) (⟨j.val % 4096, Nat.mod_lt _ (by decide)⟩ : Fin 4096))
      = (m ((d.tc : Thread nD τ).loc main_arg16) : S100000.Idx → Elt F .f32) (at1 j) := by
  have hj := j.isLt
  obtain ⟨e0, e1, w0, w1⟩ := place15 t
  have hm : win1_15.moved (grid1.coords t) (ix2 (0 : Fin 1) (⟨j.val % 4096, Nat.mod_lt _ (by decide)⟩ : Fin 4096)) = true := (win1_15.moved_iff _ _).mpr fun a => by
    match a with
    | ⟨0, _⟩ => show 0 < win1_15.xsize (grid1.coords t) 0; rw [w0]; omega
    | ⟨1, _⟩ => show j.val % 4096 < win1_15.xsize (grid1.coords t) 1; rw [w1]; omega
  unfold bias8 Window.fill
  rw [dif_pos hm]
  refine Eq.trans ?_ (cut_bias m d j)
  refine congrArg (V₃ m d (Proc.devRef .tc main_v8) : S1x100000.Idx → Elt F .f32) (funext fun a => Fin.ext ?_)
  match a with
  | ⟨0, _⟩ => show win1_15.index t 0 * win1_15.size 0 + 1 * 0 = 0; omega
  | ⟨1, _⟩ => show win1_15.index t 1 * win1_15.size 1 + 1 * (j.val % 4096) = j.val; omega

end Reads

end Cert.Kernel.Result

end
-- ==== Proof.Equal.lean ====
module

public import proofs.«01_k».proof.Proof.Result

@[expose] public section
/-! # The two results, entry by entry -/

set_option maxRecDepth 8192
set_option maxHeartbeats 4000000

noncomputable section

namespace Cert.ReferenceIdeal.Answer

open Idealize.ShloMosaic hiding ix2 ix3 logistic
open Idealize.ShloMosaic.TcCoe Cert.ReferenceIdeal Cert.ReferenceIdeal.Facts₀ Cert.ReferenceIdeal.Loops Cert.ReferenceIdeal.Chain Cert.ReferenceIdeal.Stack

/-- The state before the fourth layer, that layer's inputs, and the logits, from the arguments. -/
def third (a b : IVec S64x256 32) (g : FVec Ideal S100000x128 .f32) (k1 r1 : FVec Ideal S128x384 .f32) (b1 : FVec Ideal S2x384 .f32) (k2 r2 : FVec Ideal S128x384 .f32) (b2 : FVec Ideal S2x384 .f32)
    (k3 r3 : FVec Ideal S128x384 .f32) (b3 : FVec Ideal S2x384 .f32) : FVec Ideal S64x128 .f32 :=
  lay (Cert.Lookup.looked g b) k3 r3 b3 (lay (back (ys (Cert.Lookup.looked g a) k1 r1 b1 zeros)) k2 r2 b2 (lay (Cert.Lookup.looked g a) k1 r1 b1 zeros))
def inputs (a b : IVec S64x256 32) (g : FVec Ideal S100000x128 .f32) (k1 r1 : FVec Ideal S128x384 .f32) (b1 : FVec Ideal S2x384 .f32) (k2 r2 : FVec Ideal S128x384 .f32) (b2 : FVec Ideal S2x384 .f32)
    (k3 r3 : FVec Ideal S128x384 .f32) (b3 : FVec Ideal S2x384 .f32) : FVec Ideal S64x256x128 .f32 :=
  back (ys (Cert.Lookup.looked g b) k3 r3 b3 (lay (back (ys (Cert.Lookup.looked g a) k1 r1 b1 zeros)) k2 r2 b2 (lay (Cert.Lookup.looked g a) k1 r1 b1 zeros)))
def answer (a b : IVec S64x256 32) (g : FVec Ideal S100000x128 .f32) (k1 r1 : FVec Ideal S128x384 .f32) (b1 : FVec Ideal S2x384 .f32) (k2 r2 : FVec Ideal S128x384 .f32) (b2 : FVec Ideal S2x384 .f32)
    (k3 r3 : FVec Ideal S128x384 .f32) (b3 : FVec Ideal S2x384 .f32) (k4 r4 : FVec Ideal S128x384 .f32) (b4 : FVec Ideal S2x384 .f32) (w : FVec Ideal S128x100000 .f32) (o : FVec Ideal S100000 .f32) :
    FVec Ideal S64x100000 .f32 :=
  head (ys (inputs a b g k1 r1 b1 k2 r2 b2 k3 r3 b3) k4 r4 b4 (third a b g k1 r1 b1 k2 r2 b2 k3 r3 b3)) w o

theorem logits_answer (m : (ℓ : Loc nD τ sig) → Buf (Elt Ideal) ℓ) (c : Dev nD) : U4 m c (Proc.devRef .tc main_v48)
    = answer (A m c main_arg0) (A m c main_arg1) (A m c main_arg2) (A m c main_arg3) (A m c main_arg4) (A m c main_arg5) (A m c main_arg6) (A m c main_arg7) (A m c main_arg8)
        (A m c main_arg9) (A m c main_arg10) (A m c main_arg11) (A m c main_arg12) (A m c main_arg13) (A m c main_arg14) (A m c main_arg15) (A m c main_arg16) :=
  logits m c

end Cert.ReferenceIdeal.Answer

namespace Cert.Kernel.Result

open Cert.Kernel Cert.Kernel.Gen Cert.Kernel.Tile Cert.Kernel.Launch Cert.Kernel.Main Cert.Kernel.Point Cert.Kernel.Region Cert.Kernel.Walk
open Cert.Kernel.Steps (seen block)
open Idealize.ShloMosaic hiding ix2 ix3
open Idealize.ShloMosaic.TcCoe
open Idealize.ShloMosaic.ValueIdx (ix2 ix3)
open Cert.ReferenceIdeal.Answer (answer third inputs)
open Cert.ReferenceIdeal.Stack (lay)
open scoped BigOperators

variable (m : (ℓ : Loc nD τ sig) → Buf (Elt Ideal) ℓ) (d : Dev nD)

/-- An argument's contents at the launch. -/
abbrev A (r : Ref sig .tc) : Buf (Elt Ideal) ((d.tc : Thread nD τ).loc r) := m ((d.tc : Thread nD τ).loc r)

variable (ha : ∀ j, (A m d main_arg0 j : BitVec 32).toNat < 100000) (hb : ∀ j, (A m d main_arg1 j : BitVec 32).toNat < 100000)

include ha in
theorem seen_low (t : Fin 256) (r : Fin 64) (k : Fin 128) :
    (seen (F := Ideal) (block (stg0 (W₃ m) d) t.val) (ix2 r k) : EReal) = Cert.Lookup.looked (F := Ideal) (A m d main_arg2) (A m d main_arg0) (ix3 r t k) := by
  refine Cert.ReferenceIdeal.Stack.rows_low ha (A m d main_arg2) (A m d main_arg1) (stg0 (W₃ m) d) (fun q k => ?_) t r k
  rw [whole_0]
  refine (congrFun (cut_low m d) (ix2 q k)).trans (congrArg (rowsOf (tok m d) (emb m d)) (funext fun a => Fin.ext ?_))
  match a with
  | ⟨0, _⟩ => exact Nat.zero_add _
  | ⟨1, _⟩ => exact Nat.zero_add _

include hb in
theorem seen_high (t : Fin 256) (r : Fin 64) (k : Fin 128) :
    (seen (F := Ideal) (block (stg1 (W₃ m) d) t.val) (ix2 r k) : EReal) = Cert.Lookup.looked (F := Ideal) (A m d main_arg2) (A m d main_arg1) (ix3 r t k) := by
  refine Cert.ReferenceIdeal.Stack.rows_high hb (A m d main_arg2) (A m d main_arg0) (stg1 (W₃ m) d) (fun q k => ?_) t r k
  rw [whole_1]
  refine (congrFun (cut_high m d) (ix2 q k)).trans (congrArg (rowsOf (tok m d) (emb m d)) (funext fun a => Fin.ext ?_))
  match a with
  | ⟨0, _⟩ => rfl
  | ⟨1, _⟩ => exact Nat.zero_add _

include ha hb in
/-- The state after the four layers. -/
theorem hid_eq : hid (W₃ m) d = lay (inputs (A m d main_arg0) (A m d main_arg1) (A m d main_arg2) (A m d main_arg3) (A m d main_arg4) (A m d main_arg5) (A m d main_arg6) (A m d main_arg7) (A m d main_arg8)
        (A m d main_arg9) (A m d main_arg10) (A m d main_arg11)) (A m d main_arg12) (A m d main_arg13) (A m d main_arg14)
      (third (A m d main_arg0) (A m d main_arg1) (A m d main_arg2) (A m d main_arg3) (A m d main_arg4) (A m d main_arg5) (A m d main_arg6) (A m d main_arg7) (A m d main_arg8)
        (A m d main_arg9) (A m d main_arg10) (A m d main_arg11)) := by
  refine (hid_of (W₃ m) d rfl rfl ((Ends.late_3 m d).symm.trans (whole_2 (W₃ m) d).symm) ((Ends.late_4 m d).symm.trans (whole_3 (W₃ m) d).symm) ((Ends.late_5 m d).symm.trans (whole_4 (W₃ m) d).symm)
    ((Ends.late_6 m d).symm.trans (whole_5 (W₃ m) d).symm) ((Ends.late_7 m d).symm.trans (whole_6 (W₃ m) d).symm) ((Ends.late_8 m d).symm.trans (whole_7 (W₃ m) d).symm)
    ((Ends.late_9 m d).symm.trans (whole_8 (W₃ m) d).symm) ((Ends.late_10 m d).symm.trans (whole_9 (W₃ m) d).symm) ((Ends.late_11 m d).symm.trans (whole_10 (W₃ m) d).symm)
    ((Ends.late_12 m d).symm.trans (whole_11 (W₃ m) d).symm) ((Ends.late_13 m d).symm.trans (whole_12 (W₃ m) d).symm) ((Ends.late_14 m d).symm.trans (whole_13 (W₃ m) d).symm)).symm.trans ?_
  exact Cert.ReferenceIdeal.Stack.hidden_eq _ _ _ _ _ _ _ _ _ _ _ _ _ _ _ _ (seen_low m d ha) (seen_high m d hb)

/-- One entry of the last product with the bias. -/
theorem applied_apply (h : FVec Ideal S64x128 .f32) (w : FVec Ideal S128x4096 .f32) (b : FVec Ideal S1x4096 .f32) (r : Fin 64) (q : Fin 4096) :
    applied h w b (ix2 r q) = (∑ k : Fin 128, (h (ix2 r k) : EReal) * w (ix2 k q)) + b (ix2 (0 : Fin 1) q) := by
  refine congr_arg₂ (fun p s : EReal => p + s) (Ideal.matmul_plain_apply (M := 64) (K := 128) (N := 4096) none _ _ _ r q |>.trans ?_) ?_
  · show (Ideal.ofBits .f32 0x00000000#32 : EReal) + _ = _
    rw [Ideal.ofBits_zero_f32, zero_add]
  · exact broadcastTo_apply b _ (ix2 r q) (ix2 (0 : Fin 1) q) (fun a => by fin_cases a <;> rfl)

include ha hb in
/-- What the kernel leaves is the reference's answer. -/
theorem final_answer : Entry.final (W₃ m) d
    = answer (A m d main_arg0) (A m d main_arg1) (A m d main_arg2) (A m d main_arg3) (A m d main_arg4) (A m d main_arg5) (A m d main_arg6) (A m d main_arg7) (A m d main_arg8)
        (A m d main_arg9) (A m d main_arg10) (A m d main_arg11) (A m d main_arg12) (A m d main_arg13) (A m d main_arg14) (A m d main_arg15) (A m d main_arg16) := by
  funext i
  obtain ⟨r, j, rfl⟩ : ∃ (r : Fin 64) (j : Fin 100000), i = ix2 r j := ⟨i 0, i 1, funext fun a => by fin_cases a <;> rfl⟩
  unfold answer
  rw [Cert.ReferenceIdeal.Stack.head_apply, ← hid_eq m d ha hb]
  refine (applied_apply (hid (W₃ m) d) (columns (W₃ m d main_arg15) (stg14 (W₃ m) d) (j.val / 4096)) (bias8 (W₃ m) d ⟨j.val / 4096, Entry.point_of (ix2 r j)⟩) r (⟨j.val % 4096, Nat.mod_lt _ (by decide)⟩ : Fin 4096)).trans ?_
  refine congr_arg₂ (fun p s : EReal => p + s) (Finset.sum_congr rfl fun k _ => congrArg (fun s : EReal => hid (W₃ m) d (ix2 r k) * s) (column m d k j)) ?_
  refine (bias_at m d j _ rfl).trans (congrArg (A m d main_arg16) (funext fun a => ?_))
  match a with
  | ⟨0, _⟩ => rfl

end Cert.Kernel.Result

end
-- ==== Proof.lean ====
/-
  The proof of `Cert.Claim`: the kernel's runs on both float instances, the reference's run, and the equation between
  their logits.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_vocab
public import proofs.«01_k».proof.Proof.Close
public import proofs.«01_k».proof.Proof.Ends
public import proofs.«01_k».proof.Proof.Same
public import proofs.«01_k».proof.Proof.Equal
public import proofs.«01_k».proof.Proof.Range
public import Idealize.ShloMosaic.Adequacy
public import Idealize.ShloMosaic.Init

@[expose] public section

set_option maxRecDepth 8192

noncomputable section

namespace Cert.Proof

open Idealize.ShloMosaic Idealize.SL.Sem
open Idealize.ShloMosaic.StableHlo (devRef_mem_ucRefs)

/-- The arguments of device `c` as they began. -/
def Kept {F : FTy → Type} (m M : (ℓ : Loc Cert.Kernel.nD Cert.Kernel.τ Cert.Kernel.sig) → Buf (Elt F) ℓ) (c : Dev Cert.Kernel.nD) : Prop :=
  M ((c.tc : Thread Cert.Kernel.nD Cert.Kernel.τ).loc Cert.Kernel.main_arg0) = m ((c.tc : Thread Cert.Kernel.nD Cert.Kernel.τ).loc Cert.Kernel.main_arg0) ∧ M ((c.tc : Thread Cert.Kernel.nD Cert.Kernel.τ).loc Cert.Kernel.main_arg1) = m ((c.tc : Thread Cert.Kernel.nD Cert.Kernel.τ).loc Cert.Kernel.main_arg1) ∧ M ((c.tc : Thread Cert.Kernel.nD Cert.Kernel.τ).loc Cert.Kernel.main_arg2) = m ((c.tc : Thread Cert.Kernel.nD Cert.Kernel.τ).loc Cert.Kernel.main_arg2) ∧ M ((c.tc : Thread Cert.Kernel.nD Cert.Kernel.τ).loc Cert.Kernel.main_arg3) = m ((c.tc : Thread Cert.Kernel.nD Cert.Kernel.τ).loc Cert.Kernel.main_arg3) ∧ M ((c.tc : Thread Cert.Kernel.nD Cert.Kernel.τ).loc Cert.Kernel.main_arg4) = m ((c.tc : Thread Cert.Kernel.nD Cert.Kernel.τ).loc Cert.Kernel.main_arg4) ∧ M ((c.tc : Thread Cert.Kernel.nD Cert.Kernel.τ).loc Cert.Kernel.main_arg5) = m ((c.tc : Thread Cert.Kernel.nD Cert.Kernel.τ).loc Cert.Kernel.main_arg5) ∧ M ((c.tc : Thread Cert.Kernel.nD Cert.Kernel.τ).loc Cert.Kernel.main_arg6) = m ((c.tc : Thread Cert.Kernel.nD Cert.Kernel.τ).loc Cert.Kernel.main_arg6) ∧ M ((c.tc : Thread Cert.Kernel.nD Cert.Kernel.τ).loc Cert.Kernel.main_arg7) = m ((c.tc : Thread Cert.Kernel.nD Cert.Kernel.τ).loc Cert.Kernel.main_arg7) ∧ M ((c.tc : Thread Cert.Kernel.nD Cert.Kernel.τ).loc Cert.Kernel.main_arg8) = m ((c.tc : Thread Cert.Kernel.nD Cert.Kernel.τ).loc Cert.Kernel.main_arg8) ∧ M ((c.tc : Thread Cert.Kernel.nD Cert.Kernel.τ).loc Cert.Kernel.main_arg9) = m ((c.tc : Thread Cert.Kernel.nD Cert.Kernel.τ).loc Cert.Kernel.main_arg9) ∧ M ((c.tc : Thread Cert.Kernel.nD Cert.Kernel.τ).loc Cert.Kernel.main_arg10) = m ((c.tc : Thread Cert.Kernel.nD Cert.Kernel.τ).loc Cert.Kernel.main_arg10) ∧ M ((c.tc : Thread Cert.Kernel.nD Cert.Kernel.τ).loc Cert.Kernel.main_arg11) = m ((c.tc : Thread Cert.Kernel.nD Cert.Kernel.τ).loc Cert.Kernel.main_arg11) ∧ M ((c.tc : Thread Cert.Kernel.nD Cert.Kernel.τ).loc Cert.Kernel.main_arg12) = m ((c.tc : Thread Cert.Kernel.nD Cert.Kernel.τ).loc Cert.Kernel.main_arg12) ∧ M ((c.tc : Thread Cert.Kernel.nD Cert.Kernel.τ).loc Cert.Kernel.main_arg13) = m ((c.tc : Thread Cert.Kernel.nD Cert.Kernel.τ).loc Cert.Kernel.main_arg13) ∧ M ((c.tc : Thread Cert.Kernel.nD Cert.Kernel.τ).loc Cert.Kernel.main_arg14) = m ((c.tc : Thread Cert.Kernel.nD Cert.Kernel.τ).loc Cert.Kernel.main_arg14) ∧ M ((c.tc : Thread Cert.Kernel.nD Cert.Kernel.τ).loc Cert.Kernel.main_arg15) = m ((c.tc : Thread Cert.Kernel.nD Cert.Kernel.τ).loc Cert.Kernel.main_arg15) ∧ M ((c.tc : Thread Cert.Kernel.nD Cert.Kernel.τ).loc Cert.Kernel.main_arg16) = m ((c.tc : Thread Cert.Kernel.nD Cert.Kernel.τ).loc Cert.Kernel.main_arg16)

/-- A run that ends as the kernel's does keeps its arguments. -/
theorem kept {F : FTy → Type} [FloatOps F] {m : (ℓ : Loc Cert.Kernel.nD Cert.Kernel.τ Cert.Kernel.sig) → Buf (Elt F) ℓ} {r} (h : Cert.Kernel.Close.QC m r) (c : Dev Cert.Kernel.nD) : Kept m r.2.mem c :=
  ⟨(h.1 c _ (devRef_mem_ucRefs Cert.Kernel.main_arg0 (by decide))).trans (Cert.Kernel.Ends.end_0 m c), (h.1 c _ (devRef_mem_ucRefs Cert.Kernel.main_arg1 (by decide))).trans (Cert.Kernel.Ends.end_1 m c), (h.1 c _ (devRef_mem_ucRefs Cert.Kernel.main_arg2 (by decide))).trans (Cert.Kernel.Ends.end_2 m c), (h.1 c _ (devRef_mem_ucRefs Cert.Kernel.main_arg3 (by decide))).trans (Cert.Kernel.Ends.end_3 m c), (h.1 c _ (devRef_mem_ucRefs Cert.Kernel.main_arg4 (by decide))).trans (Cert.Kernel.Ends.end_4 m c), (h.1 c _ (devRef_mem_ucRefs Cert.Kernel.main_arg5 (by decide))).trans (Cert.Kernel.Ends.end_5 m c), (h.1 c _ (devRef_mem_ucRefs Cert.Kernel.main_arg6 (by decide))).trans (Cert.Kernel.Ends.end_6 m c), (h.1 c _ (devRef_mem_ucRefs Cert.Kernel.main_arg7 (by decide))).trans (Cert.Kernel.Ends.end_7 m c), (h.1 c _ (devRef_mem_ucRefs Cert.Kernel.main_arg8 (by decide))).trans (Cert.Kernel.Ends.end_8 m c), (h.1 c _ (devRef_mem_ucRefs Cert.Kernel.main_arg9 (by decide))).trans (Cert.Kernel.Ends.end_9 m c), (h.1 c _ (devRef_mem_ucRefs Cert.Kernel.main_arg10 (by decide))).trans (Cert.Kernel.Ends.end_10 m c), (h.1 c _ (devRef_mem_ucRefs Cert.Kernel.main_arg11 (by decide))).trans (Cert.Kernel.Ends.end_11 m c), (h.1 c _ (devRef_mem_ucRefs Cert.Kernel.main_arg12 (by decide))).trans (Cert.Kernel.Ends.end_12 m c), (h.1 c _ (devRef_mem_ucRefs Cert.Kernel.main_arg13 (by decide))).trans (Cert.Kernel.Ends.end_13 m c), (h.1 c _ (devRef_mem_ucRefs Cert.Kernel.main_arg14 (by decide))).trans (Cert.Kernel.Ends.end_14 m c), (h.1 c _ (devRef_mem_ucRefs Cert.Kernel.main_arg15 (by decide))).trans (Cert.Kernel.Ends.end_15 m c), (h.1 c _ (devRef_mem_ucRefs Cert.Kernel.main_arg16 (by decide))).trans (Cert.Kernel.Ends.end_16 m c)⟩

/-- The kernel's run on a memory whose tokens are in range. -/
theorem run_kernel (m : (ℓ : Loc Cert.Kernel.nD Cert.Kernel.τ Cert.Kernel.sig) → Buf (Elt Bits) ℓ) (ρ : Dev Cert.Kernel.nD → PrngReg) (hp : Cert.Pre_Kernel m) :
    θ_run (Cert.Kernel.defs (F := Bits)) (Cert.Kernel.threads (F := Bits)) ⟨m, fun _ => 0, ρ⟩ (Cert.Kernel.Close.QC m) :=
  Cert.Kernel.Close.run (F := Bits) m ρ (fun d => Cert.Kernel.Launch.tokens_inTable (Cert.Range.tokens_lt (hp d)).1 (Cert.Range.tokens_lt (hp d)).2)

theorem run_ideal (m : (ℓ : Loc Cert.KernelIdeal.nD Cert.KernelIdeal.τ Cert.KernelIdeal.sig) → Buf (Elt Ideal) ℓ) (ρ : Dev Cert.KernelIdeal.nD → PrngReg) (hp : Cert.Pre_KernelIdeal m) :
    θ_run (Cert.KernelIdeal.defs (F := Ideal)) (Cert.KernelIdeal.threads (F := Ideal)) ⟨m, fun _ => 0, ρ⟩ (Cert.Kernel.Close.QC m) :=
  Cert.Same.run (F := Ideal) m ρ (fun d => Cert.Kernel.Launch.tokens_inTable (Cert.Range.tokens_lt (hp d)).1 (Cert.Range.tokens_lt (hp d)).2)

/-- Arguments unchanged, counters zero. -/
theorem frame_kernel : Cert.quiescent_Kernel := fun m ρ hp =>
  (θ_run Cert.Kernel.defs _ _).mono (fun _ h => ⟨fun c => kept h c, h.2⟩) (run_kernel m ρ hp)

theorem frame_ideal : Cert.quiescent_KernelIdeal := fun m ρ hp =>
  (θ_run Cert.KernelIdeal.defs _ _).mono (fun _ h => ⟨fun c => kept h c, h.2⟩) (run_ideal m ρ hp)

/-- The reference's run. -/
theorem frame_reference : Cert.quiescent_ReferenceIdeal := fun m ρ _ =>
  (θ_run Cert.ReferenceIdeal.defs _ _).mono (fun r h => ⟨fun c => ⟨(h c Cert.ReferenceIdeal.main_arg0 (by decide)).trans (Cert.ReferenceIdeal.Answer.end_0 m c), (h c Cert.ReferenceIdeal.main_arg1 (by decide)).trans (Cert.ReferenceIdeal.Answer.end_1 m c), (h c Cert.ReferenceIdeal.main_arg2 (by decide)).trans (Cert.ReferenceIdeal.Answer.end_2 m c), (h c Cert.ReferenceIdeal.main_arg3 (by decide)).trans (Cert.ReferenceIdeal.Answer.end_3 m c), (h c Cert.ReferenceIdeal.main_arg4 (by decide)).trans (Cert.ReferenceIdeal.Answer.end_4 m c), (h c Cert.ReferenceIdeal.main_arg5 (by decide)).trans (Cert.ReferenceIdeal.Answer.end_5 m c), (h c Cert.ReferenceIdeal.main_arg6 (by decide)).trans (Cert.ReferenceIdeal.Answer.end_6 m c), (h c Cert.ReferenceIdeal.main_arg7 (by decide)).trans (Cert.ReferenceIdeal.Answer.end_7 m c), (h c Cert.ReferenceIdeal.main_arg8 (by decide)).trans (Cert.ReferenceIdeal.Answer.end_8 m c), (h c Cert.ReferenceIdeal.main_arg9 (by decide)).trans (Cert.ReferenceIdeal.Answer.end_9 m c), (h c Cert.ReferenceIdeal.main_arg10 (by decide)).trans (Cert.ReferenceIdeal.Answer.end_10 m c), (h c Cert.ReferenceIdeal.main_arg11 (by decide)).trans (Cert.ReferenceIdeal.Answer.end_11 m c), (h c Cert.ReferenceIdeal.main_arg12 (by decide)).trans (Cert.ReferenceIdeal.Answer.end_12 m c), (h c Cert.ReferenceIdeal.main_arg13 (by decide)).trans (Cert.ReferenceIdeal.Answer.end_13 m c), (h c Cert.ReferenceIdeal.main_arg14 (by decide)).trans (Cert.ReferenceIdeal.Answer.end_14 m c), (h c Cert.ReferenceIdeal.main_arg15 (by decide)).trans (Cert.ReferenceIdeal.Answer.end_15 m c), (h c Cert.ReferenceIdeal.main_arg16 (by decide)).trans (Cert.ReferenceIdeal.Answer.end_16 m c)⟩, Idealize.ShloMosaic.sem_eq_zero_of_no_sems (by decide) r.2⟩)
    (Cert.ReferenceIdeal.Chain.run (F := Ideal) m ρ)

/-- The kernel's logits are the reference's. -/
theorem same_logits : Cert.algebraic_KernelIdeal_ReferenceIdeal := by
  intro m ρ m' ρ' hp hm
  refine ⟨fun c => Cert.Kernel.Entry.final (Cert.Kernel.Main.W₃ m) c,
    (θ_run Cert.KernelIdeal.defs _ _).mono (fun _ h c => ⟨(h.1 c _ (devRef_mem_ucRefs Cert.Kernel.main_v9 (by decide))).trans (Cert.Kernel.Ends.result m c),
      kept h c⟩) (run_ideal m ρ hp),
    (θ_run Cert.ReferenceIdeal.defs _ _).mono (fun _ h c => ⟨(h c Cert.ReferenceIdeal.main_v48 (by decide)).trans ?_,
      (h c Cert.ReferenceIdeal.main_arg0 (by decide)).trans (Cert.ReferenceIdeal.Answer.end_0 m' c), (h c Cert.ReferenceIdeal.main_arg1 (by decide)).trans (Cert.ReferenceIdeal.Answer.end_1 m' c), (h c Cert.ReferenceIdeal.main_arg2 (by decide)).trans (Cert.ReferenceIdeal.Answer.end_2 m' c), (h c Cert.ReferenceIdeal.main_arg3 (by decide)).trans (Cert.ReferenceIdeal.Answer.end_3 m' c), (h c Cert.ReferenceIdeal.main_arg4 (by decide)).trans (Cert.ReferenceIdeal.Answer.end_4 m' c), (h c Cert.ReferenceIdeal.main_arg5 (by decide)).trans (Cert.ReferenceIdeal.Answer.end_5 m' c), (h c Cert.ReferenceIdeal.main_arg6 (by decide)).trans (Cert.ReferenceIdeal.Answer.end_6 m' c), (h c Cert.ReferenceIdeal.main_arg7 (by decide)).trans (Cert.ReferenceIdeal.Answer.end_7 m' c), (h c Cert.ReferenceIdeal.main_arg8 (by decide)).trans (Cert.ReferenceIdeal.Answer.end_8 m' c), (h c Cert.ReferenceIdeal.main_arg9 (by decide)).trans (Cert.ReferenceIdeal.Answer.end_9 m' c), (h c Cert.ReferenceIdeal.main_arg10 (by decide)).trans (Cert.ReferenceIdeal.Answer.end_10 m' c), (h c Cert.ReferenceIdeal.main_arg11 (by decide)).trans (Cert.ReferenceIdeal.Answer.end_11 m' c), (h c Cert.ReferenceIdeal.main_arg12 (by decide)).trans (Cert.ReferenceIdeal.Answer.end_12 m' c), (h c Cert.ReferenceIdeal.main_arg13 (by decide)).trans (Cert.ReferenceIdeal.Answer.end_13 m' c), (h c Cert.ReferenceIdeal.main_arg14 (by decide)).trans (Cert.ReferenceIdeal.Answer.end_14 m' c), (h c Cert.ReferenceIdeal.main_arg15 (by decide)).trans (Cert.ReferenceIdeal.Answer.end_15 m' c), (h c Cert.ReferenceIdeal.main_arg16 (by decide)).trans (Cert.ReferenceIdeal.Answer.end_16 m' c)⟩) (Cert.ReferenceIdeal.Chain.run (F := Ideal) m' ρ')⟩
  obtain ⟨h0, h1, h2, h3, h4, h5, h6, h7, h8, h9, h10, h11, h12, h13, h14, h15, h16⟩ := hm c
  refine (Cert.ReferenceIdeal.Answer.logits_answer m' c).trans ?_
  unfold Cert.ReferenceIdeal.Answer.A
  rw [h0, h1, h2, h3, h4, h5, h6, h7, h8, h9, h10, h11, h12, h13, h14, h15, h16]
  exact (Cert.Kernel.Result.final_answer m c (Cert.Range.tokens_lt (hp c)).1 (Cert.Range.tokens_lt (hp c)).2).symm

theorem claim : Cert.Claim := ⟨Cert.Kernel.Gen.facts, Cert.KernelIdeal.Gen.facts, Cert.ReferenceIdeal.Gen.facts, Cert.Pre_in_vocab.Gen.facts,
  frame_kernel, frame_ideal, frame_reference, fun m ρ _ => frame_reference m ρ trivial, trivial, same_logits⟩

end Cert.Proof

end
